-- ==== Defs.lean ====
def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd_loss [hPre_finite_ffn_fwd_loss : Cert.Pre_finite_ffn_fwd_loss.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.2.2.2.2.1 = (fun _ => 1#1)
    ∧ (Cert.Pre_finite_ffn_fwd_loss.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7)) (m ((c.tc : Thread Cert.FfnFwdIdeal.nD Cert.FfnFwdIdeal.τ).loc Cert.FfnFwdIdeal.main_arg8)) (m ((c.tc : Thread Cert.FfnFwdIdeal.nD Cert.FfnFwdIdeal.τ).loc Cert.FfnFwdIdeal.main_arg9))).2.2.2.2.2.2.2.2.2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd_loss [hPre_finite_ffn_fwd_loss : Cert.Pre_finite_ffn_fwd_loss.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.2.2.2.2.1 = (fun _ => 1#1)
    ∧ (Cert.Pre_finite_ffn_fwd_loss.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7)) (m ((c.tc : Thread Cert.FfnFwdRefIdeal.nD Cert.FfnFwdRefIdeal.τ).loc Cert.FfnFwdRefIdeal.main_arg8)) (m ((c.tc : Thread Cert.FfnFwdRefIdeal.nD Cert.FfnFwdRefIdeal.τ).loc Cert.FfnFwdRefIdeal.main_arg9))).2.2.2.2.2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn_bwd_ln1 [hPre_finite_ffn_bwd_ln1 : Cert.Pre_finite_ffn_bwd_ln1.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.1 = (fun _ => 1#1)
    ∧ (Cert.Pre_finite_ffn_bwd_ln1.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))).2.2.2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn_bwd_ln1 [hPre_finite_ffn_bwd_ln1 : Cert.Pre_finite_ffn_bwd_ln1.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.2.1 = (fun _ => 1#1)
    ∧ (Cert.Pre_finite_ffn_bwd_ln1.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))).2.2.2.2.2.2.2 = (fun _ => 1#1)

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdIdeal_finite_mixer_bwd [hPre_finite_mixer_bwd : Cert.Pre_finite_mixer_bwd.Facts] (m : (ℓ : Loc Cert.MixerBwdIdeal.nD Cert.MixerBwdIdeal.τ Cert.MixerBwdIdeal.sig) → Buf (Elt Ideal) ℓ) : Prop :=
  ∀ c : Dev Cert.MixerBwdIdeal.nD,
    (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.2.2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.2.2.2.2.1 = (fun _ => 1#1)
    ∧ (Cert.Pre_finite_mixer_bwd.fn (F := Ideal) (m ((c.tc : Thread Cert.MixerBwdIdeal.nD Cert.MixerBwdIdeal.τ).loc Cert.MixerBwdIdeal.main_arg0)) (m ((c.tc : Thread Cert.MixerBwdIdeal.nD Cert.MixerBwdIdeal.τ).loc Cert.MixerBwdIdeal.main_arg1)) (m ((c.tc : Thread Cert.MixerBwdIdeal.nD Cert.MixerBwdIdeal.τ).loc Cert.MixerBwdIdeal.main_arg2)) (m ((c.tc : Thread Cert.MixerBwdIdeal.nD Cert.MixerBwdIdeal.τ).loc Cert.MixerBwdIdeal.main_arg3)) (m ((c.tc : Thread Cert.MixerBwdIdeal.nD Cert.MixerBwdIdeal.τ).loc Cert.MixerBwdIdeal.main_arg4)) (m ((c.tc : Thread Cert.MixerBwdIdeal.nD Cert.MixerBwdIdeal.τ).loc Cert.MixerBwdIdeal.main_arg5)) (m ((c.tc : Thread Cert.MixerBwdIdeal.nD Cert.MixerBwdIdeal.τ).loc Cert.MixerBwdIdeal.main_arg6)) (m ((c.tc : Thread Cert.MixerBwdIdeal.nD Cert.MixerBwdIdeal.τ).loc Cert.MixerBwdIdeal.main_arg7)) (m ((c.tc : Thread Cert.MixerBwdIdeal.nD Cert.MixerBwdIdeal.τ).loc Cert.MixerBwdIdeal.main_arg8)) (m ((c.tc : Thread Cert.MixerBwdIdeal.nD Cert.MixerBwdIdeal.τ).loc Cert.MixerBwdIdeal.main_arg9)) (m ((c.tc : Thread Cert.MixerBwdIdeal.nD Cert.MixerBwdIdeal.τ).loc Cert.MixerBwdIdeal.main_arg10)) (m ((c.tc : Thread Cert.MixerBwdIdeal.nD Cert.MixerBwdIdeal.τ).loc Cert.MixerBwdIdeal.main_arg11)) (m ((c.tc : Thread Cert.MixerBwdIdeal.nD Cert.MixerBwdIdeal.τ).loc Cert.MixerBwdIdeal.main_arg12))).2.2.2.2.2.2.2.2 = (fun _ => 1#1)

def Pre_MixerBwdRefIdeal (m : (ℓ : Loc Cert.MixerBwdRefIdeal.nD Cert.MixerBwdRefIdeal.τ Cert.MixerBwdRefIdeal.sig) → Buf (Elt Ideal) ℓ) : Prop :=
  True

def Pre_MixerBwdRefIdeal_finite_mixer_bwd [hPre_finite_mixer_bwd : Cert.Pre_finite_mixer_bwd.Facts] (m : (ℓ : Loc Cert.MixerBwdRefIdeal.nD Cert.MixerBwdRefIdeal.τ Cert.MixerBwdRefIdeal.sig) → Buf (Elt Ideal) ℓ) : Prop :=
  ∀ c : Dev Cert.MixerBwdRefIdeal.nD,
    (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.2.2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.2.2.2.2.1 = (fun _ => 1#1)
    ∧ (Cert.Pre_finite_mixer_bwd.fn (F := Ideal) (m ((c.tc : Thread Cert.MixerBwdRefIdeal.nD Cert.MixerBwdRefIdeal.τ).loc Cert.MixerBwdRefIdeal.main_arg0)) (m ((c.tc : Thread Cert.MixerBwdRefIdeal.nD Cert.MixerBwdRefIdeal.τ).loc Cert.MixerBwdRefIdeal.main_arg1)) (m ((c.tc : Thread Cert.MixerBwdRefIdeal.nD Cert.MixerBwdRefIdeal.τ).loc Cert.MixerBwdRefIdeal.main_arg2)) (m ((c.tc : Thread Cert.MixerBwdRefIdeal.nD Cert.MixerBwdRefIdeal.τ).loc Cert.MixerBwdRefIdeal.main_arg3)) (m ((c.tc : Thread Cert.MixerBwdRefIdeal.nD Cert.MixerBwdRefIdeal.τ).loc Cert.MixerBwdRefIdeal.main_arg4)) (m ((c.tc : Thread Cert.MixerBwdRefIdeal.nD Cert.MixerBwdRefIdeal.τ).loc Cert.MixerBwdRefIdeal.main_arg5)) (m ((c.tc : Thread Cert.MixerBwdRefIdeal.nD Cert.MixerBwdRefIdeal.τ).loc Cert.MixerBwdRefIdeal.main_arg6)) (m ((c.tc : Thread Cert.MixerBwdRefIdeal.nD Cert.MixerBwdRefIdeal.τ).loc Cert.MixerBwdRefIdeal.main_arg7)) (m ((c.tc : Thread Cert.MixerBwdRefIdeal.nD Cert.MixerBwdRefIdeal.τ).loc Cert.MixerBwdRefIdeal.main_arg8)) (m ((c.tc : Thread Cert.MixerBwdRefIdeal.nD Cert.MixerBwdRefIdeal.τ).loc Cert.MixerBwdRefIdeal.main_arg9)) (m ((c.tc : Thread Cert.MixerBwdRefIdeal.nD Cert.MixerBwdRefIdeal.τ).loc Cert.MixerBwdRefIdeal.main_arg10)) (m ((c.tc : Thread Cert.MixerBwdRefIdeal.nD Cert.MixerBwdRefIdeal.τ).loc Cert.MixerBwdRefIdeal.main_arg11)) (m ((c.tc : Thread Cert.MixerBwdRefIdeal.nD Cert.MixerBwdRefIdeal.τ).loc Cert.MixerBwdRefIdeal.main_arg12))).2.2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInRefIdeal (m : (ℓ : Loc Cert.AdamwWInRefIdeal.nD Cert.AdamwWInRefIdeal.τ Cert.AdamwWInRefIdeal.sig) → Buf (Elt Ideal) ℓ) : Prop :=
  True

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7)
      ∧ r.2.mem ((c.tc : Thread Cert.FfnFwd.nD Cert.FfnFwd.τ).loc Cert.FfnFwd.main_arg8) = m ((c.tc : Thread Cert.FfnFwd.nD Cert.FfnFwd.τ).loc Cert.FfnFwd.main_arg8)
      ∧ r.2.mem ((c.tc : Thread Cert.FfnFwd.nD Cert.FfnFwd.τ).loc Cert.FfnFwd.main_arg9) = m ((c.tc : Thread Cert.FfnFwd.nD Cert.FfnFwd.τ).loc Cert.FfnFwd.main_arg9))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9))
      ∧ r.2.sem = fun _ => 0)

def quiescent_FfnFwdIdeal_pre_finite_ffn_fwd_loss [hFfnFwdIdeal : Cert.FfnFwdIdeal.Facts] [hPre_finite_ffn_fwd_loss : Cert.Pre_finite_ffn_fwd_loss.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd_loss m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
      ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
      ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9))
      ∧ r.2.sem = fun _ => 0)

def quiescent_FfnFwdRefIdeal_pre_finite_ffn_fwd_loss [hFfnFwdRefIdeal : Cert.FfnFwdRefIdeal.Facts] [hPre_finite_ffn_fwd_loss : Cert.Pre_finite_ffn_fwd_loss.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd_loss m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7)
      ∧ r.2.mem ((c.tc : Thread Cert.FfnFwdRefIdeal.nD Cert.FfnFwdRefIdeal.τ).loc Cert.FfnFwdRefIdeal.main_arg8) = m ((c.tc : Thread Cert.FfnFwdRefIdeal.nD Cert.FfnFwdRefIdeal.τ).loc Cert.FfnFwdRefIdeal.main_arg8)
      ∧ r.2.mem ((c.tc : Thread Cert.FfnFwdRefIdeal.nD Cert.FfnFwdRefIdeal.τ).loc Cert.FfnFwdRefIdeal.main_arg9) = m ((c.tc : Thread Cert.FfnFwdRefIdeal.nD Cert.FfnFwdRefIdeal.τ).loc Cert.FfnFwdRefIdeal.main_arg9))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_finite_ffn_bwd_ln1 [hFfnBwdIdeal : Cert.FfnBwdIdeal.Facts] [hPre_finite_ffn_bwd_ln1 : Cert.Pre_finite_ffn_bwd_ln1.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn_bwd_ln1 m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnBwdRefIdeal_pre_finite_ffn_bwd_ln1 [hFfnBwdRefIdeal : Cert.FfnBwdRefIdeal.Facts] [hPre_finite_ffn_bwd_ln1 : Cert.Pre_finite_ffn_bwd_ln1.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn_bwd_ln1 m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9)
      ∧ r.2.mem ((c.tc : Thread Cert.MixerBwd.nD Cert.MixerBwd.τ).loc Cert.MixerBwd.main_arg10) = m ((c.tc : Thread Cert.MixerBwd.nD Cert.MixerBwd.τ).loc Cert.MixerBwd.main_arg10)
      ∧ r.2.mem ((c.tc : Thread Cert.MixerBwd.nD Cert.MixerBwd.τ).loc Cert.MixerBwd.main_arg11) = m ((c.tc : Thread Cert.MixerBwd.nD Cert.MixerBwd.τ).loc Cert.MixerBwd.main_arg11)
      ∧ r.2.mem ((c.tc : Thread Cert.MixerBwd.nD Cert.MixerBwd.τ).loc Cert.MixerBwd.main_arg12) = m ((c.tc : Thread Cert.MixerBwd.nD Cert.MixerBwd.τ).loc Cert.MixerBwd.main_arg12))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
      ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
      ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
      ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12))
      ∧ r.2.sem = fun _ => 0)

def quiescent_MixerBwdIdeal_pre_finite_mixer_bwd [hMixerBwdIdeal : Cert.MixerBwdIdeal.Facts] [hPre_finite_mixer_bwd : Cert.Pre_finite_mixer_bwd.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal_finite_mixer_bwd m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
      ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
      ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
      ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12))
      ∧ r.2.sem = fun _ => 0)

def quiescent_MixerBwdRefIdeal [hMixerBwdRefIdeal : Cert.MixerBwdRefIdeal.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)
      ∧ r.2.mem ((c.tc : Thread Cert.MixerBwdRefIdeal.nD Cert.MixerBwdRefIdeal.τ).loc Cert.MixerBwdRefIdeal.main_arg5) = m ((c.tc : Thread Cert.MixerBwdRefIdeal.nD Cert.MixerBwdRefIdeal.τ).loc Cert.MixerBwdRefIdeal.main_arg5)
      ∧ r.2.mem ((c.tc : Thread Cert.MixerBwdRefIdeal.nD Cert.MixerBwdRefIdeal.τ).loc Cert.MixerBwdRefIdeal.main_arg6) = m ((c.tc : Thread Cert.MixerBwdRefIdeal.nD Cert.MixerBwdRefIdeal.τ).loc Cert.MixerBwdRefIdeal.main_arg6)
      ∧ r.2.mem ((c.tc : Thread Cert.MixerBwdRefIdeal.nD Cert.MixerBwdRefIdeal.τ).loc Cert.MixerBwdRefIdeal.main_arg7) = m ((c.tc : Thread Cert.MixerBwdRefIdeal.nD Cert.MixerBwdRefIdeal.τ).loc Cert.MixerBwdRefIdeal.main_arg7)
      ∧ r.2.mem ((c.tc : Thread Cert.MixerBwdRefIdeal.nD Cert.MixerBwdRefIdeal.τ).loc Cert.MixerBwdRefIdeal.main_arg8) = m ((c.tc : Thread Cert.MixerBwdRefIdeal.nD Cert.MixerBwdRefIdeal.τ).loc Cert.MixerBwdRefIdeal.main_arg8)
      ∧ r.2.mem ((c.tc : Thread Cert.MixerBwdRefIdeal.nD Cert.MixerBwdRefIdeal.τ).loc Cert.MixerBwdRefIdeal.main_arg9) = m ((c.tc : Thread Cert.MixerBwdRefIdeal.nD Cert.MixerBwdRefIdeal.τ).loc Cert.MixerBwdRefIdeal.main_arg9)
      ∧ r.2.mem ((c.tc : Thread Cert.MixerBwdRefIdeal.nD Cert.MixerBwdRefIdeal.τ).loc Cert.MixerBwdRefIdeal.main_arg10) = m ((c.tc : Thread Cert.MixerBwdRefIdeal.nD Cert.MixerBwdRefIdeal.τ).loc Cert.MixerBwdRefIdeal.main_arg10)
      ∧ r.2.mem ((c.tc : Thread Cert.MixerBwdRefIdeal.nD Cert.MixerBwdRefIdeal.τ).loc Cert.MixerBwdRefIdeal.main_arg11) = m ((c.tc : Thread Cert.MixerBwdRefIdeal.nD Cert.MixerBwdRefIdeal.τ).loc Cert.MixerBwdRefIdeal.main_arg11)
      ∧ r.2.mem ((c.tc : Thread Cert.MixerBwdRefIdeal.nD Cert.MixerBwdRefIdeal.τ).loc Cert.MixerBwdRefIdeal.main_arg12) = m ((c.tc : Thread Cert.MixerBwdRefIdeal.nD Cert.MixerBwdRefIdeal.τ).loc Cert.MixerBwdRefIdeal.main_arg12))
      ∧ r.2.sem = fun _ => 0)

def quiescent_MixerBwdRefIdeal_pre_finite_mixer_bwd [hMixerBwdRefIdeal : Cert.MixerBwdRefIdeal.Facts] [hPre_finite_mixer_bwd : Cert.Pre_finite_mixer_bwd.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal_finite_mixer_bwd m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)
      ∧ r.2.mem ((c.tc : Thread Cert.MixerBwdRefIdeal.nD Cert.MixerBwdRefIdeal.τ).loc Cert.MixerBwdRefIdeal.main_arg5) = m ((c.tc : Thread Cert.MixerBwdRefIdeal.nD Cert.MixerBwdRefIdeal.τ).loc Cert.MixerBwdRefIdeal.main_arg5)
      ∧ r.2.mem ((c.tc : Thread Cert.MixerBwdRefIdeal.nD Cert.MixerBwdRefIdeal.τ).loc Cert.MixerBwdRefIdeal.main_arg6) = m ((c.tc : Thread Cert.MixerBwdRefIdeal.nD Cert.MixerBwdRefIdeal.τ).loc Cert.MixerBwdRefIdeal.main_arg6)
      ∧ r.2.mem ((c.tc : Thread Cert.MixerBwdRefIdeal.nD Cert.MixerBwdRefIdeal.τ).loc Cert.MixerBwdRefIdeal.main_arg7) = m ((c.tc : Thread Cert.MixerBwdRefIdeal.nD Cert.MixerBwdRefIdeal.τ).loc Cert.MixerBwdRefIdeal.main_arg7)
      ∧ r.2.mem ((c.tc : Thread Cert.MixerBwdRefIdeal.nD Cert.MixerBwdRefIdeal.τ).loc Cert.MixerBwdRefIdeal.main_arg8) = m ((c.tc : Thread Cert.MixerBwdRefIdeal.nD Cert.MixerBwdRefIdeal.τ).loc Cert.MixerBwdRefIdeal.main_arg8)
      ∧ r.2.mem ((c.tc : Thread Cert.MixerBwdRefIdeal.nD Cert.MixerBwdRefIdeal.τ).loc Cert.MixerBwdRefIdeal.main_arg9) = m ((c.tc : Thread Cert.MixerBwdRefIdeal.nD Cert.MixerBwdRefIdeal.τ).loc Cert.MixerBwdRefIdeal.main_arg9)
      ∧ r.2.mem ((c.tc : Thread Cert.MixerBwdRefIdeal.nD Cert.MixerBwdRefIdeal.τ).loc Cert.MixerBwdRefIdeal.main_arg10) = m ((c.tc : Thread Cert.MixerBwdRefIdeal.nD Cert.MixerBwdRefIdeal.τ).loc Cert.MixerBwdRefIdeal.main_arg10)
      ∧ r.2.mem ((c.tc : Thread Cert.MixerBwdRefIdeal.nD Cert.MixerBwdRefIdeal.τ).loc Cert.MixerBwdRefIdeal.main_arg11) = m ((c.tc : Thread Cert.MixerBwdRefIdeal.nD Cert.MixerBwdRefIdeal.τ).loc Cert.MixerBwdRefIdeal.main_arg11)
      ∧ r.2.mem ((c.tc : Thread Cert.MixerBwdRefIdeal.nD Cert.MixerBwdRefIdeal.τ).loc Cert.MixerBwdRefIdeal.main_arg12) = m ((c.tc : Thread Cert.MixerBwdRefIdeal.nD Cert.MixerBwdRefIdeal.τ).loc Cert.MixerBwdRefIdeal.main_arg12))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6)
      ∧ r.2.mem ((c.tc : Thread Cert.MixerFwd.nD Cert.MixerFwd.τ).loc Cert.MixerFwd.main_arg7) = m ((c.tc : Thread Cert.MixerFwd.nD Cert.MixerFwd.τ).loc Cert.MixerFwd.main_arg7))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
      ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6)
      ∧ r.2.mem ((c.tc : Thread Cert.MixerFwdRefIdeal.nD Cert.MixerFwdRefIdeal.τ).loc Cert.MixerFwdRefIdeal.main_arg7) = m ((c.tc : Thread Cert.MixerFwdRefIdeal.nD Cert.MixerFwdRefIdeal.τ).loc Cert.MixerFwdRefIdeal.main_arg7))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1)
      ∧ r.2.mem ((c.tc : Thread Cert.GradWOut.nD Cert.GradWOut.τ).loc Cert.GradWOut.main_arg2) = m ((c.tc : Thread Cert.GradWOut.nD Cert.GradWOut.τ).loc Cert.GradWOut.main_arg2))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
      ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1)
      ∧ r.2.mem ((c.tc : Thread Cert.GradWOutRefIdeal.nD Cert.GradWOutRefIdeal.τ).loc Cert.GradWOutRefIdeal.main_arg2) = m ((c.tc : Thread Cert.GradWOutRefIdeal.nD Cert.GradWOutRefIdeal.τ).loc Cert.GradWOutRefIdeal.main_arg2))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInRefIdeal [hAdamwWInRefIdeal : Cert.AdamwWInRefIdeal.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3))
      ∧ r.2.sem = fun _ => 0)

def preserves_FfnFwd_FfnFwdIdeal : Prop :=
  True

def algebraic_FfnFwdIdeal_FfnFwdRefIdeal_pre_finite_ffn_fwd_loss [hFfnFwdIdeal : Cert.FfnFwdIdeal.Facts] [hFfnFwdRefIdeal : Cert.FfnFwdRefIdeal.Facts] [hPre_finite_ffn_fwd_loss : Cert.Pre_finite_ffn_fwd_loss.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd_loss m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)
      ∧ m' ((c.tc : Thread Cert.FfnFwdRefIdeal.nD Cert.FfnFwdRefIdeal.τ).loc Cert.FfnFwdRefIdeal.main_arg8) = m ((c.tc : Thread Cert.FfnFwdIdeal.nD Cert.FfnFwdIdeal.τ).loc Cert.FfnFwdIdeal.main_arg8)
      ∧ m' ((c.tc : Thread Cert.FfnFwdRefIdeal.nD Cert.FfnFwdRefIdeal.τ).loc Cert.FfnFwdRefIdeal.main_arg9) = m ((c.tc : Thread Cert.FfnFwdIdeal.nD Cert.FfnFwdIdeal.τ).loc Cert.FfnFwdIdeal.main_arg9)) →
    ∃ (v0 : (c : Dev Cert.FfnFwdIdeal.nD) → Buf (Elt Ideal) ((c.tc : Thread Cert.FfnFwdIdeal.nD Cert.FfnFwdIdeal.τ).loc Cert.FfnFwdIdeal.main_v12_0)) (v1 : (c : Dev Cert.FfnFwdIdeal.nD) → Buf (Elt Ideal) ((c.tc : Thread Cert.FfnFwdIdeal.nD Cert.FfnFwdIdeal.τ).loc Cert.FfnFwdIdeal.main_v12_1)) (v2 : (c : Dev Cert.FfnFwdIdeal.nD) → Buf (Elt Ideal) ((c.tc : Thread Cert.FfnFwdIdeal.nD Cert.FfnFwdIdeal.τ).loc Cert.FfnFwdIdeal.main_v12_2)) (v3 : (c : Dev Cert.FfnFwdIdeal.nD) → Buf (Elt Ideal) ((c.tc : Thread Cert.FfnFwdIdeal.nD Cert.FfnFwdIdeal.τ).loc Cert.FfnFwdIdeal.main_v12_3)) (v4 : (c : Dev Cert.FfnFwdIdeal.nD) → Buf (Elt Ideal) ((c.tc : Thread Cert.FfnFwdIdeal.nD Cert.FfnFwdIdeal.τ).loc Cert.FfnFwdIdeal.main_v12_4)) (v5 : (c : Dev Cert.FfnFwdIdeal.nD) → Buf (Elt Ideal) ((c.tc : Thread Cert.FfnFwdIdeal.nD Cert.FfnFwdIdeal.τ).loc Cert.FfnFwdIdeal.main_v12_5)) (v6 : (c : Dev Cert.FfnFwdIdeal.nD) → Buf (Elt Ideal) ((c.tc : Thread Cert.FfnFwdIdeal.nD Cert.FfnFwdIdeal.τ).loc Cert.FfnFwdIdeal.main_v12_6)) (v7 : (c : Dev Cert.FfnFwdIdeal.nD) → Buf (Elt Ideal) ((c.tc : Thread Cert.FfnFwdIdeal.nD Cert.FfnFwdIdeal.τ).loc Cert.FfnFwdIdeal.main_v12_7)) (v8 : (c : Dev Cert.FfnFwdIdeal.nD) → Buf (Elt Ideal) ((c.tc : Thread Cert.FfnFwdIdeal.nD Cert.FfnFwdIdeal.τ).loc Cert.FfnFwdIdeal.main_v12_8)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v12_0) = v0 c
          ∧ r.2.mem ((c.tc : Thread Cert.FfnFwdIdeal.nD Cert.FfnFwdIdeal.τ).loc Cert.FfnFwdIdeal.main_v12_1) = v1 c
          ∧ r.2.mem ((c.tc : Thread Cert.FfnFwdIdeal.nD Cert.FfnFwdIdeal.τ).loc Cert.FfnFwdIdeal.main_v12_2) = v2 c
          ∧ r.2.mem ((c.tc : Thread Cert.FfnFwdIdeal.nD Cert.FfnFwdIdeal.τ).loc Cert.FfnFwdIdeal.main_v12_3) = v3 c
          ∧ r.2.mem ((c.tc : Thread Cert.FfnFwdIdeal.nD Cert.FfnFwdIdeal.τ).loc Cert.FfnFwdIdeal.main_v12_4) = v4 c
          ∧ r.2.mem ((c.tc : Thread Cert.FfnFwdIdeal.nD Cert.FfnFwdIdeal.τ).loc Cert.FfnFwdIdeal.main_v12_5) = v5 c
          ∧ r.2.mem ((c.tc : Thread Cert.FfnFwdIdeal.nD Cert.FfnFwdIdeal.τ).loc Cert.FfnFwdIdeal.main_v12_6) = v6 c
          ∧ r.2.mem ((c.tc : Thread Cert.FfnFwdIdeal.nD Cert.FfnFwdIdeal.τ).loc Cert.FfnFwdIdeal.main_v12_7) = v7 c
          ∧ r.2.mem ((c.tc : Thread Cert.FfnFwdIdeal.nD Cert.FfnFwdIdeal.τ).loc Cert.FfnFwdIdeal.main_v12_8) = v8 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7)
          ∧ r.2.mem ((c.tc : Thread Cert.FfnFwdIdeal.nD Cert.FfnFwdIdeal.τ).loc Cert.FfnFwdIdeal.main_arg8) = m ((c.tc : Thread Cert.FfnFwdIdeal.nD Cert.FfnFwdIdeal.τ).loc Cert.FfnFwdIdeal.main_arg8)
          ∧ r.2.mem ((c.tc : Thread Cert.FfnFwdIdeal.nD Cert.FfnFwdIdeal.τ).loc Cert.FfnFwdIdeal.main_arg9) = m ((c.tc : Thread Cert.FfnFwdIdeal.nD Cert.FfnFwdIdeal.τ).loc Cert.FfnFwdIdeal.main_arg9))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v19) = v1 c
          ∧ r.2.mem ((c.tc : Thread Cert.FfnFwdRefIdeal.nD Cert.FfnFwdRefIdeal.τ).loc Cert.FfnFwdRefIdeal.main_v114) = v2 c
          ∧ r.2.mem ((c.tc : Thread Cert.FfnFwdRefIdeal.nD Cert.FfnFwdRefIdeal.τ).loc Cert.FfnFwdRefIdeal.main_v115) = v3 c
          ∧ r.2.mem ((c.tc : Thread Cert.FfnFwdRefIdeal.nD Cert.FfnFwdRefIdeal.τ).loc Cert.FfnFwdRefIdeal.main_v111) = v4 c
          ∧ r.2.mem ((c.tc : Thread Cert.FfnFwdRefIdeal.nD Cert.FfnFwdRefIdeal.τ).loc Cert.FfnFwdRefIdeal.main_v116) = v5 c
          ∧ r.2.mem ((c.tc : Thread Cert.FfnFwdRefIdeal.nD Cert.FfnFwdRefIdeal.τ).loc Cert.FfnFwdRefIdeal.main_v85) = v6 c
          ∧ r.2.mem ((c.tc : Thread Cert.FfnFwdRefIdeal.nD Cert.FfnFwdRefIdeal.τ).loc Cert.FfnFwdRefIdeal.main_v82) = v7 c
          ∧ r.2.mem ((c.tc : Thread Cert.FfnFwdRefIdeal.nD Cert.FfnFwdRefIdeal.τ).loc Cert.FfnFwdRefIdeal.main_v113) = v8 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7)
          ∧ r.2.mem ((c.tc : Thread Cert.FfnFwdRefIdeal.nD Cert.FfnFwdRefIdeal.τ).loc Cert.FfnFwdRefIdeal.main_arg8) = m' ((c.tc : Thread Cert.FfnFwdRefIdeal.nD Cert.FfnFwdRefIdeal.τ).loc Cert.FfnFwdRefIdeal.main_arg8)
          ∧ r.2.mem ((c.tc : Thread Cert.FfnFwdRefIdeal.nD Cert.FfnFwdRefIdeal.τ).loc Cert.FfnFwdRefIdeal.main_arg9) = m' ((c.tc : Thread Cert.FfnFwdRefIdeal.nD Cert.FfnFwdRefIdeal.τ).loc Cert.FfnFwdRefIdeal.main_arg9))

def preserves_FfnBwd_FfnBwdIdeal : Prop :=
  True

def algebraic_FfnBwdIdeal_FfnBwdRefIdeal_pre_finite_ffn_bwd_ln1 [hFfnBwdIdeal : Cert.FfnBwdIdeal.Facts] [hFfnBwdRefIdeal : Cert.FfnBwdRefIdeal.Facts] [hPre_finite_ffn_bwd_ln1 : Cert.Pre_finite_ffn_bwd_ln1.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn_bwd_ln1 m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v42_0)) (v1 : (c : Dev Cert.FfnBwdIdeal.nD) → Buf (Elt Ideal) ((c.tc : Thread Cert.FfnBwdIdeal.nD Cert.FfnBwdIdeal.τ).loc Cert.FfnBwdIdeal.main_v42_1)) (v2 : (c : Dev Cert.FfnBwdIdeal.nD) → Buf (Elt Ideal) ((c.tc : Thread Cert.FfnBwdIdeal.nD Cert.FfnBwdIdeal.τ).loc Cert.FfnBwdIdeal.main_v42_2)) (v3 : (c : Dev Cert.FfnBwdIdeal.nD) → Buf (Elt Ideal) ((c.tc : Thread Cert.FfnBwdIdeal.nD Cert.FfnBwdIdeal.τ).loc Cert.FfnBwdIdeal.main_v42_3)) (v4 : (c : Dev Cert.FfnBwdIdeal.nD) → Buf (Elt Ideal) ((c.tc : Thread Cert.FfnBwdIdeal.nD Cert.FfnBwdIdeal.τ).loc Cert.FfnBwdIdeal.main_v42_4)) (v5 : (c : Dev Cert.FfnBwdIdeal.nD) → Buf (Elt Ideal) ((c.tc : Thread Cert.FfnBwdIdeal.nD Cert.FfnBwdIdeal.τ).loc Cert.FfnBwdIdeal.main_v42_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v42_0) = v0 c
          ∧ r.2.mem ((c.tc : Thread Cert.FfnBwdIdeal.nD Cert.FfnBwdIdeal.τ).loc Cert.FfnBwdIdeal.main_v42_1) = v1 c
          ∧ r.2.mem ((c.tc : Thread Cert.FfnBwdIdeal.nD Cert.FfnBwdIdeal.τ).loc Cert.FfnBwdIdeal.main_v42_2) = v2 c
          ∧ r.2.mem ((c.tc : Thread Cert.FfnBwdIdeal.nD Cert.FfnBwdIdeal.τ).loc Cert.FfnBwdIdeal.main_v42_3) = v3 c
          ∧ r.2.mem ((c.tc : Thread Cert.FfnBwdIdeal.nD Cert.FfnBwdIdeal.τ).loc Cert.FfnBwdIdeal.main_v42_4) = v4 c
          ∧ r.2.mem ((c.tc : Thread Cert.FfnBwdIdeal.nD Cert.FfnBwdIdeal.τ).loc Cert.FfnBwdIdeal.main_v42_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v93) = v0 c
          ∧ r.2.mem ((c.tc : Thread Cert.FfnBwdRefIdeal.nD Cert.FfnBwdRefIdeal.τ).loc Cert.FfnBwdRefIdeal.main_v89) = v1 c
          ∧ r.2.mem ((c.tc : Thread Cert.FfnBwdRefIdeal.nD Cert.FfnBwdRefIdeal.τ).loc Cert.FfnBwdRefIdeal.main_v94) = v2 c
          ∧ r.2.mem ((c.tc : Thread Cert.FfnBwdRefIdeal.nD Cert.FfnBwdRefIdeal.τ).loc Cert.FfnBwdRefIdeal.main_v95) = v3 c
          ∧ r.2.mem ((c.tc : Thread Cert.FfnBwdRefIdeal.nD Cert.FfnBwdRefIdeal.τ).loc Cert.FfnBwdRefIdeal.main_v63) = v4 c
          ∧ r.2.mem ((c.tc : Thread Cert.FfnBwdRefIdeal.nD Cert.FfnBwdRefIdeal.τ).loc Cert.FfnBwdRefIdeal.main_v60) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7))

def preserves_MixerBwd_MixerBwdIdeal : Prop :=
  True

def algebraic_MixerBwdIdeal_MixerBwdRefIdeal_pre_finite_mixer_bwd [hMixerBwdIdeal : Cert.MixerBwdIdeal.Facts] [hMixerBwdRefIdeal : Cert.MixerBwdRefIdeal.Facts] [hPre_finite_mixer_bwd : Cert.Pre_finite_mixer_bwd.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg)
    (m' : (ℓ : Loc Cert.MixerBwdRefIdeal.nD Cert.MixerBwdRefIdeal.τ Cert.MixerBwdRefIdeal.sig) → Buf (Elt Ideal) ℓ) (g' : Dev Cert.MixerBwdRefIdeal.nD → PrngReg), Pre_MixerBwdIdeal_finite_mixer_bwd m →
    (∀ c : Dev Cert.MixerBwdIdeal.nD,
      m' ((c.tc : Thread Cert.MixerBwdRefIdeal.nD Cert.MixerBwdRefIdeal.τ).loc Cert.MixerBwdRefIdeal.main_arg0) = m ((c.tc : Thread Cert.MixerBwdIdeal.nD Cert.MixerBwdIdeal.τ).loc Cert.MixerBwdIdeal.main_arg0)
      ∧ m' ((c.tc : Thread Cert.MixerBwdRefIdeal.nD Cert.MixerBwdRefIdeal.τ).loc Cert.MixerBwdRefIdeal.main_arg1) = m ((c.tc : Thread Cert.MixerBwdIdeal.nD Cert.MixerBwdIdeal.τ).loc Cert.MixerBwdIdeal.main_arg1)
      ∧ m' ((c.tc : Thread Cert.MixerBwdRefIdeal.nD Cert.MixerBwdRefIdeal.τ).loc Cert.MixerBwdRefIdeal.main_arg2) = m ((c.tc : Thread Cert.MixerBwdIdeal.nD Cert.MixerBwdIdeal.τ).loc Cert.MixerBwdIdeal.main_arg2)
      ∧ m' ((c.tc : Thread Cert.MixerBwdRefIdeal.nD Cert.MixerBwdRefIdeal.τ).loc Cert.MixerBwdRefIdeal.main_arg3) = m ((c.tc : Thread Cert.MixerBwdIdeal.nD Cert.MixerBwdIdeal.τ).loc Cert.MixerBwdIdeal.main_arg3)
      ∧ m' ((c.tc : Thread Cert.MixerBwdRefIdeal.nD Cert.MixerBwdRefIdeal.τ).loc Cert.MixerBwdRefIdeal.main_arg4) = m ((c.tc : Thread Cert.MixerBwdIdeal.nD Cert.MixerBwdIdeal.τ).loc Cert.MixerBwdIdeal.main_arg4)
      ∧ m' ((c.tc : Thread Cert.MixerBwdRefIdeal.nD Cert.MixerBwdRefIdeal.τ).loc Cert.MixerBwdRefIdeal.main_arg5) = m ((c.tc : Thread Cert.MixerBwdIdeal.nD Cert.MixerBwdIdeal.τ).loc Cert.MixerBwdIdeal.main_arg5)
      ∧ m' ((c.tc : Thread Cert.MixerBwdRefIdeal.nD Cert.MixerBwdRefIdeal.τ).loc Cert.MixerBwdRefIdeal.main_arg6) = m ((c.tc : Thread Cert.MixerBwdIdeal.nD Cert.MixerBwdIdeal.τ).loc Cert.MixerBwdIdeal.main_arg6)
      ∧ m' ((c.tc : Thread Cert.MixerBwdRefIdeal.nD Cert.MixerBwdRefIdeal.τ).loc Cert.MixerBwdRefIdeal.main_arg7) = m ((c.tc : Thread Cert.MixerBwdIdeal.nD Cert.MixerBwdIdeal.τ).loc Cert.MixerBwdIdeal.main_arg7)
      ∧ m' ((c.tc : Thread Cert.MixerBwdRefIdeal.nD Cert.MixerBwdRefIdeal.τ).loc Cert.MixerBwdRefIdeal.main_arg8) = m ((c.tc : Thread Cert.MixerBwdIdeal.nD Cert.MixerBwdIdeal.τ).loc Cert.MixerBwdIdeal.main_arg8)
      ∧ m' ((c.tc : Thread Cert.MixerBwdRefIdeal.nD Cert.MixerBwdRefIdeal.τ).loc Cert.MixerBwdRefIdeal.main_arg9) = m ((c.tc : Thread Cert.MixerBwdIdeal.nD Cert.MixerBwdIdeal.τ).loc Cert.MixerBwdIdeal.main_arg9)
      ∧ m' ((c.tc : Thread Cert.MixerBwdRefIdeal.nD Cert.MixerBwdRefIdeal.τ).loc Cert.MixerBwdRefIdeal.main_arg10) = m ((c.tc : Thread Cert.MixerBwdIdeal.nD Cert.MixerBwdIdeal.τ).loc Cert.MixerBwdIdeal.main_arg10)
      ∧ m' ((c.tc : Thread Cert.MixerBwdRefIdeal.nD Cert.MixerBwdRefIdeal.τ).loc Cert.MixerBwdRefIdeal.main_arg11) = m ((c.tc : Thread Cert.MixerBwdIdeal.nD Cert.MixerBwdIdeal.τ).loc Cert.MixerBwdIdeal.main_arg11)
      ∧ m' ((c.tc : Thread Cert.MixerBwdRefIdeal.nD Cert.MixerBwdRefIdeal.τ).loc Cert.MixerBwdRefIdeal.main_arg12) = m ((c.tc : Thread Cert.MixerBwdIdeal.nD Cert.MixerBwdIdeal.τ).loc Cert.MixerBwdIdeal.main_arg12)) →
    ∃ (v0 : (c : Dev Cert.MixerBwdIdeal.nD) → Buf (Elt Ideal) ((c.tc : Thread Cert.MixerBwdIdeal.nD Cert.MixerBwdIdeal.τ).loc Cert.MixerBwdIdeal.main_v96_2)) (v1 : (c : Dev Cert.MixerBwdIdeal.nD) → Buf (Elt Ideal) ((c.tc : Thread Cert.MixerBwdIdeal.nD Cert.MixerBwdIdeal.τ).loc Cert.MixerBwdIdeal.main_v96_3)) (v2 : (c : Dev Cert.MixerBwdIdeal.nD) → Buf (Elt Ideal) ((c.tc : Thread Cert.MixerBwdIdeal.nD Cert.MixerBwdIdeal.τ).loc Cert.MixerBwdIdeal.main_v96_4)) (v3 : (c : Dev Cert.MixerBwdIdeal.nD) → Buf (Elt Ideal) ((c.tc : Thread Cert.MixerBwdIdeal.nD Cert.MixerBwdIdeal.τ).loc Cert.MixerBwdIdeal.main_v96_5)) (v4 : (c : Dev Cert.MixerBwdIdeal.nD) → Buf (Elt Ideal) ((c.tc : Thread Cert.MixerBwdIdeal.nD Cert.MixerBwdIdeal.τ).loc Cert.MixerBwdIdeal.main_v96_6)),
      θ_run (Cert.MixerBwdIdeal.defs (F := Ideal)) (onTc (τ := Cert.MixerBwdIdeal.τ) (Cert.MixerBwdIdeal.main (F := Ideal))) ⟨m, fun _ => 0, g⟩ (fun r => ∀ c : Dev Cert.MixerBwdIdeal.nD,
          r.2.mem ((c.tc : Thread Cert.MixerBwdIdeal.nD Cert.MixerBwdIdeal.τ).loc Cert.MixerBwdIdeal.main_v96_2) = v0 c
          ∧ r.2.mem ((c.tc : Thread Cert.MixerBwdIdeal.nD Cert.MixerBwdIdeal.τ).loc Cert.MixerBwdIdeal.main_v96_3) = v1 c
          ∧ r.2.mem ((c.tc : Thread Cert.MixerBwdIdeal.nD Cert.MixerBwdIdeal.τ).loc Cert.MixerBwdIdeal.main_v96_4) = v2 c
          ∧ r.2.mem ((c.tc : Thread Cert.MixerBwdIdeal.nD Cert.MixerBwdIdeal.τ).loc Cert.MixerBwdIdeal.main_v96_5) = v3 c
          ∧ r.2.mem ((c.tc : Thread Cert.MixerBwdIdeal.nD Cert.MixerBwdIdeal.τ).loc Cert.MixerBwdIdeal.main_v96_6) = v4 c
          ∧ r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
          ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
          ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
          ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
          ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
          ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
          ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
          ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
          ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
          ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
          ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
          ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
          ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12))
      ∧ θ_run (Cert.MixerBwdRefIdeal.defs (F := Ideal)) (onTc (τ := Cert.MixerBwdRefIdeal.τ) (Cert.MixerBwdRefIdeal.main (F := Ideal))) ⟨m', fun _ => 0, g'⟩ (fun r => ∀ c : Dev Cert.MixerBwdRefIdeal.nD,
          r.2.mem ((c.tc : Thread Cert.MixerBwdRefIdeal.nD Cert.MixerBwdRefIdeal.τ).loc Cert.MixerBwdRefIdeal.main_v99) = v0 c
          ∧ r.2.mem ((c.tc : Thread Cert.MixerBwdRefIdeal.nD Cert.MixerBwdRefIdeal.τ).loc Cert.MixerBwdRefIdeal.main_v90) = v1 c
          ∧ r.2.mem ((c.tc : Thread Cert.MixerBwdRefIdeal.nD Cert.MixerBwdRefIdeal.τ).loc Cert.MixerBwdRefIdeal.main_v87) = v2 c
          ∧ r.2.mem ((c.tc : Thread Cert.MixerBwdRefIdeal.nD Cert.MixerBwdRefIdeal.τ).loc Cert.MixerBwdRefIdeal.main_v82) = v3 c
          ∧ r.2.mem ((c.tc : Thread Cert.MixerBwdRefIdeal.nD Cert.MixerBwdRefIdeal.τ).loc Cert.MixerBwdRefIdeal.main_v101) = v4 c
          ∧ r.2.mem ((c.tc : Thread Cert.MixerBwdRefIdeal.nD Cert.MixerBwdRefIdeal.τ).loc Cert.MixerBwdRefIdeal.main_arg0) = m' ((c.tc : Thread Cert.MixerBwdRefIdeal.nD Cert.MixerBwdRefIdeal.τ).loc Cert.MixerBwdRefIdeal.main_arg0)
          ∧ r.2.mem ((c.tc : Thread Cert.MixerBwdRefIdeal.nD Cert.MixerBwdRefIdeal.τ).loc Cert.MixerBwdRefIdeal.main_arg1) = m' ((c.tc : Thread Cert.MixerBwdRefIdeal.nD Cert.MixerBwdRefIdeal.τ).loc Cert.MixerBwdRefIdeal.main_arg1)
          ∧ r.2.mem ((c.tc : Thread Cert.MixerBwdRefIdeal.nD Cert.MixerBwdRefIdeal.τ).loc Cert.MixerBwdRefIdeal.main_arg2) = m' ((c.tc : Thread Cert.MixerBwdRefIdeal.nD Cert.MixerBwdRefIdeal.τ).loc Cert.MixerBwdRefIdeal.main_arg2)
          ∧ r.2.mem ((c.tc : Thread Cert.MixerBwdRefIdeal.nD Cert.MixerBwdRefIdeal.τ).loc Cert.MixerBwdRefIdeal.main_arg3) = m' ((c.tc : Thread Cert.MixerBwdRefIdeal.nD Cert.MixerBwdRefIdeal.τ).loc Cert.MixerBwdRefIdeal.main_arg3)
          ∧ r.2.mem ((c.tc : Thread Cert.MixerBwdRefIdeal.nD Cert.MixerBwdRefIdeal.τ).loc Cert.MixerBwdRefIdeal.main_arg4) = m' ((c.tc : Thread Cert.MixerBwdRefIdeal.nD Cert.MixerBwdRefIdeal.τ).loc Cert.MixerBwdRefIdeal.main_arg4)
          ∧ r.2.mem ((c.tc : Thread Cert.MixerBwdRefIdeal.nD Cert.MixerBwdRefIdeal.τ).loc Cert.MixerBwdRefIdeal.main_arg5) = m' ((c.tc : Thread Cert.MixerBwdRefIdeal.nD Cert.MixerBwdRefIdeal.τ).loc Cert.MixerBwdRefIdeal.main_arg5)
          ∧ r.2.mem ((c.tc : Thread Cert.MixerBwdRefIdeal.nD Cert.MixerBwdRefIdeal.τ).loc Cert.MixerBwdRefIdeal.main_arg6) = m' ((c.tc : Thread Cert.MixerBwdRefIdeal.nD Cert.MixerBwdRefIdeal.τ).loc Cert.MixerBwdRefIdeal.main_arg6)
          ∧ r.2.mem ((c.tc : Thread Cert.MixerBwdRefIdeal.nD Cert.MixerBwdRefIdeal.τ).loc Cert.MixerBwdRefIdeal.main_arg7) = m' ((c.tc : Thread Cert.MixerBwdRefIdeal.nD Cert.MixerBwdRefIdeal.τ).loc Cert.MixerBwdRefIdeal.main_arg7)
          ∧ r.2.mem ((c.tc : Thread Cert.MixerBwdRefIdeal.nD Cert.MixerBwdRefIdeal.τ).loc Cert.MixerBwdRefIdeal.main_arg8) = m' ((c.tc : Thread Cert.MixerBwdRefIdeal.nD Cert.MixerBwdRefIdeal.τ).loc Cert.MixerBwdRefIdeal.main_arg8)
          ∧ r.2.mem ((c.tc : Thread Cert.MixerBwdRefIdeal.nD Cert.MixerBwdRefIdeal.τ).loc Cert.MixerBwdRefIdeal.main_arg9) = m' ((c.tc : Thread Cert.MixerBwdRefIdeal.nD Cert.MixerBwdRefIdeal.τ).loc Cert.MixerBwdRefIdeal.main_arg9)
          ∧ r.2.mem ((c.tc : Thread Cert.MixerBwdRefIdeal.nD Cert.MixerBwdRefIdeal.τ).loc Cert.MixerBwdRefIdeal.main_arg10) = m' ((c.tc : Thread Cert.MixerBwdRefIdeal.nD Cert.MixerBwdRefIdeal.τ).loc Cert.MixerBwdRefIdeal.main_arg10)
          ∧ r.2.mem ((c.tc : Thread Cert.MixerBwdRefIdeal.nD Cert.MixerBwdRefIdeal.τ).loc Cert.MixerBwdRefIdeal.main_arg11) = m' ((c.tc : Thread Cert.MixerBwdRefIdeal.nD Cert.MixerBwdRefIdeal.τ).loc Cert.MixerBwdRefIdeal.main_arg11)
          ∧ r.2.mem ((c.tc : Thread Cert.MixerBwdRefIdeal.nD Cert.MixerBwdRefIdeal.τ).loc Cert.MixerBwdRefIdeal.main_arg12) = m' ((c.tc : Thread Cert.MixerBwdRefIdeal.nD Cert.MixerBwdRefIdeal.τ).loc Cert.MixerBwdRefIdeal.main_arg12))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v29_0)) (v1 : (c : Dev Cert.InProjIdeal.nD) → Buf (Elt Ideal) ((c.tc : Thread Cert.InProjIdeal.nD Cert.InProjIdeal.τ).loc Cert.InProjIdeal.main_v29_1)) (v2 : (c : Dev Cert.InProjIdeal.nD) → Buf (Elt Ideal) ((c.tc : Thread Cert.InProjIdeal.nD Cert.InProjIdeal.τ).loc Cert.InProjIdeal.main_v29_2)) (v3 : (c : Dev Cert.InProjIdeal.nD) → Buf (Elt Ideal) ((c.tc : Thread Cert.InProjIdeal.nD Cert.InProjIdeal.τ).loc Cert.InProjIdeal.main_v29_3)) (v4 : (c : Dev Cert.InProjIdeal.nD) → Buf (Elt Ideal) ((c.tc : Thread Cert.InProjIdeal.nD Cert.InProjIdeal.τ).loc Cert.InProjIdeal.main_v29_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v29_0) = v0 c
          ∧ r.2.mem ((c.tc : Thread Cert.InProjIdeal.nD Cert.InProjIdeal.τ).loc Cert.InProjIdeal.main_v29_1) = v1 c
          ∧ r.2.mem ((c.tc : Thread Cert.InProjIdeal.nD Cert.InProjIdeal.τ).loc Cert.InProjIdeal.main_v29_2) = v2 c
          ∧ r.2.mem ((c.tc : Thread Cert.InProjIdeal.nD Cert.InProjIdeal.τ).loc Cert.InProjIdeal.main_v29_3) = v3 c
          ∧ r.2.mem ((c.tc : Thread Cert.InProjIdeal.nD Cert.InProjIdeal.τ).loc Cert.InProjIdeal.main_v29_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_v4) = v1 c
          ∧ r.2.mem ((c.tc : Thread Cert.InProjRefIdeal.nD Cert.InProjRefIdeal.τ).loc Cert.InProjRefIdeal.main_v44) = v2 c
          ∧ r.2.mem ((c.tc : Thread Cert.InProjRefIdeal.nD Cert.InProjRefIdeal.τ).loc Cert.InProjRefIdeal.main_v60) = v3 c
          ∧ r.2.mem ((c.tc : Thread Cert.InProjRefIdeal.nD Cert.InProjRefIdeal.τ).loc Cert.InProjRefIdeal.main_v61) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MixerFwd_MixerFwdIdeal : Prop :=
  True

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)
      ∧ m' ((c.tc : Thread Cert.GradWOutRefIdeal.nD Cert.GradWOutRefIdeal.τ).loc Cert.GradWOutRefIdeal.main_arg2) = m ((c.tc : Thread Cert.GradWOutIdeal.nD Cert.GradWOutIdeal.τ).loc Cert.GradWOutIdeal.main_arg2)) →
    ∃ (v0 : (c : Dev Cert.GradWOutIdeal.nD) → Buf (Elt Ideal) ((c.tc : Thread Cert.GradWOutIdeal.nD Cert.GradWOutIdeal.τ).loc Cert.GradWOutIdeal.main_v2)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v2) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1)
          ∧ r.2.mem ((c.tc : Thread Cert.GradWOutIdeal.nD Cert.GradWOutIdeal.τ).loc Cert.GradWOutIdeal.main_arg2) = m ((c.tc : Thread Cert.GradWOutIdeal.nD Cert.GradWOutIdeal.τ).loc Cert.GradWOutIdeal.main_arg2))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v3) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1)
          ∧ r.2.mem ((c.tc : Thread Cert.GradWOutRefIdeal.nD Cert.GradWOutRefIdeal.τ).loc Cert.GradWOutRefIdeal.main_arg2) = m' ((c.tc : Thread Cert.GradWOutRefIdeal.nD Cert.GradWOutRefIdeal.τ).loc Cert.GradWOutRefIdeal.main_arg2))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v4)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v4) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v9) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v27) = v1 c
          ∧ r.2.mem ((c.tc : Thread Cert.AdamwRefIdeal.nD Cert.AdamwRefIdeal.τ).loc Cert.AdamwRefIdeal.main_v8) = v2 c
          ∧ r.2.mem ((c.tc : Thread Cert.AdamwRefIdeal.nD Cert.AdamwRefIdeal.τ).loc Cert.AdamwRefIdeal.main_v14) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)) →
    ∃ (v0 : (c : Dev Cert.AdamwWOutIdeal.nD) → Buf (Elt Ideal) ((c.tc : Thread Cert.AdamwWOutIdeal.nD Cert.AdamwWOutIdeal.τ).loc Cert.AdamwWOutIdeal.main_v4_0)) (v1 : (c : Dev Cert.AdamwWOutIdeal.nD) → Buf (Elt Ideal) ((c.tc : Thread Cert.AdamwWOutIdeal.nD Cert.AdamwWOutIdeal.τ).loc Cert.AdamwWOutIdeal.main_v4_1)) (v2 : (c : Dev Cert.AdamwWOutIdeal.nD) → Buf (Elt Ideal) ((c.tc : Thread Cert.AdamwWOutIdeal.nD Cert.AdamwWOutIdeal.τ).loc Cert.AdamwWOutIdeal.main_v4_2)) (v3 : (c : Dev Cert.AdamwWOutIdeal.nD) → Buf (Elt Ideal) ((c.tc : Thread Cert.AdamwWOutIdeal.nD Cert.AdamwWOutIdeal.τ).loc Cert.AdamwWOutIdeal.main_v4_3)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v4_0) = v0 c
          ∧ r.2.mem ((c.tc : Thread Cert.AdamwWOutIdeal.nD Cert.AdamwWOutIdeal.τ).loc Cert.AdamwWOutIdeal.main_v4_1) = v1 c
          ∧ r.2.mem ((c.tc : Thread Cert.AdamwWOutIdeal.nD Cert.AdamwWOutIdeal.τ).loc Cert.AdamwWOutIdeal.main_v4_2) = v2 c
          ∧ r.2.mem ((c.tc : Thread Cert.AdamwWOutIdeal.nD Cert.AdamwWOutIdeal.τ).loc Cert.AdamwWOutIdeal.main_v4_3) = v3 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v1) = v0 c
          ∧ r.2.mem ((c.tc : Thread Cert.AdamwWOutRefIdeal.nD Cert.AdamwWOutRefIdeal.τ).loc Cert.AdamwWOutRefIdeal.main_v27) = v1 c
          ∧ r.2.mem ((c.tc : Thread Cert.AdamwWOutRefIdeal.nD Cert.AdamwWOutRefIdeal.τ).loc Cert.AdamwWOutRefIdeal.main_v8) = v2 c
          ∧ r.2.mem ((c.tc : Thread Cert.AdamwWOutRefIdeal.nD Cert.AdamwWOutRefIdeal.τ).loc Cert.AdamwWOutRefIdeal.main_v14) = v3 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3))

def preserves_AdamwWIn_AdamwWInIdeal : Prop :=
  True

def algebraic_AdamwWInIdeal_AdamwWInRefIdeal [hAdamwWInIdeal : Cert.AdamwWInIdeal.Facts] [hAdamwWInRefIdeal : Cert.AdamwWInRefIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInRefIdeal.nD Cert.AdamwWInRefIdeal.τ Cert.AdamwWInRefIdeal.sig) → Buf (Elt Ideal) ℓ) (g' : Dev Cert.AdamwWInRefIdeal.nD → PrngReg), Pre_AdamwWInIdeal m →
    (∀ c : Dev Cert.AdamwWInIdeal.nD,
      m' ((c.tc : Thread Cert.AdamwWInRefIdeal.nD Cert.AdamwWInRefIdeal.τ).loc Cert.AdamwWInRefIdeal.main_arg0) = m ((c.tc : Thread Cert.AdamwWInIdeal.nD Cert.AdamwWInIdeal.τ).loc Cert.AdamwWInIdeal.main_arg0)
      ∧ m' ((c.tc : Thread Cert.AdamwWInRefIdeal.nD Cert.AdamwWInRefIdeal.τ).loc Cert.AdamwWInRefIdeal.main_arg1) = m ((c.tc : Thread Cert.AdamwWInIdeal.nD Cert.AdamwWInIdeal.τ).loc Cert.AdamwWInIdeal.main_arg1)
      ∧ m' ((c.tc : Thread Cert.AdamwWInRefIdeal.nD Cert.AdamwWInRefIdeal.τ).loc Cert.AdamwWInRefIdeal.main_arg2) = m ((c.tc : Thread Cert.AdamwWInIdeal.nD Cert.AdamwWInIdeal.τ).loc Cert.AdamwWInIdeal.main_arg2)
      ∧ m' ((c.tc : Thread Cert.AdamwWInRefIdeal.nD Cert.AdamwWInRefIdeal.τ).loc Cert.AdamwWInRefIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v6_0)) (v1 : (c : Dev Cert.AdamwWInIdeal.nD) → Buf (Elt Ideal) ((c.tc : Thread Cert.AdamwWInIdeal.nD Cert.AdamwWInIdeal.τ).loc Cert.AdamwWInIdeal.main_v6_1)) (v2 : (c : Dev Cert.AdamwWInIdeal.nD) → Buf (Elt Ideal) ((c.tc : Thread Cert.AdamwWInIdeal.nD Cert.AdamwWInIdeal.τ).loc Cert.AdamwWInIdeal.main_v6_2)) (v3 : (c : Dev Cert.AdamwWInIdeal.nD) → Buf (Elt Ideal) ((c.tc : Thread Cert.AdamwWInIdeal.nD Cert.AdamwWInIdeal.τ).loc Cert.AdamwWInIdeal.main_v6_3)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v6_0) = v0 c
          ∧ r.2.mem ((c.tc : Thread Cert.AdamwWInIdeal.nD Cert.AdamwWInIdeal.τ).loc Cert.AdamwWInIdeal.main_v6_1) = v1 c
          ∧ r.2.mem ((c.tc : Thread Cert.AdamwWInIdeal.nD Cert.AdamwWInIdeal.τ).loc Cert.AdamwWInIdeal.main_v6_2) = v2 c
          ∧ r.2.mem ((c.tc : Thread Cert.AdamwWInIdeal.nD Cert.AdamwWInIdeal.τ).loc Cert.AdamwWInIdeal.main_v6_3) = v3 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInRefIdeal.defs (F := Ideal)) (onTc (τ := Cert.AdamwWInRefIdeal.τ) (Cert.AdamwWInRefIdeal.main (F := Ideal))) ⟨m', fun _ => 0, g'⟩ (fun r => ∀ c : Dev Cert.AdamwWInRefIdeal.nD,
          r.2.mem ((c.tc : Thread Cert.AdamwWInRefIdeal.nD Cert.AdamwWInRefIdeal.τ).loc Cert.AdamwWInRefIdeal.main_v30) = v0 c
          ∧ r.2.mem ((c.tc : Thread Cert.AdamwWInRefIdeal.nD Cert.AdamwWInRefIdeal.τ).loc Cert.AdamwWInRefIdeal.main_v31) = v1 c
          ∧ r.2.mem ((c.tc : Thread Cert.AdamwWInRefIdeal.nD Cert.AdamwWInRefIdeal.τ).loc Cert.AdamwWInRefIdeal.main_v32) = v2 c
          ∧ r.2.mem ((c.tc : Thread Cert.AdamwWInRefIdeal.nD Cert.AdamwWInRefIdeal.τ).loc Cert.AdamwWInRefIdeal.main_v33) = v3 c
          ∧ r.2.mem ((c.tc : Thread Cert.AdamwWInRefIdeal.nD Cert.AdamwWInRefIdeal.τ).loc Cert.AdamwWInRefIdeal.main_arg0) = m' ((c.tc : Thread Cert.AdamwWInRefIdeal.nD Cert.AdamwWInRefIdeal.τ).loc Cert.AdamwWInRefIdeal.main_arg0)
          ∧ r.2.mem ((c.tc : Thread Cert.AdamwWInRefIdeal.nD Cert.AdamwWInRefIdeal.τ).loc Cert.AdamwWInRefIdeal.main_arg1) = m' ((c.tc : Thread Cert.AdamwWInRefIdeal.nD Cert.AdamwWInRefIdeal.τ).loc Cert.AdamwWInRefIdeal.main_arg1)
          ∧ r.2.mem ((c.tc : Thread Cert.AdamwWInRefIdeal.nD Cert.AdamwWInRefIdeal.τ).loc Cert.AdamwWInRefIdeal.main_arg2) = m' ((c.tc : Thread Cert.AdamwWInRefIdeal.nD Cert.AdamwWInRefIdeal.τ).loc Cert.AdamwWInRefIdeal.main_arg2)
          ∧ r.2.mem ((c.tc : Thread Cert.AdamwWInRefIdeal.nD Cert.AdamwWInRefIdeal.τ).loc Cert.AdamwWInRefIdeal.main_arg3) = m' ((c.tc : Thread Cert.AdamwWInRefIdeal.nD Cert.AdamwWInRefIdeal.τ).loc Cert.AdamwWInRefIdeal.main_arg3))

def Claim : Prop :=
  ∃ (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnBwdRefIdeal : Cert.FfnBwdRefIdeal.Facts) (hMixerBwd : Cert.MixerBwd.Facts) (hMixerBwdIdeal : Cert.MixerBwdIdeal.Facts) (hMixerBwdRefIdeal : Cert.MixerBwdRefIdeal.Facts) (hInProj : Cert.InProj.Facts) (hInProjIdeal : Cert.InProjIdeal.Facts) (hInProjRefIdeal : Cert.InProjRefIdeal.Facts) (hMixerFwd : Cert.MixerFwd.Facts) (hMixerFwdIdeal : Cert.MixerFwdIdeal.Facts) (hMixerFwdRefIdeal : Cert.MixerFwdRefIdeal.Facts) (hGradWOut : Cert.GradWOut.Facts) (hGradWOutIdeal : Cert.GradWOutIdeal.Facts) (hGradWOutRefIdeal : Cert.GradWOutRefIdeal.Facts) (hGradX : Cert.GradX.Facts) (hGradXIdeal : Cert.GradXIdeal.Facts) (hGradXRefIdeal : Cert.GradXRefIdeal.Facts) (hAdamw : Cert.Adamw.Facts) (hAdamwIdeal : Cert.AdamwIdeal.Facts) (hAdamwRefIdeal : Cert.AdamwRefIdeal.Facts) (hAdamwWOut : Cert.AdamwWOut.Facts) (hAdamwWOutIdeal : Cert.AdamwWOutIdeal.Facts) (hAdamwWOutRefIdeal : Cert.AdamwWOutRefIdeal.Facts) (hAdamwWIn : Cert.AdamwWIn.Facts) (hAdamwWInIdeal : Cert.AdamwWInIdeal.Facts) (hAdamwWInRefIdeal : Cert.AdamwWInRefIdeal.Facts) (hPre_finite_ffn_fwd_loss : Cert.Pre_finite_ffn_fwd_loss.Facts) (hPre_finite_ffn_bwd_ln1 : Cert.Pre_finite_ffn_bwd_ln1.Facts) (hPre_finite_mixer_bwd : Cert.Pre_finite_mixer_bwd.Facts),
    quiescent_FfnFwd (hFfnFwd := hFfnFwd)
    ∧ quiescent_FfnFwdIdeal (hFfnFwdIdeal := hFfnFwdIdeal)
    ∧ quiescent_FfnFwdIdeal_pre_finite_ffn_fwd_loss (hFfnFwdIdeal := hFfnFwdIdeal) (hPre_finite_ffn_fwd_loss := hPre_finite_ffn_fwd_loss)
    ∧ quiescent_FfnFwdRefIdeal (hFfnFwdRefIdeal := hFfnFwdRefIdeal)
    ∧ quiescent_FfnFwdRefIdeal_pre_finite_ffn_fwd_loss (hFfnFwdRefIdeal := hFfnFwdRefIdeal) (hPre_finite_ffn_fwd_loss := hPre_finite_ffn_fwd_loss)
    ∧ quiescent_FfnBwd (hFfnBwd := hFfnBwd)
    ∧ quiescent_FfnBwdIdeal (hFfnBwdIdeal := hFfnBwdIdeal)
    ∧ quiescent_FfnBwdIdeal_pre_finite_ffn_bwd_ln1 (hFfnBwdIdeal := hFfnBwdIdeal) (hPre_finite_ffn_bwd_ln1 := hPre_finite_ffn_bwd_ln1)
    ∧ quiescent_FfnBwdRefIdeal (hFfnBwdRefIdeal := hFfnBwdRefIdeal)
    ∧ quiescent_FfnBwdRefIdeal_pre_finite_ffn_bwd_ln1 (hFfnBwdRefIdeal := hFfnBwdRefIdeal) (hPre_finite_ffn_bwd_ln1 := hPre_finite_ffn_bwd_ln1)
    ∧ quiescent_MixerBwd (hMixerBwd := hMixerBwd)
    ∧ quiescent_MixerBwdIdeal (hMixerBwdIdeal := hMixerBwdIdeal)
    ∧ quiescent_MixerBwdIdeal_pre_finite_mixer_bwd (hMixerBwdIdeal := hMixerBwdIdeal) (hPre_finite_mixer_bwd := hPre_finite_mixer_bwd)
    ∧ quiescent_MixerBwdRefIdeal (hMixerBwdRefIdeal := hMixerBwdRefIdeal)
    ∧ quiescent_MixerBwdRefIdeal_pre_finite_mixer_bwd (hMixerBwdRefIdeal := hMixerBwdRefIdeal) (hPre_finite_mixer_bwd := hPre_finite_mixer_bwd)
    ∧ quiescent_InProj (hInProj := hInProj)
    ∧ quiescent_InProjIdeal (hInProjIdeal := hInProjIdeal)
    ∧ quiescent_InProjRefIdeal (hInProjRefIdeal := hInProjRefIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradX (hGradX := hGradX)
    ∧ quiescent_GradXIdeal (hGradXIdeal := hGradXIdeal)
    ∧ quiescent_GradXRefIdeal (hGradXRefIdeal := hGradXRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_AdamwWOut (hAdamwWOut := hAdamwWOut)
    ∧ quiescent_AdamwWOutIdeal (hAdamwWOutIdeal := hAdamwWOutIdeal)
    ∧ quiescent_AdamwWOutRefIdeal (hAdamwWOutRefIdeal := hAdamwWOutRefIdeal)
    ∧ quiescent_AdamwWIn (hAdamwWIn := hAdamwWIn)
    ∧ quiescent_AdamwWInIdeal (hAdamwWInIdeal := hAdamwWInIdeal)
    ∧ quiescent_AdamwWInRefIdeal (hAdamwWInRefIdeal := hAdamwWInRefIdeal)
    ∧ preserves_FfnFwd_FfnFwdIdeal
    ∧ algebraic_FfnFwdIdeal_FfnFwdRefIdeal_pre_finite_ffn_fwd_loss (hFfnFwdIdeal := hFfnFwdIdeal) (hFfnFwdRefIdeal := hFfnFwdRefIdeal) (hPre_finite_ffn_fwd_loss := hPre_finite_ffn_fwd_loss)
    ∧ preserves_FfnBwd_FfnBwdIdeal
    ∧ algebraic_FfnBwdIdeal_FfnBwdRefIdeal_pre_finite_ffn_bwd_ln1 (hFfnBwdIdeal := hFfnBwdIdeal) (hFfnBwdRefIdeal := hFfnBwdRefIdeal) (hPre_finite_ffn_bwd_ln1 := hPre_finite_ffn_bwd_ln1)
    ∧ preserves_MixerBwd_MixerBwdIdeal
    ∧ algebraic_MixerBwdIdeal_MixerBwdRefIdeal_pre_finite_mixer_bwd (hMixerBwdIdeal := hMixerBwdIdeal) (hMixerBwdRefIdeal := hMixerBwdRefIdeal) (hPre_finite_mixer_bwd := hPre_finite_mixer_bwd)
    ∧ preserves_InProj_InProjIdeal
    ∧ algebraic_InProjIdeal_InProjRefIdeal (hInProjIdeal := hInProjIdeal) (hInProjRefIdeal := hInProjRefIdeal)
    ∧ preserves_MixerFwd_MixerFwdIdeal
    ∧ preserves_GradWOut_GradWOutIdeal
    ∧ algebraic_GradWOutIdeal_GradWOutRefIdeal (hGradWOutIdeal := hGradWOutIdeal) (hGradWOutRefIdeal := hGradWOutRefIdeal)
    ∧ preserves_GradX_GradXIdeal
    ∧ algebraic_GradXIdeal_GradXRefIdeal (hGradXIdeal := hGradXIdeal) (hGradXRefIdeal := hGradXRefIdeal)
    ∧ preserves_Adamw_AdamwIdeal
    ∧ algebraic_AdamwIdeal_AdamwRefIdeal (hAdamwIdeal := hAdamwIdeal) (hAdamwRefIdeal := hAdamwRefIdeal)
    ∧ preserves_AdamwWOut_AdamwWOutIdeal
    ∧ algebraic_AdamwWOutIdeal_AdamwWOutRefIdeal (hAdamwWOutIdeal := hAdamwWOutIdeal) (hAdamwWOutRefIdeal := hAdamwWOutRefIdeal)
    ∧ preserves_AdamwWIn_AdamwWInIdeal
    ∧ algebraic_AdamwWInIdeal_AdamwWInRefIdeal (hAdamwWInIdeal := hAdamwWInIdeal) (hAdamwWInRefIdeal := hAdamwWInRefIdeal)
-- ==== Pre_finite_ffn_bwd_ln1.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S4096x1024 : S_.BroadcastsInDim S4096x1024 (![] : Fin 0 → Fin S4096x1024.rank)
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn_part1 {F : FTy → Type} [FloatOps F] (main_arg6 : FVec F S1x4096x1024 .f32) (main_arg7 : FVec F S4096x1024 .f32) (main_v2 : IVec S4096x1024 1) (main_v5 : IVec S1x4096x1024 1) (main_v8 : IVec S1x1024x1024 1) (main_v11 : IVec S1x1024 1) (main_v14 : IVec S1x1024 1) (main_v17 : IVec S1x1024x4096 1) : IVec S4096x1024 1 × IVec S1x4096x1024 1 × IVec S1x1024x1024 1 × IVec S1x1024 1 × IVec S1x1024 1 × IVec S1x1024x4096 1 × IVec S1x4096x1024 1 × IVec S4096x1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1x4096x1024 .f32) (main_arg2 : FVec F S1x1024x1024 .f32) (main_arg3 : FVec F S1x1024 .f32) (main_arg4 : FVec F S1x1024 .f32) (main_arg5 : FVec F S1x1024x4096 .f32) (main_arg6 : FVec F S1x4096x1024 .f32) (main_arg7 : FVec F S4096x1024 .f32) : IVec S4096x1024 1 × IVec S1x4096x1024 1 × IVec S1x1024x1024 1 × IVec S1x1024 1 × IVec S1x1024 1 × IVec S1x1024x4096 1 × IVec S1x4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x4096 .f32 := Host.absf main_arg5
  let main_cst_4 : FVec F S_ .f32 := constant S_ .f32 0x7F800000#32
  let main_v16 : FVec F S1x1024x4096 .f32 := broadcastInDim S1x1024x4096 ![] bcast_S_S1x1024x4096 main_cst_4
  let main_v17 : IVec S1x1024x4096 1 := cmpf .olt main_v15 main_v16
  fn_part1 (F := F) main_arg6 main_arg7 main_v2 main_v5 main_v8 main_v11 main_v14 main_v17
-- ==== Pre_finite_ffn_fwd_loss.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S4096x1024 : S_.BroadcastsInDim S4096x1024 (![] : Fin 0 → Fin S4096x1024.rank)
  bcast_S_S1x4096x1024 : S_.BroadcastsInDim S1x4096x1024 (![] : Fin 0 → Fin S1x4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn_part1 {F : FTy → Type} [FloatOps F] (main_arg6 : FVec F S1x4096x1024 .f32) (main_arg7 : FVec F S1x1024 .f32) (main_arg8 : FVec F S1x1024 .f32) (main_arg9 : FVec F S1x4096x1024 .f32) (main_v2 : IVec S4096x1024 1) (main_v5 : IVec S1x4096x1024 1) (main_v8 : IVec S1x1024x1024 1) (main_v11 : IVec S1x1024 1) (main_v14 : IVec S1x1024 1) (main_v17 : IVec S1x1024x4096 1) : IVec S4096x1024 1 × IVec S1x4096x1024 1 × IVec S1x1024x1024 1 × IVec S1x1024 1 × IVec S1x1024 1 × IVec S1x1024x4096 1 × IVec S1x4096x1024 1 × IVec S1x1024 1 × IVec S1x1024 1 × IVec S1x4096x1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x4096x1024 .f32 := Host.absf main_arg9
  let main_cst_8 : FVec F S_ .f32 := constant S_ .f32 0x7F800000#32
  let main_v28 : FVec F S1x4096x1024 .f32 := broadcastInDim S1x4096x1024 ![] bcast_S_S1x4096x1024 main_cst_8
  let main_v29 : IVec S1x4096x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S1x4096x1024 .f32) (main_arg2 : FVec F S1x1024x1024 .f32) (main_arg3 : FVec F S1x1024 .f32) (main_arg4 : FVec F S1x1024 .f32) (main_arg5 : FVec F S1x1024x4096 .f32) (main_arg6 : FVec F S1x4096x1024 .f32) (main_arg7 : FVec F S1x1024 .f32) (main_arg8 : FVec F S1x1024 .f32) (main_arg9 : FVec F S1x4096x1024 .f32) : IVec S4096x1024 1 × IVec S1x4096x1024 1 × IVec S1x1024x1024 1 × IVec S1x1024 1 × IVec S1x1024 1 × IVec S1x1024x4096 1 × IVec S1x4096x1024 1 × IVec S1x1024 1 × IVec S1x1024 1 × IVec S1x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x4096 .f32 := Host.absf main_arg5
  let main_cst_4 : FVec F S_ .f32 := constant S_ .f32 0x7F800000#32
  let main_v16 : FVec F S1x1024x4096 .f32 := broadcastInDim S1x1024x4096 ![] bcast_S_S1x1024x4096 main_cst_4
  let main_v17 : IVec S1x1024x4096 1 := cmpf .olt main_v15 main_v16
  fn_part1 (F := F) main_arg6 main_arg7 main_arg8 main_arg9 main_v2 main_v5 main_v8 main_v11 main_v14 main_v17
-- ==== Pre_finite_mixer_bwd.lean ====
abbrev S1x4096x1024 : Shape := ⟨3, ![1, 4096, 1024]⟩
abbrev S1x4096 : Shape := ⟨2, ![1, 4096]⟩
abbrev S1x1024x1792 : Shape := ⟨3, ![1, 1024, 1792]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x1024x4096 : Shape := ⟨3, ![1, 1024, 4096]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  bcast_S_S1x1024x1792 : S_.BroadcastsInDim S1x1024x1792 (![] : Fin 0 → Fin S1x1024x1792.rank)
  bcast_S_S1x512 : S_.BroadcastsInDim S1x512 (![] : Fin 0 → Fin S1x512.rank)
  bcast_S_S1x8x128x128 : S_.BroadcastsInDim S1x8x128x128 (![] : Fin 0 → Fin S1x8x128x128.rank)
  bcast_S_S1x1024x4096 : S_.BroadcastsInDim S1x1024x4096 (![] : Fin 0 → Fin S1x1024x4096.rank)
  bcast_S_S4096x1024 : S_.BroadcastsInDim S4096x1024 (![] : Fin 0 → Fin S4096x1024.rank)

variable [Facts]

def fn_part1 {F : FTy → Type} [FloatOps F] (main_arg9 : FVec F S1x1024x4096 .f32) (main_arg11 : FVec F S4096x1024 .f32) (main_arg12 : FVec F S4096x1024 .f32) (main_v2 : IVec S1x4096x1024 1) (main_v5 : IVec S1x1024x1792 1) (main_v8 : IVec S1x512 1) (main_v11 : IVec S1x512 1) (main_v14 : IVec S1x8x128x128 1) (main_v17 : IVec S1x4096x1024 1) : IVec S1x4096x1024 1 × IVec S1x1024x1792 1 × IVec S1x512 1 × IVec S1x512 1 × IVec S1x8x128x128 1 × IVec S1x4096x1024 1 × IVec S1x1024x4096 1 × IVec S4096x1024 1 × IVec S4096x1024 1 :=
  let main_v18 : FVec F S1x1024x4096 .f32 := Host.absf main_arg9
  let main_cst_5 : FVec F S_ .f32 := constant S_ .f32 0x7F800000#32
  let main_v19 : FVec F S1x1024x4096 .f32 := broadcastInDim S1x1024x4096 ![] bcast_S_S1x1024x4096 main_cst_5
  let main_v20 : IVec S1x1024x4096 1 := cmpf .olt main_v18 main_v19
  let main_v21 : FVec F S4096x1024 .f32 := Host.absf main_arg11
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S4096x1024 .f32 := Host.absf main_arg12
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S1x4096x1024 .f32) (main_arg1 : IVec S1x4096 32) (main_arg2 : FVec F S1x1024x1792 .f32) (main_arg3 : FVec F S1x512 .f32) (main_arg4 : FVec F S1x512 .f32) (main_arg5 : FVec F S1x8x128x128 .f32) (main_arg6 : FVec F S1x8x128 .f32) (main_arg7 : FVec F S1x8 .f32) (main_arg8 : FVec F S1x4096x1024 .f32) (main_arg9 : FVec F S1x1024x4096 .f32) (main_arg10 : FVec F S1x4096x1024 .f32) (main_arg11 : FVec F S4096x1024 .f32) (main_arg12 : FVec F S4096x1024 .f32) : IVec S1x4096x1024 1 × IVec S1x1024x1792 1 × IVec S1x512 1 × IVec S1x512 1 × IVec S1x8x128x128 1 × IVec S1x4096x1024 1 × IVec S1x1024x4096 1 × IVec S4096x1024 1 × IVec S4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024x1792 .f32 := Host.absf main_arg2
  let main_cst_0 : FVec F S_ .f32 := constant S_ .f32 0x7F800000#32
  let main_v4 : FVec F S1x1024x1792 .f32 := broadcastInDim S1x1024x1792 ![] bcast_S_S1x1024x1792 main_cst_0
  let main_v5 : IVec S1x1024x1792 1 := cmpf .olt main_v3 main_v4
  let main_v6 : FVec F S1x512 .f32 := Host.absf main_arg3
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg4
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x8x128x128 .f32 := Host.absf main_arg5
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x4096x1024 .f32 := Host.absf main_arg8
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  fn_part1 (F := F) main_arg9 main_arg11 main_arg12 main_v2 main_v5 main_v8 main_v11 main_v14 main_v17
-- ==== FfnFwd.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1024x1024 : Shape := ⟨2, ![1024, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1 : Shape := ⟨2, ![4096, 1]⟩
abbrev S4096x4096 : Shape := ⟨2, ![4096, 4096]⟩
abbrev S512x1024 : Shape := ⟨2, ![512, 1024]⟩
abbrev S512x1 : Shape := ⟨2, ![512, 1]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1x1024, .f32⟩
  | .hbm, ⟨8, _⟩ => ⟨S1x1024, .f32⟩
  | .hbm, ⟨9, _⟩ => ⟨S1x4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1024x1024, .bf16⟩
  | .hbm, ⟨14, _⟩ => ⟨S1024x4096, .f32⟩
  | .hbm, ⟨15, _⟩ => ⟨S1024x4x1024, .f32⟩
  | .hbm, ⟨16, _⟩ => ⟨S4x1024x1024, .f32⟩
  | .hbm, ⟨17, _⟩ => ⟨S4x1024x1024, .bf16⟩
  | .hbm, ⟨18, _⟩ => ⟨S4096x1024, .f32⟩
  | .hbm, ⟨19, _⟩ => ⟨S4096x1024, .bf16⟩
  | .hbm, ⟨20, _⟩ => ⟨S4x1024x1024, .bf16⟩
  | .hbm, ⟨21, _⟩ => ⟨S4096x1024, .bf16⟩
  | .hbm, ⟨22, _⟩ => ⟨S4096x1024, .f32⟩
  | .hbm, ⟨23, _⟩ => ⟨S4096x1, .f32⟩
  | .hbm, ⟨24, _⟩ => ⟨S4096x1024, .bf16⟩
  | .hbm, ⟨25, _⟩ => ⟨S4096x4096, .bf16⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S1x1024, .f32⟩
  | .hbm, ⟨30, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .bf16⟩
  | .local _ .vmem, ⟨18, _⟩ => ⟨S512x1024, .bf16⟩
  | .local _ .vmem, ⟨19, _⟩ => ⟨S512x4096, .bf16⟩
  | .local _ .vmem, ⟨20, _⟩ => ⟨S512x4096, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev main_v12_8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== FfnFwdRefIdeal.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1024 : Shape := ⟨1, ![1024]⟩

abbrev nBuf : Space → Nat
  | .hbm => 160
  | .vmem => 0
  | .smem => 0
  | _ => 0

abbrev hbmTy0_0 (i : Nat) : BufTy := match i % 128 with
  | 0 => ⟨S4096x1024, .f32⟩
  | 1 => ⟨S1x4096x1024, .f32⟩
  | 2 => ⟨S1x1024x1024, .f32⟩
  | 3 => ⟨S1x1024, .f32⟩
  | 4 => ⟨S1x1024, .f32⟩
  | 5 => ⟨S1x1024x4096, .f32⟩
  | 6 => ⟨S1x4096x1024, .f32⟩
  | 7 => ⟨S1x1024, .f32⟩
  | 8 => ⟨S1x1024, .f32⟩
  | 9 => ⟨S1x4096x1024, .f32⟩
  | 10 => ⟨S4096x1024, .f32⟩
  | 11 => ⟨S_, .f32⟩
  | 12 => ⟨S4096x1024, .f32⟩
  | 13 => ⟨S4096x1024, .f32⟩
  | 14 => ⟨S1024x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S1024x4096, .f32⟩
  | 45 => ⟨S4096x4096, .f32⟩
  | 46 => ⟨S_, .f32⟩
  | 47 => ⟨S4096x4096, .f32⟩
  | 48 => ⟨S4096x4096, .f32⟩
  | 49 => ⟨S_, .f32⟩
  | 50 => ⟨S4096x1024, .f32⟩
  | 51 => ⟨S4096x1024, .f32⟩
  | 52 => ⟨S4096x4096, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096, .f32⟩
  | 98 => ⟨S_, .f32⟩
  | 99 => ⟨S4096, .f32⟩
  | 100 => ⟨S4096, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S4096, .f32⟩
  | 109 => ⟨S_, .f32⟩
  | 110 => ⟨S4096, .f32⟩
  | 111 => ⟨S4096, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S_, .f32⟩
  | 27 => ⟨S1024, .f32⟩
  | 28 => ⟨S1x1024, .f32⟩
  | 29 => ⟨S4096x1024, .bf16⟩
  | 30 => ⟨S4096x4096, .bf16⟩
  | 31 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_cst_19 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_22 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_25 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_cst_27 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_28 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_29 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_31 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩

abbrev nD : Nat := 1
abbrev τ : Topo := Topo.v7x

variable {F : FTy → Type} [FloatOps F]
-- ==== FfnBwd.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1024x1024 : Shape := ⟨2, ![1024, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S256x1024 : Shape := ⟨2, ![256, 1024]⟩
abbrev S256x4096 : Shape := ⟨2, ![256, 4096]⟩
abbrev S256x1 : Shape := ⟨2, ![256, 1]⟩
abbrev S4 : Shape := ⟨1, ![4]⟩
abbrev S1024x256 : Shape := ⟨2, ![1024, 256]⟩
abbrev S1 : Shape := ⟨1, ![1]⟩
abbrev S1024 : Shape := ⟨1, ![1024]⟩
abbrev S256 : Shape := ⟨1, ![256]⟩

abbrev nBuf : Space → Nat
  | .hbm => 63
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S4096x1024, .f32⟩
  | .hbm, ⟨8, _⟩ => ⟨S1024x1024, .f32⟩
  | .hbm, ⟨9, _⟩ => ⟨S1024x1024, .bf16⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4096x1024, .f32⟩
  | .hbm, ⟨15, _⟩ => ⟨S4096x1024, .bf16⟩
  | .hbm, ⟨16, _⟩ => ⟨S4x1024x1024, .bf16⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S1024x4096, .f32⟩
  | .hbm, ⟨51, _⟩ => ⟨S1024x4096, .bf16⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .bf16⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x1024, .bf16⟩
  | .hbm, ⟨61, _⟩ => ⟨S1x1024, .f32⟩
  | .hbm, ⟨62, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x4096, .bf16⟩
  | .local _ .vmem, ⟨3, _⟩ => ⟨S256x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x1024, .f32⟩
  | .local _ .vmem, ⟨11, _⟩ => ⟨S4x1024x1024, .bf16⟩
  | .local _ .vmem, ⟨12, _⟩ => ⟨S4x1024x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev main_v42_3 : Ref sig .tc := ⟨.hbm, 60, rfl⟩
abbrev main_v42_4 : Ref sig .tc := ⟨.hbm, 61, rfl⟩
abbrev main_v42_5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnBwdRefIdeal.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S_ : Shape := ⟨0, ![]⟩
abbrev S1024x1024 : Shape := ⟨2, ![1024, 1024]⟩
abbrev S1024x4096 : Shape := ⟨2, ![1024, 4096]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1024x4x1024 : Shape := ⟨3, ![1024, 4, 1024]⟩
abbrev S4x1024x1024 : Shape := ⟨3, ![4, 1024, 1024]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S1x4096x1024, .f32⟩
  | 2 => ⟨S1x1024x1024, .f32⟩
  | 3 => ⟨S1x1024, .f32⟩
  | 4 => ⟨S1x1024, .f32⟩
  | 5 => ⟨S1x1024x4096, .f32⟩
  | 6 => ⟨S1x4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S1024x1024, .f32⟩
  | 13 => ⟨S4096x1024, .f32⟩
  | 14 => ⟨S4096x1024, .f32⟩
  | 15 => ⟨S1024x4096, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x4096, .f32⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .i1⟩
  | 60 => ⟨S_, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x1024, .f32⟩
  | 77 => ⟨S1024x4096, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S1024x4x1024, .f32⟩
  | 125 => ⟨S4x1024x1024, .f32⟩
  | 126 => ⟨S4096x1024, .f32⟩
  | 127 => ⟨S4096x1024, .bf16⟩
  | _ => ⟨S4096x1024, .f32⟩

abbrev hbmTy0_1 (i : Nat) : BufTy := match i % 128 with
  | 0 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== MixerBwd.lean ====
abbrev S1x4096x1024 : Shape := ⟨3, ![1, 4096, 1024]⟩
abbrev S1x4096 : Shape := ⟨2, ![1, 4096]⟩
abbrev S1x1024x1792 : Shape := ⟨3, ![1, 1024, 1792]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x1024x4096 : Shape := ⟨3, ![1, 1024, 4096]⟩
abbrev S4096x1024 : Shape := ⟨2, ![4096, 1024]⟩
abbrev S1024x1792 : Shape := ⟨2, ![1024, 1792]⟩
abbrev S4096x1792 : Shape := ⟨2, ![4096, 1792]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x8x64 : Shape := ⟨3, ![4096, 8, 64]⟩
abbrev S8x4096x64 : Shape := ⟨3, ![8, 4096, 64]⟩
abbrev S8x4096x32 : Shape := ⟨3, ![8, 4096, 32]⟩
abbrev S1x4096x32 : Shape := ⟨3, ![1, 4096, 32]⟩
abbrev S4096x2x64 : Shape := ⟨3, ![4096, 2, 64]⟩
abbrev S2x4096x64 : Shape := ⟨3, ![2, 4096, 64]⟩
abbrev S2x4096x32 : Shape := ⟨3, ![2, 4096, 32]⟩
abbrev S1024x4096 : Shape := ⟨2, ![1024, 4096]⟩
abbrev S4096x4096 : Shape := ⟨2, ![4096, 4096]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x4096x1x32 : Shape := ⟨4, ![1, 4096, 1, 32]⟩
abbrev S1x4096x4x32 : Shape := ⟨4, ![1, 4096, 4, 32]⟩
abbrev S8x128x128 : Shape := ⟨3, ![8, 128, 128]⟩
abbrev S8 : Shape := ⟨1, ![8]⟩
abbrev S4096x1536 : Shape := ⟨2, ![4096, 1536]⟩
abbrev S4096x256 : Shape := ⟨2, ![4096, 256]⟩
abbrev S128x128 : Shape := ⟨2, ![128, 128]⟩
abbrev S512x512 : Shape := ⟨2, ![512, 512]⟩
abbrev S512x128 : Shape := ⟨2, ![512, 128]⟩
abbrev S512x1024 : Shape := ⟨2, ![512, 1024]⟩
abbrev S512x4096 : Shape := ⟨2, ![512, 4096]⟩
abbrev S512x1536 : Shape := ⟨2, ![512, 1536]⟩
abbrev S4x128x256 : Shape := ⟨3, ![4, 128, 256]⟩
abbrev S4 : Shape := ⟨1, ![4]⟩
abbrev S1x128x128 : Shape := ⟨3, ![1, 128, 128]⟩
abbrev S128x256 : Shape := ⟨2, ![128, 256]⟩
abbrev S1x128x256 : Shape := ⟨3, ![1, 128, 256]⟩
abbrev S1 : Shape := ⟨1, ![1]⟩
abbrev S1x128 : Shape := ⟨2, ![1, 128]⟩
abbrev S256x128 : Shape := ⟨2, ![256, 128]⟩
abbrev S1024x1024 : Shape := ⟨2, ![1024, 1024]⟩
abbrev S128 : Shape := ⟨1, ![128]⟩
abbrev S128x1 : Shape := ⟨2, ![128, 1]⟩
abbrev S64x128 : Shape := ⟨2, ![64, 128]⟩
abbrev S64x512 : Shape := ⟨2, ![64, 512]⟩
abbrev S512x256 : Shape := ⟨2, ![512, 256]⟩
abbrev S64x256 : Shape := ⟨2, ![64, 256]⟩
abbrev S1x1 : Shape := ⟨2, ![1, 1]⟩
abbrev S512 : Shape := ⟨1, ![512]⟩

abbrev nBuf : Space → Nat
  | .hbm => 122
  | .vmem => 44
  | .smem => 1
  | _ => 0

abbrev bufTy : (tb : Table) → Fin (tcTables nBuf tb) → BufTy
  | .hbm, ⟨0, _⟩ => ⟨S1x4096x1024, .f32⟩
  | .hbm, ⟨1, _⟩ => ⟨S1x4096, .i32⟩
  | .hbm, ⟨2, _⟩ => ⟨S1x1024x1792, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x8, .f32⟩
  | .hbm, ⟨8, _⟩ => ⟨S1x4096x1024, .f32⟩
  | .hbm, ⟨9, _⟩ => ⟨S1x1024x4096, .f32⟩
  | .hbm, ⟨10, _⟩ => ⟨S1x4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S1024x1792, .f32⟩
  | .hbm, ⟨16, _⟩ => ⟨S1024x1792, .bf16⟩
  | .hbm, ⟨17, _⟩ => ⟨S4096x1792, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x128, .f32⟩
  | .hbm, ⟨22, _⟩ => ⟨S4096x128, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S4096, .i32⟩
  | .hbm, ⟨38, _⟩ => ⟨S4096, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x8x64, .f32⟩
  | .hbm, ⟨47, _⟩ => ⟨S8x4096x64, .f32⟩
  | .hbm, ⟨48, _⟩ => ⟨S8x4096x32, .f32⟩
  | .hbm, ⟨49, _⟩ => ⟨S8x4096x32, .f32⟩
  | .hbm, ⟨50, _⟩ => ⟨S1x4096x32, .f32⟩
  | .hbm, ⟨51, _⟩ => ⟨S8x4096x32, .f32⟩
  | .hbm, ⟨52, _⟩ => ⟨S8x4096x32, .f32⟩
  | .hbm, ⟨53, _⟩ => ⟨S1x4096x32, .f32⟩
  | .hbm, ⟨54, _⟩ => ⟨S8x4096x32, .f32⟩
  | .hbm, ⟨55, _⟩ => ⟨S8x4096x32, .f32⟩
  | .hbm, ⟨56, _⟩ => ⟨S8x4096x32, .f32⟩
  | .hbm, ⟨57, _⟩ => ⟨S1x4096x32, .f32⟩
  | .hbm, ⟨58, _⟩ => ⟨S8x4096x32, .f32⟩
  | .hbm, ⟨59, _⟩ => ⟨S8x4096x32, .f32⟩
  | .hbm, ⟨60, _⟩ => ⟨S1x4096x32, .f32⟩
  | .hbm, ⟨61, _⟩ => ⟨S8x4096x32, .f32⟩
  | .hbm, ⟨62, _⟩ => ⟨S8x4096x32, .f32⟩
  | .hbm, ⟨63, _⟩ => ⟨S8x4096x32, .f32⟩
  | .hbm, ⟨64, _⟩ => ⟨S8x4096x64, .f32⟩
  | .hbm, ⟨65, _⟩ => ⟨S4096x8x64, .f32⟩
  | .hbm, ⟨66, _⟩ => ⟨S4096x512, .f32⟩
  | .hbm, ⟨67, _⟩ => ⟨S4096x2x64, .f32⟩
  | .hbm, ⟨68, _⟩ => ⟨S2x4096x64, .f32⟩
  | .hbm, ⟨69, _⟩ => ⟨S2x4096x32, .f32⟩
  | .hbm, ⟨70, _⟩ => ⟨S2x4096x32, .f32⟩
  | .hbm, ⟨71, _⟩ => ⟨S1x4096x32, .f32⟩
  | .hbm, ⟨72, _⟩ => ⟨S2x4096x32, .f32⟩
  | .hbm, ⟨73, _⟩ => ⟨S2x4096x32, .f32⟩
  | .hbm, ⟨74, _⟩ => ⟨S1x4096x32, .f32⟩
  | .hbm, ⟨75, _⟩ => ⟨S2x4096x32, .f32⟩
  | .hbm, ⟨76, _⟩ => ⟨S2x4096x32, .f32⟩
  | .hbm, ⟨77, _⟩ => ⟨S2x4096x32, .f32⟩
  | .hbm, ⟨78, _⟩ => ⟨S1x4096x32, .f32⟩
  | .hbm, ⟨79, _⟩ => ⟨S2x4096x32, .f32⟩
  | .hbm, ⟨80, _⟩ => ⟨S2x4096x32, .f32⟩
  | .hbm, ⟨81, _⟩ => ⟨S1x4096x32, .f32⟩
  | .hbm, ⟨82, _⟩ => ⟨S2x4096x32, .f32⟩
  | .hbm, ⟨83, _⟩ => ⟨S2x4096x32, .f32⟩
  | .hbm, ⟨84, _⟩ => ⟨S2x4096x32, .f32⟩
  | .hbm, ⟨85, _⟩ => ⟨S2x4096x64, .f32⟩
  | .hbm, ⟨86, _⟩ => ⟨S4096x2x64, .f32⟩
  | .hbm, ⟨87, _⟩ => ⟨S4096x128, .f32⟩
  | .hbm, ⟨88, _⟩ => ⟨S4096x1024, .f32⟩
  | .hbm, ⟨89, _⟩ => ⟨S4096x1024, .bf16⟩
  | .hbm, ⟨90, _⟩ => ⟨S1024x4096, .f32⟩
  | .hbm, ⟨91, _⟩ => ⟨S1024x4096, .bf16⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .f32⟩
  | .hbm, ⟨96, _⟩ => ⟨S4096x4096, .bf16⟩
  | .hbm, ⟨97, _⟩ => ⟨S8x128, .f32⟩
  | .hbm, ⟨98, _⟩ => ⟨S128x8, .f32⟩
  | .hbm, ⟨99, _⟩ => ⟨S128x8x64, .f32⟩
  | .hbm, ⟨100, _⟩ => ⟨S128x512, .f32⟩
  | .hbm, ⟨101, _⟩ => ⟨S4096x512, .bf16⟩
  | .hbm, ⟨102, _⟩ => ⟨S4096x128, .bf16⟩
  | .hbm, ⟨103, _⟩ => ⟨S4096x128, .bf16⟩
  | .hbm, ⟨104, _⟩ => ⟨S4096x1024, .bf16⟩
  | .hbm, ⟨105, _⟩ => ⟨S1x4096x1x32, .f32⟩
  | .hbm, ⟨106, _⟩ => ⟨S1x4096x4x32, .f32⟩
  | .hbm, ⟨107, _⟩ => ⟨S4096x128, .f32⟩
  | .hbm, ⟨108, _⟩ => ⟨S1x4096x1x32, .f32⟩
  | .hbm, ⟨109, _⟩ => ⟨S1x4096x4x32, .f32⟩
  | .hbm, ⟨110, _⟩ => ⟨S4096x128, .f32⟩
  | .hbm, ⟨111, _⟩ => ⟨S8x128x128, .f32⟩
  | .hbm, ⟨112, _⟩ => ⟨S8, .f32⟩
  | .hbm, ⟨113, _⟩ => ⟨S4096x1024, .bf16⟩
  | .hbm, ⟨114, _⟩ => ⟨S4096x1536, .bf16⟩
  | .hbm, ⟨115, _⟩ => ⟨S4096x256, .f32⟩
  | .hbm, ⟨116, _⟩ => ⟨S4096x1024, .f32⟩
  | .hbm, ⟨117, _⟩ => ⟨S1x512, .f32⟩
  | .hbm, ⟨118, _⟩ => ⟨S1x512, .f32⟩
  | .hbm, ⟨119, _⟩ => ⟨S8x128x128, .f32⟩
  | .hbm, ⟨120, _⟩ => ⟨S128x128, .f32⟩
  | .hbm, ⟨121, _⟩ => ⟨S8x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x512, .f32⟩
  | .local _ .vmem, ⟨25, _⟩ => ⟨S1x512, .f32⟩
  | .local _ .vmem, ⟨26, _⟩ => ⟨S8x128x128, .f32⟩
  | .local _ .vmem, ⟨27, _⟩ => ⟨S128x512, .f32⟩
  | .local _ .vmem, ⟨28, _⟩ => ⟨S512x4096, .bf16⟩
  | .local _ .vmem, ⟨29, _⟩ => ⟨S512x4096, .bf16⟩
  | .local _ .vmem, ⟨30, _⟩ => ⟨S512x1024, .bf16⟩
  | .local _ .vmem, ⟨31, _⟩ => ⟨S512x1024, .bf16⟩
  | .local _ .vmem, ⟨32, _⟩ => ⟨S512x1536, .bf16⟩
  | .local _ .vmem, ⟨33, _⟩ => ⟨S512x1536, .bf16⟩
  | .local _ .vmem, ⟨34, _⟩ => ⟨S4096x256, .f32⟩
  | .local _ .vmem, ⟨35, _⟩ => ⟨S1x512, .f32⟩
  | .local _ .vmem, ⟨36, _⟩ => ⟨S1x512, .f32⟩
  | .local _ .vmem, ⟨37, _⟩ => ⟨S8x128x128, .f32⟩
  | .local _ .vmem, ⟨38, _⟩ => ⟨S128x128, .f32⟩
  | .local _ .vmem, ⟨39, _⟩ => ⟨S8x128, .f32⟩
  | .local _ .vmem, ⟨40, _⟩ => ⟨S128x512, .f32⟩
  | .local _ .vmem, ⟨41, _⟩ => ⟨S4x128x256, .bf16⟩
  | .local _ .vmem, ⟨42, _⟩ => ⟨S4x128x256, .bf16⟩
  | .local _ .vmem, ⟨43, _⟩ => ⟨S4096x1024, .f32⟩
  | .local _ .smem, ⟨0, _⟩ => ⟨S8, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_3 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96_0 : Ref sig .tc := ⟨.hbm, 114, rfl⟩
abbrev main_v96_1 : Ref sig .tc := ⟨.hbm, 115, rfl⟩
abbrev main_v96_2 : Ref sig .tc := ⟨.hbm, 116, rfl⟩
abbrev main_v96_3 : Ref sig .tc := ⟨.hbm, 117, rfl⟩
abbrev main_v96_4 : Ref sig .tc := ⟨.hbm, 118, rfl⟩
abbrev main_v96_5 : Ref sig .tc := ⟨.hbm, 119, rfl⟩
abbrev main_v96_6 : Ref sig .tc := ⟨.hbm, 120, rfl⟩
abbrev main_v96_7 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c4_i32 : BitVec 32 := 4#32
  let arg0 : BitVec 32 := BitVec.ofNat 32 (i 0).val
  let v20 : BitVec 32 := Scalar.muli c4_i32 arg0
  let c0_i32_3 : BitVec 32 := 0#32
  let v21 : BitVec 32 := Scalar.addi v20 c0_i32_3
  let c128_i32_349 : BitVec 32 := 128#32
  let v878 : BitVec 32 := Scalar.muli v21 c128_i32_349
  v878
def k0_off1 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c128_i32_349 : BitVec 32 := 128#32
  let v878 : BitVec 32 := Scalar.muli v21 c128_i32_349
  let v879 : BitVec 32 := v878
  let v894 : Index := Scalar.indexCast v879
  let c0_354 : Index := 0#32
  ![v894.toNat, 0]
def k0_off2 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c128_i32_349 : BitVec 32 := 128#32
  let v878 : BitVec 32 := Scalar.muli v21 c128_i32_349
  let v879 : BitVec 32 := v878
  let v897 : Index := Scalar.indexCast v879
  let c128_355 : Index := 128#32
  ![v897.toNat, 128]
def k0_mult2 (i : grid0.Coords) : BitVec 32 :=
  let c4_i32 : BitVec 32 := 4#32
  let arg0 : BitVec 32 := BitVec.ofNat 32 (i 0).val
  let v20 : BitVec 32 := Scalar.muli c4_i32 arg0
  let c0_i32_3 : BitVec 32 := 0#32
  let v21 : BitVec 32 := Scalar.addi v20 c0_i32_3
  let c1_i32_356 : BitVec 32 := 1#32
  let v899 : BitVec 32 := Scalar.subi v21 c1_i32_356
  let c0_i32_357 : BitVec 32 := 0#32
  let v900 : BitVec 32 := Scalar.maxsi v899 c0_i32_357
  let c128_i32_358 : BitVec 32 := 128#32
  let v901 : BitVec 32 := Scalar.muli v900 c128_i32_358
  v901
def k0_off3 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c1_i32_356 : BitVec 32 := 1#32
  let v899 : BitVec 32 := Scalar.subi v21 c1_i32_356
  let c0_i32_357 : BitVec 32 := 0#32
  let v900 : BitVec 32 := Scalar.maxsi v899 c0_i32_357
  let c128_i32_358 : BitVec 32 := 128#32
  let v901 : BitVec 32 := Scalar.muli v900 c128_i32_358
  let v902 : BitVec 32 := v901
  let v903 : Index := Scalar.indexCast v902
  let c0_359 : Index := 0#32
  ![v903.toNat, 0]
def k0_off4 (i : grid0.Coords) (c0_i32_3 : BitVec 32) : Fin 2 → Nat :=
  let c4_i32 : BitVec 32 := 4#32
  let arg0 : BitVec 32 := BitVec.ofNat 32 (i 0).val
  let v20 : BitVec 32 := Scalar.muli c4_i32 arg0
  let v21 : BitVec 32 := Scalar.addi v20 c0_i32_3
  let c1_i32_356 : BitVec 32 := 1#32
  let v899 : BitVec 32 := Scalar.subi v21 c1_i32_356
  let c0_i32_357 : BitVec 32 := 0#32
  let v900 : BitVec 32 := Scalar.maxsi v899 c0_i32_357
  let c128_i32_358 : BitVec 32 := 128#32
  let v901 : BitVec 32 := Scalar.muli v900 c128_i32_358
  let v902 : BitVec 32 := v901
  let v923 : Index := Scalar.indexCast v902
  let c128_366 : Index := 128#32
  ![v923.toNat, 128]
def k0_mult3 (i : grid0.Coords) : BitVec 32 :=
  let c4_i32_384 : BitVec 32 := 4#32
  let arg0 : BitVec 32 := BitVec.ofNat 32 (i 0).val
  let v964 : BitVec 32 := Scalar.muli c4_i32_384 arg0
  let c1_i32_385 : BitVec 32 := 1#32
  let v965 : BitVec 32 := Scalar.addi v964 c1_i32_385
  let c128_i32_748 : BitVec 32 := 128#32
  let v1822 : BitVec 32 := Scalar.muli v965 c128_i32_748
  v1822
def k0_mult4 (i : grid0.Coords) : BitVec 32 :=
  let c4_i32_384 : BitVec 32 := 4#32
  let arg0 : BitVec 32 := BitVec.ofNat 32 (i 0).val
  let v964 : BitVec 32 := Scalar.muli c4_i32_384 arg0
  let c1_i32_385 : BitVec 32 := 1#32
  let v965 : BitVec 32 := Scalar.addi v964 c1_i32_385
  let c1_i32_756 : BitVec 32 := 1#32
  let v1843 : BitVec 32 := Scalar.subi v965 c1_i32_756
  let c0_i32_757 : BitVec 32 := 0#32
  let v1844 : BitVec 32 := Scalar.maxsi v1843 c0_i32_757
  let c128_i32_758 : BitVec 32 := 128#32
  let v1845 : BitVec 32 := Scalar.muli v1844 c128_i32_758
  v1845
def k0_mult5 (i : grid0.Coords) : BitVec 32 :=
  let c4_i32_784 : BitVec 32 := 4#32
  let arg0 : BitVec 32 := BitVec.ofNat 32 (i 0).val
  let v1908 : BitVec 32 := Scalar.muli c4_i32_784 arg0
  let c2_i32_785 : BitVec 32 := 2#32
  let v1909 : BitVec 32 := Scalar.addi v1908 c2_i32_785
  let c128_i32_1147 : BitVec 32 := 128#32
  let v2766 : BitVec 32 := Scalar.muli v1909 c128_i32_1147
  v2766
def k0_mult6 (i : grid0.Coords) : BitVec 32 :=
  let c4_i32_784 : BitVec 32 := 4#32
  let arg0 : BitVec 32 := BitVec.ofNat 32 (i 0).val
  let v1908 : BitVec 32 := Scalar.muli c4_i32_784 arg0
  let c2_i32_785 : BitVec 32 := 2#32
  let v1909 : BitVec 32 := Scalar.addi v1908 c2_i32_785
  let c1_i32_1155 : BitVec 32 := 1#32
  let v2787 : BitVec 32 := Scalar.subi v1909 c1_i32_1155
  let c0_i32_1156 : BitVec 32 := 0#32
  let v2788 : BitVec 32 := Scalar.maxsi v2787 c0_i32_1156
  let c128_i32_1157 : BitVec 32 := 128#32
  let v2789 : BitVec 32 := Scalar.muli v2788 c128_i32_1157
  v2789
def k0_mult7 (i : grid0.Coords) : BitVec 32 :=
  let c4_i32_1183 : BitVec 32 := 4#32
  let arg0 : BitVec 32 := BitVec.ofNat 32 (i 0).val
  let v2852 : BitVec 32 := Scalar.muli c4_i32_1183 arg0
  let c3_i32_1184 : BitVec 32 := 3#32
  let v2853 : BitVec 32 := Scalar.addi v2852 c3_i32_1184
  let c128_i32_1546 : BitVec 32 := 128#32
  let v3710 : BitVec 32 := Scalar.muli v2853 c128_i32_1546
  v3710
def k0_mult8 (i : grid0.Coords) : BitVec 32 :=
  let c4_i32_1183 : BitVec 32 := 4#32
  let arg0 : BitVec 32 := BitVec.ofNat 32 (i 0).val
  let v2852 : BitVec 32 := Scalar.muli c4_i32_1183 arg0
  let c3_i32_1184 : BitVec 32 := 3#32
  let v2853 : BitVec 32 := Scalar.addi v2852 c3_i32_1184
  let c1_i32_1554 : BitVec 32 := 1#32
  let v3731 : BitVec 32 := Scalar.subi v2853 c1_i32_1554
  let c0_i32_1555 : BitVec 32 := 0#32
  let v3732 : BitVec 32 := Scalar.maxsi v3731 c0_i32_1555
  let c128_i32_1556 : BitVec 32 := 128#32
  let v3733 : BitVec 32 := Scalar.muli v3732 c128_i32_1556
  v3733
def k0_cond6 (i : grid0.Coords) : BitVec 1 :=
  let arg0 : BitVec 32 := BitVec.ofNat 32 (i 0).val
  let c7_i32_1582 : BitVec 32 := 7#32
  let v3796 : BitVec 1 := Scalar.cmpi .eq arg0 c7_i32_1582
  let v3797 : BitVec 32 := Scalar.extui v3796
  let c0_i32_1587 : BitVec 32 := 0#32
  let v3798 : BitVec 1 := Scalar.cmpi .ne v3797 c0_i32_1587
  v3798

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4096x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MixerBwdRefIdeal.lean ====
abbrev S1x4096x1024 : Shape := ⟨3, ![1, 4096, 1024]⟩
abbrev S1x4096 : Shape := ⟨2, ![1, 4096]⟩
abbrev S1x1024x1792 : Shape := ⟨3, ![1, 1024, 1792]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1x1024x4096 : Shape := ⟨3, ![1, 1024, 4096]⟩
abbrev S4096x1024 : Shape := ⟨2, ![4096, 1024]⟩
abbrev S1024x1792 : Shape := ⟨2, ![1024, 1792]⟩
abbrev S4096x1792 : Shape := ⟨2, ![4096, 1792]⟩
abbrev S4096x512 : Shape := ⟨2, ![4096, 512]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S8x128x32x64 : Shape := ⟨4, ![8, 128, 32, 64]⟩
abbrev S8x128x2048 : Shape := ⟨3, ![8, 128, 2048]⟩
abbrev S128x128 : Shape := ⟨2, ![128, 128]⟩
abbrev S1x128x128 : Shape := ⟨3, ![1, 128, 128]⟩
abbrev S8x128x1 : Shape := ⟨3, ![8, 128, 1]⟩
abbrev S8x2048x128 : Shape := ⟨3, ![8, 2048, 128]⟩
abbrev S512 : Shape := ⟨1, ![512]⟩
abbrev S1024x4096 : Shape := ⟨2, ![1024, 4096]⟩
abbrev S4096x4096 : Shape := ⟨2, ![4096, 4096]⟩
abbrev S128x8 : Shape := ⟨2, ![128, 8]⟩

abbrev nBuf : Space → Nat
  | .hbm => 145
  | .vmem => 0
  | .smem => 0
  | _ => 0

abbrev hbmTy0_0 (i : Nat) : BufTy := match i % 128 with
  | 0 => ⟨S1x4096x1024, .f32⟩
  | 1 => ⟨S1x4096, .i32⟩
  | 2 => ⟨S1x1024x1792, .f32⟩
  | 3 => ⟨S1x512, .f32⟩
  | 4 => ⟨S1x512, .f32⟩
  | 5 => ⟨S1x8x128x128, .f32⟩
  | 6 => ⟨S1x8x128, .f32⟩
  | 7 => ⟨S1x8, .f32⟩
  | 8 => ⟨S1x4096x1024, .f32⟩
  | 9 => ⟨S1x1024x4096, .f32⟩
  | 10 => ⟨S1x4096x1024, .f32⟩
  | 11 => ⟨S4096x1024, .f32⟩
  | 12 => ⟨S4096x1024, .f32⟩
  | 13 => ⟨S4096x1024, .f32⟩
  | 14 => ⟨S1024x1792, .f32⟩
  | 15 => ⟨S4096x1792, .f32⟩
  | 16 => ⟨S4096x1024, .f32⟩
  | 17 => ⟨S4096x512, .f32⟩
  | 18 => ⟨S4096x512, .f32⟩
  | 19 => ⟨S8x128x128, .f32⟩
  | 20 => ⟨S8x128, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x512, .f32⟩
  | 45 => ⟨S4096x512, .f32⟩
  | 46 => ⟨S4096x512, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S32x128x8x64, .f32⟩
  | 64 => ⟨S8x128x32x64, .f32⟩
  | 65 => ⟨S8x128x2048, .f32⟩
  | 66 => ⟨S_, .f32⟩
  | 67 => ⟨S128x128, .f32⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .f32⟩
  | 75 => ⟨S128x128, .f32⟩
  | 76 => ⟨S128x128, .f32⟩
  | 77 => ⟨S1x128x128, .f32⟩
  | 78 => ⟨S8x128x128, .f32⟩
  | 79 => ⟨S8x128x128, .f32⟩
  | 80 => ⟨S8x128x2048, .f32⟩
  | 81 => ⟨S8x128x1, .f32⟩
  | 82 => ⟨S8x128x2048, .f32⟩
  | 83 => ⟨S8x128x2048, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S4096x512, .f32⟩
  | 101 => ⟨S8x128x32x64, .f32⟩
  | 102 => ⟨S32x128x8x64, .f32⟩
  | 103 => ⟨S4096x512, .f32⟩
  | 104 => ⟨S4096x512, .f32⟩
  | 105 => ⟨S4096x512, .f32⟩
  | 106 => ⟨S4096x512, .f32⟩
  | 107 => ⟨S32x128x8x64, .f32⟩
  | 108 => ⟨S8x128x32x64, .f32⟩
  | 109 => ⟨S8x128x2048, .f32⟩
  | 110 => ⟨S_, .f32⟩
  | 111 => ⟨S8x128, .f32⟩
  | 112 => ⟨S8x128x1, .f32⟩
  | 113 => ⟨S_, .f32⟩
  | 114 => ⟨S8x128, .f32⟩
  | 115 => ⟨S8x2048x128, .f32⟩
  | 116 => ⟨S8x128x2048, .f32⟩
  | 117 => ⟨S8x128x128, .f32⟩
  | 118 => ⟨S8x128x128, .f32⟩
  | 119 => ⟨S8x128x128, .f32⟩
  | 120 => ⟨S8x128x32x64, .f32⟩
  | 121 => ⟨S32x128x8x64, .f32⟩
  | 122 => ⟨S4096x512, .f32⟩
  | 123 => ⟨S_, .f32⟩
  | 124 => ⟨S512, .f32⟩
  | 125 => ⟨S1x512, .f32⟩
  | 126 => ⟨S4096x512, .f32⟩
  | 127 => ⟨S_, .f32⟩
  | _ => ⟨S1x4096x1024, .f32⟩

abbrev hbmTy0_1 (i : Nat) : BufTy := match i % 128 with
  | 0 => ⟨S512, .f32⟩
  | 1 => ⟨S1x512, .f32⟩
  | 2 => ⟨S4096x1024, .f32⟩
  | 3 => ⟨S4096x1024, .f32⟩
  | 4 => ⟨S1024x4096, .f32⟩
  | 5 => ⟨S4096x4096, .f32⟩
  | 6 => ⟨S_, .f32⟩
  | 7 => ⟨S4096x4096, .f32⟩
  | 8 => ⟨S4096x4096, .f32⟩
  | 9 => ⟨S4096x4096, .f32⟩
  | 10 => ⟨S4096x1024, .f32⟩
  | 11 => ⟨S1024x4096, .f32⟩
  | 12 => ⟨S4096x1024, .f32⟩
  | 13 => ⟨S128x8, .f32⟩
  | 14 => ⟨S_, .i32⟩
  | 15 => ⟨S_, .f32⟩
  | 16 => ⟨S128x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_cst : Ref sig .tc := ⟨.hbm, 74, rfl⟩
abbrev main_call0_v5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call1_cst : Ref sig .tc := ⟨.hbm, 134, rfl⟩
abbrev main_call1_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c : Ref sig .tc := ⟨.hbm, 142, rfl⟩
abbrev main_call2_v0 : Ref sig .tc := ⟨.hbm, 143, rfl⟩
abbrev main_v101 : Ref sig .tc := ⟨.hbm, 144, rfl⟩

abbrev nD : Nat := 1
abbrev τ : Topo := Topo.v7x

variable {F : FTy → Type} [FloatOps F]
-- ==== InProj.lean ====
abbrev S1x4096x1024 : Shape := ⟨3, ![1, 4096, 1024]⟩
abbrev S1x4096 : Shape := ⟨2, ![1, 4096]⟩
abbrev S1x1024x1792 : Shape := ⟨3, ![1, 1024, 1792]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1024 : Shape := ⟨2, ![4096, 1024]⟩
abbrev S1024x1792 : Shape := ⟨2, ![1024, 1792]⟩
abbrev S1792x1024 : Shape := ⟨2, ![1792, 1024]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x512 : Shape := ⟨2, ![4096, 512]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩
abbrev S128x1024 : Shape := ⟨2, ![128, 1024]⟩

abbrev nBuf : Space → Nat
  | .hbm => 41
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x4096, .i32⟩
  | .hbm, ⟨2, _⟩ => ⟨S1x1024x1792, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x1024, .f32⟩
  | .hbm, ⟨25, _⟩ => ⟨S1024x1792, .f32⟩
  | .hbm, ⟨26, _⟩ => ⟨S1792x1024, .f32⟩
  | .hbm, ⟨27, _⟩ => ⟨S1792x1024, .bf16⟩
  | .hbm, ⟨28, _⟩ => ⟨S4096x32, .f32⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S4096x32, .f32⟩
  | .hbm, ⟨33, _⟩ => ⟨S1x4096x1x32, .f32⟩
  | .hbm, ⟨34, _⟩ => ⟨S1x4096x4x32, .f32⟩
  | .hbm, ⟨35, _⟩ => ⟨S4096x128, .f32⟩
  | .hbm, ⟨36, _⟩ => ⟨S4096x512, .f32⟩
  | .hbm, ⟨37, _⟩ => ⟨S4096x512, .f32⟩
  | .hbm, ⟨38, _⟩ => ⟨S4096x512, .bf16⟩
  | .hbm, ⟨39, _⟩ => ⟨S4096x128, .bf16⟩
  | .hbm, ⟨40, _⟩ => ⟨S4096x128, .bf16⟩
  | .local _ .vmem, ⟨0, _⟩ => ⟨S1024x1024, .f32⟩
  | .local _ .vmem, ⟨1, _⟩ => ⟨S1024x1024, .f32⟩
  | .local _ .vmem, ⟨2, _⟩ => ⟨S1792x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S1x4096x1024 : Shape := ⟨3, ![1, 4096, 1024]⟩
abbrev S1x4096 : Shape := ⟨2, ![1, 4096]⟩
abbrev S1x1024x1792 : Shape := ⟨3, ![1, 1024, 1792]⟩
abbrev S4096x1024 : Shape := ⟨2, ![4096, 1024]⟩
abbrev S1024x1792 : Shape := ⟨2, ![1024, 1792]⟩
abbrev S4096x1792 : Shape := ⟨2, ![4096, 1792]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x8x64 : Shape := ⟨3, ![4096, 8, 64]⟩
abbrev S4096x8x32 : Shape := ⟨3, ![4096, 8, 32]⟩
abbrev S4096x2x64 : Shape := ⟨3, ![4096, 2, 64]⟩
abbrev S4096x2x32 : Shape := ⟨3, ![4096, 2, 32]⟩

abbrev nBuf : Space → Nat
  | .hbm => 69
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096, .i32⟩
  | .hbm, ⟨2, _⟩ => ⟨S1x1024x1792, .f32⟩
  | .hbm, ⟨3, _⟩ => ⟨S4096x1024, .f32⟩
  | .hbm, ⟨4, _⟩ => ⟨S1024x1792, .f32⟩
  | .hbm, ⟨5, _⟩ => ⟨S4096x1792, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .i32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x1x32, .f32⟩
  | .hbm, ⟨34, _⟩ => ⟨S4096x32, .f32⟩
  | .hbm, ⟨35, _⟩ => ⟨S4096x1x32, .f32⟩
  | .hbm, ⟨36, _⟩ => ⟨S4096x8x64, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x64, .f32⟩
  | .hbm, ⟨50, _⟩ => ⟨S4096x512, .f32⟩
  | .hbm, ⟨51, _⟩ => ⟨S4096x512, .bf16⟩
  | .hbm, ⟨52, _⟩ => ⟨S4096x2x64, .f32⟩
  | .hbm, ⟨53, _⟩ => ⟨S4096x2x32, .f32⟩
  | .hbm, ⟨54, _⟩ => ⟨S4096x2x32, .f32⟩
  | .hbm, ⟨55, _⟩ => ⟨S4096x2x32, .f32⟩
  | .hbm, ⟨56, _⟩ => ⟨S4096x2x32, .f32⟩
  | .hbm, ⟨57, _⟩ => ⟨S4096x2x32, .f32⟩
  | .hbm, ⟨58, _⟩ => ⟨S4096x2x32, .f32⟩
  | .hbm, ⟨59, _⟩ => ⟨S4096x2x32, .f32⟩
  | .hbm, ⟨60, _⟩ => ⟨S4096x2x32, .f32⟩
  | .hbm, ⟨61, _⟩ => ⟨S4096x2x32, .f32⟩
  | .hbm, ⟨62, _⟩ => ⟨S4096x2x32, .f32⟩
  | .hbm, ⟨63, _⟩ => ⟨S4096x2x32, .f32⟩
  | .hbm, ⟨64, _⟩ => ⟨S4096x2x32, .f32⟩
  | .hbm, ⟨65, _⟩ => ⟨S4096x2x64, .f32⟩
  | .hbm, ⟨66, _⟩ => ⟨S4096x128, .f32⟩
  | .hbm, ⟨67, _⟩ => ⟨S4096x128, .bf16⟩
  | .hbm, ⟨68, _⟩ => ⟨S4096x128, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩

abbrev nD : Nat := 1
abbrev τ : Topo := Topo.v7x

variable {F : FTy → Type} [FloatOps F]
-- ==== MixerFwd.lean ====
abbrev S1x4096x1024 : Shape := ⟨3, ![1, 4096, 1024]⟩
abbrev S1x4096 : Shape := ⟨2, ![1, 4096]⟩
abbrev S1x1024x1792 : Shape := ⟨3, ![1, 1024, 1792]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S4096x1024 : Shape := ⟨2, ![4096, 1024]⟩
abbrev S1024x1792 : Shape := ⟨2, ![1024, 1792]⟩
abbrev S4096x1792 : Shape := ⟨2, ![4096, 1792]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x8x64 : Shape := ⟨3, ![4096, 8, 64]⟩
abbrev S8x4096x64 : Shape := ⟨3, ![8, 4096, 64]⟩
abbrev S8x4096x32 : Shape := ⟨3, ![8, 4096, 32]⟩
abbrev S1x4096x32 : Shape := ⟨3, ![1, 4096, 32]⟩
abbrev S4096x2x64 : Shape := ⟨3, ![4096, 2, 64]⟩
abbrev S2x4096x64 : Shape := ⟨3, ![2, 4096, 64]⟩
abbrev S2x4096x32 : Shape := ⟨3, ![2, 4096, 32]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x128x128 : Shape := ⟨3, ![8, 128, 128]⟩
abbrev S8 : Shape := ⟨1, ![8]⟩
abbrev S512x512 : Shape := ⟨2, ![512, 512]⟩
abbrev S512x128 : Shape := ⟨2, ![512, 128]⟩
abbrev S128x128 : Shape := ⟨2, ![128, 128]⟩
abbrev S512x1024 : Shape := ⟨2, ![512, 1024]⟩
abbrev S4x128x256 : Shape := ⟨3, ![4, 128, 256]⟩
abbrev S1x128x128 : Shape := ⟨3, ![1, 128, 128]⟩
abbrev S128x256 : Shape := ⟨2, ![128, 256]⟩
abbrev S1x128x256 : Shape := ⟨3, ![1, 128, 256]⟩
abbrev S1 : Shape := ⟨1, ![1]⟩
abbrev S256x128 : Shape := ⟨2, ![256, 128]⟩
abbrev S128 : Shape := ⟨1, ![128]⟩
abbrev S128x1 : Shape := ⟨2, ![128, 1]⟩

abbrev nBuf : Space → Nat
  | .hbm => 93
  | .vmem => 21
  | .smem => 1
  | _ => 0

abbrev bufTy : (tb : Table) → Fin (tcTables nBuf tb) → BufTy
  | .hbm, ⟨0, _⟩ => ⟨S1x4096x1024, .f32⟩
  | .hbm, ⟨1, _⟩ => ⟨S1x4096, .i32⟩
  | .hbm, ⟨2, _⟩ => ⟨S1x1024x1792, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x8, .f32⟩
  | .hbm, ⟨8, _⟩ => ⟨S4096x1024, .f32⟩
  | .hbm, ⟨9, _⟩ => ⟨S4096x1024, .bf16⟩
  | .hbm, ⟨10, _⟩ => ⟨S1024x1792, .f32⟩
  | .hbm, ⟨11, _⟩ => ⟨S1024x1792, .bf16⟩
  | .hbm, ⟨12, _⟩ => ⟨S4096x1792, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x128, .f32⟩
  | .hbm, ⟨17, _⟩ => ⟨S4096x128, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .i32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x8x64, .f32⟩
  | .hbm, ⟨42, _⟩ => ⟨S8x4096x64, .f32⟩
  | .hbm, ⟨43, _⟩ => ⟨S8x4096x32, .f32⟩
  | .hbm, ⟨44, _⟩ => ⟨S8x4096x32, .f32⟩
  | .hbm, ⟨45, _⟩ => ⟨S1x4096x32, .f32⟩
  | .hbm, ⟨46, _⟩ => ⟨S8x4096x32, .f32⟩
  | .hbm, ⟨47, _⟩ => ⟨S8x4096x32, .f32⟩
  | .hbm, ⟨48, _⟩ => ⟨S1x4096x32, .f32⟩
  | .hbm, ⟨49, _⟩ => ⟨S8x4096x32, .f32⟩
  | .hbm, ⟨50, _⟩ => ⟨S8x4096x32, .f32⟩
  | .hbm, ⟨51, _⟩ => ⟨S8x4096x32, .f32⟩
  | .hbm, ⟨52, _⟩ => ⟨S1x4096x32, .f32⟩
  | .hbm, ⟨53, _⟩ => ⟨S8x4096x32, .f32⟩
  | .hbm, ⟨54, _⟩ => ⟨S8x4096x32, .f32⟩
  | .hbm, ⟨55, _⟩ => ⟨S1x4096x32, .f32⟩
  | .hbm, ⟨56, _⟩ => ⟨S8x4096x32, .f32⟩
  | .hbm, ⟨57, _⟩ => ⟨S8x4096x32, .f32⟩
  | .hbm, ⟨58, _⟩ => ⟨S8x4096x32, .f32⟩
  | .hbm, ⟨59, _⟩ => ⟨S8x4096x64, .f32⟩
  | .hbm, ⟨60, _⟩ => ⟨S4096x8x64, .f32⟩
  | .hbm, ⟨61, _⟩ => ⟨S4096x512, .f32⟩
  | .hbm, ⟨62, _⟩ => ⟨S4096x2x64, .f32⟩
  | .hbm, ⟨63, _⟩ => ⟨S2x4096x64, .f32⟩
  | .hbm, ⟨64, _⟩ => ⟨S2x4096x32, .f32⟩
  | .hbm, ⟨65, _⟩ => ⟨S2x4096x32, .f32⟩
  | .hbm, ⟨66, _⟩ => ⟨S1x4096x32, .f32⟩
  | .hbm, ⟨67, _⟩ => ⟨S2x4096x32, .f32⟩
  | .hbm, ⟨68, _⟩ => ⟨S2x4096x32, .f32⟩
  | .hbm, ⟨69, _⟩ => ⟨S1x4096x32, .f32⟩
  | .hbm, ⟨70, _⟩ => ⟨S2x4096x32, .f32⟩
  | .hbm, ⟨71, _⟩ => ⟨S2x4096x32, .f32⟩
  | .hbm, ⟨72, _⟩ => ⟨S2x4096x32, .f32⟩
  | .hbm, ⟨73, _⟩ => ⟨S1x4096x32, .f32⟩
  | .hbm, ⟨74, _⟩ => ⟨S2x4096x32, .f32⟩
  | .hbm, ⟨75, _⟩ => ⟨S2x4096x32, .f32⟩
  | .hbm, ⟨76, _⟩ => ⟨S1x4096x32, .f32⟩
  | .hbm, ⟨77, _⟩ => ⟨S2x4096x32, .f32⟩
  | .hbm, ⟨78, _⟩ => ⟨S2x4096x32, .f32⟩
  | .hbm, ⟨79, _⟩ => ⟨S2x4096x32, .f32⟩
  | .hbm, ⟨80, _⟩ => ⟨S2x4096x64, .f32⟩
  | .hbm, ⟨81, _⟩ => ⟨S4096x2x64, .f32⟩
  | .hbm, ⟨82, _⟩ => ⟨S4096x128, .f32⟩
  | .hbm, ⟨83, _⟩ => ⟨S8x128, .f32⟩
  | .hbm, ⟨84, _⟩ => ⟨S128x8, .f32⟩
  | .hbm, ⟨85, _⟩ => ⟨S128x8x64, .f32⟩
  | .hbm, ⟨86, _⟩ => ⟨S128x512, .f32⟩
  | .hbm, ⟨87, _⟩ => ⟨S4096x512, .bf16⟩
  | .hbm, ⟨88, _⟩ => ⟨S4096x128, .bf16⟩
  | .hbm, ⟨89, _⟩ => ⟨S4096x128, .bf16⟩
  | .hbm, ⟨90, _⟩ => ⟨S8x128x128, .f32⟩
  | .hbm, ⟨91, _⟩ => ⟨S8, .f32⟩
  | .hbm, ⟨92, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S1x512, .f32⟩
  | .local _ .vmem, ⟨15, _⟩ => ⟨S1x512, .f32⟩
  | .local _ .vmem, ⟨16, _⟩ => ⟨S8x128x128, .f32⟩
  | .local _ .vmem, ⟨17, _⟩ => ⟨S128x512, .f32⟩
  | .local _ .vmem, ⟨18, _⟩ => ⟨S512x1024, .bf16⟩
  | .local _ .vmem, ⟨19, _⟩ => ⟨S512x1024, .bf16⟩
  | .local _ .vmem, ⟨20, _⟩ => ⟨S4x128x256, .bf16⟩
  | .local _ .smem, ⟨0, _⟩ => ⟨S8, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerFwdRefIdeal.lean ====
abbrev S1x4096x1024 : Shape := ⟨3, ![1, 4096, 1024]⟩
abbrev S1x4096 : Shape := ⟨2, ![1, 4096]⟩
abbrev S1x1024x1792 : Shape := ⟨3, ![1, 1024, 1792]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S4096x1024 : Shape := ⟨2, ![4096, 1024]⟩
abbrev S1024x1792 : Shape := ⟨2, ![1024, 1792]⟩
abbrev S4096x1792 : Shape := ⟨2, ![4096, 1792]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x128x128 : Shape := ⟨3, ![8, 128, 128]⟩
abbrev S8x128 : Shape := ⟨2, ![8, 128]⟩
abbrev S32x128x8x64 : Shape := ⟨4, ![32, 128, 8, 64]⟩
abbrev S8x128x32x64 : Shape := ⟨4, ![8, 128, 32, 64]⟩
abbrev S8x128x2048 : Shape := ⟨3, ![8, 128, 2048]⟩
abbrev S128x128 : Shape := ⟨2, ![128, 128]⟩
abbrev S1x128x128 : Shape := ⟨3, ![1, 128, 128]⟩
abbrev S8x128x1 : Shape := ⟨3, ![8, 128, 1]⟩
abbrev S8 : Shape := ⟨1, ![8]⟩
abbrev S4096x8x64 : Shape := ⟨3, ![4096, 8, 64]⟩
abbrev S8x4096x64 : Shape := ⟨3, ![8, 4096, 64]⟩
abbrev S8x4096x32 : Shape := ⟨3, ![8, 4096, 32]⟩
abbrev S1x4096x32 : Shape := ⟨3, ![1, 4096, 32]⟩
abbrev S4096x2x64 : Shape := ⟨3, ![4096, 2, 64]⟩
abbrev S2x4096x64 : Shape := ⟨3, ![2, 4096, 64]⟩
abbrev S2x4096x32 : Shape := ⟨3, ![2, 4096, 32]⟩
abbrev S2x4x32x128x64 : Shape := ⟨5, ![2, 4, 32, 128, 64]⟩
abbrev S2x32x128x64 : Shape := ⟨4, ![2, 32, 128, 64]⟩
abbrev S2x31x128x64 : Shape := ⟨4, ![2, 31, 128, 64]⟩
abbrev S2x32x256x64 : Shape := ⟨4, ![2, 32, 256, 64]⟩
abbrev S2x32x256x4x128 : Shape := ⟨5, ![2, 32, 256, 4, 128]⟩
abbrev S2x4x32x128x256 : Shape := ⟨5, ![2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x1x32x128x256 : Shape := ⟨5, ![1, 1, 32, 128, 256]⟩
abbrev S2x4x1x1x1 : Shape := ⟨5, ![2, 4, 1, 1, 1]⟩
abbrev S2x4x32x128x1 : Shape := ⟨5, ![2, 4, 32, 128, 1]⟩
abbrev S2x4x32x128x257 : Shape := ⟨5, ![2, 4, 32, 128, 257]⟩
abbrev S2x4x32x128 : Shape := ⟨4, ![2, 4, 32, 128]⟩
abbrev S2x32x64x4x128 : Shape := ⟨5, ![2, 32, 64, 4, 128]⟩

abbrev nBuf : Space → Nat
  | .hbm => 252
  | .vmem => 0
  | .smem => 0
  | _ => 0

abbrev hbmTy0_0 (i : Nat) : BufTy := match i % 128 with
  | 0 => ⟨S1x4096x1024, .f32⟩
  | 1 => ⟨S1x4096, .i32⟩
  | 2 => ⟨S1x1024x1792, .f32⟩
  | 3 => ⟨S1x512, .f32⟩
  | 4 => ⟨S1x512, .f32⟩
  | 5 => ⟨S1x8x128x128, .f32⟩
  | 6 => ⟨S1x8x128, .f32⟩
  | 7 => ⟨S1x8, .f32⟩
  | 8 => ⟨S4096x1024, .f32⟩
  | 9 => ⟨S1024x1792, .f32⟩
  | 10 => ⟨S4096x1792, .f32⟩
  | 11 => ⟨S4096x512, .f32⟩
  | 12 => ⟨S4096x512, .f32⟩
  | 13 => ⟨S4096x512, .f32⟩
  | 14 => ⟨S4096x128, .f32⟩
  | 15 => ⟨S4096x128, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096, .i32⟩
  | 31 => ⟨S4096, .f32⟩
  | 32 => ⟨S4096x1, .f32⟩
  | 33 => ⟨S1x32, .f32⟩
  | 34 => ⟨S4096x32, .f32⟩
  | 35 => ⟨S4096x32, .f32⟩
  | 36 => ⟨S4096x32, .f32⟩
  | 37 => ⟨S8x128x128, .f32⟩
  | 38 => ⟨S8x128, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S4096x512, .f32⟩
  | 63 => ⟨S4096x512, .f32⟩
  | 64 => ⟨S4096x512, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S32x128x8x64, .f32⟩
  | 82 => ⟨S8x128x32x64, .f32⟩
  | 83 => ⟨S8x128x2048, .f32⟩
  | 84 => ⟨S_, .f32⟩
  | 85 => ⟨S128x128, .f32⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .f32⟩
  | 93 => ⟨S128x128, .f32⟩
  | 94 => ⟨S128x128, .f32⟩
  | 95 => ⟨S1x128x128, .f32⟩
  | 96 => ⟨S8x128x128, .f32⟩
  | 97 => ⟨S8x128x128, .f32⟩
  | 98 => ⟨S8x128x2048, .f32⟩
  | 99 => ⟨S8x128x1, .f32⟩
  | 100 => ⟨S8x128x2048, .f32⟩
  | 101 => ⟨S8x128x2048, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S_, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S8x128x32x64, .f32⟩
  | 120 => ⟨S32x128x8x64, .f32⟩
  | 121 => ⟨S4096x512, .f32⟩
  | 122 => ⟨S4096x512, .f32⟩
  | 123 => ⟨S4096x32, .f32⟩
  | 124 => ⟨S4096x32, .f32⟩
  | 125 => ⟨S8, .f32⟩
  | 126 => ⟨S4096x8x64, .f32⟩
  | 127 => ⟨S8x4096x64, .f32⟩
  | _ => ⟨S1x4096x1024, .f32⟩

abbrev hbmTy0_1 (i : Nat) : BufTy := match i % 128 with
  | 0 => ⟨S8x4096x32, .f32⟩
  | 1 => ⟨S8x4096x32, .f32⟩
  | 2 => ⟨S1x4096x32, .f32⟩
  | 3 => ⟨S8x4096x32, .f32⟩
  | 4 => ⟨S8x4096x32, .f32⟩
  | 5 => ⟨S1x4096x32, .f32⟩
  | 6 => ⟨S8x4096x32, .f32⟩
  | 7 => ⟨S8x4096x32, .f32⟩
  | 8 => ⟨S8x4096x32, .f32⟩
  | 9 => ⟨S1x4096x32, .f32⟩
  | 10 => ⟨S8x4096x32, .f32⟩
  | 11 => ⟨S8x4096x32, .f32⟩
  | 12 => ⟨S1x4096x32, .f32⟩
  | 13 => ⟨S8x4096x32, .f32⟩
  | 14 => ⟨S8x4096x32, .f32⟩
  | 15 => ⟨S8x4096x32, .f32⟩
  | 16 => ⟨S8x4096x64, .f32⟩
  | 17 => ⟨S4096x2x64, .f32⟩
  | 18 => ⟨S2x4096x64, .f32⟩
  | 19 => ⟨S2x4096x32, .f32⟩
  | 20 => ⟨S2x4096x32, .f32⟩
  | 21 => ⟨S1x4096x32, .f32⟩
  | 22 => ⟨S2x4096x32, .f32⟩
  | 23 => ⟨S2x4096x32, .f32⟩
  | 24 => ⟨S1x4096x32, .f32⟩
  | 25 => ⟨S2x4096x32, .f32⟩
  | 26 => ⟨S2x4096x32, .f32⟩
  | 27 => ⟨S2x4096x32, .f32⟩
  | 28 => ⟨S1x4096x32, .f32⟩
  | 29 => ⟨S2x4096x32, .f32⟩
  | 30 => ⟨S2x4096x32, .f32⟩
  | 31 => ⟨S1x4096x32, .f32⟩
  | 32 => ⟨S2x4096x32, .f32⟩
  | 33 => ⟨S2x4096x32, .f32⟩
  | 34 => ⟨S2x4096x32, .f32⟩
  | 35 => ⟨S2x4096x64, .f32⟩
  | 36 => ⟨S4096x2x64, .f32⟩
  | 37 => ⟨S2x4096x64, .f32⟩
  | 38 => ⟨S2x4x32x128x64, .f32⟩
  | 39 => ⟨S2x32x128x64, .f32⟩
  | 40 => ⟨S2x31x128x64, .f32⟩
  | 41 => ⟨S_, .i32⟩
  | 42 => ⟨S_, .f32⟩
  | 43 => ⟨S2x32x128x64, .f32⟩
  | 44 => ⟨S2x32x256x64, .f32⟩
  | 45 => ⟨S2x32x256x4x128, .f32⟩
  | 46 => ⟨S2x4x32x128x256, .f32⟩
  | 47 => ⟨S_, .f32⟩
  | 48 => ⟨S2x4x32x128x256, .f32⟩
  | 49 => ⟨S2x4x32x128x256, .f32⟩
  | 50 => ⟨S128, .i32⟩
  | 51 => ⟨S128x1, .i32⟩
  | 52 => ⟨S_, .i32⟩
  | 53 => ⟨S128x1, .i32⟩
  | 54 => ⟨S128x1, .i32⟩
  | 55 => ⟨S256, .i32⟩
  | 56 => ⟨S1x256, .i32⟩
  | 57 => ⟨S128x256, .i32⟩
  | 58 => ⟨S128x256, .i32⟩
  | 59 => ⟨S128x256, .i32⟩
  | 60 => ⟨S32, .i32⟩
  | 61 => ⟨S32x1x1, .i32⟩
  | 62 => ⟨S_, .i32⟩
  | 63 => ⟨S32x1x1, .i32⟩
  | 64 => ⟨S32x1x1, .i32⟩
  | 65 => ⟨S256, .i32⟩
  | 66 => ⟨S1x1x256, .i32⟩
  | 67 => ⟨S32x1x256, .i32⟩
  | 68 => ⟨S32x1x256, .i32⟩
  | 69 => ⟨S32x1x256, .i32⟩
  | 70 => ⟨S_, .i32⟩
  | 71 => ⟨S32x1x256, .i32⟩
  | 72 => ⟨S32x1x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S1x128x256, .i1⟩
  | 81 => ⟨S_, .i32⟩
  | 82 => ⟨S32x1x256, .i32⟩
  | 83 => ⟨S32x1x256, .i1⟩
  | 84 => ⟨S32x128x256, .i1⟩
  | 85 => ⟨S32x128x256, .i1⟩
  | 86 => ⟨S32x128x256, .i1⟩
  | 87 => ⟨S1x1x32x128x256, .i1⟩
  | 88 => ⟨S_, .f32⟩
  | 89 => ⟨S_, .f32⟩
  | 90 => ⟨S2x4x32x128x256, .i1⟩
  | 91 => ⟨S2x4x32x128x256, .f32⟩
  | 92 => ⟨S2x4x32x128x256, .f32⟩
  | 93 => ⟨S2x4x1x1x1, .f32⟩
  | 94 => ⟨S2x4x32x128x1, .f32⟩
  | 95 => ⟨S2x4x32x128x257, .f32⟩
  | 96 => ⟨S_, .f32⟩
  | 97 => ⟨S2x4x32x128, .f32⟩
  | 98 => ⟨S_, .f32⟩
  | 99 => ⟨S2x4x32x128, .f32⟩
  | 100 => ⟨S2x4x32x128, .f32⟩
  | 101 => ⟨S2x4x32x128x1, .f32⟩
  | 102 => ⟨S2x4x32x128x257, .f32⟩
  | 103 => ⟨S2x4x32x128x257, .f32⟩
  | 104 => ⟨S2x4x32x128x257, .f32⟩
  | 105 => ⟨S_, .f32⟩
  | 106 => ⟨S2x4x32x128, .f32⟩
  | 107 => ⟨S2x4x32x128x1, .f32⟩
  | 108 => ⟨S2x4x32x128x257, .f32⟩
  | 109 => ⟨S2x4x32x128x257, .f32⟩
  | 110 => ⟨S2x4x32x128x256, .f32⟩
  | 111 => ⟨S2x32x128x64, .f32⟩
  | 112 => ⟨S2x31x128x64, .f32⟩
  | 113 => ⟨S_, .i32⟩
  | 114 => ⟨S_, .f32⟩
  | 115 => ⟨S2x32x128x64, .f32⟩
  | 116 => ⟨S2x32x256x64, .f32⟩
  | 117 => ⟨S2x32x64x4x128, .f32⟩
  | 118 => ⟨S2x4x32x128x64, .f32⟩
  | 119 => ⟨S8x4096x64, .f32⟩
  | 120 => ⟨S4096x8x64, .f32⟩
  | 121 => ⟨S4096x512, .f32⟩
  | 122 => ⟨S4096x1024, .f32⟩
  | 123 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_cst : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c : Ref sig .tc := ⟨.hbm, 169, rfl⟩
abbrev main_call1_v0 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_17 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_c_18 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_19 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_c_20 : Ref sig .tc := ⟨.hbm, 198, rfl⟩
abbrev main_v159 : Ref sig .tc := ⟨.hbm, 199, rfl⟩
abbrev main_v160 : Ref sig .tc := ⟨.hbm, 200, rfl⟩
abbrev main_c_21 : Ref sig .tc := ⟨.hbm, 201, rfl⟩
abbrev main_v161 : Ref sig .tc := ⟨.hbm, 202, rfl⟩
abbrev main_v162 : Ref sig .tc := ⟨.hbm, 203, rfl⟩
abbrev main_c_22 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_c_23 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_24 : Ref sig .tc := ⟨.hbm, 216, rfl⟩
abbrev main_call2_v0 : Ref sig .tc := ⟨.hbm, 217, rfl⟩
abbrev main_call2_v1 : Ref sig .tc := ⟨.hbm, 218, rfl⟩
abbrev main_call2_v2 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_25 : Ref sig .tc := ⟨.hbm, 224, rfl⟩
abbrev main_v177 : Ref sig .tc := ⟨.hbm, 225, rfl⟩
abbrev main_cst_26 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_27 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_c_28 : Ref sig .tc := ⟨.hbm, 241, rfl⟩
abbrev main_call3_v0 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩

abbrev nD : Nat := 1
abbrev τ : Topo := Topo.v7x

variable {F : FTy → Type} [FloatOps F]
-- ==== GradWOut.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradWOutRefIdeal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradX.lean ====
abbrev S1x4096x1024 : Shape := ⟨3, ![1, 4096, 1024]⟩
abbrev S1x1024x1792 : Shape := ⟨3, ![1, 1024, 1792]⟩
abbrev S4096x1536 : Shape := ⟨2, ![4096, 1536]⟩
abbrev S4096x256 : Shape := ⟨2, ![4096, 256]⟩
abbrev S4096x1024 : Shape := ⟨2, ![4096, 1024]⟩
abbrev S1024x1792 : Shape := ⟨2, ![1024, 1792]⟩
abbrev S1792x1024 : Shape := ⟨2, ![1792, 1024]⟩
abbrev S1024x1536 : Shape := ⟨2, ![1024, 1536]⟩
abbrev S1024x256 : Shape := ⟨2, ![1024, 256]⟩
abbrev S1024x1024 : Shape := ⟨2, ![1024, 1024]⟩
abbrev S1536x1024 : Shape := ⟨2, ![1536, 1024]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S4096x1536, .f32⟩
  | .hbm, ⟨3, _⟩ => ⟨S4096x256, .f32⟩
  | .hbm, ⟨4, _⟩ => ⟨S4096x1024, .f32⟩
  | .hbm, ⟨5, _⟩ => ⟨S4096x1536, .bf16⟩
  | .hbm, ⟨6, _⟩ => ⟨S1024x1792, .f32⟩
  | .hbm, ⟨7, _⟩ => ⟨S1792x1024, .f32⟩
  | .hbm, ⟨8, _⟩ => ⟨S1792x1024, .bf16⟩
  | .hbm, ⟨9, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | .local _ .vmem, ⟨6, _⟩ => ⟨S1792x1024, .bf16⟩
  | .local _ .vmem, ⟨7, _⟩ => ⟨S1024x1024, .f32⟩
  | .local _ .vmem, ⟨8, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GradXRefIdeal.lean ====
abbrev S1x4096x1024 : Shape := ⟨3, ![1, 4096, 1024]⟩
abbrev S1x1024x1792 : Shape := ⟨3, ![1, 1024, 1792]⟩
abbrev S4096x1536 : Shape := ⟨2, ![4096, 1536]⟩
abbrev S4096x256 : Shape := ⟨2, ![4096, 256]⟩
abbrev S4096x1024 : Shape := ⟨2, ![4096, 1024]⟩
abbrev S1024x1792 : Shape := ⟨2, ![1024, 1792]⟩
abbrev S4096x1792 : Shape := ⟨2, ![4096, 1792]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S4096x1536, .f32⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S1024x1792, .f32⟩
  | .hbm, ⟨7, _⟩ => ⟨S4096x1792, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1792, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Adamw.lean ====
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwWOut.lean ====
abbrev S1x256x1024 : Shape := ⟨3, ![1, 256, 1024]⟩
abbrev S256x1024 : Shape := ⟨2, ![256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwWOutRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwWIn.lean ====
abbrev S1x1024x448 : Shape := ⟨3, ![1, 1024, 448]⟩
abbrev S448x1024 : Shape := ⟨2, ![448, 1024]⟩
abbrev S1024x448 : Shape := ⟨2, ![1024, 448]⟩

abbrev nBuf : Space → Nat
  | .hbm => 14
  | .vmem => 8
  | .smem => 0
  | _ => 0

abbrev bufTy : (tb : Table) → Fin (tcTables nBuf tb) → BufTy
  | .hbm, ⟨0, _⟩ => ⟨S1x1024x448, .f32⟩
  | .hbm, ⟨1, _⟩ => ⟨S448x1024, .f32⟩
  | .hbm, ⟨2, _⟩ => ⟨S1x1024x448, .f32⟩
  | .hbm, ⟨3, _⟩ => ⟨S1x1024x448, .f32⟩
  | .hbm, ⟨4, _⟩ => ⟨S1024x448, .f32⟩
  | .hbm, ⟨5, _⟩ => ⟨S448x1024, .f32⟩
  | .hbm, ⟨6, _⟩ => ⟨S1024x448, .f32⟩
  | .hbm, ⟨7, _⟩ => ⟨S448x1024, .f32⟩
  | .hbm, ⟨8, _⟩ => ⟨S1024x448, .f32⟩
  | .hbm, ⟨9, _⟩ => ⟨S448x1024, .f32⟩
  | .hbm, ⟨10, _⟩ => ⟨S448x1024, .f32⟩
  | .hbm, ⟨11, _⟩ => ⟨S448x1024, .f32⟩
  | .hbm, ⟨12, _⟩ => ⟨S448x1024, .f32⟩
  | .hbm, ⟨13, _⟩ => ⟨S448x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | .local _ .vmem, ⟨7, _⟩ => ⟨S448x1024, .f32⟩
  | _, _ => ⟨S1x1024x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S448x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwWInRefIdeal.lean ====
abbrev S1x1024x448 : Shape := ⟨3, ![1, 1024, 448]⟩
abbrev S448x1024 : Shape := ⟨2, ![448, 1024]⟩
abbrev S1024x448 : Shape := ⟨2, ![1024, 448]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1x1024x448, .f32⟩
  | .hbm, ⟨1, _⟩ => ⟨S448x1024, .f32⟩
  | .hbm, ⟨2, _⟩ => ⟨S1x1024x448, .f32⟩
  | .hbm, ⟨3, _⟩ => ⟨S1x1024x448, .f32⟩
  | .hbm, ⟨4, _⟩ => ⟨S1024x448, .f32⟩
  | .hbm, ⟨5, _⟩ => ⟨S1x1024x448, .f32⟩
  | .hbm, ⟨6, _⟩ => ⟨S1024x448, .f32⟩
  | .hbm, ⟨7, _⟩ => ⟨S1024x448, .f32⟩
  | .hbm, ⟨8, _⟩ => ⟨S1024x448, .f32⟩
  | .hbm, ⟨9, _⟩ => ⟨S1024x448, .f32⟩
  | .hbm, ⟨10, _⟩ => ⟨S_, .f32⟩
  | .hbm, ⟨11, _⟩ => ⟨S1024x448, .f32⟩
  | .hbm, ⟨12, _⟩ => ⟨S1024x448, .f32⟩
  | .hbm, ⟨13, _⟩ => ⟨S_, .f32⟩
  | .hbm, ⟨14, _⟩ => ⟨S1024x448, .f32⟩
  | .hbm, ⟨15, _⟩ => ⟨S1024x448, .f32⟩
  | .hbm, ⟨16, _⟩ => ⟨S1024x448, .f32⟩
  | .hbm, ⟨17, _⟩ => ⟨S_, .f32⟩
  | .hbm, ⟨18, _⟩ => ⟨S1024x448, .f32⟩
  | .hbm, ⟨19, _⟩ => ⟨S1024x448, .f32⟩
  | .hbm, ⟨20, _⟩ => ⟨S1024x448, .f32⟩
  | .hbm, ⟨21, _⟩ => ⟨S_, .f32⟩
  | .hbm, ⟨22, _⟩ => ⟨S1024x448, .f32⟩
  | .hbm, ⟨23, _⟩ => ⟨S1024x448, .f32⟩
  | .hbm, ⟨24, _⟩ => ⟨S1024x448, .f32⟩
  | .hbm, ⟨25, _⟩ => ⟨S_, .f32⟩
  | .hbm, ⟨26, _⟩ => ⟨S1024x448, .f32⟩
  | .hbm, ⟨27, _⟩ => ⟨S1024x448, .f32⟩
  | .hbm, ⟨28, _⟩ => ⟨S_, .f32⟩
  | .hbm, ⟨29, _⟩ => ⟨S1024x448, .f32⟩
  | .hbm, ⟨30, _⟩ => ⟨S1024x448, .f32⟩
  | .hbm, ⟨31, _⟩ => ⟨S1024x448, .f32⟩
  | .hbm, ⟨32, _⟩ => ⟨S_, .f32⟩
  | .hbm, ⟨33, _⟩ => ⟨S1024x448, .f32⟩
  | .hbm, ⟨34, _⟩ => ⟨S1024x448, .f32⟩
  | .hbm, ⟨35, _⟩ => ⟨S1024x448, .f32⟩
  | .hbm, ⟨36, _⟩ => ⟨S_, .f32⟩
  | .hbm, ⟨37, _⟩ => ⟨S1024x448, .f32⟩
  | .hbm, ⟨38, _⟩ => ⟨S1024x448, .f32⟩
  | .hbm, ⟨39, _⟩ => ⟨S1024x448, .f32⟩
  | .hbm, ⟨40, _⟩ => ⟨S_, .f32⟩
  | .hbm, ⟨41, _⟩ => ⟨S1024x448, .f32⟩
  | .hbm, ⟨42, _⟩ => ⟨S1024x448, .f32⟩
  | .hbm, ⟨43, _⟩ => ⟨S448x1024, .f32⟩
  | .hbm, ⟨44, _⟩ => ⟨S448x1024, .f32⟩
  | .hbm, ⟨45, _⟩ => ⟨S448x1024, .f32⟩
  | .hbm, ⟨46, _⟩ => ⟨S448x1024, .f32⟩
  | _, _ => ⟨S1x1024x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Reals.lean ====
/-
  Arrays of finite values. Over the ideal floats an array holds extended reals; when every element is finite the array is
  the coercion (`up1`, `up2`, `up3`) of a real array, and each vector operation of finite arrays is the coercion of the
  same operation on real arrays. The lemmas here push the coercion outwards through every operation that the kernels and
  their references use, so that a computation on finite arrays becomes one equation between real functions.
-/
module

public import Idealize.ShloMosaic.Lib.Pipeline.ValueKit.Acc
public import Idealize.ShloMosaic.Lib.Pipeline.ValueKit.Tiles
public import Idealize.ShloMosaic.Lib.Pointwise
public import Idealize.ShloMosaic.Lib.Pipeline.Value
public import Idealize.ShloMosaic.PureOps.Ideal.Laws
public import Mathlib.Tactic.Rify
public import Idealize.ShloMosaic.Lib.Pipeline.ReadBack

@[expose] public section

noncomputable section

namespace Cert.Reals

open Idealize.ShloMosaic Idealize.SL.Sem

/-- A finite vector as an ideal array. -/
def up1 {n : ℕ} {φ : FTy} (a : Fin n → ℝ) : FVec Ideal ⟨1, ![n]⟩ φ := fun i => ((a (i 0) : ℝ) : EReal)
/-- A finite matrix as an ideal array. -/
def up2 {n m : ℕ} {φ : FTy} (a : Fin n → Fin m → ℝ) : FVec Ideal ⟨2, ![n, m]⟩ φ := fun i => ((a (i 0) (i 1) : ℝ) : EReal)
/-- A finite array of three axes as an ideal array. -/
def up3 {l n m : ℕ} {φ : FTy} (a : Fin l → Fin n → Fin m → ℝ) : FVec Ideal ⟨3, ![l, n, m]⟩ φ :=
  fun i => ((a (i 0) (i 1) (i 2) : ℝ) : EReal)
/-- A finite scalar as an ideal array of no axes. -/
def up0 {φ : FTy} (a : ℝ) : FVec Ideal ⟨0, ![]⟩ φ := fun _ => (a : EReal)

/-- The same in bf16, whose ideal values are the same reals. -/
abbrev bf2 {n m : ℕ} (a : Fin n → Fin m → ℝ) : FVec Ideal ⟨2, ![n, m]⟩ .bf16 := up2 a
abbrev bf3 {l n m : ℕ} (a : Fin l → Fin n → Fin m → ℝ) : FVec Ideal ⟨3, ![l, n, m]⟩ .bf16 := up3 a
/-- The same in f32. -/
abbrev f2 {n m : ℕ} (a : Fin n → Fin m → ℝ) : FVec Ideal ⟨2, ![n, m]⟩ .f32 := up2 a
abbrev f3 {l n m : ℕ} (a : Fin l → Fin n → Fin m → ℝ) : FVec Ideal ⟨3, ![l, n, m]⟩ .f32 := up3 a

/-- A sum of finite values is finite. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) :=
  (EReal.coe_strictMono.monotone.map_max).symm

section elementwise
variable {n m l : ℕ} {φ : FTy}

@[rify_simps] theorem mulf2 (a b : Fin n → Fin m → ℝ) : mulf (up2 (φ := φ) a) (up2 b) = up2 fun i j => a i j * b i j := by
  funext i; exact (EReal.coe_mul _ _).symm
@[rify_simps] theorem addf2 (a b : Fin n → Fin m → ℝ) : addf (up2 (φ := φ) a) (up2 b) = up2 fun i j => a i j + b i j := by
  funext i; exact (EReal.coe_add _ _).symm
@[rify_simps] theorem subf2 (a b : Fin n → Fin m → ℝ) : subf (up2 (φ := φ) a) (up2 b) = up2 fun i j => a i j - b i j := by
  funext i; exact (EReal.coe_sub _ _).symm
@[rify_simps] theorem negf2 (a : Fin n → Fin m → ℝ) : negf (up2 (φ := φ) a) = up2 fun i j => -a i j := by
  funext i; exact (EReal.coe_neg _).symm
@[rify_simps] theorem maximumf2 (a b : Fin n → Fin m → ℝ) : maximumf (up2 (φ := φ) a) (up2 b) = up2 fun i j => max (a i j) (b i j) := by
  funext i; exact coe_max _ _
@[rify_simps] theorem addf1 (a b : Fin n → ℝ) : addf (up1 (φ := φ) a) (up1 b) = up1 fun i => a i + b i := by
  funext i; exact (EReal.coe_add _ _).symm
@[rify_simps] theorem mulf1 (a b : Fin n → ℝ) : mulf (up1 (φ := φ) a) (up1 b) = up1 fun i => a i * b i := by
  funext i; exact (EReal.coe_mul _ _).symm

theorem div_real (x : ℝ) {r : ℝ} (hr : r ≠ 0) : Ideal.div (x : EReal) (r : EReal) = ((x / r : ℝ) : EReal) := by
  rw [Ideal.div_coe hr, ← EReal.coe_mul]; congr 1; ring
theorem rsqrt_real {x : ℝ} (h : 0 < x) : Ideal.rsqrt (x : EReal) = (((√x)⁻¹ : ℝ) : EReal) := by
  show (if x < 0 then (⊥ : EReal) else if x = 0 then ⊤ else (((√x)⁻¹ : ℝ) : EReal)) = _
  rw [if_neg (not_lt.mpr h.le), if_neg h.ne']

/-- A quotient of two arrays, the divisor nowhere zero. -/
theorem divf2 (a b : Fin n → Fin m → ℝ) (hb : ∀ i j, b i j ≠ 0) :
    divf (up2 (φ := φ) a) (up2 b) = up2 fun i j => a i j / b i j := by
  funext i; exact div_real _ (hb _ _)
theorem hostDivf2 (a b : Fin n → Fin m → ℝ) (hb : ∀ i j, b i j ≠ 0) :
    Host.divf (up2 (φ := φ) a) (up2 b) = up2 fun i j => a i j / b i j := divf2 a b hb
theorem hostDivf1 (a b : Fin n → ℝ) (hb : ∀ i, b i ≠ 0) :
    Host.divf (up1 (φ := φ) a) (up1 b) = up1 fun i => a i / b i := by
  funext i; exact div_real _ (hb _)
theorem hostDivf0 (a b : ℝ) (hb : b ≠ 0) : Host.divf (up0 (φ := φ) a) (up0 b) = up0 (a / b) := by
  funext i; exact div_real _ hb
@[rify_simps] theorem mulf0 (a b : ℝ) : mulf (up0 (φ := φ) a) (up0 b) = up0 (a * b) := by
  funext i; exact (EReal.coe_mul _ _).symm

/-- The reciprocal root of positive values. -/
theorem rsqrt2 (a : Fin n → Fin m → ℝ) (ha : ∀ i j, 0 < a i j) :
    rsqrt (up2 (φ := φ) a) = up2 fun i j => (√(a i j))⁻¹ := by
  funext i; exact rsqrt_real (ha _ _)
theorem hostRsqrt2 (a : Fin n → Fin m → ℝ) (ha : ∀ i j, 0 < a i j) :
    Host.rsqrt (up2 (φ := φ) a) = up2 fun i j => (√(a i j))⁻¹ := rsqrt2 a ha

@[rify_simps] theorem truncf2 {ψ : FTy} (a : Fin n → Fin m → ℝ) (h) : truncf ψ (up2 (φ := φ) a) h = up2 a := rfl
@[rify_simps] theorem extf2 {ψ : FTy} (a : Fin n → Fin m → ℝ) (h) : extf ψ (up2 (φ := φ) a) h = up2 a := rfl
end elementwise

section shapes
variable {n m l : ℕ} {φ : FTy}

@[rify_simps] theorem broadcastTo_col (a : Fin n → Fin 1 → ℝ) (h : Shape.Broadcasts ⟨2, ![n, 1]⟩ ⟨2, ![n, m]⟩) :
    broadcastTo ⟨2, ![n, m]⟩ (up2 (φ := φ) a) h = up2 fun i _ => a i 0 := by
  funext i
  by_cases hn : n = 1
  · subst hn; simp only [broadcastTo, up2]; congr 2; exact Subsingleton.elim _ _
  · simp [broadcastTo, up2, hn]
@[rify_simps] theorem broadcastTo_row (a : Fin 1 → Fin m → ℝ) (h : Shape.Broadcasts ⟨2, ![1, m]⟩ ⟨2, ![n, m]⟩) :
    broadcastTo ⟨2, ![n, m]⟩ (up2 (φ := φ) a) h = up2 fun _ j => a 0 j := by
  funext i
  by_cases hn : m = 1
  · subst hn; simp only [broadcastTo, up2]; congr 2 <;> exact Subsingleton.elim _ _
  · simp [broadcastTo, up2, hn]

@[rify_simps] theorem reduce_cols (a : Fin n → Fin m → ℝ) (h : Shape.Reduces ⟨2, ![n, m]⟩ [1] ⟨1, ![n]⟩) (hφ : FKind.Formats .f32)
    (hw : (0x00000000#32 : BitVec 32) = 0x00000000#32) :
    multiReduction (φ := .f32) .add (no_index [1]) ⟨1, ![n]⟩ (up2 (φ := .f32) a) 0x00000000#32 h hφ hw = up1 fun i => ∑ k, a i k := by
  funext i
  pointwise
  exact coe_sum _ _
@[rify_simps] theorem reduce_rows (a : Fin n → Fin m → ℝ) (h : Shape.Reduces ⟨2, ![n, m]⟩ [0] ⟨1, ![m]⟩) (hφ : FKind.Formats .f32)
    (hw : (0x00000000#32 : BitVec 32) = 0x00000000#32) :
    multiReduction (φ := .f32) .add (no_index [0]) ⟨1, ![m]⟩ (up2 (φ := .f32) a) 0x00000000#32 h hφ hw = up1 fun j => ∑ k, a k j := by
  funext i
  pointwise
  exact coe_sum _ _

@[rify_simps] theorem shapeCast_col (a : Fin n → ℝ) (h : Shape.ShapeCasts ⟨1, ![n]⟩ ⟨2, ![n, 1]⟩) :
    shapeCast ⟨2, ![n, 1]⟩ (up1 (φ := φ) a) h = up2 fun i _ => a i := by
  funext i
  obtain ⟨p, q, rfl⟩ : ∃ p q, i = ix2 p q := ⟨_, _, eq_ix2 i⟩
  refine (shapeCast_apply _ h _ (ix1 p) ?_).trans rfl
  rw [rowMajor_val1, rowMajor_val2 _ 1 rfl]
  have hq : q = 0 := Subsingleton.elim _ _
  subst hq
  show p.val = p.val * 1 + 0
  omega
@[rify_simps] theorem shapeCast_row (a : Fin m → ℝ) (h : Shape.ShapeCasts ⟨1, ![m]⟩ ⟨2, ![1, m]⟩) :
    shapeCast ⟨2, ![1, m]⟩ (up1 (φ := φ) a) h = up2 fun _ j => a j := by
  funext i
  obtain ⟨p, q, rfl⟩ : ∃ p q, i = ix2 p q := ⟨_, _, eq_ix2 i⟩
  refine (shapeCast_apply _ h _ (ix1 q) ?_).trans rfl
  rw [rowMajor_val1, rowMajor_val2 _ m rfl]
  have hp : p = 0 := Subsingleton.elim _ _
  subst hp
  show q.val = 0 * m + q.val
  omega
@[rify_simps] theorem transpose2 (a : Fin n → Fin m → ℝ) (h : Shape.Transposes ⟨2, ![n, m]⟩ [1, 0] ⟨2, ![m, n]⟩) :
    transpose ⟨2, ![m, n]⟩ [1, 0] (up2 (φ := φ) a) h = up2 fun i j => a j i := by
  funext i
  obtain ⟨p, q, rfl⟩ : ∃ p q, i = ix2 p q := ⟨_, _, eq_ix2 i⟩
  pointwise
  rfl
@[rify_simps] theorem shapeCast_slab (a : Fin 1 → Fin n → Fin m → ℝ) (h : Shape.ShapeCasts ⟨3, ![1, n, m]⟩ ⟨2, ![n, m]⟩) :
    shapeCast ⟨2, ![n, m]⟩ (up3 (φ := φ) a) h = up2 fun i j => a 0 i j := by
  funext i
  obtain ⟨p, q, rfl⟩ : ∃ p q, i = ix2 p q := ⟨_, _, eq_ix2 i⟩
  refine (shapeCast_apply _ h _ (ix3 0 p q) ?_).trans rfl
  rw [rowMajor_val2 _ m rfl, rowMajor_val3 _ (n * m) m rfl rfl]
  show 0 * (n * m) + p.val * m + q.val = p.val * m + q.val
  omega
@[rify_simps] theorem shapeCast2 (a : Fin n → Fin m → ℝ) (h : Shape.ShapeCasts ⟨2, ![n, m]⟩ ⟨2, ![n, m]⟩) :
    shapeCast ⟨2, ![n, m]⟩ (up2 (φ := φ) a) h = up2 a := shapeCast_self _ _
@[rify_simps] theorem shapeCast1 (a : Fin n → ℝ) (h : Shape.ShapeCasts ⟨1, ![n]⟩ ⟨1, ![n]⟩) :
    shapeCast ⟨1, ![n]⟩ (up1 (φ := φ) a) h = up1 a := shapeCast_self _ _

/-- A sum of products of finite values, with the value that it is added to. -/
theorem coe_dot {k : ℕ} (c : ℝ) (f g : Fin k → ℝ) :
    (c : EReal) + ∑ q, (f q : EReal) * (g q : EReal) = ((c + ∑ q, f q * g q : ℝ) : EReal) := by
  simp only [← EReal.coe_mul, coe_sum, ← EReal.coe_add]

/-- The product of two matrices that contracts rows with columns. -/
@[rify_simps] theorem matmul_nn {n k m : ℕ} {φ ψ : FTy} (wf) (prec) (a : Fin n → Fin k → ℝ) (b : Fin k → Fin m → ℝ) (c : Fin n → Fin m → ℝ) :
    matmul (F := Ideal) (sl := ⟨2, ![n, k]⟩) (sr := ⟨2, ![k, m]⟩) (so := ⟨2, ![n, m]⟩)
      (no_index
      { lhsContracting := [1], rhsContracting := [0], lhsNonContracting := [0], rhsNonContracting := [1],
        lhsBatch := [], rhsBatch := [], wf := wf }) prec (up2 (φ := φ) a) (up2 (φ := ψ) b) (up2 c)
      = up2 fun i j => c i j + ∑ q, a i q * b q j := by
  funext i
  obtain ⟨p, q, rfl⟩ : ∃ p q, i = ix2 p q := ⟨_, _, eq_ix2 i⟩
  refine (Ideal.matmul_apply₁ _ rfl rfl _ _ _ _).trans ?_
  exact coe_dot (c p q) _ _
@[rify_simps] theorem dotGeneral_nn {n k m : ℕ} {φ ψ : FTy} (wf) (prec) (a : Fin n → Fin k → ℝ) (b : Fin k → Fin m → ℝ) :
    Host.dotGeneral (F := Ideal) (sl := ⟨2, ![n, k]⟩) (sr := ⟨2, ![k, m]⟩) (so := ⟨2, ![n, m]⟩)
      (no_index
      { lhsContracting := [1], rhsContracting := [0], lhsNonContracting := [0], rhsNonContracting := [1],
        lhsBatch := [], rhsBatch := [], wf := wf }) prec (up2 (φ := φ) a) (up2 (φ := ψ) b)
      = up2 fun i j => ∑ q, a i q * b q j := by
  funext i
  obtain ⟨p, q, rfl⟩ : ∃ p q, i = ix2 p q := ⟨_, _, eq_ix2 i⟩
  refine (Ideal.matmul_apply₁ _ rfl rfl _ _ (fun _ => ((0 : ℝ) : EReal)) _).trans ?_
  refine (coe_dot 0 _ _).trans ?_
  rw [zero_add]; rfl

/-- The product of two matrices that contracts rows with rows. -/
@[rify_simps] theorem matmul_nt {n k m : ℕ} {φ ψ : FTy} (wf) (prec) (a : Fin n → Fin k → ℝ) (b : Fin m → Fin k → ℝ) (c : Fin n → Fin m → ℝ) :
    matmul (F := Ideal) (sl := ⟨2, ![n, k]⟩) (sr := ⟨2, ![m, k]⟩) (so := ⟨2, ![n, m]⟩)
      (no_index
      { lhsContracting := [1], rhsContracting := [1], lhsNonContracting := [0], rhsNonContracting := [0],
        lhsBatch := [], rhsBatch := [], wf := wf }) prec (up2 (φ := φ) a) (up2 (φ := ψ) b) (up2 c)
      = up2 fun i j => c i j + ∑ q, a i q * b j q := by
  funext i
  obtain ⟨p, q, rfl⟩ : ∃ p q, i = ix2 p q := ⟨_, _, eq_ix2 i⟩
  refine (Ideal.matmul_apply₁ _ rfl rfl _ _ _ _).trans ?_
  exact coe_dot (c p q) _ _
@[rify_simps] theorem dotGeneral_nt {n k m : ℕ} {φ ψ : FTy} (wf) (prec) (a : Fin n → Fin k → ℝ) (b : Fin m → Fin k → ℝ) :
    Host.dotGeneral (F := Ideal) (sl := ⟨2, ![n, k]⟩) (sr := ⟨2, ![m, k]⟩) (so := ⟨2, ![n, m]⟩)
      (no_index
      { lhsContracting := [1], rhsContracting := [1], lhsNonContracting := [0], rhsNonContracting := [0],
        lhsBatch := [], rhsBatch := [], wf := wf }) prec (up2 (φ := φ) a) (up2 (φ := ψ) b)
      = up2 fun i j => ∑ q, a i q * b j q := by
  funext i
  obtain ⟨p, q, rfl⟩ : ∃ p q, i = ix2 p q := ⟨_, _, eq_ix2 i⟩
  refine (Ideal.matmul_apply₁ _ rfl rfl _ _ (fun _ => ((0 : ℝ) : EReal)) _).trans ?_
  refine (coe_dot 0 _ _).trans ?_
  rw [zero_add]; rfl

/-- The product of two matrices that contracts columns with columns. -/
@[rify_simps] theorem matmul_tn {n k m : ℕ} {φ ψ : FTy} (wf) (prec) (a : Fin k → Fin n → ℝ) (b : Fin k → Fin m → ℝ) (c : Fin n → Fin m → ℝ) :
    matmul (F := Ideal) (sl := ⟨2, ![k, n]⟩) (sr := ⟨2, ![k, m]⟩) (so := ⟨2, ![n, m]⟩)
      (no_index
      { lhsContracting := [0], rhsContracting := [0], lhsNonContracting := [1], rhsNonContracting := [1],
        lhsBatch := [], rhsBatch := [], wf := wf }) prec (up2 (φ := φ) a) (up2 (φ := ψ) b) (up2 c)
      = up2 fun i j => c i j + ∑ q, a q i * b q j := by
  funext i
  obtain ⟨p, q, rfl⟩ : ∃ p q, i = ix2 p q := ⟨_, _, eq_ix2 i⟩
  refine (Ideal.matmul_apply₁ _ rfl rfl _ _ _ _).trans ?_
  exact coe_dot (c p q) _ _
@[rify_simps] theorem dotGeneral_tn {n k m : ℕ} {φ ψ : FTy} (wf) (prec) (a : Fin k → Fin n → ℝ) (b : Fin k → Fin m → ℝ) :
    Host.dotGeneral (F := Ideal) (sl := ⟨2, ![k, n]⟩) (sr := ⟨2, ![k, m]⟩) (so := ⟨2, ![n, m]⟩)
      (no_index
      { lhsContracting := [0], rhsContracting := [0], lhsNonContracting := [1], rhsNonContracting := [1],
        lhsBatch := [], rhsBatch := [], wf := wf }) prec (up2 (φ := φ) a) (up2 (φ := ψ) b)
      = up2 fun i j => ∑ q, a q i * b q j := by
  funext i
  obtain ⟨p, q, rfl⟩ : ∃ p q, i = ix2 p q := ⟨_, _, eq_ix2 i⟩
  refine (Ideal.matmul_apply₁ _ rfl rfl _ _ (fun _ => ((0 : ℝ) : EReal)) _).trans ?_
  refine (coe_dot 0 _ _).trans ?_
  rw [zero_add]; rfl

/-- The shapes of the host broadcasts below fit. -/
theorem bid_scalar {k : ℕ} {d : Fin k → ℕ} : (⟨0, ![]⟩ : Shape).BroadcastsInDim ⟨k, d⟩ ![] := ⟨fun a => a.elim0, fun a => a.elim0⟩
theorem bid_col : (⟨2, ![n, 1]⟩ : Shape).BroadcastsInDim ⟨2, ![n, m]⟩ ![0, 1] :=
  ⟨(by decide : Function.Injective (![0, 1] : Fin 2 → Fin 2)), Fin.forall_fin_two.2 ⟨.inr rfl, .inl rfl⟩⟩
theorem bid_row : (⟨2, ![1, m]⟩ : Shape).BroadcastsInDim ⟨2, ![n, m]⟩ ![0, 1] :=
  ⟨(by decide : Function.Injective (![0, 1] : Fin 2 → Fin 2)), Fin.forall_fin_two.2 ⟨.inl rfl, .inr rfl⟩⟩
theorem bid_vec0 : (⟨1, ![n]⟩ : Shape).BroadcastsInDim ⟨2, ![n, m]⟩ ![0] := ⟨(by decide : Function.Injective (![0] : Fin 1 → Fin 2)), Fin.forall_fin_one.2 (.inr rfl)⟩
theorem bid_vec1 : (⟨1, ![m]⟩ : Shape).BroadcastsInDim ⟨2, ![n, m]⟩ ![1] := ⟨(by decide : Function.Injective (![1] : Fin 1 → Fin 2)), Fin.forall_fin_one.2 (.inr rfl)⟩

/-- Host broadcasts of a scalar, a column, a row and a vector. -/
@[rify_simps] theorem bcast_scalar2 (a : ℝ) : broadcastInDim ⟨2, ![n, m]⟩ (no_index ![]) bid_scalar (up0 (φ := φ) a) = up2 fun _ _ => a := rfl
@[rify_simps] theorem bcast_scalar1 (a : ℝ) : broadcastInDim ⟨1, ![n]⟩ (no_index ![]) bid_scalar (up0 (φ := φ) a) = up1 fun _ => a := rfl
@[rify_simps] theorem bcast_col (a : Fin n → Fin 1 → ℝ) :
    broadcastInDim ⟨2, ![n, m]⟩ (no_index ![0, 1]) bid_col (up2 (φ := φ) a) = up2 fun i _ => a i 0 := by
  funext i
  by_cases hn : n = 1
  · subst hn; simp only [broadcastInDim, up2]; congr 2; exact Subsingleton.elim _ _
  · simp [broadcastInDim, up2, hn]
@[rify_simps] theorem bcast_row (a : Fin 1 → Fin m → ℝ) :
    broadcastInDim ⟨2, ![n, m]⟩ (no_index ![0, 1]) bid_row (up2 (φ := φ) a) = up2 fun _ j => a 0 j := by
  funext i
  by_cases hn : m = 1
  · subst hn; simp only [broadcastInDim, up2]; congr 2 <;> exact Subsingleton.elim _ _
  · simp [broadcastInDim, up2, hn]
@[rify_simps] theorem bcast_vec0 (a : Fin n → ℝ) :
    broadcastInDim ⟨2, ![n, m]⟩ (no_index ![0]) bid_vec0 (up1 (φ := φ) a) = up2 fun i _ => a i := by
  funext i
  by_cases hn : n = 1
  · subst hn; simp only [broadcastInDim, up2, up1]; congr 2; exact Subsingleton.elim _ _
  · simp [broadcastInDim, up2, up1, hn]
@[rify_simps] theorem bcast_vec1 (a : Fin m → ℝ) :
    broadcastInDim ⟨2, ![n, m]⟩ (no_index ![1]) bid_vec1 (up1 (φ := φ) a) = up2 fun _ j => a j := by
  funext i
  by_cases hn : m = 1
  · subst hn; simp only [broadcastInDim, up2, up1]; congr 2; exact Subsingleton.elim _ _
  · simp [broadcastInDim, up2, up1, hn]

/-- Host sums over one axis and over both. -/
@[rify_simps] theorem hostReduce_cols (a : Fin n → Fin m → ℝ) (c : ℝ) (h : Shape.ReducesTo ⟨2, ![n, m]⟩ [1] ⟨1, ![n]⟩) (h0) :
    Host.reduceAdd (up2 (φ := φ) a) (up0 c) h h0 = up1 fun i => c + ∑ k, a i k := by
  funext i
  pointwise
  exact (congrArg _ (coe_sum _ _)).trans (EReal.coe_add _ _).symm
@[rify_simps] theorem hostReduce_rows (a : Fin n → Fin m → ℝ) (c : ℝ) (h : Shape.ReducesTo ⟨2, ![n, m]⟩ [0] ⟨1, ![m]⟩) (h0) :
    Host.reduceAdd (up2 (φ := φ) a) (up0 c) h h0 = up1 fun j => c + ∑ k, a k j := by
  funext i
  pointwise
  exact (congrArg _ (coe_sum _ _)).trans (EReal.coe_add _ _).symm
@[rify_simps] theorem hostReduce_vec (a : Fin n → ℝ) (c : ℝ) (h : Shape.ReducesTo ⟨1, ![n]⟩ [0] ⟨0, ![]⟩) (h0) :
    Host.reduceAdd (up1 (φ := φ) a) (up0 c) h h0 = up0 (c + ∑ k, a k) := by
  funext i
  pointwise
  exact (congrArg _ (coe_sum _ _)).trans (EReal.coe_add _ _).symm
theorem broadcast2 (a : EReal) {b : ℝ} (h : a = (b : EReal)) : broadcast ⟨2, ![n, m]⟩ a = up2 (φ := φ) fun _ _ => b := by
  subst h; rfl
end shapes

/-! ## Loads of parts of a block, and blocks stored in parts -/

/-- Position `i` of the part of length `n'` that starts at `o`. -/
def part {n n' : ℕ} (o : ℕ) (h : o + n' ≤ n) (i : Fin n') : Fin n := ⟨o + i.val, by have := i.isLt; omega⟩

@[rify_simps] theorem part_zero {n : ℕ} (h : 0 + n ≤ n) (i : Fin n) : part 0 h i = i := Fin.ext (Nat.zero_add _)

/-- A unit-stride block that lies in its array does so along each dimension. -/
theorem inb20 {n m n' m' o q : ℕ}
    (inb : ∀ d, (![o, q] : Fin 2 → ℕ) d + (![n', m'] : Fin 2 → ℕ) d ≤ (⟨2, ![n, m]⟩ : Shape).size d) : o + n' ≤ n := inb 0
theorem inb21 {n m n' m' o q : ℕ}
    (inb : ∀ d, (![o, q] : Fin 2 → ℕ) d + (![n', m'] : Fin 2 → ℕ) d ≤ (⟨2, ![n, m]⟩ : Shape).size d) : q + m' ≤ m := inb 1
theorem inb30 {l n m l' n' m' r o q : ℕ}
    (inb : ∀ d, (![r, o, q] : Fin 3 → ℕ) d + (![l', n', m'] : Fin 3 → ℕ) d ≤ (⟨3, ![l, n, m]⟩ : Shape).size d) : r + l' ≤ l := inb 0
theorem inb31 {l n m l' n' m' r o q : ℕ}
    (inb : ∀ d, (![r, o, q] : Fin 3 → ℕ) d + (![l', n', m'] : Fin 3 → ℕ) d ≤ (⟨3, ![l, n, m]⟩ : Shape).size d) : o + n' ≤ n := inb 1
theorem inb32 {l n m l' n' m' r o q : ℕ}
    (inb : ∀ d, (![r, o, q] : Fin 3 → ℕ) d + (![l', n', m'] : Fin 3 → ℕ) d ≤ (⟨3, ![l, n, m]⟩ : Shape).size d) : q + m' ≤ m := inb 2

@[rify_simps] theorem ld2 {n m n' m' : ℕ} (a : Fin n → Fin m → ℝ) (o q : ℕ)
    (inb : ∀ d, (![o, q] : Fin 2 → ℕ) d + (![n', m'] : Fin 2 → ℕ) d ≤ (⟨2, ![n, m]⟩ : Shape).size d) :
    View.ld (Val := Elt Ideal) (e' := .f32) (up2 (φ := .f32) a) (Rect.unit (s := ⟨2, ![n, m]⟩) ![o, q] ![n', m'] inb)
      = up2 (φ := .f32) fun i j => a (part o (inb20 inb) i) (part q (inb21 inb) j) := by
  rw [View.ld_unit]; rfl
@[rify_simps] theorem ld3 {l n m l' n' m' : ℕ} (a : Fin l → Fin n → Fin m → ℝ) (r o q : ℕ)
    (inb : ∀ d, (![r, o, q] : Fin 3 → ℕ) d + (![l', n', m'] : Fin 3 → ℕ) d ≤ (⟨3, ![l, n, m]⟩ : Shape).size d) :
    View.ld (Val := Elt Ideal) (e' := .f32) (up3 (φ := .f32) a)
        (Rect.unit (s := ⟨3, ![l, n, m]⟩) ![r, o, q] ![l', n', m'] inb)
      = up3 (φ := .f32) fun k i j => a (part r (inb30 inb) k) (part o (inb31 inb) i) (part q (inb32 inb) j) := by
  rw [View.ld_unit]; rfl
@[rify_simps] theorem ld2b {n m n' m' : ℕ} (a : Fin n → Fin m → ℝ) (o q : ℕ)
    (inb : ∀ d, (![o, q] : Fin 2 → ℕ) d + (![n', m'] : Fin 2 → ℕ) d ≤ (⟨2, ![n, m]⟩ : Shape).size d) :
    View.ld (Val := Elt Ideal) (e' := .bf16) (up2 (φ := .bf16) a) (Rect.unit (s := ⟨2, ![n, m]⟩) ![o, q] ![n', m'] inb)
      = up2 (φ := .bf16) fun i j => a (part o (inb20 inb) i) (part q (inb21 inb) j) := by
  rw [View.ld_unit]; rfl
@[rify_simps] theorem ld3b {l n m l' n' m' : ℕ} (a : Fin l → Fin n → Fin m → ℝ) (r o q : ℕ)
    (inb : ∀ d, (![r, o, q] : Fin 3 → ℕ) d + (![l', n', m'] : Fin 3 → ℕ) d ≤ (⟨3, ![l, n, m]⟩ : Shape).size d) :
    View.ld (Val := Elt Ideal) (e' := .bf16) (up3 (φ := .bf16) a)
        (Rect.unit (s := ⟨3, ![l, n, m]⟩) ![r, o, q] ![l', n', m'] inb)
      = up3 (φ := .bf16) fun k i j => a (part r (inb30 inb) k) (part o (inb31 inb) i) (part q (inb32 inb) j) := by
  rw [View.ld_unit]; rfl

/-- Pieces that cover an array and agree with one function of its indices store that function. -/
theorem canon_agree {Val : EltTy → Type} {e : EltTy} [∀ e, Nonempty (Val e)] {S : Shape} (L : List (View.Piece Val S e)) (X : S.Idx → Val e)
    (hc : ∀ y, ∃ p ∈ L, y ∈ p.1.set) (h : ∀ p ∈ L, ∀ x, p.2 x = X (p.1.emb x)) : View.canon L = X := by
  funext y
  exact View.canon_eq_of_allAt L y (X y) (hc y) fun p hp x hx => (h p hp x).trans (congrArg X hx)
/-- The same over earlier pieces, which nothing of is left. -/
theorem canon_agree_append {Val : EltTy → Type} {e : EltTy} [∀ e, Nonempty (Val e)] {S : Shape} (L' : List (View.Piece Val S e))
    (X : S.Idx → Val e) : ∀ (L : List (View.Piece Val S e)), (∀ y, ∃ p ∈ L, y ∈ p.1.set) → (∀ p ∈ L, ∀ x, p.2 x = X (p.1.emb x)) →
      View.canon (L ++ L') = X := by
  intro L hc h
  have key : ∀ (L : List (View.Piece Val S e)) (y : S.Idx), (∃ p ∈ L, y ∈ p.1.set) → View.canon (L ++ L') y = View.canon L y := by
    intro L y
    induction L with
    | nil => rintro ⟨p, hp, _⟩; exact absurd hp (List.not_mem_nil)
    | cons p L ih =>
      intro hy
      by_cases hp : y ∈ p.1.set
      · obtain ⟨x, rfl⟩ : ∃ x, p.1.emb x = y := p.1.toLoadRect.exists_idx_of_mem hp
        exact (View.canon_cons_emb p.1 p.2 (L ++ L') x).trans (View.canon_cons_emb p.1 p.2 L x).symm
      · refine (View.canon_cons_of_not_mem p (L ++ L') hp).trans ((ih ?_).trans (View.canon_cons_of_not_mem p L hp).symm)
        obtain ⟨q, hq, hyq⟩ := hy
        rcases List.mem_cons.mp hq with rfl | hq
        · exact absurd hyq hp
        · exact ⟨q, hq, hyq⟩
  funext y
  exact (key L y (hc y)).trans (congrFun (canon_agree L X hc h) y)
/-- A block that holds a part of a matrix agrees with the matrix there. -/
theorem agree2 {n m n' m' o q : ℕ} {φ : FTy} (a : Fin n → Fin m → ℝ) (b : Fin n' → Fin m' → ℝ)
    (inb : ∀ d, (![o, q] : Fin 2 → ℕ) d + (![n', m'] : Fin 2 → ℕ) d ≤ (⟨2, ![n, m]⟩ : Shape).size d)
    (h : ∀ i j, b i j = a (part o (inb20 inb) i) (part q (inb21 inb) j))
    (x : (Rect.unit (s := ⟨2, ![n, m]⟩) ![o, q] ![n', m'] inb).shape.Idx) :
    up2 (φ := φ) b x = up2 (φ := φ) a ((Rect.unit (s := ⟨2, ![n, m]⟩) ![o, q] ![n', m'] inb).emb x) := by
  refine (congrArg Real.toEReal (h (x 0) (x 1))).trans ?_
  exact congrArg₂ (fun i j => ((a i j : ℝ) : EReal)) (Fin.ext (by show o + (x 0).val = o + 1 * (x 0).val; omega))
    (Fin.ext (by show q + (x 1).val = q + 1 * (x 1).val; omega))

/-- A block stored in two parts of rows, each the part of one matrix, is that matrix. -/
theorem canon_rows {Val : EltTy → Type} {e : EltTy} [∀ e, Nonempty (Val e)] {n m k : ℕ} (X : (⟨2, ![n, m]⟩ : Shape).Idx → Val e)
    (hk : k + k = n) (inb1 : ∀ d, (![k, 0] : Fin 2 → ℕ) d + (![k, m] : Fin 2 → ℕ) d ≤ (⟨2, ![n, m]⟩ : Shape).size d)
    (inb0 : ∀ d, (![0, 0] : Fin 2 → ℕ) d + (![k, m] : Fin 2 → ℕ) d ≤ (⟨2, ![n, m]⟩ : Shape).size d)
    (w1 w0 : (⟨2, ![k, m]⟩ : Shape).Idx → Val e)
    (h1 : ∀ (i : Fin k) (j : Fin m), w1 (ix2 i j) = X (ix2 (part k (inb1 0) i) j))
    (h0 : ∀ (i : Fin k) (j : Fin m), w0 (ix2 i j) = X (ix2 (part 0 (inb0 0) i) j)) :
    View.canon [(⟨Rect.unit (s := ⟨2, ![n, m]⟩) ![k, 0] ![k, m] inb1, w1⟩ : View.Piece Val ⟨2, ![n, m]⟩ e),
      ⟨Rect.unit (s := ⟨2, ![n, m]⟩) ![0, 0] ![k, m] inb0, w0⟩] = X := by
  funext y
  obtain ⟨i, j, rfl⟩ : ∃ i j, y = ix2 i j := ⟨_, _, eq_ix2 y⟩
  by_cases hi : i.val < k
  · rw [View.canon_cons_of_not_mem]
    · have e : ix2 i j = (Rect.unit (s := ⟨2, ![n, m]⟩) ![0, 0] ![k, m] inb0).emb (ix2 (⟨i.val, hi⟩ : Fin k) j) := by
        funext d; apply Fin.ext
        match d with
        | ⟨0, _⟩ => show i.val = 0 + 1 * i.val; omega
        | ⟨1, _⟩ => show j.val = 0 + 1 * j.val; omega
      rw [e, View.canon_cons_emb, h0]
      refine congrArg X ?_
      rw [← e]
      exact congrArg (fun a => ix2 a j) (Fin.ext (Nat.zero_add _))
    · rw [Rect.mem_set_unit]
      intro h
      exact absurd (h 0).1 (by show ¬k ≤ i.val; omega)
  · have hlt : i.val - k < k := by have := i.isLt; omega
    have e : ix2 i j = (Rect.unit (s := ⟨2, ![n, m]⟩) ![k, 0] ![k, m] inb1).emb (ix2 (⟨i.val - k, hlt⟩ : Fin k) j) := by
      funext d; apply Fin.ext
      match d with
      | ⟨0, _⟩ => show i.val = k + 1 * (i.val - k); omega
      | ⟨1, _⟩ => show j.val = 0 + 1 * j.val; omega
    rw [e, View.canon_cons_emb, h1]
    refine congrArg X ?_
    rw [← e]
    exact congrArg (fun a => ix2 a j) (Fin.ext (by show k + (i.val - k) = i.val; omega))

/-- A load of the whole array, after a store of the whole array or of what the array holds; and such a store. -/
@[rify_simps] theorem readCov2 {Val : EltTy → Type} {e : EltTy} [∀ e, Nonempty (Val e)] {sig : RefSig} {κ : Kind} {sp : Space} {n m : ℕ}
    (v : View sig κ sp ⟨2, ![n, m]⟩ e) (inb inb' : ∀ d, (![0, 0] : Fin 2 → ℕ) d + (![n, m] : Fin 2 → ℕ) d ≤ (⟨2, ![n, m]⟩ : Shape).size d)
    (w : (⟨2, ![n, m]⟩ : Shape).Idx → Val e) (L : List (View.Piece Val ⟨2, ![n, m]⟩ e)) :
    v.readCov ((⟨Rect.unit (s := ⟨2, ![n, m]⟩) ![0, 0] ![n, m] inb, w⟩ : View.Piece Val ⟨2, ![n, m]⟩ e) :: L)
      (Rect.unit (s := ⟨2, ![n, m]⟩) ![0, 0] ![n, m] inb').toLoadRect = w :=
  View.readCov_cons_unit_lit' v (S := ⟨2, ![n, m]⟩) inb inb' w L (fun a => by fin_cases a <;> rfl) (fun a => by fin_cases a <;> rfl)
@[rify_simps] theorem canon2 {Val : EltTy → Type} {e : EltTy} [∀ e, Nonempty (Val e)] {n m : ℕ}
    (inb : ∀ d, (![0, 0] : Fin 2 → ℕ) d + (![n, m] : Fin 2 → ℕ) d ≤ (⟨2, ![n, m]⟩ : Shape).size d)
    (w : (⟨2, ![n, m]⟩ : Shape).Idx → Val e) (L : List (View.Piece Val ⟨2, ![n, m]⟩ e)) :
    View.canon ((⟨Rect.unit (s := ⟨2, ![n, m]⟩) ![0, 0] ![n, m] inb, w⟩ : View.Piece Val ⟨2, ![n, m]⟩ e) :: L) = w :=
  View.canon_cons_unit_lit (S := ⟨2, ![n, m]⟩) inb w L (fun a => by fin_cases a <;> rfl)

/-- A load of a part, after a store of the whole array; and a read of the part that the last store wrote. -/
@[rify_simps] theorem readCov_fill2 {Val : EltTy → Type} {e : EltTy} [∀ e, Nonempty (Val e)] {sig : RefSig} {κ : Kind} {sp : Space} {n m : ℕ}
    (v : View sig κ sp ⟨2, ![n, m]⟩ e) (inb : ∀ d, (![0, 0] : Fin 2 → ℕ) d + (![n, m] : Fin 2 → ℕ) d ≤ (⟨2, ![n, m]⟩ : Shape).size d)
    (w : (⟨2, ![n, m]⟩ : Shape).Idx → Val e) (L : List (View.Piece Val ⟨2, ![n, m]⟩ e)) (r : Rect ⟨2, ![n, m]⟩) :
    v.readCov ((⟨Rect.unit (s := ⟨2, ![n, m]⟩) ![0, 0] ![n, m] inb, w⟩ : View.Piece Val ⟨2, ![n, m]⟩ e) :: L) r.toLoadRect
      = View.ld w r :=
  View.readCov_fill (s := ⟨2, ![n, m]⟩) v inb w L r (fun a => by fin_cases a <;> rfl)
theorem read_slice_writes {Val : EltTy → Type} {e : EltTy} {sig : RefSig} {κ : Kind} {sp : Space} {s : Shape}
    (v : View sig κ sp s e) (f : v.ty.Contents Val) (r : Rect s) (w : r.shape.Idx → Val e) (L : List (View.Piece Val s e)) :
    (v.slice r).read Val (v.writes Val f (⟨r, w⟩ :: L)) = w := by
  funext x
  exact View.read_slice_write_emb (v := v) r (v.writes Val f L) w (Finset.mem_univ x)

/-! ## The literals -/

/-- The residual factor of the layer, the number that its single-precision word is. -/
def alpha : ℝ := 9975792 / 2 ^ 23
/-- The norm's epsilon, the number that its single-precision word is. -/
def eps : ℝ := 10995116 / 2 ^ 40

theorem eps_pos : 0 < eps := by unfold eps; positivity

theorem lit_zero : Ideal.ofBits .f32 0x00000000#32 = ((0 : ℝ) : EReal) := by simp
theorem lit_alpha : Ideal.ofBits .f32 0x3F9837F0#32 = (alpha : EReal) := by
  simp [Ideal.ofBits, Ideal.ieee, alpha, -EReal.coe_mul]; norm_num
theorem lit_eps : Ideal.ofBits .f32 0x3727C5AC#32 = (eps : EReal) := by
  simp [Ideal.ofBits, Ideal.ieee, eps, -EReal.coe_mul]; norm_num
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

section literals
variable {n m : ℕ}
theorem splat2 {w : BitVec 32} {b : ℝ} (h : Ideal.ofBits .f32 w = (b : EReal)) :
    broadcast ⟨2, ![n, m]⟩ (Scalar.ofBits (F := Ideal) .f32 w) = up2 (φ := .f32) fun _ _ => b := by
  funext i; exact h
theorem const2 {w : BitVec 32} {b : ℝ} (h : Ideal.ofBits .f32 w = (b : EReal)) :
    constant (F := Ideal) ⟨2, ![n, m]⟩ .f32 w = up2 (φ := .f32) fun _ _ => b := by
  funext i; exact h
theorem const0 {w : BitVec 32} {b : ℝ} (h : Ideal.ofBits .f32 w = (b : EReal)) :
    constant (F := Ideal) ⟨0, ![]⟩ .f32 w = up0 (φ := .f32) b := by
  funext i; exact h
end literals

end Cert.Reals
-- ==== Proof.Finite.lean ====
/-
  The precondition read back: an array whose absolute values compare below the infinity is an array of reals.
-/
module

public import proofs.«01_k».proof.Proof.Reals

@[expose] public section

noncomputable section

namespace Cert.Reals

open Idealize.ShloMosaic

/-- "Its absolute value is below the infinity", at every entry. -/
def Finite {s : Shape} (x : FVec Ideal s .f32) : Prop :=
  ∃ h, cmpf .olt (Host.absf x) (broadcastInDim s ![] h (constant ⟨0, ![]⟩ .f32 0x7F800000#32)) = fun _ => 1#1

theorem Finite.real {s : Shape} {x : FVec Ideal s .f32} (h : Finite x) (i : s.Idx) : x i = ((x i : EReal).toReal : EReal) := by
  obtain ⟨hb, h⟩ := h
  have h := congrFun h i
  have htop : Ideal.ofBits .f32 0x7F800000#32 = ⊤ := by simp [Ideal.ofBits, Ideal.ieee]
  have hlt : max (x i : EReal) (-(x i : EReal)) < ⊤ := by
    change BitVec.ofBool (decide (max (x i : EReal) (-(x i : EReal)) < Ideal.ofBits .f32 0x7F800000#32)) = 1#1 at h
    rw [htop] at h
    by_contra hc
    rw [decide_eq_false hc] at h
    exact absurd h (by decide)
  refine (EReal.coe_toReal ?_ ?_).symm
  · exact fun e => absurd (e ▸ lt_of_le_of_lt (le_max_left _ _) hlt) (lt_irrefl _)
  · intro e
    have := lt_of_le_of_lt (le_max_right _ _) hlt
    rw [e, EReal.neg_bot] at this
    exact lt_irrefl _ this

theorem Finite.up2 {n m : ℕ} {x : FVec Ideal ⟨2, ![n, m]⟩ .f32} (h : Finite x) :
    x = up2 fun i j => (x (ix2 i j) : EReal).toReal := by
  funext i
  obtain ⟨p, q, rfl⟩ : ∃ p q, i = ix2 p q := ⟨_, _, eq_ix2 i⟩
  exact h.real _
theorem Finite.up3 {n m : ℕ} {x : FVec Ideal ⟨3, ![1, n, m]⟩ .f32} (h : Finite x) :
    x = up3 fun _ i j => (x (ix3 0 i j) : EReal).toReal := by
  funext i
  obtain ⟨u, p, q, rfl⟩ : ∃ u p q, i = ix3 u p q := ⟨_, _, _, eq_ix3 i⟩
  obtain rfl : u = 0 := Subsingleton.elim _ _
  exact h.real _

end Cert.Reals
-- ==== Proof.Layer.lean ====
/-
  The layer's arithmetic on real matrices: matrix products, the norm over 1024 features and its gradient. Every function
  works row by row, so it says the same of a block of rows and of the whole array.
-/
module

public import proofs.«01_k».proof.Proof.Reals

@[expose] public section

noncomputable section

namespace Cert.Layer

open Cert.Reals Idealize.ShloMosaic

/-- A real matrix. -/
abbrev Mat (n m : ℕ) := Fin n → Fin m → ℝ

variable {n m k : ℕ}

/-- The matrix product. -/
def mm (a : Mat n k) (b : Mat k m) : Mat n m := fun i j => ∑ q, a i q * b q j
/-- Products with the second factor transposed, and with the first. -/
def nt (a : Mat n k) (b : Mat m k) : Mat n m := fun i j => ∑ q, a i q * b j q
def tn (a : Mat k n) (b : Mat k m) : Mat n m := fun i j => ∑ q, a q i * b q j
/-- `alpha * x + y`. -/
def resid (x y : Mat n m) : Mat n m := fun i j => alpha * x i j + y i j
/-- Scaled by a row and shifted by a row. -/
def affine (h : Mat n m) (g b : Mat 1 m) : Mat n m := fun i j => h i j * g 0 j + b 0 j
def relu (a : Mat n m) : Mat n m := fun i j => max (a i j) 0
def sqr (a : Mat n m) : Mat n m := fun i j => a i j * a i j

/-- The gradient before a squared relu with result `r`, from the gradient `d` after the product with `w`. -/
def hiddenBwd (d : Mat n k) (w : Mat m k) (r : Mat n m) : Mat n m := fun i q => nt d w i q * (2 * r i q)

/-- Elementwise product, difference, and product with a row. -/
def mul (a b : Mat n m) : Mat n m := fun i j => a i j * b i j
def sub (a b : Mat n m) : Mat n m := fun i j => a i j - b i j
def mulRow (a : Mat n m) (g : Mat 1 m) : Mat n m := fun i j => a i j * g 0 j
/-- An accumulated row and the column sums of a matrix. -/
def addRows (s : Mat 1 m) (a : Mat n m) : Mat 1 m := fun i j => s i j + ∑ q, a q j
/-- The feed-forward product over four blocks of 1024 hidden features. -/
def hidden (x : Mat n 1024) (u : Mat 1024 1024) : Mat n 1024 := relu (mm x u)
def ffn (x : Mat n 1024) (u v : Fin 4 → Mat 1024 1024) : Mat n 1024 := fun i j =>
  mm (sqr (hidden x (u 0))) (v 0) i j + mm (sqr (hidden x (u 1))) (v 1) i j + mm (sqr (hidden x (u 2))) (v 2) i j
    + mm (sqr (hidden x (u 3))) (v 3) i j
/-- Hidden feature `j` of block `k`. -/
def feat (k : Fin 4) (j : Fin 1024) : Fin 4096 := ⟨k.val * 1024 + j.val, by have := k.isLt; have := j.isLt; omega⟩
/-- The loss' gradient at the layer's output: the error over the number of features. -/
def lossGrad (y t : Mat n m) : Mat n m := fun i j => sub y t i j * (1 / 1024)

/-- A row less its mean. -/
def cen (z : Mat n 1024) : Mat n 1024 := fun i j => z i j - (∑ q, z i q) / 1024
/-- A row's variance with the epsilon. -/
def vare (z : Mat n 1024) (i : Fin n) : ℝ := (∑ q, cen z i q * cen z i q) / 1024 + eps
def rstd (z : Mat n 1024) (i : Fin n) : ℝ := (√(vare z i))⁻¹
def xhat (z : Mat n 1024) : Mat n 1024 := fun i j => cen z i j * rstd z i

/-- The norm's gradient, from the cotangent of the normalized rows, these rows and the reciprocal deviations. -/
def normBwd (d h : Mat n 1024) (r : Fin n → ℝ) : Mat n 1024 := fun i j =>
  r i * (d i j - (∑ q, d i q) / 1024 - h i j * ((∑ q, d i q * h i q) / 1024))

theorem vare_pos (z : Mat n 1024) (i : Fin n) : 0 < vare z i := by
  unfold vare
  have h : 0 ≤ ∑ q, cen z i q * cen z i q := Finset.sum_nonneg fun q _ => mul_self_nonneg _
  have := eps_pos
  positivity

theorem sum_cen (z : Mat n 1024) (i : Fin n) : ∑ q, cen z i q = 0 := by
  simp only [cen, Finset.sum_sub_distrib, Finset.sum_const, Finset.card_univ, Fintype.card_fin, nsmul_eq_mul]
  push_cast; ring

theorem rstd_sq (z : Mat n 1024) (i : Fin n) : rstd z i * rstd z i = 1 / vare z i := by
  unfold rstd
  rw [← mul_inv, Real.mul_self_sqrt (vare_pos z i).le, one_div]

/-- The reciprocal deviation of a block of rows, as the kernel and the reference compute it. -/
@[rify_simps] theorem rsqrt_vare {φ : FTy} (z : Mat n 1024) :
    rsqrt (up2 (φ := φ) (m := 1) fun i _ => vare z i) = up2 fun i _ => rstd z i :=
  rsqrt2 _ fun i _ => vare_pos z i
@[rify_simps] theorem hostRsqrt_vare {φ : FTy} (z : Mat n 1024) :
    Host.rsqrt (up2 (φ := φ) (m := 1) fun i _ => vare z i) = up2 fun i _ => rstd z i :=
  rsqrt2 _ fun i _ => vare_pos z i

/-- The literals that the norm and the residual use. -/
@[rify_simps] theorem splat_zero : broadcast ⟨2, ![n, m]⟩ (Scalar.ofBits (F := Ideal) .f32 0x00000000#32) = up2 (φ := .f32) fun _ _ => 0 :=
  splat2 lit_zero
@[rify_simps] theorem splat_two : broadcast ⟨2, ![n, m]⟩ (Scalar.ofBits (F := Ideal) .f32 0x40000000#32) = up2 (φ := .f32) fun _ _ => 2 :=
  splat2 lit_two
@[rify_simps] theorem splat_alpha : broadcast ⟨2, ![n, m]⟩ (Scalar.ofBits (F := Ideal) .f32 0x3F9837F0#32) = up2 (φ := .f32) fun _ _ => alpha :=
  splat2 lit_alpha
@[rify_simps] theorem splat_eps : broadcast ⟨2, ![n, m]⟩ (Scalar.ofBits (F := Ideal) .f32 0x3727C5AC#32) = up2 (φ := .f32) fun _ _ => eps :=
  splat2 lit_eps
@[rify_simps] theorem splat_1024 : broadcast ⟨2, ![n, m]⟩ (Scalar.ofBits (F := Ideal) .f32 0x44800000#32) = up2 (φ := .f32) fun _ _ => 1024 :=
  splat2 lit_1024
@[rify_simps] theorem splat_inv1024 : broadcast ⟨2, ![n, m]⟩ (Scalar.ofBits (F := Ideal) .f32 0x3A800000#32) = up2 (φ := .f32) fun _ _ => 1 / 1024 :=
  splat2 lit_inv1024
@[rify_simps] theorem const_zero : constant (F := Ideal) ⟨2, ![n, m]⟩ .f32 0x00000000#32 = up2 (φ := .f32) fun _ _ => 0 :=
  const2 lit_zero

/-- The same literals as the reference's constants. -/
@[rify_simps] theorem cst_zero : constant (F := Ideal) ⟨0, ![]⟩ .f32 0x00000000#32 = up0 (φ := .f32) 0 := const0 lit_zero
@[rify_simps] theorem cst_alpha : constant (F := Ideal) ⟨0, ![]⟩ .f32 0x3F9837F0#32 = up0 (φ := .f32) alpha := const0 lit_alpha
@[rify_simps] theorem cst_eps : constant (F := Ideal) ⟨0, ![]⟩ .f32 0x3727C5AC#32 = up0 (φ := .f32) eps := const0 lit_eps
@[rify_simps] theorem cst_1024 : constant (F := Ideal) ⟨0, ![]⟩ .f32 0x44800000#32 = up0 (φ := .f32) 1024 := const0 lit_1024
@[rify_simps] theorem cst_one : constant (F := Ideal) ⟨0, ![]⟩ .f32 0x3F800000#32 = up0 (φ := .f32) 1 := const0 lit_one
@[rify_simps] theorem cst_two : constant (F := Ideal) ⟨0, ![]⟩ .f32 0x40000000#32 = up0 (φ := .f32) 2 := const0 lit_two
@[rify_simps] theorem cst_half : constant (F := Ideal) ⟨0, ![]⟩ .f32 0x3F000000#32 = up0 (φ := .f32) (1 / 2) := const0 lit_half
@[rify_simps] theorem cst_neg_half : constant (F := Ideal) ⟨0, ![]⟩ .f32 0xBF000000#32 = up0 (φ := .f32) (-(1 / 2)) := const0 lit_neg_half

/-- Division of every element by 1024. -/
@[rify_simps] theorem divf_1024 {φ : FTy} (a : Mat n m) :
    divf (up2 (φ := φ) a) (up2 fun _ _ => 1024) = up2 fun i j => a i j / 1024 := divf2 _ _ fun _ _ => by norm_num
@[rify_simps] theorem hostDivf_1024 {φ : FTy} (a : Mat n m) :
    Host.divf (up2 (φ := φ) a) (up2 fun _ _ => 1024) = up2 fun i j => a i j / 1024 := divf2 _ _ fun _ _ => by norm_num

@[rify_simps] theorem hostDivf1_1024 {φ : FTy} (a : Fin n → ℝ) :
    Host.divf (up1 (φ := φ) a) (up1 fun _ => 1024) = up1 fun i => a i / 1024 := hostDivf1 _ _ fun _ => by norm_num
@[rify_simps] theorem hostDivf_vare {φ : FTy} (a : Mat n 1) (z : Mat n 1024) :
    Host.divf (up2 (φ := φ) a) (up2 fun i _ => vare z i) = up2 fun i j => a i j / vare z i :=
  divf2 _ _ fun i _ => (vare_pos z i).ne'
@[rify_simps] theorem hostNegf {φ : FTy} (a : Mat n m) : Host.negf (up2 (φ := φ) a) = up2 fun i j => -a i j := negf2 a

/-- The derivative of the norm along the mean and the variance, as reverse-mode differentiation of the plain formula
    writes it, is the closed form of `normBwd`: the centred row sums to zero and the squared reciprocal deviation is the
    reciprocal variance. -/
theorem normBwd_of_chain (d z : Mat n 1024) (i : Fin n) (j : Fin 1024) :
    d i j * rstd z i
        + (∑ q, cen z i q * d i q) * (-(1 / 2) * (rstd z i / vare z i)) / 1024 * (2 * cen z i j)
        + ((∑ q, -(d i q * rstd z i))
            + ∑ q, -((∑ p, cen z i p * d i p) * (-(1 / 2) * (rstd z i / vare z i)) / 1024 * (2 * cen z i q))) / 1024
      = normBwd d (xhat z) (rstd z) i j := by
  have h1 : ∑ q, -((∑ p, cen z i p * d i p) * (-(1 / 2) * (rstd z i / vare z i)) / 1024 * (2 * cen z i q)) = 0 := by
    rw [Finset.sum_neg_distrib, ← Finset.mul_sum, ← Finset.mul_sum, sum_cen]; ring
  have h2 : ∑ q, -(d i q * rstd z i) = -(rstd z i * ∑ q, d i q) := by
    rw [Finset.sum_neg_distrib, ← Finset.sum_mul]; ring
  have h3 : ∑ q, d i q * xhat z i q = rstd z i * ∑ q, cen z i q * d i q := by
    rw [Finset.mul_sum]; exact Finset.sum_congr rfl fun q _ => by unfold xhat; ring
  have h4 : rstd z i / vare z i = rstd z i * (rstd z i * rstd z i) := by rw [rstd_sq]; ring
  rw [h1, h2, h4]
  unfold normBwd
  rw [h3]
  unfold xhat
  ring

/-! ## The feed-forward matrices as the host lays them out -/

theorem w1_blocks (w : Mat 1024 4096) (h : Shape.ShapeCasts ⟨2, ![1024, 4096]⟩ ⟨3, ![1024, 4, 1024]⟩)
    (h' : Shape.Transposes ⟨3, ![1024, 4, 1024]⟩ [1, 0, 2] ⟨3, ![4, 1024, 1024]⟩) :
    transpose ⟨3, ![4, 1024, 1024]⟩ [1, 0, 2] (shapeCast ⟨3, ![1024, 4, 1024]⟩ (f2 w) h) h' = f3 fun k i j => w i (feat k j) := by
  funext i
  obtain ⟨p, q, r, rfl⟩ : ∃ p q r, i = ix3 p q r := ⟨_, _, _, eq_ix3 i⟩
  pointwise
  rfl
theorem w2_blocks (w : Mat 4096 1024) (h : Shape.ShapeCasts ⟨2, ![4096, 1024]⟩ ⟨3, ![4, 1024, 1024]⟩) :
    shapeCast ⟨3, ![4, 1024, 1024]⟩ (bf2 w) h = bf3 fun k i j => w (feat k i) j := by
  funext i
  obtain ⟨p, q, r, rfl⟩ : ∃ p q r, i = ix3 p q r := ⟨_, _, _, eq_ix3 i⟩
  pointwise
  rfl

end Cert.Layer
-- ==== Proof.FfnSpec.lean ====
/-
  What the output projection, norms, feed-forward and loss gradient compute, as functions of real matrices: the arguments
  as one structure, and each array of the call as a function of it. All of these work row by row.
-/
module

public import proofs.«01_k».proof.Proof.Layer

@[expose] public section

noncomputable section

namespace Cert.Layer

open Cert.Reals

/-- The arguments of the call on `n` rows: the mixer's output, the layer's input, the output projection, the two norms'
    scales and shifts, the feed-forward matrices in four blocks of 1024 hidden features, and the loss' target. -/
structure FfnArgs (n : ℕ) where
  cat : Mat n 1024
  x : Mat n 1024
  wo : Mat 1024 1024
  g1 : Mat 1 1024
  b1 : Mat 1 1024
  w1 : Fin 4 → Mat 1024 1024
  w2 : Fin 4 → Mat 1024 1024
  g2 : Mat 1 1024
  b2 : Mat 1 1024
  tgt : Mat n 1024

namespace FfnArgs

variable {n k : ℕ} (o : FfnArgs n)

/-- The same call on some of the rows. -/
def rows (f : Fin k → Fin n) : FfnArgs k :=
  { o with cat := fun i => o.cat (f i), x := fun i => o.x (f i), tgt := fun i => o.tgt (f i) }

/-- The first residual sum, its normalized rows and the first norm's result. -/
def z1 : Mat n 1024 := resid o.x (mm o.cat o.wo)
def h1 : Mat n 1024 := xhat o.z1
def x1 : Mat n 1024 := affine o.h1 o.g1 o.b1
/-- The hidden features: four blocks of columns. -/
def hid : Mat n 4096 := fun i q =>
  hidden o.x1 (o.w1 ⟨q.val / 1024, by have := q.isLt; omega⟩) i ⟨q.val % 1024, Nat.mod_lt _ (by decide)⟩
/-- The second residual sum, its normalized rows and the layer's output. -/
def z2 : Mat n 1024 := resid o.x1 (ffn o.x1 o.w1 o.w2)
def h2 : Mat n 1024 := xhat o.z2
def y : Mat n 1024 := affine o.h2 o.g2 o.b2
/-- The error, the gradient at the layer's output and at the second residual sum. -/
def err : Mat n 1024 := sub o.y o.tgt
def dy : Mat n 1024 := lossGrad o.y o.tgt
def dz2 : Mat n 1024 := normBwd (mulRow o.dy o.g2) o.h2 (rstd o.z2)

theorem hid_part (i : Fin n) {q b : ℕ} (h : q + 1024 ≤ 4096) (h' : b + 1 ≤ 4) (e : q = 1024 * b) (j : Fin 1024) :
    o.hid i (part q h j) = hidden o.x1 (o.w1 (part b h' 0)) i j := by
  have e1 : (q + j.val) / 1024 = b := by have := j.isLt; omega
  have e2 : (q + j.val) % 1024 = j.val := by have := j.isLt; omega
  exact congrArg₂ (fun c l => hidden o.x1 (o.w1 c) i l) (Fin.ext e1) (Fin.ext e2)

end FfnArgs

/-- Column sums over 512 rows, accumulated from the two halves one after the other. -/
theorem addRows_halves {m : ℕ} (s : Mat 1 m) (a : Mat 512 m) (h : 0 + 256 ≤ 512) (h' : 256 + 256 ≤ 512) :
    addRows (addRows s fun i => a (part 0 h i)) (fun i => a (part 256 h' i)) = addRows s a := by
  funext i j
  have e := Fin.sum_univ_add (a := 256) (b := 256) fun q => a q j
  unfold addRows
  rw [show (∑ q, a q j) = _ from e, add_assoc]
  exact congrArg₂ (fun x y => s i j + (x + y))
    (Finset.sum_congr rfl fun q _ => congrArg (fun p => a p j) (Fin.ext (Nat.zero_add _)))
    rfl

end Cert.Layer
-- ==== Proof.FfnPays.lean ====
/-
  What the output projection, norms and feed-forward kernel computes from a part of 256 rows, on finite arrays: each
  stage of its body as one function of the stage before.
-/
module

public import proofs.«01_k».proof.Proof.Layer
public import proofs.«01_k».proof.Proof.Gen.FfnFwdIdeal.Value

@[expose] public section

set_option maxRecDepth 16384

noncomputable section

namespace Cert.FfnFwdIdeal.Blocks

open Cert.FfnFwdIdeal Cert.FfnFwdIdeal.Gen Cert.Reals Cert.Layer Idealize.ShloMosaic

/-! ## The accumulated rows start from zero -/

@[rify_simps] theorem pay3 : k0_pay3 (F := Ideal) = up2 fun _ _ => 0 := splat_zero
@[rify_simps] theorem pay4 : k0_pay4 (F := Ideal) = up2 fun _ _ => 0 := splat_zero
@[rify_simps] theorem pay5 : k0_pay5 (F := Ideal) = up2 fun _ _ => 0 := splat_zero

/-! ## The first norm -/

section
variable (a x : Mat 256 1024) (w : Mat 1024 1024) (g b : Mat 1 1024)

@[rify_simps] theorem pay6 : k0_pay6 (F := Ideal) (bf2 a) (bf2 w) = up2 (mm a w) := by
  simp only [k0_pay6, dot_S256x1024_S1024x1024_S256x1024_1_0_0_1_n_n, rify_simps, zero_add] <;> rfl
@[rify_simps] theorem pay7 : k0_pay7 (F := Ideal) (bf2 a) (bf2 w) (f2 x) = up2 (cen (resid x (mm a w))) := by
  simp only [k0_pay7, dot_S256x1024_S1024x1024_S256x1024_1_0_0_1_n_n, rify_simps, zero_add] <;> rfl
@[rify_simps] theorem pay8 : k0_pay8 (F := Ideal) (bf2 a) (bf2 w) (f2 x) = up2 fun i _ => rstd (resid x (mm a w)) i := by
  simp only [k0_pay8, dot_S256x1024_S1024x1024_S256x1024_1_0_0_1_n_n, rify_simps, zero_add] <;> exact rsqrt_vare _
@[rify_simps] theorem pay9 : k0_pay9 (F := Ideal) (bf2 a) (bf2 w) (f2 x) = up2 (xhat (resid x (mm a w))) := by
  simp only [k0_pay9, dot_S256x1024_S1024x1024_S256x1024_1_0_0_1_n_n, rify_simps, zero_add] <;> rfl
@[rify_simps] theorem pay23 : k0_pay23 (F := Ideal) (f2 a) (f2 x) = up2 (cen (resid x a)) := by
  simp only [k0_pay23, dot_S256x1024_S1024x1024_S256x1024_1_0_0_1_n_n, rify_simps, zero_add] <;> rfl
@[rify_simps] theorem pay24 : k0_pay24 (F := Ideal) (f2 a) (f2 x) = up2 fun i _ => rstd (resid x a) i := by
  simp only [k0_pay24, dot_S256x1024_S1024x1024_S256x1024_1_0_0_1_n_n, rify_simps, zero_add] <;> exact rsqrt_vare _
@[rify_simps] theorem pay25 : k0_pay25 (F := Ideal) (f2 a) (f2 x) = up2 (xhat (resid x a)) := by
  simp only [k0_pay25, dot_S256x1024_S1024x1024_S256x1024_1_0_0_1_n_n, rify_simps, zero_add] <;> rfl
@[rify_simps] theorem pay10 : k0_pay10 (F := Ideal) (f2 a) (f2 g) (f2 b) = up2 (affine a g b) := by
  simp only [k0_pay10, dot_S256x1024_S1024x1024_S256x1024_1_0_0_1_n_n, rify_simps, zero_add] <;> rfl
@[rify_simps] theorem pay11 : k0_pay11 (F := Ideal) (f2 a) (f2 g) (f2 b) = up2 (affine a g b) := by
  simp only [k0_pay11, dot_S256x1024_S1024x1024_S256x1024_1_0_0_1_n_n, rify_simps, zero_add] <;> rfl
@[rify_simps] theorem pay26 : k0_pay26 (F := Ideal) (f2 a) (f2 x) (f2 g) (f2 b) = up2 (affine (xhat (resid x a)) g b) := by
  simp only [k0_pay26, dot_S256x1024_S1024x1024_S256x1024_1_0_0_1_n_n, rify_simps, zero_add] <;> rfl
@[rify_simps] theorem pay27 : k0_pay27 (F := Ideal) (f2 a) (f2 x) (f2 g) (f2 b) = up2 (affine (xhat (resid x a)) g b) := by
  simp only [k0_pay27, dot_S256x1024_S1024x1024_S256x1024_1_0_0_1_n_n, rify_simps, zero_add] <;> rfl
end

/-! ## The feed-forward product -/

section
variable (a p x : Mat 256 1024) (g b : Mat 1 1024) (u v u' v' u'' v'' : Fin 1 → Mat 1024 1024)

@[rify_simps] theorem pay12 : k0_pay12 (F := Ideal) (f2 a) (f2 g) (f2 b) (bf3 u) = up2 (hidden (affine a g b) (u 0)) := by
  simp only [k0_pay12, dot_S256x1024_S1024x1024_S256x1024_1_0_0_1_n_n, rify_simps, zero_add] <;> rfl
@[rify_simps] theorem pay13 : k0_pay13 (F := Ideal) (f2 a) (f2 g) (f2 b) (bf3 u) = up2 (hidden (affine a g b) (u 0)) := by
  simp only [k0_pay13, dot_S256x1024_S1024x1024_S256x1024_1_0_0_1_n_n, rify_simps, zero_add] <;> rfl
@[rify_simps] theorem pay14 : k0_pay14 (F := Ideal) (f2 a) (f2 g) (f2 b) (bf3 u) (bf3 v) = up2 (mm (sqr (hidden (affine a g b) (u 0))) (v 0)) := by
  simp only [k0_pay14, dot_S256x1024_S1024x1024_S256x1024_1_0_0_1_n_n, rify_simps, zero_add] <;> rfl
@[rify_simps] theorem pay15 : k0_pay15 (F := Ideal) (f2 a) (f2 g) (f2 b) (bf3 u) = up2 (hidden (affine a g b) (u 0)) := by
  simp only [k0_pay15, dot_S256x1024_S1024x1024_S256x1024_1_0_0_1_n_n, rify_simps, zero_add] <;> rfl
@[rify_simps] theorem pay16 : k0_pay16 (F := Ideal) (f2 a) (f2 g) (f2 b) (bf3 u) = up2 (hidden (affine a g b) (u 0)) := by
  simp only [k0_pay16, dot_S256x1024_S1024x1024_S256x1024_1_0_0_1_n_n, rify_simps, zero_add] <;> rfl
@[rify_simps] theorem pay17 : k0_pay17 (F := Ideal) (f2 a) (f2 g) (f2 b) (bf3 u) = up2 (sqr (hidden (affine a g b) (u 0))) := by
  simp only [k0_pay17, dot_S256x1024_S1024x1024_S256x1024_1_0_0_1_n_n, rify_simps, zero_add] <;> rfl
@[rify_simps] theorem pay18 : k0_pay18 (F := Ideal) (bf2 a) (bf3 u) = up2 (hidden a (u 0)) := by
  simp only [k0_pay18, dot_S256x1024_S1024x1024_S256x1024_1_0_0_1_n_n, rify_simps, zero_add] <;> rfl
@[rify_simps] theorem pay19 : k0_pay19 (F := Ideal) (bf2 a) (bf3 u) = up2 (hidden a (u 0)) := by
  simp only [k0_pay19, dot_S256x1024_S1024x1024_S256x1024_1_0_0_1_n_n, rify_simps, zero_add] <;> rfl
@[rify_simps] theorem pay20 : k0_pay20 (F := Ideal) (bf2 a) (bf3 u) = up2 (hidden a (u 0)) := by
  simp only [k0_pay20, dot_S256x1024_S1024x1024_S256x1024_1_0_0_1_n_n, rify_simps, zero_add] <;> rfl
@[rify_simps] theorem pay21 : k0_pay21 (F := Ideal) (bf2 a) (bf3 u) = up2 (hidden a (u 0)) := by
  simp only [k0_pay21, dot_S256x1024_S1024x1024_S256x1024_1_0_0_1_n_n, rify_simps, zero_add] <;> rfl
@[rify_simps] theorem pay44 : k0_pay44 (F := Ideal) (bf2 a) (bf3 u) = up2 (hidden a (u 0)) := by
  simp only [k0_pay44, dot_S256x1024_S1024x1024_S256x1024_1_0_0_1_n_n, rify_simps, zero_add] <;> rfl
@[rify_simps] theorem pay45 : k0_pay45 (F := Ideal) (bf2 a) (bf3 u) = up2 (hidden a (u 0)) := by
  simp only [k0_pay45, dot_S256x1024_S1024x1024_S256x1024_1_0_0_1_n_n, rify_simps, zero_add] <;> rfl
@[rify_simps] theorem pay46 : k0_pay46 (F := Ideal) (bf2 a) (bf3 u) = up2 (hidden a (u 0)) := by
  simp only [k0_pay46, dot_S256x1024_S1024x1024_S256x1024_1_0_0_1_n_n, rify_simps, zero_add] <;> rfl
@[rify_simps] theorem pay47 : k0_pay47 (F := Ideal) (bf2 a) (bf3 u) = up2 (hidden a (u 0)) := by
  simp only [k0_pay47, dot_S256x1024_S1024x1024_S256x1024_1_0_0_1_n_n, rify_simps, zero_add] <;> rfl
@[rify_simps] theorem pay49 : k0_pay49 (F := Ideal) (bf2 a) (bf3 u) = up2 (hidden a (u 0)) := by
  simp only [k0_pay49, dot_S256x1024_S1024x1024_S256x1024_1_0_0_1_n_n, rify_simps, zero_add] <;> rfl
@[rify_simps] theorem pay50 : k0_pay50 (F := Ideal) (bf2 a) (bf3 u) = up2 (hidden a (u 0)) := by
  simp only [k0_pay50, dot_S256x1024_S1024x1024_S256x1024_1_0_0_1_n_n, rify_simps, zero_add] <;> rfl
@[rify_simps] theorem pay22 : k0_pay22 (F := Ideal) (bf2 a) (f2 p) (bf2 x) (bf3 v) (bf3 u') (bf3 v') (bf3 u'') (bf3 v'') = up2 fun i j => p i j + mm x (v 0) i j + mm (sqr (hidden a (u' 0))) (v' 0) i j
      + mm (sqr (hidden a (u'' 0))) (v'' 0) i j := by
  simp only [k0_pay22, dot_S256x1024_S1024x1024_S256x1024_1_0_0_1_n_n, rify_simps, zero_add] <;> rfl
@[rify_simps] theorem pay28 : k0_pay28 (F := Ideal) (f2 a) (f2 x) (f2 g) (f2 b) (bf3 u) = up2 (mm (affine (xhat (resid x a)) g b) (u 0)) := by
  simp only [k0_pay28, dot_S256x1024_S1024x1024_S256x1024_1_0_0_1_n_n, rify_simps, zero_add] <;> rfl
@[rify_simps] theorem pay42 : k0_pay42 (F := Ideal) (f2 a) = up2 (relu a) := by
  simp only [k0_pay42, dot_S256x1024_S1024x1024_S256x1024_1_0_0_1_n_n, rify_simps, zero_add] <;> rfl
@[rify_simps] theorem pay43 : k0_pay43 (F := Ideal) (f2 a) = up2 (relu a) := by
  simp only [k0_pay43, dot_S256x1024_S1024x1024_S256x1024_1_0_0_1_n_n, rify_simps, zero_add] <;> rfl
@[rify_simps] theorem pay48 : k0_pay48 (F := Ideal) (bf2 a) (f2 x) (bf3 v) (bf3 u') (bf3 v') (bf3 u'') (bf3 v'') = up2 fun i j => mm (sqr x) (v 0) i j + mm (sqr (hidden a (u' 0))) (v' 0) i j
      + mm (sqr (hidden a (u'' 0))) (v'' 0) i j := by
  simp only [k0_pay48, dot_S256x1024_S1024x1024_S256x1024_1_0_0_1_n_n, rify_simps, zero_add] <;> rfl
end

/-! ## The second norm -/

section
variable (f x y t d h : Mat 256 1024) (r : Fin 256 → ℝ) (g b s : Mat 1 1024) (u v : Fin 1 → Mat 1024 1024)

@[rify_simps] theorem pay29 : k0_pay29 (F := Ideal) (f2 x) = up2 fun i j => alpha * x i j := by
  simp only [k0_pay29, dot_S256x1024_S1024x1024_S256x1024_1_0_0_1_n_n, rify_simps, zero_add] <;> rfl
@[rify_simps] theorem pay30 : k0_pay30 (F := Ideal) (f2 f) (f2 y) = up2 (cen (fun i j => y i j + f i j)) := by
  simp only [k0_pay30, dot_S256x1024_S1024x1024_S256x1024_1_0_0_1_n_n, rify_simps, zero_add] <;> rfl
@[rify_simps] theorem pay31 : k0_pay31 (F := Ideal) (f2 f) (f2 y) = up2 fun i _ => rstd (fun i j => y i j + f i j) i := by
  simp only [k0_pay31, dot_S256x1024_S1024x1024_S256x1024_1_0_0_1_n_n, rify_simps, zero_add] <;> exact rsqrt_vare _
@[rify_simps] theorem pay32 : k0_pay32 (F := Ideal) (f2 f) (f2 y) = up2 (xhat (fun i j => y i j + f i j)) := by
  simp only [k0_pay32, dot_S256x1024_S1024x1024_S256x1024_1_0_0_1_n_n, rify_simps, zero_add] <;> rfl
@[rify_simps] theorem pay33 : k0_pay33 (F := Ideal) (f2 f) (f2 y) (f2 g) (f2 b) (f2 t) = up2 (sub (affine (xhat (fun i j => y i j + f i j)) g b) t) := by
  simp only [k0_pay33, dot_S256x1024_S1024x1024_S256x1024_1_0_0_1_n_n, rify_simps, zero_add] <;> rfl
@[rify_simps] theorem pay34 : k0_pay34 (F := Ideal) (f2 f) (f2 y) (f2 g) (f2 b) (f2 t) (f2 s) = up2 (addRows s (sqr (sub (affine (xhat (fun i j => y i j + f i j)) g b) t))) := by
  simp only [k0_pay34, dot_S256x1024_S1024x1024_S256x1024_1_0_0_1_n_n, rify_simps, zero_add] <;> rfl
@[rify_simps] theorem pay35 : k0_pay35 (F := Ideal) (f2 f) (f2 y) (f2 g) (f2 b) (f2 t) = up2 (lossGrad (affine (xhat (fun i j => y i j + f i j)) g b) t) := by
  simp only [k0_pay35, dot_S256x1024_S1024x1024_S256x1024_1_0_0_1_n_n, rify_simps, zero_add] <;> rfl
@[rify_simps] theorem pay36 : k0_pay36 (F := Ideal) (f2 s) = up2 s := by
  simp only [k0_pay36, dot_S256x1024_S1024x1024_S256x1024_1_0_0_1_n_n, rify_simps, zero_add] <;> rfl
@[rify_simps] theorem pay37 : k0_pay37 (F := Ideal) (f2 f) (f2 y) (f2 g) (f2 b) (f2 t)
    = up1 fun j => ∑ q, mul (lossGrad (affine (xhat (fun i j => y i j + f i j)) g b) t) (xhat (fun i j => y i j + f i j)) q j := by
  simp only [k0_pay37, rify_simps]; rfl
@[rify_simps] theorem pay38 (e : Fin 1024 → ℝ) : k0_pay38 (F := Ideal) (f2 s) (up1 e) = up2 fun i j => s i j + e j := by
  simp only [k0_pay38, rify_simps]
@[rify_simps] theorem pay39 : k0_pay39 (F := Ideal) (f2 d) (f2 s) = up2 (addRows s d) := by
  simp only [k0_pay39, dot_S256x1024_S1024x1024_S256x1024_1_0_0_1_n_n, rify_simps, zero_add] <;> rfl
@[rify_simps] theorem pay40 : k0_pay40 (F := Ideal) (up2 (m := 1) fun i _ => r i) (f2 h) (f2 d) (f2 g) = up2 (normBwd (mulRow d g) h r) := by
  simp only [k0_pay40, dot_S256x1024_S1024x1024_S256x1024_1_0_0_1_n_n, rify_simps, zero_add] <;> rfl
@[rify_simps] theorem pay41 : k0_pay41 (F := Ideal) (up2 (m := 1) fun i _ => r i) (f2 h) (f2 d) (f2 g) = up2 (normBwd (mulRow d g) h r) := by
  simp only [k0_pay41, dot_S256x1024_S1024x1024_S256x1024_1_0_0_1_n_n, rify_simps, zero_add] <;> rfl
@[rify_simps] theorem pay51 : k0_pay51 (F := Ideal) (f2 x) (bf2 y) (f2 f) (bf3 u) (bf3 v) = up2 (cen (resid x fun i j => f i j + mm (sqr (hidden y (u 0))) (v 0) i j)) := by
  simp only [k0_pay51, dot_S256x1024_S1024x1024_S256x1024_1_0_0_1_n_n, rify_simps, zero_add] <;> rfl
@[rify_simps] theorem pay52 : k0_pay52 (F := Ideal) (f2 x) (bf2 y) (f2 f) (bf3 u) (bf3 v) = up2 fun i _ => rstd (resid x fun i j => f i j + mm (sqr (hidden y (u 0))) (v 0) i j) i := by
  simp only [k0_pay52, dot_S256x1024_S1024x1024_S256x1024_1_0_0_1_n_n, rify_simps, zero_add] <;> exact rsqrt_vare _
@[rify_simps] theorem pay53 : k0_pay53 (F := Ideal) (f2 x) (bf2 y) (f2 f) (bf3 u) (bf3 v) = up2 (xhat (resid x fun i j => f i j + mm (sqr (hidden y (u 0))) (v 0) i j)) := by
  simp only [k0_pay53, dot_S256x1024_S1024x1024_S256x1024_1_0_0_1_n_n, rify_simps, zero_add] <;> rfl
@[rify_simps] theorem pay54 : k0_pay54 (F := Ideal) (f2 x) (bf2 y) (f2 f) (bf3 u) (bf3 v) (f2 g) (f2 b) = up2 (affine (xhat (resid x fun i j => f i j + mm (sqr (hidden y (u 0))) (v 0) i j)) g b) := by
  simp only [k0_pay54, dot_S256x1024_S1024x1024_S256x1024_1_0_0_1_n_n, rify_simps, zero_add] <;> rfl
@[rify_simps] theorem pay55 : k0_pay55 (F := Ideal) (f2 y) (f2 t) = up2 (sub y t) := by
  simp only [k0_pay55, dot_S256x1024_S1024x1024_S256x1024_1_0_0_1_n_n, rify_simps, zero_add] <;> rfl
@[rify_simps] theorem pay56 : k0_pay56 (F := Ideal) (f2 y) (f2 t) (f2 s) = up2 (addRows s (sqr (sub y t))) := by
  simp only [k0_pay56, dot_S256x1024_S1024x1024_S256x1024_1_0_0_1_n_n, rify_simps, zero_add] <;> rfl
@[rify_simps] theorem pay57 : k0_pay57 (F := Ideal) (f2 y) (f2 t) = up2 (lossGrad y t) := by
  simp only [k0_pay57, dot_S256x1024_S1024x1024_S256x1024_1_0_0_1_n_n, rify_simps, zero_add] <;> rfl
@[rify_simps] theorem pay58 : k0_pay58 (F := Ideal) (f2 h) (f2 y) (f2 t) (f2 s) = up2 (addRows s (mul (lossGrad y t) h)) := by
  simp only [k0_pay58, dot_S256x1024_S1024x1024_S256x1024_1_0_0_1_n_n, rify_simps, zero_add] <;> rfl
@[rify_simps] theorem pay59 : k0_pay59 (F := Ideal) (f2 y) (f2 t) (f2 s) = up2 (addRows s (lossGrad y t)) := by
  simp only [k0_pay59, dot_S256x1024_S1024x1024_S256x1024_1_0_0_1_n_n, rify_simps, zero_add] <;> rfl
@[rify_simps] theorem pay60 : k0_pay60 (F := Ideal) (f2 y) (f2 t) (f2 g) = up2 (mulRow (lossGrad y t) g) := by
  simp only [k0_pay60, dot_S256x1024_S1024x1024_S256x1024_1_0_0_1_n_n, rify_simps, zero_add] <;> rfl
@[rify_simps] theorem pay61 : k0_pay61 (F := Ideal) (f2 y) (f2 t) (f2 g) = up2 fun i _ => (∑ q, mulRow (lossGrad y t) g i q) / 1024 := by
  simp only [k0_pay61, dot_S256x1024_S1024x1024_S256x1024_1_0_0_1_n_n, rify_simps, zero_add] <;> rfl
@[rify_simps] theorem pay62 : k0_pay62 (F := Ideal) (f2 h) (f2 y) (f2 t) (f2 g) = up2 fun i _ => ∑ q, mulRow (lossGrad y t) g i q * h i q := by
  simp only [k0_pay62, dot_S256x1024_S1024x1024_S256x1024_1_0_0_1_n_n, rify_simps, zero_add] <;> rfl
@[rify_simps] theorem pay1 : k0_pay1 (F := Ideal) (up2 (m := 1) fun i _ => r i) (f2 h) (f2 d)
      (up2 (m := 1) fun i _ => (∑ q, d i q) / 1024) (up2 (m := 1) fun i _ => ∑ q, d i q * h i q) = up2 (normBwd d h r) := by
  simp only [k0_pay1, dot_S256x1024_S1024x1024_S256x1024_1_0_0_1_n_n, rify_simps, zero_add] <;> rfl
@[rify_simps] theorem pay2 : k0_pay2 (F := Ideal) (up2 (m := 1) fun i _ => r i) (f2 h) (f2 d)
      (up2 (m := 1) fun i _ => (∑ q, d i q) / 1024) (up2 (m := 1) fun i _ => ∑ q, d i q * h i q) = up2 (normBwd d h r) := by
  simp only [k0_pay2, dot_S256x1024_S1024x1024_S256x1024_1_0_0_1_n_n, rify_simps, zero_add] <;> rfl
end

end Cert.FfnFwdIdeal.Blocks
-- ==== Proof.FfnBlocks.lean ====
/-
  What one grid point of the output projection, norms and feed-forward kernel stores: the arrays of its 512 rows, and the
  accumulated rows with the sums over these 512 rows added (from zero at the first point).
-/
module

public import proofs.«01_k».proof.Proof.FfnSpec
public import proofs.«01_k».proof.Proof.FfnPays

@[expose] public section

set_option maxRecDepth 16384

noncomputable section

namespace Cert.FfnFwdIdeal.Blocks

open Cert.FfnFwdIdeal Cert.FfnFwdIdeal.Gen Cert.Reals Cert.Layer Idealize.ShloMosaic Idealize.SL Idealize.SL.Sem

/-- The blocks that point `t` reads are the arguments `o`. -/
structure Reads (m : (ℓ : Loc nD τ sig) → Buf (Elt Ideal) ℓ) (c : Dev nD) (t : Fin cfg0.N) (o : FfnArgs 512) : Prop where
  e0 : iblk m c 0 t = bf2 o.cat
  e1 : iblk m c 1 t = f2 o.x
  e2 : iblk m c 2 t = bf2 o.wo
  e3 : iblk m c 3 t = f2 o.g1
  e4 : iblk m c 4 t = f2 o.b1
  e5 : iblk m c 5 t = bf3 o.w1
  e6 : iblk m c 6 t = bf3 o.w2
  e7 : iblk m c 7 t = f2 o.g2
  e8 : iblk m c 8 t = f2 o.b2
  e9 : iblk m c 9 t = f2 o.tgt

variable {m : (ℓ : Loc nD τ sig) → Buf (Elt Ideal) ℓ} {c : Dev nD} {t : Fin cfg0.N} {o : FfnArgs 512}

/-! ## The arrays of the rows -/

theorem out10 (e : Reads m c t o) : (outsAt0 m c t.val t.isLt).1 = f2 o.h1 := by
  by_cases h0 : t.val % 8 = 0
  · rw [outsAt0_A m c t h0]; dsimp only; unfold out0_A_10
    rw [View.read_writes_eq_canon _ _ _ (fun _ => cover0_A_10 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
  · rw [outsAt0_B m c t h0]; dsimp only; unfold out0_B_10
    rw [View.read_writes_eq_canon _ _ _ (fun _ => cover0_B_10 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
theorem out11 (e : Reads m c t o) : (outsAt0 m c t.val t.isLt).2.1 = f2 (m := 1) fun i _ => rstd o.z1 i := by
  by_cases h0 : t.val % 8 = 0
  · rw [outsAt0_A m c t h0]; dsimp only; unfold out0_A_11
    rw [View.read_writes_eq_canon _ _ _ (fun _ => cover0_A_11 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
  · rw [outsAt0_B m c t h0]; dsimp only; unfold out0_B_11
    rw [View.read_writes_eq_canon _ _ _ (fun _ => cover0_B_11 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
theorem out12 (e : Reads m c t o) : (outsAt0 m c t.val t.isLt).2.2.1 = bf2 o.x1 := by
  by_cases h0 : t.val % 8 = 0
  · rw [outsAt0_A m c t h0]; dsimp only; unfold out0_A_12
    rw [View.read_writes_eq_canon _ _ _ (fun _ => cover0_A_12 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
  · rw [outsAt0_B m c t h0]; dsimp only; unfold out0_B_12
    rw [View.read_writes_eq_canon _ _ _ (fun _ => cover0_B_12 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
theorem out14 (e : Reads m c t o) : (outsAt0 m c t.val t.isLt).2.2.2.2.1 = f2 o.dz2 := by
  by_cases h0 : t.val % 8 = 0
  · rw [outsAt0_A m c t h0]; dsimp only; unfold out0_A_14
    rw [View.read_writes_eq_canon _ _ _ (fun _ => cover0_A_14 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
  · rw [outsAt0_B m c t h0]; dsimp only; unfold out0_B_14
    rw [View.read_writes_eq_canon _ _ _ (fun _ => cover0_B_14 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
theorem out15 (e : Reads m c t o) : (outsAt0 m c t.val t.isLt).2.2.2.2.2.1 = bf2 o.dz2 := by
  by_cases h0 : t.val % 8 = 0
  · rw [outsAt0_A m c t h0]; dsimp only; unfold out0_A_15
    rw [View.read_writes_eq_canon _ _ _ (fun _ => cover0_A_15 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
  · rw [outsAt0_B m c t h0]; dsimp only; unfold out0_B_15
    rw [View.read_writes_eq_canon _ _ _ (fun _ => cover0_B_15 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    exact canon_rows _ rfl _ _ _ _ (fun i j => rfl) (fun i j => rfl)
/-- The hidden features are stored in eight blocks, two halves of the rows by four blocks of columns. -/
theorem out13 (e : Reads m c t o) : (outsAt0 m c t.val t.isLt).2.2.2.1 = bf2 o.hid := by
  by_cases h0 : t.val % 8 = 0
  · rw [outsAt0_A m c t h0]; dsimp only; unfold out0_A_13
    rw [View.read_writes_eq_canon _ _ _ (fun _ => cover0_A_13 ..)]
    unfold kernelRun0_A; dsimp only; sl_unfold_words
    simp only [e.e0, e.e1, e.e2, e.e3, e.e4, e.e5, e.e6, e.e7, e.e8, e.e9, View.readAt_eq_ld, Memref.IsWhole.read_unread, part_zero,
      rify_simps]
    refine canon_agree _ _ (View.cover_of_tiled_head _ _ _ rfl) ?_
    simp only [List.forall_mem_cons, List.not_mem_nil, false_imp_iff, implies_true, and_true]
    refine ⟨?_, ?_, ?_, ?_, ?_, ?_, ?_, ?_⟩ <;>
      exact agree2 _ _ _ fun i j => (o.hid_part _ _ (by decide) rfl j).symm
  · rw [outsAt0_B m c t h0]; dsimp only; unfold out0_B_13
    rw [View.read_writes_eq_canon _ _ _ (fun _ => cover0_B_13 ..)]
    unfold kernelRun0_B; dsimp only; sl_unfold_words
    simp only [e.e0, e.e1, e.e2, e.e3, e.e4, e.e5, e.e6, e.e7, e.e8, e.e9, View.readAt_eq_ld, Memref.IsWhole.read_unread, part_zero,
      rify_simps]
    refine canon_agree _ _ (View.cover_of_tiled_head _ _ _ rfl) ?_
    simp only [List.forall_mem_cons, List.not_mem_nil, false_imp_iff, implies_true, and_true]
    refine ⟨?_, ?_, ?_, ?_, ?_, ?_, ?_, ?_⟩ <;>
      exact agree2 _ _ _ fun i j => (o.hid_part _ _ (by decide) rfl j).symm

/-! ## The accumulated rows -/

theorem out16_first (h0 : t.val % 8 = 0) (e : Reads m c t o) :
    (outsAt0 m c t.val t.isLt).2.2.2.2.2.2.1 = f2 (addRows (fun _ _ => 0) (mul o.dy o.h2)) := by
  rw [outsAt0_A m c t h0]; dsimp only; unfold out0_A_16
  rw [View.read_writes_eq_canon _ _ _ (fun _ => cover0_A_16 ..)]
  unfold kernelRun0_A; dsimp only; sl_unfold_words
  simp only [e.e0, e.e1, e.e2, e.e3, e.e4, e.e5, e.e6, e.e7, e.e8, e.e9, View.readAt_eq_ld, Memref.IsWhole.read_unread,
    part_zero, rify_simps]
  exact congrArg (up2 (φ := .f32)) (addRows_halves _ (mul o.dy o.h2) _ _)
theorem out16_next (h0 : ¬t.val % 8 = 0) (e : Reads m c t o) (s : Mat 1 1024)
    (hs : (outsAt0 m c (t.val - 1) (Nat.lt_of_le_of_lt (Nat.sub_le _ _) t.isLt)).2.2.2.2.2.2.1 = f2 s) :
    (outsAt0 m c t.val t.isLt).2.2.2.2.2.2.1 = f2 (addRows s (mul o.dy o.h2)) := by
  rw [outsAt0_B m c t h0]; dsimp only; unfold out0_B_16
  rw [View.read_writes_eq_canon _ _ _ (fun _ => cover0_B_16 ..)]
  unfold kernelRun0_B; dsimp only; sl_unfold_words
  simp only [hs, e.e0, e.e1, e.e2, e.e3, e.e4, e.e5, e.e6, e.e7, e.e8, e.e9, View.readAt_eq_ld, Memref.IsWhole.read_unread,
    part_zero, rify_simps]
  exact congrArg (up2 (φ := .f32)) (addRows_halves _ (mul o.dy o.h2) _ _)
theorem out17_first (h0 : t.val % 8 = 0) (e : Reads m c t o) :
    (outsAt0 m c t.val t.isLt).2.2.2.2.2.2.2.1 = f2 (addRows (fun _ _ => 0) (o.dy)) := by
  rw [outsAt0_A m c t h0]; dsimp only; unfold out0_A_17
  rw [View.read_writes_eq_canon _ _ _ (fun _ => cover0_A_17 ..)]
  unfold kernelRun0_A; dsimp only; sl_unfold_words
  simp only [e.e0, e.e1, e.e2, e.e3, e.e4, e.e5, e.e6, e.e7, e.e8, e.e9, View.readAt_eq_ld, Memref.IsWhole.read_unread,
    part_zero, rify_simps]
  exact congrArg (up2 (φ := .f32)) (addRows_halves _ (o.dy) _ _)
theorem out17_next (h0 : ¬t.val % 8 = 0) (e : Reads m c t o) (s : Mat 1 1024)
    (hs : (outsAt0 m c (t.val - 1) (Nat.lt_of_le_of_lt (Nat.sub_le _ _) t.isLt)).2.2.2.2.2.2.2.1 = f2 s) :
    (outsAt0 m c t.val t.isLt).2.2.2.2.2.2.2.1 = f2 (addRows s (o.dy)) := by
  rw [outsAt0_B m c t h0]; dsimp only; unfold out0_B_17
  rw [View.read_writes_eq_canon _ _ _ (fun _ => cover0_B_17 ..)]
  unfold kernelRun0_B; dsimp only; sl_unfold_words
  simp only [hs, e.e0, e.e1, e.e2, e.e3, e.e4, e.e5, e.e6, e.e7, e.e8, e.e9, View.readAt_eq_ld, Memref.IsWhole.read_unread,
    part_zero, rify_simps]
  exact congrArg (up2 (φ := .f32)) (addRows_halves _ (o.dy) _ _)
theorem out18_first (h0 : t.val % 8 = 0) (e : Reads m c t o) :
    (outsAt0 m c t.val t.isLt).2.2.2.2.2.2.2.2 = f2 (addRows (fun _ _ => 0) (sqr o.err)) := by
  rw [outsAt0_A m c t h0]; dsimp only; unfold out0_A_18
  rw [View.read_writes_eq_canon _ _ _ (fun _ => cover0_A_18 ..)]
  unfold kernelRun0_A; dsimp only; sl_unfold_words
  simp only [e.e0, e.e1, e.e2, e.e3, e.e4, e.e5, e.e6, e.e7, e.e8, e.e9, View.readAt_eq_ld, Memref.IsWhole.read_unread,
    part_zero, rify_simps]
  exact congrArg (up2 (φ := .f32)) (addRows_halves _ (sqr o.err) _ _)
theorem out18_next (h0 : ¬t.val % 8 = 0) (e : Reads m c t o) (s : Mat 1 1024)
    (hs : (outsAt0 m c (t.val - 1) (Nat.lt_of_le_of_lt (Nat.sub_le _ _) t.isLt)).2.2.2.2.2.2.2.2 = f2 s) :
    (outsAt0 m c t.val t.isLt).2.2.2.2.2.2.2.2 = f2 (addRows s (sqr o.err)) := by
  rw [outsAt0_B m c t h0]; dsimp only; unfold out0_B_18
  rw [View.read_writes_eq_canon _ _ _ (fun _ => cover0_B_18 ..)]
  unfold kernelRun0_B; dsimp only; sl_unfold_words
  simp only [hs, e.e0, e.e1, e.e2, e.e3, e.e4, e.e5, e.e6, e.e7, e.e8, e.e9, View.readAt_eq_ld, Memref.IsWhole.read_unread,
    part_zero, rify_simps]
  exact congrArg (up2 (φ := .f32)) (addRows_halves _ (sqr o.err) _ _)

end Cert.FfnFwdIdeal.Blocks
-- ==== Proof.FfnReads.lean ====
/-
  What the output projection, norms and feed-forward kernel reads: the launch's arguments, on finite arrays, through the
  host's reshapes and casts and the windows of each grid point.
-/
module

public import proofs.«01_k».proof.Proof.FfnBlocks
public import Idealize.ShloMosaic.Lib.Pipeline.ValueKit.Point

@[expose] public section

set_option maxRecDepth 16384

noncomputable section

namespace Cert.Layer

open Cert.Reals Idealize.ShloMosaic

/-- The call's arguments on finite arrays, as the layer holds them: the feed-forward matrices whole. -/
structure FfnIn where
  cat : Mat 4096 1024
  x : Mat 4096 1024
  wo : Mat 1024 1024
  g1 : Mat 1 1024
  b1 : Mat 1 1024
  w1 : Mat 1024 4096
  w2 : Mat 4096 1024
  g2 : Mat 1 1024
  b2 : Mat 1 1024
  tgt : Mat 4096 1024

/-- The same arguments with the feed-forward matrices in four blocks of hidden features. -/
def FfnIn.args (a : FfnIn) : FfnArgs 4096 :=
  { a with w1 := fun k i j => a.w1 i (feat k j), w2 := fun k i j => a.w2 (feat k i) j }

/-- The ten argument arrays hold `a`. -/
structure FfnIn.Is (a : FfnIn) (a0 : FVec Ideal ⟨2, ![4096, 1024]⟩ .f32) (a1 : FVec Ideal ⟨3, ![1, 4096, 1024]⟩ .f32)
    (a2 : FVec Ideal ⟨3, ![1, 1024, 1024]⟩ .f32) (a3 a4 : FVec Ideal ⟨2, ![1, 1024]⟩ .f32)
    (a5 : FVec Ideal ⟨3, ![1, 1024, 4096]⟩ .f32) (a6 : FVec Ideal ⟨3, ![1, 4096, 1024]⟩ .f32)
    (a7 a8 : FVec Ideal ⟨2, ![1, 1024]⟩ .f32) (a9 : FVec Ideal ⟨3, ![1, 4096, 1024]⟩ .f32) : Prop where
  e0 : a0 = up2 a.cat
  e1 : a1 = up3 fun _ => a.x
  e2 : a2 = up3 fun _ => a.wo
  e3 : a3 = up2 a.g1
  e4 : a4 = up2 a.b1
  e5 : a5 = up3 fun _ => a.w1
  e6 : a6 = up3 fun _ => a.w2
  e7 : a7 = up2 a.g2
  e8 : a8 = up2 a.b2
  e9 : a9 = up3 fun _ => a.tgt

end Cert.Layer

namespace Cert.FfnFwdIdeal.Blocks

open Cert.FfnFwdIdeal Cert.FfnFwdIdeal.Gen Cert.Reals Cert.Layer Idealize.ShloMosaic Idealize.ShloMosaic.TcCoe Idealize.SL.Sem

variable {m : (ℓ : Loc nD τ sig) → Buf (Elt Ideal) ℓ} {c : Dev nD} (t : Fin cfg0.N) {o : FfnArgs 512}

/-- Row `i` of point `t`. -/
def rowOf (i : Fin 512) : Fin 4096 :=
  ⟨t.val * 512 + i.val, by have := lt_of_lt_of_eq t.isLt N_0; have := i.isLt; omega⟩

theorem read0 (a : Mat 4096 1024) :
    View.read (Elt Ideal) ((cfg0.win 0).blk t).view (up2 (φ := .bf16) a) = up2 (φ := .bf16) fun i => a (rowOf t i) := by
  have e : (cfg0.win 0).index t = ![t.val, 0] := by revert t; decide +kernel
  funext y
  refine congrArg₂ (fun i j => ((a i j : ℝ) : EReal)) (Fin.ext ?_) (Fin.ext ?_) <;> blk_simp [e] <;> rfl
theorem read1 (a : Mat 4096 1024) :
    View.read (Elt Ideal) ((cfg0.win 1).blk t).view (up2 (φ := .f32) a) = up2 (φ := .f32) fun i => a (rowOf t i) := by
  have e : (cfg0.win 1).index t = ![t.val, 0] := by revert t; decide +kernel
  funext y
  refine congrArg₂ (fun i j => ((a i j : ℝ) : EReal)) (Fin.ext ?_) (Fin.ext ?_) <;> blk_simp [e] <;> rfl
theorem read2 (a : Mat 1024 1024) : View.read (Elt Ideal) ((cfg0.win 2).blk t).view (up2 (φ := .bf16) a) = up2 (φ := .bf16) a := by
  have e : (cfg0.win 2).index t = ![0, 0] := by revert t; decide +kernel
  funext y
  refine congrArg (up2 (φ := .bf16) a) ?_
  blk_ext [e]
theorem read3 (a : Mat 1 1024) : View.read (Elt Ideal) ((cfg0.win 3).blk t).view (up2 (φ := .f32) a) = up2 (φ := .f32) a := by
  have e : (cfg0.win 3).index t = ![0, 0] := by revert t; decide +kernel
  funext y
  refine congrArg (up2 (φ := .f32) a) ?_
  blk_ext [e]
theorem read4 (a : Mat 1 1024) : View.read (Elt Ideal) ((cfg0.win 4).blk t).view (up2 (φ := .f32) a) = up2 (φ := .f32) a := by
  have e : (cfg0.win 4).index t = ![0, 0] := by revert t; decide +kernel
  funext y
  refine congrArg (up2 (φ := .f32) a) ?_
  blk_ext [e]
theorem read5 (a : Fin 4 → Mat 1024 1024) : View.read (Elt Ideal) ((cfg0.win 5).blk t).view (up3 (φ := .bf16) a) = up3 (φ := .bf16) a := by
  have e : (cfg0.win 5).index t = ![0, 0, 0] := by revert t; decide +kernel
  funext y
  refine congrArg (up3 (φ := .bf16) a) ?_
  blk_ext [e]
theorem read6 (a : Fin 4 → Mat 1024 1024) : View.read (Elt Ideal) ((cfg0.win 6).blk t).view (up3 (φ := .bf16) a) = up3 (φ := .bf16) a := by
  have e : (cfg0.win 6).index t = ![0, 0, 0] := by revert t; decide +kernel
  funext y
  refine congrArg (up3 (φ := .bf16) a) ?_
  blk_ext [e]
theorem read7 (a : Mat 1 1024) : View.read (Elt Ideal) ((cfg0.win 7).blk t).view (up2 (φ := .f32) a) = up2 (φ := .f32) a := by
  have e : (cfg0.win 7).index t = ![0, 0] := by revert t; decide +kernel
  funext y
  refine congrArg (up2 (φ := .f32) a) ?_
  blk_ext [e]
theorem read8 (a : Mat 1 1024) : View.read (Elt Ideal) ((cfg0.win 8).blk t).view (up2 (φ := .f32) a) = up2 (φ := .f32) a := by
  have e : (cfg0.win 8).index t = ![0, 0] := by revert t; decide +kernel
  funext y
  refine congrArg (up2 (φ := .f32) a) ?_
  blk_ext [e]
theorem read9 (a : Mat 4096 1024) :
    View.read (Elt Ideal) ((cfg0.win 9).blk t).view (up2 (φ := .f32) a) = up2 (φ := .f32) fun i => a (rowOf t i) := by
  have e : (cfg0.win 9).index t = ![t.val, 0] := by revert t; decide +kernel
  funext y
  refine congrArg₂ (fun i j => ((a i j : ℝ) : EReal)) (Fin.ext ?_) (Fin.ext ?_) <;> blk_simp [e] <;> rfl

/-- Each point reads the rows of its block and the weights whole. -/
theorem reads {a : FfnIn} (h : a.Is (m ((c : Thread nD τ).loc main_arg0))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    Reads m c t (a.args.rows (rowOf t)) where
  e0 := by
    unfold iblk; entry_read; rw [show m (c, Proc.tc.devRef main_arg0) = _ from h.e0]
    simp only [rify_simps]; exact read0 t _
  e1 := by
    unfold iblk; entry_read; rw [show m (c, Proc.tc.devRef main_arg1) = _ from h.e1]
    refine (congrArg (View.read _ _) ?_).trans (read1 t _)
    show shapeCast ⟨2, ![4096, 1024]⟩ (f3 fun _ => a.x) _ = _
    simp only [rify_simps]
  e2 := by
    unfold iblk; entry_read; rw [show m (c, Proc.tc.devRef main_arg2) = _ from h.e2]
    refine (congrArg (View.read _ _) ?_).trans (read2 t _)
    show truncf .bf16 (shapeCast ⟨2, ![1024, 1024]⟩ (f3 fun _ => a.wo) _) _ = _
    simp only [rify_simps]; rfl
  e3 := by
    unfold iblk; entry_read; rw [show m (c, Proc.tc.devRef main_arg3) = _ from h.e3]
    simp only [rify_simps]; exact read3 t _
  e4 := by
    unfold iblk; entry_read; rw [show m (c, Proc.tc.devRef main_arg4) = _ from h.e4]
    simp only [rify_simps]; exact read4 t _
  e5 := by
    unfold iblk; entry_read; rw [show m (c, Proc.tc.devRef main_arg5) = _ from h.e5]
    refine (congrArg (View.read _ _) ?_).trans (read5 t _)
    show truncf .bf16 (transpose ⟨3, ![4, 1024, 1024]⟩ [1, 0, 2] (shapeCast ⟨3, ![1024, 4, 1024]⟩
      (shapeCast ⟨2, ![1024, 4096]⟩ (f3 fun _ => a.w1) _) _) _) _ = _
    rw [shapeCast_slab, w1_blocks]; rfl
  e6 := by
    unfold iblk; entry_read; rw [show m (c, Proc.tc.devRef main_arg6) = _ from h.e6]
    refine (congrArg (View.read _ _) ?_).trans (read6 t _)
    show shapeCast ⟨3, ![4, 1024, 1024]⟩ (truncf .bf16 (shapeCast ⟨2, ![4096, 1024]⟩ (f3 fun _ => a.w2) _) _) _ = _
    rw [shapeCast_slab, truncf2]; exact w2_blocks a.w2 _
  e7 := by
    unfold iblk; entry_read; rw [show m (c, Proc.tc.devRef main_arg7) = _ from h.e7]
    simp only [rify_simps]; exact read7 t _
  e8 := by
    unfold iblk; entry_read; rw [show m (c, Proc.tc.devRef main_arg8) = _ from h.e8]
    simp only [rify_simps]; exact read8 t _
  e9 := by
    unfold iblk; entry_read; rw [show m (c, Proc.tc.devRef main_arg9) = _ from h.e9]
    refine (congrArg (View.read _ _) ?_).trans (read9 t _)
    show shapeCast ⟨2, ![4096, 1024]⟩ (f3 fun _ => a.tgt) _ = _
    simp only [rify_simps]

end Cert.FfnFwdIdeal.Blocks
-- ==== Proof.FfnArrays.lean ====
/-
  The arrays that the output projection, norms and feed-forward kernel leaves: the rows' arrays block by block, and the
  rows of sums by induction over the eight grid points.
-/
module

public import proofs.«01_k».proof.Proof.FfnReads
public import Idealize.ShloMosaic.Lib.Pointwise.Sums

@[expose] public section

set_option maxRecDepth 16384

noncomputable section

namespace Cert.FfnFwdIdeal.Blocks

open Cert.FfnFwdIdeal Cert.FfnFwdIdeal.Gen Cert.FfnFwdIdeal.Value Cert.Reals Cert.Layer
open Idealize.ShloMosaic Idealize.ShloMosaic.TcCoe Idealize.SL.Sem Idealize.ShloMosaic.Pipeline

variable {m : (ℓ : Loc nD τ sig) → Buf (Elt Ideal) ℓ} {c : Dev nD} {a : FfnIn}

/-- The arguments at the launch are `a`. -/
abbrev Args (m : (ℓ : Loc nD τ sig) → Buf (Elt Ideal) ℓ) (c : Dev nD) (a : FfnIn) : Prop :=
  a.Is (m ((c : Thread nD τ).loc main_arg0))
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The arrays of the rows -/

theorem read10 (t : Fin cfg0.N) (b : Mat 4096 1024) :
    View.read (Elt Ideal) ((cfg0.win 10).blk t).view (up2 (φ := .f32) b) = up2 (φ := .f32) fun i => b (rowOf t i) := by
  have e : (cfg0.win 10).index t = ![t.val, 0] := by revert t; decide +kernel
  funext y
  refine congrArg₂ (fun i j => ((b i j : ℝ) : EReal)) (Fin.ext ?_) (Fin.ext ?_) <;> blk_simp [e] <;> first | done | rfl
theorem arr10 (h : Args m c a) : (dats m 0 c).arrAt 10 cfg0.N = up2 (φ := .f32) (a.args.h1) := by
  refine (dats m 0 c).arrAt_eq_of_cover 10 _ (fun t hf => ?_)
    ((by decide +kernel : (cfg0.win 10).Covers).cover _ (Memref.isWhole_whole _))
  rw [flushed10, out10 (reads t h), read10]
  rfl
theorem read11 (t : Fin cfg0.N) (b : Mat 4096 1) :
    View.read (Elt Ideal) ((cfg0.win 11).blk t).view (up2 (φ := .f32) b) = up2 (φ := .f32) fun i => b (rowOf t i) := by
  have e : (cfg0.win 11).index t = ![t.val, 0] := by revert t; decide +kernel
  funext y
  refine congrArg₂ (fun i j => ((b i j : ℝ) : EReal)) (Fin.ext ?_) (Fin.ext ?_) <;> blk_simp [e] <;> first | done | rfl
theorem arr11 (h : Args m c a) : (dats m 0 c).arrAt 11 cfg0.N = up2 (φ := .f32) (fun i _ => rstd a.args.z1 i) := by
  refine (dats m 0 c).arrAt_eq_of_cover 11 _ (fun t hf => ?_)
    ((by decide +kernel : (cfg0.win 11).Covers).cover _ (Memref.isWhole_whole _))
  rw [flushed11, out11 (reads t h), read11]
  rfl
theorem read12 (t : Fin cfg0.N) (b : Mat 4096 1024) :
    View.read (Elt Ideal) ((cfg0.win 12).blk t).view (up2 (φ := .bf16) b) = up2 (φ := .bf16) fun i => b (rowOf t i) := by
  have e : (cfg0.win 12).index t = ![t.val, 0] := by revert t; decide +kernel
  funext y
  refine congrArg₂ (fun i j => ((b i j : ℝ) : EReal)) (Fin.ext ?_) (Fin.ext ?_) <;> blk_simp [e] <;> first | done | rfl
theorem arr12 (h : Args m c a) : (dats m 0 c).arrAt 12 cfg0.N = up2 (φ := .bf16) (a.args.x1) := by
  refine (dats m 0 c).arrAt_eq_of_cover 12 _ (fun t hf => ?_)
    ((by decide +kernel : (cfg0.win 12).Covers).cover _ (Memref.isWhole_whole _))
  rw [flushed12, out12 (reads t h), read12]
  rfl
theorem read13 (t : Fin cfg0.N) (b : Mat 4096 4096) :
    View.read (Elt Ideal) ((cfg0.win 13).blk t).view (up2 (φ := .bf16) b) = up2 (φ := .bf16) fun i => b (rowOf t i) := by
  have e : (cfg0.win 13).index t = ![t.val, 0] := by revert t; decide +kernel
  funext y
  refine congrArg₂ (fun i j => ((b i j : ℝ) : EReal)) (Fin.ext ?_) (Fin.ext ?_) <;> blk_simp [e] <;> first | done | rfl
theorem arr13 (h : Args m c a) : (dats m 0 c).arrAt 13 cfg0.N = up2 (φ := .bf16) (a.args.hid) := by
  refine (dats m 0 c).arrAt_eq_of_cover 13 _ (fun t hf => ?_)
    ((by decide +kernel : (cfg0.win 13).Covers).cover _ (Memref.isWhole_whole _))
  rw [flushed13, out13 (reads t h), read13]
  rfl
theorem read14 (t : Fin cfg0.N) (b : Mat 4096 1024) :
    View.read (Elt Ideal) ((cfg0.win 14).blk t).view (up2 (φ := .f32) b) = up2 (φ := .f32) fun i => b (rowOf t i) := by
  have e : (cfg0.win 14).index t = ![t.val, 0] := by revert t; decide +kernel
  funext y
  refine congrArg₂ (fun i j => ((b i j : ℝ) : EReal)) (Fin.ext ?_) (Fin.ext ?_) <;> blk_simp [e] <;> first | done | rfl
theorem arr14 (h : Args m c a) : (dats m 0 c).arrAt 14 cfg0.N = up2 (φ := .f32) (a.args.dz2) := by
  refine (dats m 0 c).arrAt_eq_of_cover 14 _ (fun t hf => ?_)
    ((by decide +kernel : (cfg0.win 14).Covers).cover _ (Memref.isWhole_whole _))
  rw [flushed14, out14 (reads t h), read14]
  rfl
theorem read15 (t : Fin cfg0.N) (b : Mat 4096 1024) :
    View.read (Elt Ideal) ((cfg0.win 15).blk t).view (up2 (φ := .bf16) b) = up2 (φ := .bf16) fun i => b (rowOf t i) := by
  have e : (cfg0.win 15).index t = ![t.val, 0] := by revert t; decide +kernel
  funext y
  refine congrArg₂ (fun i j => ((b i j : ℝ) : EReal)) (Fin.ext ?_) (Fin.ext ?_) <;> blk_simp [e] <;> first | done | rfl
theorem arr15 (h : Args m c a) : (dats m 0 c).arrAt 15 cfg0.N = up2 (φ := .bf16) (a.args.dz2) := by
  refine (dats m 0 c).arrAt_eq_of_cover 15 _ (fun t hf => ?_)
    ((by decide +kernel : (cfg0.win 15).Covers).cover _ (Memref.isWhole_whole _))
  rw [flushed15, out15 (reads t h), read15]
  rfl

/-! ## The rows of sums -/

/-- The rows of a point. -/
def blockRow (n : ℕ) (h : n < 8) : Fin 512 → Fin 4096 := rowOf ⟨n, lt_of_lt_of_eq h N_0.symm⟩

theorem blockRow_eq (t : Fin cfg0.N) {n : ℕ} (h : n < 8) (ht : t.val = n) : blockRow n h = rowOf t := by subst ht; rfl

/-- The sums over the rows of the first points, point by point. -/
def partialSum (b : Mat 4096 1024) : (n : ℕ) → n < 8 → Mat 1 1024
  | 0, h => addRows (fun _ _ => 0) fun i => b (blockRow 0 h i)
  | n + 1, h => addRows (partialSum b n (Nat.lt_of_succ_lt h)) fun i => b (blockRow (n + 1) h i)

theorem partialSum_zero (b : Mat 4096 1024) (h : 0 < 8) : partialSum b 0 h = addRows (fun _ _ => 0) fun i => b (blockRow 0 h i) := rfl
theorem partialSum_succ (b : Mat 4096 1024) (n : ℕ) (h : n + 1 < 8) :
    partialSum b (n + 1) h = addRows (partialSum b n (Nat.lt_of_succ_lt h)) fun i => b (blockRow (n + 1) h i) := rfl

theorem partialSum_eq (b : Mat 4096 1024) (i : Fin 1) (j : Fin 1024) : ∀ (n : ℕ) (h : n < 8),
    partialSum b n h i j = ∑ k : Fin (n + 1), ∑ q : Fin 512, b (blockRow k.val (by have := k.isLt; omega) q) j
  | 0, h => by simp [partialSum, addRows]
  | n + 1, h => by
    rw [Fin.sum_univ_castSucc]
    exact congrArg (· + _) (partialSum_eq b i j n _)

theorem partialSum_last (b : Mat 4096 1024) (h : 7 < 8) : partialSum b 7 h = fun _ j => ∑ q, b q j := by
  funext i j
  rw [partialSum_eq, Fin.sum_univ_tiles 8 512 rfl]
  rfl

theorem acc16 (h : Args m c a) : ∀ (n : ℕ) (hn : n < 8) (t : Fin cfg0.N) (ht : t.val = n),
    (outsAt0 m c t.val t.isLt).2.2.2.2.2.2.1 = f2 (partialSum (mul a.args.dy a.args.h2) n hn) := by
  intro n
  induction n with
  | zero =>
    intro hn t ht
    rw [out16_first (by omega) (reads t h), partialSum_zero, blockRow_eq t hn ht]
    rfl
  | succ n ih =>
    intro hn t ht
    have hs := ih (Nat.lt_of_succ_lt hn) ⟨t.val - 1, Nat.lt_of_le_of_lt (Nat.sub_le _ _) t.isLt⟩ (by show t.val - 1 = n; omega)
    rw [out16_next (by omega) (reads t h) _ hs, partialSum_succ, blockRow_eq t hn ht]
    rfl
theorem read16 (t : Fin cfg0.N) (b : Mat 1 1024) :
    View.read (Elt Ideal) ((cfg0.win 16).blk t).view (f2 b) = f2 b := by
  have e : (cfg0.win 16).index t = ![0, 0] := by revert t; decide +kernel
  funext y
  refine congrArg (f2 b) ?_
  blk_ext [e]
theorem arr16 (h : Args m c a) : (dats m 0 c).arrAt 16 cfg0.N = f2 fun _ j => ∑ q, (mul a.args.dy a.args.h2) q j := by
  refine (dats m 0 c).arrAt_eq_of_cover 16 _ (fun t hf => ?_)
    ((by decide +kernel : (cfg0.win 16).Covers).cover _ (Memref.isWhole_whole _))
  have ht : t.val = 7 := by revert t; decide +kernel
  rw [flushed16, acc16 h 7 (by decide) t ht, partialSum_last, read16]
  rfl
theorem acc17 (h : Args m c a) : ∀ (n : ℕ) (hn : n < 8) (t : Fin cfg0.N) (ht : t.val = n),
    (outsAt0 m c t.val t.isLt).2.2.2.2.2.2.2.1 = f2 (partialSum (a.args.dy) n hn) := by
  intro n
  induction n with
  | zero =>
    intro hn t ht
    rw [out17_first (by omega) (reads t h), partialSum_zero, blockRow_eq t hn ht]
    rfl
  | succ n ih =>
    intro hn t ht
    have hs := ih (Nat.lt_of_succ_lt hn) ⟨t.val - 1, Nat.lt_of_le_of_lt (Nat.sub_le _ _) t.isLt⟩ (by show t.val - 1 = n; omega)
    rw [out17_next (by omega) (reads t h) _ hs, partialSum_succ, blockRow_eq t hn ht]
    rfl
theorem read17 (t : Fin cfg0.N) (b : Mat 1 1024) :
    View.read (Elt Ideal) ((cfg0.win 17).blk t).view (f2 b) = f2 b := by
  have e : (cfg0.win 17).index t = ![0, 0] := by revert t; decide +kernel
  funext y
  refine congrArg (f2 b) ?_
  blk_ext [e]
theorem arr17 (h : Args m c a) : (dats m 0 c).arrAt 17 cfg0.N = f2 fun _ j => ∑ q, (a.args.dy) q j := by
  refine (dats m 0 c).arrAt_eq_of_cover 17 _ (fun t hf => ?_)
    ((by decide +kernel : (cfg0.win 17).Covers).cover _ (Memref.isWhole_whole _))
  have ht : t.val = 7 := by revert t; decide +kernel
  rw [flushed17, acc17 h 7 (by decide) t ht, partialSum_last, read17]
  rfl
theorem acc18 (h : Args m c a) : ∀ (n : ℕ) (hn : n < 8) (t : Fin cfg0.N) (ht : t.val = n),
    (outsAt0 m c t.val t.isLt).2.2.2.2.2.2.2.2 = f2 (partialSum (sqr a.args.err) n hn) := by
  intro n
  induction n with
  | zero =>
    intro hn t ht
    rw [out18_first (by omega) (reads t h), partialSum_zero, blockRow_eq t hn ht]
    rfl
  | succ n ih =>
    intro hn t ht
    have hs := ih (Nat.lt_of_succ_lt hn) ⟨t.val - 1, Nat.lt_of_le_of_lt (Nat.sub_le _ _) t.isLt⟩ (by show t.val - 1 = n; omega)
    rw [out18_next (by omega) (reads t h) _ hs, partialSum_succ, blockRow_eq t hn ht]
    rfl
theorem read18 (t : Fin cfg0.N) (b : Mat 1 1024) :
    View.read (Elt Ideal) ((cfg0.win 18).blk t).view (f2 b) = f2 b := by
  have e : (cfg0.win 18).index t = ![0, 0] := by revert t; decide +kernel
  funext y
  refine congrArg (f2 b) ?_
  blk_ext [e]
theorem arr18 (h : Args m c a) : (dats m 0 c).arrAt 18 cfg0.N = f2 fun _ j => ∑ q, (sqr a.args.err) q j := by
  refine (dats m 0 c).arrAt_eq_of_cover 18 _ (fun t hf => ?_)
    ((by decide +kernel : (cfg0.win 18).Covers).cover _ (Memref.isWhole_whole _))
  have ht : t.val = 7 := by revert t; decide +kernel
  rw [flushed18, acc18 h 7 (by decide) t ht, partialSum_last, read18]
  rfl

end Cert.FfnFwdIdeal.Blocks
-- ==== Proof.FfnRef.lean ====
/-
  What the reference computes on finite arrays: the forward lines are the functions of `FfnSpec`, and the derivative of the
  loss by reverse mode is the closed form that the kernel evaluates.
-/
module

public import proofs.«01_k».proof.Proof.FfnReads
public import proofs.«01_k».proof.Proof.Gen.FfnFwdRefIdeal.Read
public import Idealize.ShloMosaic.Lib.Pointwise.Sums

@[expose] public section

set_option maxRecDepth 16384

noncomputable section

namespace Cert.Layer

open Cert.Reals

/-- The hidden features over the whole feed-forward matrix are the four blocks of columns. -/
theorem FfnIn.hid_eq (a : FfnIn) : a.args.hid = relu (mm a.args.x1 a.w1) := by
  funext i q
  show max (∑ p, a.args.x1 i p * a.w1 p (feat _ _)) 0 = max (∑ p, a.args.x1 i p * a.w1 p q) 0
  rw [show feat ⟨q.val / 1024, _⟩ ⟨q.val % 1024, _⟩ = q from Fin.ext (Nat.div_add_mod' q.val 1024)]

/-- The feed-forward product over all hidden features is the sum over the four blocks. -/
theorem FfnIn.ffn_eq (a : FfnIn) : mm (sqr a.args.hid) a.w2 = ffn a.args.x1 a.args.w1 a.args.w2 := by
  rw [a.hid_eq]
  funext i j
  unfold mm
  rw [Idealize.ShloMosaic.Fin.sum_univ_tiles 4 1024 rfl, Fin.sum_univ_four]
  rfl

end Cert.Layer

namespace Cert.FfnFwdRefIdeal.Stages

open Cert.FfnFwdRefIdeal Cert.FfnFwdRefIdeal.Read Cert.Reals Cert.Layer Idealize.ShloMosaic

variable (a : FfnIn)

/-! ## The forward lines -/

@[rify_simps] theorem v5 : val_main_v5 (F := Ideal) (f2 a.cat) (f3 fun _ => a.x) (f3 fun _ => a.wo) = f2 a.args.z1 := by
  simp only [val_main_v0, val_main_cst, val_main_v1, val_main_v2, val_main_v3, val_main_v4, val_main_v5,dot_S4096x1024_S1024x1024_S4096x1024_1_0_0_1_n_n,
    rify_simps, zero_add] <;> rfl
@[rify_simps] theorem v9 : val_main_v9 (F := Ideal) (f2 a.cat) (f3 fun _ => a.x) (f3 fun _ => a.wo) = f2 (m := 1) fun i _ => (∑ q, a.args.z1 i q) / 1024 := by
  simp only [val_main_cst_0, val_main_v6, val_main_v7, val_main_cst_1, val_main_v8, val_main_v9,
    rify_simps, zero_add] <;> rfl
@[rify_simps] theorem v18 : val_main_v18 (F := Ideal) (f2 a.cat) (f3 fun _ => a.x) (f3 fun _ => a.wo) = f2 (m := 1) fun i _ => vare a.args.z1 i := by
  simp only [val_main_v10, val_main_v11, val_main_v12, val_main_cst_2, val_main_v13, val_main_v14, val_main_cst_3, val_main_v15, val_main_v16, val_main_cst_4, val_main_v17, val_main_v18,
    rify_simps, zero_add] <;> rfl
@[rify_simps] theorem v19 : val_main_v19 (F := Ideal) (f2 a.cat) (f3 fun _ => a.x) (f3 fun _ => a.wo) = f2 (m := 1) fun i _ => rstd a.args.z1 i := by
  simp only [val_main_v19,
    rify_simps, zero_add] <;> rfl
@[rify_simps] theorem v23 : val_main_v23 (F := Ideal) (f2 a.cat) (f3 fun _ => a.x) (f3 fun _ => a.wo) = f2 a.args.h1 := by
  simp only [val_main_v20, val_main_v21, val_main_v22, val_main_v23,
    rify_simps, zero_add] <;> rfl
@[rify_simps] theorem v27 : val_main_v27 (F := Ideal) (f2 a.cat) (f3 fun _ => a.x) (f3 fun _ => a.wo) (f2 a.g1) (f2 a.b1) = f2 a.args.x1 := by
  simp only [val_main_v24, val_main_v25, val_main_v26, val_main_v27,
    rify_simps, zero_add] <;> rfl
@[rify_simps] theorem v31 : val_main_v31 (F := Ideal) (f2 a.cat) (f3 fun _ => a.x) (f3 fun _ => a.wo) (f2 a.g1) (f2 a.b1) (f3 fun _ => a.w1) = f2 a.args.hid := by
  simp only [val_main_v28, val_main_v29, val_main_cst_5, val_main_v30, val_main_v31,dot_S4096x1024_S1024x4096_S4096x4096_1_0_0_1_n_n,
    rify_simps, zero_add]; rw [a.hid_eq]; rfl
@[rify_simps] theorem v36 : val_main_v36 (F := Ideal) (f2 a.cat) (f3 fun _ => a.x) (f3 fun _ => a.wo) (f2 a.g1) (f2 a.b1) (f3 fun _ => a.w1) (f3 fun _ => a.w2) = f2 (ffn a.args.x1 a.args.w1 a.args.w2) := by
  simp only [val_main_v34, val_main_v35, val_main_v36,dot_S4096x4096_S4096x1024_S4096x1024_1_0_0_1_n_n,
    rify_simps, zero_add]; rw [← a.ffn_eq]; rfl
@[rify_simps] theorem v37 : val_main_v37 (F := Ideal) (f2 a.cat) (f3 fun _ => a.x) (f3 fun _ => a.wo) (f2 a.g1) (f2 a.b1) (f3 fun _ => a.w1) (f3 fun _ => a.w2) = f2 a.args.z2 := by
  simp only [val_main_cst_6, val_main_v32, val_main_v33, val_main_v37,
    rify_simps, zero_add] <;> rfl
@[rify_simps] theorem v41 : val_main_v41 (F := Ideal) (f2 a.cat) (f3 fun _ => a.x) (f3 fun _ => a.wo) (f2 a.g1) (f2 a.b1) (f3 fun _ => a.w1) (f3 fun _ => a.w2) = f2 (m := 1) fun i _ => (∑ q, a.args.z2 i q) / 1024 := by
  simp only [val_main_cst_7, val_main_v38, val_main_v39, val_main_cst_8, val_main_v40, val_main_v41,
    rify_simps, zero_add] <;> rfl
@[rify_simps] theorem v43 : val_main_v43 (F := Ideal) (f2 a.cat) (f3 fun _ => a.x) (f3 fun _ => a.wo) (f2 a.g1) (f2 a.b1) (f3 fun _ => a.w1) (f3 fun _ => a.w2) = f2 (cen a.args.z2) := by
  simp only [val_main_v42, val_main_v43,
    rify_simps, zero_add] <;> rfl
@[rify_simps] theorem v52 : val_main_v52 (F := Ideal) (f2 a.cat) (f3 fun _ => a.x) (f3 fun _ => a.wo) (f2 a.g1) (f2 a.b1) (f3 fun _ => a.w1) (f3 fun _ => a.w2) = f2 (m := 1) fun i _ => vare a.args.z2 i := by
  simp only [val_main_v44, val_main_cst_10, val_main_v47, val_main_v48, val_main_cst_11, val_main_v49, val_main_v50, val_main_cst_12, val_main_v51, val_main_v52,
    rify_simps, zero_add] <;> rfl
@[rify_simps] theorem v53 : val_main_v53 (F := Ideal) (f2 a.cat) (f3 fun _ => a.x) (f3 fun _ => a.wo) (f2 a.g1) (f2 a.b1) (f3 fun _ => a.w1) (f3 fun _ => a.w2) = f2 (m := 1) fun i _ => rstd a.args.z2 i := by
  simp only [val_main_v53,
    rify_simps, zero_add] <;> rfl
@[rify_simps] theorem v58 : val_main_v58 (F := Ideal) (f2 a.cat) (f3 fun _ => a.x) (f3 fun _ => a.wo) (f2 a.g1) (f2 a.b1) (f3 fun _ => a.w1) (f3 fun _ => a.w2) = f2 (cen a.args.z2) := by
  simp only [val_main_v57, val_main_v58,
    rify_simps, zero_add] <;> rfl
@[rify_simps] theorem v60 : val_main_v60 (F := Ideal) (f2 a.cat) (f3 fun _ => a.x) (f3 fun _ => a.wo) (f2 a.g1) (f2 a.b1) (f3 fun _ => a.w1) (f3 fun _ => a.w2) = f2 a.args.h2 := by
  simp only [val_main_v59, val_main_v60,
    rify_simps, zero_add] <;> rfl
@[rify_simps] theorem v64 : val_main_v64 (F := Ideal) (f2 a.cat) (f3 fun _ => a.x) (f3 fun _ => a.wo) (f2 a.g1) (f2 a.b1) (f3 fun _ => a.w1) (f3 fun _ => a.w2) (f2 a.g2) (f2 a.b2) = f2 a.args.y := by
  simp only [val_main_v61, val_main_v62, val_main_v63, val_main_v64,
    rify_simps, zero_add] <;> rfl
@[rify_simps] theorem v66 : val_main_v66 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 a.args.err := by
  simp only [val_main_v65, val_main_v66,
    rify_simps, zero_add] <;> rfl

/-! ## The derivative -/

@[rify_simps] theorem v80 : val_main_v80 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 a.args.dy := by
  simp only [val_main_cst_14, val_main_v68, val_main_v69, val_main_cst_19, val_main_cst_20, val_main_v75, val_main_v76, val_main_cst_21, val_main_v77, val_main_v78, val_main_v79, val_main_v80,
    rify_simps, zero_add]
  refine congrArg (up2 (φ := .f32)) (funext fun i => funext fun j => ?_)
  show 1 / 2 * 1 / 1024 * (2 * a.args.err i j) = a.args.err i j * (1 / 1024)
  ring
@[rify_simps] theorem v87 : val_main_v87 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 (mulRow a.args.dy a.args.g2) := by
  simp only [val_main_v86, val_main_v87,
    rify_simps, zero_add] <;> rfl
@[rify_simps] theorem v82 : val_main_v82 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 (n := 1) fun _ j => ∑ q, a.args.dy q j := by
  simp only [val_main_cst_22, val_main_v81, val_main_v82,
    rify_simps, zero_add] <;> rfl
@[rify_simps] theorem v85 : val_main_v85 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 (n := 1) fun _ j => ∑ q, mul a.args.dy a.args.h2 q j := by
  simp only [val_main_v83, val_main_cst_23, val_main_v84, val_main_v85,
    rify_simps, zero_add]
  refine congrArg (up2 (φ := .f32)) (funext fun i => funext fun j => Finset.sum_congr rfl fun q _ => ?_)
  exact mul_comm _ _
@[rify_simps] theorem v111 : val_main_v111 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 a.args.dz2 := by
  simp only [val_main_cst_9, val_main_v45, val_main_v46, val_main_v54, val_main_cst_13, val_main_v55, val_main_v56, val_main_v88, val_main_cst_24, val_main_v89, val_main_v90, val_main_v91, val_main_v92, val_main_v93, val_main_cst_25, val_main_v94, val_main_v95, val_main_v96, val_main_cst_26, val_main_v97, val_main_v98, val_main_cst_27, val_main_v99, val_main_v100, val_main_v101, val_main_v102, val_main_cst_28, val_main_v103, val_main_v104, val_main_v105, val_main_v106, val_main_cst_29, val_main_v107, val_main_v108, val_main_cst_30, val_main_v109, val_main_v110, val_main_v111,
    rify_simps, zero_add]
  refine congrArg (up2 (φ := .f32)) (funext fun i => funext fun j => ?_)
  rw [Fin.sum_univ_one, Fin.sum_univ_one]
  exact normBwd_of_chain _ _ _ _
@[rify_simps] theorem v113 : val_main_v113 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = f2 (n := 1) fun _ j => ∑ q, sqr a.args.err q j := by
  simp only [val_main_v67, val_main_cst_31, val_main_v112, val_main_v113,
    rify_simps, zero_add] <;> rfl
@[rify_simps] theorem v114 : val_main_v114 (F := Ideal) (f2 a.cat) (f3 fun _ => a.x) (f3 fun _ => a.wo) (f2 a.g1) (f2 a.b1) = bf2 a.args.x1 := by
  simp only [val_main_v114,
    rify_simps, zero_add] <;> rfl
@[rify_simps] theorem v115 : val_main_v115 (F := Ideal) (f2 a.cat) (f3 fun _ => a.x) (f3 fun _ => a.wo) (f2 a.g1) (f2 a.b1) (f3 fun _ => a.w1) = bf2 a.args.hid := by
  simp only [val_main_v115,
    rify_simps, zero_add] <;> rfl
@[rify_simps] theorem v116 : val_main_v116 (F := Ideal) (f2 a.cat) (f3 fun _ => a.x) (f3 fun _ => a.wo) (f2 a.g1) (f2 a.b1) (f3 fun _ => a.w1) (f3 fun _ => a.w2) (f2 a.g2) (f2 a.b2) (f3 fun _ => a.tgt) = bf2 a.args.dz2 := by
  simp only [val_main_v116,
    rify_simps, zero_add] <;> rfl

end Cert.FfnFwdRefIdeal.Stages
-- ==== Proof.FfnClaim.lean ====
/-
  The claims of the feed-forward forward call: both programs end with the same nine arrays.
-/
module

public import proofs.«01_k».proof.Defs
public import proofs.«01_k».proof.Proof.Gen.FfnFwd.Frame
public import proofs.«01_k».proof.Proof.Gen.FfnFwdRefIdeal.Run
public import proofs.«01_k».proof.Proof.Finite
public import proofs.«01_k».proof.Proof.FfnArrays
public import proofs.«01_k».proof.Proof.FfnRef

@[expose] public section

noncomputable section

namespace Cert.Ffn

open Cert.Reals Cert.Layer Idealize.ShloMosaic Idealize.SL.Sem

instance facts : Cert.Pre_finite_ffn_fwd_loss.Facts := by
  constructor <;> exact bid_scalar

theorem frame_kernel : Cert.quiescent_FfnFwd := fun m ρ _ => Cert.FfnFwd.Gen.frame m ρ
theorem frame_ideal : Cert.quiescent_FfnFwdIdeal := fun m ρ _ => Cert.FfnFwdIdeal.Gen.frame m ρ
theorem frame_ideal_pre : Cert.quiescent_FfnFwdIdeal_pre_finite_ffn_fwd_loss := fun m ρ _ => Cert.FfnFwdIdeal.Gen.frame m ρ
theorem frame_ref : Cert.quiescent_FfnFwdRefIdeal := fun m ρ _ =>
  (θ_run Cert.FfnFwdRefIdeal.defs _ _).mono (fun r h => ⟨fun c => (h c).2.2.2.2.2.2.2.2.2, sem_eq_zero_of_no_sems (by decide) r.2⟩)
    (Cert.FfnFwdRefIdeal.Value.run m ρ)
theorem frame_ref_pre : Cert.quiescent_FfnFwdRefIdeal_pre_finite_ffn_fwd_loss := fun m ρ _ => frame_ref m ρ trivial

/-- Finite argument arrays hold real functions. -/
theorem exists_args {a0 : FVec Ideal ⟨2, ![4096, 1024]⟩ .f32} {a1 : FVec Ideal ⟨3, ![1, 4096, 1024]⟩ .f32}
    {a2 : FVec Ideal ⟨3, ![1, 1024, 1024]⟩ .f32} {a3 a4 : FVec Ideal ⟨2, ![1, 1024]⟩ .f32}
    {a5 : FVec Ideal ⟨3, ![1, 1024, 4096]⟩ .f32} {a6 : FVec Ideal ⟨3, ![1, 4096, 1024]⟩ .f32}
    {a7 a8 : FVec Ideal ⟨2, ![1, 1024]⟩ .f32} {a9 : FVec Ideal ⟨3, ![1, 4096, 1024]⟩ .f32}
    (h0 : Finite a0) (h1 : Finite a1) (h2 : Finite a2) (h3 : Finite a3) (h4 : Finite a4) (h5 : Finite a5) (h6 : Finite a6)
    (h7 : Finite a7) (h8 : Finite a8) (h9 : Finite a9) : ∃ a : FfnIn, a.Is a0 a1 a2 a3 a4 a5 a6 a7 a8 a9 :=
  ⟨⟨_, _, _, _, _, _, _, _, _, _⟩, h0.up2, h1.up3, h2.up3, h3.up2, h4.up2, h5.up3, h6.up3, h7.up2, h8.up2, h9.up3⟩

/-- The reference's nine values on arrays that hold `a`. -/
theorem reference_values {a : FfnIn} {a0 a1 a2 a3 a4 a5 a6 a7 a8 a9} (h : a.Is a0 a1 a2 a3 a4 a5 a6 a7 a8 a9) :
    Cert.FfnFwdRefIdeal.Read.val_main_v23 (F := Ideal) a0 a1 a2 = f2 a.args.h1
    ∧ Cert.FfnFwdRefIdeal.Read.val_main_v19 (F := Ideal) a0 a1 a2 = f2 (m := 1) (fun i _ => rstd a.args.z1 i)
    ∧ Cert.FfnFwdRefIdeal.Read.val_main_v114 (F := Ideal) a0 a1 a2 a3 a4 = bf2 a.args.x1
    ∧ Cert.FfnFwdRefIdeal.Read.val_main_v115 (F := Ideal) a0 a1 a2 a3 a4 a5 = bf2 a.args.hid
    ∧ Cert.FfnFwdRefIdeal.Read.val_main_v111 (F := Ideal) a0 a1 a2 a3 a4 a5 a6 a7 a8 a9 = f2 a.args.dz2
    ∧ Cert.FfnFwdRefIdeal.Read.val_main_v116 (F := Ideal) a0 a1 a2 a3 a4 a5 a6 a7 a8 a9 = bf2 a.args.dz2
    ∧ Cert.FfnFwdRefIdeal.Read.val_main_v85 (F := Ideal) a0 a1 a2 a3 a4 a5 a6 a7 a8 a9 = f2 (n := 1) (fun _ j => ∑ q, mul a.args.dy a.args.h2 q j)
    ∧ Cert.FfnFwdRefIdeal.Read.val_main_v82 (F := Ideal) a0 a1 a2 a3 a4 a5 a6 a7 a8 a9 = f2 (n := 1) (fun _ j => ∑ q, a.args.dy q j)
    ∧ Cert.FfnFwdRefIdeal.Read.val_main_v113 (F := Ideal) a0 a1 a2 a3 a4 a5 a6 a7 a8 a9 = f2 (n := 1) (fun _ j => ∑ q, sqr a.args.err q j) := by
  obtain ⟨rfl, rfl, rfl, rfl, rfl, rfl, rfl, rfl, rfl, rfl⟩ := h
  exact ⟨Cert.FfnFwdRefIdeal.Stages.v23 a, Cert.FfnFwdRefIdeal.Stages.v19 a, Cert.FfnFwdRefIdeal.Stages.v114 a, Cert.FfnFwdRefIdeal.Stages.v115 a, Cert.FfnFwdRefIdeal.Stages.v111 a, Cert.FfnFwdRefIdeal.Stages.v116 a, Cert.FfnFwdRefIdeal.Stages.v85 a, Cert.FfnFwdRefIdeal.Stages.v82 a, Cert.FfnFwdRefIdeal.Stages.v113 a⟩

/-- The reference's nine results on finite arguments. -/
theorem reference_run (a : Dev Cert.FfnFwdRefIdeal.nD → FfnIn) (m) (ρ) (ha : ∀ c : Dev Cert.FfnFwdRefIdeal.nD, (a c).Is
    (m (c.tc.loc Cert.FfnFwdRefIdeal.main_arg0)) (m (c.tc.loc Cert.FfnFwdRefIdeal.main_arg1))
    (m (c.tc.loc Cert.FfnFwdRefIdeal.main_arg2)) (m (c.tc.loc Cert.FfnFwdRefIdeal.main_arg3))
    (m (c.tc.loc Cert.FfnFwdRefIdeal.main_arg4)) (m (c.tc.loc Cert.FfnFwdRefIdeal.main_arg5))
    (m (c.tc.loc Cert.FfnFwdRefIdeal.main_arg6)) (m (c.tc.loc Cert.FfnFwdRefIdeal.main_arg7))
    (m (c.tc.loc Cert.FfnFwdRefIdeal.main_arg8)) (m (c.tc.loc Cert.FfnFwdRefIdeal.main_arg9))) :
    θ_run (Cert.FfnFwdRefIdeal.defs (F := Ideal)) (onTc (τ := Cert.FfnFwdRefIdeal.τ) (Cert.FfnFwdRefIdeal.main (F := Ideal)))
      ⟨m, fun _ => 0, ρ⟩ fun r => ∀ c : Dev Cert.FfnFwdRefIdeal.nD,
        r.2.mem (c.tc.loc Cert.FfnFwdRefIdeal.main_v23) = f2 (a c).args.h1
        ∧ r.2.mem (c.tc.loc Cert.FfnFwdRefIdeal.main_v19) = f2 (m := 1) (fun i _ => rstd (a c).args.z1 i)
        ∧ r.2.mem (c.tc.loc Cert.FfnFwdRefIdeal.main_v114) = bf2 (a c).args.x1
        ∧ r.2.mem (c.tc.loc Cert.FfnFwdRefIdeal.main_v115) = bf2 (a c).args.hid
        ∧ r.2.mem (c.tc.loc Cert.FfnFwdRefIdeal.main_v111) = f2 (a c).args.dz2
        ∧ r.2.mem (c.tc.loc Cert.FfnFwdRefIdeal.main_v116) = bf2 (a c).args.dz2
        ∧ r.2.mem (c.tc.loc Cert.FfnFwdRefIdeal.main_v85) = f2 (n := 1) (fun _ j => ∑ q, mul (a c).args.dy (a c).args.h2 q j)
        ∧ r.2.mem (c.tc.loc Cert.FfnFwdRefIdeal.main_v82) = f2 (n := 1) (fun _ j => ∑ q, (a c).args.dy q j)
        ∧ r.2.mem (c.tc.loc Cert.FfnFwdRefIdeal.main_v113) = f2 (n := 1) (fun _ j => ∑ q, sqr (a c).args.err q j) := by
  refine (θ_run Cert.FfnFwdRefIdeal.defs _ _).mono (fun r h c => ?_) (Cert.FfnFwdRefIdeal.Value.run m ρ)
  obtain ⟨h0, h1, h2, h3, h4, h5, h6, h7, h8, -⟩ := h c
  obtain ⟨v0, v1, v2, v3, v4, v5, v6, v7, v8⟩ := reference_values (ha c)
  exact ⟨h0.trans ((Cert.FfnFwdRefIdeal.Read.val_main_v23_eq _).trans v0),
    h1.trans ((Cert.FfnFwdRefIdeal.Read.val_main_v19_eq _).trans v1),
    h2.trans ((Cert.FfnFwdRefIdeal.Read.val_main_v114_eq _).trans v2),
    h3.trans ((Cert.FfnFwdRefIdeal.Read.val_main_v115_eq _).trans v3),
    h4.trans ((Cert.FfnFwdRefIdeal.Read.val_main_v111_eq _).trans v4),
    h5.trans ((Cert.FfnFwdRefIdeal.Read.val_main_v116_eq _).trans v5),
    h6.trans ((Cert.FfnFwdRefIdeal.Read.val_main_v85_eq _).trans v6),
    h7.trans ((Cert.FfnFwdRefIdeal.Read.val_main_v82_eq _).trans v7),
    h8.trans ((Cert.FfnFwdRefIdeal.Read.val_main_v113_eq _).trans v8)⟩

/-- The precondition gives the real functions that the arguments hold. -/
theorem args_of_pre {m} (h : Cert.Pre_FfnFwdIdeal_finite_ffn_fwd_loss m) (c : Dev Cert.FfnFwdIdeal.nD) :
    ∃ a : FfnIn, Cert.FfnFwdIdeal.Blocks.Args m c a := by
  obtain ⟨h0, h1, h2, h3, h4, h5, h6, h7, h8, h9⟩ := h c
  exact exists_args ⟨_, h0⟩ ⟨_, h1⟩ ⟨_, h2⟩ ⟨_, h3⟩ ⟨_, h4⟩ ⟨_, h5⟩ ⟨_, h6⟩ ⟨_, h7⟩ ⟨_, h8⟩ ⟨_, h9⟩

/-- Both programs end with the nine arrays of the layer's functions. -/
theorem value : Cert.algebraic_FfnFwdIdeal_FfnFwdRefIdeal_pre_finite_ffn_fwd_loss := by
  intro m ρ m' ρ' hpre hagree
  choose a ha using args_of_pre hpre
  have ha' : ∀ c : Dev Cert.FfnFwdRefIdeal.nD, (a c).Is _ _ _ _ _ _ _ _ _ _ := fun c => by
    obtain ⟨g0, g1, g2, g3, g4, g5, g6, g7, g8, g9⟩ := hagree c
    obtain ⟨e0, e1, e2, e3, e4, e5, e6, e7, e8, e9⟩ := ha c
    exact ⟨g0.trans e0, g1.trans e1, g2.trans e2, g3.trans e3, g4.trans e4, g5.trans e5, g6.trans e6, g7.trans e7,
      g8.trans e8, g9.trans e9⟩
  refine ⟨fun c => f2 (a c).args.h1,
    fun c => f2 (m := 1) (fun i _ => rstd (a c).args.z1 i),
    fun c => bf2 (a c).args.x1,
    fun c => bf2 (a c).args.hid,
    fun c => f2 (a c).args.dz2,
    fun c => bf2 (a c).args.dz2,
    fun c => f2 (n := 1) (fun _ j => ∑ q, mul (a c).args.dy (a c).args.h2 q j),
    fun c => f2 (n := 1) (fun _ j => ∑ q, (a c).args.dy q j),
    fun c => f2 (n := 1) (fun _ j => ∑ q, sqr (a c).args.err q j), ?_, ?_⟩
  · refine (θ_run Cert.FfnFwdIdeal.defs _ _).mono (fun r h c => ?_) (Cert.FfnFwdIdeal.Value.run_blocks m ρ)
    obtain ⟨h0, h1, h2, h3, h4, h5, h6, h7, h8, hargs⟩ := h c
    exact ⟨h0.trans (Cert.FfnFwdIdeal.Blocks.arr10 (ha c)), h1.trans (Cert.FfnFwdIdeal.Blocks.arr11 (ha c)), h2.trans (Cert.FfnFwdIdeal.Blocks.arr12 (ha c)), h3.trans (Cert.FfnFwdIdeal.Blocks.arr13 (ha c)), h4.trans (Cert.FfnFwdIdeal.Blocks.arr14 (ha c)), h5.trans (Cert.FfnFwdIdeal.Blocks.arr15 (ha c)), h6.trans (Cert.FfnFwdIdeal.Blocks.arr16 (ha c)), h7.trans (Cert.FfnFwdIdeal.Blocks.arr17 (ha c)), h8.trans (Cert.FfnFwdIdeal.Blocks.arr18 (ha c)), hargs⟩
  · refine (θ_run Cert.FfnFwdRefIdeal.defs _ _).mono (fun r h c => ?_)
      (θ_run_and (reference_run a m' ρ' ha') (Cert.FfnFwdRefIdeal.Value.run m' ρ'))
    obtain ⟨h0, h1, h2, h3, h4, h5, h6, h7, h8⟩ := h.1 c
    exact ⟨h0, h1, h2, h3, h4, h5, h6, h7, h8, (h.2 c).2.2.2.2.2.2.2.2.2⟩

end Cert.Ffn
-- ==== Proof.FfnBwdSpec.lean ====
/-
  What the feed-forward and first norm's backward call computes, as functions of real matrices: the arguments as one
  structure, and each array of the call as a function of it.
-/
module

public import proofs.«01_k».proof.Proof.Layer

@[expose] public section

noncomputable section

namespace Cert.Layer

open Cert.Reals

/-- What the call reads on `n` rows: the gradient at the second residual sum, the hidden features, the first norm's result,
    normalized rows, reciprocal deviations and scale, the feed-forward matrices in four blocks of 1024 hidden features and
    the output projection. -/
structure BwdArgs (n : ℕ) where
  dz2 : Mat n 1024
  r : Mat n 4096
  x1 : Mat n 1024
  h1 : Mat n 1024
  rs : Mat n 1
  g1 : Mat 1 1024
  w1 : Fin 4 → Mat 1024 1024
  w2 : Fin 4 → Mat 1024 1024
  wo : Mat 1024 1024

namespace BwdArgs

variable {n k : ℕ} (o : BwdArgs n)

/-- The same call on some of the rows. -/
def rows (f : Fin k → Fin n) : BwdArgs k :=
  { o with dz2 := fun i => o.dz2 (f i), r := fun i => o.r (f i), x1 := fun i => o.x1 (f i), h1 := fun i => o.h1 (f i),
           rs := fun i => o.rs (f i) }

/-- The gradient at block `b` of the hidden features, before their squared relu. -/
def dpre (b : Fin 4) : Mat n 1024 := hiddenBwd o.dz2 (o.w2 b) fun i q => o.r i (feat b q)
/-- The gradient at the first norm's result. -/
def dx1 : Mat n 1024 := fun i j =>
  alpha * o.dz2 i j + nt (o.dpre 0) (o.w1 0) i j + nt (o.dpre 1) (o.w1 1) i j + nt (o.dpre 2) (o.w1 2) i j
    + nt (o.dpre 3) (o.w1 3) i j
/-- The gradients at the first residual sum and at the mixer's output. -/
def dz1 : Mat n 1024 := normBwd (mulRow o.dx1 o.g1) o.h1 fun i => o.rs i 0
def dcat : Mat n 1024 := nt o.dz1 o.wo
/-- Block `b` of the gradient of the first feed-forward matrix. -/
def gw (b : Fin 4) : Mat 1024 1024 := tn o.x1 (o.dpre b)
/-- The four blocks one after the other. -/
def gws : Mat 4096 1024 := fun p =>
  o.gw ⟨p.val / 1024, by have := p.isLt; omega⟩ ⟨p.val % 1024, Nat.mod_lt _ (by decide)⟩

theorem gws_part {q b : ℕ} (h : q + 1024 ≤ 4096) (h' : b < 4) (e : q = 1024 * b) (i j : Fin 1024) :
    o.gws (part q h i) j = o.gw ⟨b, h'⟩ i j := by
  have e1 : (q + i.val) / 1024 = b := by have := i.isLt; omega
  have e2 : (q + i.val) % 1024 = i.val := by have := i.isLt; omega
  exact congrArg₂ (fun c l => o.gw c l j) (Fin.ext e1) (Fin.ext e2)

end BwdArgs

end Cert.Layer
-- ==== Proof.FfnBwdRun.lean ====
/-
  The gradient kernel of the feed-forward block and its norm, run at one grid point: at the first point the accumulators are
  written first, at the last point the accumulated weight gradient is copied out by four transfers, each waited for before
  the point ends.
-/
module

public import proofs.«01_k».proof.Proof.Gen.FfnBwdIdeal.Launch
public import proofs.«01_k».proof.Proof.Gen.FfnBwdIdeal.Skeleton
public import proofs.«01_k».proof.Proof.Gen.FfnBwdIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.FfnBwdIdeal.Run

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The staging buffers that the body is called with: nine inputs and five outputs. -/
structure Mems where
  i0 : Memref sig .tc .vmem S256x1024 .f32
  hi0 : i0.IsWhole
  i1 : Memref sig .tc .vmem S256x4096 .bf16
  hi1 : i1.IsWhole
  i2 : Memref sig .tc .vmem S256x1024 .bf16
  hi2 : i2.IsWhole
  i3 : Memref sig .tc .vmem S256x1024 .f32
  hi3 : i3.IsWhole
  i4 : Memref sig .tc .vmem S256x1 .f32
  hi4 : i4.IsWhole
  i5 : Memref sig .tc .vmem S1x1024 .f32
  hi5 : i5.IsWhole
  i6 : Memref sig .tc .vmem S4x1024x1024 .bf16
  hi6 : i6.IsWhole
  i7 : Memref sig .tc .vmem S4x1024x1024 .bf16
  hi7 : i7.IsWhole
  i8 : Memref sig .tc .vmem S1024x1024 .bf16
  hi8 : i8.IsWhole
  o0 : Memref sig .tc .vmem S256x1024 .f32
  ho0 : o0.IsWhole
  o1 : Memref sig .tc .vmem S256x1024 .bf16
  ho1 : o1.IsWhole
  o2 : Memref sig .tc .vmem S256x1024 .bf16
  ho2 : o2.IsWhole
  o3 : Memref sig .tc .vmem S1x1024 .f32
  ho3 : o3.IsWhole
  o4 : Memref sig .tc .vmem S1x1024 .f32
  ho4 : o4.IsWhole

/-- The contents of the inputs' staging buffers. -/
structure Ins (F : FTy → Type) where
  x0 : Vec F S256x1024 .f32
  x1 : Vec F S256x4096 .bf16
  x2 : Vec F S256x1024 .bf16
  x3 : Vec F S256x1024 .f32
  x4 : Vec F S256x1 .f32
  x5 : Vec F S1x1024 .f32
  x6 : Vec F S4x1024x1024 .bf16
  x7 : Vec F S4x1024x1024 .bf16
  x8 : Vec F S1024x1024 .bf16

/-- The scratch buffer that accumulates the weight gradient, and the result in HBM that it is copied to. -/
abbrev acc : Memref sig .tc .vmem S4096x1024 .f32 := Memref.whole cc0_scratch0
abbrev dst : Memref sig .tc .hbm S4096x1024 .f32 := Memref.whole main_v42_0
abbrev AccBuf (F : FTy → Type) (c : Dev nD) : Type := Buf (Elt F) (acc.view.loc (c : Thread nD τ))
abbrev DstBuf (F : FTy → Type) (c : Dev nD) : Type := Buf (Elt F) (dst.view.loc (c : Thread nD τ))
abbrev accPt (c : Dev nD) (f : AccBuf F c) : sProp 𝕄 := acc.view.loc (c : Thread nD τ) ↦{fullShare} f
abbrev dstPt (c : Dev nD) (f : DstBuf F c) : sProp 𝕄 := dst.view.loc (c : Thread nD τ) ↦{fullShare} f

/-- The body on given staging buffers. -/
abbrev body (M : Mems) (i : grid0.Coords) : Prog (TpuEff nD τ sig (Elt F) Λ₀ .tc) PUnit :=
  cc0_ffn_bwd_ln1 i M.i0 M.hi0 M.i1 M.hi1 M.i2 M.hi2 M.i3 M.hi3 M.i4 M.hi4 M.i5 M.hi5 M.i6 M.hi6 M.i7 M.hi7 M.i8 M.hi8
    dst (Memref.isWhole_whole _) M.o0 M.ho0 M.o1 M.ho1 M.o2 M.ho2 M.o3 M.ho3 M.o4 M.ho4
    acc (Memref.isWhole_whole _) cc0_scratch1

/-- A whole staging buffer at given contents, as the ownership of its elements. -/
abbrev held (c : Dev nD) {S : Shape} {e : EltTy} {M : Memref sig .tc .vmem S e} (h : M.IsWhole) (X : S.Idx → Elt F e) : sProp 𝕄 :=
  M.view.loc (c : Thread nD τ) ↦[M.view.set]{fullShare} h.unread X
theorem owns_eq_held (c : Dev nD) {S : Shape} {e : EltTy} {M : Memref sig .tc .vmem S e} (h : M.IsWhole) (X : S.Idx → Elt F e) :
    (owns (c : Thread nD τ) M fullShare X : sProp 𝕄) = held c h X := by
  have h1 : (owns (c : Thread nD τ) M fullShare X : sProp 𝕄) ⊢ held c h X := by
    unfold owns; iintro ⟨%f, %hf, H⟩; obtain rfl := h.eq_unread hf; iexact H
  have h2 : held c h X ⊢ (owns (c : Thread nD τ) M fullShare X : sProp 𝕄) := by
    unfold owns; iintro H; iexists _; isplitr
    · ipureintro; exact h.read_unread _
    iexact H
  exact Entails.antisymm h1 h2
/-- The inputs' staging buffers at their contents. -/
abbrev insPts (c : Dev nD) (M : Mems) (x : Ins F) : sProp 𝕄 :=
  iprop(held c M.hi0 x.x0 ∗ held c M.hi1 x.x1 ∗ held c M.hi2 x.x2 ∗ held c M.hi3 x.x3 ∗ held c M.hi4 x.x4 ∗ held c M.hi5 x.x5 ∗ held c M.hi6 x.x6 ∗ held c M.hi7 x.x7 ∗ held c M.hi8 x.x8)
/-- A staging buffer at anything, and an output's at the pieces written over anything. -/
abbrev free (c : Dev nD) {S : Shape} {e : EltTy} (M : Memref sig .tc .vmem S e) : sProp 𝕄 :=
  iprop(∃ f, M.view.loc (c : Thread nD τ) ↦[M.view.set]{fullShare} f)
abbrev written (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)
/-- The four cells of the transfers at zero. -/
abbrev cells (c : Dev nD) : sProp 𝕄 :=
  iprop(semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0)

/-- The body's two conditions: the first point, the last point. -/
abbrev isFirst (i : grid0.Coords) : Prop :=
  (Scalar.cmpi .ne (Scalar.extui (Scalar.cmpi .eq (BitVec.ofNat 32 (i 0).val) 0#32)) 0#32) = 1#1
abbrev isLast (i : grid0.Coords) : Prop :=
  (Scalar.cmpi .ne (Scalar.extui (Scalar.cmpi .eq (BitVec.ofNat 32 (i 0).val) 15#32)) 0#32) = 1#1

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp
theorem isLast_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  simp only [isLast, e0]
  word_cmp

set_option maxHeartbeats 1000000 in
/-- The first point: both accumulated rows and the accumulator are written before they are read. -/
def firstRun (c : Dev nD) (i : grid0.Coords) (M : Mems) (hF : isFirst i) (hL : ¬isLast i) (x : Ins F) :
    Σ' (L0 : List (View.Piece (Elt F) S256x1024 .f32)) (L1 : List (View.Piece (Elt F) S256x1024 .bf16))
      (L2 : List (View.Piece (Elt F) S256x1024 .bf16)) (L3 : List (View.Piece (Elt F) S1x1024 .f32))
      (L4 : List (View.Piece (Elt F) S1x1024 .f32)), { L5 : List (View.Piece (Elt F) S4096x1024 .f32) //
      ∀ (K : PUnit → sProp 𝕄),
        iprop(insPts c M x ∗ free c M.o0 ∗ free c M.o1 ∗ free c M.o2 ∗ free c M.o3 ∗ free c M.o4 ∗ (∃ s, accPt c s)
            ∗ (iprop(insPts c M x ∗ written c M.o0 L0 ∗ written c M.o1 L1 ∗ written c M.o2 L2 ∗ written c M.o3 L3 ∗ written c M.o4 L4
                ∗ (∃ s, accPt c (acc.view.writes (Elt F) s L5))) -∗ K ⟨⟩))
          ⊢ wp frame (wpE (defs₀ (F := F)) Variants.none c none) Set.univ (body M i) K } := by
  refine ⟨?_, ?_, ?_, ?_, ?_, ?_, fun K => ?run⟩
  case run =>
    unfold body
    simp only [cc0_ffn_bwd_ln1_eq_skeleton]; unfold cc0_ffn_bwd_ln1_skel
    simp only [k0_part1_eq_skeleton, k0_part2_eq_skeleton, k0_part3_eq_skeleton, k0_part4_eq_skeleton]
    iintro ⟨⟨H0, H1, H2, H3, H4, H5, H6, H7, H8⟩, ⟨%f9, H9⟩, ⟨%f10, H10⟩, ⟨%f11, H11⟩, ⟨%f12, H12⟩, ⟨%f13, H13⟩, ⟨%s, HS⟩, Hk⟩
    sl_exec (disch := first | sl_exact hF | sl_exact hL)
    sl_step
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS

set_option maxHeartbeats 1000000 in
/-- A point that is neither the first nor the last. -/
def midRun (c : Dev nD) (i : grid0.Coords) (M : Mems) (hF : ¬isFirst i) (hL : ¬isLast i) (x : Ins F)
    (g b : Vec F S1x1024 .f32) (s : AccBuf F c) :
    Σ' (L0 : List (View.Piece (Elt F) S256x1024 .f32)) (L1 : List (View.Piece (Elt F) S256x1024 .bf16))
      (L2 : List (View.Piece (Elt F) S256x1024 .bf16)) (L3 : List (View.Piece (Elt F) S1x1024 .f32))
      (L4 : List (View.Piece (Elt F) S1x1024 .f32)), { L5 : List (View.Piece (Elt F) S4096x1024 .f32) //
      ∀ (K : PUnit → sProp 𝕄),
        iprop(insPts c M x ∗ free c M.o0 ∗ free c M.o1 ∗ free c M.o2 ∗ held c M.ho3 g ∗ held c M.ho4 b ∗ accPt c s
            ∗ (iprop(insPts c M x ∗ written c M.o0 L0 ∗ written c M.o1 L1 ∗ written c M.o2 L2 ∗ written c M.o3 L3 ∗ written c M.o4 L4
                ∗ accPt c (acc.view.writes (Elt F) s L5)) -∗ K ⟨⟩))
          ⊢ wp frame (wpE (defs₀ (F := F)) Variants.none c none) Set.univ (body M i) K } := by
  refine ⟨?_, ?_, ?_, ?_, ?_, ?_, fun K => ?run⟩
  case run =>
    unfold body
    simp only [cc0_ffn_bwd_ln1_eq_skeleton]; unfold cc0_ffn_bwd_ln1_skel
    simp only [k0_part1_eq_skeleton, k0_part2_eq_skeleton, k0_part3_eq_skeleton, k0_part4_eq_skeleton]
    iintro ⟨⟨H0, H1, H2, H3, H4, H5, H6, H7, H8⟩, ⟨%f9, H9⟩, ⟨%f10, H10⟩, ⟨%f11, H11⟩, H12, H13, HS, Hk⟩
    sl_exec (disch := first | sl_exact hF | sl_exact hL)
    sl_step
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    iexact HS

set_option sl_exec.dmaWindow true in
set_option maxHeartbeats 1000000 in
/-- The last point: the accumulator is copied to the result in HBM, each of its four parts once it is complete. -/
def lastRun (c : Dev nD) (i : grid0.Coords) (M : Mems) (hF : ¬isFirst i) (hL : isLast i) (x : Ins F)
    (g b : Vec F S1x1024 .f32) (s : AccBuf F c) (w : DstBuf F c) :
    Σ' (L0 : List (View.Piece (Elt F) S256x1024 .f32)) (L1 : List (View.Piece (Elt F) S256x1024 .bf16))
      (L2 : List (View.Piece (Elt F) S256x1024 .bf16)) (L3 : List (View.Piece (Elt F) S1x1024 .f32))
      (L4 : List (View.Piece (Elt F) S1x1024 .f32)), { G : DstBuf F c //
      ∀ (W : Waits sig Unit) (K : PUnit → sProp 𝕄),
        iprop(insPts c M x ∗ free c M.o0 ∗ free c M.o1 ∗ free c M.o2 ∗ held c M.ho3 g ∗ held c M.ho4 b ∗ accPt c s
            ∗ cells c ∗ dstPt c w ∗ owes (c : Thread nD τ) 0 W
            ∗ (iprop(insPts c M x ∗ written c M.o0 L0 ∗ written c M.o1 L1 ∗ written c M.o2 L2 ∗ written c M.o3 L3 ∗ written c M.o4 L4
                ∗ (∃ f, accPt c f)
                ∗ cells c ∗ dstPt c G ∗ (∃ W', owes (c : Thread nD τ) 0 W')) -∗ K ⟨⟩))
          ⊢ wp frame (wpE (defs₀ (F := F)) Variants.none c none) Set.univ (body M i) K } := by
  refine ⟨?_, ?_, ?_, ?_, ?_, ?_, fun W K => ?run⟩
  case run =>
    unfold body
    simp only [cc0_ffn_bwd_ln1_eq_skeleton]; unfold cc0_ffn_bwd_ln1_skel
    simp only [k0_part1_eq_skeleton, k0_part2_eq_skeleton, k0_part3_eq_skeleton, k0_part4_eq_skeleton]
    iintro ⟨⟨H0, H1, H2, H3, H4, H5, H6, H7, H8⟩, ⟨%f9, H9⟩, ⟨%f10, H10⟩, ⟨%f11, H11⟩, H12, H13, HS, ⟨Hq0, Hq1, Hq2, Hq3⟩, HD, HW, Hk⟩
    sl_exec (disch := first | sl_exact hF | sl_exact hL)
    sl_step
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [HD]; · iexact HD
    iexists _; iexact HW

end Cert.FfnBwdIdeal.Run

end
-- ==== Proof.FfnBwdFrame.lean ====
/-
  The frame of the gradient kernel of the feed-forward block and its norm. Between grid points the kernel keeps the two rows
  of gradients of the norm and the scratch buffer of the weight gradient; the last point copies that buffer to HBM.
-/
module

public import proofs.«01_k».proof.Proof.FfnBwdRun
public import Idealize.ShloMosaic.Lib.Pipeline.FrameValue
public import Idealize.ShloMosaic.Lib.Claim

@[expose] public section

set_option maxRecDepth 16384

noncomputable section

namespace Cert.FfnBwdIdeal.Run

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the region finds them -/

abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- The argument arrays. -/
abbrev argRefs : List (Ref sig .tc) := [main_arg0, main_arg1, main_arg2, main_arg3, main_arg4, main_arg5, main_arg6, main_arg7]

/-- No host operation writes an argument. -/
theorem V_arg (c : Dev nD) {b : Ref sig .tc} (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))

/-- The block of input `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the points leave -/

/-- The staging buffers and the inputs' blocks at point `t`. -/
abbrev mems (t : Fin cfg0.N) : Mems :=
  ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13)⟩
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- What is kept from one point to the next: the two rows of gradients and the scratch buffer. -/
structure St (F : FTy → Type) (c : Dev nD) where
  g : Vec F S1x1024 .f32
  b : Vec F S1x1024 .f32
  s : AccBuf F c

/-- What a point leaves: its three blocks, and what is kept. -/
structure Out (F : FTy → Type) (c : Dev nD) where
  d0 : Vec F S256x1024 .f32
  d1 : Vec F S256x1024 .bf16
  d2 : Vec F S256x1024 .bf16
  st : St F c

section Cases

variable (c : Dev nD) (i : grid0.Coords) (M : Mems) (x : Ins F) (st : St F c) (w : DstBuf F c)

/-- What the first point, a middle point and the last point leave. -/
def firstOut (hF : isFirst i) (hL : ¬isLast i) : Out F c :=
  ⟨View.canon (firstRun c i M hF hL x).1, View.canon (firstRun c i M hF hL x).2.1, View.canon (firstRun c i M hF hL x).2.2.1,
    View.canon (firstRun c i M hF hL x).2.2.2.1, View.canon (firstRun c i M hF hL x).2.2.2.2.1,
    acc.view.writes (Elt F) acc.view.junk (firstRun c i M hF hL x).2.2.2.2.2.1⟩
def midOut (hF : ¬isFirst i) (hL : ¬isLast i) : Out F c :=
  ⟨View.canon (midRun c i M hF hL x st.g st.b st.s).1, View.canon (midRun c i M hF hL x st.g st.b st.s).2.1,
    View.canon (midRun c i M hF hL x st.g st.b st.s).2.2.1, View.canon (midRun c i M hF hL x st.g st.b st.s).2.2.2.1,
    View.canon (midRun c i M hF hL x st.g st.b st.s).2.2.2.2.1,
    acc.view.writes (Elt F) st.s (midRun c i M hF hL x st.g st.b st.s).2.2.2.2.2.1⟩
def lastOut (hF : ¬isFirst i) (hL : isLast i) : Out F c :=
  ⟨View.canon (lastRun c i M hF hL x st.g st.b st.s w).1, View.canon (lastRun c i M hF hL x st.g st.b st.s w).2.1,
    View.canon (lastRun c i M hF hL x st.g st.b st.s w).2.2.1, View.canon (lastRun c i M hF hL x st.g st.b st.s w).2.2.2.1,
    View.canon (lastRun c i M hF hL x st.g st.b st.s w).2.2.2.2.1, st.s⟩

end Cases

/-- What point `t` leaves over what the points before it kept. -/
def step (c : Dev nD) (t : Fin cfg0.N) (st : St F c) : Out F c :=
  if h0 : t.val = 0 then
    firstOut c (grid0.coords t) (mems t) (ins m c t) ((isFirst_iff t).mpr h0) (fun h => by have := (isLast_iff t).mp h; omega)
  else if h1 : t.val = 15 then
    lastOut c (grid0.coords t) (mems t) (ins m c t) st (V m c main_v42_0) (fun h => h0 ((isFirst_iff t).mp h)) ((isLast_iff t).mpr h1)
  else
    midOut c (grid0.coords t) (mems t) (ins m c t) st (fun h => h0 ((isFirst_iff t).mp h)) (fun h => h1 ((isLast_iff t).mp h))

/-- What the first `n` points keep. -/
def stAt (c : Dev nD) : ℕ → St F c
  | 0 => ⟨View.canon [], View.canon [], acc.view.junk⟩
  | n + 1 => if h : n < cfg0.N then (step m c ⟨n, h⟩ (stAt c n)).st else stAt c n

def outsAt (c : Dev nD) (t : Fin cfg0.N) : Out F c := step m c t (stAt m c t.val)

theorem stAt_succ (c : Dev nD) (t : Fin cfg0.N) : stAt m c (t.val + 1) = (outsAt m c t).st := dif_pos t.isLt

theorem outsAt_first (c : Dev nD) (t : Fin cfg0.N) (h0 : t.val = 0) (hF hL) :
    outsAt m c t = firstOut c (grid0.coords t) (mems t) (ins m c t) hF hL := dif_pos h0
theorem outsAt_mid (c : Dev nD) (t : Fin cfg0.N) (h0 : t.val ≠ 0) (h1 : t.val ≠ 15) (hF hL) :
    outsAt m c t = midOut c (grid0.coords t) (mems t) (ins m c t) (stAt m c t.val) hF hL := (dif_neg h0).trans (dif_neg h1)
theorem outsAt_last (c : Dev nD) (t : Fin cfg0.N) (h1 : t.val = 15) (hF hL) :
    outsAt m c t = lastOut c (grid0.coords t) (mems t) (ins m c t) (stAt m c t.val) (V m c main_v42_0) hF hL :=
  (dif_neg (by omega)).trans (dif_pos h1)

/-- The last point, and the weight gradient that it leaves in HBM. -/
abbrev tLast : Fin cfg0.N := t0_15
def gw (c : Dev nD) : DstBuf F c :=
  (lastRun c (grid0.coords tLast) (mems tLast) (fun h => absurd ((isFirst_iff tLast).mp h) (by decide)) ((isLast_iff tLast).mpr rfl)
    (ins m c tLast) (stAt m c tLast.val).g (stAt m c tLast.val).b (stAt m c tLast.val).s (V m c main_v42_0)).2.2.2.2.2.1

/-! ## The pieces cover what they are written into -/

section Covers

variable (c : Dev nD) (i : grid0.Coords) (M : Mems) (x : Ins F)

theorem first_cover_d0 (hF : isFirst i) (hL : ¬isLast i) (y : S256x1024.Idx) : ∃ pc ∈ (firstRun c i M hF hL x).1, y ∈ pc.1.set :=
  View.cover_of_tiledL (firstRun c i M hF hL x).1 S256x1024.size (by sl_kernel_rfl) y
theorem first_cover_d1 (hF : isFirst i) (hL : ¬isLast i) (y : S256x1024.Idx) : ∃ pc ∈ (firstRun c i M hF hL x).2.1, y ∈ pc.1.set :=
  View.cover_of_tiledL (firstRun c i M hF hL x).2.1 S256x1024.size (by sl_kernel_rfl) y
theorem first_cover_d2 (hF : isFirst i) (hL : ¬isLast i) (y : S256x1024.Idx) : ∃ pc ∈ (firstRun c i M hF hL x).2.2.1, y ∈ pc.1.set :=
  View.cover_of_tiledL (firstRun c i M hF hL x).2.2.1 S256x1024.size (by sl_kernel_rfl) y
theorem first_cover_g (hF : isFirst i) (hL : ¬isLast i) (y : S1x1024.Idx) : ∃ pc ∈ (firstRun c i M hF hL x).2.2.2.1, y ∈ pc.1.set :=
  View.cover_of_tiledL (firstRun c i M hF hL x).2.2.2.1 S1x1024.size (by sl_kernel_rfl) y
theorem first_cover_b (hF : isFirst i) (hL : ¬isLast i) (y : S1x1024.Idx) : ∃ pc ∈ (firstRun c i M hF hL x).2.2.2.2.1, y ∈ pc.1.set :=
  View.cover_of_tiledL (firstRun c i M hF hL x).2.2.2.2.1 S1x1024.size (by sl_kernel_rfl) y
theorem first_cover_s (hF : isFirst i) (hL : ¬isLast i) (y : S4096x1024.Idx) : ∃ pc ∈ (firstRun c i M hF hL x).2.2.2.2.2.1, y ∈ pc.1.set :=
  View.cover_of_tiledL (firstRun c i M hF hL x).2.2.2.2.2.1 S4096x1024.size (by sl_kernel_rfl) y
theorem mid_cover_d0 (hF : ¬isFirst i) (hL : ¬isLast i) (g b : Vec F S1x1024 .f32) (s : AccBuf F c) (y : S256x1024.Idx) : ∃ pc ∈ (midRun c i M hF hL x g b s).1, y ∈ pc.1.set :=
  View.cover_of_tiledL (midRun c i M hF hL x g b s).1 S256x1024.size (by sl_kernel_rfl) y
theorem mid_cover_d1 (hF : ¬isFirst i) (hL : ¬isLast i) (g b : Vec F S1x1024 .f32) (s : AccBuf F c) (y : S256x1024.Idx) : ∃ pc ∈ (midRun c i M hF hL x g b s).2.1, y ∈ pc.1.set :=
  View.cover_of_tiledL (midRun c i M hF hL x g b s).2.1 S256x1024.size (by sl_kernel_rfl) y
theorem mid_cover_d2 (hF : ¬isFirst i) (hL : ¬isLast i) (g b : Vec F S1x1024 .f32) (s : AccBuf F c) (y : S256x1024.Idx) : ∃ pc ∈ (midRun c i M hF hL x g b s).2.2.1, y ∈ pc.1.set :=
  View.cover_of_tiledL (midRun c i M hF hL x g b s).2.2.1 S256x1024.size (by sl_kernel_rfl) y
theorem mid_cover_g (hF : ¬isFirst i) (hL : ¬isLast i) (g b : Vec F S1x1024 .f32) (s : AccBuf F c) (y : S1x1024.Idx) : ∃ pc ∈ (midRun c i M hF hL x g b s).2.2.2.1, y ∈ pc.1.set :=
  View.cover_of_tiledL (midRun c i M hF hL x g b s).2.2.2.1 S1x1024.size (by sl_kernel_rfl) y
theorem mid_cover_b (hF : ¬isFirst i) (hL : ¬isLast i) (g b : Vec F S1x1024 .f32) (s : AccBuf F c) (y : S1x1024.Idx) : ∃ pc ∈ (midRun c i M hF hL x g b s).2.2.2.2.1, y ∈ pc.1.set :=
  View.cover_of_tiledL (midRun c i M hF hL x g b s).2.2.2.2.1 S1x1024.size (by sl_kernel_rfl) y
theorem last_cover_d0 (hF : ¬isFirst i) (hL : isLast i) (g b : Vec F S1x1024 .f32) (s : AccBuf F c) (w : DstBuf F c) (y : S256x1024.Idx) : ∃ pc ∈ (lastRun c i M hF hL x g b s w).1, y ∈ pc.1.set :=
  View.cover_of_tiledL (lastRun c i M hF hL x g b s w).1 S256x1024.size (by sl_kernel_rfl) y
theorem last_cover_d1 (hF : ¬isFirst i) (hL : isLast i) (g b : Vec F S1x1024 .f32) (s : AccBuf F c) (w : DstBuf F c) (y : S256x1024.Idx) : ∃ pc ∈ (lastRun c i M hF hL x g b s w).2.1, y ∈ pc.1.set :=
  View.cover_of_tiledL (lastRun c i M hF hL x g b s w).2.1 S256x1024.size (by sl_kernel_rfl) y
theorem last_cover_d2 (hF : ¬isFirst i) (hL : isLast i) (g b : Vec F S1x1024 .f32) (s : AccBuf F c) (w : DstBuf F c) (y : S256x1024.Idx) : ∃ pc ∈ (lastRun c i M hF hL x g b s w).2.2.1, y ∈ pc.1.set :=
  View.cover_of_tiledL (lastRun c i M hF hL x g b s w).2.2.1 S256x1024.size (by sl_kernel_rfl) y
theorem last_cover_g (hF : ¬isFirst i) (hL : isLast i) (g b : Vec F S1x1024 .f32) (s : AccBuf F c) (w : DstBuf F c) (y : S1x1024.Idx) : ∃ pc ∈ (lastRun c i M hF hL x g b s w).2.2.2.1, y ∈ pc.1.set :=
  View.cover_of_tiledL (lastRun c i M hF hL x g b s w).2.2.2.1 S1x1024.size (by sl_kernel_rfl) y
theorem last_cover_b (hF : ¬isFirst i) (hL : isLast i) (g b : Vec F S1x1024 .f32) (s : AccBuf F c) (w : DstBuf F c) (y : S1x1024.Idx) : ∃ pc ∈ (lastRun c i M hF hL x g b s w).2.2.2.2.1, y ∈ pc.1.set :=
  View.cover_of_tiledL (lastRun c i M hF hL x g b s w).2.2.2.2.1 S1x1024.size (by sl_kernel_rfl) y

end Covers

/-- Two scratch buffers written by pieces that cover are equal. -/
theorem acc_writes_eq {c : Dev nD} (f g : AccBuf F c) (L : List (View.Piece (Elt F) S4096x1024 .f32)) (h : ∀ y, ∃ pc ∈ L, y ∈ pc.1.set) :
    acc.view.writes (Elt F) f L = acc.view.writes (Elt F) g L := by
  have hw : acc.IsWhole := Memref.isWhole_whole _
  rw [hw.eq_unread (View.read_writes_eq_canon acc.view f L h), hw.eq_unread (View.read_writes_eq_canon acc.view g L h)]

/-! ## The proof data -/

/-- The four cells of the transfers. -/
abbrev osem : Fin 4 → SemLoc sig := fun j => (![SemLoc.dma 22, SemLoc.dma 23, SemLoc.dma 24, SemLoc.dma 25] : Fin 4 → SemLoc sig) j
theorem osemFacts : Pipeline.OwnSemFacts spec0 osem := by decide
theorem cells_eq (c : Dev nD) :
    (Pipeline.ownSems0 (Ix := Unit) (Name := ℕ) (U := Pipeline.UD sig nD τ) (Lvl := ℕ) (Val := Elt F) (τ := τ) osem c : sProp 𝕄)
      = cells c := by
  rw [Pipeline.ownSems0_eq_of_list c osem [0, 1, 2, 3] (by decide) (by decide)]; rfl

/-- The result that the body writes itself. -/
def R0 : Finset (Ref sig .tc) := {main_v42_0}
theorem R0_sub : R0 ⊆ Pipeline.restRefs sig spec0 \ ∅ := by decide

/-- What the result in HBM holds at the end: `gw`; every other array as the region found it. -/
def G (c : Dev nD) (b : Ref sig .tc) : Buf (Elt F) ((c : Thread nD τ).loc b) :=
  if h : main_v42_0 = b then h ▸ gw m c else V m c b
theorem G_dst (c : Dev nD) : G m c main_v42_0 = gw m c := dif_pos rfl

/-- The scratch buffer before the point numbered `n`: anything before the first point and after the last. -/
def accAt (c : Dev nD) (n : ℕ) : sProp 𝕄 :=
  if n = 0 ∨ n = 16 then iprop(∃ f, accPt c f) else accPt c (stAt m c n).s
/-- The result in HBM before the point numbered `n`. -/
def dstAt (c : Dev nD) (n : ℕ) : sProp 𝕄 := dstPt c (if n = 16 then gw m c else V m c main_v42_0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t).d0
    | ⟨10, _⟩ => (outsAt m c t).d1
    | ⟨11, _⟩ => (outsAt m c t).d2
    | ⟨12, _⟩ => (outsAt m c t).st.g
    | ⟨13, _⟩ => (outsAt m c t).st.b
    | ⟨_ + 14, h⟩ => absurd h (Nat.not_lt.2 (Nat.le_add_left _ _))
  Φ p := iprop(accAt m c p.val ∗ (∃ r, prngReg c r) ∗ cells c ∗ dstAt m c p.val)
  q _ := fullShare
  owed _ := 0

theorem A_eq (c : Dev nD) (w : Fin cfg0.W) : (dats m 0 c).A w = V m c (Pipeline.arrRef spec0 w) := by
  dsimp only [dats]

theorem before_in_of (c : Dev nD) (w : Fin 14) (hw : w.val < 9) (hout : (cfg0.win w).isOut = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = (dats m 0 c).blockOf w t)
    (hfetch : ∀ t d, (dats m 0 c).fetched w t d = (dats m 0 c).after w t) (t : Fin cfg0.N) (d) :
    (dats m 0 c).before w t d = (dats m 0 c).after w t :=
  ((dats m 0 c).before_in_eq_fetched w hout (fun _ => rfl) hclip hcut t d).trans (hfetch t d)

/-- An input's staging buffer holds its block at every point. -/
theorem before_in (c : Dev nD) : ∀ (w : Fin 14) (_ : w.val < 9) (t : Fin cfg0.N) (d), (dats m 0 c).before w t d = (dats m 0 c).after w t
  | 0, h, t, d | 1, h, t, d | 2, h, t, d | 3, h, t, d | 4, h, t, d | 5, h, t, d | 6, h, t, d | 7, h, t, d | 8, h, t, d =>
    before_in_of m c _ h rfl (fun _ _ _ => rfl)
      (fun t => by unfold Dat.blockOf; dsimp only [dats]; unfold iblk; rfl)
      (fun t d => by unfold Dat.fetched Dat.blockOf; dsimp only [dats]; unfold iblk; rfl) t d
  | ⟨n + 9, _⟩, h, _, _ => absurd h (Nat.not_lt.2 (Nat.le_add_left _ _))

theorem stAt_pred (c : Dev nD) (t : Fin cfg0.N) (h0 : t.val ≠ 0) :
    (outsAt m c ⟨t.val - 1, Nat.lt_of_le_of_lt (Nat.sub_le _ _) t.isLt⟩).st = stAt m c t.val := by
  rw [← stAt_succ]; congr 1; dsimp only; omega

/-- The two rows of gradients are kept in their staging buffers. -/
theorem before_g (c : Dev nD) (t : Fin cfg0.N) (h0 : t.val ≠ 0) (d) : (dats m 0 c).before 12 t d = (stAt m c t.val).g := by
  have hN : t.val < 16 := lt_of_lt_of_eq t.isLt (show cfg0.N = 16 from N_0)
  rw [Dat.before_out_kept _ 12 rfl t h0 (Bool.eq_false_iff.mpr fun h => by have := (flush0_12 _).mp h; dsimp only at this; omega)
    (fun _ => rfl) (fun _ _ => rfl), ← stAt_pred m c t h0]
  dsimp only [dats]
theorem before_b (c : Dev nD) (t : Fin cfg0.N) (h0 : t.val ≠ 0) (d) : (dats m 0 c).before 13 t d = (stAt m c t.val).b := by
  have hN : t.val < 16 := lt_of_lt_of_eq t.isLt (show cfg0.N = 16 from N_0)
  rw [Dat.before_out_kept _ 13 rfl t h0 (Bool.eq_false_iff.mpr fun h => by have := (flush0_13 _).mp h; dsimp only at this; omega)
    (fun _ => rfl) (fun _ _ => rfl), ← stAt_pred m c t h0]
  dsimp only [dats]

/-! ## One point's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t))

theorem owns_held (c : Dev nD) {S : Shape} {e : EltTy} {M : Memref sig .tc .vmem S e} (h : M.IsWhole) (X : S.Idx → Elt F e) :
    (owns (c : Thread nD τ) M fullShare X : sProp 𝕄) ⊢ held c h X := by rw [owns_eq_held c h]
theorem held_owns (c : Dev nD) {S : Shape} {e : EltTy} {M : Memref sig .tc .vmem S e} (h : M.IsWhole) (X : S.Idx → Elt F e) :
    held c h X ⊢ (owns (c : Thread nD τ) M fullShare X : sProp 𝕄) := by rw [owns_eq_held c h]
/-- A buffer written by pieces that cover holds what they say. -/
theorem written_owns (c : Dev nD) {S : Shape} {e : EltTy} {M : Memref sig .tc .vmem S e} (L : List (View.Piece (Elt F) S e))
    (h : ∀ y, ∃ pc ∈ L, y ∈ pc.1.set) : written c M L ⊢ (owns (c : Thread nD τ) M fullShare (View.canon L) : sProp 𝕄) := by
  unfold owns; iintro ⟨%f, H⟩; iexists _; isplitr
  swap; · iexact H
  ipureintro; exact View.read_writes_eq_canon _ _ _ h
theorem owns_free (c : Dev nD) {S : Shape} {e : EltTy} {M : Memref sig .tc .vmem S e} (X : S.Idx → Elt F e) :
    (owns (c : Thread nD τ) M fullShare X : sProp 𝕄) ⊢ free c M := by
  unfold owns; iintro ⟨%f, -, H⟩; iexists f; iexact H

set_option maxHeartbeats 1000000 in
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hF : isFirst (grid0.coords t) := (isFirst_iff t).mpr h0
  have hL : ¬isLast (grid0.coords t) := fun h => by have := (isLast_iff t).mp h; omega
  have ha : accAt m c t.val = iprop(∃ f, accPt c f) := by rw [accAt, if_pos (Or.inl h0)]
  have ha' : accAt m c (t.val + 1) = accPt c (outsAt m c t).st.s := by rw [accAt, if_neg (by omega), stAt_succ]
  have hd : dstAt m c t.val = dstPt c (V m c main_v42_0) := by rw [dstAt, if_neg (by omega)]
  have hd' : dstAt m c (t.val + 1) = dstPt c (V m c main_v42_0) := by rw [dstAt, if_neg (by omega)]
  unfold bodyPre bodyPost
  rw [show (dats m 0 c).Φ t.castSucc = iprop(accAt m c t.val ∗ (∃ r, prngReg c r) ∗ cells c ∗ dstAt m c t.val) from rfl,
    show (dats m 0 c).Φ t.succ = iprop(accAt m c (t.val + 1) ∗ (∃ r, prngReg c r) ∗ cells c ∗ dstAt m c (t.val + 1)) from rfl, ha, ha', hd, hd']
  rw [show (dats m 0 c).owesAt () t.succ = (dats m 0 c).owesAt () t.castSucc from rfl]
  simp only [before_in m c _ (show ((0 : Fin 14).val < 9) by decide), before_in m c _ (show ((1 : Fin 14).val < 9) by decide), before_in m c _ (show ((2 : Fin 14).val < 9) by decide), before_in m c _ (show ((3 : Fin 14).val < 9) by decide), before_in m c _ (show ((4 : Fin 14).val < 9) by decide), before_in m c _ (show ((5 : Fin 14).val < 9) by decide), before_in m c _ (show ((6 : Fin 14).val < 9) by decide), before_in m c _ (show ((7 : Fin 14).val < 9) by decide), before_in m c _ (show ((8 : Fin 14).val < 9) by decide)]
  dsimp only [dats]
  rw [outsAt_first m c t h0 hF hL]
  unfold firstOut
  iintro ⟨⟨HS, Hr, Hq, HD⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((firstRun c (grid0.coords t) (mems t) hF hL (ins m c t)).2.2.2.2.2.2 _)
  isplitl [H0 H1 H2 H3 H4 H5 H6 H7 H8]
  · isplitl [H0]; · iapply (owns_held c (mems t).hi0); iexact H0
    isplitl [H1]; · iapply (owns_held c (mems t).hi1); iexact H1
    isplitl [H2]; · iapply (owns_held c (mems t).hi2); iexact H2
    isplitl [H3]; · iapply (owns_held c (mems t).hi3); iexact H3
    isplitl [H4]; · iapply (owns_held c (mems t).hi4); iexact H4
    isplitl [H5]; · iapply (owns_held c (mems t).hi5); iexact H5
    isplitl [H6]; · iapply (owns_held c (mems t).hi6); iexact H6
    isplitl [H7]; · iapply (owns_held c (mems t).hi7); iexact H7
    iapply (owns_held c (mems t).hi8); iexact H8
  isplitl [H9]; · iapply owns_free; iexact H9
  isplitl [H10]; · iapply owns_free; iexact H10
  isplitl [H11]; · iapply owns_free; iexact H11
  isplitl [H12]; · iapply owns_free; iexact H12
  isplitl [H13]; · iapply owns_free; iexact H13
  isplitl [HS]; · iexact HS
  iintro ⟨⟨H0, H1, H2, H3, H4, H5, H6, H7, H8⟩, H9, H10, H11, H12, H13, ⟨%s, HS⟩⟩
  isplitl [HS Hr Hq HD]
  · isplitl [HS]; · rw [acc_writes_eq (c := c) acc.view.junk s _ (first_cover_s c (grid0.coords t) (mems t) (ins m c t) hF hL)]; iexact HS
    isplitl [Hr]; · iexact Hr
    isplitl [Hq]; · iexact Hq
    iexact HD
  isplitl [HW]; · iexact HW
  isplitl [H0]; · iapply (held_owns c (mems t).hi0); iexact H0
  isplitl [H1]; · iapply (held_owns c (mems t).hi1); iexact H1
  isplitl [H2]; · iapply (held_owns c (mems t).hi2); iexact H2
  isplitl [H3]; · iapply (held_owns c (mems t).hi3); iexact H3
  isplitl [H4]; · iapply (held_owns c (mems t).hi4); iexact H4
  isplitl [H5]; · iapply (held_owns c (mems t).hi5); iexact H5
  isplitl [H6]; · iapply (held_owns c (mems t).hi6); iexact H6
  isplitl [H7]; · iapply (held_owns c (mems t).hi7); iexact H7
  isplitl [H8]; · iapply (held_owns c (mems t).hi8); iexact H8
  isplitl [H9]; · iapply (written_owns c _ (first_cover_d0 c (grid0.coords t) (mems t) (ins m c t) hF hL)); iexact H9
  isplitl [H10]; · iapply (written_owns c _ (first_cover_d1 c (grid0.coords t) (mems t) (ins m c t) hF hL)); iexact H10
  isplitl [H11]; · iapply (written_owns c _ (first_cover_d2 c (grid0.coords t) (mems t) (ins m c t) hF hL)); iexact H11
  isplitl [H12]; · iapply (written_owns c _ (first_cover_g c (grid0.coords t) (mems t) (ins m c t) hF hL)); iexact H12
  iapply (written_owns c _ (first_cover_b c (grid0.coords t) (mems t) (ins m c t) hF hL)); iexact H13
set_option maxHeartbeats 1000000 in
theorem sound_mid (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hF : ¬isFirst (grid0.coords t) := fun h => h0 ((isFirst_iff t).mp h)
  have hL : ¬isLast (grid0.coords t) := fun h => h1 ((isLast_iff t).mp h)
  have ha : accAt m c t.val = accPt c (stAt m c t.val).s := by rw [accAt, if_neg (by omega)]
  have ha' : accAt m c (t.val + 1) = accPt c (outsAt m c t).st.s := by rw [accAt, if_neg (by omega), stAt_succ]
  have hd : dstAt m c t.val = dstPt c (V m c main_v42_0) := by rw [dstAt, if_neg (by omega)]
  have hd' : dstAt m c (t.val + 1) = dstPt c (V m c main_v42_0) := by rw [dstAt, if_neg (by omega)]
  unfold bodyPre bodyPost
  rw [show (dats m 0 c).Φ t.castSucc = iprop(accAt m c t.val ∗ (∃ r, prngReg c r) ∗ cells c ∗ dstAt m c t.val) from rfl,
    show (dats m 0 c).Φ t.succ = iprop(accAt m c (t.val + 1) ∗ (∃ r, prngReg c r) ∗ cells c ∗ dstAt m c (t.val + 1)) from rfl, ha, ha', hd, hd']
  rw [show (dats m 0 c).owesAt () t.succ = (dats m 0 c).owesAt () t.castSucc from rfl]
  simp only [before_in m c _ (show ((0 : Fin 14).val < 9) by decide), before_in m c _ (show ((1 : Fin 14).val < 9) by decide), before_in m c _ (show ((2 : Fin 14).val < 9) by decide), before_in m c _ (show ((3 : Fin 14).val < 9) by decide), before_in m c _ (show ((4 : Fin 14).val < 9) by decide), before_in m c _ (show ((5 : Fin 14).val < 9) by decide), before_in m c _ (show ((6 : Fin 14).val < 9) by decide), before_in m c _ (show ((7 : Fin 14).val < 9) by decide), before_in m c _ (show ((8 : Fin 14).val < 9) by decide)]
  simp only [before_g m c t h0, before_b m c t h0]
  dsimp only [dats]
  rw [outsAt_mid m c t h0 h1 hF hL]
  unfold midOut
  iintro ⟨⟨HS, Hr, Hq, HD⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((midRun c (grid0.coords t) (mems t) hF hL (ins m c t) (stAt m c t.val).g (stAt m c t.val).b (stAt m c t.val).s).2.2.2.2.2.2 _)
  isplitl [H0 H1 H2 H3 H4 H5 H6 H7 H8]
  · isplitl [H0]; · iapply (owns_held c (mems t).hi0); iexact H0
    isplitl [H1]; · iapply (owns_held c (mems t).hi1); iexact H1
    isplitl [H2]; · iapply (owns_held c (mems t).hi2); iexact H2
    isplitl [H3]; · iapply (owns_held c (mems t).hi3); iexact H3
    isplitl [H4]; · iapply (owns_held c (mems t).hi4); iexact H4
    isplitl [H5]; · iapply (owns_held c (mems t).hi5); iexact H5
    isplitl [H6]; · iapply (owns_held c (mems t).hi6); iexact H6
    isplitl [H7]; · iapply (owns_held c (mems t).hi7); iexact H7
    iapply (owns_held c (mems t).hi8); iexact H8
  isplitl [H9]; · iapply owns_free; iexact H9
  isplitl [H10]; · iapply owns_free; iexact H10
  isplitl [H11]; · iapply owns_free; iexact H11
  isplitl [H12]; · iapply (owns_held c (mems t).ho3); iexact H12
  isplitl [H13]; · iapply (owns_held c (mems t).ho4); iexact H13
  isplitl [HS]; · iexact HS
  iintro ⟨⟨H0, H1, H2, H3, H4, H5, H6, H7, H8⟩, H9, H10, H11, H12, H13, HS⟩
  isplitl [HS Hr Hq HD]
  · isplitl [HS]; · iexact HS
    isplitl [Hr]; · iexact Hr
    isplitl [Hq]; · iexact Hq
    iexact HD
  isplitl [HW]; · iexact HW
  isplitl [H0]; · iapply (held_owns c (mems t).hi0); iexact H0
  isplitl [H1]; · iapply (held_owns c (mems t).hi1); iexact H1
  isplitl [H2]; · iapply (held_owns c (mems t).hi2); iexact H2
  isplitl [H3]; · iapply (held_owns c (mems t).hi3); iexact H3
  isplitl [H4]; · iapply (held_owns c (mems t).hi4); iexact H4
  isplitl [H5]; · iapply (held_owns c (mems t).hi5); iexact H5
  isplitl [H6]; · iapply (held_owns c (mems t).hi6); iexact H6
  isplitl [H7]; · iapply (held_owns c (mems t).hi7); iexact H7
  isplitl [H8]; · iapply (held_owns c (mems t).hi8); iexact H8
  isplitl [H9]; · iapply (written_owns c _ (mid_cover_d0 c (grid0.coords t) (mems t) (ins m c t) hF hL _ _ _)); iexact H9
  isplitl [H10]; · iapply (written_owns c _ (mid_cover_d1 c (grid0.coords t) (mems t) (ins m c t) hF hL _ _ _)); iexact H10
  isplitl [H11]; · iapply (written_owns c _ (mid_cover_d2 c (grid0.coords t) (mems t) (ins m c t) hF hL _ _ _)); iexact H11
  isplitl [H12]; · iapply (written_owns c _ (mid_cover_g c (grid0.coords t) (mems t) (ins m c t) hF hL _ _ _)); iexact H12
  iapply (written_owns c _ (mid_cover_b c (grid0.coords t) (mems t) (ins m c t) hF hL _ _ _)); iexact H13
set_option maxHeartbeats 1000000 in
theorem sound_last (c : Dev nD) (t : Fin cfg0.N) (h1 : t.val = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  obtain rfl : t = tLast := Fin.ext h1
  have h0 : tLast.val ≠ 0 := by decide
  have hF : ¬isFirst (grid0.coords tLast) := fun h => h0 ((isFirst_iff tLast).mp h)
  have hL : isLast (grid0.coords tLast) := (isLast_iff tLast).mpr h1
  have ha : accAt m c tLast.val = accPt c (stAt m c tLast.val).s := by rw [accAt, if_neg (by decide)]
  have ha' : accAt m c (tLast.val + 1) = iprop(∃ f, accPt c f) := by rw [accAt, if_pos (by decide)]
  have hd : dstAt m c tLast.val = dstPt c (V m c main_v42_0) := by rw [dstAt, if_neg (by decide)]
  have hd' : dstAt m c (tLast.val + 1) = dstPt c (gw m c) := by rw [dstAt, if_pos (by decide)]
  unfold bodyPre bodyPost
  rw [show (dats m 0 c).Φ tLast.castSucc = iprop(accAt m c tLast.val ∗ (∃ r, prngReg c r) ∗ cells c ∗ dstAt m c tLast.val) from rfl,
    show (dats m 0 c).Φ tLast.succ = iprop(accAt m c (tLast.val + 1) ∗ (∃ r, prngReg c r) ∗ cells c ∗ dstAt m c (tLast.val + 1)) from rfl, ha, ha', hd, hd']
  unfold Dat.owesAt Pipeline.owesWithin
  rw [show (dats m 0 c).owed tLast.castSucc = 0 from rfl, show (dats m 0 c).owed tLast.succ = 0 from rfl]
  simp only [before_in m c _ (show ((0 : Fin 14).val < 9) by decide), before_in m c _ (show ((1 : Fin 14).val < 9) by decide), before_in m c _ (show ((2 : Fin 14).val < 9) by decide), before_in m c _ (show ((3 : Fin 14).val < 9) by decide), before_in m c _ (show ((4 : Fin 14).val < 9) by decide), before_in m c _ (show ((5 : Fin 14).val < 9) by decide), before_in m c _ (show ((6 : Fin 14).val < 9) by decide), before_in m c _ (show ((7 : Fin 14).val < 9) by decide), before_in m c _ (show ((8 : Fin 14).val < 9) by decide)]
  simp only [before_g m c tLast h0, before_b m c tLast h0]
  dsimp only [dats]
  rw [outsAt_last m c tLast h1 hF hL]
  unfold lastOut
  unfold gw
  iintro ⟨⟨HS, Hr, Hq, HD⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((lastRun c (grid0.coords tLast) (mems tLast) hF hL (ins m c tLast) (stAt m c tLast.val).g (stAt m c tLast.val).b (stAt m c tLast.val).s (V m c main_v42_0)).2.2.2.2.2.2 W _)
  isplitl [H0 H1 H2 H3 H4 H5 H6 H7 H8]
  · isplitl [H0]; · iapply (owns_held c (mems tLast).hi0); iexact H0
    isplitl [H1]; · iapply (owns_held c (mems tLast).hi1); iexact H1
    isplitl [H2]; · iapply (owns_held c (mems tLast).hi2); iexact H2
    isplitl [H3]; · iapply (owns_held c (mems tLast).hi3); iexact H3
    isplitl [H4]; · iapply (owns_held c (mems tLast).hi4); iexact H4
    isplitl [H5]; · iapply (owns_held c (mems tLast).hi5); iexact H5
    isplitl [H6]; · iapply (owns_held c (mems tLast).hi6); iexact H6
    isplitl [H7]; · iapply (owns_held c (mems tLast).hi7); iexact H7
    iapply (owns_held c (mems tLast).hi8); iexact H8
  isplitl [H9]; · iapply owns_free; iexact H9
  isplitl [H10]; · iapply owns_free; iexact H10
  isplitl [H11]; · iapply owns_free; iexact H11
  isplitl [H12]; · iapply (owns_held c (mems tLast).ho3); iexact H12
  isplitl [H13]; · iapply (owns_held c (mems tLast).ho4); iexact H13
  isplitl [HS]; · iexact HS
  isplitl [Hq]; · iexact Hq
  isplitl [HD]; · iexact HD
  isplitl [HW]; · iexact HW
  iintro ⟨⟨H0, H1, H2, H3, H4, H5, H6, H7, H8⟩, H9, H10, H11, H12, H13, ⟨%s, HS⟩, Hq, HD, ⟨%W', HW⟩⟩
  isplitl [HS Hr Hq HD]
  · isplitl [HS]; · iexists s; iexact HS
    isplitl [Hr]; · iexact Hr
    isplitl [Hq]; · iexact Hq
    iexact HD
  isplitl [HW]
  · iexists W'; isplitr; · ipureintro; exact fun _ _ => Or.inl trivial
    iexact HW
  isplitl [H0]; · iapply (held_owns c (mems tLast).hi0); iexact H0
  isplitl [H1]; · iapply (held_owns c (mems tLast).hi1); iexact H1
  isplitl [H2]; · iapply (held_owns c (mems tLast).hi2); iexact H2
  isplitl [H3]; · iapply (held_owns c (mems tLast).hi3); iexact H3
  isplitl [H4]; · iapply (held_owns c (mems tLast).hi4); iexact H4
  isplitl [H5]; · iapply (held_owns c (mems tLast).hi5); iexact H5
  isplitl [H6]; · iapply (held_owns c (mems tLast).hi6); iexact H6
  isplitl [H7]; · iapply (held_owns c (mems tLast).hi7); iexact H7
  isplitl [H8]; · iapply (held_owns c (mems tLast).hi8); iexact H8
  isplitl [H9]; · iapply (written_owns c _ (last_cover_d0 c (grid0.coords tLast) (mems tLast) (ins m c tLast) hF hL _ _ _ _)); iexact H9
  isplitl [H10]; · iapply (written_owns c _ (last_cover_d1 c (grid0.coords tLast) (mems tLast) (ins m c tLast) hF hL _ _ _ _)); iexact H10
  isplitl [H11]; · iapply (written_owns c _ (last_cover_d2 c (grid0.coords tLast) (mems tLast) (ins m c tLast) hF hL _ _ _ _)); iexact H11
  isplitl [H12]; · iapply (written_owns c _ (last_cover_g c (grid0.coords tLast) (mems tLast) (ins m c tLast) hF hL _ _ _ _)); iexact H12
  iapply (written_owns c _ (last_cover_b c (grid0.coords tLast) (mems tLast) (ins m c tLast) hF hL _ _ _ _)); iexact H13
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val = 15
    · exact sound_last m c t h1
    · exact sound_mid m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_in (c : Dev nD) : Pipeline.ΦDRG osem spec0 ∅ R0 (V m) (V m) c ⊢ (dats m 0 c).Φ 0 := by
  rw [Pipeline.ΦDRG_eq, scopedRest0_eq, cells_eq, R0, Pipeline.routed_singleton]
  rw [show (dats m 0 c).Φ 0 = iprop((∃ f, accPt c f) ∗ (∃ r, prngReg c r) ∗ cells c ∗ dstPt c (V m c main_v42_0)) from rfl]
  iintro ⟨HS, Hr, Hq, -, HD⟩
  isplitl [HS]; · iexact HS
  isplitl [Hr]; · iexact Hr
  isplitl [Hq]; · iexact Hq
  iexact HD
theorem phi_out (c : Dev nD) : (dats m 0 c).Φ (Fin.last cfg0.N) ⊢ Pipeline.ΦDRG osem spec0 ∅ R0 (V m) (G m) c := by
  rw [Pipeline.ΦDRG_eq, scopedRest0_eq, cells_eq, R0, Pipeline.routed_singleton, G_dst]
  rw [show (dats m 0 c).Φ (Fin.last cfg0.N) = iprop((∃ f, accPt c f) ∗ (∃ r, prngReg c r) ∗ cells c ∗ dstPt c (gw m c)) from rfl]
  iintro ⟨HS, Hr, Hq, HD⟩
  isplitl [HS]; · iexact HS
  isplitl [Hr]; · iexact Hr
  isplitl [Hq]; · iexact Hq
  isplitr; · rw [bigSep_empty]; iempintro
  iexact HD

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem defs₀ Variants.none osemFacts ∅ R0 (Finset.empty_subset _) R0_sub m ρ main
    (hbody := fun c => (body_obligation m c).loose) (hshare := fun c => (dats m 0 c).share_full fun _ => rfl)
    (howed := fun _ _ => rfl) (V := V m) (hmain := hmain m Variants.none) (hA := A_eq m) (G := G m)
    (hin := phi_in m) (hout := phi_out m)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_arg m c (by decide)),
      ((h.1.toR c).2 main_arg1 (Finset.mem_sdiff.mpr ⟨Pipeline.mem_restRefs_of main_arg1 (by decide) (by decide), by decide⟩)).trans (V_arg m c (by decide)),
      ((h.1.toR c).2 main_arg2 (Finset.mem_sdiff.mpr ⟨Pipeline.mem_restRefs_of main_arg2 (by decide) (by decide), by decide⟩)).trans (V_arg m c (by decide)),
      ((h.1.toR c).1 5).trans (((dats m 0 c).arrAt_in 5 rfl _).trans ((A_eq m c 5).trans (V_arg m c (by decide)))),
      ((h.1.toR c).2 main_arg4 (Finset.mem_sdiff.mpr ⟨Pipeline.mem_restRefs_of main_arg4 (by decide) (by decide), by decide⟩)).trans (V_arg m c (by decide)),
      ((h.1.toR c).2 main_arg5 (Finset.mem_sdiff.mpr ⟨Pipeline.mem_restRefs_of main_arg5 (by decide) (by decide), by decide⟩)).trans (V_arg m c (by decide)),
      ((h.1.toR c).2 main_arg6 (Finset.mem_sdiff.mpr ⟨Pipeline.mem_restRefs_of main_arg6 (by decide) (by decide), by decide⟩)).trans (V_arg m c (by decide)),
      ((h.1.toR c).1 0).trans (((dats m 0 c).arrAt_in 0 rfl _).trans ((A_eq m c 0).trans (V_arg m c (by decide))))⟩, h.2⟩) (run_main m ρ)

end Cert.FfnBwdIdeal.Run

end
-- ==== Proof.FfnBwdPays.lean ====
/-
  What the feed-forward and first norm's backward kernel computes from a point's 256 rows, on finite arrays: each stage of
  its body as one function of the stage before.
-/
module

public import proofs.«01_k».proof.Proof.Layer
public import proofs.«01_k».proof.Proof.FfnBwdFrame

@[expose] public section

set_option maxRecDepth 16384

noncomputable section

namespace Cert.FfnBwdIdeal.Blocks

open Cert.FfnBwdIdeal Cert.FfnBwdIdeal.Gen Cert.Reals Cert.Layer Idealize.ShloMosaic

/-! ## The accumulated sums start from zero -/

@[rify_simps] theorem pay4 : k0_pay4 (F := Ideal) = up2 fun _ _ => 0 := splat_zero
@[rify_simps] theorem pay5 : k0_pay5 (F := Ideal) = up2 fun _ _ => 0 := splat_zero
@[rify_simps] theorem pay6 : k0_pay6 (F := Ideal) = up2 fun _ _ => 0 := by
  simp only [k0_pay6, rify_simps]

/-! ## The feed-forward product -/

section
variable (d x r : Mat 256 1024) (e p : Mat 256 1024) (u v w : Fin 1 → Mat 1024 1024) (s : Mat 1024 1024) (xt : Mat 1024 256)

@[rify_simps] theorem splat_two' : broadcast ⟨2, ![256, 1024]⟩ (FloatOps.ofBits (F := Ideal) .f32 0x40000000#32) = up2 (φ := .f32) fun _ _ => 2 := splat_two
@[rify_simps] theorem splat_1024' : broadcast ⟨2, ![256, 1]⟩ (FloatOps.ofBits (F := Ideal) .f32 0x44800000#32) = up2 (φ := .f32) fun _ _ => 1024 := splat_1024
/-- The literal two that the kernel carries from one stage to the next. -/
abbrev two : Ideal .f32 := FloatOps.ofBits .f32 0x40000000#32

@[rify_simps] theorem pay7 : k0_pay7 (F := Ideal) (f2 d) = bf2 d := by
  simp only [k0_pay7, dot_S256x1024_S1024x1024_S256x1024_1_1_0_0_n_n, dot_S1024x256_S256x1024_S1024x1024_1_0_0_1_n_n, rify_simps, zero_add] <;> rfl
@[rify_simps] theorem pay8 : k0_pay8 (F := Ideal) (bf2 x) = bf2 fun i j => x j i := by
  simp only [k0_pay8, dot_S256x1024_S1024x1024_S256x1024_1_1_0_0_n_n, dot_S1024x256_S256x1024_S1024x1024_1_0_0_1_n_n, rify_simps, zero_add] <;> rfl
@[rify_simps] theorem pay9 : k0_pay9 (F := Ideal) (f2 d) = f2 fun i j => alpha * d i j := by
  simp only [k0_pay9, dot_S256x1024_S1024x1024_S256x1024_1_1_0_0_n_n, dot_S1024x256_S256x1024_S1024x1024_1_0_0_1_n_n, rify_simps, zero_add] <;> rfl
@[rify_simps] theorem pay10 : k0_pay10 (F := Ideal) (f2 d) (bf3 u) (bf2 r) = bf2 (hiddenBwd d (u 0) r) := by
  simp only [k0_pay10, dot_S256x1024_S1024x1024_S256x1024_1_1_0_0_n_n, dot_S1024x256_S256x1024_S1024x1024_1_0_0_1_n_n, rify_simps, zero_add] <;> rfl
@[rify_simps] theorem pay11 : k0_pay11 (F := Ideal) (f2 d) (bf2 x) (bf3 u) (bf2 r) (f2 s) = f2 fun i j => s i j + tn x (hiddenBwd d (u 0) r) i j := by
  simp only [k0_pay11, dot_S256x1024_S1024x1024_S256x1024_1_1_0_0_n_n, dot_S1024x256_S256x1024_S1024x1024_1_0_0_1_n_n, rify_simps, zero_add] <;> rfl
@[rify_simps] theorem pay12 : k0_pay12 (F := Ideal) (bf2 d) (bf3 u) (bf2 r) = bf2 (hiddenBwd d (u 0) r) := by
  simp only [k0_pay12, dot_S256x1024_S1024x1024_S256x1024_1_1_0_0_n_n, dot_S1024x256_S256x1024_S1024x1024_1_0_0_1_n_n, rify_simps, zero_add] <;> rfl
@[rify_simps] theorem pay13 : k0_pay13 (F := Ideal) (bf2 d) (bf2 xt) (bf3 u) (bf2 r) (f2 s) = f2 fun i j => s i j + mm xt (hiddenBwd d (u 0) r) i j := by
  simp only [k0_pay13, dot_S256x1024_S1024x1024_S256x1024_1_1_0_0_n_n, dot_S1024x256_S256x1024_S1024x1024_1_0_0_1_n_n, rify_simps, zero_add] <;> rfl
@[rify_simps] theorem pay14 : k0_pay14 (F := Ideal) (bf2 d) (f2 p) (bf2 e) (bf3 u) (bf3 v) (bf2 r) (bf3 w) = f2 fun i j => p i j + nt e (u 0) i j + nt (hiddenBwd d (v 0) r) (w 0) i j := by
  simp only [k0_pay14, dot_S256x1024_S1024x1024_S256x1024_1_1_0_0_n_n, dot_S1024x256_S256x1024_S1024x1024_1_0_0_1_n_n, rify_simps, zero_add] <;> rfl
@[rify_simps] theorem pay15 : k0_pay15 (F := Ideal) (bf2 d) (bf3 u) = f2 (nt d (u 0)) := by
  simp only [k0_pay15, dot_S256x1024_S1024x1024_S256x1024_1_1_0_0_n_n, dot_S1024x256_S256x1024_S1024x1024_1_0_0_1_n_n, rify_simps, zero_add] <;> rfl
@[rify_simps] theorem pay16 : k0_pay16 (F := Ideal) (bf2 r) = f2 r := by
  simp only [k0_pay16, dot_S256x1024_S1024x1024_S256x1024_1_1_0_0_n_n, dot_S1024x256_S256x1024_S1024x1024_1_0_0_1_n_n, rify_simps, zero_add] <;> rfl
@[rify_simps] theorem pay17 : k0_pay17 (F := Ideal) (f2 p) (f2 r) two = bf2 fun i j => p i j * (2 * r i j) := by
  simp only [k0_pay17, dot_S256x1024_S1024x1024_S256x1024_1_1_0_0_n_n, dot_S1024x256_S256x1024_S1024x1024_1_0_0_1_n_n, rify_simps, zero_add] <;> rfl
@[rify_simps] theorem pay18 : k0_pay18 (F := Ideal) (bf2 xt) (f2 p) (f2 r) two (f2 s) = f2 fun i j => s i j + mm xt (fun i j => p i j * (2 * r i j)) i j := by
  simp only [k0_pay18, dot_S256x1024_S1024x1024_S256x1024_1_1_0_0_n_n, dot_S1024x256_S256x1024_S1024x1024_1_0_0_1_n_n, rify_simps, zero_add] <;> rfl
@[rify_simps] theorem pay19 : k0_pay19 (F := Ideal) (f2 e) (f2 p) (f2 r) two (bf3 u) = f2 fun i j => e i j + nt (fun i j => p i j * (2 * r i j)) (u 0) i j := by
  simp only [k0_pay19, dot_S256x1024_S1024x1024_S256x1024_1_1_0_0_n_n, dot_S1024x256_S256x1024_S1024x1024_1_0_0_1_n_n, rify_simps, zero_add] <;> rfl
@[rify_simps] theorem pay20 : k0_pay20 (F := Ideal) (bf2 d) (bf3 u) (bf2 r) = bf2 (hiddenBwd d (u 0) r) := by
  simp only [k0_pay20, dot_S256x1024_S1024x1024_S256x1024_1_1_0_0_n_n, dot_S1024x256_S256x1024_S1024x1024_1_0_0_1_n_n, rify_simps, zero_add] <;> rfl
@[rify_simps] theorem pay21 : k0_pay21 (F := Ideal) (bf2 d) (bf2 xt) (bf3 u) (bf2 r) (f2 s) = f2 fun i j => s i j + mm xt (hiddenBwd d (u 0) r) i j := by
  simp only [k0_pay21, dot_S256x1024_S1024x1024_S256x1024_1_1_0_0_n_n, dot_S1024x256_S256x1024_S1024x1024_1_0_0_1_n_n, rify_simps, zero_add] <;> rfl
@[rify_simps] theorem pay22 : k0_pay22 (F := Ideal) (f2 p) (bf2 e) (bf3 u) = f2 fun i j => p i j + nt e (u 0) i j := by
  simp only [k0_pay22, dot_S256x1024_S1024x1024_S256x1024_1_1_0_0_n_n, dot_S1024x256_S256x1024_S1024x1024_1_0_0_1_n_n, rify_simps, zero_add] <;> rfl
end

/-! ## The first norm's gradient and the gradient at the mixer's output -/

section
variable (p e h d : Mat 256 1024) (u : Fin 1 → Mat 1024 1024) (w : Mat 1024 1024) (g s : Mat 1 1024) (r c t : Mat 256 1)

/-- The gradient at the norm's result, from what the blocks before the last left. -/
abbrev dx (p e : Mat 256 1024) (u : Fin 1 → Mat 1024 1024) : Mat 256 1024 := fun i j => p i j + nt e (u 0) i j
/-- The literal 1024 that the kernel carries from one stage to the next. -/
abbrev feats : Ideal .f32 := FloatOps.ofBits .f32 0x44800000#32

@[rify_simps] theorem pay23 : k0_pay23 (F := Ideal) (f2 h) = f2 h := by
  simp only [k0_pay23, dot_S256x1024_S1024x1024_S256x1024_1_1_0_0_n_n, dot_S1024x256_S256x1024_S1024x1024_1_0_0_1_n_n, rify_simps, zero_add] <;> rfl
@[rify_simps] theorem pay24 : k0_pay24 (F := Ideal) (f2 p) (bf2 e) (bf3 u) (f2 h) (f2 s) = f2 (addRows s (mul (dx p e u) h)) := by
  simp only [k0_pay24, dot_S256x1024_S1024x1024_S256x1024_1_1_0_0_n_n, dot_S1024x256_S256x1024_S1024x1024_1_0_0_1_n_n, rify_simps, zero_add] <;> rfl
@[rify_simps] theorem pay25 : k0_pay25 (F := Ideal) (f2 p) (bf2 e) (bf3 u) (f2 s) = f2 (addRows s (dx p e u)) := by
  simp only [k0_pay25, dot_S256x1024_S1024x1024_S256x1024_1_1_0_0_n_n, dot_S1024x256_S256x1024_S1024x1024_1_0_0_1_n_n, rify_simps, zero_add] <;> rfl
@[rify_simps] theorem pay26 : k0_pay26 (F := Ideal) (f2 p) (bf2 e) (bf3 u) (f2 g) = f2 (mulRow (dx p e u) g) := by
  simp only [k0_pay26, dot_S256x1024_S1024x1024_S256x1024_1_1_0_0_n_n, dot_S1024x256_S256x1024_S1024x1024_1_0_0_1_n_n, rify_simps, zero_add] <;> rfl
@[rify_simps] theorem pay27 : k0_pay27 (F := Ideal) (f2 r) = f2 r := by
  simp only [k0_pay27, dot_S256x1024_S1024x1024_S256x1024_1_1_0_0_n_n, dot_S1024x256_S256x1024_S1024x1024_1_0_0_1_n_n, rify_simps, zero_add] <;> rfl
@[rify_simps] theorem pay28 : k0_pay28 (F := Ideal) (f2 p) (bf2 e) (bf3 u) (f2 g) = f2 (m := 1) fun i _ => (∑ q, mulRow (dx p e u) g i q) / 1024 := by
  simp only [k0_pay28, dot_S256x1024_S1024x1024_S256x1024_1_1_0_0_n_n, dot_S1024x256_S256x1024_S1024x1024_1_0_0_1_n_n, rify_simps, zero_add] <;> rfl
@[rify_simps] theorem pay29 : k0_pay29 (F := Ideal) (f2 p) (bf2 e) (bf3 u) (f2 h) (f2 g) = f2 (m := 1) fun i _ => ∑ q, mulRow (dx p e u) g i q * h i q := by
  simp only [k0_pay29, dot_S256x1024_S1024x1024_S256x1024_1_1_0_0_n_n, dot_S1024x256_S256x1024_S1024x1024_1_0_0_1_n_n, rify_simps, zero_add] <;> rfl
@[rify_simps] theorem pay1 : k0_pay1 (F := Ideal) (f2 h) (f2 d) (f2 r) (f2 c) (f2 t) feats = f2 fun i j => r i 0 * (d i j - c i 0 - h i j * (t i 0 / 1024)) := by
  simp only [k0_pay1, dot_S256x1024_S1024x1024_S256x1024_1_1_0_0_n_n, dot_S1024x256_S256x1024_S1024x1024_1_0_0_1_n_n, rify_simps, zero_add] <;> rfl
@[rify_simps] theorem pay2 : k0_pay2 (F := Ideal) (f2 h) (f2 d) (f2 r) (f2 c) (f2 t) feats = bf2 fun i j => r i 0 * (d i j - c i 0 - h i j * (t i 0 / 1024)) := by
  simp only [k0_pay2, dot_S256x1024_S1024x1024_S256x1024_1_1_0_0_n_n, dot_S1024x256_S256x1024_S1024x1024_1_0_0_1_n_n, rify_simps, zero_add] <;> rfl
@[rify_simps] theorem pay3 : k0_pay3 (F := Ideal) (f2 h) (f2 d) (f2 r) (f2 c) (f2 t) feats (bf2 w) = bf2 (nt (fun i j => r i 0 * (d i j - c i 0 - h i j * (t i 0 / 1024))) w) := by
  simp only [k0_pay3, dot_S256x1024_S1024x1024_S256x1024_1_1_0_0_n_n, dot_S1024x256_S256x1024_S1024x1024_1_0_0_1_n_n, rify_simps, zero_add] <;> rfl
end

end Cert.FfnBwdIdeal.Blocks
-- ==== Proof.FfnBwdBlocks.lean ====
/-
  What one grid point of the feed-forward and first norm's backward kernel stores: the arrays of its 256 rows, and the
  accumulated sums with the sums over these 256 rows added (from zero at the first point).
-/
module

public import proofs.«01_k».proof.Proof.FfnBwdSpec
public import proofs.«01_k».proof.Proof.FfnBwdPays

@[expose] public section

set_option maxRecDepth 16384

noncomputable section

namespace Cert.FfnBwdIdeal.Blocks

open Cert.FfnBwdIdeal Cert.FfnBwdIdeal.Gen Cert.FfnBwdIdeal.Run Cert.Reals Cert.Layer Idealize.ShloMosaic Idealize.SL Idealize.SL.Sem

/-- The blocks that a point reads are the arguments `o`. -/
structure Reads (x : Ins Ideal) (o : BwdArgs 256) : Prop where
  e0 : x.x0 = f2 o.dz2
  e1 : x.x1 = bf2 o.r
  e2 : x.x2 = bf2 o.x1
  e3 : x.x3 = f2 o.h1
  e4 : x.x4 = f2 o.rs
  e5 : x.x5 = f2 o.g1
  e6 : x.x6 = bf3 o.w1
  e7 : x.x7 = bf3 o.w2
  e8 : x.x8 = bf2 o.wo

variable {c : Dev nD} {i : grid0.Coords} {M : Mems} {x : Ins Ideal} {o : BwdArgs 256} {st : St Ideal c}

theorem first_d0 (e : Reads x o) (hF hL) : (firstOut (c := c) i M x hF hL).d0 = f2 o.dz1 := by
  unfold firstOut firstRun; dsimp only; sl_unfold_words
  simp only [e.e0, e.e1, e.e2, e.e3, e.e4, e.e5, e.e6, e.e7, e.e8, View.readAt_eq_ld, Memref.IsWhole.read_unread, part_zero, rify_simps]
  rfl
theorem first_d1 (e : Reads x o) (hF hL) : (firstOut (c := c) i M x hF hL).d1 = bf2 o.dz1 := by
  unfold firstOut firstRun; dsimp only; sl_unfold_words
  simp only [e.e0, e.e1, e.e2, e.e3, e.e4, e.e5, e.e6, e.e7, e.e8, View.readAt_eq_ld, Memref.IsWhole.read_unread, part_zero, rify_simps]
  rfl
theorem first_d2 (e : Reads x o) (hF hL) : (firstOut (c := c) i M x hF hL).d2 = bf2 o.dcat := by
  unfold firstOut firstRun; dsimp only; sl_unfold_words
  simp only [e.e0, e.e1, e.e2, e.e3, e.e4, e.e5, e.e6, e.e7, e.e8, View.readAt_eq_ld, Memref.IsWhole.read_unread, part_zero, rify_simps]
  rfl
theorem first_g (e : Reads x o) (hF hL) : (firstOut (c := c) i M x hF hL).st.g = f2 (addRows (fun _ _ => 0) (mul o.dx1 o.h1)) := by
  unfold firstOut firstRun; dsimp only; sl_unfold_words
  simp only [e.e0, e.e1, e.e2, e.e3, e.e4, e.e5, e.e6, e.e7, e.e8, View.readAt_eq_ld, Memref.IsWhole.read_unread, part_zero, rify_simps]
  rfl
theorem first_b (e : Reads x o) (hF hL) : (firstOut (c := c) i M x hF hL).st.b = f2 (addRows (fun _ _ => 0) o.dx1) := by
  unfold firstOut firstRun; dsimp only; sl_unfold_words
  simp only [e.e0, e.e1, e.e2, e.e3, e.e4, e.e5, e.e6, e.e7, e.e8, View.readAt_eq_ld, Memref.IsWhole.read_unread, part_zero, rify_simps]
  rfl
theorem first_s (e : Reads x o) (hF hL) : acc.view.read (Elt Ideal) (firstOut (c := c) i M x hF hL).st.s = f2 o.gws := by
  unfold firstOut; dsimp only
  rw [View.read_writes_eq_canon _ _ _ (first_cover_s c i M x hF hL)]
  unfold firstRun; dsimp only; sl_unfold_words
  simp (config := {decide := true}) only [e.e0, e.e1, e.e2, e.e3, e.e4, e.e5, e.e6, e.e7, e.e8, View.readAt_eq_ld, Memref.IsWhole.read_unread, part_zero, ↓View.readCov_skip, rify_simps]

  refine canon_agree_append [_] _ [_, _, _, _] (View.cover_of_tiled_head _ _ _ rfl) ?_
  simp only [List.forall_mem_cons, List.not_mem_nil, false_imp_iff, implies_true, and_true]
  refine ⟨agree2 _ _ _ fun i j => ?_, agree2 _ _ _ fun i j => ?_, agree2 _ _ _ fun i j => ?_, agree2 _ _ _ fun i j => ?_⟩
  · rw [part_zero, o.gws_part _ (b := 3) (by decide) rfl]; exact zero_add _
  · rw [part_zero, o.gws_part _ (b := 2) (by decide) rfl]; exact zero_add _
  · rw [part_zero, o.gws_part _ (b := 1) (by decide) rfl]; exact zero_add _
  · rw [part_zero, o.gws_part _ (b := 0) (by decide) rfl]; exact zero_add _
theorem mid_s (e : Reads x o) {A : Mat 4096 1024} (hs : View.read (Elt Ideal) (View.whole cc0_scratch0) st.s = f2 A) (hF hL) :
    acc.view.read (Elt Ideal) (midOut (c := c) i M x st hF hL).st.s = f2 fun p q => A p q + o.gws p q := by
  unfold midOut midRun; dsimp only; sl_unfold_words
  simp only [hs, e.e0, e.e1, e.e2, e.e3, e.e4, e.e5, e.e6, e.e7, e.e8, View.readAt_eq_ld, Memref.IsWhole.read_unread, rify_simps]
  rw [View.read_writes_eq_canon _ _ _ (View.cover_of_tiled_head _ _ _ rfl)]
  refine canon_agree _ _ (View.cover_of_tiled_head _ _ _ rfl) ?_
  simp only [List.forall_mem_cons, List.not_mem_nil, false_imp_iff, implies_true, and_true]
  refine ⟨agree2 _ _ _ fun i j => ?_, agree2 _ _ _ fun i j => ?_, agree2 _ _ _ fun i j => ?_, agree2 _ _ _ fun i j => ?_⟩
  · rw [part_zero, o.gws_part _ (b := 3) (by decide) rfl]; rfl
  · rw [part_zero, o.gws_part _ (b := 2) (by decide) rfl]; rfl
  · rw [part_zero, o.gws_part _ (b := 1) (by decide) rfl]; rfl
  · rw [part_zero, o.gws_part _ (b := 0) (by decide) rfl]; rfl
theorem last_w (e : Reads x o) (w : DstBuf Ideal c) {A : Mat 4096 1024} (hs : View.read (Elt Ideal) (View.whole cc0_scratch0) st.s = f2 A) (hF hL) :
    View.read (Elt Ideal) (View.whole main_v42_0) (lastRun c i M hF hL x st.g st.b st.s w).2.2.2.2.2.1 = f2 fun p q => A p q + o.gws p q := by
  unfold lastRun; dsimp only; sl_unfold_words
  simp only [hs, e.e0, e.e1, e.e2, e.e3, e.e4, e.e5, e.e6, e.e7, e.e8, View.readAt_eq_ld, Memref.IsWhole.read_unread, rify_simps]
  simp only [read_slice_writes]
  rw [View.read_writes_eq_canon _ _ _ (View.cover_of_tiled_head _ _ _ rfl)]
  refine canon_agree _ _ (View.cover_of_tiled_head _ _ _ rfl) ?_
  simp only [List.forall_mem_cons, List.not_mem_nil, false_imp_iff, implies_true, and_true]
  refine ⟨agree2 _ _ _ fun i j => ?_, agree2 _ _ _ fun i j => ?_, agree2 _ _ _ fun i j => ?_, agree2 _ _ _ fun i j => ?_⟩
  · rw [part_zero, o.gws_part _ (b := 3) (by decide) rfl]; rfl
  · rw [part_zero, o.gws_part _ (b := 2) (by decide) rfl]; rfl
  · rw [part_zero, o.gws_part _ (b := 1) (by decide) rfl]; rfl
  · rw [part_zero, o.gws_part _ (b := 0) (by decide) rfl]; rfl
theorem mid_d0 (e : Reads x o) (hF hL) : (midOut (c := c) i M x st hF hL).d0 = f2 o.dz1 := by
  unfold midOut midRun; dsimp only; sl_unfold_words
  simp only [e.e0, e.e1, e.e2, e.e3, e.e4, e.e5, e.e6, e.e7, e.e8, View.readAt_eq_ld, Memref.IsWhole.read_unread, part_zero, rify_simps]
  rfl
theorem mid_d1 (e : Reads x o) (hF hL) : (midOut (c := c) i M x st hF hL).d1 = bf2 o.dz1 := by
  unfold midOut midRun; dsimp only; sl_unfold_words
  simp only [e.e0, e.e1, e.e2, e.e3, e.e4, e.e5, e.e6, e.e7, e.e8, View.readAt_eq_ld, Memref.IsWhole.read_unread, part_zero, rify_simps]
  rfl
theorem mid_d2 (e : Reads x o) (hF hL) : (midOut (c := c) i M x st hF hL).d2 = bf2 o.dcat := by
  unfold midOut midRun; dsimp only; sl_unfold_words
  simp only [e.e0, e.e1, e.e2, e.e3, e.e4, e.e5, e.e6, e.e7, e.e8, View.readAt_eq_ld, Memref.IsWhole.read_unread, part_zero, rify_simps]
  rfl
theorem mid_g (e : Reads x o) {s : Mat 1 1024} (hg : st.g = f2 s) (hF hL) : (midOut (c := c) i M x st hF hL).st.g = f2 (addRows s (mul o.dx1 o.h1)) := by
  unfold midOut midRun; dsimp only; sl_unfold_words
  simp only [hg, e.e0, e.e1, e.e2, e.e3, e.e4, e.e5, e.e6, e.e7, e.e8, View.readAt_eq_ld, Memref.IsWhole.read_unread, part_zero, rify_simps]
  rfl
theorem mid_b (e : Reads x o) {s : Mat 1 1024} (hb : st.b = f2 s) (hF hL) : (midOut (c := c) i M x st hF hL).st.b = f2 (addRows s o.dx1) := by
  unfold midOut midRun; dsimp only; sl_unfold_words
  simp only [hb, e.e0, e.e1, e.e2, e.e3, e.e4, e.e5, e.e6, e.e7, e.e8, View.readAt_eq_ld, Memref.IsWhole.read_unread, part_zero, rify_simps]
  rfl
theorem last_d0 (e : Reads x o) (w : DstBuf Ideal c) (hF hL) : (lastOut (c := c) i M x st w hF hL).d0 = f2 o.dz1 := by
  unfold lastOut lastRun; dsimp only; sl_unfold_words
  simp only [e.e0, e.e1, e.e2, e.e3, e.e4, e.e5, e.e6, e.e7, e.e8, View.readAt_eq_ld, Memref.IsWhole.read_unread, part_zero, rify_simps]
  rfl
theorem last_d1 (e : Reads x o) (w : DstBuf Ideal c) (hF hL) : (lastOut (c := c) i M x st w hF hL).d1 = bf2 o.dz1 := by
  unfold lastOut lastRun; dsimp only; sl_unfold_words
  simp only [e.e0, e.e1, e.e2, e.e3, e.e4, e.e5, e.e6, e.e7, e.e8, View.readAt_eq_ld, Memref.IsWhole.read_unread, part_zero, rify_simps]
  rfl
theorem last_d2 (e : Reads x o) (w : DstBuf Ideal c) (hF hL) : (lastOut (c := c) i M x st w hF hL).d2 = bf2 o.dcat := by
  unfold lastOut lastRun; dsimp only; sl_unfold_words
  simp only [e.e0, e.e1, e.e2, e.e3, e.e4, e.e5, e.e6, e.e7, e.e8, View.readAt_eq_ld, Memref.IsWhole.read_unread, part_zero, rify_simps]
  rfl
theorem last_g (e : Reads x o) {s : Mat 1 1024} (hg : st.g = f2 s) (w : DstBuf Ideal c) (hF hL) : (lastOut (c := c) i M x st w hF hL).st.g = f2 (addRows s (mul o.dx1 o.h1)) := by
  unfold lastOut lastRun; dsimp only; sl_unfold_words
  simp only [hg, e.e0, e.e1, e.e2, e.e3, e.e4, e.e5, e.e6, e.e7, e.e8, View.readAt_eq_ld, Memref.IsWhole.read_unread, part_zero, rify_simps]
  rfl
theorem last_b (e : Reads x o) {s : Mat 1 1024} (hb : st.b = f2 s) (w : DstBuf Ideal c) (hF hL) : (lastOut (c := c) i M x st w hF hL).st.b = f2 (addRows s o.dx1) := by
  unfold lastOut lastRun; dsimp only; sl_unfold_words
  simp only [hb, e.e0, e.e1, e.e2, e.e3, e.e4, e.e5, e.e6, e.e7, e.e8, View.readAt_eq_ld, Memref.IsWhole.read_unread, part_zero, rify_simps]
  rfl

end Cert.FfnBwdIdeal.Blocks
-- ==== Proof.FfnBwdReads.lean ====
/-
  What the feed-forward and first norm's backward kernel reads: the launch's arguments, on finite arrays, through the
  host's forward lines and the windows of each grid point.
-/
module

public import proofs.«01_k».proof.Proof.FfnBwdBlocks
public import Idealize.ShloMosaic.Lib.Pipeline.ValueKit.Point

@[expose] public section

set_option maxRecDepth 16384

noncomputable section

namespace Cert.Layer

open Cert.Reals Idealize.ShloMosaic

/-- The call's arguments on finite arrays: what the forward lines read, and the gradient at the second residual sum. -/
structure BwdIn where
  cat : Mat 4096 1024
  x : Mat 4096 1024
  wo : Mat 1024 1024
  g1 : Mat 1 1024
  b1 : Mat 1 1024
  w1 : Mat 1024 4096
  w2 : Mat 4096 1024
  dz2 : Mat 4096 1024

namespace BwdIn

variable (a : BwdIn)

/-- The first residual sum, its normalized rows, the norm's result and the hidden features. -/
def z1 : Mat 4096 1024 := resid a.x (mm a.cat a.wo)
def h1 : Mat 4096 1024 := xhat a.z1
def x1 : Mat 4096 1024 := affine a.h1 a.g1 a.b1
def hid : Mat 4096 4096 := relu (mm a.x1 a.w1)

/-- What the backward call reads of them. -/
def args : BwdArgs 4096 :=
  { dz2 := a.dz2, r := a.hid, x1 := a.x1, h1 := a.h1, rs := fun i _ => rstd a.z1 i, g1 := a.g1, wo := a.wo,
    w1 := fun k i j => a.w1 i (feat k j), w2 := fun k i j => a.w2 (feat k i) j }

/-- The eight argument arrays hold `a`. -/
structure Is (a0 : FVec Ideal ⟨2, ![4096, 1024]⟩ .f32) (a1 : FVec Ideal ⟨3, ![1, 4096, 1024]⟩ .f32)
    (a2 : FVec Ideal ⟨3, ![1, 1024, 1024]⟩ .f32) (a3 a4 : FVec Ideal ⟨2, ![1, 1024]⟩ .f32)
    (a5 : FVec Ideal ⟨3, ![1, 1024, 4096]⟩ .f32) (a6 : FVec Ideal ⟨3, ![1, 4096, 1024]⟩ .f32)
    (a7 : FVec Ideal ⟨2, ![4096, 1024]⟩ .f32) : Prop where
  e0 : a0 = up2 a.cat
  e1 : a1 = up3 fun _ => a.x
  e2 : a2 = up3 fun _ => a.wo
  e3 : a3 = up2 a.g1
  e4 : a4 = up2 a.b1
  e5 : a5 = up3 fun _ => a.w1
  e6 : a6 = up3 fun _ => a.w2
  e7 : a7 = up2 a.dz2

end BwdIn

end Cert.Layer

namespace Cert.FfnBwdIdeal.Blocks

open Cert.FfnBwdIdeal Cert.FfnBwdIdeal.Gen Cert.FfnBwdIdeal.Run Cert.Reals Cert.Layer Idealize.ShloMosaic Idealize.ShloMosaic.TcCoe Idealize.SL.Sem

variable {m : (ℓ : Loc nD τ sig) → Buf (Elt Ideal) ℓ} {c : Dev nD} {a : BwdIn}

/-- The arguments at the launch are `a`. -/
abbrev Args (m : (ℓ : Loc nD τ sig) → Buf (Elt Ideal) ℓ) (c : Dev nD) (a : BwdIn) : Prop :=
  a.Is (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## The host's forward lines -/

theorem slab_x (h : Args m c a) (hc) : shapeCast main_v9.ty.shape (m (c, Proc.tc.devRef main_arg1)) hc = f2 a.x := by
  rw [show m (c, Proc.tc.devRef main_arg1) = _ from h.e1]; exact shapeCast_slab _ _
theorem slab_wo (h : Args m c a) (hc) : shapeCast main_v0.ty.shape (m (c, Proc.tc.devRef main_arg2)) hc = f2 a.wo := by
  rw [show m (c, Proc.tc.devRef main_arg2) = _ from h.e2]; exact shapeCast_slab _ _

theorem slab_w1 (h : Args m c a) (hc) : shapeCast main_v36.ty.shape (m (c, Proc.tc.devRef main_arg5)) hc = f2 a.w1 := by
  rw [show m (c, Proc.tc.devRef main_arg5) = _ from h.e5]; exact shapeCast_slab _ _

/-- The reciprocal deviation, with the residual sum written out. -/
theorem rsqrt_z1 (x cat : Mat 4096 1024) (wo : Mat 1024 1024) :
    Host.rsqrt (up2 (φ := .f32) (m := 1) fun i _ =>
      (∑ k, (alpha * x i k + ∑ q, cat i q * wo q k - (∑ k, (alpha * x i k + ∑ q, cat i q * wo q k)) / 1024)
        * (alpha * x i k + ∑ q, cat i q * wo q k - (∑ k, (alpha * x i k + ∑ q, cat i q * wo q k)) / 1024)) / 1024 + eps)
      = f2 fun i _ => rstd (resid x (mm cat wo)) i := hostRsqrt_vare _

theorem host_rstd (h : Args m c a) : V m c main_v28 = f2 (m := 1) fun i _ => rstd a.z1 i := by
  entry_read
  eta_reduce
  rw [slab_x h, slab_wo h]
  simp only [show m (c, Proc.tc.devRef main_arg0) = _ from h.e0, dot_S4096x1024_S1024x1024_S4096x1024_1_0_0_1_n_n, rify_simps, zero_add]
  exact hostRsqrt_vare a.z1
theorem host_xhat (h : Args m c a) : V m c main_v30 = f2 a.h1 := by
  entry_read
  eta_reduce
  rw [slab_x h, slab_wo h]
  simp only [show m (c, Proc.tc.devRef main_arg0) = _ from h.e0, dot_S4096x1024_S1024x1024_S4096x1024_1_0_0_1_n_n, rify_simps, zero_add]
  simp only [rsqrt_z1, rify_simps, zero_add] <;> rfl
theorem host_x1 (h : Args m c a) : V m c main_v35 = bf2 a.x1 := by
  entry_read
  eta_reduce
  rw [slab_x h, slab_wo h]
  simp only [show m (c, Proc.tc.devRef main_arg0) = _ from h.e0, show m (c, Proc.tc.devRef main_arg3) = _ from h.e3,
    show m (c, Proc.tc.devRef main_arg4) = _ from h.e4, dot_S4096x1024_S1024x1024_S4096x1024_1_0_0_1_n_n, rify_simps, zero_add]
  simp only [rsqrt_z1, rify_simps, zero_add] <;> rfl
theorem host_hid (h : Args m c a) : V m c main_v41 = bf2 a.hid := by
  entry_read
  eta_reduce
  rw [slab_x h, slab_wo h, slab_w1 h]
  simp only [show m (c, Proc.tc.devRef main_arg0) = _ from h.e0, show m (c, Proc.tc.devRef main_arg3) = _ from h.e3,
    show m (c, Proc.tc.devRef main_arg4) = _ from h.e4, dot_S4096x1024_S1024x1024_S4096x1024_1_0_0_1_n_n, dot_S4096x1024_S1024x4096_S4096x4096_1_0_0_1_n_n, rify_simps, zero_add]
  simp only [rsqrt_z1, dot_S4096x1024_S1024x4096_S4096x4096_1_0_0_1_n_n, rify_simps, zero_add] <;> rfl

/-! ## The windows -/

variable (t : Fin cfg0.N)

/-- Row `i` of point `t`. -/
def rowOf (i : Fin 256) : Fin 4096 :=
  ⟨t.val * 256 + i.val, by have := lt_of_lt_of_eq t.isLt N_0; have := i.isLt; omega⟩

theorem read0 (a : Mat 4096 1024) : View.read (Elt Ideal) ((cfg0.win 0).blk t).view (up2 (φ := .f32) a) = up2 (φ := .f32) fun i => a (rowOf t i) := by
  have e : (cfg0.win 0).index t = ![t.val, 0] := by revert t; decide +kernel
  funext y
  refine congrArg₂ (fun i j => ((a i j : ℝ) : EReal)) (Fin.ext ?_) (Fin.ext ?_) <;> blk_simp [e] <;> first | done | rfl
theorem read1 (a : Mat 4096 4096) : View.read (Elt Ideal) ((cfg0.win 1).blk t).view (up2 (φ := .bf16) a) = up2 (φ := .bf16) fun i => a (rowOf t i) := by
  have e : (cfg0.win 1).index t = ![t.val, 0] := by revert t; decide +kernel
  funext y
  refine congrArg₂ (fun i j => ((a i j : ℝ) : EReal)) (Fin.ext ?_) (Fin.ext ?_) <;> blk_simp [e] <;> first | done | rfl
theorem read2 (a : Mat 4096 1024) : View.read (Elt Ideal) ((cfg0.win 2).blk t).view (up2 (φ := .bf16) a) = up2 (φ := .bf16) fun i => a (rowOf t i) := by
  have e : (cfg0.win 2).index t = ![t.val, 0] := by revert t; decide +kernel
  funext y
  refine congrArg₂ (fun i j => ((a i j : ℝ) : EReal)) (Fin.ext ?_) (Fin.ext ?_) <;> blk_simp [e] <;> first | done | rfl
theorem read3 (a : Mat 4096 1024) : View.read (Elt Ideal) ((cfg0.win 3).blk t).view (up2 (φ := .f32) a) = up2 (φ := .f32) fun i => a (rowOf t i) := by
  have e : (cfg0.win 3).index t = ![t.val, 0] := by revert t; decide +kernel
  funext y
  refine congrArg₂ (fun i j => ((a i j : ℝ) : EReal)) (Fin.ext ?_) (Fin.ext ?_) <;> blk_simp [e] <;> first | done | rfl
theorem read4 (a : Mat 4096 1) : View.read (Elt Ideal) ((cfg0.win 4).blk t).view (up2 (φ := .f32) a) = up2 (φ := .f32) fun i => a (rowOf t i) := by
  have e : (cfg0.win 4).index t = ![t.val, 0] := by revert t; decide +kernel
  funext y
  refine congrArg₂ (fun i j => ((a i j : ℝ) : EReal)) (Fin.ext ?_) (Fin.ext ?_) <;> blk_simp [e] <;> first | done | rfl
theorem read5 (a : Mat 1 1024) : View.read (Elt Ideal) ((cfg0.win 5).blk t).view (up2 (φ := .f32) a) = up2 (φ := .f32) a := by
  have e : (cfg0.win 5).index t = ![0, 0] := by revert t; decide +kernel
  funext y
  refine congrArg (up2 (φ := .f32) a) ?_
  blk_ext [e]
theorem read6 (a : Fin 4 → Mat 1024 1024) : View.read (Elt Ideal) ((cfg0.win 6).blk t).view (up3 (φ := .bf16) a) = up3 (φ := .bf16) a := by
  have e : (cfg0.win 6).index t = ![0, 0, 0] := by revert t; decide +kernel
  funext y
  refine congrArg (up3 (φ := .bf16) a) ?_
  blk_ext [e]
theorem read7 (a : Fin 4 → Mat 1024 1024) : View.read (Elt Ideal) ((cfg0.win 7).blk t).view (up3 (φ := .bf16) a) = up3 (φ := .bf16) a := by
  have e : (cfg0.win 7).index t = ![0, 0, 0] := by revert t; decide +kernel
  funext y
  refine congrArg (up3 (φ := .bf16) a) ?_
  blk_ext [e]
theorem read8 (a : Mat 1024 1024) : View.read (Elt Ideal) ((cfg0.win 8).blk t).view (up2 (φ := .bf16) a) = up2 (φ := .bf16) a := by
  have e : (cfg0.win 8).index t = ![0, 0] := by revert t; decide +kernel
  funext y
  refine congrArg (up2 (φ := .bf16) a) ?_
  blk_ext [e]

theorem blk0 (h : Args m c a) : iblk m c 0 t = f2 (a.args.rows (rowOf t)).dz2 := by
  unfold iblk; entry_read; rw [show m (c, Proc.tc.devRef main_arg7) = _ from h.e7]
  exact read0 t _
theorem blk1 (h : Args m c a) : iblk m c 1 t = bf2 (a.args.rows (rowOf t)).r := by
  unfold iblk; rw [show V m c (Pipeline.arrRef spec0 1) = bf2 a.hid from host_hid h]
  exact read1 t _
theorem blk2 (h : Args m c a) : iblk m c 2 t = bf2 (a.args.rows (rowOf t)).x1 := by
  unfold iblk; rw [show V m c (Pipeline.arrRef spec0 2) = bf2 a.x1 from host_x1 h]
  exact read2 t _
theorem blk3 (h : Args m c a) : iblk m c 3 t = f2 (a.args.rows (rowOf t)).h1 := by
  unfold iblk; rw [show V m c (Pipeline.arrRef spec0 3) = f2 a.h1 from host_xhat h]
  exact read3 t _
theorem blk4 (h : Args m c a) : iblk m c 4 t = f2 (a.args.rows (rowOf t)).rs := by
  unfold iblk; rw [show V m c (Pipeline.arrRef spec0 4) = f2 (m := 1) fun i _ => rstd a.z1 i from host_rstd h]
  exact read4 t _
theorem blk5 (h : Args m c a) : iblk m c 5 t = f2 (a.args.rows (rowOf t)).g1 := by
  unfold iblk; entry_read; rw [show m (c, Proc.tc.devRef main_arg3) = _ from h.e3]
  exact read5 t _
theorem blk6 (h : Args m c a) : iblk m c 6 t = bf3 (a.args.rows (rowOf t)).w1 := by
  unfold iblk; entry_read; rw [show m (c, Proc.tc.devRef main_arg5) = _ from h.e5]
  refine (congrArg (View.read _ _) ?_).trans (read6 t _)
  show truncf .bf16 (transpose ⟨3, ![4, 1024, 1024]⟩ [1, 0, 2] (shapeCast ⟨3, ![1024, 4, 1024]⟩
    (shapeCast ⟨2, ![1024, 4096]⟩ (f3 fun _ => a.w1) _) _) _) _ = _
  rw [shapeCast_slab, w1_blocks]; rfl
theorem blk7 (h : Args m c a) : iblk m c 7 t = bf3 (a.args.rows (rowOf t)).w2 := by
  unfold iblk; entry_read; rw [show m (c, Proc.tc.devRef main_arg6) = _ from h.e6]
  refine (congrArg (View.read _ _) ?_).trans (read7 t _)
  show shapeCast ⟨3, ![4, 1024, 1024]⟩ (truncf .bf16 (shapeCast ⟨2, ![4096, 1024]⟩ (f3 fun _ => a.w2) _) _) _ = _
  rw [shapeCast_slab, truncf2]; exact w2_blocks a.w2 _
theorem blk8 (h : Args m c a) : iblk m c 8 t = bf2 (a.args.rows (rowOf t)).wo := by
  unfold iblk; entry_read; rw [show m (c, Proc.tc.devRef main_arg2) = _ from h.e2]
  refine (congrArg (View.read _ _) ?_).trans (read8 t _)
  show truncf .bf16 (shapeCast ⟨2, ![1024, 1024]⟩ (f3 fun _ => a.wo) _) _ = _
  rw [shapeCast_slab]; rfl
theorem reads_of {o : BwdArgs 256} {y0 : Vec Ideal S256x1024 .f32} {y1 : Vec Ideal S256x4096 .bf16} {y2 : Vec Ideal S256x1024 .bf16}
    {y3 : Vec Ideal S256x1024 .f32} {y4 : Vec Ideal S256x1 .f32} {y5 : Vec Ideal S1x1024 .f32} {y6 y7 : Vec Ideal S4x1024x1024 .bf16}
    {y8 : Vec Ideal S1024x1024 .bf16} (e0 : y0 = f2 o.dz2) (e1 : y1 = bf2 o.r) (e2 : y2 = bf2 o.x1) (e3 : y3 = f2 o.h1) (e4 : y4 = f2 o.rs)
    (e5 : y5 = f2 o.g1) (e6 : y6 = bf3 o.w1) (e7 : y7 = bf3 o.w2) (e8 : y8 = bf2 o.wo) : Reads ⟨y0, y1, y2, y3, y4, y5, y6, y7, y8⟩ o :=
  ⟨e0, e1, e2, e3, e4, e5, e6, e7, e8⟩
/-- Each point reads the rows of its block and the weights whole. -/
theorem reads (h : Args m c a) : Reads (ins m c t) (a.args.rows (rowOf t)) :=
  reads_of (blk0 t h) (blk1 t h) (blk2 t h) (blk3 t h) (blk4 t h) (blk5 t h) (blk6 t h) (blk7 t h) (blk8 t h)

end Cert.FfnBwdIdeal.Blocks
-- ==== Proof.FfnBwdArrays.lean ====
/-
  The arrays that the feed-forward and first norm's backward kernel leaves: the rows' arrays block by block, the rows of
  sums and the weight gradient by induction over the sixteen grid points.
-/
module

public import proofs.«01_k».proof.Proof.FfnBwdReads
public import Idealize.ShloMosaic.Lib.Pointwise.Sums

@[expose] public section

set_option maxRecDepth 16384

noncomputable section

namespace Cert.FfnBwdIdeal.Blocks

open Cert.FfnBwdIdeal Cert.FfnBwdIdeal.Gen Cert.FfnBwdIdeal.Run Cert.Reals Cert.Layer
open Idealize.ShloMosaic Idealize.ShloMosaic.TcCoe Idealize.SL.Sem Idealize.ShloMosaic.Pipeline

variable {m : (ℓ : Loc nD τ sig) → Buf (Elt Ideal) ℓ} {c : Dev nD} {a : BwdIn}

/-! ## Sums over the points -/

/-- The sum of `b` over the first `n` points. -/
def ptSum (b : Fin cfg0.N → ℝ) (n : ℕ) : ℝ := ∑ k ∈ Finset.range n, if h : k < cfg0.N then b ⟨k, h⟩ else 0

theorem ptSum_zero (b : Fin cfg0.N → ℝ) : ptSum b 0 = 0 := Finset.sum_range_zero _
theorem ptSum_succ (b : Fin cfg0.N → ℝ) (t : Fin cfg0.N) : ptSum b (t.val + 1) = ptSum b t.val + b t := by
  unfold ptSum
  rw [Finset.sum_range_succ, dif_pos t.isLt]

theorem ptSum_rows (b : Fin 4096 → ℝ) : ptSum (fun t => ∑ q, b (rowOf t q)) 16 = ∑ q, b q := by
  unfold ptSum
  rw [Fin.sum_univ_tiles 16 256 rfl, Finset.sum_range]
  refine Finset.sum_congr rfl fun k _ => ?_
  rw [dif_pos (lt_of_lt_of_eq k.isLt N_0.symm)]
  rfl

/-! ## What is kept from point to point -/

/-- The rows of point `t`. -/
abbrev at_ (a : BwdIn) (t : Fin cfg0.N) : BwdArgs 256 := a.args.rows (rowOf t)

theorem pred_st (t : Fin cfg0.N) {n : ℕ} (ht : t.val = n + 1) (hn : n < cfg0.N) : stAt m c t.val = (outsAt m c ⟨n, hn⟩).st :=
  (congrArg (stAt m c) ht).trans (stAt_succ m c ⟨n, hn⟩)

theorem kept_g (h : Args m c a) : ∀ (n : ℕ) (t : Fin cfg0.N), t.val = n →
    (outsAt m c t).st.g = f2 fun _ j => ptSum (fun t => ∑ q, mul (at_ a t).dx1 (at_ a t).h1 q j) (t.val + 1) := by
  intro n
  induction n with
  | zero =>
    intro t ht
    rw [outsAt_first m c t ht ((isFirst_iff t).mpr ht) (fun h => by have := (isLast_iff t).mp h; omega), first_g (reads t h)]
    refine congrArg (up2 (φ := .f32)) (funext fun i => funext fun j => ?_)
    rw [ptSum_succ, ht, ptSum_zero]; rfl
  | succ n ih =>
    intro t ht
    have hn : n < cfg0.N := by have := t.isLt; omega
    have hs := (congrArg St.g (pred_st t ht hn)).trans (ih ⟨n, hn⟩ rfl)
    by_cases h1 : t.val = 15
    · rw [outsAt_last m c t h1 (fun h => by have := (isFirst_iff t).mp h; omega) ((isLast_iff t).mpr h1), last_g (reads t h) hs]
      refine congrArg (up2 (φ := .f32)) (funext fun i => funext fun j => ?_)
      rw [ptSum_succ, ht]; rfl
    · rw [outsAt_mid m c t (by omega) h1 (fun h => by have := (isFirst_iff t).mp h; omega) (fun h => h1 ((isLast_iff t).mp h)),
        mid_g (reads t h) hs]
      refine congrArg (up2 (φ := .f32)) (funext fun i => funext fun j => ?_)
      rw [ptSum_succ, ht]; rfl
theorem kept_b (h : Args m c a) : ∀ (n : ℕ) (t : Fin cfg0.N), t.val = n →
    (outsAt m c t).st.b = f2 fun _ j => ptSum (fun t => ∑ q, (at_ a t).dx1 q j) (t.val + 1) := by
  intro n
  induction n with
  | zero =>
    intro t ht
    rw [outsAt_first m c t ht ((isFirst_iff t).mpr ht) (fun h => by have := (isLast_iff t).mp h; omega), first_b (reads t h)]
    refine congrArg (up2 (φ := .f32)) (funext fun i => funext fun j => ?_)
    rw [ptSum_succ, ht, ptSum_zero]; rfl
  | succ n ih =>
    intro t ht
    have hn : n < cfg0.N := by have := t.isLt; omega
    have hs := (congrArg St.b (pred_st t ht hn)).trans (ih ⟨n, hn⟩ rfl)
    by_cases h1 : t.val = 15
    · rw [outsAt_last m c t h1 (fun h => by have := (isFirst_iff t).mp h; omega) ((isLast_iff t).mpr h1), last_b (reads t h) hs]
      refine congrArg (up2 (φ := .f32)) (funext fun i => funext fun j => ?_)
      rw [ptSum_succ, ht]; rfl
    · rw [outsAt_mid m c t (by omega) h1 (fun h => by have := (isFirst_iff t).mp h; omega) (fun h => h1 ((isLast_iff t).mp h)),
        mid_b (reads t h) hs]
      refine congrArg (up2 (φ := .f32)) (funext fun i => funext fun j => ?_)
      rw [ptSum_succ, ht]; rfl
theorem kept_s (h : Args m c a) : ∀ (n : ℕ) (t : Fin cfg0.N), t.val = n → t.val ≠ 15 →
    View.read (Elt Ideal) (View.whole cc0_scratch0) (outsAt m c t).st.s
      = f2 fun p q => ptSum (fun t => (at_ a t).gws p q) (t.val + 1) := by
  intro n
  induction n with
  | zero =>
    intro t ht _
    rw [outsAt_first m c t ht ((isFirst_iff t).mpr ht) (fun h => by have := (isLast_iff t).mp h; omega), first_s (reads t h)]
    refine congrArg (up2 (φ := .f32)) (funext fun i => funext fun j => ?_)
    rw [ptSum_succ, ht, ptSum_zero, zero_add]
  | succ n ih =>
    intro t ht h1
    have hn : n < cfg0.N := by have := t.isLt; omega
    have hs := (congrArg (fun s : St Ideal c => View.read (Elt Ideal) (View.whole cc0_scratch0) s.s) (pred_st t ht hn)).trans
      (ih ⟨n, hn⟩ rfl (by have := lt_of_lt_of_eq t.isLt N_0; show n ≠ 15; omega))
    rw [outsAt_mid m c t (by omega) h1 (fun h => by have := (isFirst_iff t).mp h; omega) (fun h => h1 ((isLast_iff t).mp h)),
      mid_s (reads t h) hs]
    refine congrArg (up2 (φ := .f32)) (funext fun i => funext fun j => ?_)
    exact (congrArg (fun k => ptSum (fun t => (at_ a t).gws i j) k + (at_ a t).gws i j) ht.symm).trans
      (ptSum_succ (fun t => (at_ a t).gws i j) t).symm

/-- The weight gradient that the last point leaves. -/
theorem gw_eq (h : Args m c a) : View.read (Elt Ideal) (View.whole main_v42_0) (gw m c) = f2 a.args.gws := by
  have hn : 14 < cfg0.N := by decide
  have hs := (congrArg (fun s : St Ideal c => View.read (Elt Ideal) (View.whole cc0_scratch0) s.s) (pred_st tLast rfl hn)).trans
    (kept_s h 14 ⟨14, hn⟩ rfl (show (14 : ℕ) ≠ 15 by decide))
  unfold gw
  rw [last_w (reads tLast h) _ hs]
  refine congrArg (up2 (φ := .f32)) (funext fun i => funext fun j => ?_)
  refine (ptSum_succ (fun t => (at_ a t).gws i j) tLast).symm.trans ?_
  exact ptSum_rows fun r => a.args.x1 r _ * a.args.dpre _ r j

/-! ## The arrays of the rows -/

theorem out_d0 (h : Args m c a) (t : Fin cfg0.N) : (outsAt m c t).d0 = f2 (at_ a t).dz1 := by
  by_cases h0 : t.val = 0
  · rw [outsAt_first m c t h0 ((isFirst_iff t).mpr h0) (fun h => by have := (isLast_iff t).mp h; omega), first_d0 (reads t h)]
  by_cases h1 : t.val = 15
  · rw [outsAt_last m c t h1 (fun h => by have := (isFirst_iff t).mp h; omega) ((isLast_iff t).mpr h1), last_d0 (reads t h)]
  · rw [outsAt_mid m c t h0 h1 (fun h => by have := (isFirst_iff t).mp h; omega) (fun h => h1 ((isLast_iff t).mp h)), mid_d0 (reads t h)]
theorem out_d1 (h : Args m c a) (t : Fin cfg0.N) : (outsAt m c t).d1 = bf2 (at_ a t).dz1 := by
  by_cases h0 : t.val = 0
  · rw [outsAt_first m c t h0 ((isFirst_iff t).mpr h0) (fun h => by have := (isLast_iff t).mp h; omega), first_d1 (reads t h)]
  by_cases h1 : t.val = 15
  · rw [outsAt_last m c t h1 (fun h => by have := (isFirst_iff t).mp h; omega) ((isLast_iff t).mpr h1), last_d1 (reads t h)]
  · rw [outsAt_mid m c t h0 h1 (fun h => by have := (isFirst_iff t).mp h; omega) (fun h => h1 ((isLast_iff t).mp h)), mid_d1 (reads t h)]
theorem out_d2 (h : Args m c a) (t : Fin cfg0.N) : (outsAt m c t).d2 = bf2 (at_ a t).dcat := by
  by_cases h0 : t.val = 0
  · rw [outsAt_first m c t h0 ((isFirst_iff t).mpr h0) (fun h => by have := (isLast_iff t).mp h; omega), first_d2 (reads t h)]
  by_cases h1 : t.val = 15
  · rw [outsAt_last m c t h1 (fun h => by have := (isFirst_iff t).mp h; omega) ((isLast_iff t).mpr h1), last_d2 (reads t h)]
  · rw [outsAt_mid m c t h0 h1 (fun h => by have := (isFirst_iff t).mp h; omega) (fun h => h1 ((isLast_iff t).mp h)), mid_d2 (reads t h)]

theorem flushed9 (t : Fin cfg0.N) : (dats m 0 c).flushed 9 t = (cfg0.win 9).cut (grid0.coords t) (outsAt m c t).d0 := rfl
theorem read9 (t : Fin cfg0.N) (b : Mat 4096 1024) :
    View.read (Elt Ideal) ((cfg0.win 9).blk t).view (up2 (φ := .f32) b) = up2 (φ := .f32) fun i => b (rowOf t i) := by
  have e : (cfg0.win 9).index t = ![t.val, 0] := by revert t; decide +kernel
  funext y
  refine congrArg₂ (fun i j => ((b i j : ℝ) : EReal)) (Fin.ext ?_) (Fin.ext ?_) <;> blk_simp [e] <;> first | done | rfl
theorem arr9 (h : Args m c a) : (dats m 0 c).arrAt 9 cfg0.N = up2 (φ := .f32) a.args.dz1 := by
  refine (dats m 0 c).arrAt_eq_of_cover 9 _ (fun t hf => ?_)
    ((by decide +kernel : (cfg0.win 9).Covers).cover _ (Memref.isWhole_whole _))
  rw [flushed9, out_d0 h, read9]
  rfl

theorem flushed10 (t : Fin cfg0.N) : (dats m 0 c).flushed 10 t = (cfg0.win 10).cut (grid0.coords t) (outsAt m c t).d1 := rfl
theorem read10 (t : Fin cfg0.N) (b : Mat 4096 1024) :
    View.read (Elt Ideal) ((cfg0.win 10).blk t).view (up2 (φ := .bf16) b) = up2 (φ := .bf16) fun i => b (rowOf t i) := by
  have e : (cfg0.win 10).index t = ![t.val, 0] := by revert t; decide +kernel
  funext y
  refine congrArg₂ (fun i j => ((b i j : ℝ) : EReal)) (Fin.ext ?_) (Fin.ext ?_) <;> blk_simp [e] <;> first | done | rfl
theorem arr10 (h : Args m c a) : (dats m 0 c).arrAt 10 cfg0.N = up2 (φ := .bf16) a.args.dz1 := by
  refine (dats m 0 c).arrAt_eq_of_cover 10 _ (fun t hf => ?_)
    ((by decide +kernel : (cfg0.win 10).Covers).cover _ (Memref.isWhole_whole _))
  rw [flushed10, out_d1 h, read10]
  rfl

theorem flushed11 (t : Fin cfg0.N) : (dats m 0 c).flushed 11 t = (cfg0.win 11).cut (grid0.coords t) (outsAt m c t).d2 := rfl
theorem read11 (t : Fin cfg0.N) (b : Mat 4096 1024) :
    View.read (Elt Ideal) ((cfg0.win 11).blk t).view (up2 (φ := .bf16) b) = up2 (φ := .bf16) fun i => b (rowOf t i) := by
  have e : (cfg0.win 11).index t = ![t.val, 0] := by revert t; decide +kernel
  funext y
  refine congrArg₂ (fun i j => ((b i j : ℝ) : EReal)) (Fin.ext ?_) (Fin.ext ?_) <;> blk_simp [e] <;> first | done | rfl
theorem arr11 (h : Args m c a) : (dats m 0 c).arrAt 11 cfg0.N = up2 (φ := .bf16) a.args.dcat := by
  refine (dats m 0 c).arrAt_eq_of_cover 11 _ (fun t hf => ?_)
    ((by decide +kernel : (cfg0.win 11).Covers).cover _ (Memref.isWhole_whole _))
  rw [flushed11, out_d2 h, read11]
  rfl

/-! ## The rows of sums -/

theorem flushed12 (t : Fin cfg0.N) : (dats m 0 c).flushed 12 t = (cfg0.win 12).cut (grid0.coords t) (outsAt m c t).st.g := rfl
theorem read12 (t : Fin cfg0.N) (b : Mat 1 1024) :
    View.read (Elt Ideal) ((cfg0.win 12).blk t).view (f2 b) = f2 b := by
  have e : (cfg0.win 12).index t = ![0, 0] := by revert t; decide +kernel
  funext y
  refine congrArg (f2 b) ?_
  blk_ext [e]
theorem arr12 (h : Args m c a) : (dats m 0 c).arrAt 12 cfg0.N = f2 fun _ j => ∑ q, (mul a.args.dx1 a.args.h1) q j := by
  refine (dats m 0 c).arrAt_eq_of_cover 12 _ (fun t hf => ?_)
    ((by decide +kernel : (cfg0.win 12).Covers).cover _ (Memref.isWhole_whole _))
  have ht : t.val = 15 := by revert t; decide +kernel
  rw [flushed12, kept_g h t.val t rfl, read12, ht]
  refine congrArg (up2 (φ := .f32)) (funext fun i => funext fun j => ?_)
  exact ptSum_rows fun r => (mul a.args.dx1 a.args.h1) r j

theorem flushed13 (t : Fin cfg0.N) : (dats m 0 c).flushed 13 t = (cfg0.win 13).cut (grid0.coords t) (outsAt m c t).st.b := rfl
theorem read13 (t : Fin cfg0.N) (b : Mat 1 1024) :
    View.read (Elt Ideal) ((cfg0.win 13).blk t).view (f2 b) = f2 b := by
  have e : (cfg0.win 13).index t = ![0, 0] := by revert t; decide +kernel
  funext y
  refine congrArg (f2 b) ?_
  blk_ext [e]
theorem arr13 (h : Args m c a) : (dats m 0 c).arrAt 13 cfg0.N = f2 fun _ j => ∑ q, (a.args.dx1) q j := by
  refine (dats m 0 c).arrAt_eq_of_cover 13 _ (fun t hf => ?_)
    ((by decide +kernel : (cfg0.win 13).Covers).cover _ (Memref.isWhole_whole _))
  have ht : t.val = 15 := by revert t; decide +kernel
  rw [flushed13, kept_b h t.val t rfl, read13, ht]
  refine congrArg (up2 (φ := .f32)) (funext fun i => funext fun j => ?_)
  exact ptSum_rows fun r => (a.args.dx1) r j

end Cert.FfnBwdIdeal.Blocks
-- ==== Proof.FfnBwdRef.lean ====
/-
  What the backward call's reference computes on finite arrays: reverse mode through the forward lines gives the closed
  form that the kernel evaluates.
-/
module

public import proofs.«01_k».proof.Proof.FfnBwdReads
public import proofs.«01_k».proof.Proof.Gen.FfnBwdRefIdeal.Read
public import Idealize.ShloMosaic.Lib.Pointwise.Sums

@[expose] public section

set_option maxRecDepth 16384

noncomputable section

namespace Cert.Layer

open Cert.Reals Idealize.ShloMosaic

/-- Reverse mode keeps a gradient where the argument of the relu is positive: elsewhere the relu itself is zero. -/
@[rify_simps] theorem select_pos {n m : ℕ} (p g : Mat n m) :
    select (cmpf .ogt (f2 p) (f2 fun _ _ => 0)) (f2 fun i j => g i j * (2 * max (p i j) 0)) (f2 fun _ _ => 0)
      = f2 fun i j => g i j * (2 * max (p i j) 0) := by
  funext i
  by_cases h : 0 < p (i 0) (i 1)
  · have : FloatOps.cmpf (F := Ideal) (φ := .f32) .ogt (f2 p i) (f2 (fun _ _ => 0) i) = 1#1 := by
      show BitVec.ofBool (decide (((0 : ℝ) : EReal) < ((p (i 0) (i 1) : ℝ) : EReal))) = 1#1
      rw [decide_eq_true (EReal.coe_lt_coe_iff.mpr h)]; rfl
    exact if_pos this
  · have : FloatOps.cmpf (F := Ideal) (φ := .f32) .ogt (f2 p i) (f2 (fun _ _ => 0) i) = 0#1 := by
      show BitVec.ofBool (decide (((0 : ℝ) : EReal) < ((p (i 0) (i 1) : ℝ) : EReal))) = 0#1
      rw [decide_eq_false (fun h' => h (EReal.coe_lt_coe_iff.mp h'))]; rfl
    refine (if_neg (fun e => absurd (this.symm.trans e) (by decide))).trans ?_
    show ((0 : ℝ) : EReal) = ((g (i 0) (i 1) * (2 * max (p (i 0) (i 1)) 0) : ℝ) : EReal)
    rw [max_eq_right (not_lt.mp h), mul_zero, mul_zero]

/-- Four blocks of a matrix one after the other. -/
@[rify_simps] theorem stack4 (X : Fin 4 → Mat 1024 1024) (h : Shape.ShapeCasts ⟨3, ![4, 1024, 1024]⟩ ⟨2, ![4096, 1024]⟩) :
    shapeCast ⟨2, ![4096, 1024]⟩ (f3 X) h
      = f2 fun p j => X ⟨p.val / 1024, by have := p.isLt; omega⟩ ⟨p.val % 1024, Nat.mod_lt _ (by decide)⟩ j := by
  funext i
  obtain ⟨p, q, rfl⟩ : ∃ p q, i = ix2 p q := ⟨_, _, eq_ix2 i⟩
  pointwise
  rfl

/-- The transpose of a gradient of 4096 rows, laid out as four blocks of 1024 of its columns. -/
theorem gw_layout (w : Mat 4096 1024) (h0 : Shape.Transposes ⟨2, ![4096, 1024]⟩ [1, 0] ⟨2, ![1024, 4096]⟩)
    (h1 : Shape.ShapeCasts ⟨2, ![1024, 4096]⟩ ⟨3, ![1024, 4, 1024]⟩)
    (h2 : Shape.Transposes ⟨3, ![1024, 4, 1024]⟩ [1, 0, 2] ⟨3, ![4, 1024, 1024]⟩)
    (h3 : Shape.ShapeCasts ⟨3, ![4, 1024, 1024]⟩ ⟨2, ![4096, 1024]⟩) :
    shapeCast ⟨2, ![4096, 1024]⟩ (transpose ⟨3, ![4, 1024, 1024]⟩ [1, 0, 2]
        (shapeCast ⟨3, ![1024, 4, 1024]⟩ (transpose ⟨2, ![1024, 4096]⟩ [1, 0] (f2 w) h0) h1) h2) h3
      = f2 fun p j => w (feat ⟨p.val / 1024, by have := p.isLt; omega⟩ j) ⟨p.val % 1024, Nat.mod_lt _ (by decide)⟩ := by
  rw [transpose2, w1_blocks, stack4]

namespace BwdIn

/-- The gradient before the squared relu, at all hidden features. -/
def dpre (a : BwdIn) : Mat 4096 4096 := hiddenBwd a.dz2 a.w2 a.hid

theorem dpre_block (a : BwdIn) (b : Fin 4) (i : Fin 4096) (q : Fin 1024) : a.dpre i (feat b q) = a.args.dpre b i q := rfl

/-- The gradient at the first norm's result, summed over the four blocks of hidden features. -/
theorem dx1_eq (a : BwdIn) : (fun i j => nt a.dpre a.w1 i j + alpha * a.dz2 i j) = a.args.dx1 := by
  funext i j
  unfold nt
  rw [Idealize.ShloMosaic.Fin.sum_univ_tiles 4 1024 rfl, Fin.sum_univ_four]
  show _ = alpha * a.dz2 i j + nt (a.args.dpre 0) (a.args.w1 0) i j + nt (a.args.dpre 1) (a.args.w1 1) i j
    + nt (a.args.dpre 2) (a.args.w1 2) i j + nt (a.args.dpre 3) (a.args.w1 3) i j
  rw [add_comm, ← add_assoc, ← add_assoc, ← add_assoc]
  rfl

end BwdIn

end Cert.Layer

namespace Cert.FfnBwdRefIdeal.Stages

open Cert.FfnBwdRefIdeal Cert.FfnBwdRefIdeal.Read Cert.Reals Cert.Layer Idealize.ShloMosaic

variable (a : BwdIn)

/-! ## The forward lines -/

@[rify_simps] theorem v5 : val_main_v5 (F := Ideal) (f2 a.cat) (f3 fun _ => a.x) (f3 fun _ => a.wo) = f2 a.z1 := by
  simp only [val_main_v0, val_main_cst, val_main_v1, val_main_v2, val_main_v3, val_main_v4, val_main_v5, dot_S4096x1024_S1024x1024_S4096x1024_1_0_0_1_n_n,
    rify_simps, zero_add] <;> rfl
@[rify_simps] theorem v10 : val_main_v10 (F := Ideal) (f2 a.cat) (f3 fun _ => a.x) (f3 fun _ => a.wo) = f2 (m := 1) fun i _ => (∑ q, a.z1 i q) / 1024 := by
  simp only [val_main_cst_0, val_main_v7, val_main_v8, val_main_cst_1, val_main_v9, val_main_v10,
    rify_simps, zero_add] <;> rfl
@[rify_simps] theorem v12 : val_main_v12 (F := Ideal) (f2 a.cat) (f3 fun _ => a.x) (f3 fun _ => a.wo) = f2 (cen a.z1) := by
  simp only [val_main_v11, val_main_v12,
    rify_simps, zero_add] <;> rfl
@[rify_simps] theorem v21 : val_main_v21 (F := Ideal) (f2 a.cat) (f3 fun _ => a.x) (f3 fun _ => a.wo) = f2 (m := 1) fun i _ => vare a.z1 i := by
  simp only [val_main_v13, val_main_cst_3, val_main_v16, val_main_v17, val_main_cst_4, val_main_v18, val_main_v19, val_main_cst_5, val_main_v20, val_main_v21,
    rify_simps, zero_add] <;> rfl
@[rify_simps] theorem v22 : val_main_v22 (F := Ideal) (f2 a.cat) (f3 fun _ => a.x) (f3 fun _ => a.wo) = f2 (m := 1) fun i _ => rstd a.z1 i := by
  simp only [val_main_v22,
    rify_simps, zero_add] <;> rfl
@[rify_simps] theorem v27 : val_main_v27 (F := Ideal) (f2 a.cat) (f3 fun _ => a.x) (f3 fun _ => a.wo) = f2 (cen a.z1) := by
  simp only [val_main_v26, val_main_v27,
    rify_simps, zero_add] <;> rfl
@[rify_simps] theorem v29 : val_main_v29 (F := Ideal) (f2 a.cat) (f3 fun _ => a.x) (f3 fun _ => a.wo) = f2 a.h1 := by
  simp only [val_main_v28, val_main_v29,
    rify_simps, zero_add] <;> rfl
@[rify_simps] theorem v33 : val_main_v33 (F := Ideal) (f2 a.cat) (f3 fun _ => a.x) (f3 fun _ => a.wo) (f2 a.g1) (f2 a.b1) = f2 a.x1 := by
  simp only [val_main_v30, val_main_v31, val_main_v32, val_main_v33,
    rify_simps, zero_add] <;> rfl
@[rify_simps] theorem v36 : val_main_v36 (F := Ideal) (f2 a.cat) (f3 fun _ => a.x) (f3 fun _ => a.wo) (f2 a.g1) (f2 a.b1) (f3 fun _ => a.w1) = f2 (mm a.x1 a.w1) := by
  simp only [val_main_v6, val_main_v36, dot_S4096x1024_S1024x4096_S4096x4096_1_0_0_1_n_n,
    rify_simps, zero_add] <;> rfl
@[rify_simps] theorem v37 : val_main_v37 (F := Ideal) (f2 a.cat) (f3 fun _ => a.x) (f3 fun _ => a.wo) (f2 a.g1) (f2 a.b1) (f3 fun _ => a.w1) = f2 a.hid := by
  simp only [val_main_v37, val_main_call0_v0, val_main_call0_cst,
    rify_simps, zero_add] <;> rfl

/-! ## The derivative -/

@[rify_simps] theorem v49 : val_main_v49 (F := Ideal) (f3 fun _ => a.w2) (f2 a.dz2) = f2 (nt a.dz2 a.w2) := by
  simp only [val_main_v44, val_main_v48, val_main_v49, dot_S4096x1024_S4096x1024_S4096x4096_1_1_0_0_n_n,
    rify_simps, zero_add] <;> rfl
@[rify_simps] theorem v52 : val_main_v52 (F := Ideal) (f2 a.cat) (f3 fun _ => a.x) (f3 fun _ => a.wo) (f2 a.g1) (f2 a.b1) (f3 fun _ => a.w1) (f3 fun _ => a.w2) (f2 a.dz2) = f2 a.dpre := by
  simp only [val_main_cst_8, val_main_v38, val_main_v39, val_main_cst_10, val_main_v42, val_main_v43, val_main_v50, val_main_cst_11, val_main_v51, val_main_v52,
    rify_simps, zero_add]
  exact select_pos (mm a.x1 a.w1) (nt a.dz2 a.w2)
@[rify_simps] theorem v53 : val_main_v53 (F := Ideal) (f2 a.cat) (f3 fun _ => a.x) (f3 fun _ => a.wo) (f2 a.g1) (f2 a.b1) (f3 fun _ => a.w1) (f3 fun _ => a.w2) (f2 a.dz2) = f2 (tn a.dpre a.x1) := by
  simp only [val_main_v53, dot_S4096x4096_S4096x1024_S4096x1024_0_0_1_1_n_n,
    rify_simps, zero_add] <;> rfl
@[rify_simps] theorem v93 : val_main_v93 (F := Ideal) (f2 a.cat) (f3 fun _ => a.x) (f3 fun _ => a.wo) (f2 a.g1) (f2 a.b1) (f3 fun _ => a.w1) (f3 fun _ => a.w2) (f2 a.dz2) = f2 a.args.gws := by
  simp only [val_main_v54, val_main_v91, val_main_v92, val_main_v93,
    rify_simps, zero_add]
  refine (gw_layout _ _ _ _ _).trans (congrArg (up2 (φ := .f32)) (funext fun p => funext fun j => ?_))
  exact Finset.sum_congr (f := fun q => a.dpre q (feat _ j) * a.x1 q _) rfl fun q _ => mul_comm _ _
@[rify_simps] theorem v58 : val_main_v58 (F := Ideal) (f2 a.cat) (f3 fun _ => a.x) (f3 fun _ => a.wo) (f2 a.g1) (f2 a.b1) (f3 fun _ => a.w1) (f3 fun _ => a.w2) (f2 a.dz2) = f2 a.args.dx1 := by
  simp only [val_main_v6, val_main_v47, val_main_v55, val_main_cst_12, val_main_v56, val_main_v57, val_main_v58, dot_S4096x4096_S1024x4096_S4096x1024_1_1_0_0_n_n,
    rify_simps, zero_add]
  exact congrArg (up2 (φ := .f32)) a.dx1_eq
@[rify_simps] theorem v60 : val_main_v60 (F := Ideal) (f2 a.cat) (f3 fun _ => a.x) (f3 fun _ => a.wo) (f2 a.g1) (f2 a.b1) (f3 fun _ => a.w1) (f3 fun _ => a.w2) (f2 a.dz2) = f2 (n := 1) fun _ j => ∑ q, a.args.dx1 q j := by
  simp only [val_main_cst_13, val_main_v59, val_main_v60,
    rify_simps, zero_add] <;> rfl
@[rify_simps] theorem v63 : val_main_v63 (F := Ideal) (f2 a.cat) (f3 fun _ => a.x) (f3 fun _ => a.wo) (f2 a.g1) (f2 a.b1) (f3 fun _ => a.w1) (f3 fun _ => a.w2) (f2 a.dz2) = f2 (n := 1) fun _ j => ∑ q, mul a.args.dx1 a.h1 q j := by
  simp only [val_main_v61, val_main_cst_14, val_main_v62, val_main_v63,
    rify_simps, zero_add]
  refine congrArg (up2 (φ := .f32)) (funext fun p => funext fun j => Finset.sum_congr rfl fun q _ => ?_)
  exact mul_comm _ _
@[rify_simps] theorem v65 : val_main_v65 (F := Ideal) (f2 a.cat) (f3 fun _ => a.x) (f3 fun _ => a.wo) (f2 a.g1) (f2 a.b1) (f3 fun _ => a.w1) (f3 fun _ => a.w2) (f2 a.dz2) = f2 (mulRow a.args.dx1 a.g1) := by
  simp only [val_main_v64, val_main_v65,
    rify_simps, zero_add] <;> rfl
@[rify_simps] theorem v89 : val_main_v89 (F := Ideal) (f2 a.cat) (f3 fun _ => a.x) (f3 fun _ => a.wo) (f2 a.g1) (f2 a.b1) (f3 fun _ => a.w1) (f3 fun _ => a.w2) (f2 a.dz2) = f2 a.args.dz1 := by
  simp only [val_main_cst_2, val_main_v14, val_main_v15, val_main_v23, val_main_cst_6, val_main_v24, val_main_v25, val_main_v66, val_main_cst_15, val_main_v67, val_main_v68, val_main_v69, val_main_v70, val_main_v71, val_main_cst_16, val_main_v72, val_main_v73, val_main_v74, val_main_cst_17, val_main_v75, val_main_v76, val_main_cst_18, val_main_v77, val_main_v78, val_main_v79, val_main_v80, val_main_cst_19, val_main_v81, val_main_v82, val_main_v83, val_main_v84, val_main_cst_20, val_main_v85, val_main_v86, val_main_cst_21, val_main_v87, val_main_v88, val_main_v89,
    rify_simps, zero_add]
  refine congrArg (up2 (φ := .f32)) (funext fun i => funext fun j => ?_)
  rw [Fin.sum_univ_one, Fin.sum_univ_one]
  exact normBwd_of_chain _ _ _ _
@[rify_simps] theorem v90 : val_main_v90 (F := Ideal) (f2 a.cat) (f3 fun _ => a.x) (f3 fun _ => a.wo) (f2 a.g1) (f2 a.b1) (f3 fun _ => a.w1) (f3 fun _ => a.w2) (f2 a.dz2) = f2 a.args.dcat := by
  simp only [val_main_v3, val_main_v90, dot_S4096x1024_S1024x1024_S4096x1024_1_1_0_0_n_n,
    rify_simps, zero_add] <;> rfl
@[rify_simps] theorem v94 : val_main_v94 (F := Ideal) (f2 a.cat) (f3 fun _ => a.x) (f3 fun _ => a.wo) (f2 a.g1) (f2 a.b1) (f3 fun _ => a.w1) (f3 fun _ => a.w2) (f2 a.dz2) = bf2 a.args.dz1 := by
  simp only [val_main_v94,
    rify_simps, zero_add] <;> rfl
@[rify_simps] theorem v95 : val_main_v95 (F := Ideal) (f2 a.cat) (f3 fun _ => a.x) (f3 fun _ => a.wo) (f2 a.g1) (f2 a.b1) (f3 fun _ => a.w1) (f3 fun _ => a.w2) (f2 a.dz2) = bf2 a.args.dcat := by
  simp only [val_main_v95,
    rify_simps, zero_add] <;> rfl

end Cert.FfnBwdRefIdeal.Stages
-- ==== Proof.FfnBwdClaim.lean ====
/-
  The claims of the feed-forward and first norm's backward call: both programs end with the same six arrays.
-/
module

public import proofs.«01_k».proof.Defs
public import proofs.«01_k».proof.Proof.Gen.FfnBwd
public import proofs.«01_k».proof.Proof.Gen.FfnBwdRefIdeal.Run
public import proofs.«01_k».proof.Proof.Finite
public import Idealize.ShloMosaic.Lib.Tactic
public import proofs.«01_k».proof.Proof.FfnBwdArrays
public import proofs.«01_k».proof.Proof.FfnBwdRef

@[expose] public section

noncomputable section

namespace Cert.FfnBwdClaim

open Cert.Reals Cert.Layer Idealize.ShloMosaic Idealize.ShloMosaic.Tactic Idealize.SL.Sem

instance facts : Cert.Pre_finite_ffn_bwd_ln1.Facts := by
  constructor <;> exact bid_scalar

/-- The two programs have the same text: the run at every reading of the floats is the program's own at `Bits`. -/
theorem frame_kernel : Cert.quiescent_FfnBwd :=
  have h := fun m ρ (_ : True) => Cert.FfnBwdIdeal.Run.frame (F := Bits) m ρ
  Eq.mpr (by sl_kernel_rfl) h
theorem frame_ideal : Cert.quiescent_FfnBwdIdeal := fun m ρ _ => Cert.FfnBwdIdeal.Run.frame m ρ
theorem frame_ideal_pre : Cert.quiescent_FfnBwdIdeal_pre_finite_ffn_bwd_ln1 := fun m ρ _ => Cert.FfnBwdIdeal.Run.frame m ρ
theorem frame_ref : Cert.quiescent_FfnBwdRefIdeal := fun m ρ _ =>
  (θ_run Cert.FfnBwdRefIdeal.defs _ _).mono (fun r h => ⟨fun c => (h c).2.2.2.2.2.2, sem_eq_zero_of_no_sems (by decide) r.2⟩)
    (Cert.FfnBwdRefIdeal.Value.run m ρ)
theorem frame_ref_pre : Cert.quiescent_FfnBwdRefIdeal_pre_finite_ffn_bwd_ln1 := fun m ρ _ => frame_ref m ρ trivial

/-- Finite argument arrays hold real functions. -/
theorem exists_args {a0 : FVec Ideal ⟨2, ![4096, 1024]⟩ .f32} {a1 : FVec Ideal ⟨3, ![1, 4096, 1024]⟩ .f32}
    {a2 : FVec Ideal ⟨3, ![1, 1024, 1024]⟩ .f32} {a3 a4 : FVec Ideal ⟨2, ![1, 1024]⟩ .f32}
    {a5 : FVec Ideal ⟨3, ![1, 1024, 4096]⟩ .f32} {a6 : FVec Ideal ⟨3, ![1, 4096, 1024]⟩ .f32}
    {a7 : FVec Ideal ⟨2, ![4096, 1024]⟩ .f32}
    (h0 : Finite a0) (h1 : Finite a1) (h2 : Finite a2) (h3 : Finite a3) (h4 : Finite a4) (h5 : Finite a5) (h6 : Finite a6)
    (h7 : Finite a7) : ∃ a : BwdIn, a.Is a0 a1 a2 a3 a4 a5 a6 a7 :=
  ⟨⟨_, _, _, _, _, _, _, _⟩, h0.up2, h1.up3, h2.up3, h3.up2, h4.up2, h5.up3, h6.up3, h7.up2⟩

/-- The reference's six values on arrays that hold `a`. -/
theorem reference_values {a : BwdIn} {a0 a1 a2 a3 a4 a5 a6 a7} (h : a.Is a0 a1 a2 a3 a4 a5 a6 a7) :
    Cert.FfnBwdRefIdeal.Read.val_main_v93 (F := Ideal) a0 a1 a2 a3 a4 a5 a6 a7 = f2 a.args.gws
    ∧ Cert.FfnBwdRefIdeal.Read.val_main_v89 (F := Ideal) a0 a1 a2 a3 a4 a5 a6 a7 = f2 a.args.dz1
    ∧ Cert.FfnBwdRefIdeal.Read.val_main_v94 (F := Ideal) a0 a1 a2 a3 a4 a5 a6 a7 = bf2 a.args.dz1
    ∧ Cert.FfnBwdRefIdeal.Read.val_main_v95 (F := Ideal) a0 a1 a2 a3 a4 a5 a6 a7 = bf2 a.args.dcat
    ∧ Cert.FfnBwdRefIdeal.Read.val_main_v63 (F := Ideal) a0 a1 a2 a3 a4 a5 a6 a7 = f2 (n := 1) (fun _ j => ∑ q, mul a.args.dx1 a.h1 q j)
    ∧ Cert.FfnBwdRefIdeal.Read.val_main_v60 (F := Ideal) a0 a1 a2 a3 a4 a5 a6 a7 = f2 (n := 1) (fun _ j => ∑ q, a.args.dx1 q j) := by
  obtain ⟨rfl, rfl, rfl, rfl, rfl, rfl, rfl, rfl⟩ := h
  exact ⟨Cert.FfnBwdRefIdeal.Stages.v93 a, Cert.FfnBwdRefIdeal.Stages.v89 a, Cert.FfnBwdRefIdeal.Stages.v94 a, Cert.FfnBwdRefIdeal.Stages.v95 a, Cert.FfnBwdRefIdeal.Stages.v63 a, Cert.FfnBwdRefIdeal.Stages.v60 a⟩

/-- The reference's six results on finite arguments. -/
theorem reference_run (a : Dev Cert.FfnBwdRefIdeal.nD → BwdIn) (m) (ρ) (ha : ∀ c : Dev Cert.FfnBwdRefIdeal.nD, (a c).Is
    (m (c.tc.loc Cert.FfnBwdRefIdeal.main_arg0)) (m (c.tc.loc Cert.FfnBwdRefIdeal.main_arg1))
    (m (c.tc.loc Cert.FfnBwdRefIdeal.main_arg2)) (m (c.tc.loc Cert.FfnBwdRefIdeal.main_arg3))
    (m (c.tc.loc Cert.FfnBwdRefIdeal.main_arg4)) (m (c.tc.loc Cert.FfnBwdRefIdeal.main_arg5))
    (m (c.tc.loc Cert.FfnBwdRefIdeal.main_arg6)) (m (c.tc.loc Cert.FfnBwdRefIdeal.main_arg7))) :
    θ_run (Cert.FfnBwdRefIdeal.defs (F := Ideal)) (onTc (τ := Cert.FfnBwdRefIdeal.τ) (Cert.FfnBwdRefIdeal.main (F := Ideal)))
      ⟨m, fun _ => 0, ρ⟩ fun r => ∀ c : Dev Cert.FfnBwdRefIdeal.nD,
        r.2.mem (c.tc.loc Cert.FfnBwdRefIdeal.main_v93) = f2 (a c).args.gws
        ∧ r.2.mem (c.tc.loc Cert.FfnBwdRefIdeal.main_v89) = f2 (a c).args.dz1
        ∧ r.2.mem (c.tc.loc Cert.FfnBwdRefIdeal.main_v94) = bf2 (a c).args.dz1
        ∧ r.2.mem (c.tc.loc Cert.FfnBwdRefIdeal.main_v95) = bf2 (a c).args.dcat
        ∧ r.2.mem (c.tc.loc Cert.FfnBwdRefIdeal.main_v63) = f2 (n := 1) (fun _ j => ∑ q, mul (a c).args.dx1 (a c).h1 q j)
        ∧ r.2.mem (c.tc.loc Cert.FfnBwdRefIdeal.main_v60) = f2 (n := 1) (fun _ j => ∑ q, (a c).args.dx1 q j) := by
  refine (θ_run Cert.FfnBwdRefIdeal.defs _ _).mono (fun r h c => ?_) (Cert.FfnBwdRefIdeal.Value.run m ρ)
  obtain ⟨h0, h1, h2, h3, h4, h5, -⟩ := h c
  obtain ⟨v0, v1, v2, v3, v4, v5⟩ := reference_values (ha c)
  exact ⟨h0.trans ((Cert.FfnBwdRefIdeal.Read.val_main_v93_eq m c).trans v0),
    h1.trans ((Cert.FfnBwdRefIdeal.Read.val_main_v89_eq m c).trans v1),
    h2.trans ((Cert.FfnBwdRefIdeal.Read.val_main_v94_eq m c).trans v2),
    h3.trans ((Cert.FfnBwdRefIdeal.Read.val_main_v95_eq m c).trans v3),
    h4.trans ((Cert.FfnBwdRefIdeal.Read.val_main_v63_eq m c).trans v4),
    h5.trans ((Cert.FfnBwdRefIdeal.Read.val_main_v60_eq m c).trans v5)⟩

/-- The precondition gives the real functions that the arguments hold. -/
theorem args_of_pre {m} (h : Cert.Pre_FfnBwdIdeal_finite_ffn_bwd_ln1 m) (c : Dev Cert.FfnBwdIdeal.nD) :
    ∃ a : BwdIn, Cert.FfnBwdIdeal.Blocks.Args m c a := by
  obtain ⟨h0, h1, h2, h3, h4, h5, h6, h7⟩ := h c
  exact exists_args ⟨_, h0⟩ ⟨_, h1⟩ ⟨_, h2⟩ ⟨_, h3⟩ ⟨_, h4⟩ ⟨_, h5⟩ ⟨_, h6⟩ ⟨_, h7⟩

/-- The kernel's six results on finite arguments. -/
theorem kernel_run (a : Dev Cert.FfnBwdIdeal.nD → BwdIn) (m) (ρ) (ha : ∀ c : Dev Cert.FfnBwdIdeal.nD, Cert.FfnBwdIdeal.Blocks.Args m c (a c)) :
    θ_run (Cert.FfnBwdIdeal.defs (F := Ideal)) (onTc (τ := Cert.FfnBwdIdeal.τ) (Cert.FfnBwdIdeal.main (F := Ideal)))
      ⟨m, fun _ => 0, ρ⟩ fun r => ∀ c : Dev Cert.FfnBwdIdeal.nD,
        r.2.mem (c.tc.loc Cert.FfnBwdIdeal.main_v42_0) = f2 (a c).args.gws
        ∧ r.2.mem (c.tc.loc Cert.FfnBwdIdeal.main_v42_1) = f2 (a c).args.dz1
        ∧ r.2.mem (c.tc.loc Cert.FfnBwdIdeal.main_v42_2) = bf2 (a c).args.dz1
        ∧ r.2.mem (c.tc.loc Cert.FfnBwdIdeal.main_v42_3) = bf2 (a c).args.dcat
        ∧ r.2.mem (c.tc.loc Cert.FfnBwdIdeal.main_v42_4) = f2 (n := 1) (fun _ j => ∑ q, mul (a c).args.dx1 (a c).h1 q j)
        ∧ r.2.mem (c.tc.loc Cert.FfnBwdIdeal.main_v42_5) = f2 (n := 1) (fun _ j => ∑ q, (a c).args.dx1 q j) := by
  refine (θ_run Cert.FfnBwdIdeal.defs _ _).mono (fun r h c => ?_) (Cert.FfnBwdIdeal.Run.run_main (F := Ideal) m ρ)
  exact ⟨(h.1.written c (by decide)).trans ((Cert.FfnBwdIdeal.Run.G_dst m c).trans (Cert.FfnBwdIdeal.Blocks.gw_eq (ha c))),
    ((h.1.toR c).1 9).trans (Cert.FfnBwdIdeal.Blocks.arr9 (ha c)),
    ((h.1.toR c).1 10).trans (Cert.FfnBwdIdeal.Blocks.arr10 (ha c)),
    ((h.1.toR c).1 11).trans (Cert.FfnBwdIdeal.Blocks.arr11 (ha c)),
    ((h.1.toR c).1 12).trans (Cert.FfnBwdIdeal.Blocks.arr12 (ha c)),
    ((h.1.toR c).1 13).trans (Cert.FfnBwdIdeal.Blocks.arr13 (ha c))⟩

/-- Both programs end with the six arrays of the layer's functions. -/
theorem value : Cert.algebraic_FfnBwdIdeal_FfnBwdRefIdeal_pre_finite_ffn_bwd_ln1 := by
  intro m ρ m' ρ' hpre hagree
  choose a ha using args_of_pre hpre
  have ha' : ∀ c : Dev Cert.FfnBwdRefIdeal.nD, (a c).Is _ _ _ _ _ _ _ _ := fun c => by
    obtain ⟨g0, g1, g2, g3, g4, g5, g6, g7⟩ := hagree c
    obtain ⟨e0, e1, e2, e3, e4, e5, e6, e7⟩ := ha c
    exact ⟨g0.trans e0, g1.trans e1, g2.trans e2, g3.trans e3, g4.trans e4, g5.trans e5, g6.trans e6, g7.trans e7⟩
  refine ⟨fun c => f2 (a c).args.gws,
    fun c => f2 (a c).args.dz1,
    fun c => bf2 (a c).args.dz1,
    fun c => bf2 (a c).args.dcat,
    fun c => f2 (n := 1) (fun _ j => ∑ q, mul (a c).args.dx1 (a c).h1 q j),
    fun c => f2 (n := 1) (fun _ j => ∑ q, (a c).args.dx1 q j), ?_, ?_⟩
  · refine (θ_run Cert.FfnBwdIdeal.defs _ _).mono (fun r h c => ?_) (θ_run_and (kernel_run a m ρ ha) (Cert.FfnBwdIdeal.Run.frame m ρ))
    obtain ⟨h0, h1, h2, h3, h4, h5⟩ := h.1 c
    exact ⟨h0, h1, h2, h3, h4, h5, h.2.1 c⟩
  · refine (θ_run Cert.FfnBwdRefIdeal.defs _ _).mono (fun r h c => ?_)
      (θ_run_and (reference_run a m' ρ' ha') (Cert.FfnBwdRefIdeal.Value.run m' ρ'))
    obtain ⟨h0, h1, h2, h3, h4, h5⟩ := h.1 c
    exact ⟨h0, h1, h2, h3, h4, h5, (h.2 c).2.2.2.2.2.2⟩

end Cert.FfnBwdClaim
-- ==== Proof.MixerBwdLayer.lean ====
/-
  The layer's spatial gate on finite arrays: the gelu, the norm over 512 features, one chunk's backward pass, and the
  gradients as sums over the 32 chunks of the sequence.
-/
module

public import proofs.«01_k».proof.Proof.Layer
public import Idealize.ShloMosaic.Lib.Pointwise.Sums

@[expose] public section

set_option maxRecDepth 16384

noncomputable section

namespace Cert.Layer

open Cert.Reals Idealize.ShloMosaic

variable {n m : ℕ}

/-! ## The gelu and the norm over 512 features -/

/-- The factor inside the gelu's tanh, the number that its single-precision word is. -/
def geluScale : ℝ := 13386282 / 2 ^ 24
theorem lit_geluScale : Ideal.ofBits .f32 0x3F4C422A#32 = (geluScale : EReal) := by
  simp [Ideal.ofBits, Ideal.ieee, geluScale, -EReal.coe_mul]; norm_num
theorem lit_512 : Ideal.ofBits .f32 0x44000000#32 = ((512 : ℝ) : EReal) := by
  simp [Ideal.ofBits, Ideal.ieee, -EReal.coe_mul]; norm_num

/-- The factor of its cubic term likewise. -/
def geluCubic : ℝ := 12003091 / 2 ^ 28
theorem lit_geluCubic : Ideal.ofBits .f32 0x3D372713#32 = (geluCubic : EReal) := by
  simp [Ideal.ofBits, Ideal.ieee, geluCubic, -EReal.coe_mul]; norm_num

/-- The gelu in its tanh form. -/
def gelu1 (x : ℝ) : ℝ := 1 / 2 * x * (1 + Real.tanh (geluScale * (x + geluCubic * (x * x * x))))
def gelu (a : Mat n m) : Mat n m := fun i j => gelu1 (a i j)

@[rify_simps] theorem tanh2 {φ : FTy} (a : Mat n m) : tanh (up2 (φ := φ) a) = up2 fun i j => Real.tanh (a i j) := rfl
@[rify_simps] theorem splat_geluScale : broadcast ⟨2, ![n, m]⟩ (Scalar.ofBits (F := Ideal) .f32 0x3F4C422A#32) = f2 fun _ _ => geluScale :=
  splat2 lit_geluScale
@[rify_simps] theorem splat_geluCubic : broadcast ⟨2, ![n, m]⟩ (Scalar.ofBits (F := Ideal) .f32 0x3D372713#32) = f2 fun _ _ => geluCubic :=
  splat2 lit_geluCubic
@[rify_simps] theorem splat_512 : broadcast ⟨2, ![n, m]⟩ (Scalar.ofBits (F := Ideal) .f32 0x44000000#32) = f2 fun _ _ => (512 : ℝ) :=
  splat2 lit_512

@[rify_simps] theorem splat_half : broadcast ⟨2, ![n, m]⟩ (Scalar.ofBits (F := Ideal) .f32 0x3F000000#32) = f2 fun _ _ => 1 / 2 := splat2 lit_half
@[rify_simps] theorem splat_one : broadcast ⟨2, ![n, m]⟩ (Scalar.ofBits (F := Ideal) .f32 0x3F800000#32) = f2 fun _ _ => 1 := splat2 lit_one

/-- Each row about its mean over 512 features; its variance and epsilon; and normalised. -/
def cenH (z : Mat n 512) : Mat n 512 := fun i j => z i j - (∑ q, z i q) / 512
def varH (z : Mat n 512) (i : Fin n) : ℝ := (∑ q, cenH z i q * cenH z i q) / 512 + eps
def xhatH (z : Mat n 512) : Mat n 512 := fun i j => cenH z i j * (√(varH z i))⁻¹
theorem varH_pos (z : Mat n 512) (i : Fin n) : 0 < varH z i := by
  unfold varH
  have h : 0 ≤ ∑ q, cenH z i q * cenH z i q := Finset.sum_nonneg fun q _ => mul_self_nonneg _
  have := eps_pos
  positivity

/-! ## Halves of a pair of heads -/

/-- Column `l` of head `h`; row `i` of chunk `c`. -/
def hcol (h : Fin 8) (l : Fin 64) : Fin 512 := ⟨64 * h.val + l.val, by omega⟩
def hd (p : Fin 4) (s : Fin 2) : Fin 8 := ⟨2 * p.val + s.val, by omega⟩
def headOf (j : Fin 512) : Fin 8 := ⟨j.val / 64, by omega⟩
/-- A head's weights without the positions that come later. -/
def tri (w : Mat 128 128) : Mat 128 128 := fun i k => if k.val ≤ i.val then w i k else 0

/-- The two heads of a pair below each other, each on its own half of the columns. -/
def stackR (x : Mat 128 128) : Mat 256 128 := fun r l =>
  if h : r.val < 128 then (if l.val < 64 then x ⟨r.val, h⟩ l else 0) else (if l.val < 64 then 0 else x ⟨r.val - 128, by omega⟩ l)
/-- The two heads of a pair beside each other. -/
def pairR (a b : Mat 128 128) : Mat 128 256 := fun k r =>
  if h : r.val < 128 then a ⟨r.val, h⟩ k else b ⟨r.val - 128, by omega⟩ k

theorem stackR_top (x : Mat 128 128) (h) (i l : Fin 128) : stackR x (part (128 * (0 : Fin 2).val) h i) l = if l.val < 64 then x i l else 0 := by
  have e : (⟨128 * (0 : Fin 2).val + i.val, by show 128 * 0 + i.val < 128; omega⟩ : Fin 128) = i := Fin.ext (by show 128 * 0 + i.val = i.val; omega)
  exact (dif_pos (show 128 * 0 + i.val < 128 by omega)).trans (by rw [← congrArg (fun i => x i l) e]; rfl)
theorem stackR_bottom (x : Mat 128 128) (h) (i l : Fin 128) : stackR x (part (128 * (1 : Fin 2).val) h i) l = if l.val < 64 then 0 else x i l := by
  have e : (⟨128 * (1 : Fin 2).val + i.val - 128, by show 128 * 1 + i.val - 128 < 128; omega⟩ : Fin 128) = i := Fin.ext (by show 128 * 1 + i.val - 128 = i.val; omega)
  exact (dif_neg (show ¬128 * 1 + i.val < 128 by omega)).trans (by rw [← congrArg (fun i => x i l) e]; rfl)

/-- A sum over a pair's columns of which one half is zero. -/
theorem sum_left (f : Fin 128 → ℝ) : (∑ l, if l.val < 64 then f l else 0) = ∑ l : Fin 64, f ⟨l.val, by omega⟩ := by
  rw [show (∑ l, if l.val < 64 then f l else 0) = ∑ l : Fin (64 + 64), if l.val < 64 then f l else 0 from rfl, Fin.sum_univ_add]
  simp only [Fin.val_castAdd, Fin.val_natAdd]
  rw [Finset.sum_congr rfl fun l _ => if_pos l.isLt, Finset.sum_eq_zero (s := Finset.univ (α := Fin 64)) fun l _ => if_neg (by omega), add_zero]
  rfl
theorem sum_right (f : Fin 128 → ℝ) : (∑ l, if l.val < 64 then 0 else f l) = ∑ l : Fin 64, f ⟨64 + l.val, by omega⟩ := by
  rw [show (∑ l, if l.val < 64 then 0 else f l) = ∑ l : Fin (64 + 64), if l.val < 64 then 0 else f l from rfl, Fin.sum_univ_add]
  simp only [Fin.val_castAdd, Fin.val_natAdd]
  rw [Finset.sum_eq_zero (s := Finset.univ (α := Fin 64)) fun l _ => if_pos l.isLt, Finset.sum_congr rfl fun l _ => if_neg (by omega), zero_add]
  rfl
theorem sum_pair (f : Fin 256 → ℝ) : ∑ r, f r = (∑ i : Fin 128, f ⟨i.val, by omega⟩) + ∑ i : Fin 128, f ⟨128 + i.val, by omega⟩ := by
  rw [show (∑ r, f r) = ∑ r : Fin (128 + 128), f r from rfl, Fin.sum_univ_add]
  rfl

@[rify_simps] theorem shapeCast_toSlab {n m : ℕ} {φ : FTy} (a : Mat n m) (h : Shape.ShapeCasts ⟨2, ![n, m]⟩ ⟨3, ![1, n, m]⟩) :
    shapeCast ⟨3, ![1, n, m]⟩ (up2 (φ := φ) a) h = up3 fun _ i j => a i j := by
  funext i
  obtain ⟨k, p, q, rfl⟩ : ∃ k p q, i = ix3 k p q := ⟨_, _, _, eq_ix3 i⟩
  refine (shapeCast_apply _ h _ (ix2 p q) ?_).trans rfl
  rw [rowMajor_val2 _ m rfl, rowMajor_val3 _ (n * m) m rfl rfl]
  show p.val * m + q.val = k.val * (n * m) + p.val * m + q.val
  rw [show k.val = 0 by omega, Nat.zero_mul, Nat.zero_add]

/-! ## One chunk -/

/-- A chunk's finite blocks. -/
structure GateIn where
  u : Mat 128 512
  v : Mat 128 512
  d : Mat 128 512
  w : Fin 8 → Mat 128 128
  gain : Mat 1 512
  shift : Mat 1 512

namespace GateIn
variable (r : GateIn)
def xh : Mat 128 512 := xhatH (gelu r.v)
def vgl : Mat 128 512 := affine r.xh r.gain r.shift
def dm : Mat 128 512 := mul r.d (gelu r.u)
def dw (h : Fin 8) : Mat 128 128 := tri fun i k => ∑ l : Fin 64, r.dm i (hcol h l) * r.vgl k (hcol h l)
def dvgl : Mat 128 512 := fun k j => ∑ i, tri (r.w (headOf j)) i k * r.dm i j
def dgain : Mat 1 512 := fun _ j => ∑ k, r.dvgl k j * r.xh k j
def dshift : Mat 1 512 := fun _ j => ∑ k, r.dvgl k j
end GateIn

/-! ## The whole sequence -/

/-- The call's arguments on finite arrays, as far as the gate and the feed-forward matrix read them. -/
structure MixIn where
  x : Mat 4096 1024
  win : Mat 1024 1792
  g : Mat 1 512
  b : Mat 1 512
  w : Fin 8 → Mat 128 128
  x1 : Mat 4096 1024
  w1 : Mat 1024 4096
  dcat : Mat 4096 1024
  dz2 : Mat 4096 1024

namespace MixIn

variable (a : MixIn)

/-- The two halves of the gate's input, the cotangent of its result, and the hidden features. -/
def u : Mat 4096 512 := fun i j => mm a.x a.win i ⟨j.val, by omega⟩
def v : Mat 4096 512 := fun i j => mm a.x a.win i ⟨512 + j.val, by omega⟩
def d : Mat 4096 512 := fun i j => a.dcat i ⟨j.val, by omega⟩
def hid : Mat 4096 4096 := relu (mm a.x1 a.w1)

/-- The argument arrays hold `a`. -/
structure Is (a0 : FVec Ideal ⟨3, ![1, 4096, 1024]⟩ .f32) (a2 : FVec Ideal ⟨3, ![1, 1024, 1792]⟩ .f32)
    (a3 a4 : FVec Ideal ⟨2, ![1, 512]⟩ .f32) (a5 : FVec Ideal ⟨4, ![1, 8, 128, 128]⟩ .f32)
    (a8 : FVec Ideal ⟨3, ![1, 4096, 1024]⟩ .f32) (a9 : FVec Ideal ⟨3, ![1, 1024, 4096]⟩ .f32)
    (a11 a12 : FVec Ideal ⟨2, ![4096, 1024]⟩ .f32) : Prop where
  e0 : a0 = up3 fun _ => a.x
  e2 : a2 = up3 fun _ => a.win
  e3 : a3 = up2 a.g
  e4 : a4 = up2 a.b
  e5 : a5 = fun i => ((a.w (i 1) (i 2) (i 3) : ℝ) : EReal)
  e8 : a8 = up3 fun _ => a.x1
  e9 : a9 = up3 fun _ => a.w1
  e11 : a11 = up2 a.dcat
  e12 : a12 = up2 a.dz2

end MixIn

/-- Token `i` of chunk `c`. -/
def tok (c : Fin 32) (i : Fin 128) : Fin 4096 := ⟨c.val * 128 + i.val, by omega⟩

namespace MixIn

variable (a : MixIn)

/-- One chunk of the sequence. -/
def chunk (c : Fin 32) : GateIn where
  u i := a.u (tok c i)
  v i := a.v (tok c i)
  d i := a.d (tok c i)
  w := a.w
  gain := a.g
  shift := a.b

/-- The gradients of the norm's gain and bias, of the spatial weights and their bias, and of the second feed-forward matrix. -/
def dgain : Mat 1 512 := fun i j => ∑ c, (a.chunk c).dgain i j
def dshift : Mat 1 512 := fun i j => ∑ c, (a.chunk c).dshift i j
def dw (h : Fin 8) : Mat 128 128 := fun i k => ∑ c, (a.chunk c).dw h i k
def dmix : Mat 128 512 := fun i j => ∑ c, (a.chunk c).dm i j
def dff : Mat 4096 1024 := tn (sqr a.hid) a.dz2

end MixIn

/-- A slice of a matrix. -/
theorem slice2 {n m n' m' o q : ℕ} {φ : FTy} (a : Mat n m) (h : Shape.Slices ⟨2, ![n, m]⟩ ![o, q] ⟨2, ![n', m']⟩) (ho : o + n' ≤ n) (hq : q + m' ≤ m) :
    extractStridedSlice ⟨2, ![n', m']⟩ ![o, q] (up2 (φ := φ) a) h = up2 fun i j => a (part o ho i) (part q hq j) := by
  funext i
  obtain ⟨r, k, rfl⟩ : ∃ r k, i = ix2 r k := ⟨_, _, eq_ix2 i⟩
  refine (extractStridedSlice_apply ![o, q] (up2 (φ := φ) a) _ (ix2 r k) (ix2 (part o ho r) (part q hq k)) fun d => ?_).trans rfl
  match d with
  | ⟨0, _⟩ => rfl
  | ⟨1, _⟩ => rfl

end Cert.Layer

end
-- ==== Proof.MixerBwdRun.lean ====
/-
  The gradient kernel of the two mixers, run at one grid point: four chunks of tokens.  At the first point the accumulators are
  written first; at the last point the accumulated gradient of the second feed-forward matrix is copied out by four
  transfers, each waited for before the point ends.
-/
module

public import proofs.«01_k».proof.Proof.Gen.MixerBwdIdeal.Launch
public import proofs.«01_k».proof.Proof.Gen.MixerBwdIdeal.Skeleton
public import proofs.«01_k».proof.Proof.Gen.MixerBwdIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The staging buffers that the body is called with: nineteen inputs and seven outputs. -/
structure Mems where
  i0 : Memref sig .tc .vmem S512x512 .f32
  hi0 : i0.IsWhole
  i1 : Memref sig .tc .vmem S512x512 .f32
  hi1 : i1.IsWhole
  i2 : Memref sig .tc .vmem S512x512 .bf16
  hi2 : i2.IsWhole
  i3 : Memref sig .tc .vmem S512x128 .bf16
  hi3 : i3.IsWhole
  i4 : Memref sig .tc .vmem S128x128 .bf16
  hi4 : i4.IsWhole
  i5 : Memref sig .tc .vmem S512x128 .bf16
  hi5 : i5.IsWhole
  i6 : Memref sig .tc .vmem S128x128 .bf16
  hi6 : i6.IsWhole
  i7 : Memref sig .tc .vmem S512x1024 .bf16
  hi7 : i7.IsWhole
  i8 : Memref sig .tc .vmem S512x128 .f32
  hi8 : i8.IsWhole
  i9 : Memref sig .tc .vmem S512x128 .f32
  hi9 : i9.IsWhole
  i10 : Memref sig .tc .vmem S128x128 .f32
  hi10 : i10.IsWhole
  i11 : Memref sig .tc .vmem S128x128 .f32
  hi11 : i11.IsWhole
  i12 : Memref sig .tc .vmem S1x512 .f32
  hi12 : i12.IsWhole
  i13 : Memref sig .tc .vmem S1x512 .f32
  hi13 : i13.IsWhole
  i14 : Memref sig .tc .vmem S8x128x128 .f32
  hi14 : i14.IsWhole
  i15 : Memref sig .tc .vmem S128x512 .f32
  hi15 : i15.IsWhole
  i16 : Memref sig .tc .smem S8 .f32
  hi16 : i16.IsWhole
  i17 : Memref sig .tc .vmem S512x4096 .bf16
  hi17 : i17.IsWhole
  i18 : Memref sig .tc .vmem S512x1024 .bf16
  hi18 : i18.IsWhole
  o0 : Memref sig .tc .vmem S512x1536 .bf16
  ho0 : o0.IsWhole
  o1 : Memref sig .tc .vmem S4096x256 .f32
  ho1 : o1.IsWhole
  o2 : Memref sig .tc .vmem S1x512 .f32
  ho2 : o2.IsWhole
  o3 : Memref sig .tc .vmem S1x512 .f32
  ho3 : o3.IsWhole
  o4 : Memref sig .tc .vmem S8x128x128 .f32
  ho4 : o4.IsWhole
  o5 : Memref sig .tc .vmem S128x128 .f32
  ho5 : o5.IsWhole
  o6 : Memref sig .tc .vmem S8x128 .f32
  ho6 : o6.IsWhole

/-- The contents of the inputs' staging buffers. -/
structure Ins (F : FTy → Type) where
  x0 : Vec F S512x512 .f32
  x1 : Vec F S512x512 .f32
  x2 : Vec F S512x512 .bf16
  x3 : Vec F S512x128 .bf16
  x4 : Vec F S128x128 .bf16
  x5 : Vec F S512x128 .bf16
  x6 : Vec F S128x128 .bf16
  x7 : Vec F S512x1024 .bf16
  x8 : Vec F S512x128 .f32
  x9 : Vec F S512x128 .f32
  x10 : Vec F S128x128 .f32
  x11 : Vec F S128x128 .f32
  x12 : Vec F S1x512 .f32
  x13 : Vec F S1x512 .f32
  x14 : Vec F S8x128x128 .f32
  x15 : Vec F S128x512 .f32
  x16 : Vec F S8 .f32
  x17 : Vec F S512x4096 .bf16
  x18 : Vec F S512x1024 .bf16

/-- What is kept from one point to the next in the outputs' staging buffers, apart from the gradient of keys and values:
the gradients of the norm's gain and bias, of the spatial weights and of the sinks. -/
structure Kept (F : FTy → Type) where
  g : Vec F S1x512 .f32
  b : Vec F S1x512 .f32
  w : Vec F S8x128x128 .f32
  sink : Vec F S8x128 .f32

/-- The scratch buffers, and the result in HBM that the last of them is copied to. -/
abbrev dmix : Memref sig .tc .vmem S128x512 .f32 := Memref.whole cc0_scratch0
abbrev wcat : Memref sig .tc .vmem S4x128x256 .bf16 := Memref.whole cc0_scratch1
abbrev wcatT : Memref sig .tc .vmem S4x128x256 .bf16 := Memref.whole cc0_scratch2
abbrev acc : Memref sig .tc .vmem S4096x1024 .f32 := Memref.whole cc0_scratch3
abbrev dst : Memref sig .tc .hbm S4096x1024 .f32 := Memref.whole main_v96_2
/-- The whole of a buffer at given contents. -/
abbrev BufOf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : BufOf F c M) : sProp 𝕄 :=
  M.view.loc (c : Thread nD τ) ↦{fullShare} f
/-- The contents of the scratch buffers. -/
structure Scr (F : FTy → Type) (c : Dev nD) where
  dm : BufOf F c dmix
  wc : BufOf F c wcat
  wt : BufOf F c wcatT
  s : BufOf F c acc

/-- The body on given staging buffers. -/
abbrev body (M : Mems) (i : grid0.Coords) : Prog (TpuEff nD τ sig (Elt F) Λ₀ .tc) PUnit :=
  cc0_mixer_bwd i M.i0 M.hi0 M.i1 M.hi1 M.i2 M.hi2 M.i3 M.hi3 M.i4 M.hi4 M.i5 M.hi5 M.i6 M.hi6 M.i7 M.hi7 M.i8 M.hi8 M.i9 M.hi9 M.i10 M.hi10 M.i11 M.hi11 M.i12 M.hi12 M.i13 M.hi13 M.i14 M.hi14 M.i15 M.hi15 M.i16 M.hi16 M.i17 M.hi17 M.i18 M.hi18
    M.o0 M.ho0 M.o1 M.ho1 dst (Memref.isWhole_whole _) M.o2 M.ho2 M.o3 M.ho3 M.o4 M.ho4 M.o5 M.ho5 M.o6 M.ho6
    dmix (Memref.isWhole_whole _) wcat (Memref.isWhole_whole _) wcatT (Memref.isWhole_whole _) acc (Memref.isWhole_whole _) cc0_scratch4

/-- A whole staging buffer at given contents, as the ownership of its elements. -/
abbrev held (c : Dev nD) {sp : Space} {S : Shape} {e : EltTy} {M : Memref sig .tc sp S e} (h : M.IsWhole) (X : S.Idx → Elt F e) : sProp 𝕄 :=
  M.view.loc (c : Thread nD τ) ↦[M.view.set]{fullShare} h.unread X
/-- The inputs' staging buffers at their contents. -/
abbrev insPts (c : Dev nD) (M : Mems) (x : Ins F) : sProp 𝕄 :=
  iprop(held c M.hi0 x.x0 ∗ held c M.hi1 x.x1 ∗ held c M.hi2 x.x2 ∗ held c M.hi3 x.x3 ∗ held c M.hi4 x.x4 ∗ held c M.hi5 x.x5 ∗ held c M.hi6 x.x6 ∗ held c M.hi7 x.x7 ∗ held c M.hi8 x.x8 ∗ held c M.hi9 x.x9 ∗ held c M.hi10 x.x10 ∗ held c M.hi11 x.x11 ∗ held c M.hi12 x.x12 ∗ held c M.hi13 x.x13 ∗ held c M.hi14 x.x14 ∗ held c M.hi15 x.x15 ∗ held c M.hi16 x.x16 ∗ held c M.hi17 x.x17 ∗ held c M.hi18 x.x18)
/-- A staging buffer at anything, and an output's at the pieces written over anything. -/
abbrev free (c : Dev nD) {sp : Space} {S : Shape} {e : EltTy} (M : Memref sig .tc sp S e) : sProp 𝕄 :=
  iprop(∃ f, M.view.loc (c : Thread nD τ) ↦[M.view.set]{fullShare} f)
abbrev written (c : Dev nD) {sp : Space} {S : Shape} {e : EltTy} (M : Memref sig .tc sp S e) (L : List (View.Piece (Elt F) S e)) : sProp 𝕄 :=
  iprop(∃ f, M.view.loc (c : Thread nD τ) ↦[M.view.set]{fullShare} M.view.writes (Elt F) f L)
/-- Pieces written over given contents. -/
abbrev onto (c : Dev nD) {sp : Space} {S : Shape} {e : EltTy} {M : Memref sig .tc sp S e} (h : M.IsWhole) (X : S.Idx → Elt F e)
    (L : List (View.Piece (Elt F) S e)) : sProp 𝕄 :=
  M.view.loc (c : Thread nD τ) ↦[M.view.set]{fullShare} M.view.writes (Elt F) (h.unread X) L

/-- The four cells of the transfers at zero. -/
abbrev cells (c : Dev nD) : sProp 𝕄 :=
  iprop(semVal ((c : Thread nD τ), SemLoc.dma 41) 0 ∗ semVal ((c : Thread nD τ), SemLoc.dma 42) 0
    ∗ semVal ((c : Thread nD τ), SemLoc.dma 43) 0 ∗ semVal ((c : Thread nD τ), SemLoc.dma 44) 0)

/-- The body's two conditions: the first point, the last point. -/
abbrev isFirst (i : grid0.Coords) : Prop :=
  (Scalar.cmpi .ne (Scalar.extui (Scalar.cmpi .eq (BitVec.ofNat 32 (i 0).val) 0#32)) 0#32) = 1#1
abbrev isLast (i : grid0.Coords) : Prop :=
  (Scalar.cmpi .ne (Scalar.extui (Scalar.cmpi .eq (BitVec.ofNat 32 (i 0).val) 7#32)) 0#32) = 1#1

/-- The rows before a chunk in closed form; before the first chunk, that chunk itself. -/
theorem off3_eq : ∀ i : grid0.Coords, ∀ r : Fin 4, k0_off3 i (BitVec.ofNat 32 r.val) = ![512 * (i 0).val + 128 * r.val - 128, 0] := by decide +kernel
theorem off4_eq : ∀ i : grid0.Coords, ∀ r : Fin 4, k0_off4 i (BitVec.ofNat 32 r.val) = ![512 * (i 0).val + 128 * r.val - 128, 128] := by decide +kernel
instance closedOff_3_0 (i : grid0.Coords) : ClosedOff (k0_off3 i (BitVec.ofNat 32 0)) := ⟨![512 * (i 0).val + 128 * 0 - 128, 0], off3_eq i ⟨0, by decide⟩⟩
instance closedOff_3_1 (i : grid0.Coords) : ClosedOff (k0_off3 i (BitVec.ofNat 32 1)) := ⟨![512 * (i 0).val + 128 * 1 - 128, 0], off3_eq i ⟨1, by decide⟩⟩
instance closedOff_3_2 (i : grid0.Coords) : ClosedOff (k0_off3 i (BitVec.ofNat 32 2)) := ⟨![512 * (i 0).val + 128 * 2 - 128, 0], off3_eq i ⟨2, by decide⟩⟩
instance closedOff_3_3 (i : grid0.Coords) : ClosedOff (k0_off3 i (BitVec.ofNat 32 3)) := ⟨![512 * (i 0).val + 128 * 3 - 128, 0], off3_eq i ⟨3, by decide⟩⟩
instance closedOff_4_0 (i : grid0.Coords) : ClosedOff (k0_off4 i (BitVec.ofNat 32 0)) := ⟨![512 * (i 0).val + 128 * 0 - 128, 128], off4_eq i ⟨0, by decide⟩⟩
instance closedOff_4_1 (i : grid0.Coords) : ClosedOff (k0_off4 i (BitVec.ofNat 32 1)) := ⟨![512 * (i 0).val + 128 * 1 - 128, 128], off4_eq i ⟨1, by decide⟩⟩
instance closedOff_4_2 (i : grid0.Coords) : ClosedOff (k0_off4 i (BitVec.ofNat 32 2)) := ⟨![512 * (i 0).val + 128 * 2 - 128, 128], off4_eq i ⟨2, by decide⟩⟩
instance closedOff_4_3 (i : grid0.Coords) : ClosedOff (k0_off4 i (BitVec.ofNat 32 3)) := ⟨![512 * (i 0).val + 128 * 3 - 128, 128], off4_eq i ⟨3, by decide⟩⟩

end Cert.MixerBwdIdeal.Run

end
-- ==== Proof.MixerBwdRunFirst.lean ====
/-
  The gradient kernel of the two mixers at one grid point: the first point.
-/
module

public import proofs.«01_k».proof.Proof.MixerBwdRun

@[expose] public section

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The first point: the accumulated gradients and the scratch buffers are written before they are read. -/
def firstRun (c : Dev nD) (i : grid0.Coords) (M : Mems) (h0 : (i 0).val = 0) (hF : isFirst i) (hL : ¬isLast i) (x : Ins F) (y : Vec F S4096x256 .f32) (k : Kept F) (z : Scr F c) :
    Σ' (L0 : List (View.Piece (Elt F) S512x1536 .bf16)) (L1 : List (View.Piece (Elt F) S4096x256 .f32))
      (L2 : List (View.Piece (Elt F) S1x512 .f32)) (L3 : List (View.Piece (Elt F) S1x512 .f32))
      (L4 : List (View.Piece (Elt F) S8x128x128 .f32)) (L6 : List (View.Piece (Elt F) S8x128 .f32))
      (L7 : List (View.Piece (Elt F) S128x512 .f32)) (LA : List (View.Piece (Elt F) S4x128x256 .bf16)) (LB : List (View.Piece (Elt F) S4x128x256 .bf16)) , { L8 : List (View.Piece (Elt F) S4096x1024 .f32) //
      ∀ (K : PUnit → sProp 𝕄),
        iprop(insPts c M x ∗ free c M.o0 ∗ held c M.ho1 y ∗ held c M.ho2 k.g ∗ held c M.ho3 k.b ∗ held c M.ho4 k.w ∗ free c M.o5 ∗ held c M.ho6 k.sink
            ∗ pt c dmix z.dm ∗ pt c wcat z.wc ∗ pt c wcatT z.wt ∗ pt c acc z.s
            ∗ (iprop(insPts c M x ∗ written c M.o0 L0 ∗ onto c M.ho1 y L1 ∗ onto c M.ho2 k.g L2 ∗ onto c M.ho3 k.b L3 ∗ onto c M.ho4 k.w L4
                ∗ free c M.o5 ∗ onto c M.ho6 k.sink L6 ∗ pt c dmix (dmix.view.writes (Elt F) z.dm L7) ∗ pt c wcat (wcat.view.writes (Elt F) z.wc LA) ∗ pt c wcatT (wcatT.view.writes (Elt F) z.wt LB)
                ∗ pt c acc (acc.view.writes (Elt F) z.s L8)) -∗ K ⟨⟩))
          ⊢ wp frame (wpE (defs₀ (F := F)) Variants.none c none) Set.univ (body M i) K } := by
  refine ⟨?_, ?_, ?_, ?_, ?_, ?_, ?_, ?_, ?_, ?_, fun K => ?run⟩
  case run =>
    unfold body
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    iintro ⟨⟨H0, H1, H2, H3, H4, H5, H6, H7, H8, H9, H10, H11, H12, H13, H14, H15, H16, H17, H18⟩, ⟨%f19, H19⟩, H20, H21, H22, H23, ⟨%f24, H24⟩, H25, H26, H27, H28, H29, Hk⟩
    sl_exec (disch := first | sl_exact hF | sl_exact hL)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexists _; iexact H19
    isplitl [H20]; · iexact H20
    isplitl [H21]; · iexact H21
    isplitl [H22]; · iexact H22
    isplitl [H23]; · iexact H23
    isplitl [H24]; · iexists _; iexact H24
    isplitl [H25]; · iexact H25
    isplitl [H26]; · iexact H26
    isplitl [H27]; · iexact H27
    isplitl [H28]; · iexact H28
    iexact H29

end Cert.MixerBwdIdeal.Run

end
-- ==== Proof.MixerBwdRunMid.lean ====
/-
  The gradient kernel of the two mixers at one grid point: a middle point.
-/
module

public import proofs.«01_k».proof.Proof.MixerBwdRun

@[expose] public section

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A point that is neither the first nor the last. -/
def midRun (c : Dev nD) (i : grid0.Coords) (M : Mems) (h0 : 0 < (i 0).val) (hF : ¬isFirst i) (hL : ¬isLast i) (x : Ins F) (y : Vec F S4096x256 .f32) (k : Kept F) (z : Scr F c) :
    Σ' (L0 : List (View.Piece (Elt F) S512x1536 .bf16)) (L1 : List (View.Piece (Elt F) S4096x256 .f32))
      (L2 : List (View.Piece (Elt F) S1x512 .f32)) (L3 : List (View.Piece (Elt F) S1x512 .f32))
      (L4 : List (View.Piece (Elt F) S8x128x128 .f32)) (L6 : List (View.Piece (Elt F) S8x128 .f32))
      (L7 : List (View.Piece (Elt F) S128x512 .f32)) , { L8 : List (View.Piece (Elt F) S4096x1024 .f32) //
      ∀ (K : PUnit → sProp 𝕄),
        iprop(insPts c M x ∗ free c M.o0 ∗ held c M.ho1 y ∗ held c M.ho2 k.g ∗ held c M.ho3 k.b ∗ held c M.ho4 k.w ∗ free c M.o5 ∗ held c M.ho6 k.sink
            ∗ pt c dmix z.dm ∗ pt c wcat z.wc ∗ pt c wcatT z.wt ∗ pt c acc z.s
            ∗ (iprop(insPts c M x ∗ written c M.o0 L0 ∗ onto c M.ho1 y L1 ∗ onto c M.ho2 k.g L2 ∗ onto c M.ho3 k.b L3 ∗ onto c M.ho4 k.w L4
                ∗ free c M.o5 ∗ onto c M.ho6 k.sink L6 ∗ pt c dmix (dmix.view.writes (Elt F) z.dm L7) ∗ pt c wcat z.wc ∗ pt c wcatT z.wt
                ∗ pt c acc (acc.view.writes (Elt F) z.s L8)) -∗ K ⟨⟩))
          ⊢ wp frame (wpE (defs₀ (F := F)) Variants.none c none) Set.univ (body M i) K } := by
  refine ⟨?_, ?_, ?_, ?_, ?_, ?_, ?_, ?_, fun K => ?run⟩
  case run =>
    unfold body
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    iintro ⟨⟨H0, H1, H2, H3, H4, H5, H6, H7, H8, H9, H10, H11, H12, H13, H14, H15, H16, H17, H18⟩, ⟨%f19, H19⟩, H20, H21, H22, H23, ⟨%f24, H24⟩, H25, H26, H27, H28, H29, Hk⟩
    sl_exec (disch := first | sl_exact hF | sl_exact hL)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexists _; iexact H19
    isplitl [H20]; · iexact H20
    isplitl [H21]; · iexact H21
    isplitl [H22]; · iexact H22
    isplitl [H23]; · iexact H23
    isplitl [H24]; · iexists _; iexact H24
    isplitl [H25]; · iexact H25
    isplitl [H26]; · iexact H26
    isplitl [H27]; · iexact H27
    isplitl [H28]; · iexact H28
    iexact H29

end Cert.MixerBwdIdeal.Run

end
-- ==== Proof.MixerBwdRunLast.lean ====
/-
  The gradient kernel of the two mixers at one grid point: the last point.
-/
module

public import proofs.«01_k».proof.Proof.MixerBwdRun

@[expose] public section

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option sl_exec.dmaWindow true in
set_option maxHeartbeats 8000000 in
/-- The last point: the gradient of the bias is written, and the accumulator is copied to the result in HBM. -/
def lastRun (c : Dev nD) (i : grid0.Coords) (M : Mems) (h0 : 0 < (i 0).val) (hF : ¬isFirst i) (hL : isLast i) (x : Ins F) (y : Vec F S4096x256 .f32) (k : Kept F) (z : Scr F c) (w : BufOf F c dst) :
    Σ' (L0 : List (View.Piece (Elt F) S512x1536 .bf16)) (L1 : List (View.Piece (Elt F) S4096x256 .f32))
      (L2 : List (View.Piece (Elt F) S1x512 .f32)) (L3 : List (View.Piece (Elt F) S1x512 .f32))
      (L4 : List (View.Piece (Elt F) S8x128x128 .f32)) (L5 : List (View.Piece (Elt F) S128x128 .f32)) (L6 : List (View.Piece (Elt F) S8x128 .f32))
      (L7 : List (View.Piece (Elt F) S128x512 .f32)) , { G : BufOf F c dst //
      ∀ (W : Waits sig Unit) (K : PUnit → sProp 𝕄),
        iprop(insPts c M x ∗ free c M.o0 ∗ held c M.ho1 y ∗ held c M.ho2 k.g ∗ held c M.ho3 k.b ∗ held c M.ho4 k.w ∗ free c M.o5 ∗ held c M.ho6 k.sink
            ∗ pt c dmix z.dm ∗ pt c wcat z.wc ∗ pt c wcatT z.wt ∗ pt c acc z.s
            ∗ cells c ∗ pt c dst w ∗ owes (c : Thread nD τ) 0 W
            ∗ (iprop(insPts c M x ∗ written c M.o0 L0 ∗ onto c M.ho1 y L1 ∗ onto c M.ho2 k.g L2 ∗ onto c M.ho3 k.b L3 ∗ onto c M.ho4 k.w L4
                ∗ written c M.o5 L5 ∗ onto c M.ho6 k.sink L6 ∗ pt c dmix (dmix.view.writes (Elt F) z.dm L7) ∗ pt c wcat z.wc ∗ pt c wcatT z.wt
                ∗ (∃ f, pt c acc f)
                ∗ cells c ∗ pt c dst G ∗ (∃ W', owes (c : Thread nD τ) 0 W')) -∗ K ⟨⟩))
          ⊢ wp frame (wpE (defs₀ (F := F)) Variants.none c none) Set.univ (body M i) K } := by
  refine ⟨?_, ?_, ?_, ?_, ?_, ?_, ?_, ?_, ?_, fun W K => ?run⟩
  case run =>
    unfold body
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]
    iintro ⟨⟨H0, H1, H2, H3, H4, H5, H6, H7, H8, H9, H10, H11, H12, H13, H14, H15, H16, H17, H18⟩, ⟨%f19, H19⟩, H20, H21, H22, H23, ⟨%f24, H24⟩, H25, H26, H27, H28, H29, ⟨Hq0, Hq1, Hq2, Hq3⟩, HD, HW, Hk⟩
    sl_exec (disch := first | sl_exact hF | sl_exact hL)
    sl_step
    iapply Hk
    isplitl [H0 H1 H2 H3 H4 H5 H6 H7 H8 H9 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [H19]; · iexists _; iexact H19
    isplitl [H20]; · iexact H20
    isplitl [H21]; · iexact H21
    isplitl [H22]; · iexact H22
    isplitl [H23]; · iexact H23
    isplitl [H24]; · iexists _; iexact H24
    isplitl [H25]; · iexact H25
    isplitl [H26]; · iexact H26
    isplitl [H27]; · iexact H27
    isplitl [H28]; · iexact H28
    isplitl [H29]; · iexists _; iexact H29
    isplitl [Hq0 Hq1 Hq2 Hq3]
    · isplitl [Hq0]; · iexact Hq0
      isplitl [Hq1]; · iexact Hq1
      isplitl [Hq2]; · iexact Hq2
      iexact Hq3
    isplitl [HD]; · iexact HD
    iexists _; iexact HW

end Cert.MixerBwdIdeal.Run

end
-- ==== Proof.MixerBwdSpec.lean ====
/-
  What one chunk of the gradient kernel of the two mixers computes for the spatial gate, and the pieces that the chunks of a
  point write into the accumulators: the gradients of the norm's gain and bias, of the spatial weights and bias, and of the
  second feed-forward matrix.
-/
module

public import proofs.«01_k».proof.Proof.MixerBwdRunFirst
public import proofs.«01_k».proof.Proof.MixerBwdRunMid
public import proofs.«01_k».proof.Proof.MixerBwdRunLast

@[expose] public section

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## The parts of the blocks -/

theorem inbU : ∀ n : Fin 4, ∀ a, (![128 * n.val, 0] : Fin 2 → ℕ) a + S128x512.size a ≤ S512x512.size a := by decide
theorem inbD : ∀ n p : Fin 4, ∀ a, (![128 * n.val, 128 * p.val] : Fin 2 → ℕ) a + S128x128.size a ≤ S512x1024.size a := by decide
theorem inbC : ∀ p : Fin 4, ∀ a, (![0, 128 * p.val] : Fin 2 → ℕ) a + S128x128.size a ≤ S128x512.size a := by decide
theorem inbT : ∀ p : Fin 4, ∀ a, (![p.val, 0, 0] : Fin 3 → ℕ) a + S1x128x256.size a ≤ S4x128x256.size a := by decide
theorem inbH : ∀ h : Fin 8, ∀ a, (![h.val, 0, 0] : Fin 3 → ℕ) a + S1x128x128.size a ≤ S8x128x128.size a := by decide
theorem inbR : ∀ n : Fin 4, ∀ a, (![0, 1024 * n.val] : Fin 2 → ℕ) a + S512x1024.size a ≤ S512x4096.size a := by decide
theorem inbA : ∀ n : Fin 4, ∀ a, (![1024 * n.val, 0] : Fin 2 → ℕ) a + S1024x1024.size a ≤ S4096x1024.size a := by decide
theorem slicesC : ∀ p : Fin 4, S128x512.Slices ![0, 128 * p.val] S128x128 := by decide
theorem slicesH : ∀ s : Fin 2, S256x128.Slices ![128 * s.val, 0] S128x128 := by decide

/-- Four columns of heads, the slabs of one head and of a pair of heads, and the blocks of rows of the feed-forward matrix. -/
abbrev rC (p : Fin 4) : Rect S128x512 := Rect.unit (s := S128x512) ![0, 128 * p.val] S128x128.size (inbC p)
abbrev rT (p : Fin 4) : Rect S4x128x256 := Rect.unit (s := S4x128x256) ![p.val, 0, 0] S1x128x256.size (inbT p)
abbrev rH (h : Fin 8) : Rect S8x128x128 := Rect.unit (s := S8x128x128) ![h.val, 0, 0] S1x128x128.size (inbH h)
abbrev rA (n : Fin 4) : Rect S4096x1024 := Rect.unit (s := S4096x1024) ![1024 * n.val, 0] S1024x1024.size (inbA n)
abbrev rG : Rect S1x512 := Rect.unit (s := S1x512) ![0, 0] S1x512.size inb_S1x512_S1x512_0_0

/-! ## The gate of one chunk -/

/-- What a chunk reads: its rows of the two halves of the gate's input and of the cotangent, the transposed spatial weights of
each pair of heads, and the norm's gain and bias. -/
structure Gate (F : FTy → Type) where
  u : Vec F S128x512 .f32
  v : Vec F S128x512 .f32
  d : Fin 4 → Vec F S128x128 .bf16
  wt : Fin 4 → Vec F S1x128x256 .bf16
  gain : Vec F S1x512 .f32
  shift : Vec F S1x512 .f32

/-- Chunk `n` of a point. -/
def chunk (M : Mems) (x : Ins F) (wt : Fin 4 → Vec F S1x128x256 .bf16) (n : Fin 4) : Gate F where
  u := View.readAt (Elt F) M.i0.view (Rect.unit (s := S512x512) ![128 * n.val, 0] S128x512.size (inbU n)).toLoadRect (M.hi0.unread x.x0)
  v := View.readAt (Elt F) M.i1.view (Rect.unit (s := S512x512) ![128 * n.val, 0] S128x512.size (inbU n)).toLoadRect (M.hi1.unread x.x1)
  d p := View.readAt (Elt F) M.i7.view (Rect.unit (s := S512x1024) ![128 * n.val, 128 * p.val] S128x128.size (inbD n p)).toLoadRect (M.hi7.unread x.x7)
  wt := wt
  gain := View.readAt (Elt F) M.i12.view (Rect.unit (s := S1x512) ![0, 0] S1x512.size inb_S1x512_S1x512_0_0).toLoadRect (M.hi12.unread x.x12)
  shift := View.readAt (Elt F) M.i13.view (Rect.unit (s := S1x512) ![0, 0] S1x512.size inb_S1x512_S1x512_0_0).toLoadRect (M.hi13.unread x.x13)

/-- A constant block, from its word. -/
abbrev bc (S : Shape) (w : BitVec 32) : FVec F S .f32 := broadcast S (Scalar.ofBits .f32 w)

/-- The left half of a pair of heads; the positions that a row of the spatial weights reads. -/
def leftHalf : IVec S128x128 1 := cmpi .slt (iota .tc S128x128 32 [1] iota_S128x128_d1_w32) (broadcast S128x128 64#32)
def causal : IVec S128x128 1 := cmpi .sle (iota .tc S128x128 32 [1] iota_S128x128_d1_w32) (iota .tc S128x128 32 [0] iota_S128x128_d0_w32)

/-- The gelu in its tanh form. -/
def geluOf (x : FVec F S128x512 .f32) : FVec F S128x512 .f32 :=
  mulf (mulf (bc S128x512 0x3F000000#32) x) (addf (bc S128x512 0x3F800000#32)
    (tanh (mulf (bc S128x512 0x3F4C422A#32) (addf x (mulf (bc S128x512 0x3D372713#32) (mulf (mulf x x) x))))))

/-- The mean of each row. -/
def meanOf (x : FVec F S128x512 .f32) : FVec F S128x1 .f32 :=
  divf (shapeCast S128x1 (multiReduction .add [1] S128 x 0x00000000#32 reduces_S128x512_S128 (.inl rfl) rfl) shapeCasts_S128_S128x1) (bc S128x1 0x44000000#32)
/-- Each row about its mean, and normalised. -/
def cenOf (x : FVec F S128x512 .f32) : FVec F S128x512 .f32 := subf x (broadcastTo S128x512 (meanOf x) broadcasts_S128x1_S128x512)
def xhatOf (x : FVec F S128x512 .f32) : FVec F S128x512 .f32 :=
  mulf (cenOf x) (broadcastTo S128x512 (rsqrt (addf (meanOf (mulf (cenOf x) (cenOf x))) (bc S128x1 0x3727C5AC#32))) broadcasts_S128x1_S128x512)

/-- The columns of pair `p`. -/
def col (p : Fin 4) (x : FVec F S128x512 .f32) : FVec F S128x128 .f32 := extractStridedSlice S128x128 ![0, 128 * p.val] x (slicesC p)
/-- The two heads of a pair below each other, each on its own half of the columns. -/
def stack (x : FVec F S128x128 .f32) : FVec F S256x128 .bf16 :=
  truncf .bf16 (concatenate S256x128 0 [⟨S128x128, select leftHalf x (bc S128x128 0x00000000#32)⟩, ⟨S128x128, select leftHalf (bc S128x128 0x00000000#32) x⟩] concatenates_S128x128_S128x128_S256x128_d0) bitsLt_bf16_f32

section Gate
variable (g : Gate F)

/-- The normalised second half of the gate's input, without and with the norm's gain and bias. -/
def Gate.xhat : FVec F S128x512 .f32 := xhatOf (geluOf (shapeCast S128x512 g.v shapeCasts_S128x512_S128x512))
def Gate.vgl : FVec F S128x512 .f32 :=
  addf (mulf g.xhat (broadcastTo S128x512 g.gain broadcasts_S1x512_S128x512)) (broadcastTo S128x512 g.shift broadcasts_S1x512_S128x512)
/-- The gradient of what the spatial weights give, in the columns of pair `p`. -/
def Gate.dmix (p : Fin 4) : FVec F S128x128 .f32 :=
  mulf (extf .f32 (shapeCast S128x128 (g.d p) shapeCasts_S128x128_S128x128) bitsLt_bf16_f32) (col p (geluOf (shapeCast S128x512 g.u shapeCasts_S128x512_S128x512)))
/-- The gradient of the spatial weights of pair `p`, one head below the other, and of one head. -/
def Gate.dwPair (p : Fin 4) : FVec F S256x128 .f32 :=
  matmul dot_S256x128_S128x128_S256x128_1_1_0_0_n_n none (stack (g.dmix p)) (truncf .bf16 (col p g.vgl) bitsLt_bf16_f32) (constant S256x128 .f32 0x00000000#32)
def Gate.dw (p : Fin 4) (s : Fin 2) : FVec F S128x128 .f32 :=
  select causal (extractStridedSlice S128x128 ![128 * s.val, 0] (g.dwPair p) (slicesH s)) (bc S128x128 0x00000000#32)
/-- The gradient of the norm's result. -/
def Gate.dv (p : Fin 4) : FVec F S128x128 .f32 :=
  matmul dot_S128x256_S256x128_S128x128_1_0_0_1_n_n none (shapeCast S128x256 (g.wt p) shapeCasts_S1x128x256_S128x256) (stack (g.dmix p)) (constant S128x128 .f32 0x00000000#32)
def Gate.dvgl : FVec F S128x512 .f32 :=
  concatenate S128x512 1 [⟨S128x128, g.dv 0⟩, ⟨S128x128, g.dv 1⟩, ⟨S128x128, g.dv 2⟩, ⟨S128x128, g.dv 3⟩] concatenates_S128x128_S128x128_S128x128_S128x128_S128x512_d1
/-- The chunk's part of the gradients of the norm's gain and bias. -/
def Gate.dgain : FVec F S1x512 .f32 :=
  shapeCast S1x512 (multiReduction .add [0] S512 (mulf g.dvgl g.xhat) 0x00000000#32 reduces_S128x512_S512 (.inl rfl) rfl) shapeCasts_S512_S1x512
def Gate.dshift : FVec F S1x512 .f32 :=
  shapeCast S1x512 (multiReduction .add [0] S512 g.dvgl 0x00000000#32 reduces_S128x512_S512 (.inl rfl) rfl) shapeCasts_S512_S1x512

/-! ## The pieces that a chunk writes -/

/-- The pieces of the gradient of what the spatial weights give, over what was there. -/
def Gate.dmP (p : Fin 4) (old : Vec F S128x128 .f32) : View.Piece (Elt F) S128x512 .f32 :=
  ⟨rC p, shapeCast S128x128 (addf old (g.dmix p)) shapeCasts_S128x128_S128x128⟩
def Gate.dmL (v : View sig .tc .vmem S128x512 .f32) (L : List (View.Piece (Elt F) S128x512 .f32)) : List (View.Piece (Elt F) S128x512 .f32) :=
  let L1 := g.dmP 0 (v.readCov L (rC 0).toLoadRect) :: L
  let L2 := g.dmP 1 (v.readCov L1 (rC 1).toLoadRect) :: L1
  let L3 := g.dmP 2 (v.readCov L2 (rC 2).toLoadRect) :: L2
  g.dmP 3 (v.readCov L3 (rC 3).toLoadRect) :: L3

/-- The pieces of the gradient of the spatial weights. -/
def Gate.wP (p : Fin 4) (s : Fin 2) (h : Fin 8) (old : Vec F S1x128x128 .f32) : View.Piece (Elt F) S8x128x128 .f32 :=
  ⟨rH h, shapeCast S1x128x128 (addf (shapeCast S128x128 old shapeCasts_S1x128x128_S128x128) (g.dw p s)) shapeCasts_S128x128_S1x128x128⟩
def Gate.wL (v : View sig .tc .vmem S8x128x128 .f32) (L : List (View.Piece (Elt F) S8x128x128 .f32)) : List (View.Piece (Elt F) S8x128x128 .f32) :=
  let L1 := g.wP 0 0 0 (v.readCov L (rH 0).toLoadRect) :: L
  let L2 := g.wP 0 1 1 (v.readCov L1 (rH 1).toLoadRect) :: L1
  let L3 := g.wP 1 0 2 (v.readCov L2 (rH 2).toLoadRect) :: L2
  let L4 := g.wP 1 1 3 (v.readCov L3 (rH 3).toLoadRect) :: L3
  let L5 := g.wP 2 0 4 (v.readCov L4 (rH 4).toLoadRect) :: L4
  let L6 := g.wP 2 1 5 (v.readCov L5 (rH 5).toLoadRect) :: L5
  let L7 := g.wP 3 0 6 (v.readCov L6 (rH 6).toLoadRect) :: L6
  g.wP 3 1 7 (v.readCov L7 (rH 7).toLoadRect) :: L7

/-- The piece of the gradient of the norm's gain, and of its bias. -/
def Gate.gP (old : Vec F S1x512 .f32) : View.Piece (Elt F) S1x512 .f32 :=
  ⟨rG, addf (shapeCast S1x512 old shapeCasts_S1x512_S1x512) g.dgain⟩
def Gate.bP (old : Vec F S1x512 .f32) : View.Piece (Elt F) S1x512 .f32 :=
  ⟨rG, addf (shapeCast S1x512 old shapeCasts_S1x512_S1x512) g.dshift⟩
def Gate.gL (v : View sig .tc .vmem S1x512 .f32) (L : List (View.Piece (Elt F) S1x512 .f32)) : List (View.Piece (Elt F) S1x512 .f32) :=
  g.gP (v.readCov L rG.toLoadRect) :: L
def Gate.bL (v : View sig .tc .vmem S1x512 .f32) (L : List (View.Piece (Elt F) S1x512 .f32)) : List (View.Piece (Elt F) S1x512 .f32) :=
  g.bP (v.readCov L rG.toLoadRect) :: L

end Gate

/-- Block `n` of the gradient of the second feed-forward matrix: the squares of the chunk's columns against the cotangent. -/
def ff (M : Mems) (x : Ins F) (n : Fin 4) : FVec F S1024x1024 .f32 :=
  let r : FVec F S512x1024 .bf16 := shapeCast S512x1024 (View.readAt (Elt F) M.i17.view (Rect.unit (s := S512x4096) ![0, 1024 * n.val] S512x1024.size (inbR n)).toLoadRect (M.hi17.unread x.x17)) shapeCasts_S512x1024_S512x1024
  matmul dot_S512x1024_S512x1024_S1024x1024_0_0_1_1_n_n none (mulf r r)
    (shapeCast S512x1024 (View.readAt (Elt F) M.i18.view (Rect.unit (s := S512x1024) ![0, 0] S512x1024.size inb_S512x1024_S512x1024_0_0).toLoadRect (M.hi18.unread x.x18)) shapeCasts_S512x1024_S512x1024)
    (constant S1024x1024 .f32 0x00000000#32)
def ffP (M : Mems) (x : Ins F) (n : Fin 4) (old : Vec F S1024x1024 .f32) : View.Piece (Elt F) S4096x1024 .f32 :=
  ⟨rA n, shapeCast S1024x1024 (addf old (ff M x n)) shapeCasts_S1024x1024_S1024x1024⟩

/-- The four blocks, one after the other, over earlier pieces. -/
def ffL (M : Mems) (x : Ins F) (v : View sig .tc .vmem S4096x1024 .f32) (L : List (View.Piece (Elt F) S4096x1024 .f32)) :
    List (View.Piece (Elt F) S4096x1024 .f32) :=
  let L1 := ffP M x 0 (v.readCov L (rA 0).toLoadRect) :: L
  let L2 := ffP M x 1 (v.readCov L1 (rA 1).toLoadRect) :: L1
  let L3 := ffP M x 2 (v.readCov L2 (rA 2).toLoadRect) :: L2
  ffP M x 3 (v.readCov L3 (rA 3).toLoadRect) :: L3

/-- One more pair of heads in the gradient of the spatial bias: the sums of the rows over each half, in two columns. -/
def biasTile (a b : BitVec 32) (X tile : Vec F S128x128 .f32) : FVec F S128x128 .f32 :=
  let sum (x : FVec F S128x128 .f32) : FVec F S128x128 .f32 :=
    broadcastTo S128x128 (shapeCast S128x1 (shapeCast S128x1 (multiReduction .add [1] S128 x 0x00000000#32 reduces_S128x128_S128 (.inl rfl) rfl) shapeCasts_S128_S128x1) shapeCasts_S128x1_S128x1) broadcasts_S128x1_S128x128
  let lane : IVec S128x128 32 := iota .tc S128x128 32 [1] iota_S128x128_d1_w32
  select (cmpi .eq lane (broadcast S128x128 b)) (sum (select leftHalf (bc S128x128 0x00000000#32) X))
    (select (cmpi .eq lane (broadcast S128x128 a)) (sum (select leftHalf X (bc S128x128 0x00000000#32))) tile)
/-- The gradient of the spatial bias, from the accumulated gradient of what the weights give. -/
def biasOf (X : Fin 4 → Vec F S128x128 .f32) : FVec F S128x128 .f32 :=
  biasTile 6#32 7#32 (X 3) (biasTile 4#32 5#32 (X 2) (biasTile 2#32 3#32 (X 1) (biasTile 0#32 1#32 (X 0) (bc S128x128 0x00000000#32))))

/-! ## The three kinds of points -/

section Points
variable (c : Dev nD) (i : grid0.Coords) (M : Mems) (x : Ins F) (y : Vec F S4096x256 .f32) (k : Kept F) (z : Scr F c)

/-- The transposed spatial weights of each pair of heads. -/
def wtOf (f : BufOf F c wcatT) (p : Fin 4) : Vec F S1x128x256 .bf16 := View.readAt (Elt F) wcatT.view (rT p).toLoadRect f

/-- The first chunk's pieces over what the point before left. -/
def dm0 (g : Gate F) (f : BufOf F c dmix) : List (View.Piece (Elt F) S128x512 .f32) :=
  [g.dmP 3 (View.readAt (Elt F) dmix.view (rC 3).toLoadRect f), g.dmP 2 (View.readAt (Elt F) dmix.view (rC 2).toLoadRect f),
    g.dmP 1 (View.readAt (Elt F) dmix.view (rC 1).toLoadRect f), g.dmP 0 (View.readAt (Elt F) dmix.view (rC 0).toLoadRect f)]
def w0 (g : Gate F) (X : Vec F S8x128x128 .f32) : List (View.Piece (Elt F) S8x128x128 .f32) :=
  let rd : (h : Fin 8) → Vec F S1x128x128 .f32 := fun h => View.readAt (Elt F) M.o4.view (rH h).toLoadRect (M.ho4.unread X)
  [g.wP 3 1 7 (rd 7), g.wP 3 0 6 (rd 6), g.wP 2 1 5 (rd 5), g.wP 2 0 4 (rd 4), g.wP 1 1 3 (rd 3), g.wP 1 0 2 (rd 2), g.wP 0 1 1 (rd 1), g.wP 0 0 0 (rd 0)]
def g0 (g : Gate F) (X : Vec F S1x512 .f32) : List (View.Piece (Elt F) S1x512 .f32) :=
  [g.gP (View.readAt (Elt F) M.o2.view rG.toLoadRect (M.ho2.unread X))]
def b0 (g : Gate F) (X : Vec F S1x512 .f32) : List (View.Piece (Elt F) S1x512 .f32) :=
  [g.bP (View.readAt (Elt F) M.o3.view rG.toLoadRect (M.ho3.unread X))]
/-- The blocks of the feed-forward gradient over what the point before left. -/
def ffR (f : BufOf F c acc) (n : Fin 4) : View.Piece (Elt F) S4096x1024 .f32 :=
  ffP M x n (View.readAt (Elt F) acc.view (rA n).toLoadRect f)

/-- The chunks of a point, and what three more of them write over the first one's pieces. -/
abbrev ch (wt : Fin 4 → Vec F S1x128x256 .bf16) (n : Fin 4) : Gate F := chunk M x wt n
abbrev dm3 (wt : Fin 4 → Vec F S1x128x256 .bf16) (L : List (View.Piece (Elt F) S128x512 .f32)) : List (View.Piece (Elt F) S128x512 .f32) :=
  (ch M x wt 3).dmL dmix.view ((ch M x wt 2).dmL dmix.view ((ch M x wt 1).dmL dmix.view L))
abbrev w3 (wt : Fin 4 → Vec F S1x128x256 .bf16) (L : List (View.Piece (Elt F) S8x128x128 .f32)) : List (View.Piece (Elt F) S8x128x128 .f32) :=
  (ch M x wt 3).wL M.o4.view ((ch M x wt 2).wL M.o4.view ((ch M x wt 1).wL M.o4.view L))
abbrev g3 (wt : Fin 4 → Vec F S1x128x256 .bf16) (L : List (View.Piece (Elt F) S1x512 .f32)) : List (View.Piece (Elt F) S1x512 .f32) :=
  (ch M x wt 3).gL M.o2.view ((ch M x wt 2).gL M.o2.view ((ch M x wt 1).gL M.o2.view L))
abbrev b3 (wt : Fin 4 → Vec F S1x128x256 .bf16) (L : List (View.Piece (Elt F) S1x512 .f32)) : List (View.Piece (Elt F) S1x512 .f32) :=
  (ch M x wt 3).bL M.o3.view ((ch M x wt 2).bL M.o3.view ((ch M x wt 1).bL M.o3.view L))

section Mid
variable (h0 : 0 < (i 0).val) (hF : ¬isFirst i) (hL : ¬isLast i)

theorem mid_g : (midRun c i M h0 hF hL x y k z).2.2.1 = g3 M x (wtOf c z.wt) (g0 M (ch M x (wtOf c z.wt) 0) k.g) := by sl_kernel_rfl
theorem mid_b : (midRun c i M h0 hF hL x y k z).2.2.2.1 = b3 M x (wtOf c z.wt) (b0 M (ch M x (wtOf c z.wt) 0) k.b) := by sl_kernel_rfl
theorem mid_w : (midRun c i M h0 hF hL x y k z).2.2.2.2.1 = w3 M x (wtOf c z.wt) (w0 M (ch M x (wtOf c z.wt) 0) k.w) := by sl_kernel_rfl
theorem mid_dm : (midRun c i M h0 hF hL x y k z).2.2.2.2.2.2.1 = dm3 M x (wtOf c z.wt) (dm0 c (ch M x (wtOf c z.wt) 0) z.dm) := by sl_kernel_rfl
theorem mid_ff : (midRun c i M h0 hF hL x y k z).2.2.2.2.2.2.2.1 = [ffR c M x z.s 3, ffR c M x z.s 2, ffR c M x z.s 1, ffR c M x z.s 0] := by
  sl_kernel_rfl
end Mid

section Last
variable (w : BufOf F c dst) (h0 : 0 < (i 0).val) (hF : ¬isFirst i) (hL : isLast i)

theorem last_g : (lastRun c i M h0 hF hL x y k z w).2.2.1 = g3 M x (wtOf c z.wt) (g0 M (ch M x (wtOf c z.wt) 0) k.g) := by sl_kernel_rfl
theorem last_b : (lastRun c i M h0 hF hL x y k z w).2.2.2.1 = b3 M x (wtOf c z.wt) (b0 M (ch M x (wtOf c z.wt) 0) k.b) := by sl_kernel_rfl
theorem last_w : (lastRun c i M h0 hF hL x y k z w).2.2.2.2.1 = w3 M x (wtOf c z.wt) (w0 M (ch M x (wtOf c z.wt) 0) k.w) := by sl_kernel_rfl
theorem last_bs : (lastRun c i M h0 hF hL x y k z w).2.2.2.2.2.1
    = [⟨Rect.unit (s := S128x128) ![0, 0] S128x128.size inb_S128x128_S128x128_0_0,
        biasOf fun p => dmix.view.readCov (dm3 M x (wtOf c z.wt) (dm0 c (ch M x (wtOf c z.wt) 0) z.dm)) (rC p).toLoadRect⟩] := by sl_kernel_rfl
/-- The accumulated blocks, copied to the result each after it is complete. -/
def copied : BufOf F c dst :=
  let rd (n : Fin 4) (L : List (View.Piece (Elt F) S4096x1024 .f32)) : Vec F S1024x1024 .f32 :=
    View.read (Elt F) (acc.view.slice (rA n)) (acc.view.writes (Elt F) z.s L)
  dst.view.writes (Elt F) w
    [⟨rA 3, rd 3 [ffR c M x z.s 3, ffR c M x z.s 2, ffR c M x z.s 1, ffR c M x z.s 0]⟩, ⟨rA 2, rd 2 [ffR c M x z.s 2, ffR c M x z.s 1, ffR c M x z.s 0]⟩,
      ⟨rA 1, rd 1 [ffR c M x z.s 1, ffR c M x z.s 0]⟩, ⟨rA 0, rd 0 [ffR c M x z.s 0]⟩]
theorem last_ff : (lastRun c i M h0 hF hL x y k z w).2.2.2.2.2.2.2.2.1 = copied c M x z w := by sl_kernel_rfl
end Last

section First
variable (h0 : (i 0).val = 0) (hF : isFirst i) (hL : ¬isLast i)

/-- One head's spatial weights without the positions that come later, transposed. -/
def triT (h : Fin 8) : FVec F S128x128 .f32 :=
  transpose S128x128 [1, 0] (select causal (shapeCast S128x128 (View.readAt (Elt F) M.i14.view (rH h).toLoadRect (M.hi14.unread x.x14)) shapeCasts_S1x128x128_S128x128)
    (bc S128x128 0x00000000#32)) transposes_S128x128_p1_0_S128x128
/-- The two heads of a pair beside each other. -/
def wtP (p : Fin 4) (a b : Fin 8) : View.Piece (Elt F) S4x128x256 .bf16 :=
  ⟨rT p, shapeCast S1x128x256 (truncf .bf16 (concatenate S128x256 1 [⟨S128x128, triT M x a⟩, ⟨S128x128, triT M x b⟩] concatenates_S128x128_S128x128_S128x256_d1) bitsLt_bf16_f32) shapeCasts_S128x256_S1x128x256⟩
def wtL : List (View.Piece (Elt F) S4x128x256 .bf16) := [wtP M x 3 6 7, wtP M x 2 4 5, wtP M x 1 2 3, wtP M x 0 0 1]
/-- The transposed weights as the first point reads them back. -/
def wt1 (p : Fin 4) : Vec F S1x128x256 .bf16 := wcatT.view.readCov (wtL M x) (rT p).toLoadRect

theorem first_wt : (firstRun c i M h0 hF hL x y k z).2.2.2.2.2.2.2.2.1 = wtL M x := by sl_kernel_rfl
theorem first_g : (firstRun c i M h0 hF hL x y k z).2.2.1
    = g3 M x (wt1 M x) ((ch M x (wt1 M x) 0).gL M.o2.view [⟨rG, bc S1x512 0x00000000#32⟩]) := by sl_kernel_rfl
theorem first_b : (firstRun c i M h0 hF hL x y k z).2.2.2.1
    = b3 M x (wt1 M x) ((ch M x (wt1 M x) 0).bL M.o3.view [⟨rG, bc S1x512 0x00000000#32⟩]) := by sl_kernel_rfl
theorem first_w : (firstRun c i M h0 hF hL x y k z).2.2.2.2.1
    = w3 M x (wt1 M x) ((ch M x (wt1 M x) 0).wL M.o4.view
        [⟨Rect.unit (s := S8x128x128) ![0, 0, 0] S8x128x128.size inb_S8x128x128_S8x128x128_0_0_0, bc S8x128x128 0x00000000#32⟩]) := by sl_kernel_rfl
theorem first_dm : (firstRun c i M h0 hF hL x y k z).2.2.2.2.2.2.1
    = dm3 M x (wt1 M x) ((ch M x (wt1 M x) 0).dmL dmix.view
        [⟨Rect.unit (s := S128x512) ![0, 0] S128x512.size inb_S128x512_S128x512_0_0,
          shapeCast S128x512 (bc S128x512 0x00000000#32) shapeCasts_S128x512_S128x512⟩]) := by sl_kernel_rfl
theorem first_ff : (firstRun c i M h0 hF hL x y k z).2.2.2.2.2.2.2.2.2.1
    = ffL M x acc.view [⟨Rect.unit (s := S4096x1024) ![0, 0] S4096x1024.size inb_S4096x1024_S4096x1024_0_0,
        shapeCast S4096x1024 (bc S4096x1024 0x00000000#32) shapeCasts_S4096x1024_S4096x1024⟩] := by sl_kernel_rfl
end First
end Points

end Cert.MixerBwdIdeal.Run

end
-- ==== Proof.MixerBwdReal.lean ====
/-
  What a chunk of the spatial gate computes on finite blocks.
-/
module

public import proofs.«01_k».proof.Proof.MixerBwdLayer
public import proofs.«01_k».proof.Proof.MixerBwdSpec

@[expose] public section

set_option maxRecDepth 16384

noncomputable section

namespace Cert.MixerBwdIdeal.Run

open Cert.MixerBwdIdeal Cert.MixerBwdIdeal.Gen
open Idealize.ShloMosaic Cert.Reals Cert.Layer

/-! ## The chunk's operations on finite blocks -/

@[rify_simps] theorem geluOf_up (a : Mat 128 512) : geluOf (F := Ideal) (f2 a) = f2 (gelu a) := by
  unfold geluOf bc
  simp only [rify_simps]
  rfl
@[rify_simps] theorem meanOf_up (a : Mat 128 512) : meanOf (F := Ideal) (f2 a) = f2 fun i _ => (∑ q, a i q) / 512 := by
  unfold meanOf bc
  simp only [rify_simps]
  exact divf2 _ _ fun _ _ => by norm_num
@[rify_simps] theorem cenOf_up (a : Mat 128 512) : cenOf (F := Ideal) (f2 a) = f2 (cenH a) := by
  unfold cenOf
  simp only [rify_simps]
  rfl
@[rify_simps] theorem xhatOf_up (a : Mat 128 512) : xhatOf (F := Ideal) (f2 a) = f2 (xhatH a) := by
  unfold xhatOf bc
  simp only [rify_simps]
  rw [rsqrt2 (fun i _ => (∑ q, cenH a i q * cenH a i q) / 512 + eps) fun i _ => varH_pos a i]
  simp only [rify_simps]
  rfl

theorem select_left (a b : Mat 128 128) : select leftHalf (f2 a) (f2 b) = f2 fun i l => if l.val < 64 then a i l else b i l := by
  funext i
  obtain ⟨p, q, rfl⟩ : ∃ p q, i = ix2 p q := ⟨_, _, eq_ix2 i⟩
  have e : leftHalf (ix2 p q) = BitVec.ofBool (decide (q.val < 64)) := by
    show IntOp.cmpi .slt (iota .tc S128x128 32 [1] iota_S128x128_d1_w32 (ix2 p q)) 64#32 = _
    rw [iota_single_apply]
    exact WordCmp.cmpi_slt_ofNat (lt_of_lt_of_le q.isLt (by decide)) (by decide)
  show Scalar.select (leftHalf (ix2 p q)) _ _ = _
  rw [e]
  by_cases h : q.val < 64
  · rw [decide_eq_true h]; exact congrArg Real.toEReal (if_pos h).symm
  · rw [decide_eq_false h]; exact congrArg Real.toEReal (if_neg h).symm
theorem select_causal (a b : Mat 128 128) : select causal (f2 a) (f2 b) = f2 fun i k => if k.val ≤ i.val then a i k else b i k := by
  funext i
  obtain ⟨p, q, rfl⟩ : ∃ p q, i = ix2 p q := ⟨_, _, eq_ix2 i⟩
  have e : causal (ix2 p q) = BitVec.ofBool (decide (q.val ≤ p.val)) := by
    show IntOp.cmpi .sle (iota .tc S128x128 32 [1] iota_S128x128_d1_w32 (ix2 p q)) (iota .tc S128x128 32 [0] iota_S128x128_d0_w32 (ix2 p q)) = _
    rw [iota_single_apply, iota_single_apply]
    exact WordCmp.cmpi_sle_ofNat (lt_of_lt_of_le q.isLt (by decide)) (lt_of_lt_of_le p.isLt (by decide))
  show Scalar.select (causal (ix2 p q)) _ _ = _
  rw [e]
  by_cases h : q.val ≤ p.val
  · rw [decide_eq_true h]; exact congrArg Real.toEReal (if_pos h).symm
  · rw [decide_eq_false h]; exact congrArg Real.toEReal (if_neg h).symm

theorem bc_zero : bc (F := Ideal) S128x128 0x00000000#32 = f2 fun _ _ => 0 := splat2 lit_zero

@[rify_simps] theorem col_up (p : Fin 4) (a : Mat 128 512) : col (F := Ideal) p (f2 a) = f2 fun i l => a i (part (128 * p.val) (by omega) l) := by
  unfold col
  funext i
  obtain ⟨r, q, rfl⟩ : ∃ r q, i = ix2 r q := ⟨_, _, eq_ix2 i⟩
  refine (extractStridedSlice_apply ![0, 128 * p.val] (f2 a) _ (ix2 r q) (ix2 r (part (128 * p.val) (by omega) q)) fun d => ?_).trans rfl
  match d with
  | ⟨0, _⟩ => exact (Nat.zero_add _).symm
  | ⟨1, _⟩ => rfl

theorem slice_rows (s : Fin 2) (a : Mat 256 128) : extractStridedSlice S128x128 ![128 * s.val, 0] (f2 a) (slicesH s) = f2 fun i l => a (part (128 * s.val) (by omega) i) l := by
  funext i
  obtain ⟨r, q, rfl⟩ : ∃ r q, i = ix2 r q := ⟨_, _, eq_ix2 i⟩
  refine (extractStridedSlice_apply ![128 * s.val, 0] (f2 a) _ (ix2 r q) (ix2 (part (128 * s.val) (by omega) r) q) fun d => ?_).trans rfl
  match d with
  | ⟨0, _⟩ => rfl
  | ⟨1, _⟩ => exact (Nat.zero_add _).symm

@[rify_simps] theorem stack_up (x : Mat 128 128) : stack (F := Ideal) (f2 x) = bf2 (stackR x) := by
  unfold stack
  rw [bc_zero, select_left, select_left]
  funext i
  obtain ⟨r, q, rfl⟩ : ∃ r q, i = ix2 r q := ⟨_, _, eq_ix2 i⟩
  show concatenate S256x128 0 [⟨S128x128, f2 fun i l => if l.val < 64 then x i l else 0⟩, ⟨S128x128, f2 fun i l => if l.val < 64 then 0 else x i l⟩]
    concatenates_S128x128_S128x128_S256x128_d0 (ix2 r q) = _
  by_cases h : r.val < 128
  · refine (concatenate_pair_apply_left (s₁ := S128x128) (s₂ := S128x128) (0 : Fin 2) _ _ _ (ix2 r q) rfl (ix2 (⟨r.val, h⟩ : Fin 128) q) fun d => ?_).trans ?_
    · match d with
      | ⟨0, _⟩ => rfl
      | ⟨1, _⟩ => rfl
    · exact congrArg Real.toEReal (show _ = stackR x r q by unfold stackR; rw [dif_pos h]; rfl)
  · refine (concatenate_pair_apply_right (s₁ := S128x128) (s₂ := S128x128) (0 : Fin 2) _ _ _ (ix2 r q) rfl rfl (ix2 (⟨r.val - 128, by have := r.isLt; omega⟩ : Fin 128) q) (fun d hd => ?_) ?_).trans ?_
    · match d, hd with
      | ⟨0, _⟩, hd => exact absurd rfl hd
      | ⟨1, _⟩, _ => rfl
    · show r.val - 128 + 128 = r.val; omega
    · exact congrArg Real.toEReal (show _ = stackR x r q by unfold stackR; rw [dif_neg h]; rfl)

/-! ## The chunk on finite blocks -/

/-- A chunk's blocks are the finite ones. -/
structure IsGate (g : Gate Ideal) (r : GateIn) : Prop where
  u : g.u = f2 r.u
  v : g.v = f2 r.v
  d : ∀ p, g.d p = bf2 fun i l => r.d i (part (128 * p.val) (by omega) l)
  wt : ∀ p, g.wt p = bf3 fun _ => pairR (tri (r.w (hd p 0))) (tri (r.w (hd p 1)))
  gain : g.gain = f2 r.gain
  shift : g.shift = f2 r.shift

section
variable {g : Gate Ideal} {r : GateIn} (h : IsGate g r)
include h

theorem xhat_eq : g.xhat = f2 r.xh := by
  unfold Gate.xhat; rw [h.v]; simp only [shapeCast_self, rify_simps]; rfl
theorem vgl_eq : g.vgl = f2 r.vgl := by
  unfold Gate.vgl; rw [xhat_eq h, h.gain, h.shift]; simp only [rify_simps]; rfl
theorem dmix_eq (p : Fin 4) : g.dmix p = f2 fun i l => r.dm i (part (128 * p.val) (by omega) l) := by
  unfold Gate.dmix; rw [h.d, h.u]; simp only [shapeCast_self, rify_simps]; rfl
theorem dwPair_eq (p : Fin 4) : g.dwPair p = f2 fun r' k => ∑ l, stackR (fun i l => r.dm i (part (128 * p.val) (by omega) l)) r' l * r.vgl k (part (128 * p.val) (by omega) l) := by
  unfold Gate.dwPair; rw [dmix_eq h, vgl_eq h]
  simp only [dot_S256x128_S128x128_S256x128_1_1_0_0_n_n, rify_simps, zero_add]
theorem dw_eq (p : Fin 4) (s : Fin 2) : g.dw p s = f2 (r.dw (hd p s)) := by
  unfold Gate.dw; rw [dwPair_eq h, bc_zero, slice_rows, select_causal]
  congr 1
  funext i k
  unfold GateIn.dw tri
  dsimp only
  split
  · match s with
    | 0 =>
      refine (Finset.sum_congr rfl fun l _ => (congrArg (· * _) (stackR_top _ _ i l)).trans (ite_zero_mul _ _ _)).trans ((sum_left fun l => _ * _).trans (Finset.sum_congr rfl fun l _ => ?_))
      rw [show part (128 * p.val) (by omega) (⟨l.val, by omega⟩ : Fin 128) = hcol (hd p 0) l from Fin.ext (by show 128 * p.val + l.val = 64 * (2 * p.val + 0) + l.val; omega)]
    | 1 =>
      refine (Finset.sum_congr rfl fun l _ => (congrArg (· * _) (stackR_bottom _ _ i l)).trans ((ite_mul _ _ _ _).trans (if_congr Iff.rfl (zero_mul _) rfl))).trans ((sum_right fun l => r.dm i (part (128 * p.val) (by omega) l) * r.vgl k (part (128 * p.val) (by omega) l)).trans (Finset.sum_congr rfl fun l _ => ?_))
      rw [show part (128 * p.val) (by omega) (⟨64 + l.val, by omega⟩ : Fin 128) = hcol (hd p 1) l from Fin.ext (by show 128 * p.val + (64 + l.val) = 64 * (2 * p.val + 1) + l.val; omega)]
  · rfl
theorem dv_eq (p : Fin 4) : g.dv p = f2 fun k l => r.dvgl k (part (128 * p.val) (by omega) l) := by
  unfold Gate.dv; rw [dmix_eq h, h.wt]
  simp only [dot_S128x256_S256x128_S128x128_1_0_0_1_n_n, rify_simps, zero_add]
  congr 1
  funext k l
  rw [sum_pair]
  unfold GateIn.dvgl
  by_cases hl : l.val < 64
  · rw [show headOf (part (128 * p.val) (by omega) l) = hd p 0 from Fin.ext (by show (128 * p.val + l.val) / 64 = 2 * p.val + 0; omega)]
    refine (congrArg₂ (· + ·) (Finset.sum_congr rfl fun i _ => ?_) (Finset.sum_eq_zero fun i _ => ?_)).trans (add_zero _)
    · unfold stackR pairR
      rw [dif_pos i.isLt, dif_pos i.isLt, if_pos hl]
    · unfold stackR
      rw [dif_neg (show ¬128 + i.val < 128 by omega), if_pos hl, mul_zero]
  · rw [show headOf (part (128 * p.val) (by omega) l) = hd p 1 from Fin.ext (by show (128 * p.val + l.val) / 64 = 2 * p.val + 1; omega)]
    refine (congrArg₂ (· + ·) (Finset.sum_eq_zero fun i _ => ?_) (Finset.sum_congr rfl fun i _ => ?_)).trans (zero_add _)
    · unfold stackR
      rw [dif_pos i.isLt, if_neg hl, mul_zero]
    · unfold stackR pairR
      have e : (⟨128 + i.val - 128, by omega⟩ : Fin 128) = i := Fin.ext (by show 128 + i.val - 128 = i.val; omega)
      rw [dif_neg (show ¬128 + i.val < 128 by omega), dif_neg (show ¬128 + i.val < 128 by omega), if_neg hl, e]
theorem dvgl_eq : g.dvgl = f2 r.dvgl := by
  unfold Gate.dvgl
  funext i
  obtain ⟨k, j, rfl⟩ : ∃ k j, i = ix2 k j := ⟨_, _, eq_ix2 i⟩
  refine (concatenate_ofFn_apply (t := S128x512) (s₁ := S128x128) (1 : Fin 2) g.dv concatenates_S128x128_S128x128_S128x128_S128x128_S128x512_d1 rfl 128 rfl (ix2 k j)
    (⟨j.val / 128, by have := j.isLt; omega⟩ : Fin 4) rfl (ix2 k (⟨j.val % 128, by omega⟩ : Fin 128)) rfl fun b hb => ?_).trans ?_
  · match b, hb with
    | ⟨0, _⟩, _ => rfl
    | ⟨1, _⟩, hb => exact absurd rfl hb
  · rw [dv_eq h]
    exact congrArg (fun q => (r.dvgl k q : EReal)) (Fin.ext (by show 128 * (j.val / 128) + j.val % 128 = j.val; omega))
theorem dgain_eq : g.dgain = f2 r.dgain := by
  unfold Gate.dgain; rw [dvgl_eq h, xhat_eq h]; simp only [rify_simps]; rfl
theorem dshift_eq : g.dshift = f2 r.dshift := by
  unfold Gate.dshift; rw [dvgl_eq h]; simp only [rify_simps]; rfl
end

end Cert.MixerBwdIdeal.Run

end
-- ==== Proof.MixerBwdPieces.lean ====
/-
  What the accumulators of the gradient kernel of the two mixers hold after a point's pieces, on finite blocks: what was
  there, with the sums over the point's four chunks added.
-/
module

public import proofs.«01_k».proof.Proof.MixerBwdReal

@[expose] public section

set_option maxRecDepth 16384

noncomputable section

namespace Cert.MixerBwdIdeal.Run

open Cert.MixerBwdIdeal Cert.MixerBwdIdeal.Gen Idealize.ShloMosaic Cert.Reals Cert.Layer

/-! ## One more piece -/

theorem mem2 {n m n' m' o q : ℕ} {inb : ∀ d, (![o, q] : Fin 2 → ℕ) d + (![n', m'] : Fin 2 → ℕ) d ≤ (⟨2, ![n, m]⟩ : Shape).size d} {i : Fin n} {j : Fin m}
    (h : ix2 i j ∈ (Rect.unit (s := ⟨2, ![n, m]⟩) ![o, q] ![n', m'] inb).set) : (o ≤ i.val ∧ i.val < o + n') ∧ q ≤ j.val ∧ j.val < q + m' := by
  have h' := Rect.mem_set_unit.mp h
  exact ⟨h' 0, h' 1⟩
/-- A block written over a finite array. -/
theorem canon_step2 {n m n' m' o q : ℕ} {L : List (View.Piece (Elt Ideal) ⟨2, ![n, m]⟩ .f32)} {A : Mat n m} (hL : View.canon L = f2 A)
    (A' : Mat n m) (b : Mat n' m') (inb : ∀ d, (![o, q] : Fin 2 → ℕ) d + (![n', m'] : Fin 2 → ℕ) d ≤ (⟨2, ![n, m]⟩ : Shape).size d)
    (h1 : ∀ i j, b i j = A' (part o (inb20 inb) i) (part q (inb21 inb) j))
    (h2 : ∀ i j, ¬((o ≤ i.val ∧ i.val < o + n') ∧ q ≤ j.val ∧ j.val < q + m') → A i j = A' i j) :
    View.canon ((⟨Rect.unit (s := ⟨2, ![n, m]⟩) ![o, q] ![n', m'] inb, f2 b⟩ : View.Piece (Elt Ideal) ⟨2, ![n, m]⟩ .f32) :: L) = f2 A' := by
  funext y
  obtain ⟨i, j, rfl⟩ : ∃ i j, y = ix2 i j := ⟨_, _, eq_ix2 y⟩
  by_cases hy : (o ≤ i.val ∧ i.val < o + n') ∧ q ≤ j.val ∧ j.val < q + m'
  · have hi : i.val - o < n' := by omega
    have hj : j.val - q < m' := by omega
    let x : (⟨2, ![n', m']⟩ : Shape).Idx := ix2 ⟨i.val - o, hi⟩ ⟨j.val - q, hj⟩
    have e : ix2 i j = (Rect.unit (s := ⟨2, ![n, m]⟩) ![o, q] ![n', m'] inb).emb x := by
      funext d
      match d with
      | ⟨0, _⟩ => exact Fin.ext (by show i.val = o + 1 * (i.val - o); omega)
      | ⟨1, _⟩ => exact Fin.ext (by show j.val = q + 1 * (j.val - q); omega)
    rw [e, View.canon_cons_emb]
    exact agree2 A' b inb h1 _
  · have hm : ix2 i j ∉ (Rect.unit (s := ⟨2, ![n, m]⟩) ![o, q] ![n', m'] inb).set := fun h => hy (mem2 h)
    refine (View.canon_cons_of_not_mem ⟨Rect.unit (s := ⟨2, ![n, m]⟩) ![o, q] ![n', m'] inb, f2 b⟩ L hm).trans ?_
    rw [hL]
    exact congrArg Real.toEReal (h2 i j hy)
/-- A slab written over a finite array. -/
theorem canon_step3 {l n m h : ℕ} {L : List (View.Piece (Elt Ideal) ⟨3, ![l, n, m]⟩ .f32)} {A : Fin l → Mat n m} (hL : View.canon L = f3 A)
    (A' : Fin l → Mat n m) (b : Fin 1 → Mat n m) (inb : ∀ d, (![h, 0, 0] : Fin 3 → ℕ) d + (![1, n, m] : Fin 3 → ℕ) d ≤ (⟨3, ![l, n, m]⟩ : Shape).size d)
    (h1 : ∀ i j, b 0 i j = A' ⟨h, inb 0⟩ i j) (h2 : ∀ k i j, k.val ≠ h → A k i j = A' k i j) :
    View.canon ((⟨Rect.unit (s := ⟨3, ![l, n, m]⟩) ![h, 0, 0] ![1, n, m] inb, f3 b⟩ : View.Piece (Elt Ideal) ⟨3, ![l, n, m]⟩ .f32) :: L) = f3 A' := by
  funext y
  obtain ⟨k, i, j, rfl⟩ : ∃ k i j, y = ix3 k i j := ⟨_, _, _, eq_ix3 y⟩
  by_cases hy : k.val = h
  · have e : ix3 k i j = (Rect.unit (s := ⟨3, ![l, n, m]⟩) ![h, 0, 0] ![1, n, m] inb).emb (ix3 (0 : Fin 1) i j) := by
      funext d
      match d with
      | ⟨0, _⟩ => exact Fin.ext (by show k.val = h + 1 * 0; omega)
      | ⟨1, _⟩ => exact Fin.ext (by show i.val = 0 + 1 * i.val; omega)
      | ⟨2, _⟩ => exact Fin.ext (by show j.val = 0 + 1 * j.val; omega)
    rw [e, View.canon_cons_emb]
    refine Eq.trans ?_ (congrArg (f3 A') e)
    exact congrArg Real.toEReal ((h1 i j).trans (by rw [show (⟨h, inb 0⟩ : Fin l) = k from Fin.ext hy.symm]; rfl))
  · rw [View.canon_cons_of_not_mem _ _ fun hm => hy (by have := (Rect.mem_set_unit (inb := inb)).mp hm 0; exact Nat.le_antisymm (Nat.le_of_lt_succ this.2) this.1), hL]
    exact congrArg Real.toEReal (h2 k i j hy)

/-- A slab that agrees with a finite array. -/
theorem agree3 {l n m h : ℕ} {φ : FTy} (A' : Fin l → Mat n m) (b : Fin 1 → Mat n m)
    (inb : ∀ d, (![h, 0, 0] : Fin 3 → ℕ) d + (![1, n, m] : Fin 3 → ℕ) d ≤ (⟨3, ![l, n, m]⟩ : Shape).size d)
    (h1 : ∀ i j, b 0 i j = A' ⟨h, inb 0⟩ i j) (x : (Rect.unit (s := ⟨3, ![l, n, m]⟩) ![h, 0, 0] ![1, n, m] inb).shape.Idx) :
    up3 (φ := φ) b x = up3 (φ := φ) A' ((Rect.unit (s := ⟨3, ![l, n, m]⟩) ![h, 0, 0] ![1, n, m] inb).emb x) := by
  obtain ⟨k, i, j, rfl⟩ : ∃ (k : Fin 1) (i : Fin n) (j : Fin m), x = ix3 k i j := ⟨_, _, _, eq_ix3 x⟩
  obtain rfl : k = 0 := Subsingleton.elim _ _
  refine (congrArg Real.toEReal (h1 i j)).trans ?_
  have e : ix3 (⟨h, inb 0⟩ : Fin l) i j = (Rect.unit (s := ⟨3, ![l, n, m]⟩) ![h, 0, 0] ![1, n, m] inb).emb (ix3 (0 : Fin 1) i j) := by
    funext d
    match d with
    | ⟨0, _⟩ => exact Fin.ext (by show h = h + 1 * 0; omega)
    | ⟨1, _⟩ => exact Fin.ext (by show i.val = 0 + 1 * i.val; omega)
    | ⟨2, _⟩ => exact Fin.ext (by show j.val = 0 + 1 * j.val; omega)
  exact congrArg (up3 (φ := φ) A') e

theorem readCov_eq_ld {sig : RefSig} {κ : Kind} {sp : Space} {S : Shape} {e : EltTy} (v : View sig κ sp S e) (L : List (View.Piece (Elt Ideal) S e)) (r : Rect S) :
    v.readCov L r.toLoadRect = View.ld (View.canon L) r := View.readCov_eq_canon' v L r.toLoadRect

/-! ## The pieces of one chunk -/

section
variable {g : Gate Ideal} {r : GateIn} (h : IsGate g r)
include h

/-- Column blocks up to the `p`-th, and slabs up to the `k`-th, have the chunk's part added. -/
def upto2 (A D : Mat 128 512) (p : ℕ) : Mat 128 512 := fun i j => if j.val < 128 * p then A i j + D i j else A i j
def upto3 (A D : Fin 8 → Mat 128 128) (k : ℕ) : Fin 8 → Mat 128 128 := fun s i j => if s.val < k then A s i j + D s i j else A s i j

theorem dmP_step (v : View sig .tc .vmem S128x512 .f32) (p : Fin 4) {L} {A : Mat 128 512} (hL : View.canon L = f2 (upto2 A r.dm p.val)) :
    View.canon (g.dmP p (v.readCov L (rC p).toLoadRect) :: L) = f2 (upto2 A r.dm (p.val + 1)) := by
  unfold Gate.dmP
  rw [readCov_eq_ld, hL, dmix_eq h]
  simp only [rC, rH, rG, rify_simps]
  refine canon_step2 hL _ _ _ (fun i j => ?_) fun i j hj => ?_
  · unfold upto2
    rw [part_zero, if_neg (by show ¬128 * p.val + j.val < 128 * p.val; omega), if_pos (by show 128 * p.val + j.val < 128 * (p.val + 1); omega)]
  · unfold upto2
    have : (j.val < 128 * p.val) ↔ j.val < 128 * (p.val + 1) := by omega
    simp only [this]
theorem dmL_eq (v : View sig .tc .vmem S128x512 .f32) {L} {A : Mat 128 512} (hL : View.canon L = f2 A) :
    View.canon (g.dmL v L) = f2 fun i j => A i j + r.dm i j := by
  have e0 : View.canon L = f2 (upto2 A r.dm 0) := hL.trans (congrArg f2 (funext fun i => funext fun j => (if_neg (by omega)).symm))
  refine (dmP_step h v 3 (dmP_step h v 2 (dmP_step h v 1 (dmP_step h v 0 e0)))).trans ?_
  congr 1; funext i j; exact if_pos j.isLt

theorem wP_step (v : View sig .tc .vmem S8x128x128 .f32) (p : Fin 4) (s : Fin 2) (k : Fin 8) (hk : hd p s = k) {L} {A : Fin 8 → Mat 128 128}
    (hL : View.canon L = f3 (upto3 A r.dw k.val)) :
    View.canon (g.wP p s k (v.readCov L (rH k).toLoadRect) :: L) = f3 (upto3 A r.dw (k.val + 1)) := by
  unfold Gate.wP
  rw [readCov_eq_ld, hL, dw_eq h, hk]
  simp only [rC, rH, rG, rify_simps]
  refine canon_step3 hL _ _ _ (fun i j => ?_) fun s i j hs => ?_
  · unfold upto3
    rw [if_neg (by show ¬k.val + 0 < k.val; omega), if_pos (by show k.val < k.val + 1; omega)]
    rfl
  · unfold upto3
    have : s.val < k.val ↔ s.val < k.val + 1 := by omega
    simp only [this]
theorem wL_eq (v : View sig .tc .vmem S8x128x128 .f32) {L} {A : Fin 8 → Mat 128 128} (hL : View.canon L = f3 A) :
    View.canon (g.wL v L) = f3 fun s i j => A s i j + r.dw s i j := by
  have e0 : View.canon L = f3 (upto3 A r.dw 0) := hL.trans (congrArg f3 (funext fun s => funext fun i => funext fun j => (if_neg (by omega)).symm))
  refine (wP_step h v 3 1 7 rfl (wP_step h v 3 0 6 rfl (wP_step h v 2 1 5 rfl (wP_step h v 2 0 4 rfl
    (wP_step h v 1 1 3 rfl (wP_step h v 1 0 2 rfl (wP_step h v 0 1 1 rfl (wP_step h v 0 0 0 rfl e0)))))))).trans ?_
  congr 1; funext s i j; exact if_pos s.isLt

theorem gP_eq (A : Mat 1 512) (L) : View.canon (g.gP (f2 A) :: L) = f2 fun i j => A i j + r.dgain i j := by
  unfold Gate.gP
  rw [dgain_eq h]
  simp only [rC, rH, rG, rify_simps]
theorem bP_eq (A : Mat 1 512) (L) : View.canon (g.bP (f2 A) :: L) = f2 fun i j => A i j + r.dshift i j := by
  unfold Gate.bP
  rw [dshift_eq h]
  simp only [rC, rH, rG, rify_simps]
theorem gL_eq (v : View sig .tc .vmem S1x512 .f32) {L} {A : Mat 1 512} (hL : View.canon L = f2 A) :
    View.canon (g.gL v L) = f2 fun i j => A i j + r.dgain i j := by
  unfold Gate.gL
  rw [readCov_eq_ld, hL]
  simp only [rC, rH, rG, rify_simps]
  exact gP_eq h _ _
theorem bL_eq (v : View sig .tc .vmem S1x512 .f32) {L} {A : Mat 1 512} (hL : View.canon L = f2 A) :
    View.canon (g.bL v L) = f2 fun i j => A i j + r.dshift i j := by
  unfold Gate.bL
  rw [readCov_eq_ld, hL]
  simp only [rC, rH, rG, rify_simps]
  exact bP_eq h _ _

theorem dmP_agree (p : Fin 4) (A : Mat 128 512) (x) :
    (g.dmP p (View.ld (Val := Elt Ideal) (e' := .f32) (f2 A) (rC p))).2 x = f2 (fun i j => A i j + r.dm i j) ((rC p).emb x) := by
  unfold Gate.dmP
  rw [dmix_eq h]
  simp only [rC, rH, rG, rify_simps]
  exact agree2 _ _ _ (fun i j => by rw [part_zero]) x
theorem wP_agree (p : Fin 4) (s : Fin 2) (k : Fin 8) (hk : hd p s = k) (A : Fin 8 → Mat 128 128) (x) :
    (g.wP p s k (View.ld (Val := Elt Ideal) (e' := .f32) (f3 A) (rH k))).2 x = f3 (fun s i j => A s i j + r.dw s i j) ((rH k).emb x) := by
  unfold Gate.wP
  rw [dw_eq h, hk]
  simp only [rC, rH, rG, rify_simps]
  exact agree3 _ _ _ (fun i j => rfl) x
end

/-! ## The four chunks of a point -/

/-- A point's finite blocks. -/
structure PointIn where
  u : Mat 512 512
  v : Mat 512 512
  dc : Mat 512 1024
  w : Fin 8 → Mat 128 128
  gain : Mat 1 512
  shift : Mat 1 512
  r : Mat 512 4096
  dz2 : Mat 512 1024

/-- Chunk `n` of a point. -/
def PointIn.gate (o : PointIn) (n : Fin 4) : GateIn where
  u i j := o.u (part (128 * n.val) (by omega) i) j
  v i j := o.v (part (128 * n.val) (by omega) i) j
  d i j := o.dc (part (128 * n.val) (by omega) i) ⟨j.val, by omega⟩
  w := o.w
  gain := o.gain
  shift := o.shift
def PointIn.gws (o : PointIn) : Mat 4096 1024 := tn (sqr o.r) o.dz2

/-- The blocks that a point reads. -/
structure Reads (x : Ins Ideal) (o : PointIn) : Prop where
  e0 : x.x0 = f2 o.u
  e1 : x.x1 = f2 o.v
  e7 : x.x7 = bf2 o.dc
  e12 : x.x12 = f2 o.gain
  e13 : x.x13 = f2 o.shift
  e14 : x.x14 = f3 o.w
  e17 : x.x17 = bf2 o.r
  e18 : x.x18 = bf2 o.dz2
/-- The transposed weights of the pairs of heads. -/
def IsWt (o : PointIn) (wt : Fin 4 → Vec Ideal S1x128x256 .bf16) : Prop := ∀ p, wt p = bf3 fun _ => pairR (tri (o.w (hd p 0))) (tri (o.w (hd p 1)))

section
variable {c : Dev nD} {M : Mems} {x : Ins Ideal} {o : PointIn} {wt : Fin 4 → Vec Ideal S1x128x256 .bf16} (e : Reads x o) (hw : IsWt o wt)
include e

include hw in
theorem ch_eq (n : Fin 4) : IsGate (ch M x wt n) (o.gate n) where
  u := by
    unfold ch chunk; dsimp only
    simp only [e.e0, View.readAt_eq_ld, Memref.IsWhole.read_unread, part_zero, rify_simps]; rfl
  v := by
    unfold ch chunk; dsimp only
    simp only [e.e1, View.readAt_eq_ld, Memref.IsWhole.read_unread, part_zero, rify_simps]; rfl
  d p := by
    unfold ch chunk; dsimp only
    simp only [e.e7, View.readAt_eq_ld, Memref.IsWhole.read_unread, part_zero, rify_simps]; rfl
  wt := hw
  gain := by
    unfold ch chunk; dsimp only
    simp only [e.e12, View.readAt_eq_ld, Memref.IsWhole.read_unread, part_zero, rify_simps]; rfl
  shift := by
    unfold ch chunk; dsimp only
    simp only [e.e13, View.readAt_eq_ld, Memref.IsWhole.read_unread, part_zero, rify_simps]; rfl

include hw in
theorem dm3_eq {L} {A : Mat 128 512} (hL : View.canon L = f2 fun i j => A i j + (o.gate 0).dm i j) :
    View.canon (dm3 M x wt L) = f2 fun i j => A i j + ∑ n, (o.gate n).dm i j := by
  refine (dmL_eq (ch_eq e hw 3) _ (dmL_eq (ch_eq e hw 2) _ (dmL_eq (ch_eq e hw 1) _ hL))).trans ?_
  congr 1; funext i j; rw [Fin.sum_univ_four]; simp only [add_assoc]
include hw in
theorem w3_eq {L} {A : Fin 8 → Mat 128 128} (hL : View.canon L = f3 fun s i j => A s i j + (o.gate 0).dw s i j) :
    View.canon (w3 M x wt L) = f3 fun s i j => A s i j + ∑ n, (o.gate n).dw s i j := by
  refine (wL_eq (ch_eq e hw 3) _ (wL_eq (ch_eq e hw 2) _ (wL_eq (ch_eq e hw 1) _ hL))).trans ?_
  congr 1; funext s i j; rw [Fin.sum_univ_four]; simp only [add_assoc]
include hw in
theorem g3_eq {L} {A : Mat 1 512} (hL : View.canon L = f2 fun i j => A i j + (o.gate 0).dgain i j) :
    View.canon (g3 M x wt L) = f2 fun i j => A i j + ∑ n, (o.gate n).dgain i j := by
  refine (gL_eq (ch_eq e hw 3) _ (gL_eq (ch_eq e hw 2) _ (gL_eq (ch_eq e hw 1) _ hL))).trans ?_
  congr 1; funext i j; rw [Fin.sum_univ_four]; simp only [add_assoc]
include hw in
theorem b3_eq {L} {A : Mat 1 512} (hL : View.canon L = f2 fun i j => A i j + (o.gate 0).dshift i j) :
    View.canon (b3 M x wt L) = f2 fun i j => A i j + ∑ n, (o.gate n).dshift i j := by
  refine (bL_eq (ch_eq e hw 3) _ (bL_eq (ch_eq e hw 2) _ (bL_eq (ch_eq e hw 1) _ hL))).trans ?_
  congr 1; funext i j; rw [Fin.sum_univ_four]; simp only [add_assoc]

include hw in
theorem dm0_eq {f : BufOf Ideal c dmix} {A : Mat 128 512} (hf : View.read (Elt Ideal) dmix.view f = f2 A) :
    View.canon (dm0 c (ch M x wt 0) f) = f2 fun i j => A i j + (o.gate 0).dm i j := by
  unfold dm0
  simp only [View.readAt_eq_ld, hf]
  refine canon_agree _ _ (View.cover_of_tiled_head _ _ _ rfl) ?_
  simp only [List.forall_mem_cons, List.not_mem_nil, false_imp_iff, implies_true, and_true]
  exact ⟨dmP_agree (ch_eq e hw 0) 3 A, dmP_agree (ch_eq e hw 0) 2 A, dmP_agree (ch_eq e hw 0) 1 A, dmP_agree (ch_eq e hw 0) 0 A⟩
include hw in
theorem w0_eq (A : Fin 8 → Mat 128 128) : View.canon (w0 M (ch M x wt 0) (f3 A)) = f3 fun s i j => A s i j + (o.gate 0).dw s i j := by
  unfold w0
  simp only [View.readAt_eq_ld, Memref.IsWhole.read_unread]
  refine canon_agree _ _ (View.cover_of_tiled_head _ _ _ rfl) ?_
  simp only [List.forall_mem_cons, List.not_mem_nil, false_imp_iff, implies_true, and_true]
  exact ⟨wP_agree (ch_eq e hw 0) 3 1 7 rfl A, wP_agree (ch_eq e hw 0) 3 0 6 rfl A, wP_agree (ch_eq e hw 0) 2 1 5 rfl A, wP_agree (ch_eq e hw 0) 2 0 4 rfl A,
    wP_agree (ch_eq e hw 0) 1 1 3 rfl A, wP_agree (ch_eq e hw 0) 1 0 2 rfl A, wP_agree (ch_eq e hw 0) 0 1 1 rfl A, wP_agree (ch_eq e hw 0) 0 0 0 rfl A⟩
include hw in
theorem g0_eq (A : Mat 1 512) : View.canon (g0 M (ch M x wt 0) (f2 A)) = f2 fun i j => A i j + (o.gate 0).dgain i j := by
  unfold g0
  simp only [View.readAt_eq_ld, Memref.IsWhole.read_unread, rG, rify_simps]
  exact gP_eq (ch_eq e hw 0) A _
include hw in
theorem b0_eq (A : Mat 1 512) : View.canon (b0 M (ch M x wt 0) (f2 A)) = f2 fun i j => A i j + (o.gate 0).dshift i j := by
  unfold b0
  simp only [View.readAt_eq_ld, Memref.IsWhole.read_unread, rG, rify_simps]
  exact bP_eq (ch_eq e hw 0) A _

/-! ## The feed-forward blocks -/

theorem ff_eq (n : Fin 4) : ff M x n = f2 fun p q => o.gws (part (1024 * n.val) (by omega) p) q := by
  unfold ff
  simp only [e.e17, e.e18, View.readAt_eq_ld, Memref.IsWhole.read_unread, dot_S512x1024_S512x1024_S1024x1024_0_0_1_1_n_n, part_zero, zero_add, rify_simps]
  rfl
theorem ffP_agree (n : Fin 4) (A : Mat 4096 1024) (y) :
    (ffP M x n (View.ld (Val := Elt Ideal) (e' := .f32) (f2 A) (rA n))).2 y = f2 (fun p q => A p q + o.gws p q) ((rA n).emb y) := by
  unfold ffP
  rw [ff_eq e]
  simp only [rA, rify_simps]
  exact agree2 _ _ _ (fun i j => by rw [part_zero]) y
theorem ff_over {f : BufOf Ideal c acc} {A : Mat 4096 1024} (hf : View.read (Elt Ideal) acc.view f = f2 A) :
    View.canon [ffR c M x f 3, ffR c M x f 2, ffR c M x f 1, ffR c M x f 0] = f2 fun p q => A p q + o.gws p q := by
  unfold ffR
  simp only [View.readAt_eq_ld, hf]
  refine canon_agree _ _ (View.cover_of_tiled_head _ _ _ rfl) ?_
  simp only [List.forall_mem_cons, List.not_mem_nil, false_imp_iff, implies_true, and_true]
  exact ⟨ffP_agree e 3 A, ffP_agree e 2 A, ffP_agree e 1 A, ffP_agree e 0 A⟩
theorem copied_eq {z : Scr Ideal c} {A : Mat 4096 1024} (hf : View.read (Elt Ideal) acc.view z.s = f2 A) (w : BufOf Ideal c dst) :
    View.read (Elt Ideal) dst.view (copied c M x z w) = f2 fun p q => A p q + o.gws p q := by
  unfold copied ffR ffP
  simp only [read_slice_writes]
  refine (View.read_writes_eq_canon _ _ _ (View.cover_of_tiled_head _ _ _ rfl)).trans ?_
  exact ff_over (M := M) e hf
theorem ffP_step (v : View sig .tc .vmem S4096x1024 .f32) (n : Fin 4) {L}
    (hL : View.canon L = f2 fun p q => if p.val < 1024 * n.val then o.gws p q else 0) :
    View.canon (ffP M x n (v.readCov L (rA n).toLoadRect) :: L) = f2 fun p q => if p.val < 1024 * (n.val + 1) then o.gws p q else 0 := by
  unfold ffP
  rw [readCov_eq_ld, hL, ff_eq e]
  simp only [rA, rify_simps]
  refine canon_step2 hL _ _ _ (fun i j => ?_) fun i j hj => ?_
  · rw [part_zero, if_neg (by show ¬1024 * n.val + i.val < 1024 * n.val; omega), if_pos (by show 1024 * n.val + i.val < 1024 * (n.val + 1); omega), zero_add]
  · have : (i.val < 1024 * n.val) ↔ i.val < 1024 * (n.val + 1) := by omega
    simp only [this]
theorem ffL_eq (v : View sig .tc .vmem S4096x1024 .f32) :
    View.canon (ffL M x v [⟨Rect.unit (s := S4096x1024) ![0, 0] S4096x1024.size inb_S4096x1024_S4096x1024_0_0,
        shapeCast S4096x1024 (bc (F := Ideal) S4096x1024 0x00000000#32) shapeCasts_S4096x1024_S4096x1024⟩]) = f2 o.gws := by
  refine (ffP_step e v 3 (ffP_step e v 2 (ffP_step e v 1 (ffP_step e v 0 ?_)))).trans ?_
  · unfold bc
    simp only [rA, rify_simps]
    exact congrArg f2 (funext fun p => funext fun q => (if_neg (by show ¬p.val < 1024 * 0; omega)).symm)
  · congr 1; funext p q; exact if_pos p.isLt
end

/-! ## The gradient of the spatial bias -/

theorem select_lane (b : ℕ) (hb : b < 128) (s t : Mat 128 128) :
    select (cmpi .eq (iota .tc S128x128 32 [1] iota_S128x128_d1_w32) (broadcast S128x128 (BitVec.ofNat 32 b))) (f2 s) (f2 t) = f2 fun i j => if j.val = b then s i j else t i j := by
  funext i
  obtain ⟨p, q, rfl⟩ : ∃ p q, i = ix2 p q := ⟨_, _, eq_ix2 i⟩
  have e : cmpi .eq (iota .tc S128x128 32 [1] iota_S128x128_d1_w32) (broadcast S128x128 (BitVec.ofNat 32 b)) (ix2 p q) = BitVec.ofBool (decide (q.val = b)) := by
    show IntOp.cmpi .eq (iota .tc S128x128 32 [1] iota_S128x128_d1_w32 (ix2 p q)) (BitVec.ofNat 32 b) = _
    rw [iota_single_apply]
    exact WordCmp.cmpi_eq_ofNat (lt_of_lt_of_le q.isLt (by decide)) (lt_of_lt_of_le hb (by decide))
  show Scalar.select (cmpi .eq (iota .tc S128x128 32 [1] iota_S128x128_d1_w32) (broadcast S128x128 (BitVec.ofNat 32 b)) (ix2 p q)) _ _ = _
  rw [e]
  by_cases h : q.val = b
  · rw [decide_eq_true h]; exact congrArg Real.toEReal (if_pos h).symm
  · rw [decide_eq_false h]; exact congrArg Real.toEReal (if_neg h).symm
theorem biasTile_up (a b : ℕ) (ha : a < 128) (hb : b < 128) (x t : Mat 128 128) :
    biasTile (F := Ideal) (BitVec.ofNat 32 a) (BitVec.ofNat 32 b) (f2 x) (f2 t) = f2 fun i j =>
      if j.val = b then ∑ l : Fin 64, x i ⟨64 + l.val, by omega⟩ else if j.val = a then ∑ l : Fin 64, x i ⟨l.val, by omega⟩ else t i j := by
  unfold biasTile
  dsimp only
  rw [bc_zero, select_left, select_left]
  simp only [rify_simps]
  rw [select_lane a ha, select_lane b hb]
  congr 1; funext i j
  rw [sum_left, sum_right]
/-- The column sums over each head, in the columns below the number of heads. -/
def biasR (D : Mat 128 512) : Mat 128 128 := fun i j => if h : j.val < 8 then ∑ l, D i (hcol ⟨j.val, h⟩ l) else 0
theorem biasOf_up (D : Mat 128 512) : biasOf (F := Ideal) (fun p => f2 fun i l => D i (part (128 * p.val) (by omega) l)) = f2 (biasR D) := by
  unfold biasOf
  rw [bc_zero]
  refine (congrArg _ (congrArg _ (congrArg _ (biasTile_up 0 1 (by decide) (by decide) _ _)))).trans ?_
  refine (congrArg _ (congrArg _ (biasTile_up 2 3 (by decide) (by decide) _ _))).trans ?_
  refine (congrArg _ (biasTile_up 4 5 (by decide) (by decide) _ _)).trans ?_
  refine (biasTile_up 6 7 (by decide) (by decide) _ _).trans ?_
  congr 1; funext i j
  unfold biasR
  have keyR : ∀ p : Fin 4, j.val = 2 * p.val + 1 →
      (∑ l : Fin 64, D i (part (128 * p.val) (by omega) (⟨64 + l.val, by omega⟩ : Fin 128))) = if h : j.val < 8 then ∑ l, D i (hcol ⟨j.val, h⟩ l) else 0 := by
    intro p hj
    rw [dif_pos (by omega)]
    exact Finset.sum_congr rfl fun l _ => congrArg (D i) (Fin.ext (by show 128 * p.val + (64 + l.val) = 64 * j.val + l.val; omega))
  have keyL : ∀ p : Fin 4, j.val = 2 * p.val →
      (∑ l : Fin 64, D i (part (128 * p.val) (by omega) (⟨l.val, by omega⟩ : Fin 128))) = if h : j.val < 8 then ∑ l, D i (hcol ⟨j.val, h⟩ l) else 0 := by
    intro p hj
    rw [dif_pos (by omega)]
    exact Finset.sum_congr rfl fun l _ => congrArg (D i) (Fin.ext (by show 128 * p.val + l.val = 64 * j.val + l.val; omega))
  by_cases h7 : j.val = 7
  · rw [if_pos h7]; exact keyR 3 h7
  by_cases h6 : j.val = 6
  · rw [if_neg h7, if_pos h6]; exact keyL 3 h6
  by_cases h5 : j.val = 5
  · rw [if_neg h7, if_neg h6, if_pos h5]; exact keyR 2 h5
  by_cases h4 : j.val = 4
  · rw [if_neg h7, if_neg h6, if_neg h5, if_pos h4]; exact keyL 2 h4
  by_cases h3 : j.val = 3
  · rw [if_neg h7, if_neg h6, if_neg h5, if_neg h4, if_pos h3]; exact keyR 1 h3
  by_cases h2 : j.val = 2
  · rw [if_neg h7, if_neg h6, if_neg h5, if_neg h4, if_neg h3, if_pos h2]; exact keyL 1 h2
  by_cases h1 : j.val = 1
  · rw [if_neg h7, if_neg h6, if_neg h5, if_neg h4, if_neg h3, if_neg h2, if_pos h1]; exact keyR 0 h1
  by_cases h0 : j.val = 0
  · rw [if_neg h7, if_neg h6, if_neg h5, if_neg h4, if_neg h3, if_neg h2, if_neg h1, if_pos h0]; exact keyL 0 h0
  rw [if_neg h7, if_neg h6, if_neg h5, if_neg h4, if_neg h3, if_neg h2, if_neg h1, if_neg h0, dif_neg (by omega)]

/-! ## The transposed weights of the pairs of heads -/

section
variable {c : Dev nD} {M : Mems} {x : Ins Ideal} {o : PointIn}

/-- All four pairs. -/
def PointIn.wts (o : PointIn) : Fin 4 → Mat 128 256 := fun p => pairR (tri (o.w (hd p 0))) (tri (o.w (hd p 1)))

theorem pair_up (a b : Mat 128 128) :
    concatenate S128x256 1 [⟨S128x128, f2 fun i j => a j i⟩, ⟨S128x128, f2 fun i j => b j i⟩] concatenates_S128x128_S128x128_S128x256_d1 = f2 (pairR a b) := by
  funext i
  obtain ⟨r, q, rfl⟩ : ∃ r q, i = ix2 r q := ⟨_, _, eq_ix2 i⟩
  by_cases h : q.val < 128
  · refine (concatenate_pair_apply_left (s₁ := S128x128) (s₂ := S128x128) (1 : Fin 2) _ _ _ (ix2 r q) rfl (ix2 r (⟨q.val, h⟩ : Fin 128)) fun d => ?_).trans ?_
    · match d with
      | ⟨0, _⟩ => rfl
      | ⟨1, _⟩ => rfl
    · exact congrArg Real.toEReal (show _ = pairR a b r q by unfold pairR; rw [dif_pos h]; rfl)
  · refine (concatenate_pair_apply_right (s₁ := S128x128) (s₂ := S128x128) (1 : Fin 2) _ _ _ (ix2 r q) rfl rfl (ix2 r (⟨q.val - 128, by have := q.isLt; omega⟩ : Fin 128)) (fun d hd => ?_) ?_).trans ?_
    · match d, hd with
      | ⟨0, _⟩, _ => rfl
      | ⟨1, _⟩, hd => exact absurd rfl hd
    · show q.val - 128 + 128 = q.val; omega
    · exact congrArg Real.toEReal (show _ = pairR a b r q by unfold pairR; rw [dif_neg h]; rfl)

theorem triT_eq (e : Reads x o) (h : Fin 8) : triT M x h = f2 fun i j => tri (o.w h) j i := by
  unfold triT
  rw [bc_zero]
  simp only [e.e14, View.readAt_eq_ld, Memref.IsWhole.read_unread, rH, rify_simps]
  rw [select_causal, transpose2]
  rfl
theorem wtP_agree (e : Reads x o) (p : Fin 4) (a b : Fin 8) (ha : hd p 0 = a) (hb : hd p 1 = b) (y) : (wtP M x p a b).2 y = bf3 o.wts ((rT p).emb y) := by
  unfold wtP
  dsimp only
  rw [triT_eq e, triT_eq e, pair_up]
  simp only [rify_simps]
  exact agree3 _ _ _ (fun i j => by rw [← ha, ← hb]; rfl) y
theorem wtL_eq (e : Reads x o) : View.canon (wtL M x) = bf3 o.wts := by
  unfold wtL
  refine canon_agree _ _ (View.cover_of_tiled_head _ _ _ rfl) ?_
  simp only [List.forall_mem_cons, List.not_mem_nil, false_imp_iff, implies_true, and_true]
  exact ⟨wtP_agree e 3 6 7 rfl rfl, wtP_agree e 2 4 5 rfl rfl, wtP_agree e 1 2 3 rfl rfl, wtP_agree e 0 0 1 rfl rfl⟩
theorem ld_wts (p : Fin 4) : View.ld (Val := Elt Ideal) (e' := .bf16) (bf3 o.wts) (rT p) = bf3 fun _ => o.wts p := by
  simp only [rT, part_zero, rify_simps]
  congr 1
  funext k i j
  exact congrArg (fun q => o.wts q i j) (Fin.ext (by show p.val + k.val = p.val; omega))
theorem wt1_eq (e : Reads x o) : IsWt o (wt1 M x) := fun p => by
  unfold wt1
  rw [readCov_eq_ld, wtL_eq e]
  exact ld_wts p
theorem wtOf_eq {f : BufOf Ideal c wcatT} (hf : View.read (Elt Ideal) wcatT.view f = bf3 o.wts) : IsWt o (wtOf c f) := fun p => by
  unfold wtOf
  rw [View.readAt_eq_ld, hf]
  exact ld_wts p
end

end Cert.MixerBwdIdeal.Run

end
-- ==== Proof.MixerBwdFrame.lean ====
/-
  The frame of the gradient kernel of the two mixers.  Between grid points the kernel keeps the gradients of the norm's gain and
  bias, of the spatial weights and of the sinks, and four scratch buffers; the last point copies one of them to HBM.  The
  gradient of keys and values is kept too, but its rows are written only as the points reach them: of that array the frame
  says that it is what the points so far make of some array.
-/
module

public import proofs.«01_k».proof.Proof.MixerBwdRunFirst
public import proofs.«01_k».proof.Proof.MixerBwdRunMid
public import proofs.«01_k».proof.Proof.MixerBwdRunLast
public import Idealize.ShloMosaic.Lib.Pipeline.DatRel
public import Idealize.ShloMosaic.Lib.Pipeline.ArrRel
public import Idealize.ShloMosaic.Lib.Pipeline.FrameValue
public import Idealize.ShloMosaic.Lib.Claim

@[expose] public section

set_option maxRecDepth 16384

noncomputable section

namespace Cert.MixerBwdIdeal.Run

open Cert.MixerBwdIdeal Cert.MixerBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays as the region finds them -/

abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 1600000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- The argument arrays. -/
abbrev argRefs : List (Ref sig .tc) := [main_arg0, main_arg1, main_arg2, main_arg3, main_arg4, main_arg5, main_arg6, main_arg7, main_arg8, main_arg9, main_arg10, main_arg11, main_arg12]

/-- No host operation writes an argument. -/
theorem V_arg (c : Dev nD) {b : Ref sig .tc} (hb : b ∈ argRefs) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))

/-- The block of input `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the points leave -/

theorem coords_val (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega
theorem isFirst_iff (t : Fin cfg0.N) : isFirst (grid0.coords t) ↔ t.val = 0 := by
  have ht : t.val < 8 := Nat.lt_of_lt_of_eq t.isLt N_0
  simp only [isFirst, coords_val]
  word_cmp
theorem isLast_iff (t : Fin cfg0.N) : isLast (grid0.coords t) ↔ t.val = 7 := by
  have ht : t.val < 8 := Nat.lt_of_lt_of_eq t.isLt N_0
  simp only [isLast, coords_val]
  word_cmp

/-- The staging buffers and the inputs' blocks at point `t`. -/
abbrev mems (t : Fin cfg0.N) : Mems :=
  ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), st0_8 t, hstage0_8 ((cfg0.slots t 8).cast nbuf0_8), st0_9 t, hstage0_9 ((cfg0.slots t 9).cast nbuf0_9), st0_10 t, hstage0_10 ((cfg0.slots t 10).cast nbuf0_10), st0_11 t, hstage0_11 ((cfg0.slots t 11).cast nbuf0_11), st0_12 t, hstage0_12 ((cfg0.slots t 12).cast nbuf0_12), st0_13 t, hstage0_13 ((cfg0.slots t 13).cast nbuf0_13), st0_14 t, hstage0_14 ((cfg0.slots t 14).cast nbuf0_14), st0_15 t, hstage0_15 ((cfg0.slots t 15).cast nbuf0_15), st0_16 t, hstage0_16 ((cfg0.slots t 16).cast nbuf0_16), st0_17 t, hstage0_17 ((cfg0.slots t 17).cast nbuf0_17), st0_18 t, hstage0_18 ((cfg0.slots t 18).cast nbuf0_18), st0_19 t, hstage0_19 ((cfg0.slots t 19).cast nbuf0_19), st0_20 t, hstage0_20 ((cfg0.slots t 20).cast nbuf0_20), st0_21 t, hstage0_21 ((cfg0.slots t 21).cast nbuf0_21), st0_22 t, hstage0_22 ((cfg0.slots t 22).cast nbuf0_22), st0_23 t, hstage0_23 ((cfg0.slots t 23).cast nbuf0_23), st0_24 t, hstage0_24 ((cfg0.slots t 24).cast nbuf0_24), st0_25 t, hstage0_25 ((cfg0.slots t 25).cast nbuf0_25)⟩
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- What is kept from one point to the next, apart from the gradient of keys and values. -/
structure St (F : FTy → Type) (c : Dev nD) where
  k : Kept F
  z : Scr F c

/-- What a point leaves: its block, the gradient of keys and values, the gradient of the bias (at the last point), and what is
kept. -/
structure Out (F : FTy → Type) (c : Dev nD) where
  d0 : Vec F S512x1536 .bf16
  kv : Vec F S4096x256 .f32
  bs : Vec F S128x128 .f32
  st : St F c

/-- What a staging buffer holds after pieces are written over `X`. -/
def over {S : Shape} {e : EltTy} {M : Memref sig .tc .vmem S e} (h : M.IsWhole) (X : S.Idx → Elt F e) (L : List (View.Piece (Elt F) S e)) :
    S.Idx → Elt F e := M.view.read (Elt F) (M.view.writes (Elt F) (h.unread X) L)

section Cases

variable (c : Dev nD) (i : grid0.Coords) (M : Mems) (x : Ins F) (y : Vec F S4096x256 .f32) (st : St F c) (w : BufOf F c dst)

/-- What the first point, a middle point and the last point leave over `y` and `st`. -/
def firstOut (h0 : (i 0).val = 0) (hF : isFirst i) (hL : ¬isLast i) : Out F c :=
  let R := firstRun c i M h0 hF hL x y st.k st.z
  ⟨View.canon R.1, over M.ho1 y R.2.1, View.canon [],
    ⟨⟨over M.ho2 st.k.g R.2.2.1, over M.ho3 st.k.b R.2.2.2.1, over M.ho4 st.k.w R.2.2.2.2.1, over M.ho6 st.k.sink R.2.2.2.2.2.1⟩,
      ⟨dmix.view.writes (Elt F) st.z.dm R.2.2.2.2.2.2.1, wcat.view.writes (Elt F) st.z.wc R.2.2.2.2.2.2.2.1,
        wcatT.view.writes (Elt F) st.z.wt R.2.2.2.2.2.2.2.2.1, acc.view.writes (Elt F) st.z.s R.2.2.2.2.2.2.2.2.2.1⟩⟩⟩
def midOut (h0 : 0 < (i 0).val) (hF : ¬isFirst i) (hL : ¬isLast i) : Out F c :=
  let R := midRun c i M h0 hF hL x y st.k st.z
  ⟨View.canon R.1, over M.ho1 y R.2.1, View.canon [],
    ⟨⟨over M.ho2 st.k.g R.2.2.1, over M.ho3 st.k.b R.2.2.2.1, over M.ho4 st.k.w R.2.2.2.2.1, over M.ho6 st.k.sink R.2.2.2.2.2.1⟩,
      ⟨dmix.view.writes (Elt F) st.z.dm R.2.2.2.2.2.2.1, st.z.wc, st.z.wt, acc.view.writes (Elt F) st.z.s R.2.2.2.2.2.2.2.1⟩⟩⟩
def lastOut (h0 : 0 < (i 0).val) (hF : ¬isFirst i) (hL : isLast i) : Out F c :=
  let R := lastRun c i M h0 hF hL x y st.k st.z w
  ⟨View.canon R.1, over M.ho1 y R.2.1, View.canon R.2.2.2.2.2.1,
    ⟨⟨over M.ho2 st.k.g R.2.2.1, over M.ho3 st.k.b R.2.2.2.1, over M.ho4 st.k.w R.2.2.2.2.1, over M.ho6 st.k.sink R.2.2.2.2.2.2.1⟩,
      ⟨dmix.view.writes (Elt F) st.z.dm R.2.2.2.2.2.2.2.1, st.z.wc, st.z.wt, st.z.s⟩⟩⟩

end Cases

theorem pos_of (t : Fin cfg0.N) (h0 : t.val ≠ 0) : 0 < (grid0.coords t 0).val := by rw [coords_val]; omega
theorem nfirst_of (t : Fin cfg0.N) (h0 : t.val ≠ 0) : ¬isFirst (grid0.coords t) := fun h => h0 ((isFirst_iff t).mp h)
theorem nlast_of (t : Fin cfg0.N) (h1 : t.val ≠ 7) : ¬isLast (grid0.coords t) := fun h => h1 ((isLast_iff t).mp h)

/-- What point `t` leaves over what the points before it kept. -/
def step (c : Dev nD) (t : Fin cfg0.N) (y : Vec F S4096x256 .f32) (st : St F c) : Out F c :=
  if h0 : t.val = 0 then
    firstOut c (grid0.coords t) (mems t) (ins m c t) y st ((coords_val t).trans h0) ((isFirst_iff t).mpr h0) (nlast_of t (by omega))
  else if h1 : t.val = 7 then
    lastOut c (grid0.coords t) (mems t) (ins m c t) y st (V m c main_v96_2) (pos_of t h0) (nfirst_of t h0) ((isLast_iff t).mpr h1)
  else
    midOut c (grid0.coords t) (mems t) (ins m c t) y st (pos_of t h0) (nfirst_of t h0) (nlast_of t h1)

/-- What the first `n` points keep. -/
def stAt (c : Dev nD) : ℕ → St F c
  | 0 => ⟨⟨View.canon [], View.canon [], View.canon [], View.canon []⟩, ⟨dmix.view.junk, wcat.view.junk, wcatT.view.junk, acc.view.junk⟩⟩
  | n + 1 => if h : n < cfg0.N then (step m c ⟨n, h⟩ (View.canon []) (stAt c n)).st else stAt c n

/-- What point `t` leaves over the gradient `y` of keys and values. -/
def outsAt (c : Dev nD) (t : Fin cfg0.N) (y : Vec F S4096x256 .f32) : Out F c := step m c t y (stAt m c t.val)

theorem outsAt_first (c : Dev nD) (t : Fin cfg0.N) (y) (h0 : t.val = 0) (hp hF hL) :
    outsAt m c t y = firstOut c (grid0.coords t) (mems t) (ins m c t) y (stAt m c t.val) hp hF hL := dif_pos h0
theorem outsAt_mid (c : Dev nD) (t : Fin cfg0.N) (y) (h0 : t.val ≠ 0) (h1 : t.val ≠ 7) (hp hF hL) :
    outsAt m c t y = midOut c (grid0.coords t) (mems t) (ins m c t) y (stAt m c t.val) hp hF hL := (dif_neg h0).trans (dif_neg h1)
theorem outsAt_last (c : Dev nD) (t : Fin cfg0.N) (y) (h1 : t.val = 7) (hp hF hL) :
    outsAt m c t y = lastOut c (grid0.coords t) (mems t) (ins m c t) y (stAt m c t.val) (V m c main_v96_2) hp hF hL :=
  (dif_neg (by omega)).trans (dif_pos h1)

/-- What a point leaves elsewhere does not depend on the gradient of keys and values. -/
theorem step_indep (c : Dev nD) (t : Fin cfg0.N) (y y' : Vec F S4096x256 .f32) (st : St F c) :
    (step m c t y st).d0 = (step m c t y' st).d0 ∧ (step m c t y st).bs = (step m c t y' st).bs ∧ (step m c t y st).st = (step m c t y' st).st := by
  unfold step
  split
  · unfold firstOut firstRun; dsimp only; exact ⟨rfl, rfl, rfl⟩
  · split
    · unfold lastOut lastRun; dsimp only; exact ⟨rfl, rfl, rfl⟩
    · unfold midOut midRun; dsimp only; exact ⟨rfl, rfl, rfl⟩
theorem stAt_succ (c : Dev nD) (t : Fin cfg0.N) (y) : stAt m c (t.val + 1) = (outsAt m c t y).st :=
  (dif_pos t.isLt).trans (step_indep m c t _ _ _).2.2
theorem d0_eq (c : Dev nD) (t : Fin cfg0.N) (y y') : (outsAt m c t y).d0 = (outsAt m c t y').d0 := (step_indep m c t _ _ _).1
theorem bs_eq (c : Dev nD) (t : Fin cfg0.N) (y y') : (outsAt m c t y).bs = (outsAt m c t y').bs := (step_indep m c t _ _ _).2.1

/-- What the gradient of keys and values may hold after the first `n` points. -/
def Reach (c : Dev nD) : ℕ → Vec F S4096x256 .f32 → Prop
  | 0, _ => True
  | n + 1, X => ∃ Y, Reach c n Y ∧ ∃ h : n < cfg0.N, X = (outsAt m c ⟨n, h⟩ Y).kv

/-- The last point, and the weight gradient that it leaves in HBM. -/
abbrev tLast : Fin cfg0.N := t0_7
def gw (c : Dev nD) : BufOf F c dst :=
  (lastRun c (grid0.coords tLast) (mems tLast) (pos_of tLast (by decide)) (nfirst_of tLast (by decide)) ((isLast_iff tLast).mpr rfl)
    (ins m c tLast) (View.canon []) (stAt m c tLast.val).k (stAt m c tLast.val).z (V m c main_v96_2)).2.2.2.2.2.2.2.2.1

/-! ## The pieces cover what they are written into -/

section Covers

variable (c : Dev nD) (i : grid0.Coords) (M : Mems) (x : Ins F) (y : Vec F S4096x256 .f32) (k : Kept F) (z : Scr F c) (w : BufOf F c dst)

theorem first_cover_d0 (h0 : (i 0).val = 0) (hF : isFirst i) (hL : ¬isLast i) (a : S512x1536.Idx) : ∃ pc ∈ (firstRun c i M h0 hF hL x y k z).1, a ∈ pc.1.set :=
  View.cover_of_tiledBy (firstRun c i M h0 hF hL x y k z).1 ![128, 128] (by sl_kernel_rfl) a
theorem mid_cover_d0 (h0 : 0 < (i 0).val) (hF : ¬isFirst i) (hL : ¬isLast i) (a : S512x1536.Idx) : ∃ pc ∈ (midRun c i M h0 hF hL x y k z).1, a ∈ pc.1.set :=
  View.cover_of_tiledBy (midRun c i M h0 hF hL x y k z).1 ![128, 128] (by sl_kernel_rfl) a
theorem last_cover_d0 (h0 : 0 < (i 0).val) (hF : ¬isFirst i) (hL : isLast i) (a : S512x1536.Idx) : ∃ pc ∈ (lastRun c i M h0 hF hL x y k z w).1, a ∈ pc.1.set :=
  View.cover_of_tiledBy (lastRun c i M h0 hF hL x y k z w).1 ![128, 128] (by sl_kernel_rfl) a
theorem last_cover_bs (h0 : 0 < (i 0).val) (hF : ¬isFirst i) (hL : isLast i) (a : S128x128.Idx) : ∃ pc ∈ (lastRun c i M h0 hF hL x y k z w).2.2.2.2.2.1, a ∈ pc.1.set :=
  View.cover_of_tiledL (lastRun c i M h0 hF hL x y k z w).2.2.2.2.2.1 S128x128.size (by sl_kernel_rfl) a

variable (h0 : (i 0).val = 0) (hF : isFirst i) (hL : ¬isLast i)

theorem first_cover_g (a : S1x512.Idx) : ∃ pc ∈ (firstRun c i M h0 hF hL x y k z).2.2.1, a ∈ pc.1.set :=
  View.cover_of_wholeMem _ (by sl_whole_mem) a
theorem first_cover_b (a : S1x512.Idx) : ∃ pc ∈ (firstRun c i M h0 hF hL x y k z).2.2.2.1, a ∈ pc.1.set :=
  View.cover_of_wholeMem _ (by sl_whole_mem) a
theorem first_cover_w (a : S8x128x128.Idx) : ∃ pc ∈ (firstRun c i M h0 hF hL x y k z).2.2.2.2.1, a ∈ pc.1.set :=
  View.cover_of_wholeMem _ (by sl_whole_mem) a
theorem first_cover_sink (a : S8x128.Idx) : ∃ pc ∈ (firstRun c i M h0 hF hL x y k z).2.2.2.2.2.1, a ∈ pc.1.set :=
  View.cover_of_wholeMem _ (by sl_whole_mem) a
theorem first_cover_dm (a : S128x512.Idx) : ∃ pc ∈ (firstRun c i M h0 hF hL x y k z).2.2.2.2.2.2.1, a ∈ pc.1.set :=
  View.cover_of_wholeMem _ (by sl_whole_mem) a
theorem first_cover_wc (a : S4x128x256.Idx) : ∃ pc ∈ (firstRun c i M h0 hF hL x y k z).2.2.2.2.2.2.2.1, a ∈ pc.1.set :=
  View.cover_of_tiledL (firstRun c i M h0 hF hL x y k z).2.2.2.2.2.2.2.1 S1x128x256.size (by sl_kernel_rfl) a
theorem first_cover_wt (a : S4x128x256.Idx) : ∃ pc ∈ (firstRun c i M h0 hF hL x y k z).2.2.2.2.2.2.2.2.1, a ∈ pc.1.set :=
  View.cover_of_tiledL (firstRun c i M h0 hF hL x y k z).2.2.2.2.2.2.2.2.1 S1x128x256.size (by sl_kernel_rfl) a
theorem first_cover_s (a : S4096x1024.Idx) : ∃ pc ∈ (firstRun c i M h0 hF hL x y k z).2.2.2.2.2.2.2.2.2.1, a ∈ pc.1.set :=
  View.cover_of_wholeMem _ (by sl_whole_mem) a

set_option maxHeartbeats 8000000 in
/-- What the first point writes does not depend on what it finds in the accumulators. -/
theorem first_indep (y' : Vec F S4096x256 .f32) (k' : Kept F) (z' : Scr F c) :
    let R := firstRun c i M h0 hF hL x y k z
    let R' := firstRun c i M h0 hF hL x y' k' z'
    R.2.2.1 = R'.2.2.1 ∧ R.2.2.2.1 = R'.2.2.2.1 ∧ R.2.2.2.2.1 = R'.2.2.2.2.1 ∧ R.2.2.2.2.2.1 = R'.2.2.2.2.2.1 ∧ R.2.2.2.2.2.2.1 = R'.2.2.2.2.2.2.1 ∧ R.2.2.2.2.2.2.2.1 = R'.2.2.2.2.2.2.2.1 ∧ R.2.2.2.2.2.2.2.2.1 = R'.2.2.2.2.2.2.2.2.1 ∧ R.2.2.2.2.2.2.2.2.2.1 = R'.2.2.2.2.2.2.2.2.2.1 := by
  unfold firstRun; dsimp only; exact ⟨rfl, rfl, rfl, rfl, rfl, rfl, rfl, rfl⟩

end Covers

/-- Two whole buffers written by pieces that cover are equal. -/
theorem writes_eq {c : Dev nD} {S : Shape} {e : EltTy} {M : Memref sig .tc .vmem S e} (hw : M.IsWhole) (f g : BufOf F c M) {L L' : List (View.Piece (Elt F) S e)}
    (hL : L = L') (h : ∀ a, ∃ pc ∈ L', a ∈ pc.1.set) : M.view.writes (Elt F) f L = M.view.writes (Elt F) g L' := by
  subst hL
  rw [hw.eq_unread (View.read_writes_eq_canon M.view f L h), hw.eq_unread (View.read_writes_eq_canon M.view g L h)]
theorem pt_writes (c : Dev nD) {S : Shape} {e : EltTy} {M : Memref sig .tc .vmem S e} (hw : M.IsWhole) (f g : BufOf F c M) {L L' : List (View.Piece (Elt F) S e)}
    (hL : L = L') (h : ∀ a, ∃ pc ∈ L', a ∈ pc.1.set) : pt c M (M.view.writes (Elt F) f L) ⊢ (pt c M (M.view.writes (Elt F) g L') : sProp 𝕄) := by
  rw [writes_eq hw f g hL h]

/-! ## The proof data -/

/-- The four cells of the transfers. -/
abbrev osem : Fin 4 → SemLoc sig := fun j => (![SemLoc.dma 41, SemLoc.dma 42, SemLoc.dma 43, SemLoc.dma 44] : Fin 4 → SemLoc sig) j
theorem osemFacts : Pipeline.OwnSemFacts spec0 osem := by decide
theorem cells_eq (c : Dev nD) :
    (Pipeline.ownSems0 (Ix := Unit) (Name := ℕ) (U := Pipeline.UD sig nD τ) (Lvl := ℕ) (Val := Elt F) (τ := τ) osem c : sProp 𝕄)
      = cells c := by
  rw [Pipeline.ownSems0_eq_of_list c osem [0, 1, 2, 3] (by decide) (by decide)]; rfl

/-- The result that the body writes itself. -/
def R0 : Finset (Ref sig .tc) := {main_v96_2}
theorem R0_sub : R0 ⊆ Pipeline.restRefs sig spec0 \ ∅ := by decide

/-- What the result in HBM holds at the end: `gw`; every other array as the region found it. -/
def G (c : Dev nD) (b : Ref sig .tc) : Buf (Elt F) ((c : Thread nD τ).loc b) :=
  if h : main_v96_2 = b then h ▸ gw m c else V m c b
theorem G_dst (c : Dev nD) : G m c main_v96_2 = gw m c := dif_pos rfl

/-- The scratch buffers before the point numbered `n`: anything before the first point. -/
def scrAt (c : Dev nD) (n : ℕ) : sProp 𝕄 :=
  if n = 0 then iprop((∃ f, pt c dmix f) ∗ (∃ f, pt c wcat f) ∗ (∃ f, pt c wcatT f) ∗ (∃ f, pt c acc f))
  else iprop(pt c dmix (stAt m c n).z.dm ∗ pt c wcat (stAt m c n).z.wc ∗ pt c wcatT (stAt m c n).z.wt
    ∗ if n = 8 then iprop(∃ f, pt c acc f) else pt c acc (stAt m c n).z.s)
/-- The result in HBM before the point numbered `n`. -/
def dstAt (c : Dev nD) (n : ℕ) : sProp 𝕄 := pt c dst (if n = 8 then gw m c else V m c main_v96_2)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt m c t (View.canon [])).d0
    | ⟨20, _⟩ => (outsAt m c t (View.canon [])).kv
    | ⟨21, _⟩ => (outsAt m c t (View.canon [])).st.k.g
    | ⟨22, _⟩ => (outsAt m c t (View.canon [])).st.k.b
    | ⟨23, _⟩ => (outsAt m c t (View.canon [])).st.k.w
    | ⟨24, _⟩ => (outsAt m c t (View.canon [])).bs
    | ⟨25, _⟩ => (outsAt m c t (View.canon [])).st.k.sink
    | ⟨_ + 26, h⟩ => absurd h (Nat.not_lt.2 (Nat.le_add_left _ _))
  Φ p := iprop(scrAt m c p.val ∗ (∃ r, prngReg c r) ∗ cells c ∗ dstAt m c p.val)
  q w := Pipeline.shareOf spec0 w
  owed _ := 0

/-- The windows of which the frame says less than their exact contents: the gradient of keys and values, of which it says
`Reach`, and the gradient of the bias, which only the last point writes. -/
def fgt (w : Fin cfg0.W) : Bool := match w with
  | ⟨20, _⟩ => true
  | ⟨24, _⟩ => true
  | _ => false
def Rl (c : Dev nD) (w : Fin cfg0.W) (t : Fin cfg0.N) : ((cfg0.win w).block.Idx → Elt F (cfg0.win w).elt) → Prop := match w with
  | ⟨20, _⟩ => fun X => Reach m c (t.val + 1) X
  | ⟨24, _⟩ => fun X => t.val = 7 → X = (outsAt m c t (View.canon [])).bs
  | _ => fun _ => True
abbrev rdat (c : Dev nD) : Pipeline.RDat τ (Elt F) Unit ℕ (Pipeline.UD sig nD τ) ℕ cfg0 c := (dats m 0 c).toRRel fgt (Rl m c)

theorem A_eq (c : Dev nD) (w : Fin cfg0.W) : (dats m 0 c).A w = V m c (Pipeline.arrRef spec0 w) := by
  dsimp only [dats]

set_option maxHeartbeats 4000000 in
theorem before_in_of (c : Dev nD) (w : Fin 26) (hw : w.val < 19) (hout : (cfg0.win w).isOut = false) (hidle : ∀ i : cfg0.grid.Coords, cfg0.idle w i = false)
    (hclip : ∀ t t' : Fin cfg0.N, (cfg0.win w).index t = (cfg0.win w).index t' →
      (cfg0.win w).clip (cfg0.grid.coords t) = (cfg0.win w).clip (cfg0.grid.coords t'))
    (hcut : ∀ t, (cfg0.win w).cut (cfg0.grid.coords t) ((dats m 0 c).after w t) = (dats m 0 c).blockOf w t)
    (hfetch : ∀ t d, (dats m 0 c).fetched w t d = (dats m 0 c).after w t) (t : Fin cfg0.N) (d) :
    (dats m 0 c).before w t d = (dats m 0 c).after w t :=
  ((dats m 0 c).before_in_eq_fetched w hout hidle hclip hcut t d).trans (hfetch t d)

set_option maxHeartbeats 8000000 in
/-- An input's staging buffer holds its block at every point. -/
theorem before_in (c : Dev nD) : ∀ (w : Fin 26) (_ : w.val < 19) (t : Fin cfg0.N) (d), (dats m 0 c).before w t d = (dats m 0 c).after w t
  | 0, h, t, d | 1, h, t, d | 2, h, t, d | 3, h, t, d | 4, h, t, d | 5, h, t, d | 6, h, t, d | 7, h, t, d | 8, h, t, d | 9, h, t, d | 10, h, t, d | 11, h, t, d | 12, h, t, d | 13, h, t, d | 14, h, t, d | 15, h, t, d | 16, h, t, d | 17, h, t, d | 18, h, t, d =>
    before_in_of m c _ h rfl (fun _ => rfl) (fun _ _ _ => rfl)
      (fun t => by unfold Dat.blockOf; dsimp only [dats]; unfold iblk; rfl)
      (fun t d => by unfold Dat.fetched Dat.blockOf; dsimp only [dats]; unfold iblk; rfl) t d
  | ⟨n + 19, _⟩, h, _, _ => absurd h (Nat.not_lt.2 (Nat.le_add_left _ _))

theorem stAt_pred (c : Dev nD) (t : Fin cfg0.N) (h0 : t.val ≠ 0) (y) :
    (outsAt m c ⟨t.val - 1, Nat.lt_of_le_of_lt (Nat.sub_le _ _) t.isLt⟩ y).st = stAt m c t.val := by
  rw [← stAt_succ]; congr 1; dsimp only; omega

/-- Four gradients are kept in their staging buffers. -/
theorem before_g (c : Dev nD) (t : Fin cfg0.N) (h0 : t.val ≠ 0) (d) : (dats m 0 c).before 21 t d = (stAt m c t.val).k.g := by
  have hN : t.val < 8 := lt_of_lt_of_eq t.isLt (show cfg0.N = 8 from N_0)
  rw [Dat.before_out_kept _ 21 rfl t h0 (Bool.eq_false_iff.mpr fun h => by have := (flush0_21 _).mp h; dsimp only at this; omega)
    (fun _ => rfl) (fun _ _ => rfl), ← stAt_pred m c t h0 (View.canon [])]
  dsimp only [dats]
theorem before_b (c : Dev nD) (t : Fin cfg0.N) (h0 : t.val ≠ 0) (d) : (dats m 0 c).before 22 t d = (stAt m c t.val).k.b := by
  have hN : t.val < 8 := lt_of_lt_of_eq t.isLt (show cfg0.N = 8 from N_0)
  rw [Dat.before_out_kept _ 22 rfl t h0 (Bool.eq_false_iff.mpr fun h => by have := (flush0_22 _).mp h; dsimp only at this; omega)
    (fun _ => rfl) (fun _ _ => rfl), ← stAt_pred m c t h0 (View.canon [])]
  dsimp only [dats]
theorem before_w (c : Dev nD) (t : Fin cfg0.N) (h0 : t.val ≠ 0) (d) : (dats m 0 c).before 23 t d = (stAt m c t.val).k.w := by
  have hN : t.val < 8 := lt_of_lt_of_eq t.isLt (show cfg0.N = 8 from N_0)
  rw [Dat.before_out_kept _ 23 rfl t h0 (Bool.eq_false_iff.mpr fun h => by have := (flush0_23 _).mp h; dsimp only at this; omega)
    (fun _ => rfl) (fun _ _ => rfl), ← stAt_pred m c t h0 (View.canon [])]
  dsimp only [dats]
theorem before_sink (c : Dev nD) (t : Fin cfg0.N) (h0 : t.val ≠ 0) (d) : (dats m 0 c).before 25 t d = (stAt m c t.val).k.sink := by
  have hN : t.val < 8 := lt_of_lt_of_eq t.isLt (show cfg0.N = 8 from N_0)
  rw [Dat.before_out_kept _ 25 rfl t h0 (Bool.eq_false_iff.mpr fun h => by have := (flush0_25 _).mp h; dsimp only at this; omega)
    (fun _ => rfl) (fun _ _ => rfl), ← stAt_pred m c t h0 (View.canon [])]
  dsimp only [dats]

/-- What a point finds of the gradient of keys and values is what the points before it may leave. -/
theorem reach_of_finds (c : Dev nD) (t : Fin cfg0.N) (Y : Vec F S4096x256 .f32) (h : (rdat m c).Finds 20 t Y) : Reach m c t.val Y := by
  have hN : t.val < 8 := lt_of_lt_of_eq t.isLt (show cfg0.N = 8 from N_0)
  by_cases h0 : t.val = 0
  · rw [h0]; exact trivial
  · have h2 := ((rdat m c).finds_of_pos (w := 20) rfl h0 Y).mp h
    have h3 := (dats m 0 c).toRRel_leaves (fgt := fgt) (Rl := Rl m c) (w := 20) rfl (h2.resolve_left fun hf => by
      have := (flush0_20 _).mp hf; dsimp only at this; omega)
    have h4 : Reach m c (t.val - 1 + 1) Y := h3
    rwa [Nat.sub_add_cancel (Nat.pos_of_ne_zero h0)] at h4

/-! ## One point's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ Y, ⌜(rdat m c).Finds 20 t Y⌝ ∗ owns (c : Thread nD τ) (st0_20 t) fullShare Y) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ Y, ⌜(rdat m c).Finds 24 t Y⌝ ∗ owns (c : Thread nD τ) (st0_24 t) fullShare Y) ∗ (∃ d, owns (c : Thread nD τ) (st0_25 t) fullShare ((dats m 0 c).before 25 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ (∃ X, ⌜Rl m c 20 t X⌝ ∗ owns (c : Thread nD τ) (st0_20 t) fullShare X) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ (∃ X, ⌜Rl m c 24 t X⌝ ∗ owns (c : Thread nD τ) (st0_24 t) fullShare X) ∗ owns (c : Thread nD τ) (st0_25 t) fullShare ((dats m 0 c).after 25 t))

theorem owns_eq_held (c : Dev nD) {sp : Space} {S : Shape} {e : EltTy} {M : Memref sig .tc sp S e} (h : M.IsWhole) (X : S.Idx → Elt F e) :
    (owns (c : Thread nD τ) M fullShare X : sProp 𝕄) = held c h X := by
  have h1 : (owns (c : Thread nD τ) M fullShare X : sProp 𝕄) ⊢ held c h X := by
    unfold owns; iintro ⟨%f, %hf, H⟩; obtain rfl := h.eq_unread hf; iexact H
  have h2 : held c h X ⊢ (owns (c : Thread nD τ) M fullShare X : sProp 𝕄) := by
    unfold owns; iintro H; iexists _; isplitr
    · ipureintro; exact h.read_unread _
    iexact H
  exact Entails.antisymm h1 h2
theorem owns_held (c : Dev nD) {sp : Space} {S : Shape} {e : EltTy} {M : Memref sig .tc sp S e} (h : M.IsWhole) (X : S.Idx → Elt F e) :
    (owns (c : Thread nD τ) M fullShare X : sProp 𝕄) ⊢ held c h X := by rw [owns_eq_held c h]
theorem held_owns (c : Dev nD) {sp : Space} {S : Shape} {e : EltTy} {M : Memref sig .tc sp S e} (h : M.IsWhole) (X : S.Idx → Elt F e) :
    held c h X ⊢ (owns (c : Thread nD τ) M fullShare X : sProp 𝕄) := by rw [owns_eq_held c h]
/-- A buffer written by pieces that cover holds what they say. -/
theorem written_owns (c : Dev nD) {S : Shape} {e : EltTy} {M : Memref sig .tc .vmem S e} (L : List (View.Piece (Elt F) S e))
    (h : ∀ y, ∃ pc ∈ L, y ∈ pc.1.set) : written c M L ⊢ (owns (c : Thread nD τ) M fullShare (View.canon L) : sProp 𝕄) := by
  unfold owns; iintro ⟨%f, H⟩; iexists _; isplitr
  swap; · iexact H
  ipureintro; exact View.read_writes_eq_canon _ _ _ h
theorem owns_free (c : Dev nD) {S : Shape} {e : EltTy} {M : Memref sig .tc .vmem S e} (X : S.Idx → Elt F e) :
    (owns (c : Thread nD τ) M fullShare X : sProp 𝕄) ⊢ free c M := by
  unfold owns; iintro ⟨%f, -, H⟩; iexists f; iexact H

/-- Pieces written over given contents; over any contents, where they cover. -/
theorem onto_owns (c : Dev nD) {S : Shape} {e : EltTy} {M : Memref sig .tc .vmem S e} (h : M.IsWhole) (X : S.Idx → Elt F e)
    (L : List (View.Piece (Elt F) S e)) : onto c h X L ⊢ (owns (c : Thread nD τ) M fullShare (over h X L) : sProp 𝕄) := by
  unfold owns; iintro H; iexists _; isplitr
  swap; · iexact H
  ipureintro; rfl
theorem onto_owns_cover (c : Dev nD) {S : Shape} {e : EltTy} {M : Memref sig .tc .vmem S e} (h : M.IsWhole) (X X' : S.Idx → Elt F e)
    {L L' : List (View.Piece (Elt F) S e)} (hL : L = L') (hc : ∀ a, ∃ pc ∈ L', a ∈ pc.1.set) :
    onto c h X L ⊢ (owns (c : Thread nD τ) M fullShare (over h X' L') : sProp 𝕄) := by
  subst hL
  unfold owns; iintro H; iexists _; isplitr
  swap; · iexact H
  ipureintro; unfold over; rw [View.read_writes_eq_canon _ _ _ hc, View.read_writes_eq_canon _ _ _ hc]
/-- The inputs' staging buffers, before and after. -/
abbrev insOwned (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t))
theorem ins_in (c : Dev nD) (t : Fin cfg0.N) : insOwned m c t ⊢ insPts c (mems t) (ins m c t) := by
  unfold insOwned insPts
  rw [owns_eq_held c (mems t).hi0, owns_eq_held c (mems t).hi1, owns_eq_held c (mems t).hi2, owns_eq_held c (mems t).hi3, owns_eq_held c (mems t).hi4, owns_eq_held c (mems t).hi5, owns_eq_held c (mems t).hi6, owns_eq_held c (mems t).hi7, owns_eq_held c (mems t).hi8, owns_eq_held c (mems t).hi9, owns_eq_held c (mems t).hi10, owns_eq_held c (mems t).hi11, owns_eq_held c (mems t).hi12, owns_eq_held c (mems t).hi13, owns_eq_held c (mems t).hi14, owns_eq_held c (mems t).hi15, owns_eq_held c (mems t).hi16, owns_eq_held c (mems t).hi17, owns_eq_held c (mems t).hi18]
theorem ins_out (c : Dev nD) (t : Fin cfg0.N) : insPts c (mems t) (ins m c t) ⊢ insOwned m c t := by
  unfold insOwned insPts
  rw [owns_eq_held c (mems t).hi0, owns_eq_held c (mems t).hi1, owns_eq_held c (mems t).hi2, owns_eq_held c (mems t).hi3, owns_eq_held c (mems t).hi4, owns_eq_held c (mems t).hi5, owns_eq_held c (mems t).hi6, owns_eq_held c (mems t).hi7, owns_eq_held c (mems t).hi8, owns_eq_held c (mems t).hi9, owns_eq_held c (mems t).hi10, owns_eq_held c (mems t).hi11, owns_eq_held c (mems t).hi12, owns_eq_held c (mems t).hi13, owns_eq_held c (mems t).hi14, owns_eq_held c (mems t).hi15, owns_eq_held c (mems t).hi16, owns_eq_held c (mems t).hi17, owns_eq_held c (mems t).hi18]
set_option maxHeartbeats 4000000 in
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hp : (grid0.coords t 0).val = 0 := (coords_val t).trans h0
  have hF : isFirst (grid0.coords t) := (isFirst_iff t).mpr h0
  have hL : ¬isLast (grid0.coords t) := nlast_of t (by omega)
  have ha : scrAt m c t.val = iprop((∃ f, pt c dmix f) ∗ (∃ f, pt c wcat f) ∗ (∃ f, pt c wcatT f) ∗ (∃ f, pt c acc f)) := by rw [scrAt, if_pos h0]
  have ha' : scrAt m c (t.val + 1) = iprop(pt c dmix (outsAt m c t (View.canon [])).st.z.dm ∗ pt c wcat (outsAt m c t (View.canon [])).st.z.wc ∗ pt c wcatT (outsAt m c t (View.canon [])).st.z.wt ∗ pt c acc (outsAt m c t (View.canon [])).st.z.s) := by
    rw [scrAt, if_neg (by omega), if_neg (by omega), stAt_succ m c t (View.canon [])]
  have hd : dstAt m c t.val = pt c dst (V m c main_v96_2) := by rw [dstAt, if_neg (by omega)]
  have hd' : dstAt m c (t.val + 1) = pt c dst (V m c main_v96_2) := by rw [dstAt, if_neg (by omega)]
  unfold bodyPre bodyPost
  rw [show (dats m 0 c).Φ t.castSucc = iprop(scrAt m c t.val ∗ (∃ r, prngReg c r) ∗ cells c ∗ dstAt m c t.val) from rfl,
    show (dats m 0 c).Φ t.succ = iprop(scrAt m c (t.val + 1) ∗ (∃ r, prngReg c r) ∗ cells c ∗ dstAt m c (t.val + 1)) from rfl, ha, ha', hd, hd']
  rw [show (dats m 0 c).owesAt () t.succ = (dats m 0 c).owesAt () t.castSucc from rfl]
  simp only [before_in m c _ (show ((0 : Fin 26).val < 19) by decide), before_in m c _ (show ((1 : Fin 26).val < 19) by decide), before_in m c _ (show ((2 : Fin 26).val < 19) by decide), before_in m c _ (show ((3 : Fin 26).val < 19) by decide), before_in m c _ (show ((4 : Fin 26).val < 19) by decide), before_in m c _ (show ((5 : Fin 26).val < 19) by decide), before_in m c _ (show ((6 : Fin 26).val < 19) by decide), before_in m c _ (show ((7 : Fin 26).val < 19) by decide), before_in m c _ (show ((8 : Fin 26).val < 19) by decide), before_in m c _ (show ((9 : Fin 26).val < 19) by decide), before_in m c _ (show ((10 : Fin 26).val < 19) by decide), before_in m c _ (show ((11 : Fin 26).val < 19) by decide), before_in m c _ (show ((12 : Fin 26).val < 19) by decide), before_in m c _ (show ((13 : Fin 26).val < 19) by decide), before_in m c _ (show ((14 : Fin 26).val < 19) by decide), before_in m c _ (show ((15 : Fin 26).val < 19) by decide), before_in m c _ (show ((16 : Fin 26).val < 19) by decide), before_in m c _ (show ((17 : Fin 26).val < 19) by decide), before_in m c _ (show ((18 : Fin 26).val < 19) by decide)]
  dsimp only [dats]
  iintro ⟨⟨⟨⟨%f26, H26⟩, ⟨%f27, H27⟩, ⟨%f28, H28⟩, ⟨%f29, H29⟩⟩, Hr, Hq, HD⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩, ⟨%d21, H21⟩, ⟨%d22, H22⟩, ⟨%d23, H23⟩, ⟨%Y24, -, H24⟩, ⟨%d25, H25⟩⟩
  have hR : Rl m c 20 t ((outsAt m c t Y).kv) := ⟨Y, reach_of_finds m c t Y hY, t.isLt, rfl⟩
  have hB : ∀ X, Rl m c 24 t X := fun X h => absurd h (by omega)
  rw [d0_eq m c t _ Y, ← stAt_succ m c t (View.canon []), stAt_succ m c t Y]
  rw [outsAt_first m c t _ h0 hp hF hL] at hR ⊢
  unfold firstOut at hR ⊢
  iapply ((firstRun c (grid0.coords t) (mems t) hp hF hL (ins m c t) Y ⟨(dats m 0 c).before 21 t d21, (dats m 0 c).before 22 t d22, (dats m 0 c).before 23 t d23, (dats m 0 c).before 25 t d25⟩ ⟨f26, f27, f28, f29⟩).2.2.2.2.2.2.2.2.2.2 _)
  isplitl [H0 H1 H2 H3 H4 H5 H6 H7 H8 H9 H10 H11 H12 H13 H14 H15 H16 H17 H18]
  · iapply (ins_in m c t)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iapply owns_free; iexact H19
  isplitl [H20]; · iapply (owns_held c (mems t).ho1); iexact H20
  isplitl [H21]; · iapply (owns_held c (mems t).ho2); iexact H21
  isplitl [H22]; · iapply (owns_held c (mems t).ho3); iexact H22
  isplitl [H23]; · iapply (owns_held c (mems t).ho4); iexact H23
  isplitl [H24]; · iapply owns_free; iexact H24
  isplitl [H25]; · iapply (owns_held c (mems t).ho6); iexact H25
  isplitl [H26]; · iexact H26
  isplitl [H27]; · iexact H27
  isplitl [H28]; · iexact H28
  isplitl [H29]; · iexact H29
  iintro ⟨HI, H19, H20, H21, H22, H23, ⟨%f24, H24⟩, H25, H26, H27, H28, H29⟩
  ihave HI := (ins_out m c t) $$ HI
  icases HI with ⟨H0, H1, H2, H3, H4, H5, H6, H7, H8, H9, H10, H11, H12, H13, H14, H15, H16, H17, H18⟩
  have hI := first_indep c (grid0.coords t) (mems t) (ins m c t) Y ⟨(dats m 0 c).before 21 t d21, (dats m 0 c).before 22 t d22, (dats m 0 c).before 23 t d23, (dats m 0 c).before 25 t d25⟩ ⟨f26, f27, f28, f29⟩ hp hF hL Y (stAt m c t.val).k (stAt m c t.val).z
  isplitl [H26 H27 H28 H29 Hr Hq HD]
  · isplitl [H26 H27 H28 H29]
    · isplitl [H26]; · iapply (pt_writes c (Memref.isWhole_whole _) _ _ hI.2.2.2.2.1 (first_cover_dm c (grid0.coords t) (mems t) (ins m c t) _ _ _ hp hF hL)); iexact H26
      isplitl [H27]; · iapply (pt_writes c (Memref.isWhole_whole _) _ _ hI.2.2.2.2.2.1 (first_cover_wc c (grid0.coords t) (mems t) (ins m c t) _ _ _ hp hF hL)); iexact H27
      isplitl [H28]; · iapply (pt_writes c (Memref.isWhole_whole _) _ _ hI.2.2.2.2.2.2.1 (first_cover_wt c (grid0.coords t) (mems t) (ins m c t) _ _ _ hp hF hL)); iexact H28
      iapply (pt_writes c (Memref.isWhole_whole _) _ _ hI.2.2.2.2.2.2.2 (first_cover_s c (grid0.coords t) (mems t) (ins m c t) _ _ _ hp hF hL)); iexact H29
    isplitl [Hr]; · iexact Hr
    isplitl [Hq]; · iexact Hq
    iexact HD
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (written_owns c _ (first_cover_d0 c (grid0.coords t) (mems t) (ins m c t) _ _ _ hp hF hL)); iexact H19
  isplitl [H20]
  · iexists _; isplitr; · ipureintro; exact hR
    iapply (onto_owns c (mems t).ho1); iexact H20
  isplitl [H21]; · iapply (onto_owns_cover c (mems t).ho2 _ _ hI.1 (first_cover_g c (grid0.coords t) (mems t) (ins m c t) _ _ _ hp hF hL)); iexact H21
  isplitl [H22]; · iapply (onto_owns_cover c (mems t).ho3 _ _ hI.2.1 (first_cover_b c (grid0.coords t) (mems t) (ins m c t) _ _ _ hp hF hL)); iexact H22
  isplitl [H23]; · iapply (onto_owns_cover c (mems t).ho4 _ _ hI.2.2.1 (first_cover_w c (grid0.coords t) (mems t) (ins m c t) _ _ _ hp hF hL)); iexact H23
  isplitl [H24]
  · iexists ((st0_24 t).view.read (Elt F) f24); isplitr; · ipureintro; exact hB _
    unfold owns; iexists f24; isplitr; · ipureintro; rfl
    iexact H24
  iapply (onto_owns_cover c (mems t).ho6 _ _ hI.2.2.2.1 (first_cover_sink c (grid0.coords t) (mems t) (ins m c t) _ _ _ hp hF hL)); iexact H25
set_option maxHeartbeats 4000000 in
theorem sound_mid (c : Dev nD) (t : Fin cfg0.N) (h0 : t.val ≠ 0) (h1 : t.val ≠ 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hp := pos_of t h0
  have hF := nfirst_of t h0
  have hL := nlast_of t h1
  have ha : scrAt m c t.val = iprop(pt c dmix (stAt m c t.val).z.dm ∗ pt c wcat (stAt m c t.val).z.wc ∗ pt c wcatT (stAt m c t.val).z.wt ∗ pt c acc (stAt m c t.val).z.s) := by rw [scrAt, if_neg h0, if_neg (by omega)]
  have ha' : scrAt m c (t.val + 1) = iprop(pt c dmix (outsAt m c t (View.canon [])).st.z.dm ∗ pt c wcat (outsAt m c t (View.canon [])).st.z.wc ∗ pt c wcatT (outsAt m c t (View.canon [])).st.z.wt ∗ pt c acc (outsAt m c t (View.canon [])).st.z.s) := by
    rw [scrAt, if_neg (by omega), if_neg (by omega), stAt_succ m c t (View.canon [])]
  have hd : dstAt m c t.val = pt c dst (V m c main_v96_2) := by rw [dstAt, if_neg (by omega)]
  have hd' : dstAt m c (t.val + 1) = pt c dst (V m c main_v96_2) := by rw [dstAt, if_neg (by omega)]
  unfold bodyPre bodyPost
  rw [show (dats m 0 c).Φ t.castSucc = iprop(scrAt m c t.val ∗ (∃ r, prngReg c r) ∗ cells c ∗ dstAt m c t.val) from rfl,
    show (dats m 0 c).Φ t.succ = iprop(scrAt m c (t.val + 1) ∗ (∃ r, prngReg c r) ∗ cells c ∗ dstAt m c (t.val + 1)) from rfl, ha, ha', hd, hd']
  rw [show (dats m 0 c).owesAt () t.succ = (dats m 0 c).owesAt () t.castSucc from rfl]
  simp only [before_in m c _ (show ((0 : Fin 26).val < 19) by decide), before_in m c _ (show ((1 : Fin 26).val < 19) by decide), before_in m c _ (show ((2 : Fin 26).val < 19) by decide), before_in m c _ (show ((3 : Fin 26).val < 19) by decide), before_in m c _ (show ((4 : Fin 26).val < 19) by decide), before_in m c _ (show ((5 : Fin 26).val < 19) by decide), before_in m c _ (show ((6 : Fin 26).val < 19) by decide), before_in m c _ (show ((7 : Fin 26).val < 19) by decide), before_in m c _ (show ((8 : Fin 26).val < 19) by decide), before_in m c _ (show ((9 : Fin 26).val < 19) by decide), before_in m c _ (show ((10 : Fin 26).val < 19) by decide), before_in m c _ (show ((11 : Fin 26).val < 19) by decide), before_in m c _ (show ((12 : Fin 26).val < 19) by decide), before_in m c _ (show ((13 : Fin 26).val < 19) by decide), before_in m c _ (show ((14 : Fin 26).val < 19) by decide), before_in m c _ (show ((15 : Fin 26).val < 19) by decide), before_in m c _ (show ((16 : Fin 26).val < 19) by decide), before_in m c _ (show ((17 : Fin 26).val < 19) by decide), before_in m c _ (show ((18 : Fin 26).val < 19) by decide)]
  simp only [before_g m c t h0, before_b m c t h0, before_w m c t h0, before_sink m c t h0]
  dsimp only [dats]
  iintro ⟨⟨⟨H26, H27, H28, H29⟩, Hr, Hq, HD⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩, ⟨%d21, H21⟩, ⟨%d22, H22⟩, ⟨%d23, H23⟩, ⟨%Y24, -, H24⟩, ⟨%d25, H25⟩⟩
  have hR : Rl m c 20 t ((outsAt m c t Y).kv) := ⟨Y, reach_of_finds m c t Y hY, t.isLt, rfl⟩
  have hB : ∀ X, Rl m c 24 t X := fun X h => absurd h (by omega)
  rw [d0_eq m c t _ Y, ← stAt_succ m c t (View.canon []), stAt_succ m c t Y]
  rw [outsAt_mid m c t _ h0 h1 hp hF hL] at hR ⊢
  unfold midOut at hR ⊢
  iapply ((midRun c (grid0.coords t) (mems t) hp hF hL (ins m c t) Y (stAt m c t.val).k (stAt m c t.val).z).2.2.2.2.2.2.2.2 _)
  isplitl [H0 H1 H2 H3 H4 H5 H6 H7 H8 H9 H10 H11 H12 H13 H14 H15 H16 H17 H18]
  · iapply (ins_in m c t)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iapply owns_free; iexact H19
  isplitl [H20]; · iapply (owns_held c (mems t).ho1); iexact H20
  isplitl [H21]; · iapply (owns_held c (mems t).ho2); iexact H21
  isplitl [H22]; · iapply (owns_held c (mems t).ho3); iexact H22
  isplitl [H23]; · iapply (owns_held c (mems t).ho4); iexact H23
  isplitl [H24]; · iapply owns_free; iexact H24
  isplitl [H25]; · iapply (owns_held c (mems t).ho6); iexact H25
  isplitl [H26]; · iexact H26
  isplitl [H27]; · iexact H27
  isplitl [H28]; · iexact H28
  isplitl [H29]; · iexact H29
  iintro ⟨HI, H19, H20, H21, H22, H23, ⟨%f24, H24⟩, H25, H26, H27, H28, H29⟩
  ihave HI := (ins_out m c t) $$ HI
  icases HI with ⟨H0, H1, H2, H3, H4, H5, H6, H7, H8, H9, H10, H11, H12, H13, H14, H15, H16, H17, H18⟩
  isplitl [H26 H27 H28 H29 Hr Hq HD]
  · isplitl [H26 H27 H28 H29]
    · isplitl [H26]; · iexact H26
      isplitl [H27]; · iexact H27
      isplitl [H28]; · iexact H28
      iexact H29
    isplitl [Hr]; · iexact Hr
    isplitl [Hq]; · iexact Hq
    iexact HD
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (written_owns c _ (mid_cover_d0 c (grid0.coords t) (mems t) (ins m c t) _ _ _ hp hF hL)); iexact H19
  isplitl [H20]
  · iexists _; isplitr; · ipureintro; exact hR
    iapply (onto_owns c (mems t).ho1); iexact H20
  isplitl [H21]; · iapply (onto_owns c (mems t).ho2); iexact H21
  isplitl [H22]; · iapply (onto_owns c (mems t).ho3); iexact H22
  isplitl [H23]; · iapply (onto_owns c (mems t).ho4); iexact H23
  isplitl [H24]
  · iexists ((st0_24 t).view.read (Elt F) f24); isplitr; · ipureintro; exact hB _
    unfold owns; iexists f24; isplitr; · ipureintro; rfl
    iexact H24
  iapply (onto_owns c (mems t).ho6); iexact H25
set_option maxHeartbeats 4000000 in
theorem sound_last (c : Dev nD) (t : Fin cfg0.N) (h1 : t.val = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  obtain rfl : t = tLast := Fin.ext h1
  have h0 : tLast.val ≠ 0 := by decide
  have hp := pos_of tLast h0
  have hF := nfirst_of tLast h0
  have hL := (isLast_iff tLast).mpr h1
  have ha : scrAt m c tLast.val = iprop(pt c dmix (stAt m c tLast.val).z.dm ∗ pt c wcat (stAt m c tLast.val).z.wc ∗ pt c wcatT (stAt m c tLast.val).z.wt ∗ pt c acc (stAt m c tLast.val).z.s) := by rw [scrAt, if_neg h0, if_neg (by omega)]
  have ha' : scrAt m c (tLast.val + 1) = iprop(pt c dmix (outsAt m c tLast (View.canon [])).st.z.dm ∗ pt c wcat (outsAt m c tLast (View.canon [])).st.z.wc ∗ pt c wcatT (outsAt m c tLast (View.canon [])).st.z.wt ∗ (∃ f, pt c acc f)) := by
    rw [scrAt, if_neg (by omega), if_pos (by decide), stAt_succ m c tLast (View.canon [])]
  have hd : dstAt m c tLast.val = pt c dst (V m c main_v96_2) := by rw [dstAt, if_neg (by omega)]
  have hd' : dstAt m c (tLast.val + 1) = pt c dst (gw m c) := by rw [dstAt, if_pos (by decide)]
  unfold bodyPre bodyPost
  rw [show (dats m 0 c).Φ tLast.castSucc = iprop(scrAt m c tLast.val ∗ (∃ r, prngReg c r) ∗ cells c ∗ dstAt m c tLast.val) from rfl,
    show (dats m 0 c).Φ tLast.succ = iprop(scrAt m c (tLast.val + 1) ∗ (∃ r, prngReg c r) ∗ cells c ∗ dstAt m c (tLast.val + 1)) from rfl, ha, ha', hd, hd']
  unfold Dat.owesAt Pipeline.owesWithin
  rw [show (dats m 0 c).owed tLast.castSucc = 0 from rfl, show (dats m 0 c).owed tLast.succ = 0 from rfl]
  simp only [before_in m c _ (show ((0 : Fin 26).val < 19) by decide), before_in m c _ (show ((1 : Fin 26).val < 19) by decide), before_in m c _ (show ((2 : Fin 26).val < 19) by decide), before_in m c _ (show ((3 : Fin 26).val < 19) by decide), before_in m c _ (show ((4 : Fin 26).val < 19) by decide), before_in m c _ (show ((5 : Fin 26).val < 19) by decide), before_in m c _ (show ((6 : Fin 26).val < 19) by decide), before_in m c _ (show ((7 : Fin 26).val < 19) by decide), before_in m c _ (show ((8 : Fin 26).val < 19) by decide), before_in m c _ (show ((9 : Fin 26).val < 19) by decide), before_in m c _ (show ((10 : Fin 26).val < 19) by decide), before_in m c _ (show ((11 : Fin 26).val < 19) by decide), before_in m c _ (show ((12 : Fin 26).val < 19) by decide), before_in m c _ (show ((13 : Fin 26).val < 19) by decide), before_in m c _ (show ((14 : Fin 26).val < 19) by decide), before_in m c _ (show ((15 : Fin 26).val < 19) by decide), before_in m c _ (show ((16 : Fin 26).val < 19) by decide), before_in m c _ (show ((17 : Fin 26).val < 19) by decide), before_in m c _ (show ((18 : Fin 26).val < 19) by decide)]
  simp only [before_g m c tLast h0, before_b m c tLast h0, before_w m c tLast h0, before_sink m c tLast h0]
  dsimp only [dats]
  iintro ⟨⟨⟨H26, H27, H28, H29⟩, Hr, Hq, HD⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩, ⟨%d21, H21⟩, ⟨%d22, H22⟩, ⟨%d23, H23⟩, ⟨%Y24, -, H24⟩, ⟨%d25, H25⟩⟩
  have hR : Rl m c 20 tLast ((outsAt m c tLast Y).kv) := ⟨Y, reach_of_finds m c tLast Y hY, tLast.isLt, rfl⟩
  have hB : Rl m c 24 tLast ((outsAt m c tLast Y).bs) := fun _ => bs_eq m c tLast _ _
  rw [d0_eq m c tLast _ Y, ← stAt_succ m c tLast (View.canon []), stAt_succ m c tLast Y]
  rw [outsAt_last m c tLast _ h1 hp hF hL] at hR hB ⊢
  unfold lastOut at hR hB ⊢
  unfold gw
  iapply ((lastRun c (grid0.coords tLast) (mems tLast) hp hF hL (ins m c tLast) Y (stAt m c tLast.val).k (stAt m c tLast.val).z (V m c main_v96_2)).2.2.2.2.2.2.2.2.2 W _)
  isplitl [H0 H1 H2 H3 H4 H5 H6 H7 H8 H9 H10 H11 H12 H13 H14 H15 H16 H17 H18]
  · iapply (ins_in m c tLast)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iapply owns_free; iexact H19
  isplitl [H20]; · iapply (owns_held c (mems tLast).ho1); iexact H20
  isplitl [H21]; · iapply (owns_held c (mems tLast).ho2); iexact H21
  isplitl [H22]; · iapply (owns_held c (mems tLast).ho3); iexact H22
  isplitl [H23]; · iapply (owns_held c (mems tLast).ho4); iexact H23
  isplitl [H24]; · iapply owns_free; iexact H24
  isplitl [H25]; · iapply (owns_held c (mems tLast).ho6); iexact H25
  isplitl [H26]; · iexact H26
  isplitl [H27]; · iexact H27
  isplitl [H28]; · iexact H28
  isplitl [H29]; · iexact H29
  isplitl [Hq]; · iexact Hq
  isplitl [HD]; · iexact HD
  isplitl [HW]; · iexact HW
  iintro ⟨HI, H19, H20, H21, H22, H23, H24, H25, H26, H27, H28, ⟨%s, H29⟩, Hq, HD, ⟨%W', HW⟩⟩
  ihave HI := (ins_out m c tLast) $$ HI
  icases HI with ⟨H0, H1, H2, H3, H4, H5, H6, H7, H8, H9, H10, H11, H12, H13, H14, H15, H16, H17, H18⟩
  isplitl [H26 H27 H28 H29 Hr Hq HD]
  · isplitl [H26 H27 H28 H29]
    · isplitl [H26]; · iexact H26
      isplitl [H27]; · iexact H27
      isplitl [H28]; · iexact H28
      iexists s; iexact H29
    isplitl [Hr]; · iexact Hr
    isplitl [Hq]; · iexact Hq
    iexact HD
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iapply (written_owns c _ (last_cover_d0 c (grid0.coords tLast) (mems tLast) (ins m c tLast) _ _ _ _ hp hF hL)); iexact H19
  isplitl [H20]
  · iexists _; isplitr; · ipureintro; exact hR
    iapply (onto_owns c (mems tLast).ho1); iexact H20
  isplitl [H21]; · iapply (onto_owns c (mems tLast).ho2); iexact H21
  isplitl [H22]; · iapply (onto_owns c (mems tLast).ho3); iexact H22
  isplitl [H23]; · iapply (onto_owns c (mems tLast).ho4); iexact H23
  isplitl [H24]
  · iexists _; isplitr; · ipureintro; exact hB
    iapply (written_owns c _ (last_cover_bs c (grid0.coords tLast) (mems tLast) (ins m c tLast) _ _ _ _ hp hF hL)); iexact H24
  iapply (onto_owns c (mems tLast).ho6); iexact H25
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val = 7
    · exact sound_last m c t h1
    · exact sound_mid m c t h0 h1

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run -/

set_option maxHeartbeats 4000000 in
theorem phi_in (c : Dev nD) : Pipeline.ΦDRG osem spec0 ∅ R0 (V m) (V m) c ⊢ (dats m 0 c).Φ 0 := by
  rw [Pipeline.ΦDRG_eq, scopedRest0_eq, cells_eq, R0, Pipeline.routed_singleton]
  rw [show (dats m 0 c).Φ 0 = iprop(((∃ f, pt c dmix f) ∗ (∃ f, pt c wcat f) ∗ (∃ f, pt c wcatT f) ∗ (∃ f, pt c acc f)) ∗ (∃ r, prngReg c r) ∗ cells c ∗ pt c dst (V m c main_v96_2)) from rfl]
  iintro ⟨HS, Hr, Hq, -, HD⟩
  isplitl [HS]; · iexact HS
  isplitl [Hr]; · iexact Hr
  isplitl [Hq]; · iexact Hq
  iexact HD
set_option maxHeartbeats 4000000 in
theorem phi_out (c : Dev nD) : (dats m 0 c).Φ (Fin.last cfg0.N) ⊢ Pipeline.ΦDRG osem spec0 ∅ R0 (V m) (G m) c := by
  rw [Pipeline.ΦDRG_eq, scopedRest0_eq, cells_eq, R0, Pipeline.routed_singleton, G_dst]
  rw [show (dats m 0 c).Φ (Fin.last cfg0.N) = iprop((pt c dmix (stAt m c 8).z.dm ∗ pt c wcat (stAt m c 8).z.wc ∗ pt c wcatT (stAt m c 8).z.wt ∗ (∃ f, pt c acc f))
    ∗ (∃ r, prngReg c r) ∗ cells c ∗ pt c dst (gw m c)) from rfl]
  iintro ⟨⟨H26, H27, H28, H29⟩, Hr, Hq, HD⟩
  isplitl [H26 H27 H28 H29]
  · isplitl [H26]; · iexists _; iexact H26
    isplitl [H27]; · iexists _; iexact H27
    isplitl [H28]; · iexists _; iexact H28
    iexact H29
  isplitl [Hr]; · iexact Hr
  isplitl [Hq]; · iexact Hq
  isplitr; · rw [bigSep_empty]; iempintro
  iexact HD

set_option maxHeartbeats 4000000 in
set_option backward.isDefEq.respectTransparency.types false in
theorem run_main : θ_run defs (onTc (τ := τ) (main (F := F))) (s₀ m ρ)
    (fun r => Pipeline.RDat.FramePostRG cfg0 (rdat m) R0 (V m) (G m) r ∧ r.2.sem = fun _ => 0) :=
  Pipeline.RDat.θ_run_frame_dmaRG_shared (Q' := _) cfgs (0 : Fin 1) launch₀0 osem defs₀ Variants.none (rdat m) osemFacts ∅ R0 (Finset.empty_subset _) R0_sub m ρ main
    (hbody := fun c => (body_obligation m c).toRRel) (hq := fun _ _ _ => rfl)
    (howed := fun _ _ => rfl) (V := V m) (hmain := hmain m Variants.none) (hA := A_eq m) (G := G m)
    (hin := phi_in m) (hout := phi_out m)

set_option maxHeartbeats 4000000 in
/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_arg m c (by decide)),
      ((h.1.toR c).2 main_arg1 (Finset.mem_sdiff.mpr ⟨Pipeline.mem_restRefs_of main_arg1 (by decide) (by decide), by decide⟩)).trans (V_arg m c (by decide)),
      ((h.1.toR c).2 main_arg2 (Finset.mem_sdiff.mpr ⟨Pipeline.mem_restRefs_of main_arg2 (by decide) (by decide), by decide⟩)).trans (V_arg m c (by decide)),
      (h.1.toR.arr_in c 12 rfl).trans ((A_eq m c 12).trans (V_arg m c (by decide))),
      (h.1.toR.arr_in c 13 rfl).trans ((A_eq m c 13).trans (V_arg m c (by decide))),
      ((h.1.toR c).2 main_arg5 (Finset.mem_sdiff.mpr ⟨Pipeline.mem_restRefs_of main_arg5 (by decide) (by decide), by decide⟩)).trans (V_arg m c (by decide)),
      ((h.1.toR c).2 main_arg6 (Finset.mem_sdiff.mpr ⟨Pipeline.mem_restRefs_of main_arg6 (by decide) (by decide), by decide⟩)).trans (V_arg m c (by decide)),
      ((h.1.toR c).2 main_arg7 (Finset.mem_sdiff.mpr ⟨Pipeline.mem_restRefs_of main_arg7 (by decide) (by decide), by decide⟩)).trans (V_arg m c (by decide)),
      ((h.1.toR c).2 main_arg8 (Finset.mem_sdiff.mpr ⟨Pipeline.mem_restRefs_of main_arg8 (by decide) (by decide), by decide⟩)).trans (V_arg m c (by decide)),
      ((h.1.toR c).2 main_arg9 (Finset.mem_sdiff.mpr ⟨Pipeline.mem_restRefs_of main_arg9 (by decide) (by decide), by decide⟩)).trans (V_arg m c (by decide)),
      ((h.1.toR c).2 main_arg10 (Finset.mem_sdiff.mpr ⟨Pipeline.mem_restRefs_of main_arg10 (by decide) (by decide), by decide⟩)).trans (V_arg m c (by decide)),
      ((h.1.toR c).2 main_arg11 (Finset.mem_sdiff.mpr ⟨Pipeline.mem_restRefs_of main_arg11 (by decide) (by decide), by decide⟩)).trans (V_arg m c (by decide)),
      ((h.1.toR c).2 main_arg12 (Finset.mem_sdiff.mpr ⟨Pipeline.mem_restRefs_of main_arg12 (by decide) (by decide), by decide⟩)).trans (V_arg m c (by decide))⟩, h.2⟩) (run_main m ρ)

end Cert.MixerBwdIdeal.Run

end
-- ==== Proof.MixerBwdPoint.lean ====
/-
  What one grid point of the gradient kernel of the two mixers leaves for the spatial gate and the second feed-forward matrix:
  the accumulated sums with the sums over the point's four chunks added (from zero at the first point).
-/
module

public import proofs.«01_k».proof.Proof.MixerBwdPieces
public import proofs.«01_k».proof.Proof.MixerBwdFrame

@[expose] public section

set_option maxRecDepth 16384

noncomputable section

namespace Cert.MixerBwdIdeal.Run

open Cert.MixerBwdIdeal Cert.MixerBwdIdeal.Gen Idealize.ShloMosaic Cert.Reals Cert.Layer

/-- The accumulated sums: of the norm's gain and bias, of the spatial weights, of what the weights give, and of the second
feed-forward matrix. -/
structure Sums where
  g : Mat 1 512
  b : Mat 1 512
  w : Fin 8 → Mat 128 128
  dm : Mat 128 512
  s : Mat 4096 1024

/-- A point's sums added. -/
def Sums.add (S : Sums) (o : PointIn) : Sums where
  g i j := S.g i j + ∑ n, (o.gate n).dgain i j
  b i j := S.b i j + ∑ n, (o.gate n).dshift i j
  w h i j := S.w h i j + ∑ n, (o.gate n).dw h i j
  dm i j := S.dm i j + ∑ n, (o.gate n).dm i j
  s i j := S.s i j + o.gws i j
def Sums.zero : Sums := ⟨fun _ _ => 0, fun _ _ => 0, fun _ _ _ => 0, fun _ _ => 0, fun _ _ => 0⟩

/-- What is kept holds these sums, and the transposed weights. -/
structure Holds {c : Dev nD} (st : St Ideal c) (S : Sums) (W : Fin 4 → Mat 128 256) : Prop where
  g : st.k.g = f2 S.g
  b : st.k.b = f2 S.b
  w : st.k.w = f3 S.w
  dm : View.read (Elt Ideal) dmix.view st.z.dm = f2 S.dm
  wt : View.read (Elt Ideal) wcatT.view st.z.wt = bf3 W
  s : View.read (Elt Ideal) acc.view st.z.s = f2 S.s

variable {c : Dev nD} {i : grid0.Coords} {M : Mems} {x : Ins Ideal} {y : Vec Ideal S4096x256 .f32} {o : PointIn} {st : St Ideal c} {S : Sums}

theorem over_eq {S' : Shape} {e : EltTy} {M : Memref sig .tc .vmem S' e} (h : M.IsWhole) (X Y : S'.Idx → Elt Ideal e) (L : List (View.Piece (Elt Ideal) S' e))
    (hc : ∀ y, ∃ p ∈ L, y ∈ p.1.set) (hL : View.canon L = Y) : over h X L = Y := (View.read_writes_eq_canon _ _ _ hc).trans hL

theorem cover_append {S' : Shape} {e : EltTy} (A L : List (View.Piece (Elt Ideal) S' e)) (h : ∀ y, ∃ p ∈ A, y ∈ p.1.set) (y) : ∃ p ∈ A ++ L, y ∈ p.1.set :=
  let ⟨p, hp, hy⟩ := h y
  ⟨p, List.mem_append_left _ hp, hy⟩

section
variable {wt : Fin 4 → Vec Ideal S1x128x256 .bf16}
theorem cover_g3 (L) (a : S1x512.Idx) : ∃ p ∈ g3 M x wt L, a ∈ p.1.set := cover_append [_] _ (View.cover_of_tiled_head _ _ _ rfl) a
theorem cover_b3 (L) (a : S1x512.Idx) : ∃ p ∈ b3 M x wt L, a ∈ p.1.set := cover_append [_] _ (View.cover_of_tiled_head _ _ _ rfl) a
theorem cover_w3 (L) (a : S8x128x128.Idx) : ∃ p ∈ w3 M x wt L, a ∈ p.1.set := cover_append [_, _, _, _, _, _, _, _] _ (View.cover_of_tiled_head _ _ _ rfl) a
theorem cover_dm3 (L) (a : S128x512.Idx) : ∃ p ∈ dm3 M x wt L, a ∈ p.1.set := cover_append [_, _, _, _] _ (View.cover_of_tiled_head _ _ _ rfl) a
theorem cover_ffL (v) (L) (a : S4096x1024.Idx) : ∃ p ∈ ffL M x v L, a ∈ p.1.set := cover_append [_, _, _, _] _ (View.cover_of_tiled_head _ _ _ rfl) a
end

theorem first_kwt (e : Reads x o) (h0 hF hL) : View.canon (firstRun c i M h0 hF hL x y st.k st.z).2.2.2.2.2.2.2.2.1 = bf3 o.wts :=
  Eq.trans (congrArg (fun L : List (View.Piece (Elt Ideal) S4x128x256 .bf16) => View.canon L) (first_wt c i M x y st.k st.z h0 hF hL)) (wtL_eq e)
theorem mid_ks (e : Reads x o) (hs : Holds st S o.wts) (h0 hF hL) :
    View.read (Elt Ideal) acc.view (acc.view.writes (Elt Ideal) st.z.s (midRun c i M h0 hF hL x y st.k st.z).2.2.2.2.2.2.2.1) = f2 (S.add o).s := by
  rw [mid_ff]
  exact (View.read_writes_eq_canon _ _ _ (View.cover_of_tiled_head _ _ _ rfl)).trans (ff_over e hs.s)
theorem first_ks (e : Reads x o) (h0 hF hL) : View.canon (firstRun c i M h0 hF hL x y st.k st.z).2.2.2.2.2.2.2.2.2.1 = f2 (Sums.zero.add o).s := by
  rw [first_ff, ffL_eq e]
  exact congrArg f2 (funext fun p => funext fun q => (zero_add _).symm)

set_option maxHeartbeats 4000000 in
theorem first_holds (e : Reads x o) (h0 hF hL) : Holds (firstOut c i M x y st h0 hF hL).st (Sums.zero.add o) o.wts where
  g := over_eq _ _ _ _ (first_cover_g c i M x y st.k st.z h0 hF hL) (by
    rw [first_g]
    exact g3_eq e (wt1_eq e) (gL_eq (ch_eq e (wt1_eq e) 0) _ (by unfold bc; simp only [rG, rify_simps]; rfl)))
  b := over_eq _ _ _ _ (first_cover_b c i M x y st.k st.z h0 hF hL) (by
    rw [first_b]
    exact b3_eq e (wt1_eq e) (bL_eq (ch_eq e (wt1_eq e) 0) _ (by unfold bc; simp only [rG, rify_simps]; rfl)))
  w := over_eq _ _ _ _ (first_cover_w c i M x y st.k st.z h0 hF hL) (by
    rw [first_w]
    exact w3_eq e (wt1_eq e) (wL_eq (ch_eq e (wt1_eq e) 0) _ ((View.canon_cons_unit_lit (S := S8x128x128) inb_S8x128x128_S8x128x128_0_0_0 _ [] (fun a => by fin_cases a <;> rfl)).trans (funext fun _ => lit_zero))))
  dm := by
    refine (View.read_writes_eq_canon _ _ _ (first_cover_dm c i M x y st.k st.z h0 hF hL)).trans ?_
    rw [first_dm]
    exact dm3_eq e (wt1_eq e) (dmL_eq (ch_eq e (wt1_eq e) 0) _ (by unfold bc; simp only [rify_simps]; rfl))
  wt := (View.read_writes_eq_canon _ _ _ (first_cover_wt c i M x y st.k st.z h0 hF hL)).trans (first_kwt e h0 hF hL)
  s := (View.read_writes_eq_canon _ _ _ (first_cover_s c i M x y st.k st.z h0 hF hL)).trans (first_ks e h0 hF hL)

set_option maxHeartbeats 4000000 in
theorem mid_holds (e : Reads x o) (hs : Holds st S o.wts) (h0 hF hL) : Holds (midOut c i M x y st h0 hF hL).st (S.add o) o.wts where
  g := by
    have hw := wtOf_eq (c := c) hs.wt
    refine over_eq _ _ _ _ (fun a => ?_) ?_
    · rw [mid_g]; exact cover_g3 _ a
    · rw [mid_g, hs.g]; exact g3_eq e hw (g0_eq e hw _)
  b := by
    have hw := wtOf_eq (c := c) hs.wt
    refine over_eq _ _ _ _ (fun a => ?_) ?_
    · rw [mid_b]; exact cover_b3 _ a
    · rw [mid_b, hs.b]; exact b3_eq e hw (b0_eq e hw _)
  w := by
    have hw := wtOf_eq (c := c) hs.wt
    refine over_eq _ _ _ _ (fun a => ?_) ?_
    · rw [mid_w]; exact cover_w3 _ a
    · rw [mid_w, hs.w]; exact w3_eq e hw (w0_eq e hw _)
  dm := by
    have hw := wtOf_eq (c := c) hs.wt
    refine (View.read_writes_eq_canon _ _ _ fun a => ?_).trans ?_
    · rw [mid_dm]; exact cover_dm3 _ a
    · rw [mid_dm]; exact dm3_eq e hw (dm0_eq e hw hs.dm)
  wt := hs.wt
  s := mid_ks (y := y) e hs h0 hF hL

section Last
variable (e : Reads x o) (hs : Holds st S o.wts) (w : BufOf Ideal c dst) (h0 : 0 < (i 0).val) (hF : ¬isFirst i) (hL : isLast i)
include e hs

theorem last_kg : (lastOut c i M x y st w h0 hF hL).st.k.g = f2 (S.add o).g := by
  have hw := wtOf_eq (c := c) hs.wt
  refine over_eq _ _ _ _ (fun a => ?_) ?_
  · rw [last_g]; exact cover_g3 _ a
  · rw [last_g, hs.g]; exact g3_eq e hw (g0_eq e hw _)
theorem last_kb : (lastOut c i M x y st w h0 hF hL).st.k.b = f2 (S.add o).b := by
  have hw := wtOf_eq (c := c) hs.wt
  refine over_eq _ _ _ _ (fun a => ?_) ?_
  · rw [last_b]; exact cover_b3 _ a
  · rw [last_b, hs.b]; exact b3_eq e hw (b0_eq e hw _)
theorem last_kw : (lastOut c i M x y st w h0 hF hL).st.k.w = f3 (S.add o).w := by
  have hw := wtOf_eq (c := c) hs.wt
  refine over_eq _ _ _ _ (fun a => ?_) ?_
  · rw [last_w]; exact cover_w3 _ a
  · rw [last_w, hs.w]; exact w3_eq e hw (w0_eq e hw _)
theorem last_kbs : (lastOut c i M x y st w h0 hF hL).bs = f2 (biasR (S.add o).dm) := by
  have hw := wtOf_eq (c := c) hs.wt
  show View.canon (lastRun c i M h0 hF hL x y st.k st.z w).2.2.2.2.2.1 = _
  rw [last_bs]
  refine (View.canon_cons_unit_lit (S := S128x128) inb_S128x128_S128x128_0_0 _ [] (fun a => by fin_cases a <;> rfl)).trans ?_
  refine Eq.trans (congrArg biasOf (funext fun p => ?_)) (biasOf_up (S.add o).dm)
  rw [readCov_eq_ld, dm3_eq e hw (dm0_eq e hw hs.dm)]
  simp only [rC, part_zero, rify_simps]
  rfl
theorem last_kff : View.read (Elt Ideal) dst.view (lastRun c i M h0 hF hL x y st.k st.z w).2.2.2.2.2.2.2.2.1 = f2 (S.add o).s := by
  rw [last_ff]
  exact copied_eq e hs.s w
end Last

end Cert.MixerBwdIdeal.Run

end
-- ==== Proof.MixerBwdReads.lean ====
/-
  What the gradient kernel of the two mixers reads for the spatial gate and the second feed-forward matrix: the launch's
  arguments, on finite arrays, through the host's forward lines and the windows of each grid point.
-/
module

public import proofs.«01_k».proof.Proof.MixerBwdPieces
public import proofs.«01_k».proof.Proof.MixerBwdFrame
public import Idealize.ShloMosaic.Lib.Pipeline.ValueKit.Point

@[expose] public section

set_option maxRecDepth 16384

noncomputable section

namespace Cert.MixerBwdIdeal.Run

open Cert.MixerBwdIdeal Cert.MixerBwdIdeal.Gen Cert.Reals Cert.Layer Idealize.ShloMosaic Idealize.ShloMosaic.TcCoe Idealize.SL.Sem

variable {m : (ℓ : Loc nD τ sig) → Buf (Elt Ideal) ℓ} {c : Dev nD} {a : MixIn}

/-- The arguments at the launch are `a`. -/
abbrev Args (m : (ℓ : Loc nD τ sig) → Buf (Elt Ideal) ℓ) (c : Dev nD) (a : MixIn) : Prop :=
  a.Is (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg8))
    (m ((c : Thread nD τ).loc main_arg9)) (m ((c : Thread nD τ).loc main_arg11)) (m ((c : Thread nD τ).loc main_arg12))

/-! ## The host's forward lines -/

theorem slab_x (h : Args m c a) (hc) : shapeCast main_v0.ty.shape (m (c, Proc.tc.devRef main_arg0)) hc = f2 a.x := by
  rw [show m (c, Proc.tc.devRef main_arg0) = _ from h.e0]; exact shapeCast_slab _ _
theorem slab_win (h : Args m c a) (hc) : shapeCast main_v2.ty.shape (m (c, Proc.tc.devRef main_arg2)) hc = f2 a.win := by
  rw [show m (c, Proc.tc.devRef main_arg2) = _ from h.e2]; exact shapeCast_slab _ _
theorem slab_x1 (h : Args m c a) (hc) : shapeCast main_v71.ty.shape (m (c, Proc.tc.devRef main_arg8)) hc = f2 a.x1 := by
  rw [show m (c, Proc.tc.devRef main_arg8) = _ from h.e8]; exact shapeCast_slab _ _
theorem slab_w1 (h : Args m c a) (hc) : shapeCast main_v73.ty.shape (m (c, Proc.tc.devRef main_arg9)) hc = f2 a.w1 := by
  rw [show m (c, Proc.tc.devRef main_arg9) = _ from h.e9]; exact shapeCast_slab _ _

theorem host_u (h : Args m c a) : V m c main_v5 = f2 a.u := by
  entry_read
  eta_reduce
  rw [slab_x h, slab_win h]
  simp only [dot_S4096x1024_S1024x1792_S4096x1792_1_0_0_1_n_n, rify_simps, zero_add]
  refine (slice2 _ _ (by decide) (by decide)).trans ?_
  congr 1; funext i j
  rw [part_zero]
  exact congrArg (mm a.x a.win i) (Fin.ext (Nat.zero_add _))
theorem host_v (h : Args m c a) : V m c main_v6 = f2 a.v := by
  entry_read
  eta_reduce
  rw [slab_x h, slab_win h]
  simp only [dot_S4096x1024_S1024x1792_S4096x1792_1_0_0_1_n_n, rify_simps, zero_add]
  refine (slice2 _ _ (by decide) (by decide)).trans ?_
  congr 1; funext i j
  rw [part_zero]
  rfl
theorem host_hid (h : Args m c a) : V m c main_v78 = bf2 a.hid := by
  entry_read
  eta_reduce
  rw [slab_x1 h, slab_w1 h]
  simp only [dot_S4096x1024_S1024x4096_S4096x4096_1_0_0_1_n_n, rify_simps, zero_add]
  rfl
theorem host_dcat (h : Args m c a) : V m c main_v86 = bf2 a.dcat := by
  entry_read
  eta_reduce
  rw [show m (c, Proc.tc.devRef main_arg11) = _ from h.e11]
  exact truncf2 _ _
theorem host_dz2 (h : Args m c a) : V m c main_v95 = bf2 a.dz2 := by
  entry_read
  eta_reduce
  rw [show m (c, Proc.tc.devRef main_arg12) = _ from h.e12]
  exact truncf2 _ _
theorem host_w (h : Args m c a) : V m c main_v93 = f3 a.w := by
  entry_read
  eta_reduce
  rw [show m (c, Proc.tc.devRef main_arg5) = _ from h.e5]
  funext i
  obtain ⟨k, p, q, rfl⟩ : ∃ (k : Fin 8) (p q : Fin 128), i = ix3 k p q := ⟨_, _, _, eq_ix3 i⟩
  refine (shapeCast_apply _ _ (s := ⟨4, ![1, 8, 128, 128]⟩) _ (ix4 (0 : Fin 1) k p q) ?_).trans rfl
  rw [rowMajor_val4 _ (8 * (128 * 128)) (128 * 128) 128 rfl rfl rfl]
  refine Eq.trans ?_ (rowMajor_val3 (d := ![8, 128, 128]) _ (128 * 128) 128 rfl rfl).symm
  show 0 * (8 * (128 * 128)) + k.val * (128 * 128) + p.val * 128 + q.val = k.val * (128 * 128) + p.val * 128 + q.val
  omega

/-! ## The windows -/

variable (t : Fin cfg0.N)

/-- Row `i` of point `t`. -/
def rowOf (i : Fin 512) : Fin 4096 :=
  ⟨t.val * 512 + i.val, by have := lt_of_lt_of_eq t.isLt N_0; have := i.isLt; omega⟩

theorem read0 (a : Mat 4096 512) : View.read (Elt Ideal) ((cfg0.win 0).blk t).view (up2 (φ := .f32) a) = up2 (φ := .f32) fun i => a (rowOf t i) := by
  have e : (cfg0.win 0).index t = ![t.val, 0] := by revert t; decide +kernel
  funext y
  refine congrArg₂ (fun i j => ((a i j : ℝ) : EReal)) (Fin.ext ?_) (Fin.ext ?_) <;> blk_simp [e] <;> first | done | rfl
theorem read1 (a : Mat 4096 512) : View.read (Elt Ideal) ((cfg0.win 1).blk t).view (up2 (φ := .f32) a) = up2 (φ := .f32) fun i => a (rowOf t i) := by
  have e : (cfg0.win 1).index t = ![t.val, 0] := by revert t; decide +kernel
  funext y
  refine congrArg₂ (fun i j => ((a i j : ℝ) : EReal)) (Fin.ext ?_) (Fin.ext ?_) <;> blk_simp [e] <;> first | done | rfl
theorem read7 (a : Mat 4096 1024) : View.read (Elt Ideal) ((cfg0.win 7).blk t).view (up2 (φ := .bf16) a) = up2 (φ := .bf16) fun i => a (rowOf t i) := by
  have e : (cfg0.win 7).index t = ![t.val, 0] := by revert t; decide +kernel
  funext y
  refine congrArg₂ (fun i j => ((a i j : ℝ) : EReal)) (Fin.ext ?_) (Fin.ext ?_) <;> blk_simp [e] <;> first | done | rfl
theorem read17 (a : Mat 4096 4096) : View.read (Elt Ideal) ((cfg0.win 17).blk t).view (up2 (φ := .bf16) a) = up2 (φ := .bf16) fun i => a (rowOf t i) := by
  have e : (cfg0.win 17).index t = ![t.val, 0] := by revert t; decide +kernel
  funext y
  refine congrArg₂ (fun i j => ((a i j : ℝ) : EReal)) (Fin.ext ?_) (Fin.ext ?_) <;> blk_simp [e] <;> first | done | rfl
theorem read18 (a : Mat 4096 1024) : View.read (Elt Ideal) ((cfg0.win 18).blk t).view (up2 (φ := .bf16) a) = up2 (φ := .bf16) fun i => a (rowOf t i) := by
  have e : (cfg0.win 18).index t = ![t.val, 0] := by revert t; decide +kernel
  funext y
  refine congrArg₂ (fun i j => ((a i j : ℝ) : EReal)) (Fin.ext ?_) (Fin.ext ?_) <;> blk_simp [e] <;> first | done | rfl
theorem read12 (a : Mat 1 512) : View.read (Elt Ideal) ((cfg0.win 12).blk t).view (f2 a) = f2 a := by
  have e : (cfg0.win 12).index t = ![0, 0] := by revert t; decide +kernel
  funext y
  refine congrArg (f2 a) ?_
  blk_ext [e]
theorem read13 (a : Mat 1 512) : View.read (Elt Ideal) ((cfg0.win 13).blk t).view (f2 a) = f2 a := by
  have e : (cfg0.win 13).index t = ![0, 0] := by revert t; decide +kernel
  funext y
  refine congrArg (f2 a) ?_
  blk_ext [e]
theorem read14 (a : Fin 8 → Mat 128 128) : View.read (Elt Ideal) ((cfg0.win 14).blk t).view (f3 a) = f3 a := by
  have e : (cfg0.win 14).index t = ![0, 0, 0] := by revert t; decide +kernel
  funext y
  refine congrArg (f3 a) ?_
  blk_ext [e]

/-- What point `t` reads. -/
def at_ (a : MixIn) (t : Fin cfg0.N) : PointIn where
  u i := a.u (rowOf t i)
  v i := a.v (rowOf t i)
  dc i := a.dcat (rowOf t i)
  w := a.w
  gain := a.g
  shift := a.b
  r i := a.hid (rowOf t i)
  dz2 i := a.dz2 (rowOf t i)

theorem blk0 (h : Args m c a) : iblk m c 0 t = f2 (at_ a t).u := by
  unfold iblk; rw [show V m c (Pipeline.arrRef spec0 0) = f2 a.u from host_u h]
  exact read0 t _
theorem blk1 (h : Args m c a) : iblk m c 1 t = f2 (at_ a t).v := by
  unfold iblk; rw [show V m c (Pipeline.arrRef spec0 1) = f2 a.v from host_v h]
  exact read1 t _
theorem blk7 (h : Args m c a) : iblk m c 7 t = bf2 (at_ a t).dc := by
  unfold iblk; rw [show V m c (Pipeline.arrRef spec0 7) = bf2 a.dcat from host_dcat h]
  exact read7 t _
theorem blk12 (h : Args m c a) : iblk m c 12 t = f2 (at_ a t).gain := by
  unfold iblk; entry_read; rw [show m (c, Proc.tc.devRef main_arg3) = _ from h.e3]
  exact read12 t _
theorem blk13 (h : Args m c a) : iblk m c 13 t = f2 (at_ a t).shift := by
  unfold iblk; entry_read; rw [show m (c, Proc.tc.devRef main_arg4) = _ from h.e4]
  exact read13 t _
theorem blk14 (h : Args m c a) : iblk m c 14 t = f3 (at_ a t).w := by
  unfold iblk; rw [show V m c (Pipeline.arrRef spec0 14) = f3 a.w from host_w h]
  exact read14 t _
theorem blk17 (h : Args m c a) : iblk m c 17 t = bf2 (at_ a t).r := by
  unfold iblk; rw [show V m c (Pipeline.arrRef spec0 17) = bf2 a.hid from host_hid h]
  exact read17 t _
theorem blk18 (h : Args m c a) : iblk m c 18 t = bf2 (at_ a t).dz2 := by
  unfold iblk; rw [show V m c (Pipeline.arrRef spec0 18) = bf2 a.dz2 from host_dz2 h]
  exact read18 t _
set_option maxHeartbeats 4000000 in
/-- Each point reads the rows of its block and the weights whole. -/
theorem reads (h : Args m c a) : Reads (ins m c t) (at_ a t) :=
  ⟨blk0 t h, blk1 t h, blk7 t h, blk12 t h, blk13 t h, blk14 t h, blk17 t h, blk18 t h⟩

end Cert.MixerBwdIdeal.Run

end
-- ==== Proof.MixerBwdArrays.lean ====
/-
  The arrays that the mixer's backward kernel leaves of the gradients of parameters, by induction over the eight points.
-/
module

public import proofs.«01_k».proof.Proof.MixerBwdPoint
public import proofs.«01_k».proof.Proof.MixerBwdReads

@[expose] public section

set_option maxRecDepth 16384

noncomputable section

namespace Cert.MixerBwdIdeal.Run

open Cert.MixerBwdIdeal Cert.MixerBwdIdeal.Gen Cert.Reals Cert.Layer Idealize.ShloMosaic Idealize.ShloMosaic.TcCoe Idealize.SL.Sem Idealize.ShloMosaic.Pipeline

variable {m : (ℓ : Loc nD τ sig) → Buf (Elt Ideal) ℓ} {c : Dev nD} {a : MixIn}

/-- Chunk `n` of point `t`, numbered through the sequence. -/
def chunkOf (t : Fin cfg0.N) (n : Fin 4) : Fin 32 := ⟨t.val * 4 + n.val, by have := lt_of_lt_of_eq t.isLt N_0; omega⟩

theorem rowOf_chunk (t : Fin cfg0.N) (n : Fin 4) (h : 128 * n.val + 128 ≤ 512) (i : Fin 128) : rowOf t (part (128 * n.val) h i) = tok (chunkOf t n) i :=
  Fin.ext (by show t.val * 512 + (128 * n.val + i.val) = (t.val * 4 + n.val) * 128 + i.val; omega)

theorem gate_chunk (a : MixIn) (t : Fin cfg0.N) (n : Fin 4) : (at_ a t).gate n = a.chunk (chunkOf t n) := by
  have e := rowOf_chunk t n (by omega)
  unfold PointIn.gate MixIn.chunk at_
  dsimp only
  simp only [e]
  rfl

/-- The sum of `b` over the first `n` points. -/
def ptSum (b : Fin cfg0.N → ℝ) (n : ℕ) : ℝ := ∑ k ∈ Finset.range n, if h : k < cfg0.N then b ⟨k, h⟩ else 0
theorem ptSum_zero (b : Fin cfg0.N → ℝ) : ptSum b 0 = 0 := Finset.sum_range_zero _
theorem ptSum_succ (b : Fin cfg0.N → ℝ) (t : Fin cfg0.N) : ptSum b (t.val + 1) = ptSum b t.val + b t := by
  unfold ptSum
  rw [Finset.sum_range_succ, dif_pos t.isLt]
theorem ptSum_chunks (b : Fin 32 → ℝ) : ptSum (fun t => ∑ n, b (chunkOf t n)) 8 = ∑ c, b c := by
  unfold ptSum
  rw [Fin.sum_univ_tiles 8 4 rfl, Finset.sum_range]
  refine Finset.sum_congr rfl fun k _ => ?_
  rw [dif_pos (lt_of_lt_of_eq k.isLt N_0.symm)]
  rfl
theorem ptSum_rows (b : Fin 4096 → ℝ) : ptSum (fun t => ∑ q, b (rowOf t q)) 8 = ∑ q, b q := by
  unfold ptSum
  rw [Fin.sum_univ_tiles 8 512 rfl, Finset.sum_range]
  refine Finset.sum_congr rfl fun k _ => ?_
  rw [dif_pos (lt_of_lt_of_eq k.isLt N_0.symm)]
  rfl

/-- The sums over the first `n` points. -/
def total (a : MixIn) (n : ℕ) : Sums where
  g i j := ptSum (fun t => ∑ n, ((at_ a t).gate n).dgain i j) n
  b i j := ptSum (fun t => ∑ n, ((at_ a t).gate n).dshift i j) n
  w h i j := ptSum (fun t => ∑ n, ((at_ a t).gate n).dw h i j) n
  dm i j := ptSum (fun t => ∑ n, ((at_ a t).gate n).dm i j) n
  s i j := ptSum (fun t => (at_ a t).gws i j) n

theorem total_zero (a : MixIn) : total a 0 = Sums.zero := by
  unfold total Sums.zero
  simp only [ptSum_zero]
theorem total_succ (a : MixIn) (t : Fin cfg0.N) : total a (t.val + 1) = (total a t.val).add (at_ a t) := by
  unfold total Sums.add
  dsimp only
  simp only [ptSum_succ]

/-- After all points the sums are the layer's gradients. -/
theorem total_all (a : MixIn) : total a 8 = ⟨a.dgain, a.dshift, a.dw, a.dmix, a.dff⟩ := by
  unfold total
  simp only [gate_chunk]
  congr 1
  · funext i j; exact ptSum_chunks fun c => (a.chunk c).dgain i j
  · funext i j; exact ptSum_chunks fun c => (a.chunk c).dshift i j
  · funext h i j; exact ptSum_chunks fun c => (a.chunk c).dw h i j
  · funext i j; exact ptSum_chunks fun c => (a.chunk c).dm i j
  · funext i j; exact ptSum_rows fun r => sqr a.hid r i * a.dz2 r j

theorem pred_st (t : Fin cfg0.N) {n : ℕ} (ht : t.val = n + 1) (hn : n < cfg0.N) : stAt m c t.val = (outsAt m c ⟨n, hn⟩ (View.canon [])).st :=
  (congrArg (stAt m c) ht).trans (stAt_succ m c ⟨n, hn⟩ _)

/-- The state after a point that is not the last. -/
theorem kept (h : Args m c a) : ∀ (n : ℕ) (t : Fin cfg0.N) (y : Vec Ideal S4096x256 .f32), t.val = n → t.val ≠ 7 →
    Holds (outsAt m c t y).st (total a (t.val + 1)) (at_ a t).wts := by
  intro n
  induction n with
  | zero =>
    intro t y ht _
    have e0 : total a t.val = Sums.zero := (congrArg (total a) ht).trans (total_zero a)
    rw [outsAt_first m c t y ht (by rw [coords_val]; exact ht) ((isFirst_iff t).mpr ht) (fun h => by have := (isLast_iff t).mp h; omega), total_succ, e0]
    exact first_holds (reads t h) _ _ _
  | succ n ih =>
    intro t y ht h1
    have hn : n < cfg0.N := by have := t.isLt; omega
    have hs : Holds (stAt m c t.val) (total a t.val) (at_ a t).wts := by
      have := ih ⟨n, hn⟩ (View.canon []) rfl (by have := lt_of_lt_of_eq t.isLt N_0; show n ≠ 7; omega)
      rw [pred_st t ht hn, ht]
      exact this
    rw [outsAt_mid m c t y (by omega) h1 (pos_of t (by omega)) (nfirst_of t (by omega)) (nlast_of t h1), total_succ]
    exact mid_holds (reads t h) hs _ _ _

theorem before_last (h : Args m c a) (t : Fin cfg0.N) (ht : t.val = 7) : Holds (stAt m c t.val) (total a t.val) (at_ a t).wts := by
  have hn : 6 < cfg0.N := by decide
  have := kept h 6 ⟨6, hn⟩ (View.canon []) rfl (show (6 : ℕ) ≠ 7 by decide)
  rw [pred_st t ht hn, ht]
  exact this

theorem all_eq (t : Fin cfg0.N) (ht : t.val = 7) : (total a t.val).add (at_ a t) = ⟨a.dgain, a.dshift, a.dw, a.dmix, a.dff⟩ := by
  rw [← total_succ, ht, total_all]

/-! ## The arrays -/

theorem end_g (h : Args m c a) (t : Fin cfg0.N) (ht : t.val = 7) : (outsAt m c t (View.canon [])).st.k.g = f2 a.dgain := by
  rw [outsAt_last m c t _ ht (pos_of t (by omega)) (nfirst_of t (by omega)) ((isLast_iff t).mpr ht)]
  exact (last_kg (reads t h) (before_last h t ht) _ _ _ _).trans (congrArg (fun S : Sums => f2 S.g) (all_eq t ht))
theorem end_b (h : Args m c a) (t : Fin cfg0.N) (ht : t.val = 7) : (outsAt m c t (View.canon [])).st.k.b = f2 a.dshift := by
  rw [outsAt_last m c t _ ht (pos_of t (by omega)) (nfirst_of t (by omega)) ((isLast_iff t).mpr ht)]
  exact (last_kb (reads t h) (before_last h t ht) _ _ _ _).trans (congrArg (fun S : Sums => f2 S.b) (all_eq t ht))
theorem end_w (h : Args m c a) (t : Fin cfg0.N) (ht : t.val = 7) : (outsAt m c t (View.canon [])).st.k.w = f3 a.dw := by
  rw [outsAt_last m c t _ ht (pos_of t (by omega)) (nfirst_of t (by omega)) ((isLast_iff t).mpr ht)]
  exact (last_kw (reads t h) (before_last h t ht) _ _ _ _).trans (congrArg (fun S : Sums => f3 S.w) (all_eq t ht))
theorem end_bs (h : Args m c a) (t : Fin cfg0.N) (ht : t.val = 7) : (outsAt m c t (View.canon [])).bs = f2 (biasR a.dmix) := by
  rw [outsAt_last m c t _ ht (pos_of t (by omega)) (nfirst_of t (by omega)) ((isLast_iff t).mpr ht)]
  exact (last_kbs (reads t h) (before_last h t ht) _ _ _ _).trans (congrArg (fun S : Sums => f2 (biasR S.dm)) (all_eq t ht))
/-- The gradient of the second feed-forward matrix that the last point leaves. -/
theorem gw_eq (h : Args m c a) : View.read (Elt Ideal) (View.whole main_v96_2) (gw m c) = f2 a.dff := by
  unfold gw
  exact (last_kff (reads tLast h) (before_last h tLast rfl) _ _ _ _).trans (congrArg (fun S : Sums => f2 S.s) (all_eq tLast rfl))

theorem flushed21 (t : Fin cfg0.N) : (dats m 0 c).flushed 21 t = (cfg0.win 21).cut (grid0.coords t) (outsAt m c t (View.canon [])).st.k.g := rfl
theorem read21 (t : Fin cfg0.N) (b : Mat 1 512) : View.read (Elt Ideal) ((cfg0.win 21).blk t).view (f2 b) = f2 b := by
  have e : (cfg0.win 21).index t = ![0, 0] := by revert t; decide +kernel
  funext y
  refine congrArg (f2 b) ?_
  blk_ext [e]
theorem arr21 (h : Args m c a) : (dats m 0 c).arrAt 21 cfg0.N = f2 a.dgain := by
  refine (dats m 0 c).arrAt_eq_of_cover 21 _ (fun t hf => ?_)
    ((by decide +kernel : (cfg0.win 21).Covers).cover _ (Memref.isWhole_whole _))
  rw [flushed21, end_g h t (by revert t; decide +kernel), read21]
  rfl

theorem flushed22 (t : Fin cfg0.N) : (dats m 0 c).flushed 22 t = (cfg0.win 22).cut (grid0.coords t) (outsAt m c t (View.canon [])).st.k.b := rfl
theorem read22 (t : Fin cfg0.N) (b : Mat 1 512) : View.read (Elt Ideal) ((cfg0.win 22).blk t).view (f2 b) = f2 b := by
  have e : (cfg0.win 22).index t = ![0, 0] := by revert t; decide +kernel
  funext y
  refine congrArg (f2 b) ?_
  blk_ext [e]
theorem arr22 (h : Args m c a) : (dats m 0 c).arrAt 22 cfg0.N = f2 a.dshift := by
  refine (dats m 0 c).arrAt_eq_of_cover 22 _ (fun t hf => ?_)
    ((by decide +kernel : (cfg0.win 22).Covers).cover _ (Memref.isWhole_whole _))
  rw [flushed22, end_b h t (by revert t; decide +kernel), read22]
  rfl

theorem flushed23 (t : Fin cfg0.N) : (dats m 0 c).flushed 23 t = (cfg0.win 23).cut (grid0.coords t) (outsAt m c t (View.canon [])).st.k.w := rfl
theorem read23 (t : Fin cfg0.N) (b : Fin 8 → Mat 128 128) : View.read (Elt Ideal) ((cfg0.win 23).blk t).view (f3 b) = f3 b := by
  have e : (cfg0.win 23).index t = ![0, 0, 0] := by revert t; decide +kernel
  funext y
  refine congrArg (f3 b) ?_
  blk_ext [e]
theorem arr23 (h : Args m c a) : (dats m 0 c).arrAt 23 cfg0.N = f3 a.dw := by
  refine (dats m 0 c).arrAt_eq_of_cover 23 _ (fun t hf => ?_)
    ((by decide +kernel : (cfg0.win 23).Covers).cover _ (Memref.isWhole_whole _))
  rw [flushed23, end_w h t (by revert t; decide +kernel), read23]
  rfl

theorem flushed24 (t : Fin cfg0.N) : (dats m 0 c).flushed 24 t = (cfg0.win 24).cut (grid0.coords t) (outsAt m c t (View.canon [])).bs := rfl
theorem read24 (t : Fin cfg0.N) (b : Mat 128 128) : View.read (Elt Ideal) ((cfg0.win 24).blk t).view (f2 b) = f2 b := by
  have e : (cfg0.win 24).index t = ![0, 0] := by revert t; decide +kernel
  funext y
  refine congrArg (f2 b) ?_
  blk_ext [e]
end Cert.MixerBwdIdeal.Run

end
-- ==== Proof.MixerBwdBias.lean ====
/-
  The gradient of the spatial bias: the last point alone writes its buffer, and the frame's relation says with what.
-/
module

public import proofs.«01_k».proof.Proof.MixerBwdArrays

@[expose] public section

set_option maxRecDepth 16384

noncomputable section

namespace Cert.MixerBwdIdeal.Run

open Cert.MixerBwdIdeal Cert.MixerBwdIdeal.Gen Cert.Reals Cert.Layer Idealize.ShloMosaic Idealize.ShloMosaic.TcCoe Idealize.SL.Sem Idealize.ShloMosaic.Pipeline

variable {m : (ℓ : Loc nD τ sig) → Buf (Elt Ideal) ℓ} {c : Dev nD} {a : MixIn}

theorem arr24 (h : Args m c a) (X) (hX : (rdat m c).ArrAt 24 cfg0.N X) : X = f2 (biasR a.dmix) := by
  have h8 := (iff_of_eq (congrFun ((rdat m c).ArrAt_succ 24 tLast) X)).mp hX
  rw [if_pos ((flush0_24 tLast).mpr rfl)] at h8
  obtain ⟨G₀, Y, -, hY, rfl⟩ := h8
  have e : Y = f2 (biasR a.dmix) := ((dats m 0 c).toRRel_leaves (fgt := fgt) (Rl := Rl m c) (w := 24) rfl hY rfl).trans (end_bs h tLast rfl)
  subst e
  refine funext fun i => ?_
  obtain ⟨t, hf, hi⟩ := Pipeline.Window.Covers.cover (cfg0.win 24) (by decide +kernel) (Memref.isWhole_whole _) i
  obtain rfl : t = tLast := Fin.ext (by have := (flush0_24 t).mp hf; have := lt_of_lt_of_eq t.isLt N_0; have h7 : tLast.val = 7 := rfl; omega)
  rw [show (cfg0.win 24).cut (cfg0.grid.coords tLast) (f2 (biasR a.dmix)) = View.read (Elt Ideal) ((cfg0.win 24).blk tLast).view (f2 (biasR a.dmix)) from
    (read24 tLast (biasR a.dmix)).symm, View.write_read_eq_piecewise]
  exact Finset.piecewise_eq_of_mem _ _ _ (by rw [View.setOn_univ]; exact hi)

end Cert.MixerBwdIdeal.Run

end
-- ==== Proof.MixerBwdHeads.lean ====
/-
  The reference's layout of the gate: the sequence's features head by head, a head's 32 chunks beside each other, and back.
-/
module

public import proofs.«01_k».proof.Proof.MixerBwdLayer
public import Idealize.ShloMosaic.Lib.KernelVsHost
public import Idealize.ShloMosaic.Lib.WordCmp

@[expose] public section

set_option maxRecDepth 16384

noncomputable section

namespace Cert.Layer

open Cert.Reals Idealize.ShloMosaic

/-- Column `64 c + l` of head `h` at position `i`: feature `l` of that head at position `i` of chunk `c`. -/
def heads (X : Mat 4096 512) : Fin 8 → Mat 128 2048 := fun h i n =>
  X (tok ⟨n.val / 64, by omega⟩ i) (hcol h ⟨n.val % 64, Nat.mod_lt _ (by decide)⟩)
/-- The same layout read back. -/
def tokens (Y : Fin 8 → Mat 128 2048) : Mat 4096 512 := fun r j =>
  Y (headOf j) ⟨r.val % 128, Nat.mod_lt _ (by decide)⟩ ⟨r.val / 128 * 64 + j.val % 64, by omega⟩

theorem heads_up (X : Mat 4096 512) (h0 : Shape.ShapeCasts ⟨2, ![4096, 512]⟩ ⟨4, ![32, 128, 8, 64]⟩)
    (h1 : Shape.Transposes ⟨4, ![32, 128, 8, 64]⟩ [2, 1, 0, 3] ⟨4, ![8, 128, 32, 64]⟩)
    (h2 : Shape.ShapeCasts ⟨4, ![8, 128, 32, 64]⟩ ⟨3, ![8, 128, 2048]⟩) :
    shapeCast ⟨3, ![8, 128, 2048]⟩ (transpose ⟨4, ![8, 128, 32, 64]⟩ [2, 1, 0, 3] (shapeCast ⟨4, ![32, 128, 8, 64]⟩ (f2 X) h0) h1) h2 = f3 (heads X) := by
  funext i
  obtain ⟨h, p, n, rfl⟩ : ∃ (h : Fin 8) (p : Fin 128) (n : Fin 2048), i = ix3 h p n := ⟨_, _, _, eq_ix3 i⟩
  let k : Fin 32 := ⟨n.val / 64, by omega⟩
  let l : Fin 64 := ⟨n.val % 64, Nat.mod_lt _ (by decide)⟩
  refine (shapeCast_apply _ h2 _ (ix4 h p k l) ?_).trans ?_
  · rw [rowMajor_val4 (d := ![8, 128, 32, 64]) _ (128 * (32 * 64)) (32 * 64) 64 rfl rfl rfl]
    refine Eq.trans ?_ (rowMajor_val3 (d := ![8, 128, 2048]) _ (128 * 2048) 2048 rfl rfl).symm
    show h.val * (128 * (32 * 64)) + p.val * (32 * 64) + n.val / 64 * 64 + n.val % 64 = h.val * (128 * 2048) + p.val * 2048 + n.val
    omega
  refine (transpose_apply _ _ h1 _ (ix4 k p h l) fun b => ?_).trans ?_
  · fin_cases b <;> rfl
  refine (shapeCast_apply _ h0 _ (ix2 (tok k p) (hcol h l)) ?_).trans rfl
  rw [rowMajor_val4 (d := ![32, 128, 8, 64]) _ (128 * (8 * 64)) (8 * 64) 64 rfl rfl rfl]
  refine (rowMajor_val2 (d := ![4096, 512]) _ 512 rfl).trans ?_
  show (k.val * 128 + p.val) * 512 + (64 * h.val + l.val) = k.val * (128 * (8 * 64)) + p.val * (8 * 64) + h.val * 64 + l.val
  omega

theorem tokens_up (Y : Fin 8 → Mat 128 2048) (h0 : Shape.ShapeCasts ⟨3, ![8, 128, 2048]⟩ ⟨4, ![8, 128, 32, 64]⟩)
    (h1 : Shape.Transposes ⟨4, ![8, 128, 32, 64]⟩ [2, 1, 0, 3] ⟨4, ![32, 128, 8, 64]⟩)
    (h2 : Shape.ShapeCasts ⟨4, ![32, 128, 8, 64]⟩ ⟨2, ![4096, 512]⟩) :
    shapeCast ⟨2, ![4096, 512]⟩ (transpose ⟨4, ![32, 128, 8, 64]⟩ [2, 1, 0, 3] (shapeCast ⟨4, ![8, 128, 32, 64]⟩ (f3 Y) h0) h1) h2 = f2 (tokens Y) := by
  funext i
  obtain ⟨r, j, rfl⟩ : ∃ (r : Fin 4096) (j : Fin 512), i = ix2 r j := ⟨_, _, eq_ix2 i⟩
  let k : Fin 32 := ⟨r.val / 128, by omega⟩
  let p : Fin 128 := ⟨r.val % 128, Nat.mod_lt _ (by decide)⟩
  let l : Fin 64 := ⟨j.val % 64, Nat.mod_lt _ (by decide)⟩
  refine (shapeCast_apply _ h2 _ (ix4 k p (headOf j) l) ?_).trans ?_
  · rw [rowMajor_val4 (d := ![32, 128, 8, 64]) _ (128 * (8 * 64)) (8 * 64) 64 rfl rfl rfl]
    refine Eq.trans ?_ (rowMajor_val2 (d := ![4096, 512]) _ 512 rfl).symm
    show r.val / 128 * (128 * (8 * 64)) + r.val % 128 * (8 * 64) + j.val / 64 * 64 + j.val % 64 = r.val * 512 + j.val
    omega
  refine (transpose_apply _ _ h1 _ (ix4 (headOf j) p k l) fun b => ?_).trans ?_
  · fin_cases b <;> rfl
  refine (shapeCast_apply _ h0 _ (ix3 (headOf j) p ⟨r.val / 128 * 64 + j.val % 64, by omega⟩) ?_).trans rfl
  rw [rowMajor_val4 (d := ![8, 128, 32, 64]) _ (128 * (32 * 64)) (32 * 64) 64 rfl rfl rfl]
  refine (rowMajor_val3 (d := ![8, 128, 2048]) _ (128 * 2048) 2048 rfl rfl).trans ?_
  show (headOf j).val * (128 * 2048) + r.val % 128 * 2048 + (r.val / 128 * 64 + j.val % 64)
    = (headOf j).val * (128 * (32 * 64)) + r.val % 128 * (32 * 64) + r.val / 128 * 64 + j.val % 64
  omega

/-! ## Products of stacks of matrices, and sums along their last axis -/

variable {b n m k : ℕ} {φ ψ : FTy}

/-- Each pair of matrices contracts rows with rows. -/
theorem dotGeneral_tn3 (wf) (prec) (a : Fin b → Mat k n) (c : Fin b → Mat k m) :
    Host.dotGeneral (F := Ideal) (sl := ⟨3, ![b, k, n]⟩) (sr := ⟨3, ![b, k, m]⟩) (so := ⟨3, ![b, n, m]⟩)
      { lhsContracting := [1], rhsContracting := [1], lhsNonContracting := [2], rhsNonContracting := [2],
        lhsBatch := [0], rhsBatch := [0], wf := wf } prec (up3 (φ := φ) a) (up3 (φ := ψ) c)
      = up3 fun h i j => ∑ q, a h q i * c h q j := by
  funext i
  obtain ⟨h, p, q, rfl⟩ : ∃ h p q, i = ix3 h p q := ⟨_, _, _, eq_ix3 i⟩
  refine (Ideal.matmul_apply₁ _ rfl rfl _ _ (fun _ => ((0 : ℝ) : EReal)) _).trans ?_
  refine (coe_dot 0 _ _).trans ?_
  rw [zero_add]; rfl
/-- Each pair of matrices contracts columns with columns. -/
theorem dotGeneral_nt3 (wf) (prec) (a : Fin b → Mat n k) (c : Fin b → Mat m k) :
    Host.dotGeneral (F := Ideal) (sl := ⟨3, ![b, n, k]⟩) (sr := ⟨3, ![b, m, k]⟩) (so := ⟨3, ![b, n, m]⟩)
      { lhsContracting := [2], rhsContracting := [2], lhsNonContracting := [1], rhsNonContracting := [1],
        lhsBatch := [0], rhsBatch := [0], wf := wf } prec (up3 (φ := φ) a) (up3 (φ := ψ) c)
      = up3 fun h i j => ∑ q, a h i q * c h j q := by
  funext i
  obtain ⟨h, p, q, rfl⟩ : ∃ h p q, i = ix3 h p q := ⟨_, _, _, eq_ix3 i⟩
  refine (Ideal.matmul_apply₁ _ rfl rfl _ _ (fun _ => ((0 : ℝ) : EReal)) _).trans ?_
  refine (coe_dot 0 _ _).trans ?_
  rw [zero_add]; rfl
theorem hostReduce_last (a : Fin b → Mat n m) (c : ℝ) (h : Shape.ReducesTo ⟨3, ![b, n, m]⟩ [2] ⟨2, ![b, n]⟩) (h0) :
    Host.reduceAdd (up3 (φ := φ) a) (up0 c) h h0 = up2 fun i j => c + ∑ k, a i j k := by
  funext i
  pointwise
  exact (congrArg _ (coe_sum _ _)).trans (EReal.coe_add _ _).symm
theorem swap3 (a : Fin b → Mat n m) (h : Shape.Transposes ⟨3, ![b, n, m]⟩ [0, 2, 1] ⟨3, ![b, m, n]⟩) :
    transpose ⟨3, ![b, m, n]⟩ [0, 2, 1] (up3 (φ := φ) a) h = up3 fun k i j => a k j i := by
  funext i
  obtain ⟨k, p, q, rfl⟩ : ∃ k p q, i = ix3 k p q := ⟨_, _, _, eq_ix3 i⟩
  refine (transpose_apply _ _ h _ (ix3 k q p) fun b => ?_).trans rfl
  fin_cases b <;> rfl
theorem unit_last (a : Mat n m) (h : Shape.ShapeCasts ⟨2, ![n, m]⟩ ⟨3, ![n, m, 1]⟩) :
    shapeCast ⟨3, ![n, m, 1]⟩ (up2 (φ := φ) a) h = up3 fun i j _ => a i j := by
  funext i
  obtain ⟨k, p, q, rfl⟩ : ∃ k p q, i = ix3 k p q := ⟨_, _, _, eq_ix3 i⟩
  refine (shapeCast_apply _ h _ (ix2 k p) ?_).trans rfl
  rw [rowMajor_val2 _ m rfl, rowMajor_val3 _ (m * 1) 1 rfl rfl]
  show k.val * m + p.val = k.val * (m * 1) + p.val * 1 + q.val
  rw [Nat.mul_one, Nat.mul_one]; omega

/-- Eight columns beside 120 of zeros. -/
theorem pad_bias (a : Mat 128 8) (h : Shape.Pads (s := ⟨2, ![128, 8]⟩) ![0, 0] ![0, 120] ![0, 0] ⟨2, ![128, 128]⟩) (h0) :
    pad ⟨2, ![128, 128]⟩ ![0, 0] ![0, 120] ![0, 0] (f2 a) (up0 (φ := .f32) 0) h h0 = f2 fun i j => if h : j.val < 8 then a i ⟨j.val, h⟩ else 0 := by
  funext i
  obtain ⟨p, q, rfl⟩ : ∃ (p q : Fin 128), i = ix2 p q := ⟨_, _, eq_ix2 i⟩
  by_cases hq : q.val < 8
  · refine (pad_apply_of_inside _ _ _ _ _ h h0 _ (ix2 p (⟨q.val, hq⟩ : Fin 8)) fun b => ?_).trans ?_
    · fin_cases b
      · show p.val = 0 + p.val * (0 + 1); omega
      · show q.val = 0 + q.val * (0 + 1); omega
    exact congrArg (fun x : ℝ => (x : EReal)) (dif_pos (c := q.val < 8) (t := fun h => a p ⟨q.val, h⟩) (e := fun _ => (0 : ℝ)) hq).symm
  · refine (pad_apply_of_not_inside _ _ _ _ _ h h0 _ (1 : Fin 2) ?_).trans (congrArg (fun x : ℝ => (x : EReal)) (dif_neg (c := q.val < 8) (t := fun h => a p ⟨q.val, h⟩) (e := fun _ => (0 : ℝ)) hq).symm)
    rintro ⟨-, -, h3⟩
    have h4 : (q.val - 0) / (0 + 1) < 8 := h3
    omega

/-- The mask of the positions that do not come later. -/
theorem causal_up : select (cmpi .sge (addi (iotaInDim ⟨2, ![128, 128]⟩ 32 0) (broadcastInDim ⟨2, ![128, 128]⟩ ![] bid_scalar (constantI ⟨0, ![]⟩ 32 0#32)))
      (iotaInDim ⟨2, ![128, 128]⟩ 32 1)) (f2 fun _ _ => 1) (f2 fun _ _ => 0)
    = f2 fun i k => if k.val ≤ i.val then 1 else 0 := by
  funext i
  obtain ⟨p, q, rfl⟩ : ∃ (p q : Fin 128), i = ix2 p q := ⟨_, _, eq_ix2 i⟩
  have e : cmpi .sge (addi (iotaInDim ⟨2, ![128, 128]⟩ 32 0) (broadcastInDim ⟨2, ![128, 128]⟩ ![] bid_scalar (constantI ⟨0, ![]⟩ 32 0#32)))
      (iotaInDim ⟨2, ![128, 128]⟩ 32 1) (ix2 p q) = if q.val ≤ p.val then 1#1 else 0#1 := by
    show IntOp.cmpi .sge (BitVec.ofNat 32 p.val + 0#32) (BitVec.ofNat 32 q.val) = _
    rw [BitVec.add_zero, WordCmp.cmpi_sge_ofNat (lt_of_lt_of_le p.isLt (by decide)) (lt_of_lt_of_le q.isLt (by decide))]
    by_cases h : q.val ≤ p.val
    · rw [if_pos h, decide_eq_true h]; rfl
    · rw [if_neg h, decide_eq_false h]; rfl
  show (if cmpi .sge _ _ (ix2 p q) = 1#1 then ((1 : ℝ) : EReal) else ((0 : ℝ) : EReal)) = _
  rw [e]
  by_cases h : q.val ≤ p.val
  · rw [if_pos h, if_pos rfl]; exact congrArg (fun x : ℝ => (x : EReal)) (if_pos h).symm
  · rw [if_neg h, if_neg (by decide)]; exact congrArg (fun x : ℝ => (x : EReal)) (if_neg h).symm

end Cert.Layer

end
-- ==== Proof.MixerBwdRef.lean ====
/-
  What the reference of the mixer's backward call computes on finite arrays: reverse mode through the gate's and the
  feed-forward lines gives the sums over the chunks that the kernel accumulates.
-/
module

public import proofs.«01_k».proof.Proof.MixerBwdHeads
public import proofs.«01_k».proof.Proof.Gen.MixerBwdRefIdeal.Read

@[expose] public section

set_option maxRecDepth 16384

noncomputable section

namespace Cert.Layer

open Cert.Reals Idealize.ShloMosaic

/-! ## The reference's operations -/

@[rify_simps] theorem host_geluScale : constant (F := Ideal) ⟨0, ![]⟩ .f32 0x3F4C422A#32 = up0 (φ := .f32) geluScale := const0 lit_geluScale
@[rify_simps] theorem host_geluCubic : constant (F := Ideal) ⟨0, ![]⟩ .f32 0x3D372713#32 = up0 (φ := .f32) geluCubic := const0 lit_geluCubic
@[rify_simps] theorem host_512 : constant (F := Ideal) ⟨0, ![]⟩ .f32 0x44000000#32 = up0 (φ := .f32) 512 := const0 lit_512
@[rify_simps] theorem hostTanh2 {n m : ℕ} {φ : FTy} (a : Mat n m) : Host.tanh (up2 (φ := φ) a) = up2 fun i j => Real.tanh (a i j) := rfl
@[rify_simps] theorem hostDivf_512 {n m : ℕ} {φ : FTy} (a : Mat n m) : Host.divf (up2 (φ := φ) a) (up2 fun _ _ => 512) = up2 fun i j => a i j / 512 :=
  hostDivf2 _ _ fun _ _ => by norm_num
@[rify_simps] theorem hostRsqrt_varH {n : ℕ} {φ : FTy} (z : Mat n 512) :
    Host.rsqrt (up2 (φ := φ) (m := 1) fun i _ => varH z i) = up2 fun i _ => (√(varH z i))⁻¹ := rsqrt2 _ fun i _ => varH_pos z i
theorem zero_word : sitofp (F := Ideal) .f32 (constantI ⟨0, ![]⟩ 32 0x00000000#32) = up0 (φ := .f32) 0 := by
  funext i
  show (((0#32).toInt : ℝ) : EReal) = ((0 : ℝ) : EReal)
  simp
theorem mul_ite_one (p : Prop) [Decidable p] (x : ℝ) : x * (if p then 1 else 0) = if p then x else 0 := by
  rw [mul_ite, mul_one, mul_zero]

/-! ## Sums over the tokens and over a head's columns -/

theorem sum_tok (f : Fin 4096 → ℝ) : ∑ r, f r = ∑ c : Fin 32, ∑ i : Fin 128, f (tok c i) := Fin.sum_univ_tiles 32 128 rfl f
theorem tile_div (c : Fin 32) (l : Fin 64) (h) : (⟨(c.val * 64 + l.val) / 64, h⟩ : Fin 32) = c := Fin.ext (show (c.val * 64 + l.val) / 64 = c.val by omega)
theorem tile_mod (c : Fin 32) (l : Fin 64) (h) : (⟨(c.val * 64 + l.val) % 64, h⟩ : Fin 64) = l := Fin.ext (show (c.val * 64 + l.val) % 64 = l.val by omega)
theorem heads_tile (X : Mat 4096 512) (h : Fin 8) (i : Fin 128) (c : Fin 32) (l : Fin 64) (hn) :
    heads X h i ⟨c.val * 64 + l.val, hn⟩ = X (tok c i) (hcol h l) := by
  unfold heads
  rw [tile_div, tile_mod]
theorem sum_heads (X : Mat 4096 512) (h : Fin 8) (i : Fin 128) : ∑ n, heads X h i n = ∑ c, ∑ l, X (tok c i) (hcol h l) :=
  (Fin.sum_univ_tiles 32 64 rfl _).trans (Finset.sum_congr rfl fun c _ => Finset.sum_congr rfl fun l _ => heads_tile X h i c l _)
theorem sum_heads₂ (X Y : Mat 4096 512) (h : Fin 8) (i k : Fin 128) :
    ∑ n, heads X h i n * heads Y h k n = ∑ c, ∑ l, X (tok c i) (hcol h l) * Y (tok c k) (hcol h l) :=
  (Fin.sum_univ_tiles 32 64 rfl _).trans (Finset.sum_congr rfl fun c _ => Finset.sum_congr rfl fun l _ =>
    congrArg₂ (· * ·) (heads_tile X h i c l _) (heads_tile Y h k c l _))

/-- The spatial weights as the launch holds them. -/
abbrev spatial (w : Fin 8 → Mat 128 128) : FVec Ideal ⟨4, ![1, 8, 128, 128]⟩ .f32 := fun i => ((w (i 1) (i 2) (i 3) : ℝ) : EReal)
/-- The column sums over each head, in the columns below the number of heads. -/
def bias (D : Mat 128 512) : Mat 128 128 := fun i j => if h : j.val < 8 then ∑ l, D i (hcol ⟨j.val, h⟩ l) else 0

namespace MixIn

variable (a : MixIn)

/-- The whole sequence at once: the norm's result, the gradient of the mixed columns, and by heads that of the norm's result. -/
def vgl : Mat 4096 512 := affine (xhatH (gelu a.v)) a.g a.b
def dm : Mat 4096 512 := mul a.d (gelu a.u)
def dvh : Fin 8 → Mat 128 2048 := fun h k n => ∑ i, tri (a.w h) i k * heads a.dm h i n

theorem tokens_dvh (c : Fin 32) (k : Fin 128) (j : Fin 512) : tokens a.dvh (tok c k) j = (a.chunk c).dvgl k j := by
  have e : (⟨(tok c k).val % 128, Nat.mod_lt _ (by decide)⟩ : Fin 128) = k := Fin.ext (show (c.val * 128 + k.val) % 128 = k.val by omega)
  have e' : ∀ hn, (⟨(tok c k).val / 128 * 64 + j.val % 64, hn⟩ : Fin 2048) = ⟨c.val * 64 + (⟨j.val % 64, Nat.mod_lt _ (by decide)⟩ : Fin 64).val, by
    show c.val * 64 + j.val % 64 < 2048; omega⟩ :=
    fun _ => Fin.ext (show (c.val * 128 + k.val) / 128 * 64 + j.val % 64 = c.val * 64 + j.val % 64 by omega)
  have ej : hcol (headOf j) ⟨j.val % 64, Nat.mod_lt _ (by decide)⟩ = j := Fin.ext (show 64 * (j.val / 64) + j.val % 64 = j.val by omega)
  unfold tokens dvh
  rw [e, e']
  refine Finset.sum_congr rfl fun i _ => ?_
  rw [heads_tile, ej]
  rfl

end MixIn

end Cert.Layer

namespace Cert.MixerBwdRefIdeal.Stages

open Cert.MixerBwdRefIdeal Cert.MixerBwdRefIdeal.Read Cert.Reals Cert.Layer Idealize.ShloMosaic

variable (a : MixIn)

@[rify_simps] theorem v2 : val_main_v2 (F := Ideal) (f3 fun _ => a.x) (f3 fun _ => a.win) = f2 (mm a.x a.win) := by
  simp only [val_main_v0, val_main_v1, val_main_v2, dot_S4096x1024_S1024x1792_S4096x1792_1_0_0_1_n_n,
    rify_simps, zero_add] <;> rfl
@[rify_simps] theorem v4 : val_main_v4 (F := Ideal) (f3 fun _ => a.x) (f3 fun _ => a.win) = f2 a.u := by
  simp only [val_main_v3, val_main_v4,
    rify_simps, zero_add]
  rw [slice2 _ _ (by decide) (by decide), slice2 _ _ (by decide) (by decide)]
  refine congrArg (up2 (φ := .f32)) (funext fun i => funext fun j => ?_)
  simp only [part_zero]
  exact congrArg (mm a.x a.win i) (Fin.ext (show 0 + (0 + j.val) = j.val by omega))
@[rify_simps] theorem v5 : val_main_v5 (F := Ideal) (f3 fun _ => a.x) (f3 fun _ => a.win) = f2 a.v := by
  simp only [val_main_v3, val_main_v5,
    rify_simps, zero_add]
  rw [slice2 _ _ (by decide) (by decide), slice2 _ _ (by decide) (by decide)]
  refine congrArg (up2 (φ := .f32)) (funext fun i => funext fun j => ?_)
  simp only [part_zero]
  exact congrArg (mm a.x a.win i) (Fin.ext (show 0 + (512 + j.val) = 512 + j.val by omega))
@[rify_simps] theorem v20 : val_main_v20 (F := Ideal) (f3 fun _ => a.x) (f3 fun _ => a.win) = f2 (gelu a.v) := by
  simp only [val_main_v8, val_main_v9, val_main_cst, val_main_v10, val_main_v11, val_main_v12, val_main_cst_0, val_main_v13, val_main_v14, val_main_v15, val_main_cst_1, val_main_v16, val_main_v17, val_main_cst_2, val_main_v18, val_main_v19, val_main_v20,
    rify_simps, zero_add]
  refine congrArg (up2 (φ := .f32)) (funext fun i => funext fun j => ?_)
  unfold gelu gelu1
  ring
@[rify_simps] theorem v26 : val_main_v26 (F := Ideal) (f3 fun _ => a.x) (f3 fun _ => a.win) = f2 (cenH (gelu a.v)) := by
  simp only [val_main_cst_3, val_main_v21, val_main_v22, val_main_cst_4, val_main_v23, val_main_v24, val_main_v25, val_main_v26,
    rify_simps, zero_add] <;> rfl
@[rify_simps] theorem v33 : val_main_v33 (F := Ideal) (f3 fun _ => a.x) (f3 fun _ => a.win) = f2 (m := 1) fun i _ => varH (gelu a.v) i := by
  simp only [val_main_v27, val_main_cst_5, val_main_v28, val_main_v29, val_main_cst_6, val_main_v30, val_main_v31, val_main_cst_7, val_main_v32, val_main_v33,
    rify_simps, zero_add] <;> rfl
@[rify_simps] theorem v36 : val_main_v36 (F := Ideal) (f3 fun _ => a.x) (f3 fun _ => a.win) = f2 (xhatH (gelu a.v)) := by
  simp only [val_main_v34, val_main_v35, val_main_v36,
    rify_simps, zero_add] <;> rfl
@[rify_simps] theorem v40 : val_main_v40 (F := Ideal) (f3 fun _ => a.x) (f3 fun _ => a.win) (f2 a.g) (f2 a.b) = f2 a.vgl := by
  simp only [val_main_v37, val_main_v38, val_main_v39, val_main_v40,
    rify_simps, zero_add] <;> rfl
@[rify_simps] theorem v43 : val_main_v43 (F := Ideal) (f3 fun _ => a.x) (f3 fun _ => a.win) (f2 a.g) (f2 a.b) = f3 (heads a.vgl) := by
  simp only [val_main_v41, val_main_v42, val_main_v43,
    rify_simps, zero_add]
  exact heads_up _ _ _ _
@[rify_simps] theorem v45 : val_main_v45 (F := Ideal) = f2 fun i k => if k.val ≤ i.val then 1 else 0 := by
  simp only [val_main_cst_8, val_main_v44, val_main_call0_v0, val_main_call0_c, val_main_call0_v1, val_main_call0_v2, val_main_call0_v3, val_main_call0_v4, val_main_call0_cst, val_main_call0_v5, val_main_v45,
    rify_simps, zero_add]
  exact causal_up
@[rify_simps] theorem v47 : val_main_v47 (F := Ideal) = f3 fun _ i k => if k.val ≤ i.val then 1 else 0 := by
  funext i
  rw [val_main_v47_apply, val_main_v46_apply, v45]
  rfl
@[rify_simps] theorem v81 : val_main_v81 (F := Ideal) = f3 fun _ i k => if k.val ≤ i.val then 1 else 0 := by
  funext i
  rw [val_main_v81_apply, val_main_v46_apply, v45]
  rfl
@[rify_simps] theorem v6 : val_main_v6 (F := Ideal) (spatial a.w) = f3 a.w := by
  funext i
  obtain ⟨h, p, q, rfl⟩ : ∃ (h : Fin 8) (p q : Fin 128), i = ix3 h p q := ⟨_, _, _, eq_ix3 i⟩
  refine (shapeCast_apply _ _ _ (ix4 0 h p q) ?_).trans rfl
  rw [rowMajor_val4 (d := ![1, 8, 128, 128]) _ (8 * (128 * 128)) (128 * 128) 128 rfl rfl rfl]
  refine Eq.trans ?_ (rowMajor_val3 (d := ![8, 128, 128]) _ (128 * 128) 128 rfl rfl).symm
  show 0 * (8 * (128 * 128)) + h.val * (128 * 128) + p.val * 128 + q.val = h.val * (128 * 128) + p.val * 128 + q.val
  omega
@[rify_simps] theorem v48 : val_main_v48 (F := Ideal) (spatial a.w) = f3 fun h => tri (a.w h) := by
  unfold val_main_v48
  rw [v6, v47]
  funext i
  refine (EReal.coe_mul _ _).symm.trans (congrArg (fun x : ℝ => (x : EReal)) ?_)
  exact mul_ite_one ((i 2).val ≤ (i 1).val) (a.w (i 0) (i 1) (i 2))
@[rify_simps] theorem v65 : val_main_v65 (F := Ideal) (f3 fun _ => a.x) (f3 fun _ => a.win) = f2 (gelu a.u) := by
  simp only [val_main_v53, val_main_v54, val_main_cst_9, val_main_v55, val_main_v56, val_main_v57, val_main_cst_10, val_main_v58, val_main_v59, val_main_v60, val_main_cst_11, val_main_v61, val_main_v62, val_main_cst_12, val_main_v63, val_main_v64, val_main_v65,
    rify_simps, zero_add]
  refine congrArg (up2 (φ := .f32)) (funext fun i => funext fun j => ?_)
  unfold gelu gelu1
  ring
@[rify_simps] theorem v71 : val_main_v71 (F := Ideal) (f3 fun _ => a.x) (f3 fun _ => a.win) (f2 a.dcat) = f2 a.dm := by
  simp only [val_main_v70, val_main_v71,
    rify_simps, zero_add]
  rw [slice2 _ _ (by decide) (by decide)]
  simp only [rify_simps]
  refine congrArg (up2 (φ := .f32)) (funext fun i => funext fun j => ?_)
  rw [mul_comm]
  exact congrArg (· * gelu a.u i j) (congrArg (a.dcat i) (Fin.ext (Nat.zero_add _)))
@[rify_simps] theorem v74 : val_main_v74 (F := Ideal) (f3 fun _ => a.x) (f3 fun _ => a.win) (f2 a.dcat) = f3 (heads a.dm) := by
  simp only [val_main_v72, val_main_v73, val_main_v74,
    rify_simps, zero_add]
  exact heads_up _ _ _ _
@[rify_simps] theorem v100 : val_main_v100 (F := Ideal) (f3 fun _ => a.x) (f3 fun _ => a.win) (f2 a.dcat) = f2 fun i h => ∑ n, heads a.dm h i n := by
  simp only [val_main_cst_13, val_main_v75, val_main_v76, val_main_cst_14, val_main_v77, val_main_v100, hostReduce_last, unit_last,
    rify_simps, zero_add]
  refine (transpose2 _ _).trans ?_
  refine congrArg (up2 (φ := .f32)) (funext fun i => funext fun j => ?_)
  rw [Fin.sum_univ_one]
@[rify_simps] theorem v101 : val_main_v101 (F := Ideal) (f3 fun _ => a.x) (f3 fun _ => a.win) (f2 a.dcat) = f2 (bias a.dmix) := by
  simp only [val_main_c, val_main_call2_v0, val_main_v101,
    rify_simps, zero_add]
  rw [zero_word, pad_bias]
  refine congrArg (up2 (φ := .f32)) (funext fun i => funext fun j => ?_)
  unfold bias
  by_cases h : j.val < 8
  · rw [dif_pos h, dif_pos h]
    exact (sum_heads _ _ _).trans (Finset.sum_comm)
  · rw [dif_neg h, dif_neg h]
@[rify_simps] theorem v78 : val_main_v78 (F := Ideal) (f3 fun _ => a.x) (f3 fun _ => a.win) (spatial a.w) (f2 a.dcat) = f3 fun h n k => ∑ i, heads a.dm h i n * tri (a.w h) i k := by
  unfold val_main_v78
  rw [v74, v48]
  exact dotGeneral_tn3 _ _ _ _
@[rify_simps] theorem v79 : val_main_v79 (F := Ideal) (f3 fun _ => a.x) (f3 fun _ => a.win) (spatial a.w) (f2 a.dcat) = f3 a.dvh := by
  unfold val_main_v79
  rw [v78]
  refine (swap3 _ _).trans ?_
  refine congrArg (up3 (φ := .f32)) (funext fun h => funext fun i => funext fun j => ?_)
  exact Finset.sum_congr rfl fun q _ => mul_comm _ _
@[rify_simps] theorem v80 : val_main_v80 (F := Ideal) (f3 fun _ => a.x) (f3 fun _ => a.win) (f2 a.g) (f2 a.b) (f2 a.dcat) = f3 fun h i k => ∑ n, heads a.dm h i n * heads a.vgl h k n := by
  unfold val_main_v80
  rw [v74, v43]
  exact dotGeneral_nt3 _ _ _ _
@[rify_simps] theorem v85 : val_main_v85 (F := Ideal) (f3 fun _ => a.x) (f3 fun _ => a.win) (spatial a.w) (f2 a.dcat) = f2 (tokens a.dvh) := by
  simp only [val_main_v83, val_main_v84, val_main_v85,
    rify_simps, zero_add]
  exact tokens_up _ _ _ _
@[rify_simps] theorem v87 : val_main_v87 (F := Ideal) (f3 fun _ => a.x) (f3 fun _ => a.win) (spatial a.w) (f2 a.dcat) = f2 a.dshift := by
  simp only [val_main_cst_15, val_main_v86, val_main_v87,
    rify_simps, zero_add]
  refine congrArg (up2 (φ := .f32)) (funext fun i => funext fun j => ?_)
  exact (sum_tok _).trans (Finset.sum_congr rfl fun c _ => Finset.sum_congr rfl fun k _ => a.tokens_dvh c k j)
@[rify_simps] theorem v90 : val_main_v90 (F := Ideal) (f3 fun _ => a.x) (f3 fun _ => a.win) (spatial a.w) (f2 a.dcat) = f2 a.dgain := by
  simp only [val_main_v88, val_main_cst_16, val_main_v89, val_main_v90,
    rify_simps, zero_add]
  refine congrArg (up2 (φ := .f32)) (funext fun i => funext fun j => ?_)
  refine (sum_tok _).trans (Finset.sum_congr rfl fun c _ => Finset.sum_congr rfl fun k _ => ?_)
  rw [a.tokens_dvh c k j, mul_comm]
  rfl
@[rify_simps] theorem v82 : val_main_v82 (F := Ideal) (f3 fun _ => a.x) (f3 fun _ => a.win) (f2 a.g) (f2 a.b) (f2 a.dcat) = f3 a.dw := by
  unfold val_main_v82
  rw [v80, v81]
  funext t
  obtain ⟨h, i, j, rfl⟩ : ∃ (h : Fin 8) (i j : Fin 128), t = ix3 h i j := ⟨_, _, _, eq_ix3 t⟩
  refine (EReal.coe_mul _ _).symm.trans (congrArg (fun x : ℝ => (x : EReal)) ?_)
  refine (mul_ite_one (j.val ≤ i.val) _).trans ?_
  show _ = a.dw h i j
  unfold MixIn.dw GateIn.dw tri
  by_cases hj : j.val ≤ i.val
  · simp only [if_pos hj]
    exact sum_heads₂ _ _ _ _ _
  · simp only [if_neg hj, Finset.sum_const_zero]
@[rify_simps] theorem v96 : val_main_v96 (F := Ideal) (f3 fun _ => a.x1) (f3 fun _ => a.w1) = f2 (sqr a.hid) := by
  simp only [val_main_v92, val_main_v93, val_main_v94, val_main_call1_cst, val_main_call1_v0, val_main_v95, val_main_v96, dot_S4096x1024_S1024x4096_S4096x4096_1_0_0_1_n_n,
    rify_simps, zero_add] <;> rfl
@[rify_simps] theorem v99 : val_main_v99 (F := Ideal) (f3 fun _ => a.x1) (f3 fun _ => a.w1) (f2 a.dz2) = f2 a.dff := by
  simp only [val_main_v98, val_main_v99, dot_S4096x1024_S4096x4096_S1024x4096_0_0_1_1_n_n,
    rify_simps, zero_add]
  refine (transpose2 _ _).trans ?_
  refine congrArg (up2 (φ := .f32)) (funext fun i => funext fun j => ?_)
  exact Finset.sum_congr rfl fun q _ => mul_comm _ _

end Cert.MixerBwdRefIdeal.Stages

end
-- ==== Proof.MixerBwdClaim.lean ====
/-
  The claims of the mixer's backward call: both programs end with the same five arrays.
-/
module

public import proofs.«01_k».proof.Defs
public import proofs.«01_k».proof.Proof.Gen.MixerBwd
public import proofs.«01_k».proof.Proof.Gen.MixerBwdRefIdeal.Run
public import proofs.«01_k».proof.Proof.Finite
public import Idealize.ShloMosaic.Lib.Tactic
public import proofs.«01_k».proof.Proof.MixerBwdBias
public import proofs.«01_k».proof.Proof.MixerBwdRef

@[expose] public section

noncomputable section

namespace Cert.MixerBwdClaim

open Cert.Reals Cert.Layer Idealize.ShloMosaic Idealize.ShloMosaic.Tactic Idealize.SL.Sem

instance facts : Cert.Pre_finite_mixer_bwd.Facts := by
  constructor <;> exact bid_scalar

/-- The two programs have the same text: the run at every reading of the floats is the program's own at `Bits`. -/
theorem frame_kernel : Cert.quiescent_MixerBwd :=
  have h := fun m ρ (_ : True) => Cert.MixerBwdIdeal.Run.frame (F := Bits) m ρ
  Eq.mpr (by sl_kernel_rfl) h
theorem frame_ideal : Cert.quiescent_MixerBwdIdeal := fun m ρ _ => Cert.MixerBwdIdeal.Run.frame m ρ
theorem frame_ideal_pre : Cert.quiescent_MixerBwdIdeal_pre_finite_mixer_bwd := fun m ρ _ => Cert.MixerBwdIdeal.Run.frame m ρ
theorem frame_ref : Cert.quiescent_MixerBwdRefIdeal := fun m ρ _ =>
  (θ_run Cert.MixerBwdRefIdeal.defs _ _).mono (fun r h => ⟨fun c => (h c).2.2.2.2.2, sem_eq_zero_of_no_sems (by decide) r.2⟩)
    (Cert.MixerBwdRefIdeal.Value.run m ρ)
theorem frame_ref_pre : Cert.quiescent_MixerBwdRefIdeal_pre_finite_mixer_bwd := fun m ρ _ => frame_ref m ρ trivial

/-- A finite stack of matrices under one leading axis holds real functions. -/
theorem Finite.stack {x : FVec Ideal ⟨4, ![1, 8, 128, 128]⟩ .f32} (h : Finite x) :
    x = spatial fun p i j => (x (ix4 0 p i j) : EReal).toReal := by
  funext i
  obtain ⟨u, p, q, r, rfl⟩ : ∃ u p q r, i = ix4 u p q r := ⟨_, _, _, _, eq_ix4 i⟩
  obtain rfl : u = 0 := Subsingleton.elim _ _
  exact h.real _

/-- Finite argument arrays hold real functions. -/
theorem exists_args {a0 : FVec Ideal ⟨3, ![1, 4096, 1024]⟩ .f32} {a2 : FVec Ideal ⟨3, ![1, 1024, 1792]⟩ .f32}
    {a3 a4 : FVec Ideal ⟨2, ![1, 512]⟩ .f32} {a5 : FVec Ideal ⟨4, ![1, 8, 128, 128]⟩ .f32}
    {a8 : FVec Ideal ⟨3, ![1, 4096, 1024]⟩ .f32} {a9 : FVec Ideal ⟨3, ![1, 1024, 4096]⟩ .f32}
    {a11 a12 : FVec Ideal ⟨2, ![4096, 1024]⟩ .f32}
    (h0 : Finite a0) (h2 : Finite a2) (h3 : Finite a3) (h4 : Finite a4) (h5 : Finite a5) (h8 : Finite a8) (h9 : Finite a9)
    (h11 : Finite a11) (h12 : Finite a12) : ∃ a : MixIn, a.Is a0 a2 a3 a4 a5 a8 a9 a11 a12 :=
  ⟨⟨_, _, _, _, fun p i j => (a5 (ix4 0 p i j) : EReal).toReal, _, _, _, _⟩, h0.up3, h2.up3, h3.up2, h4.up2, Finite.stack h5, h8.up3, h9.up3, h11.up2, h12.up2⟩

/-- The reference's five values on arrays that hold `a`. -/
theorem reference_values {a : MixIn} {a0 a2 a3 a4 a5 a8 a9 a11 a12} (h : a.Is a0 a2 a3 a4 a5 a8 a9 a11 a12) :
    Cert.MixerBwdRefIdeal.Read.val_main_v99 (F := Ideal) a8 a9 a12 = f2 a.dff
    ∧ Cert.MixerBwdRefIdeal.Read.val_main_v90 (F := Ideal) a0 a2 a5 a11 = f2 a.dgain
    ∧ Cert.MixerBwdRefIdeal.Read.val_main_v87 (F := Ideal) a0 a2 a5 a11 = f2 a.dshift
    ∧ Cert.MixerBwdRefIdeal.Read.val_main_v82 (F := Ideal) a0 a2 a3 a4 a11 = f3 a.dw
    ∧ Cert.MixerBwdRefIdeal.Read.val_main_v101 (F := Ideal) a0 a2 a11 = f2 (bias a.dmix) := by
  obtain ⟨rfl, rfl, rfl, rfl, rfl, rfl, rfl, rfl, rfl⟩ := h
  exact ⟨Cert.MixerBwdRefIdeal.Stages.v99 a, Cert.MixerBwdRefIdeal.Stages.v90 a, Cert.MixerBwdRefIdeal.Stages.v87 a,
    Cert.MixerBwdRefIdeal.Stages.v82 a, Cert.MixerBwdRefIdeal.Stages.v101 a⟩

/-- The reference's arguments hold `a`. -/
abbrev RefArgs (m : (ℓ : Loc Cert.MixerBwdRefIdeal.nD Cert.MixerBwdRefIdeal.τ Cert.MixerBwdRefIdeal.sig) → Buf (Elt Ideal) ℓ)
    (c : Dev Cert.MixerBwdRefIdeal.nD) (a : MixIn) : Prop :=
  a.Is (m (c.tc.loc Cert.MixerBwdRefIdeal.main_arg0)) (m (c.tc.loc Cert.MixerBwdRefIdeal.main_arg2))
    (m (c.tc.loc Cert.MixerBwdRefIdeal.main_arg3)) (m (c.tc.loc Cert.MixerBwdRefIdeal.main_arg4))
    (m (c.tc.loc Cert.MixerBwdRefIdeal.main_arg5)) (m (c.tc.loc Cert.MixerBwdRefIdeal.main_arg8))
    (m (c.tc.loc Cert.MixerBwdRefIdeal.main_arg9)) (m (c.tc.loc Cert.MixerBwdRefIdeal.main_arg11))
    (m (c.tc.loc Cert.MixerBwdRefIdeal.main_arg12))

/-- The reference's five results on finite arguments. -/
theorem reference_run (a : Dev Cert.MixerBwdRefIdeal.nD → MixIn) (m) (ρ) (ha : ∀ c, RefArgs m c (a c)) :
    θ_run (Cert.MixerBwdRefIdeal.defs (F := Ideal)) (onTc (τ := Cert.MixerBwdRefIdeal.τ) (Cert.MixerBwdRefIdeal.main (F := Ideal)))
      ⟨m, fun _ => 0, ρ⟩ fun r => ∀ c : Dev Cert.MixerBwdRefIdeal.nD,
        r.2.mem (c.tc.loc Cert.MixerBwdRefIdeal.main_v99) = f2 (a c).dff
        ∧ r.2.mem (c.tc.loc Cert.MixerBwdRefIdeal.main_v90) = f2 (a c).dgain
        ∧ r.2.mem (c.tc.loc Cert.MixerBwdRefIdeal.main_v87) = f2 (a c).dshift
        ∧ r.2.mem (c.tc.loc Cert.MixerBwdRefIdeal.main_v82) = f3 (a c).dw
        ∧ r.2.mem (c.tc.loc Cert.MixerBwdRefIdeal.main_v101) = f2 (bias (a c).dmix) := by
  refine (θ_run Cert.MixerBwdRefIdeal.defs _ _).mono (fun r h c => ?_) (Cert.MixerBwdRefIdeal.Value.run m ρ)
  obtain ⟨h0, h1, h2, h3, h4, -⟩ := h c
  obtain ⟨v0, v1, v2, v3, v4⟩ := reference_values (ha c)
  exact ⟨h0.trans ((Cert.MixerBwdRefIdeal.Read.val_main_v99_eq _ _ _).trans v0),
    h1.trans ((Cert.MixerBwdRefIdeal.Read.val_main_v90_eq m c).trans v1),
    h2.trans ((Cert.MixerBwdRefIdeal.Read.val_main_v87_eq _ _ _ _).trans v2),
    h3.trans ((Cert.MixerBwdRefIdeal.Read.val_main_v82_eq m c).trans v3),
    h4.trans ((Cert.MixerBwdRefIdeal.Read.val_main_v101_eq _ _ _).trans v4)⟩

/-- The precondition gives the real functions that the arguments hold. -/
theorem args_of_pre {m} (h : Cert.Pre_MixerBwdIdeal_finite_mixer_bwd m) (c : Dev Cert.MixerBwdIdeal.nD) :
    ∃ a : MixIn, Cert.MixerBwdIdeal.Run.Args m c a := by
  obtain ⟨h0, h1, h2, h3, h4, h5, h6, h7, h8⟩ := h c
  exact exists_args ⟨_, h0⟩ ⟨_, h1⟩ ⟨_, h2⟩ ⟨_, h3⟩ ⟨_, h4⟩ ⟨_, h5⟩ ⟨_, h6⟩ ⟨_, h7⟩ ⟨_, h8⟩

open Cert.MixerBwdIdeal.Run in
/-- A result that the launch fills exactly: what its window holds at the end is the only array allowed. -/
theorem exact_result {m} {c} {w} (hw : w = 21 ∨ w = 22 ∨ w = 23) {X} (h : (rdat (F := Ideal) m c).ArrAt w Cert.MixerBwdIdeal.cfg0.N X) :
    X = (dats m 0 c).arrAt w Cert.MixerBwdIdeal.cfg0.N := by
  obtain rfl | rfl | rfl := hw
  all_goals exact ((dats m 0 c).toR_arrAt_iff _ _ _).mp ((((dats m 0 c).toR.override_arrAt (by simp only [fgt]) _ _)).mp h)

/-- The kernel's five results on finite arguments. -/
theorem kernel_run (a : Dev Cert.MixerBwdIdeal.nD → MixIn) (m) (ρ) (ha : ∀ c : Dev Cert.MixerBwdIdeal.nD, Cert.MixerBwdIdeal.Run.Args m c (a c)) :
    θ_run (Cert.MixerBwdIdeal.defs (F := Ideal)) (onTc (τ := Cert.MixerBwdIdeal.τ) (Cert.MixerBwdIdeal.main (F := Ideal)))
      ⟨m, fun _ => 0, ρ⟩ fun r => ∀ c : Dev Cert.MixerBwdIdeal.nD,
        r.2.mem (c.tc.loc Cert.MixerBwdIdeal.main_v96_2) = f2 (a c).dff
        ∧ r.2.mem (c.tc.loc Cert.MixerBwdIdeal.main_v96_3) = f2 (a c).dgain
        ∧ r.2.mem (c.tc.loc Cert.MixerBwdIdeal.main_v96_4) = f2 (a c).dshift
        ∧ r.2.mem (c.tc.loc Cert.MixerBwdIdeal.main_v96_5) = f3 (a c).dw
        ∧ r.2.mem (c.tc.loc Cert.MixerBwdIdeal.main_v96_6) = f2 (bias (a c).dmix) := by
  refine (θ_run Cert.MixerBwdIdeal.defs _ _).mono (fun r h c => ?_) (Cert.MixerBwdIdeal.Run.run_main (F := Ideal) m ρ)
  exact ⟨(h.1.written c (by decide)).trans ((Cert.MixerBwdIdeal.Run.G_dst m c).trans (Cert.MixerBwdIdeal.Run.gw_eq (ha c))),
    (exact_result (.inl rfl) ((h.1.toR c).1 21)).trans (Cert.MixerBwdIdeal.Run.arr21 (ha c)),
    (exact_result (.inr (.inl rfl)) ((h.1.toR c).1 22)).trans (Cert.MixerBwdIdeal.Run.arr22 (ha c)),
    (exact_result (.inr (.inr rfl)) ((h.1.toR c).1 23)).trans (Cert.MixerBwdIdeal.Run.arr23 (ha c)),
    Cert.MixerBwdIdeal.Run.arr24 (ha c) _ ((h.1.toR c).1 24)⟩

/-- Both programs end with the five arrays of the layer's functions. -/
theorem value : Cert.algebraic_MixerBwdIdeal_MixerBwdRefIdeal_pre_finite_mixer_bwd := by
  intro m ρ m' ρ' hpre hagree
  choose a ha using args_of_pre hpre
  have ha' : ∀ c : Dev Cert.MixerBwdRefIdeal.nD, RefArgs m' c (a c) := fun c => by
    obtain ⟨g0, g1, g2, g3, g4, g5, g6, g7, g8, g9, g10, g11, g12⟩ := hagree c
    obtain ⟨e0, e2, e3, e4, e5, e8, e9, e11, e12⟩ := ha c
    exact ⟨g0.trans e0, g2.trans e2, g3.trans e3, g4.trans e4, g5.trans e5, g8.trans e8, g9.trans e9, g11.trans e11, g12.trans e12⟩
  refine ⟨fun c => f2 (a c).dff, fun c => f2 (a c).dgain, fun c => f2 (a c).dshift, fun c => f3 (a c).dw,
    fun c => f2 (bias (a c).dmix), ?_, ?_⟩
  · refine (θ_run Cert.MixerBwdIdeal.defs _ _).mono (fun r h c => ?_) (θ_run_and (kernel_run a m ρ ha) (Cert.MixerBwdIdeal.Run.frame m ρ))
    obtain ⟨h0, h1, h2, h3, h4⟩ := h.1 c
    exact ⟨h0, h1, h2, h3, h4, h.2.1 c⟩
  · refine (θ_run Cert.MixerBwdRefIdeal.defs _ _).mono (fun r h c => ?_)
      (θ_run_and (reference_run a m' ρ' ha') (Cert.MixerBwdRefIdeal.Value.run m' ρ'))
    obtain ⟨h0, h1, h2, h3, h4⟩ := h.1 c
    exact ⟨h0, h1, h2, h3, h4, (h.2 c).2.2.2.2.2⟩

end Cert.MixerBwdClaim

end
-- ==== Proof.InProjRows.lean ====
/-
  What one grid point of the input projection computes from the arrays it reads, on all extended reals: the products of its
  rows with the columns of the weights, and their rotation by position.
-/
module

public import proofs.«01_k».proof.Proof.Gen.InProjIdeal.Frame
public import Idealize.ShloMosaic.Lib.KernelVsHost
public import Idealize.ShloMosaic.Lib.Pointwise
public import Idealize.ShloMosaic.Lib.Pipeline.Value
public import Idealize.ShloMosaic.PureOps.Ideal.Laws

@[expose] public section

set_option maxRecDepth 16384

noncomputable section

namespace Cert.Rope

open Idealize.ShloMosaic Idealize.SL.Sem

/-- A table of extended reals as an ideal array. -/
def tab {n m : ℕ} {φ : FTy} (a : Fin n → Fin m → EReal) : FVec Ideal ⟨2, ![n, m]⟩ φ := fun i => a (i 0) (i 1)

theorem tab_congr {n m : ℕ} {φ : FTy} {a b : Fin n → Fin m → EReal} (h : ∀ i j, a i j = b i j) : tab (φ := φ) a = tab b :=
  congrArg tab (funext fun i => funext (h i))

/-- The column that lane `j` is rotated with, among groups of 64: 32 lanes further in a group's first half, 32 back in its second. -/
def ahead {n : ℕ} (j : Fin n) : Fin n := ⟨(j.val + 32) % n, Nat.mod_lt _ (Fin.pos j)⟩
def back {n : ℕ} (j : Fin n) : Fin n := ⟨(j.val + n - 32) % n, Nat.mod_lt _ (Fin.pos j)⟩

/-- A row `y` rotated by the angles with cosines `c` and sines `s`. -/
def rope {n : ℕ} (y c s : Fin n → EReal) (j : Fin n) : EReal :=
  y j * c j + (if j.val % 64 < 32 then -(y (ahead j)) else y (back j)) * s j

/-- The product that contracts rows with rows, added to nothing. -/
theorem dot_rows {n k m : ℕ} {φ ψ : FTy} (wf) (prec) (a : Fin n → Fin k → EReal) (b : Fin m → Fin k → EReal) :
    matmul (F := Ideal) (sl := ⟨2, ![n, k]⟩) (sr := ⟨2, ![m, k]⟩) (so := ⟨2, ![n, m]⟩)
      { lhsContracting := [1], rhsContracting := [1], lhsNonContracting := [0], rhsNonContracting := [0],
        lhsBatch := [], rhsBatch := [], wf := wf } prec (tab (φ := φ) a) (tab (φ := ψ) b) (constant ⟨2, ![n, m]⟩ .f32 0x00000000#32)
      = tab fun i j => ∑ q, a i q * b j q := by
  funext i
  obtain ⟨p, q, rfl⟩ : ∃ p q, i = ix2 p q := ⟨_, _, eq_ix2 i⟩
  refine (Ideal.matmul_apply₁ _ rfl rfl _ _ _ _).trans ?_
  have z : (constant (F := Ideal) ⟨2, ![n, m]⟩ .f32 0x00000000#32) (ix2 p q) = 0 := by
    show Ideal.ofBits .f32 0x00000000#32 = 0
    simp [Ideal.ofBits, Ideal.ieee]
  rw [z, zero_add]; rfl

/-- A rotation of the lanes by all but 32, and by 32. -/
theorem rotate_ahead {n m : ℕ} {φ : FTy} (sb : BitVec 32) (h) (a : Fin n → Fin m → EReal) (hs : sb.toNat + 32 = m) (h32 : 0 < sb.toNat)
    (p : Fin n) (q : Fin m) : dynamicRotate (s := ⟨2, ![n, m]⟩) 1 sb none (tab (φ := φ) a) h (ix2 p q) = a p (ahead q) :=
  dynamicRotate_apply 1 sb _ h (ix2 p q) (ix2 p (ahead q)) fun b => match b with
    | ⟨0, _⟩ => rfl
    | ⟨1, _⟩ => by
      show (q.val + 32) % m = (q.val + m - sb.toNat % m) % m
      rw [Nat.mod_eq_of_lt (by omega : sb.toNat < m)]; congr 1; omega
theorem rotate_back {n m : ℕ} {φ : FTy} (h) (a : Fin n → Fin m → EReal) (h32 : 32 < m)
    (p : Fin n) (q : Fin m) : dynamicRotate (s := ⟨2, ![n, m]⟩) 1 32#32 none (tab (φ := φ) a) h (ix2 p q) = a p (back q) :=
  dynamicRotate_apply 1 32#32 _ h (ix2 p q) (ix2 p (back q)) fun b => match b with
    | ⟨0, _⟩ => rfl
    | ⟨1, _⟩ => by
      show (q.val + m - 32) % m = (q.val + m - 32 % m) % m
      rw [Nat.mod_eq_of_lt h32]

/-- The test of the lane number's bit of 32. -/
theorem lane_test (q : ℕ) (hq : q < 512) :
    IntOp.cmpi .eq (IntOp.andi (BitVec.ofNat 32 (0 * 512 + q)) 32#32) 0#32 = if q % 64 < 32 then 1 else 0 := by
  have h : ∀ q : Fin 512, IntOp.cmpi .eq (IntOp.andi (BitVec.ofNat 32 (0 * 512 + q.val)) 32#32) 0#32 = if q.val % 64 < 32 then 1 else 0 := by
    decide +kernel
  exact h ⟨q, hq⟩

theorem zero_minus (x : EReal) : Ideal.ofBits .f32 0x00000000#32 - x = -x := by
  rw [show Ideal.ofBits .f32 0x00000000#32 = 0 by simp [Ideal.ofBits, Ideal.ieee], zero_sub]

end Cert.Rope

namespace Cert.InProjIdeal.Rows

open Cert.InProjIdeal Cert.InProjIdeal.Gen Cert.Rope Idealize.ShloMosaic Idealize.SL.Sem

/-- The rotation of the queries' 512 lanes, and of the keys' 128. -/
theorem rotated_q (y c s : Fin 1024 → Fin 512 → EReal) :
    k0_pay1 (F := Ideal) (tab y) (tab s) (mulf (tab y) (tab c)) = tab fun i => rope (y i) (c i) (s i) := by
  funext i
  obtain ⟨p, q, rfl⟩ : ∃ p q, i = ix2 p q := ⟨_, _, eq_ix2 i⟩
  have r1 := rotate_ahead (φ := .f32) 480#32 rotates_S1024x512_d1 y rfl (by decide) p q
  have r2 := rotate_back (φ := .f32) rotates_S1024x512_d1 y (by decide) p q
  refine (show _ = y p q * c p q + (if IntOp.cmpi .eq (IntOp.andi (BitVec.ofNat 32 (0 * 512 + q.val)) 32#32) 0#32 = 1
      then Ideal.ofBits .f32 0x00000000#32 - dynamicRotate 1 480#32 none (tab (φ := .f32) y) rotates_S1024x512_d1 (ix2 p q)
      else dynamicRotate 1 32#32 none (tab (φ := .f32) y) rotates_S1024x512_d1 (ix2 p q)) * s p q from rfl).trans ?_
  rw [r1, r2, lane_test _ q.isLt, zero_minus]
  show _ = rope (y p) (c p) (s p) q
  unfold rope
  by_cases h : q.val % 64 < 32
  · rw [if_pos h, if_pos h, if_pos rfl]
  · rw [if_neg h, if_neg h, if_neg (by decide)]
theorem rotated_k (y c s : Fin 1024 → Fin 128 → EReal) :
    k0_pay2 (F := Ideal) (tab y) (tab c) (tab s) = tab fun i => rope (y i) (c i) (s i) := by
  funext i
  obtain ⟨p, q, rfl⟩ : ∃ p q, i = ix2 p q := ⟨_, _, eq_ix2 i⟩
  have r1 := rotate_ahead (φ := .f32) 96#32 rotates_S1024x128_d1 y rfl (by decide) p q
  have r2 := rotate_back (φ := .f32) rotates_S1024x128_d1 y (by decide) p q
  refine (show _ = y p q * c p q + (if IntOp.cmpi .eq (IntOp.andi (BitVec.ofNat 32 (0 * 512 + q.val)) 32#32) 0#32 = 1
      then Ideal.ofBits .f32 0x00000000#32 - dynamicRotate 1 96#32 none (tab (φ := .f32) y) rotates_S1024x128_d1 (ix2 p q)
      else dynamicRotate 1 32#32 none (tab (φ := .f32) y) rotates_S1024x128_d1 (ix2 p q)) * s p q from ?_).trans ?_
  · unfold k0_pay2; dsimp only; rw [show BitVec.ofNat 32 (0 * 512 + q.val) = BitVec.ofNat 32 (0 * 128 + q.val) by simp]; rfl
  rw [r1, r2, lane_test _ (by omega), zero_minus]
  show _ = rope (y p) (c p) (s p) q
  unfold rope
  by_cases h : q.val % 64 < 32
  · rw [if_pos h, if_pos h, if_pos rfl]
  · rw [if_neg h, if_neg h, if_neg (by decide)]

/-- Four copies of a table of 128 lanes side by side. -/
theorem four_copies (c : Fin 1024 → Fin 128 → EReal) (h) :
    concatenate S1024x512 1 [⟨S1024x128, tab (φ := .f32) c⟩, ⟨S1024x128, tab (φ := .f32) c⟩, ⟨S1024x128, tab (φ := .f32) c⟩, ⟨S1024x128, tab (φ := .f32) c⟩] h
      = tab (φ := .f32) fun i j => c i ⟨j.val % 128, Nat.mod_lt _ (by decide)⟩ := by
  funext i
  obtain ⟨p, q, rfl⟩ : ∃ p q, i = ix2 p q := ⟨_, _, eq_ix2 i⟩
  exact concatenate_replicate_apply (1 : Fin S1024x512.rank) 4 (tab (φ := .f32) c) h rfl (ix2 p q) (ix2 p ⟨q.val % 128, Nat.mod_lt _ (by decide)⟩) rfl
    (fun b hb => match b, hb with
      | ⟨0, _⟩, _ => rfl
      | ⟨1, _⟩, hb => absurd rfl hb)

end Cert.InProjIdeal.Rows

end
-- ==== Proof.InProjBlocks.lean ====
/-
  The arrays that the input projection leaves, on all extended reals: the columns of the projection, the queries and keys
  rotated by the angles of their positions.
-/
module

public import proofs.«01_k».proof.Proof.InProjRows
public import proofs.«01_k».proof.Proof.Gen.InProjIdeal.Value
public import proofs.«01_k».proof.Proof.Gen.InProjRefIdeal.Read
public import proofs.«01_k».proof.Proof.Reals
public import Idealize.ShloMosaic.Lib.Pipeline.ValueKit.Point

@[expose] public section

set_option maxRecDepth 16384

noncomputable section

namespace Cert.Rope

open Idealize.ShloMosaic Idealize.SL.Sem

/-- What both programs project and rotate: the activations, the weights, and the cosines and sines of the angles. -/
structure Tables where
  x : Fin 4096 → Fin 1024 → EReal
  w : Fin 1024 → Fin 1792 → EReal
  cos : Fin 4096 → Fin 32 → EReal
  sin : Fin 4096 → Fin 32 → EReal

/-- Column `j` of the projection's `n` columns from `o` on. -/
def Tables.proj (T : Tables) {n : ℕ} (o : ℕ) (h : o + n ≤ 1792) (r : Fin 4096) (j : Fin n) : EReal :=
  ∑ k, T.x r k * T.w k (Cert.Reals.part o h j)

/-- Lane `j` of a group of 32 angles. -/
def lane {n : ℕ} (j : Fin n) : Fin 32 := ⟨j.val % 32, Nat.mod_lt _ (by decide)⟩

/-- The columns from `o` on, rotated. -/
def Tables.rotated (T : Tables) {n : ℕ} (o : ℕ) (h : o + n ≤ 1792) (r : Fin 4096) : Fin n → EReal :=
  rope (T.proj o h r) (fun j => T.cos r (lane j)) (fun j => T.sin r (lane j))

/-- The tables of the arguments: the angles are those that the mathematics prints. -/
def tables (x : FVec Ideal ⟨3, ![1, 4096, 1024]⟩ .f32) (pos : IVec ⟨2, ![1, 4096]⟩ 32) (w : FVec Ideal ⟨3, ![1, 1024, 1792]⟩ .f32) : Tables where
  x r k := Cert.InProjRefIdeal.Read.val_main_v0 (F := Ideal) x (ix2 r k)
  w k j := Cert.InProjRefIdeal.Read.val_main_v1 (F := Ideal) w (ix2 k j)
  cos r l := Cert.InProjRefIdeal.Read.val_main_v25 (F := Ideal) pos (ix2 r l)
  sin r l := Cert.InProjRefIdeal.Read.val_main_v27 (F := Ideal) pos (ix2 r l)

end Cert.Rope

namespace Cert.InProjIdeal.Rows

open Cert.InProjIdeal Cert.InProjIdeal.Gen Cert.InProjIdeal.Value Cert.Rope Cert.Reals
open Idealize.ShloMosaic Idealize.ShloMosaic.TcCoe Idealize.SL.Sem Idealize.ShloMosaic.Pipeline

variable (m : (ℓ : Loc nD τ sig) → Buf (Elt Ideal) ℓ) (c : Dev nD) (t : Fin cfg0.N)

/-- Row `i` of point `t`. -/
def rowOf (i : Fin 1024) : Fin 4096 :=
  ⟨t.val * 1024 + i.val, by have := lt_of_lt_of_eq t.isLt N_0; have := i.isLt; omega⟩

/-- The tables of the arguments at the launch. -/
abbrev tabs : Tables :=
  tables (m ((c : Thread nD τ).loc main_arg0)) (m ((c : Thread nD τ).loc main_arg1)) (m ((c : Thread nD τ).loc main_arg2))

/-- Groups of 32 angles, four copies side by side. -/
theorem copies (x : FVec Ideal S4096x32 .f32) :
    shapeCast S4096x128 (broadcastInDim S1x4096x4x32 _ bcast_S1x4096x1x32_S1x4096x4x32_0_1_2_3
      (shapeCast S1x4096x1x32 x shapeCasts_S4096x32_S1x4096x1x32)) shapeCasts_S1x4096x4x32_S4096x128 = tab fun r j => x (ix2 r (lane j)) := by
  funext i
  obtain ⟨p, q, rfl⟩ : ∃ p q, i = ix2 p q := ⟨_, _, eq_ix2 i⟩
  have hp := p.isLt
  have hq := q.isLt
  refine (shapeCast_apply _ _ (ix2 p q) (ix4 (0 : Fin 1) p (⟨q.val / 32, by omega⟩ : Fin 4) (lane q)) ?_).trans ?_
  · rw [Shape.rowMajor_val_four, Shape.rowMajor_val_two]
    show ((0 * 4096 + p.val) * 4 + q.val / 32) * 32 + q.val % 32 = p.val * 128 + q.val
    omega
  refine (broadcastInDim_apply _ _ _ _ (ix4 (0 : Fin 1) p (0 : Fin 1) (lane q)) (fun b => match b with
    | ⟨0, _⟩ => rfl
    | ⟨1, _⟩ => by show p.val = if (4096 : Nat) = 1 then 0 else p.val; rw [if_neg (by decide)]
    | ⟨2, _⟩ => rfl
    | ⟨3, _⟩ => by show (lane q).val = if (32 : Nat) = 1 then 0 else (lane q).val; rw [if_neg (by decide)])).trans ?_
  refine shapeCast_apply _ _ _ (ix2 p (lane q)) ?_
  rw [Shape.rowMajor_val_four, Shape.rowMajor_val_two]
  show p.val * 32 + (lane q).val = ((0 * 4096 + p.val) * 1 + 0) * 32 + (lane q).val
  omega

theorem read0 (a : Fin 4096 → Fin 1024 → EReal) :
    View.read (Elt Ideal) ((cfg0.win 0).blk t).view (tab (φ := .f32) a) = tab (φ := .f32) fun i => a (rowOf t i) := by
  have e : (cfg0.win 0).index t = ![t.val, 0] := by revert t; decide +kernel
  funext y
  refine congrArg₂ a (Fin.ext ?_) (Fin.ext ?_) <;> blk_simp [e] <;> rfl
theorem read1 (a : Fin 1792 → Fin 1024 → EReal) :
    View.read (Elt Ideal) ((cfg0.win 1).blk t).view (tab (φ := .bf16) a) = tab (φ := .bf16) a := by
  have e : (cfg0.win 1).index t = ![0, 0] := by revert t; decide +kernel
  funext y
  refine congrArg (tab (φ := .bf16) a) ?_
  blk_ext [e]
theorem read2 (a : Fin 4096 → Fin 128 → EReal) :
    View.read (Elt Ideal) ((cfg0.win 2).blk t).view (tab (φ := .f32) a) = tab (φ := .f32) fun i => a (rowOf t i) := by
  have e : (cfg0.win 2).index t = ![t.val, 0] := by revert t; decide +kernel
  funext y
  refine congrArg₂ a (Fin.ext ?_) (Fin.ext ?_) <;> blk_simp [e] <;> rfl
theorem read3 (a : Fin 4096 → Fin 128 → EReal) :
    View.read (Elt Ideal) ((cfg0.win 3).blk t).view (tab (φ := .f32) a) = tab (φ := .f32) fun i => a (rowOf t i) := by
  have e : (cfg0.win 3).index t = ![t.val, 0] := by revert t; decide +kernel
  funext y
  refine congrArg₂ a (Fin.ext ?_) (Fin.ext ?_) <;> blk_simp [e] <;> rfl

theorem block0 : iblk m c 0 t = tab (φ := .f32) fun i => (tabs m c).x (rowOf t i) := by
  unfold iblk; entry_read
  refine (congrArg (View.read _ _) ?_).trans (read0 t (tabs m c).x)
  funext i
  obtain ⟨p, q, rfl⟩ : ∃ p q, i = ix2 p q := ⟨_, _, eq_ix2 i⟩
  rfl
theorem block1 : iblk m c 1 t = tab (φ := .bf16) fun j k => (tabs m c).w k j := by
  unfold iblk; entry_read
  refine (congrArg (View.read _ _) ?_).trans (read1 t fun j k => (tabs m c).w k j)
  funext i
  obtain ⟨p, q, rfl⟩ : ∃ p q, i = ix2 p q := ⟨_, _, eq_ix2 i⟩
  exact congrArg (Cert.InProjRefIdeal.Read.val_main_v1 (F := Ideal) (m ((c : Thread nD τ).loc main_arg2)))
    (funext fun a => match a with | ⟨0, _⟩ => rfl | ⟨1, _⟩ => rfl)
theorem block2 : iblk m c 2 t = tab (φ := .f32) fun i j => (tabs m c).cos (rowOf t i) (lane j) := by
  unfold iblk; entry_read
  exact (congrArg (View.read _ _) (copies _)).trans (read2 t fun r j => (tabs m c).cos r (lane j))
theorem block3 : iblk m c 3 t = tab (φ := .f32) fun i j => (tabs m c).sin (rowOf t i) (lane j) := by
  unfold iblk; entry_read
  exact (congrArg (View.read _ _) (copies _)).trans (read3 t fun r j => (tabs m c).sin r (lane j))

/-! ## What a point stores -/

/-- The cast to bf16 keeps the values. -/
theorem narrow_tab {n m : ℕ} (a : Fin n → Fin m → EReal) : truncf .bf16 (tab (φ := .f32) a) bitsLt_bf16_f32 = tab (φ := .bf16) a := rfl
/-- A part of a table, read, in either format. -/
theorem ld_tab {n m n' m' : ℕ} (a : Fin n → Fin m → EReal) (o q : ℕ)
    (inb : ∀ d, (![o, q] : Fin 2 → ℕ) d + (![n', m'] : Fin 2 → ℕ) d ≤ (⟨2, ![n, m]⟩ : Shape).size d) :
    View.ld (Val := Elt Ideal) (e' := .f32) (tab (φ := .f32) a) (Rect.unit (s := ⟨2, ![n, m]⟩) ![o, q] ![n', m'] inb)
      = tab (φ := .f32) fun i j => a (part o (inb20 inb) i) (part q (inb21 inb) j) := by
  rw [View.ld_unit]; rfl
theorem ld_tab_bf16 {n m n' m' : ℕ} (a : Fin n → Fin m → EReal) (o q : ℕ)
    (inb : ∀ d, (![o, q] : Fin 2 → ℕ) d + (![n', m'] : Fin 2 → ℕ) d ≤ (⟨2, ![n, m]⟩ : Shape).size d) :
    View.ld (Val := Elt Ideal) (e' := .bf16) (tab (φ := .bf16) a) (Rect.unit (s := ⟨2, ![n, m]⟩) ![o, q] ![n', m'] inb)
      = tab (φ := .bf16) fun i j => a (part o (inb20 inb) i) (part q (inb21 inb) j) := by
  rw [View.ld_unit]; rfl

variable (x : Fin 1024 → Fin 1024 → EReal)

/-- The rows as the products take them. -/
theorem rows_eq : k0_pay3 (F := Ideal) (View.ld (tab (φ := .f32) x) r0_0) = tab (φ := .bf16) x := by
  unfold k0_pay3; dsimp only
  rw [shapeCast_self, show View.ld (Val := Elt Ideal) (e' := .f32) (tab (φ := .f32) x) r0_0 = _ from ld_tab x 0 0 _]
  refine (narrow_tab _).trans (tab_congr fun i j => ?_)
  rw [part_zero, part_zero]

variable (w : Fin 1792 → Fin 1024 → EReal)

theorem pay_u : k0_pay4 (F := Ideal) (View.ld (tab (φ := .f32) x) r0_0) (View.ld (tab (φ := .bf16) w) r0_1)
    = tab (φ := .f32) fun i (j : Fin 512) => ∑ k, x i k * w (part 0 (by decide) j) k := by
  unfold k0_pay4; dsimp only
  rw [rows_eq, shapeCast_self, show View.ld (Val := Elt Ideal) (e' := .bf16) (tab (φ := .bf16) w) r0_1 = _ from ld_tab_bf16 w 0 0 _]
  refine (dot_rows _ _ _ _).trans (tab_congr fun i j => ?_)
  simp only [part_zero]
theorem pay_vg : k0_pay5 (F := Ideal) (View.ld (tab (φ := .f32) x) r0_0) (View.ld (tab (φ := .bf16) w) r0_3)
    = tab (φ := .f32) fun i (j : Fin 512) => ∑ k, x i k * w (part 512 (by decide) j) k := by
  unfold k0_pay5; dsimp only
  rw [rows_eq, shapeCast_self, show View.ld (Val := Elt Ideal) (e' := .bf16) (tab (φ := .bf16) w) r0_3 = _ from ld_tab_bf16 w 512 0 _]
  refine (dot_rows _ _ _ _).trans (tab_congr fun i j => ?_)
  simp only [part_zero]
theorem pay_q : k0_pay6 (F := Ideal) (View.ld (tab (φ := .f32) x) r0_0) (View.ld (tab (φ := .bf16) w) r0_4)
    = tab (φ := .f32) fun i (j : Fin 512) => ∑ k, x i k * w (part 1024 (by decide) j) k := by
  unfold k0_pay6; dsimp only
  rw [rows_eq, shapeCast_self, show View.ld (Val := Elt Ideal) (e' := .bf16) (tab (φ := .bf16) w) r0_4 = _ from ld_tab_bf16 w 1024 0 _]
  refine (dot_rows _ _ _ _).trans (tab_congr fun i j => ?_)
  simp only [part_zero]
theorem pay_k : k0_pay7 (F := Ideal) (View.ld (tab (φ := .f32) x) r0_0) (View.ld (tab (φ := .bf16) w) r0_5)
    = tab (φ := .f32) fun i (j : Fin 128) => ∑ k, x i k * w (part 1536 (by decide) j) k := by
  unfold k0_pay7; dsimp only
  rw [rows_eq, shapeCast_self, show View.ld (Val := Elt Ideal) (e' := .bf16) (tab (φ := .bf16) w) r0_5 = _ from ld_tab_bf16 w 1536 0 _]
  refine (dot_rows _ _ _ _).trans (tab_congr fun i j => ?_)
  simp only [part_zero]
theorem pay_va : k0_pay8 (F := Ideal) (View.ld (tab (φ := .f32) x) r0_0) (View.ld (tab (φ := .bf16) w) r0_6)
    = tab (φ := .bf16) fun i (j : Fin 128) => ∑ k, x i k * w (part 1664 (by decide) j) k := by
  unfold k0_pay8; dsimp only
  rw [rows_eq, shapeCast_self, show View.ld (Val := Elt Ideal) (e' := .bf16) (tab (φ := .bf16) w) r0_6 = _ from ld_tab_bf16 w 1664 0 _]
  refine (congrArg (fun v => truncf .bf16 v bitsLt_bf16_f32) (dot_rows _ _ _ _)).trans ?_
  refine (narrow_tab _).trans (tab_congr fun i j => ?_)
  simp only [part_zero]

variable (cs sn : Fin 1024 → Fin 128 → EReal)

/-- A table of 128 lanes, read whole. -/
theorem angles_eq : k0_pay9 (F := Ideal) (View.ld (tab (φ := .f32) cs) r0_7) = tab (φ := .f32) cs := by
  unfold k0_pay9; dsimp only
  rw [shapeCast_self, show View.ld (Val := Elt Ideal) (e' := .f32) (tab (φ := .f32) cs) r0_7 = _ from ld_tab cs 0 0 _]
  refine tab_congr fun i j => ?_
  rw [part_zero, part_zero]

/-- Lane `j` of 512 reads lane `j` modulo 128. -/
def lane128 (j : Fin 512) : Fin 128 := ⟨j.val % 128, Nat.mod_lt _ (by decide)⟩

theorem out_u : out0_4 (F := Ideal) (tab (φ := .f32) x) (tab (φ := .bf16) w) (tab (φ := .f32) cs) (tab (φ := .f32) sn) = tab (φ := .f32) fun i (j : Fin 512) => ∑ k, x i k * w (part 0 (by decide) j) k := by
  unfold out0_4; rw [pay_u]; exact canon2 _ _ _
theorem out_vg : out0_5 (F := Ideal) (tab (φ := .f32) x) (tab (φ := .bf16) w) (tab (φ := .f32) cs) (tab (φ := .f32) sn) = tab (φ := .f32) fun i (j : Fin 512) => ∑ k, x i k * w (part 512 (by decide) j) k := by
  unfold out0_5; rw [pay_vg]; exact canon2 _ _ _
theorem out_va : out0_8 (F := Ideal) (tab (φ := .f32) x) (tab (φ := .bf16) w) (tab (φ := .f32) cs) (tab (φ := .f32) sn) = tab (φ := .bf16) fun i (j : Fin 128) => ∑ k, x i k * w (part 1664 (by decide) j) k := by
  unfold out0_8; rw [pay_va]; exact canon2 _ _ _
theorem out_k : out0_7 (F := Ideal) (tab (φ := .f32) x) (tab (φ := .bf16) w) (tab (φ := .f32) cs) (tab (φ := .f32) sn)
    = tab (φ := .bf16) fun i => rope (fun j : Fin 128 => ∑ k, x i k * w (part 1536 (by decide) j) k) (cs i) (sn i) := by
  unfold out0_7
  rw [pay_k, angles_eq, show k0_pay10 (F := Ideal) (View.ld (Val := Elt Ideal) (e' := .f32) (tab (φ := .f32) sn) r0_7) = _ from angles_eq sn, rotated_k]
  exact canon2 _ _ _
theorem out_q : out0_6 (F := Ideal) (tab (φ := .f32) x) (tab (φ := .bf16) w) (tab (φ := .f32) cs) (tab (φ := .f32) sn)
    = tab (φ := .bf16) fun i => rope (fun j : Fin 512 => ∑ k, x i k * w (part 1024 (by decide) j) k) (fun j => cs i (lane128 j)) (fun j => sn i (lane128 j)) := by
  unfold out0_6 k0_pay12 k0_pay11; dsimp only
  rw [pay_q, angles_eq, show k0_pay10 (F := Ideal) (View.ld (Val := Elt Ideal) (e' := .f32) (tab (φ := .f32) sn) r0_7) = _ from angles_eq sn, four_copies, four_copies, rotated_q]
  exact canon2 _ _ _

/-! ## The arrays -/

theorem read4 (a : Fin 4096 → Fin 512 → EReal) :
    View.read (Elt Ideal) ((cfg0.win 4).blk t).view (tab (φ := .f32) a) = tab (φ := .f32) fun i => a (rowOf t i) := by
  have e : (cfg0.win 4).index t = ![t.val, 0] := by revert t; decide +kernel
  funext y
  refine congrArg₂ a (Fin.ext ?_) (Fin.ext ?_) <;> blk_simp [e] <;> rfl
theorem arr_u : (dats m 0 c).arrAt 4 cfg0.N = tab (φ := .f32) fun r (j : Fin 512) => (tabs m c).proj 0 (by decide) r j := by
  refine (dats m 0 c).arrAt_eq_of_cover 4 _ (fun t hf => ?_) ((by decide +kernel : (cfg0.win 4).Covers).cover _ (Memref.isWhole_whole _))
  rw [flushed4, block0, block1, block2, block3, out_u, read4]
  rfl
theorem read5 (a : Fin 4096 → Fin 512 → EReal) :
    View.read (Elt Ideal) ((cfg0.win 5).blk t).view (tab (φ := .f32) a) = tab (φ := .f32) fun i => a (rowOf t i) := by
  have e : (cfg0.win 5).index t = ![t.val, 0] := by revert t; decide +kernel
  funext y
  refine congrArg₂ a (Fin.ext ?_) (Fin.ext ?_) <;> blk_simp [e] <;> rfl
theorem arr_vg : (dats m 0 c).arrAt 5 cfg0.N = tab (φ := .f32) fun r (j : Fin 512) => (tabs m c).proj 512 (by decide) r j := by
  refine (dats m 0 c).arrAt_eq_of_cover 5 _ (fun t hf => ?_) ((by decide +kernel : (cfg0.win 5).Covers).cover _ (Memref.isWhole_whole _))
  rw [flushed5, block0, block1, block2, block3, out_vg, read5]
  rfl
theorem read6 (a : Fin 4096 → Fin 512 → EReal) :
    View.read (Elt Ideal) ((cfg0.win 6).blk t).view (tab (φ := .bf16) a) = tab (φ := .bf16) fun i => a (rowOf t i) := by
  have e : (cfg0.win 6).index t = ![t.val, 0] := by revert t; decide +kernel
  funext y
  refine congrArg₂ a (Fin.ext ?_) (Fin.ext ?_) <;> blk_simp [e] <;> rfl
theorem arr_q : (dats m 0 c).arrAt 6 cfg0.N = tab (φ := .bf16) fun r (j : Fin 512) => (tabs m c).rotated 1024 (by decide) r j := by
  refine (dats m 0 c).arrAt_eq_of_cover 6 _ (fun t hf => ?_) ((by decide +kernel : (cfg0.win 6).Covers).cover _ (Memref.isWhole_whole _))
  rw [flushed6, block0, block1, block2, block3, out_q, read6]
  have e : ∀ j : Fin 512, lane (lane128 j) = lane j := fun j => Fin.ext (Nat.mod_mod_of_dvd _ (by decide))
  simp only [e]
  rfl
theorem read7 (a : Fin 4096 → Fin 128 → EReal) :
    View.read (Elt Ideal) ((cfg0.win 7).blk t).view (tab (φ := .bf16) a) = tab (φ := .bf16) fun i => a (rowOf t i) := by
  have e : (cfg0.win 7).index t = ![t.val, 0] := by revert t; decide +kernel
  funext y
  refine congrArg₂ a (Fin.ext ?_) (Fin.ext ?_) <;> blk_simp [e] <;> rfl
theorem arr_k : (dats m 0 c).arrAt 7 cfg0.N = tab (φ := .bf16) fun r (j : Fin 128) => (tabs m c).rotated 1536 (by decide) r j := by
  refine (dats m 0 c).arrAt_eq_of_cover 7 _ (fun t hf => ?_) ((by decide +kernel : (cfg0.win 7).Covers).cover _ (Memref.isWhole_whole _))
  rw [flushed7, block0, block1, block2, block3, out_k, read7]
  rfl
theorem read8 (a : Fin 4096 → Fin 128 → EReal) :
    View.read (Elt Ideal) ((cfg0.win 8).blk t).view (tab (φ := .bf16) a) = tab (φ := .bf16) fun i => a (rowOf t i) := by
  have e : (cfg0.win 8).index t = ![t.val, 0] := by revert t; decide +kernel
  funext y
  refine congrArg₂ a (Fin.ext ?_) (Fin.ext ?_) <;> blk_simp [e] <;> rfl
theorem arr_va : (dats m 0 c).arrAt 8 cfg0.N = tab (φ := .bf16) fun r (j : Fin 128) => (tabs m c).proj 1664 (by decide) r j := by
  refine (dats m 0 c).arrAt_eq_of_cover 8 _ (fun t hf => ?_) ((by decide +kernel : (cfg0.win 8).Covers).cover _ (Memref.isWhole_whole _))
  rw [flushed8, block0, block1, block2, block3, out_va, read8]
  rfl

end Cert.InProjIdeal.Rows

end
-- ==== Proof.InProjRef.lean ====
/-
  The input projection's mathematics: the columns of one product, and the rotation of each head's two halves, on all extended
  reals.
-/
module

public import proofs.«01_k».proof.Proof.InProjBlocks

@[expose] public section

set_option maxRecDepth 16384

noncomputable section

namespace Cert.Rope

open Idealize.ShloMosaic Idealize.SL.Sem

/-- The rotation in the first half of a group, and in the second. -/
theorem rope_first {n : ℕ} (y c s : Fin n → EReal) (j : Fin n) (h : j.val % 64 < 32) : rope y c s j = y j * c j - y (ahead j) * s j := by
  unfold rope
  rw [if_pos h, EReal.neg_mul, ← sub_eq_add_neg]
theorem rope_second {n : ℕ} (y c s : Fin n → EReal) (j : Fin n) (h : ¬ j.val % 64 < 32) : rope y c s j = y j * c j + y (back j) * s j := by
  unfold rope
  rw [if_neg h]

/-- Lane `d` of head `h`. -/
def headLane {n k : ℕ} (hn : k * 64 = n) (h : Fin k) (d : Fin 64) : Fin n := ⟨h.val * 64 + d.val, by have := h.isLt; have := d.isLt; omega⟩

end Cert.Rope

namespace Cert.InProjRefIdeal.Stages

open Cert.InProjRefIdeal Cert.InProjRefIdeal.Read Cert.Rope Cert.Reals Idealize.ShloMosaic Idealize.SL.Sem

variable (x : FVec Ideal ⟨3, ![1, 4096, 1024]⟩ .f32) (pos : IVec ⟨2, ![1, 4096]⟩ 32) (w : FVec Ideal ⟨3, ![1, 1024, 1792]⟩ .f32)

/-- The product at an index of row `r` and column `o + j`. -/
theorem v2_at {n : ℕ} (o : ℕ) (h : o + n ≤ 1792) (r : Fin 4096) (j : Fin n) (i : S4096x1792.Idx) (h0 : (i 0).val = r.val) (h1 : (i 1).val = o + j.val) :
    val_main_v2 (F := Ideal) x w i = (tables x pos w).proj o h r j := by
  rw [val_main_v2_apply]
  refine Finset.sum_congr rfl fun k _ => congrArg₂ (· * ·) ?_ ?_
  · exact congrArg (val_main_v0 (F := Ideal) x) (funext fun a => match a with | ⟨0, _⟩ => Fin.ext h0 | ⟨1, _⟩ => rfl)
  · exact congrArg (val_main_v1 (F := Ideal) w) (funext fun a => match a with | ⟨0, _⟩ => rfl | ⟨1, _⟩ => Fin.ext h1)

theorem u_eq : val_main_v3 (F := Ideal) x w = tab (φ := .f32) fun r (j : Fin 512) => (tables x pos w).proj 0 (by decide) r j := by
  funext i
  rw [val_main_v3_apply]
  exact v2_at x pos w 0 (by decide) (i 0) (i 1) _ rfl (Nat.zero_add _).symm
theorem vg_eq : val_main_v4 (F := Ideal) x w = tab (φ := .f32) fun r (j : Fin 512) => (tables x pos w).proj 512 (by decide) r j := by
  funext i
  rw [val_main_v4_apply]
  exact v2_at x pos w 512 (by decide) (i 0) (i 1) _ rfl rfl
theorem va_eq : val_main_v61 (F := Ideal) x w = tab (φ := .bf16) fun r (j : Fin 128) => (tables x pos w).proj 1664 (by decide) r j := by
  funext i
  rw [val_main_v61_apply]
  show val_main_v7 (F := Ideal) x w i = _
  rw [val_main_v7_apply]
  exact v2_at x pos w 1664 (by decide) (i 0) (i 1) _ rfl rfl

/-! ## The queries -/

theorem q_head (r : Fin 4096) (h : Fin 8) (d : Fin 64) :
    val_main_v29 (F := Ideal) x w (ix3 r h d) = (tables x pos w).proj 1024 (by decide) r (headLane (n := 512) rfl h d) := by
  have hh := h.isLt
  have hd := d.isLt
  have hr := r.isLt
  rw [val_main_v29_apply, val_main_v5_apply]
  refine v2_at x pos w 1024 (by decide) r _ _ ?_ ?_
  · show ((r.val * 8 + h.val) * 64 + d.val) / 512 = r.val
    omega
  · show 1024 + ((r.val * 8 + h.val) * 64 + d.val) % 512 = 1024 + (h.val * 64 + d.val)
    omega
theorem q_first (r : Fin 4096) (h : Fin 8) (l : Fin 32) :
    val_main_v30 (F := Ideal) x w (ix3 r h l) = (tables x pos w).proj 1024 (by decide) r (headLane (n := 512) rfl h ⟨l.val, by omega⟩) := by
  rw [val_main_v30_apply, ← q_head]
  exact congrArg _ (funext fun a => match a with | ⟨0, _⟩ => rfl | ⟨1, _⟩ => rfl | ⟨2, _⟩ => rfl)
theorem q_second (r : Fin 4096) (h : Fin 8) (l : Fin 32) :
    val_main_v31 (F := Ideal) x w (ix3 r h l) = (tables x pos w).proj 1024 (by decide) r (headLane (n := 512) rfl h ⟨32 + l.val, by omega⟩) := by
  rw [val_main_v31_apply, ← q_head]
  exact congrArg _ (funext fun a => match a with | ⟨0, _⟩ => rfl | ⟨1, _⟩ => rfl | ⟨2, _⟩ => Fin.ext rfl)
theorem q_cos (r : Fin 4096) (h : Fin 8) (l : Fin 32) : val_main_v32 (F := Ideal) pos (ix3 r h l) = (tables x pos w).cos r l := by
  rw [val_main_v32_apply, val_main_v26_apply]
  exact congrArg (val_main_v25 (F := Ideal) pos) (funext fun a => match a with | ⟨0, _⟩ => Fin.ext rfl | ⟨1, _⟩ => Fin.ext rfl)
theorem q_sin (r : Fin 4096) (h : Fin 8) (l : Fin 32) : val_main_v34 (F := Ideal) pos (ix3 r h l) = (tables x pos w).sin r l := by
  rw [val_main_v34_apply, val_main_v28_apply]
  exact congrArg (val_main_v27 (F := Ideal) pos) (funext fun a => match a with | ⟨0, _⟩ => Fin.ext rfl | ⟨1, _⟩ => Fin.ext rfl)

theorem q_eq : val_main_v44 (F := Ideal) x pos w = tab (φ := .bf16) fun r (j : Fin 512) => (tables x pos w).rotated 1024 (by decide) r j := by
  funext i
  obtain ⟨r, j, rfl⟩ : ∃ r j, i = ix2 r j := ⟨_, _, eq_ix2 i⟩
  have hr := r.isLt
  have hj := j.isLt
  rw [val_main_v44_apply]
  show val_main_v43 (F := Ideal) x pos w (ix2 r j) = (tables x pos w).rotated 1024 (by decide) r j
  unfold Tables.rotated
  rw [val_main_v43_apply]
  unfold val_main_v42
  by_cases hl : j.val % 64 < 32
  · rw [rope_first _ _ _ _ hl]
    refine (concatenate_pair_apply_left (s₁ := S4096x8x32) (s₂ := S4096x8x32) 2 (val_main_v36 (F := Ideal) x pos w) (val_main_v41 (F := Ideal) x pos w) _ (idx_main_v43 (ix2 r j)) rfl
      (ix3 r (⟨j.val / 64, by omega⟩ : Fin 8) (⟨j.val % 64, hl⟩ : Fin 32)) (fun b => match b with
      | ⟨0, _⟩ => by show r.val = (r.val * 512 + j.val) / 512; omega
      | ⟨1, _⟩ => by show j.val / 64 = (r.val * 512 + j.val) / 64 % 8; omega
      | ⟨2, _⟩ => by show j.val % 64 = (r.val * 512 + j.val) % 64; omega)).trans ?_
    rw [val_main_v36_apply, val_main_v33_apply, val_main_v35_apply, q_first x pos, q_second x pos, q_cos x pos w, q_sin x pos w]
    refine congrArg₂ (· - ·) (congrArg₂ (· * ·) (congrArg _ (Fin.ext ?_)) (congrArg _ (Fin.ext ?_)))
      (congrArg₂ (· * ·) (congrArg _ (Fin.ext ?_)) (congrArg _ (Fin.ext ?_)))
    · show j.val / 64 * 64 + j.val % 64 = j.val; omega
    · show j.val % 64 = j.val % 32; omega
    · show j.val / 64 * 64 + (32 + j.val % 64) = (j.val + 32) % 512; omega
    · show j.val % 64 = j.val % 32; omega
  · rw [rope_second _ _ _ _ hl]
    refine (concatenate_pair_apply_right (s₁ := S4096x8x32) (s₂ := S4096x8x32) 2 (val_main_v36 (F := Ideal) x pos w) (val_main_v41 (F := Ideal) x pos w) _ (idx_main_v43 (ix2 r j)) rfl rfl
      (ix3 r (⟨j.val / 64, by omega⟩ : Fin 8) (⟨j.val % 64 - 32, by omega⟩ : Fin 32)) (fun b hb => match b, hb with
      | ⟨0, _⟩, _ => by show r.val = (r.val * 512 + j.val) / 512; omega
      | ⟨1, _⟩, _ => by show j.val / 64 = (r.val * 512 + j.val) / 64 % 8; omega
      | ⟨2, _⟩, hb => absurd rfl hb)
      (by show j.val % 64 - 32 + 32 = (r.val * 512 + j.val) % 64; omega)).trans ?_
    rw [val_main_v41_apply, val_main_v38_apply, val_main_v40_apply, q_first x pos, q_second x pos,
      show val_main_v37 (F := Ideal) pos _ = _ from q_cos x pos w _ _ _, show val_main_v39 (F := Ideal) pos _ = _ from q_sin x pos w _ _ _]
    refine congrArg₂ (· + ·) (congrArg₂ (· * ·) (congrArg _ (Fin.ext ?_)) (congrArg _ (Fin.ext ?_)))
      (congrArg₂ (· * ·) (congrArg _ (Fin.ext ?_)) (congrArg _ (Fin.ext ?_)))
    · show j.val / 64 * 64 + (32 + (j.val % 64 - 32)) = j.val; omega
    · show j.val % 64 - 32 = j.val % 32; omega
    · show j.val / 64 * 64 + (j.val % 64 - 32) = (j.val + 512 - 32) % 512; omega
    · show j.val % 64 - 32 = j.val % 32; omega

/-! ## The keys -/

theorem k_head (r : Fin 4096) (h : Fin 2) (d : Fin 64) :
    val_main_v45 (F := Ideal) x w (ix3 r h d) = (tables x pos w).proj 1536 (by decide) r (headLane (n := 128) rfl h d) := by
  have hh := h.isLt
  have hd := d.isLt
  have hr := r.isLt
  rw [val_main_v45_apply, val_main_v6_apply]
  refine v2_at x pos w 1536 (by decide) r _ _ ?_ ?_
  · show ((r.val * 2 + h.val) * 64 + d.val) / 128 = r.val
    omega
  · show 1536 + ((r.val * 2 + h.val) * 64 + d.val) % 128 = 1536 + (h.val * 64 + d.val)
    omega
theorem k_first (r : Fin 4096) (h : Fin 2) (l : Fin 32) :
    val_main_v46 (F := Ideal) x w (ix3 r h l) = (tables x pos w).proj 1536 (by decide) r (headLane (n := 128) rfl h ⟨l.val, by omega⟩) := by
  rw [val_main_v46_apply, ← k_head]
  exact congrArg _ (funext fun a => match a with | ⟨0, _⟩ => rfl | ⟨1, _⟩ => rfl | ⟨2, _⟩ => rfl)
theorem k_second (r : Fin 4096) (h : Fin 2) (l : Fin 32) :
    val_main_v47 (F := Ideal) x w (ix3 r h l) = (tables x pos w).proj 1536 (by decide) r (headLane (n := 128) rfl h ⟨32 + l.val, by omega⟩) := by
  rw [val_main_v47_apply, ← k_head]
  exact congrArg _ (funext fun a => match a with | ⟨0, _⟩ => rfl | ⟨1, _⟩ => rfl | ⟨2, _⟩ => Fin.ext rfl)
theorem k_cos (r : Fin 4096) (h : Fin 2) (l : Fin 32) : val_main_v48 (F := Ideal) pos (ix3 r h l) = (tables x pos w).cos r l := by
  rw [val_main_v48_apply, val_main_v26_apply]
  exact congrArg (val_main_v25 (F := Ideal) pos) (funext fun a => match a with | ⟨0, _⟩ => Fin.ext rfl | ⟨1, _⟩ => Fin.ext rfl)
theorem k_sin (r : Fin 4096) (h : Fin 2) (l : Fin 32) : val_main_v50 (F := Ideal) pos (ix3 r h l) = (tables x pos w).sin r l := by
  rw [val_main_v50_apply, val_main_v28_apply]
  exact congrArg (val_main_v27 (F := Ideal) pos) (funext fun a => match a with | ⟨0, _⟩ => Fin.ext rfl | ⟨1, _⟩ => Fin.ext rfl)

theorem k_eq : val_main_v60 (F := Ideal) x pos w = tab (φ := .bf16) fun r (j : Fin 128) => (tables x pos w).rotated 1536 (by decide) r j := by
  funext i
  obtain ⟨r, j, rfl⟩ : ∃ r j, i = ix2 r j := ⟨_, _, eq_ix2 i⟩
  have hr := r.isLt
  have hj := j.isLt
  rw [val_main_v60_apply]
  show val_main_v59 (F := Ideal) x pos w (ix2 r j) = (tables x pos w).rotated 1536 (by decide) r j
  unfold Tables.rotated
  rw [val_main_v59_apply]
  unfold val_main_v58
  by_cases hl : j.val % 64 < 32
  · rw [rope_first _ _ _ _ hl]
    refine (concatenate_pair_apply_left (s₁ := S4096x2x32) (s₂ := S4096x2x32) 2 (val_main_v52 (F := Ideal) x pos w) (val_main_v57 (F := Ideal) x pos w) _ (idx_main_v59 (ix2 r j)) rfl
      (ix3 r (⟨j.val / 64, by omega⟩ : Fin 2) (⟨j.val % 64, hl⟩ : Fin 32)) (fun b => match b with
      | ⟨0, _⟩ => by show r.val = (r.val * 128 + j.val) / 128; omega
      | ⟨1, _⟩ => by show j.val / 64 = (r.val * 128 + j.val) / 64 % 2; omega
      | ⟨2, _⟩ => by show j.val % 64 = (r.val * 128 + j.val) % 64; omega)).trans ?_
    rw [val_main_v52_apply, val_main_v49_apply, val_main_v51_apply, k_first x pos, k_second x pos, k_cos x pos w, k_sin x pos w]
    refine congrArg₂ (· - ·) (congrArg₂ (· * ·) (congrArg _ (Fin.ext ?_)) (congrArg _ (Fin.ext ?_)))
      (congrArg₂ (· * ·) (congrArg _ (Fin.ext ?_)) (congrArg _ (Fin.ext ?_)))
    · show j.val / 64 * 64 + j.val % 64 = j.val; omega
    · show j.val % 64 = j.val % 32; omega
    · show j.val / 64 * 64 + (32 + j.val % 64) = (j.val + 32) % 128; omega
    · show j.val % 64 = j.val % 32; omega
  · rw [rope_second _ _ _ _ hl]
    refine (concatenate_pair_apply_right (s₁ := S4096x2x32) (s₂ := S4096x2x32) 2 (val_main_v52 (F := Ideal) x pos w) (val_main_v57 (F := Ideal) x pos w) _ (idx_main_v59 (ix2 r j)) rfl rfl
      (ix3 r (⟨j.val / 64, by omega⟩ : Fin 2) (⟨j.val % 64 - 32, by omega⟩ : Fin 32)) (fun b hb => match b, hb with
      | ⟨0, _⟩, _ => by show r.val = (r.val * 128 + j.val) / 128; omega
      | ⟨1, _⟩, _ => by show j.val / 64 = (r.val * 128 + j.val) / 64 % 2; omega
      | ⟨2, _⟩, hb => absurd rfl hb)
      (by show j.val % 64 - 32 + 32 = (r.val * 128 + j.val) % 64; omega)).trans ?_
    rw [val_main_v57_apply, val_main_v54_apply, val_main_v56_apply, k_first x pos, k_second x pos,
      show val_main_v53 (F := Ideal) pos _ = _ from k_cos x pos w _ _ _, show val_main_v55 (F := Ideal) pos _ = _ from k_sin x pos w _ _ _]
    refine congrArg₂ (· + ·) (congrArg₂ (· * ·) (congrArg _ (Fin.ext ?_)) (congrArg _ (Fin.ext ?_)))
      (congrArg₂ (· * ·) (congrArg _ (Fin.ext ?_)) (congrArg _ (Fin.ext ?_)))
    · show j.val / 64 * 64 + (32 + (j.val % 64 - 32)) = j.val; omega
    · show j.val % 64 - 32 = j.val % 32; omega
    · show j.val / 64 * 64 + (j.val % 64 - 32) = (j.val + 128 - 32) % 128; omega
    · show j.val % 64 - 32 = j.val % 32; omega

end Cert.InProjRefIdeal.Stages

end
-- ==== Proof.InProjClaim.lean ====
/-
  The claims of the input projection: both programs end with the same five arrays, on all extended reals.
-/
module

public import proofs.«01_k».proof.Defs
public import proofs.«01_k».proof.Proof.Gen.InProj.Frame
public import proofs.«01_k».proof.Proof.Gen.InProjRefIdeal.Run
public import proofs.«01_k».proof.Proof.InProjBlocks
public import proofs.«01_k».proof.Proof.InProjRef

@[expose] public section

noncomputable section

namespace Cert.InProjClaim

open Cert.Rope Idealize.ShloMosaic Idealize.SL.Sem

theorem frame_kernel : Cert.quiescent_InProj := fun m ρ _ => Cert.InProj.Gen.frame m ρ
theorem frame_ideal : Cert.quiescent_InProjIdeal := fun m ρ _ => Cert.InProjIdeal.Gen.frame m ρ
theorem frame_ref : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run m ρ)

/-- The tables of arrays equal to the kernel's arguments. -/
theorem tabs_eq {m} {c : Dev Cert.InProjIdeal.nD} {a0 a1 a2} (h0 : a0 = m (c.tc.loc Cert.InProjIdeal.main_arg0))
    (h1 : a1 = m (c.tc.loc Cert.InProjIdeal.main_arg1)) (h2 : a2 = m (c.tc.loc Cert.InProjIdeal.main_arg2)) :
    tables a0 a1 a2 = Cert.InProjIdeal.Rows.tabs m c := by
  subst h0 h1 h2
  rfl

/-- Both programs end with the three plain parts of the product and the rotated queries and keys. -/
theorem value : Cert.algebraic_InProjIdeal_InProjRefIdeal := by
  intro m ρ m' ρ' _ hagree
  refine ⟨fun c => tab (φ := .f32) fun r (j : Fin 512) => (Cert.InProjIdeal.Rows.tabs m c).proj 0 (by decide) r j,
    fun c => tab (φ := .f32) fun r (j : Fin 512) => (Cert.InProjIdeal.Rows.tabs m c).proj 512 (by decide) r j,
    fun c => tab (φ := .bf16) fun r (j : Fin 512) => (Cert.InProjIdeal.Rows.tabs m c).rotated 1024 (by decide) r j,
    fun c => tab (φ := .bf16) fun r (j : Fin 128) => (Cert.InProjIdeal.Rows.tabs m c).rotated 1536 (by decide) r j,
    fun c => tab (φ := .bf16) fun r (j : Fin 128) => (Cert.InProjIdeal.Rows.tabs m c).proj 1664 (by decide) r j, ?_, ?_⟩
  · refine (θ_run Cert.InProjIdeal.defs _ _).mono (fun r h c => ?_) (Cert.InProjIdeal.Value.run_blocks m ρ)
    obtain ⟨h0, h1, h2, h3, h4, hargs⟩ := h c
    exact ⟨h0.trans (Cert.InProjIdeal.Rows.arr_u m c), h1.trans (Cert.InProjIdeal.Rows.arr_vg m c), h2.trans (Cert.InProjIdeal.Rows.arr_q m c),
      h3.trans (Cert.InProjIdeal.Rows.arr_k m c), h4.trans (Cert.InProjIdeal.Rows.arr_va m c), hargs⟩
  · refine (θ_run Cert.InProjRefIdeal.defs _ _).mono (fun r h c => ?_) (Cert.InProjRefIdeal.Value.run m' ρ')
    obtain ⟨h0, h1, h2, h3, h4, hargs⟩ := h c
    obtain ⟨g0, g1, g2⟩ := hagree c
    have t := tabs_eq g0 g1 g2
    exact ⟨h0.trans ((Cert.InProjRefIdeal.Read.val_main_v3_eq _ _).trans ((Cert.InProjRefIdeal.Stages.u_eq _ _ _).trans
        (congrArg (fun T : Tables => tab (φ := .f32) fun r (j : Fin 512) => T.proj 0 (by decide) r j) t))),
      h1.trans ((Cert.InProjRefIdeal.Read.val_main_v4_eq _ _).trans ((Cert.InProjRefIdeal.Stages.vg_eq _ _ _).trans
        (congrArg (fun T : Tables => tab (φ := .f32) fun r (j : Fin 512) => T.proj 512 (by decide) r j) t))),
      h2.trans ((Cert.InProjRefIdeal.Read.val_main_v44_eq _ _).trans ((Cert.InProjRefIdeal.Stages.q_eq _ _ _).trans
        (congrArg (fun T : Tables => tab (φ := .bf16) fun r (j : Fin 512) => T.rotated 1024 (by decide) r j) t))),
      h3.trans ((Cert.InProjRefIdeal.Read.val_main_v60_eq _ _).trans ((Cert.InProjRefIdeal.Stages.k_eq _ _ _).trans
        (congrArg (fun T : Tables => tab (φ := .bf16) fun r (j : Fin 128) => T.rotated 1536 (by decide) r j) t))),
      h4.trans ((Cert.InProjRefIdeal.Read.val_main_v61_eq _ _).trans ((Cert.InProjRefIdeal.Stages.va_eq _ _ _).trans
        (congrArg (fun T : Tables => tab (φ := .bf16) fun r (j : Fin 128) => T.proj 1664 (by decide) r j) t))), hargs⟩

end Cert.InProjClaim

end
-- ==== Proof.MixerFwdClaim.lean ====
/-
  The frames of the mixers' forward call and of its mathematics.
-/
module

public import proofs.«01_k».proof.Defs
public import proofs.«01_k».proof.Proof.Gen.MixerFwd.Frame
public import proofs.«01_k».proof.Proof.Gen.MixerFwdIdeal.Frame
public import proofs.«01_k».proof.Proof.Gen.MixerFwdRefIdeal.Run

@[expose] public section

noncomputable section

namespace Cert.MixerFwdClaim

open Idealize.ShloMosaic Idealize.SL.Sem

theorem frame_kernel : Cert.quiescent_MixerFwd := fun m ρ _ => Cert.MixerFwd.Gen.frame m ρ
theorem frame_ideal : Cert.quiescent_MixerFwdIdeal := fun m ρ _ => Cert.MixerFwdIdeal.Gen.frame m ρ
theorem frame_ref : Cert.quiescent_MixerFwdRefIdeal := fun m ρ _ =>
  (θ_run Cert.MixerFwdRefIdeal.defs _ _).mono (fun r h => ⟨fun c => (h c).2, sem_eq_zero_of_no_sems (by decide) r.2⟩)
    (Cert.MixerFwdRefIdeal.Value.run m ρ)

end Cert.MixerFwdClaim

end
-- ==== Proof.GradXArrays.lean ====
/-
  The gradient of the layer's input, on all extended reals: the first norm's cotangent, scaled, and the product of the
  projection's cotangents with its weights, which the kernel adds up in two parts.
-/
module

public import proofs.«01_k».proof.Proof.InProjBlocks
public import proofs.«01_k».proof.Proof.Gen.GradXIdeal.Value
public import proofs.«01_k».proof.Proof.Gen.GradXRefIdeal.Read

@[expose] public section

set_option maxRecDepth 16384

noncomputable section

namespace Cert.GradXIdeal.Arrays

open Cert.Rope Cert.Reals Idealize.ShloMosaic Idealize.SL.Sem Cert.GradXIdeal Cert.GradXIdeal.Gen Cert.GradXIdeal.Value
open Cert.InProjIdeal.Rows (ld_tab ld_tab_bf16 narrow_tab)
open Idealize.ShloMosaic.Pipeline Idealize.ShloMosaic.TcCoe

/-- The product that contracts rows with columns, added to nothing. -/
theorem dot_plain {n k m : ℕ} {φ ψ : FTy} (wf) (prec) (a : Fin n → Fin k → EReal) (b : Fin k → Fin m → EReal) :
    matmul (F := Ideal) (sl := ⟨2, ![n, k]⟩) (sr := ⟨2, ![k, m]⟩) (so := ⟨2, ![n, m]⟩)
      { lhsContracting := [1], rhsContracting := [0], lhsNonContracting := [0], rhsNonContracting := [1],
        lhsBatch := [], rhsBatch := [], wf := wf } prec (tab (φ := φ) a) (tab (φ := ψ) b) (constant ⟨2, ![n, m]⟩ .f32 0x00000000#32)
      = tab fun i j => ∑ q, a i q * b q j := by
  funext i
  obtain ⟨p, q, rfl⟩ : ∃ p q, i = ix2 p q := ⟨_, _, eq_ix2 i⟩
  refine (Ideal.matmul_apply₁ _ rfl rfl _ _ _ _).trans ?_
  have z : (constant (F := Ideal) ⟨2, ![n, m]⟩ .f32 0x00000000#32) (ix2 p q) = 0 := by
    show Ideal.ofBits .f32 0x00000000#32 = 0
    simp [Ideal.ofBits, Ideal.ieee]
  rw [z, zero_add]; rfl

/-! ## What the body leaves in a block -/

section
variable (a : Fin 1024 → Fin 1536 → EReal) (b : Fin 1024 → Fin 256 → EReal) (d : Fin 1024 → Fin 1024 → EReal) (w : Fin 1792 → Fin 1024 → EReal)

theorem out_x : out0_4 (F := Ideal) (tab (φ := .bf16) a) (tab (φ := .f32) b) (tab (φ := .f32) d) (tab (φ := .bf16) w)
    = tab (φ := .f32) fun i j => Ideal.ofBits .f32 0x3F9837F0#32 * d i j + (∑ k, a i k * w (part 0 (by decide) k) j)
        + ∑ k, b i k * w (part 1536 (by decide) k) j := by
  unfold out0_4 k0_pay1; dsimp only
  rw [show View.ld (Val := Elt Ideal) (e' := .f32) (tab (φ := .f32) d) r0_0 = _ from ld_tab d 0 0 _,
    show View.ld (Val := Elt Ideal) (e' := .bf16) (tab (φ := .bf16) a) r0_1 = _ from ld_tab_bf16 a 0 0 _,
    show View.ld (Val := Elt Ideal) (e' := .bf16) (tab (φ := .bf16) w) r0_2 = _ from ld_tab_bf16 w 0 0 _,
    show View.ld (Val := Elt Ideal) (e' := .f32) (tab (φ := .f32) b) r0_3 = _ from ld_tab b 0 0 _,
    show View.ld (Val := Elt Ideal) (e' := .bf16) (tab (φ := .bf16) w) r0_4 = _ from ld_tab_bf16 w 1536 0 _]
  simp only [part_zero]
  rw [shapeCast_self, shapeCast_self, shapeCast_self, narrow_tab]
  rw [show matmul (F := Ideal) dot_S1024x1536_S1536x1024_S1024x1024_1_0_0_1_n_n none _ _ _ = _ from
      dot_plain (φ := .bf16) (ψ := .bf16) _ none a fun k j => w (part 0 (by decide) k) j,
    show matmul (F := Ideal) dot_S1024x256_S256x1024_S1024x1024_1_0_0_1_n_n none _ _ _ = _ from
      dot_plain (φ := .bf16) (ψ := .bf16) _ none b fun k j => w (part 1536 (by decide) k) j]
  exact canon2 _ _ _
end

/-! ## The arrays -/

variable (m : (ℓ : Loc nD τ sig) → Buf (Elt Ideal) ℓ) (c : Dev nD) (t : Fin cfg0.N)

/-- Row `i` of the block of point `t`. -/
def rowOf (i : Fin 1024) : Fin 4096 := ⟨t.val * 1024 + i.val, by have h : t.val < 4 := t.isLt; have := i.isLt; omega⟩

theorem read0 (a : Fin 4096 → Fin 1536 → EReal) :
    View.read (Elt Ideal) ((cfg0.win 0).blk t).view (tab (φ := .bf16) a) = tab (φ := .bf16) fun i => a (rowOf t i) := by
  have e : (cfg0.win 0).index t = ![t.val, 0] := by revert t; decide +kernel
  funext y
  refine congrArg₂ a (Fin.ext ?_) (Fin.ext ?_) <;> blk_simp [e] <;> rfl
theorem read1 (a : Fin 4096 → Fin 256 → EReal) :
    View.read (Elt Ideal) ((cfg0.win 1).blk t).view (tab (φ := .f32) a) = tab (φ := .f32) fun i => a (rowOf t i) := by
  have e : (cfg0.win 1).index t = ![t.val, 0] := by revert t; decide +kernel
  funext y
  refine congrArg₂ a (Fin.ext ?_) (Fin.ext ?_) <;> blk_simp [e] <;> rfl
theorem read2 (a : Fin 4096 → Fin 1024 → EReal) :
    View.read (Elt Ideal) ((cfg0.win 2).blk t).view (tab (φ := .f32) a) = tab (φ := .f32) fun i => a (rowOf t i) := by
  have e : (cfg0.win 2).index t = ![t.val, 0] := by revert t; decide +kernel
  funext y
  refine congrArg₂ a (Fin.ext ?_) (Fin.ext ?_) <;> blk_simp [e] <;> rfl
theorem read3 (a : Fin 1792 → Fin 1024 → EReal) :
    View.read (Elt Ideal) ((cfg0.win 3).blk t).view (tab (φ := .bf16) a) = tab (φ := .bf16) a := by
  have e : (cfg0.win 3).index t = ![0, 0] := by revert t; decide +kernel
  funext y
  refine congrArg (tab (φ := .bf16) a) ?_
  blk_ext [e]
theorem read4 (a : Fin 4096 → Fin 1024 → EReal) :
    View.read (Elt Ideal) ((cfg0.win 4).blk t).view (tab (φ := .f32) a) = tab (φ := .f32) fun i => a (rowOf t i) := by
  have e : (cfg0.win 4).index t = ![t.val, 0] := by revert t; decide +kernel
  funext y
  refine congrArg₂ a (Fin.ext ?_) (Fin.ext ?_) <;> blk_simp [e] <;> rfl

/-- The weights as a table. -/
def weight (w : FVec Ideal ⟨3, ![1, 1024, 1792]⟩ .f32) (j : Fin 1024) (k : Fin 1792) : EReal :=
  Cert.GradXRefIdeal.Read.val_main_v1 (F := Ideal) w (ix2 j k)

/-- A matrix as a table. -/
def elem {p q : ℕ} (a : FVec Ideal ⟨2, ![p, q]⟩ .f32) (i : Fin p) (j : Fin q) : EReal := a (ix2 i j)

theorem elem_eq {p q : ℕ} {φ : FTy} (a : FVec Ideal ⟨2, ![p, q]⟩ .f32) : a = tab (φ := φ) (elem a) := by
  funext i
  obtain ⟨p, q, rfl⟩ : ∃ p q, i = ix2 p q := ⟨_, _, eq_ix2 i⟩
  rfl

/-- The gradient: the cotangents of the projection's columns are one table. -/
def gradient (w : FVec Ideal ⟨3, ![1, 1024, 1792]⟩ .f32) (dm : FVec Ideal ⟨2, ![4096, 1536]⟩ .f32) (dk : FVec Ideal ⟨2, ![4096, 256]⟩ .f32)
    (dz : FVec Ideal ⟨2, ![4096, 1024]⟩ .f32) (r : Fin 4096) (j : Fin 1024) : EReal :=
  Ideal.ofBits .f32 0x3F9837F0#32 * elem dz r j
    + ((∑ k, elem dm r k * weight w j (part 0 (by decide) k)) + ∑ k, elem dk r k * weight w j (part 1536 (by decide) k))

theorem block0 : iblk m c 0 t = tab (φ := .bf16) fun i => elem (m ((c : Thread nD τ).loc main_arg2)) (rowOf t i) := by
  unfold iblk; entry_read
  exact (congrArg (View.read _ _) (elem_eq (φ := .bf16) (m ((c : Thread nD τ).loc main_arg2)))).trans (read0 t _)
theorem block1 : iblk m c 1 t = tab (φ := .f32) fun i => elem (m ((c : Thread nD τ).loc main_arg3)) (rowOf t i) := by
  unfold iblk; entry_read
  exact (congrArg (View.read _ _) (elem_eq (φ := .f32) (m ((c : Thread nD τ).loc main_arg3)))).trans (read1 t _)
theorem block2 : iblk m c 2 t = tab (φ := .f32) fun i => elem (m ((c : Thread nD τ).loc main_arg4)) (rowOf t i) := by
  unfold iblk; entry_read
  exact (congrArg (View.read _ _) (elem_eq (φ := .f32) (m ((c : Thread nD τ).loc main_arg4)))).trans (read2 t _)
theorem block3 : iblk m c 3 t = tab (φ := .bf16) fun k j => weight (m ((c : Thread nD τ).loc main_arg1)) j k := by
  unfold iblk; entry_read
  refine (congrArg (View.read _ _) ?_).trans (read3 t fun k j => weight (m ((c : Thread nD τ).loc main_arg1)) j k)
  funext i
  obtain ⟨p, q, rfl⟩ : ∃ p q, i = ix2 p q := ⟨_, _, eq_ix2 i⟩
  exact congrArg (Cert.GradXRefIdeal.Read.val_main_v1 (F := Ideal) (m ((c : Thread nD τ).loc main_arg1)))
    (funext fun a => match a with | ⟨0, _⟩ => rfl | ⟨1, _⟩ => rfl)

theorem arr_x : (dats m 0 c).arrAt 4 cfg0.N = tab (φ := .f32) (gradient (m ((c : Thread nD τ).loc main_arg1)) (m ((c : Thread nD τ).loc main_arg2))
    (m ((c : Thread nD τ).loc main_arg3)) (m ((c : Thread nD τ).loc main_arg4))) := by
  refine (dats m 0 c).arrAt_eq_of_cover 4 _ (fun t hf => ?_) ((by decide +kernel : (cfg0.win 4).Covers).cover _ (Memref.isWhole_whole _))
  rw [flushed4, block0, block1, block2, block3, out_x, read4]
  exact tab_congr fun i j => add_assoc _ _ _

/-! ## The same array of the mathematics -/

open Cert.GradXRefIdeal.Read in
/-- The cotangents of all columns, in their two parts. -/
theorem columns_main (dm : FVec Ideal ⟨2, ![4096, 1536]⟩ .f32) (dk : FVec Ideal ⟨2, ![4096, 256]⟩ .f32) (r : Fin 4096) (k : Fin 1536) :
    val_main_v5 (F := Ideal) dm dk (ix2 r (part 0 (by decide : 0 + 1536 ≤ 1792) k)) = elem dm r k := by
  unfold val_main_v5
  exact concatenate_pair_apply_left 1 dm dk _ (ix2 r (part 0 (by decide : 0 + 1536 ≤ 1792) k)) rfl (ix2 r k) (fun b => match b with
    | ⟨0, _⟩ => rfl
    | ⟨1, _⟩ => (Nat.zero_add _).symm)

open Cert.GradXRefIdeal.Read in
theorem columns_kv (dm : FVec Ideal ⟨2, ![4096, 1536]⟩ .f32) (dk : FVec Ideal ⟨2, ![4096, 256]⟩ .f32) (r : Fin 4096) (k : Fin 256) :
    val_main_v5 (F := Ideal) dm dk (ix2 r (part 1536 (by decide : 1536 + 256 ≤ 1792) k)) = elem dk r k := by
  unfold val_main_v5
  exact concatenate_pair_apply_right 1 dm dk _ (ix2 r (part 1536 (by decide : 1536 + 256 ≤ 1792) k)) rfl rfl (ix2 r k) (fun b hb => match b, hb with
    | ⟨0, _⟩, _ => rfl
    | ⟨1, _⟩, hb => absurd rfl hb) (Nat.add_comm _ _)

/-- A sum over all columns is the sum over the two parts. -/
theorem sum_columns (f : Fin 1792 → EReal) : ∑ k, f k = (∑ k : Fin 1536, f (part 0 (by decide) k)) + ∑ k : Fin 256, f (part 1536 (by decide) k) := by
  refine (Fin.sum_univ_add (a := 1536) (b := 256) f).trans (congrArg (· + _) (Finset.sum_congr rfl fun k _ => congrArg f (Fin.ext ?_)))
  exact (Nat.zero_add _).symm

open Cert.GradXRefIdeal.Read in
theorem ref_x (w : FVec Ideal ⟨3, ![1, 1024, 1792]⟩ .f32) (dm : FVec Ideal ⟨2, ![4096, 1536]⟩ .f32) (dk : FVec Ideal ⟨2, ![4096, 256]⟩ .f32)
    (dz : FVec Ideal ⟨2, ![4096, 1024]⟩ .f32) : val_main_v9 (F := Ideal) w dm dk dz = tab (φ := .f32) (gradient w dm dk dz) := by
  funext i
  obtain ⟨r, j, rfl⟩ : ∃ p q, i = ix2 p q := ⟨_, _, eq_ix2 i⟩
  rw [val_main_v9_apply, val_main_v7_apply, val_main_v6_apply, val_main_v8_apply]
  refine congrArg₂ (· + ·) rfl ((sum_columns _).trans (congrArg₂ (· + ·) (Finset.sum_congr rfl fun k _ => ?_) (Finset.sum_congr rfl fun k _ => ?_)))
  · exact congrArg₂ (· * ·) ((congrArg _ (funext fun a => match a with | ⟨0, _⟩ => rfl | ⟨1, _⟩ => rfl)).trans (columns_main dm dk r k))
      (congrArg _ (funext fun a => match a with | ⟨0, _⟩ => rfl | ⟨1, _⟩ => rfl))
  · exact congrArg₂ (· * ·) ((congrArg _ (funext fun a => match a with | ⟨0, _⟩ => rfl | ⟨1, _⟩ => rfl)).trans (columns_kv dm dk r k))
      (congrArg _ (funext fun a => match a with | ⟨0, _⟩ => rfl | ⟨1, _⟩ => rfl))

end Cert.GradXIdeal.Arrays

end
-- ==== Proof.GradWOutArrays.lean ====
/-
  The gradient of the output projection, on all extended reals: the kernel adds up the products of four parts of the tokens.
-/
module

public import proofs.«01_k».proof.Proof.GradXArrays
public import proofs.«01_k».proof.Proof.Gen.GradWOutIdeal.Value
public import proofs.«01_k».proof.Proof.Gen.GradWOutRefIdeal.Read
public import Idealize.ShloMosaic.Lib.Pointwise.Sums

@[expose] public section

set_option maxRecDepth 16384

noncomputable section

namespace Cert.GradWOutIdeal.Arrays

open Cert.Rope Cert.Reals Idealize.ShloMosaic Idealize.SL.Sem Cert.GradWOutIdeal Cert.GradWOutIdeal.Gen Cert.GradWOutIdeal.Value
open Cert.GradXIdeal.Arrays (elem elem_eq)
open Idealize.ShloMosaic.Pipeline Idealize.ShloMosaic.TcCoe

/-- The product that contracts columns with columns, added to nothing. -/
theorem dot_columns {n k m : ℕ} {φ ψ : FTy} (wf) (prec) (a : Fin k → Fin n → EReal) (b : Fin k → Fin m → EReal) :
    matmul (F := Ideal) (sl := ⟨2, ![k, n]⟩) (sr := ⟨2, ![k, m]⟩) (so := ⟨2, ![n, m]⟩)
      { lhsContracting := [0], rhsContracting := [0], lhsNonContracting := [1], rhsNonContracting := [1],
        lhsBatch := [], rhsBatch := [], wf := wf } prec (tab (φ := φ) a) (tab (φ := ψ) b) (constant ⟨2, ![n, m]⟩ .f32 0x00000000#32)
      = tab fun i j => ∑ q, a q i * b q j := by
  funext i
  obtain ⟨p, q, rfl⟩ : ∃ p q, i = ix2 p q := ⟨_, _, eq_ix2 i⟩
  refine (Ideal.matmul_apply₁ _ rfl rfl _ _ _ _).trans ?_
  have z : (constant (F := Ideal) ⟨2, ![n, m]⟩ .f32 0x00000000#32) (ix2 p q) = 0 := by
    show Ideal.ofBits .f32 0x00000000#32 = 0
    simp [Ideal.ofBits, Ideal.ieee]
  rw [z, zero_add]; rfl

/-! ## What a point leaves in the block -/

theorem first_eq : k0_pay1 (F := Ideal) = tab (φ := .f32) fun (_ _ : Fin 1024) => 0 := by
  funext i
  show Ideal.ofBits .f32 0x00000000#32 = 0
  simp [Ideal.ofBits, Ideal.ieee]

theorem step_eq (x y z : Fin 1024 → Fin 1024 → EReal) :
    k0_pay2 (F := Ideal) (tab (φ := .bf16) x) (tab (φ := .bf16) y) (tab (φ := .f32) z)
      = tab (φ := .f32) fun i j => z i j + ∑ q, x q i * y q j := by
  unfold k0_pay2; dsimp only
  rw [shapeCast_self, shapeCast_self, shapeCast_self]
  rw [show matmul (F := Ideal) dot_S1024x1024_S1024x1024_S1024x1024_0_0_1_1_n_n none _ _ _ = _ from
    dot_columns (φ := .bf16) (ψ := .bf16) _ none x y]
  rfl

/-! ## The array -/

variable (m : (ℓ : Loc nD τ sig) → Buf (Elt Ideal) ℓ) (c : Dev nD) (t : Fin cfg0.N)

/-- Token `q` of part `s`. -/
def tok (s : Fin 4) (q : Fin 1024) : Fin 4096 := ⟨s.val * 1024 + q.val, by have := s.isLt; have := q.isLt; omega⟩

theorem read0 (a : Fin 4096 → Fin 1024 → EReal) :
    View.read (Elt Ideal) ((cfg0.win 0).blk t).view (tab (φ := .bf16) a) = tab (φ := .bf16) fun i => a (tok t i) := by
  have e : (cfg0.win 0).index t = ![t.val, 0] := by revert t; decide +kernel
  funext y
  refine congrArg₂ a (Fin.ext ?_) (Fin.ext ?_) <;> blk_simp [e] <;> rfl
theorem read1 (a : Fin 4096 → Fin 1024 → EReal) :
    View.read (Elt Ideal) ((cfg0.win 1).blk t).view (tab (φ := .bf16) a) = tab (φ := .bf16) fun i => a (tok t i) := by
  have e : (cfg0.win 1).index t = ![t.val, 0] := by revert t; decide +kernel
  funext y
  refine congrArg₂ a (Fin.ext ?_) (Fin.ext ?_) <;> blk_simp [e] <;> rfl
theorem read2 (a : Fin 1024 → Fin 1024 → EReal) :
    View.read (Elt Ideal) ((cfg0.win 2).blk t).view (tab (φ := .f32) a) = tab (φ := .f32) a := by
  have e : (cfg0.win 2).index t = ![0, 0] := by revert t; decide +kernel
  funext y
  refine congrArg (tab (φ := .f32) a) ?_
  blk_ext [e]

/-- The two arguments that the product takes, as tables. -/
abbrev acts := elem (m ((c : Thread nD τ).loc main_arg0))
abbrev cots := elem (m ((c : Thread nD τ).loc main_arg2))

theorem block0 : iblk m c 0 t = tab (φ := .bf16) fun i => acts m c (tok t i) := by
  unfold iblk; entry_read
  exact (congrArg (View.read _ _) (elem_eq (φ := .bf16) (m ((c : Thread nD τ).loc main_arg0)))).trans (read0 t _)
theorem block1 : iblk m c 1 t = tab (φ := .bf16) fun i => cots m c (tok t i) := by
  unfold iblk; entry_read
  exact (congrArg (View.read _ _) (elem_eq (φ := .bf16) (m ((c : Thread nD τ).loc main_arg2)))).trans (read1 t _)

/-- The product over one part of the tokens. -/
def over (s : Fin 4) (i j : Fin 1024) : EReal := ∑ q, acts m c (tok s q) i * cots m c (tok s q) j

theorem at_first : outsAt0 m c 0 (by decide) = tab (φ := .f32) fun i j => 0 + over m c 0 i j := by
  refine (outsAt0_A m c ⟨0, by decide⟩ rfl).trans ?_
  rw [out_A_2_eq, block0, block1, first_eq, step_eq]
  rfl

theorem at_next (n : ℕ) (hn : n + 1 < cfg0.N) (h0 : ¬(n + 1) % 4 = 0) (z : Fin 1024 → Fin 1024 → EReal)
    (h : outsAt0 m c n (Nat.lt_of_succ_lt hn) = tab (φ := .f32) z) :
    outsAt0 m c (n + 1) hn = tab (φ := .f32) fun i j => z i j + over m c ⟨n + 1, hn⟩ i j := by
  refine (outsAt0_B m c ⟨n + 1, hn⟩ h0).trans ?_
  rw [out_B_2_eq, block0, block1, show outsAt0 m c ((⟨n + 1, hn⟩ : Fin cfg0.N).val - 1) _ = _ from h, step_eq]
  rfl

theorem at_last : outsAt0 m c 3 (by decide) = tab (φ := .f32) fun i j => 0 + over m c 0 i j + over m c 1 i j + over m c 2 i j + over m c 3 i j :=
  at_next m c 2 (by decide) (by decide) _ (at_next m c 1 (by decide) (by decide) _ (at_next m c 0 (by decide) (by decide) _ (at_first m c)))

/-- The gradient: one product over all tokens. -/
def gradient (a d : FVec Ideal ⟨2, ![4096, 1024]⟩ .f32) (i j : Fin 1024) : EReal := ∑ r, elem a r i * elem d r j

theorem gradient_eq (i j : Fin 1024) : 0 + over m c 0 i j + over m c 1 i j + over m c 2 i j + over m c 3 i j
    = gradient (m ((c : Thread nD τ).loc main_arg0)) (m ((c : Thread nD τ).loc main_arg2)) i j := by
  unfold gradient
  rw [zero_add, Fin.sum_univ_tiles 4 1024 rfl, Fin.sum_univ_four]
  rfl

theorem arr_w : (dats m 0 c).arrAt 2 cfg0.N
    = tab (φ := .f32) (gradient (m ((c : Thread nD τ).loc main_arg0)) (m ((c : Thread nD τ).loc main_arg2))) := by
  refine (dats m 0 c).arrAt_eq_of_cover 2 _ (fun t hf => ?_) ((by decide +kernel : (cfg0.win 2).Covers).cover _ (Memref.isWhole_whole _))
  obtain rfl : t = ⟨3, by decide⟩ := by revert t; decide +kernel
  rw [flushed2, at_last, read2]
  exact tab_congr fun i j => gradient_eq m c i j

/-! ## The same array of the mathematics -/

open Cert.GradWOutRefIdeal.Read in
theorem ref_w (a d : FVec Ideal ⟨2, ![4096, 1024]⟩ .f32) : val_main_v3 (F := Ideal) a d = tab (φ := .f32) (gradient a d) := by
  funext i
  obtain ⟨p, q, rfl⟩ : ∃ p q, i = ix2 p q := ⟨_, _, eq_ix2 i⟩
  rw [val_main_v3_apply, val_main_v2_apply]
  show _ = ∑ r, elem a r p * elem d r q
  refine Finset.sum_congr rfl fun k _ => (mul_comm _ _).trans (congrArg₂ (· * ·) (congrArg a ?_) (congrArg d ?_)) <;>
    exact funext fun b => match b with | ⟨0, _⟩ => rfl | ⟨1, _⟩ => rfl

end Cert.GradWOutIdeal.Arrays

end
-- ==== Proof.GradWOutClaim.lean ====
/-
  The claims of the gradient of the output projection: both programs end with the same array, on all extended reals.
-/
module

public import proofs.«01_k».proof.Defs
public import proofs.«01_k».proof.Proof.Gen.GradWOut.Frame
public import proofs.«01_k».proof.Proof.Gen.GradWOutRefIdeal.Run
public import proofs.«01_k».proof.Proof.GradWOutArrays

@[expose] public section

noncomputable section

namespace Cert.GradWOutClaim

open Cert.Rope Cert.GradWOutIdeal.Arrays Idealize.ShloMosaic Idealize.SL.Sem

theorem frame_kernel : Cert.quiescent_GradWOut := fun m ρ _ => Cert.GradWOut.Gen.frame m ρ
theorem frame_ideal : Cert.quiescent_GradWOutIdeal := fun m ρ _ => Cert.GradWOutIdeal.Gen.frame m ρ
theorem frame_ref : Cert.quiescent_GradWOutRefIdeal := fun m ρ _ =>
  (θ_run Cert.GradWOutRefIdeal.defs _ _).mono (fun r h => ⟨fun c => (h c).2, sem_eq_zero_of_no_sems (by decide) r.2⟩)
    (Cert.GradWOutRefIdeal.Value.run m ρ)

/-- Both programs end with the gradient. -/
theorem value : Cert.algebraic_GradWOutIdeal_GradWOutRefIdeal := by
  intro m ρ m' ρ' _ hagree
  refine ⟨fun c => tab (φ := .f32) (gradient (m (c.tc.loc Cert.GradWOutIdeal.main_arg0)) (m (c.tc.loc Cert.GradWOutIdeal.main_arg2))),
    (θ_run Cert.GradWOutIdeal.defs _ _).mono (fun r h c => ?_) (Cert.GradWOutIdeal.Value.run_blocks m ρ), ?_⟩
  · obtain ⟨h0, hargs⟩ := h c
    exact ⟨h0.trans (arr_w m c), hargs⟩
  · refine (θ_run Cert.GradWOutRefIdeal.defs _ _).mono (fun r h c => ?_) (Cert.GradWOutRefIdeal.Value.run m' ρ')
    obtain ⟨h0, hargs⟩ := h c
    obtain ⟨g0, _, g2⟩ := hagree c
    rw [g0, g2] at h0
    exact ⟨h0.trans ((Cert.GradWOutRefIdeal.Read.val_main_v3_eq _ _).trans (ref_w _ _)), hargs⟩

end Cert.GradWOutClaim

end
-- ==== Proof.GradXClaim.lean ====
/-
  The claims of the gradient of the layer's input: both programs end with the same array, on all extended reals.
-/
module

public import proofs.«01_k».proof.Defs
public import proofs.«01_k».proof.Proof.Gen.GradX.Frame
public import proofs.«01_k».proof.Proof.Gen.GradXRefIdeal.Run
public import proofs.«01_k».proof.Proof.GradXArrays

@[expose] public section

noncomputable section

namespace Cert.GradXClaim

open Cert.Rope Cert.GradXIdeal.Arrays Idealize.ShloMosaic Idealize.SL.Sem

theorem frame_kernel : Cert.quiescent_GradX := fun m ρ _ => Cert.GradX.Gen.frame m ρ
theorem frame_ideal : Cert.quiescent_GradXIdeal := fun m ρ _ => Cert.GradXIdeal.Gen.frame m ρ
theorem frame_ref : Cert.quiescent_GradXRefIdeal := fun m ρ _ =>
  (θ_run Cert.GradXRefIdeal.defs _ _).mono (fun r h => ⟨fun c => (h c).2, sem_eq_zero_of_no_sems (by decide) r.2⟩)
    (Cert.GradXRefIdeal.Value.run m ρ)

/-- Both programs end with the gradient. -/
theorem value : Cert.algebraic_GradXIdeal_GradXRefIdeal := by
  intro m ρ m' ρ' _ hagree
  refine ⟨fun c => tab (φ := .f32) (gradient (m (c.tc.loc Cert.GradXIdeal.main_arg1)) (m (c.tc.loc Cert.GradXIdeal.main_arg2))
      (m (c.tc.loc Cert.GradXIdeal.main_arg3)) (m (c.tc.loc Cert.GradXIdeal.main_arg4))),
    (θ_run Cert.GradXIdeal.defs _ _).mono (fun r h c => ?_) (Cert.GradXIdeal.Value.run_blocks m ρ), ?_⟩
  · obtain ⟨h0, hargs⟩ := h c
    exact ⟨h0.trans (arr_x m c), hargs⟩
  · refine (θ_run Cert.GradXRefIdeal.defs _ _).mono (fun r h c => ?_) (Cert.GradXRefIdeal.Value.run m' ρ')
    obtain ⟨h0, hargs⟩ := h c
    obtain ⟨_, g1, g2, g3, g4⟩ := hagree c
    rw [g1, g2, g3, g4] at h0
    exact ⟨h0.trans ((Cert.GradXRefIdeal.Read.val_main_v9_eq _ _ _ _).trans (ref_x _ _ _ _)), hargs⟩

end Cert.GradXClaim

end
-- ==== Proof.AdamwArrays.lean ====
/-
  The arrays that one AdamW update of a square weight leaves, on all extended reals: the gradient, the change of the weight
  and the two moments, element by element.
-/
module

public import proofs.«01_k».proof.Proof.InProjBlocks
public import proofs.«01_k».proof.Proof.Gen.AdamwIdeal.Value
public import proofs.«01_k».proof.Proof.Gen.AdamwRefIdeal.Read
public import proofs.«01_k».proof.Proof.Reals
public import Idealize.ShloMosaic.Lib.Pipeline.ValueKit.Point

@[expose] public section

set_option maxRecDepth 16384

noncomputable section

namespace Cert.AdamwIdeal.Arrays

open Cert.Rope Cert.Reals Idealize.ShloMosaic Idealize.SL.Sem Cert.AdamwIdeal Cert.AdamwIdeal.Gen Cert.AdamwIdeal.Value
open Cert.InProjIdeal.Rows (ld_tab)
open Idealize.ShloMosaic.Pipeline Idealize.ShloMosaic.TcCoe

/-! ## The update of one element -/

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32
    * (FloatOps.divf (F := Ideal) (φ := .f32) (FloatOps.divf (F := Ideal) (φ := .f32) (first g m) (Ideal.ofBits .f32 0x3F26BD02#32))
        (FloatOps.sqrt (F := Ideal) (φ := .f32) (FloatOps.divf (F := Ideal) (φ := .f32) (second g v) (Ideal.ofBits .f32 0x3C231ACC#32))
          + Ideal.ofBits .f32 0x322BCC77#32)
      + Ideal.ofBits .f32 0x3C23D70A#32 * w)

/-! ## What the body leaves in a block -/

/-- A table of a block's size. -/
local notation "Block" => Fin 512 → Fin 1024 → EReal

theorem whole (a : Block) : View.ld (Val := Elt Ideal) (e' := .f32) (tab (φ := .f32) a) r0_0 = tab (φ := .f32) a :=
  (ld_tab a 0 0 _).trans (tab_congr fun i j => by rw [part_zero, part_zero])

variable (w g m v : Block)

theorem out_g : out0_4 (F := Ideal) (tab (φ := .f32) w) (tab (φ := .f32) g) (tab (φ := .f32) m) (tab (φ := .f32) v) = tab (φ := .f32) g := by
  unfold out0_4 k0_pay1; dsimp only
  rw [whole, shapeCast_self]
  exact canon2 _ _ _

theorem out_first : out0_6 (F := Ideal) (tab (φ := .f32) w) (tab (φ := .f32) g) (tab (φ := .f32) m) (tab (φ := .f32) v)
    = tab (φ := .f32) fun i j => first (g i j) (m i j) := by
  unfold out0_6 k0_pay2 k0_pay1; dsimp only
  rw [whole, whole, shapeCast_self, shapeCast_self]
  exact canon2 _ _ _

theorem out_second : out0_7 (F := Ideal) (tab (φ := .f32) w) (tab (φ := .f32) g) (tab (φ := .f32) m) (tab (φ := .f32) v)
    = tab (φ := .f32) fun i j => second (g i j) (v i j) := by
  unfold out0_7 k0_pay3 k0_pay1; dsimp only
  rw [whole, whole, shapeCast_self, shapeCast_self]
  exact canon2 _ _ _

theorem out_change : out0_5 (F := Ideal) (tab (φ := .f32) w) (tab (φ := .f32) g) (tab (φ := .f32) m) (tab (φ := .f32) v)
    = tab (φ := .f32) fun i j => change (w i j) (g i j) (m i j) (v i j) := by
  unfold out0_5 k0_pay4 k0_pay2 k0_pay3 k0_pay1; dsimp only
  rw [whole, whole, whole, whole, shapeCast_self, shapeCast_self, shapeCast_self, shapeCast_self]
  exact canon2 _ _ _

/-! ## The arrays -/

variable (mem : (ℓ : Loc nD τ sig) → Buf (Elt Ideal) ℓ) (c : Dev nD) (t : Fin cfg0.N)

/-- Row `i` of the block of point `t`. -/
def rowOf (i : Fin 512) : Fin 1024 := ⟨t.val * 512 + i.val, by have h : t.val < 2 := t.isLt; have := i.isLt; omega⟩

/-- An argument as a table. -/
def arg (a : FVec Ideal ⟨3, ![1, 1024, 1024]⟩ .f32) (i j : Fin 1024) : EReal :=
  Cert.AdamwRefIdeal.Read.val_main_v1 (F := Ideal) a (ix2 i j)

theorem arg_eq (a : FVec Ideal ⟨3, ![1, 1024, 1024]⟩ .f32) : shapeCast S1024x1024 a shapeCasts_S1x1024x1024_S1024x1024 = tab (φ := .f32) (arg a) := by
  funext i
  obtain ⟨p, q, rfl⟩ : ∃ p q, i = ix2 p q := ⟨_, _, eq_ix2 i⟩
  rfl

/-- Every window of point `t` is these rows of its array. -/
theorem read0 (a : Fin 1024 → Fin 1024 → EReal) :
    View.read (Elt Ideal) ((cfg0.win 0).blk t).view (tab (φ := .f32) a) = tab (φ := .f32) fun i => a (rowOf t i) := by
  have e : (cfg0.win 0).index t = ![t.val, 0] := by revert t; decide +kernel
  funext y
  refine congrArg₂ a (Fin.ext ?_) (Fin.ext ?_) <;> blk_simp [e] <;> rfl
theorem read1 (a : Fin 1024 → Fin 1024 → EReal) :
    View.read (Elt Ideal) ((cfg0.win 1).blk t).view (tab (φ := .f32) a) = tab (φ := .f32) fun i => a (rowOf t i) := by
  have e : (cfg0.win 1).index t = ![t.val, 0] := by revert t; decide +kernel
  funext y
  refine congrArg₂ a (Fin.ext ?_) (Fin.ext ?_) <;> blk_simp [e] <;> rfl
theorem read2 (a : Fin 1024 → Fin 1024 → EReal) :
    View.read (Elt Ideal) ((cfg0.win 2).blk t).view (tab (φ := .f32) a) = tab (φ := .f32) fun i => a (rowOf t i) := by
  have e : (cfg0.win 2).index t = ![t.val, 0] := by revert t; decide +kernel
  funext y
  refine congrArg₂ a (Fin.ext ?_) (Fin.ext ?_) <;> blk_simp [e] <;> rfl
theorem read3 (a : Fin 1024 → Fin 1024 → EReal) :
    View.read (Elt Ideal) ((cfg0.win 3).blk t).view (tab (φ := .f32) a) = tab (φ := .f32) fun i => a (rowOf t i) := by
  have e : (cfg0.win 3).index t = ![t.val, 0] := by revert t; decide +kernel
  funext y
  refine congrArg₂ a (Fin.ext ?_) (Fin.ext ?_) <;> blk_simp [e] <;> rfl
theorem read4 (a : Fin 1024 → Fin 1024 → EReal) :
    View.read (Elt Ideal) ((cfg0.win 4).blk t).view (tab (φ := .f32) a) = tab (φ := .f32) fun i => a (rowOf t i) := by
  have e : (cfg0.win 4).index t = ![t.val, 0] := by revert t; decide +kernel
  funext y
  refine congrArg₂ a (Fin.ext ?_) (Fin.ext ?_) <;> blk_simp [e] <;> rfl
theorem read5 (a : Fin 1024 → Fin 1024 → EReal) :
    View.read (Elt Ideal) ((cfg0.win 5).blk t).view (tab (φ := .f32) a) = tab (φ := .f32) fun i => a (rowOf t i) := by
  have e : (cfg0.win 5).index t = ![t.val, 0] := by revert t; decide +kernel
  funext y
  refine congrArg₂ a (Fin.ext ?_) (Fin.ext ?_) <;> blk_simp [e] <;> rfl
theorem read6 (a : Fin 1024 → Fin 1024 → EReal) :
    View.read (Elt Ideal) ((cfg0.win 6).blk t).view (tab (φ := .f32) a) = tab (φ := .f32) fun i => a (rowOf t i) := by
  have e : (cfg0.win 6).index t = ![t.val, 0] := by revert t; decide +kernel
  funext y
  refine congrArg₂ a (Fin.ext ?_) (Fin.ext ?_) <;> blk_simp [e] <;> rfl
theorem read7 (a : Fin 1024 → Fin 1024 → EReal) :
    View.read (Elt Ideal) ((cfg0.win 7).blk t).view (tab (φ := .f32) a) = tab (φ := .f32) fun i => a (rowOf t i) := by
  have e : (cfg0.win 7).index t = ![t.val, 0] := by revert t; decide +kernel
  funext y
  refine congrArg₂ a (Fin.ext ?_) (Fin.ext ?_) <;> blk_simp [e] <;> rfl

theorem block0 : iblk mem c 0 t = tab (φ := .f32) fun i => arg (mem ((c : Thread nD τ).loc main_arg0)) (rowOf t i) := by
  unfold iblk; entry_read
  exact (congrArg (View.read _ _) (arg_eq _)).trans (read0 t _)
theorem block1 : iblk mem c 1 t = tab (φ := .f32) fun i => arg (mem ((c : Thread nD τ).loc main_arg1)) (rowOf t i) := by
  unfold iblk; entry_read
  exact (congrArg (View.read _ _) (arg_eq _)).trans (read1 t _)
theorem block2 : iblk mem c 2 t = tab (φ := .f32) fun i => arg (mem ((c : Thread nD τ).loc main_arg2)) (rowOf t i) := by
  unfold iblk; entry_read
  exact (congrArg (View.read _ _) (arg_eq _)).trans (read2 t _)
theorem block3 : iblk mem c 3 t = tab (φ := .f32) fun i => arg (mem ((c : Thread nD τ).loc main_arg3)) (rowOf t i) := by
  unfold iblk; entry_read
  exact (congrArg (View.read _ _) (arg_eq _)).trans (read3 t _)

theorem arr_g : (dats mem 0 c).arrAt 4 cfg0.N = tab (φ := .f32) fun i j => arg (mem ((c : Thread nD τ).loc main_arg1)) i j := by
  refine (dats mem 0 c).arrAt_eq_of_cover 4 _ (fun t hf => ?_) ((by decide +kernel : (cfg0.win 4).Covers).cover _ (Memref.isWhole_whole _))
  rw [flushed4, block0, block1, block2, block3, out_g, read4]
  rfl
theorem arr_change : (dats mem 0 c).arrAt 5 cfg0.N = tab (φ := .f32) fun i j => change (arg (mem ((c : Thread nD τ).loc main_arg0)) i j) (arg (mem ((c : Thread nD τ).loc main_arg1)) i j)
      (arg (mem ((c : Thread nD τ).loc main_arg2)) i j) (arg (mem ((c : Thread nD τ).loc main_arg3)) i j) := by
  refine (dats mem 0 c).arrAt_eq_of_cover 5 _ (fun t hf => ?_) ((by decide +kernel : (cfg0.win 5).Covers).cover _ (Memref.isWhole_whole _))
  rw [flushed5, block0, block1, block2, block3, out_change, read5]
  rfl
theorem arr_first : (dats mem 0 c).arrAt 6 cfg0.N = tab (φ := .f32) fun i j => first (arg (mem ((c : Thread nD τ).loc main_arg1)) i j) (arg (mem ((c : Thread nD τ).loc main_arg2)) i j) := by
  refine (dats mem 0 c).arrAt_eq_of_cover 6 _ (fun t hf => ?_) ((by decide +kernel : (cfg0.win 6).Covers).cover _ (Memref.isWhole_whole _))
  rw [flushed6, block0, block1, block2, block3, out_first, read6]
  rfl
theorem arr_second : (dats mem 0 c).arrAt 7 cfg0.N = tab (φ := .f32) fun i j => second (arg (mem ((c : Thread nD τ).loc main_arg1)) i j) (arg (mem ((c : Thread nD τ).loc main_arg3)) i j) := by
  refine (dats mem 0 c).arrAt_eq_of_cover 7 _ (fun t hf => ?_) ((by decide +kernel : (cfg0.win 7).Covers).cover _ (Memref.isWhole_whole _))
  rw [flushed7, block0, block1, block2, block3, out_second, read7]
  rfl

/-! ## The same arrays of the mathematics -/

open Cert.AdamwRefIdeal.Read in
theorem ref_first (g m : FVec Ideal ⟨3, ![1, 1024, 1024]⟩ .f32) :
    val_main_v8 (F := Ideal) g m = tab (φ := .f32) fun i j => first (arg g i j) (arg m i j) := by
  funext i
  obtain ⟨p, q, rfl⟩ : ∃ p q, i = ix2 p q := ⟨_, _, eq_ix2 i⟩
  rw [val_main_v8_apply, val_main_v5_apply, val_main_v7_apply, val_main_v4_apply, val_main_v6_apply]
  rfl

open Cert.AdamwRefIdeal.Read in
theorem ref_second (g v : FVec Ideal ⟨3, ![1, 1024, 1024]⟩ .f32) :
    val_main_v14 (F := Ideal) g v = tab (φ := .f32) fun i j => second (arg g i j) (arg v i j) := by
  funext i
  obtain ⟨p, q, rfl⟩ : ∃ p q, i = ix2 p q := ⟨_, _, eq_ix2 i⟩
  rw [val_main_v14_apply, val_main_v10_apply, val_main_v13_apply, val_main_v9_apply, val_main_v12_apply, val_main_v11_apply]
  rfl

open Cert.AdamwRefIdeal.Read in
theorem ref_change (w g m v : FVec Ideal ⟨3, ![1, 1024, 1024]⟩ .f32) :
    val_main_v27 (F := Ideal) w g m v = tab (φ := .f32) fun i j => change (arg w i j) (arg g i j) (arg m i j) (arg v i j) := by
  funext i
  obtain ⟨p, q, rfl⟩ : ∃ p q, i = ix2 p q := ⟨_, _, eq_ix2 i⟩
  rw [val_main_v27_apply, val_main_v25_apply, val_main_v26_apply, val_main_v22_apply, val_main_v24_apply, val_main_v23_apply,
    val_main_v16_apply, val_main_v21_apply, val_main_v20_apply, val_main_v19_apply, val_main_v18_apply, val_main_v17_apply,
    val_main_v15_apply, ref_first, ref_second]
  rfl

end Cert.AdamwIdeal.Arrays

end
-- ==== Proof.AdamwClaim.lean ====
/-
  The claims of the optimiser's step: both programs end with the same gradient, change and moments, on all extended reals.
-/
module

public import proofs.«01_k».proof.Defs
public import proofs.«01_k».proof.Proof.Gen.Adamw.Frame
public import proofs.«01_k».proof.Proof.Gen.AdamwRefIdeal.Run
public import proofs.«01_k».proof.Proof.AdamwArrays

@[expose] public section

noncomputable section

namespace Cert.AdamwClaim

open Cert.Rope Cert.AdamwIdeal.Arrays Idealize.ShloMosaic Idealize.SL.Sem

theorem frame_kernel : Cert.quiescent_Adamw := fun m ρ _ => Cert.Adamw.Gen.frame m ρ
theorem frame_ideal : Cert.quiescent_AdamwIdeal := fun m ρ _ => Cert.AdamwIdeal.Gen.frame m ρ
theorem frame_ref : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run m ρ)

/-- Both programs end with the gradient, the change of the weight and the two moments. -/
theorem value : Cert.algebraic_AdamwIdeal_AdamwRefIdeal := by
  intro m ρ m' ρ' _ hagree
  let a0 (c : Dev Cert.AdamwIdeal.nD) := arg (m (c.tc.loc Cert.AdamwIdeal.main_arg0))
  let a1 (c : Dev Cert.AdamwIdeal.nD) := arg (m (c.tc.loc Cert.AdamwIdeal.main_arg1))
  let a2 (c : Dev Cert.AdamwIdeal.nD) := arg (m (c.tc.loc Cert.AdamwIdeal.main_arg2))
  let a3 (c : Dev Cert.AdamwIdeal.nD) := arg (m (c.tc.loc Cert.AdamwIdeal.main_arg3))
  refine ⟨fun c => tab (φ := .f32) (a1 c), fun c => tab (φ := .f32) fun i j => change (a0 c i j) (a1 c i j) (a2 c i j) (a3 c i j),
    fun c => tab (φ := .f32) fun i j => first (a1 c i j) (a2 c i j), fun c => tab (φ := .f32) fun i j => second (a1 c i j) (a3 c i j),
    (θ_run Cert.AdamwIdeal.defs _ _).mono (fun r h c => ?_) (Cert.AdamwIdeal.Value.run_blocks m ρ), ?_⟩
  · obtain ⟨h0, h1, h2, h3, hargs⟩ := h c
    exact ⟨h0.trans (arr_g m c), h1.trans (arr_change m c), h2.trans (arr_first m c), h3.trans (arr_second m c), hargs⟩
  · refine (θ_run Cert.AdamwRefIdeal.defs _ _).mono (fun r h c => ?_) (Cert.AdamwRefIdeal.Value.run m' ρ')
    obtain ⟨h0, h1, h2, h3, hargs⟩ := h c
    obtain ⟨g0, g1, g2, g3⟩ := hagree c
    rw [g1] at h0
    rw [g0, g1, g2, g3] at h1
    rw [g1, g2] at h2
    rw [g1, g3] at h3
    exact ⟨h0.trans (arg_eq _), h1.trans ((Cert.AdamwRefIdeal.Read.val_main_v27_eq _ _ _ _).trans (ref_change _ _ _ _)),
      h2.trans ((Cert.AdamwRefIdeal.Read.val_main_v8_eq _ _).trans (ref_first _ _)),
      h3.trans ((Cert.AdamwRefIdeal.Read.val_main_v14_eq _ _).trans (ref_second _ _)), hargs⟩

end Cert.AdamwClaim

end
-- ==== Proof.AdamwWOutArrays.lean ====
/-
  The arrays that the AdamW update of one device's part of the output projection leaves, on all extended reals.
-/
module

public import proofs.«01_k».proof.Proof.AdamwArrays
public import proofs.«01_k».proof.Proof.Gen.AdamwWOutIdeal.Value
public import proofs.«01_k».proof.Proof.Gen.AdamwWOutRefIdeal.Read

@[expose] public section

set_option maxRecDepth 16384

noncomputable section

namespace Cert.AdamwWOutIdeal.Arrays

open Cert.Rope Cert.Reals Idealize.ShloMosaic Idealize.SL.Sem Cert.AdamwWOutIdeal Cert.AdamwWOutIdeal.Gen Cert.AdamwWOutIdeal.Value
open Cert.InProjIdeal.Rows (ld_tab)
open Cert.AdamwIdeal.Arrays (first second change)
open Idealize.ShloMosaic.Pipeline Idealize.ShloMosaic.TcCoe

/-- A table of the whole part, which is one block. -/
local notation "Block" => Fin 256 → Fin 1024 → EReal

/-! ## What the body leaves -/

theorem whole (a : Block) : View.ld (Val := Elt Ideal) (e' := .f32) (tab (φ := .f32) a) r0_0 = tab (φ := .f32) a :=
  (ld_tab a 0 0 _).trans (tab_congr fun i j => by rw [part_zero, part_zero])

/-- The four blocks that the body leaves. -/
theorem body (w g m v : Block) :
    out0_4 (F := Ideal) (tab (φ := .f32) w) (tab (φ := .f32) g) (tab (φ := .f32) m) (tab (φ := .f32) v) = tab (φ := .f32) g
    ∧ out0_5 (F := Ideal) (tab (φ := .f32) w) (tab (φ := .f32) g) (tab (φ := .f32) m) (tab (φ := .f32) v)
      = tab (φ := .f32) (fun i j => change (w i j) (g i j) (m i j) (v i j))
    ∧ out0_6 (F := Ideal) (tab (φ := .f32) w) (tab (φ := .f32) g) (tab (φ := .f32) m) (tab (φ := .f32) v)
      = tab (φ := .f32) (fun i j => first (g i j) (m i j))
    ∧ out0_7 (F := Ideal) (tab (φ := .f32) w) (tab (φ := .f32) g) (tab (φ := .f32) m) (tab (φ := .f32) v)
      = tab (φ := .f32) (fun i j => second (g i j) (v i j)) := by
  unfold out0_4 out0_5 out0_6 out0_7 k0_pay4 k0_pay2 k0_pay3 k0_pay1; dsimp only
  rw [whole, whole, whole, whole]
  simp only [shapeCast_self]
  exact ⟨canon2 _ _ _, canon2 _ _ _, canon2 _ _ _, canon2 _ _ _⟩

/-! ## The arrays -/

variable (mem : (ℓ : Loc nD τ sig) → Buf (Elt Ideal) ℓ) (c : Dev nD) (t : Fin cfg0.N)

/-- An argument as a table. -/
def arg (a : FVec Ideal ⟨3, ![1, 256, 1024]⟩ .f32) (i : Fin 256) (j : Fin 1024) : EReal :=
  Cert.AdamwWOutRefIdeal.Read.val_main_v1 (F := Ideal) a (ix2 i j)

theorem arg_eq (a : FVec Ideal ⟨3, ![1, 256, 1024]⟩ .f32) : shapeCast S256x1024 a shapeCasts_S1x256x1024_S256x1024 = tab (φ := .f32) (arg a) := by
  funext i
  obtain ⟨p, q, rfl⟩ : ∃ p q, i = ix2 p q := ⟨_, _, eq_ix2 i⟩
  rfl

/-- The weight. -/
abbrev in0 : Block := arg (mem ((c : Thread nD τ).loc main_arg0))
/-- The gradient. -/
abbrev in1 : Block := arg (mem ((c : Thread nD τ).loc main_arg1))
/-- The first moment. -/
abbrev in2 : Block := arg (mem ((c : Thread nD τ).loc main_arg2))
/-- The second moment. -/
abbrev in3 : Block := arg (mem ((c : Thread nD τ).loc main_arg3))

/-- Every window's one block lies at the origin. -/
theorem origin : (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![0, 0] ∧ (cfg0.win 7).index t = ![0, 0] := by revert t; decide +kernel

/-- The four arguments' blocks are the arguments. -/
theorem inputs : iblk mem c 0 t = tab (φ := .f32) (in0 mem c) ∧ iblk mem c 1 t = tab (φ := .f32) (in1 mem c)
    ∧ iblk mem c 2 t = tab (φ := .f32) (in2 mem c) ∧ iblk mem c 3 t = tab (φ := .f32) (in3 mem c) := by
  obtain ⟨e0, e1, e2, e3, -⟩ := origin t
  refine ⟨?_, ?_, ?_, ?_⟩
  · unfold iblk; entry_read
    refine (congrArg (View.read _ _) (arg_eq _)).trans ?_
    refine funext fun y => congrArg₂ (in0 mem c) (Fin.ext ?_) (Fin.ext ?_) <;> blk_simp [e0]
  · unfold iblk; entry_read
    refine (congrArg (View.read _ _) (arg_eq _)).trans ?_
    refine funext fun y => congrArg₂ (in1 mem c) (Fin.ext ?_) (Fin.ext ?_) <;> blk_simp [e1]
  · unfold iblk; entry_read
    refine (congrArg (View.read _ _) (arg_eq _)).trans ?_
    refine funext fun y => congrArg₂ (in2 mem c) (Fin.ext ?_) (Fin.ext ?_) <;> blk_simp [e2]
  · unfold iblk; entry_read
    refine (congrArg (View.read _ _) (arg_eq _)).trans ?_
    refine funext fun y => congrArg₂ (in3 mem c) (Fin.ext ?_) (Fin.ext ?_) <;> blk_simp [e3]

/-- The four arrays that the call leaves. -/
theorem arrays : (dats mem 0 c).arrAt 4 cfg0.N = tab (φ := .f32) (in1 mem c)
    ∧ (dats mem 0 c).arrAt 5 cfg0.N = tab (φ := .f32) (fun i j => change (in0 mem c i j) (in1 mem c i j) (in2 mem c i j) (in3 mem c i j))
    ∧ (dats mem 0 c).arrAt 6 cfg0.N = tab (φ := .f32) (fun i j => first (in1 mem c i j) (in2 mem c i j))
    ∧ (dats mem 0 c).arrAt 7 cfg0.N = tab (φ := .f32) (fun i j => second (in1 mem c i j) (in3 mem c i j)) := by
  refine ⟨?_, ?_, ?_, ?_⟩
  · refine (dats mem 0 c).arrAt_eq_of_cover 4 _ (fun t hf => ?_) ((by decide +kernel : (cfg0.win 4).Covers).cover _ (Memref.isWhole_whole _))
    obtain ⟨h0, h1, h2, h3⟩ := inputs mem c t
    obtain ⟨-, -, -, -, e4, e5, e6, e7⟩ := origin t
    rw [flushed4, h0, h1, h2, h3, (body _ _ _ _).1]
    refine funext fun y => congrArg₂ (in1 mem c) (Fin.ext ?_) (Fin.ext ?_) <;> blk_simp [e4]
  · refine (dats mem 0 c).arrAt_eq_of_cover 5 _ (fun t hf => ?_) ((by decide +kernel : (cfg0.win 5).Covers).cover _ (Memref.isWhole_whole _))
    obtain ⟨h0, h1, h2, h3⟩ := inputs mem c t
    obtain ⟨-, -, -, -, e4, e5, e6, e7⟩ := origin t
    rw [flushed5, h0, h1, h2, h3, (body _ _ _ _).2.1]
    refine funext fun y => congrArg₂ (fun i j => change (in0 mem c i j) (in1 mem c i j) (in2 mem c i j) (in3 mem c i j)) (Fin.ext ?_) (Fin.ext ?_) <;> blk_simp [e5]
  · refine (dats mem 0 c).arrAt_eq_of_cover 6 _ (fun t hf => ?_) ((by decide +kernel : (cfg0.win 6).Covers).cover _ (Memref.isWhole_whole _))
    obtain ⟨h0, h1, h2, h3⟩ := inputs mem c t
    obtain ⟨-, -, -, -, e4, e5, e6, e7⟩ := origin t
    rw [flushed6, h0, h1, h2, h3, (body _ _ _ _).2.2.1]
    refine funext fun y => congrArg₂ (fun i j => first (in1 mem c i j) (in2 mem c i j)) (Fin.ext ?_) (Fin.ext ?_) <;> blk_simp [e6]
  · refine (dats mem 0 c).arrAt_eq_of_cover 7 _ (fun t hf => ?_) ((by decide +kernel : (cfg0.win 7).Covers).cover _ (Memref.isWhole_whole _))
    obtain ⟨h0, h1, h2, h3⟩ := inputs mem c t
    obtain ⟨-, -, -, -, e4, e5, e6, e7⟩ := origin t
    rw [flushed7, h0, h1, h2, h3, (body _ _ _ _).2.2.2]
    refine funext fun y => congrArg₂ (fun i j => second (in1 mem c i j) (in3 mem c i j)) (Fin.ext ?_) (Fin.ext ?_) <;> blk_simp [e7]

/-! ## The same arrays of the mathematics -/

open Cert.AdamwWOutRefIdeal.Read in
theorem ref_first (g m : FVec Ideal ⟨3, ![1, 256, 1024]⟩ .f32) :
    val_main_v8 (F := Ideal) g m = tab (φ := .f32) fun i j => first (arg g i j) (arg m i j) := by
  funext i
  obtain ⟨p, q, rfl⟩ : ∃ p q, i = ix2 p q := ⟨_, _, eq_ix2 i⟩
  rw [val_main_v8_apply, val_main_v5_apply, val_main_v7_apply, val_main_v4_apply, val_main_v6_apply]
  rfl

open Cert.AdamwWOutRefIdeal.Read in
theorem ref_second (g v : FVec Ideal ⟨3, ![1, 256, 1024]⟩ .f32) :
    val_main_v14 (F := Ideal) g v = tab (φ := .f32) fun i j => second (arg g i j) (arg v i j) := by
  funext i
  obtain ⟨p, q, rfl⟩ : ∃ p q, i = ix2 p q := ⟨_, _, eq_ix2 i⟩
  rw [val_main_v14_apply, val_main_v10_apply, val_main_v13_apply, val_main_v9_apply, val_main_v12_apply, val_main_v11_apply]
  rfl

open Cert.AdamwWOutRefIdeal.Read in
theorem ref_change (w g m v : FVec Ideal ⟨3, ![1, 256, 1024]⟩ .f32) :
    val_main_v27 (F := Ideal) w g m v = tab (φ := .f32) fun i j => change (arg w i j) (arg g i j) (arg m i j) (arg v i j) := by
  funext i
  obtain ⟨p, q, rfl⟩ : ∃ p q, i = ix2 p q := ⟨_, _, eq_ix2 i⟩
  rw [val_main_v27_apply, val_main_v25_apply, val_main_v26_apply, val_main_v22_apply, val_main_v24_apply, val_main_v23_apply,
    val_main_v16_apply, val_main_v21_apply, val_main_v20_apply, val_main_v19_apply, val_main_v18_apply, val_main_v17_apply,
    val_main_v15_apply, ref_first, ref_second]
  rfl

end Cert.AdamwWOutIdeal.Arrays

end
-- ==== Proof.AdamwWOutClaim.lean ====
/-
  The claims of the optimiser's step on the output projection: both programs end with the same gradient, change and moments.
-/
module

public import proofs.«01_k».proof.Defs
public import proofs.«01_k».proof.Proof.Gen.AdamwWOut.Frame
public import proofs.«01_k».proof.Proof.Gen.AdamwWOutRefIdeal.Run
public import proofs.«01_k».proof.Proof.AdamwWOutArrays

@[expose] public section

noncomputable section

namespace Cert.AdamwWOutClaim

open Cert.Rope Cert.AdamwWOutIdeal.Arrays Idealize.ShloMosaic Idealize.SL.Sem
open Cert.AdamwIdeal.Arrays (first second change)

theorem frame_kernel : Cert.quiescent_AdamwWOut := fun m ρ _ => Cert.AdamwWOut.Gen.frame m ρ
theorem frame_ideal : Cert.quiescent_AdamwWOutIdeal := fun m ρ _ => Cert.AdamwWOutIdeal.Gen.frame m ρ
theorem frame_ref : Cert.quiescent_AdamwWOutRefIdeal := fun m ρ _ =>
  (θ_run Cert.AdamwWOutRefIdeal.defs _ _).mono (fun r h => ⟨fun c => (h c).2.2.2.2, sem_eq_zero_of_no_sems (by decide) r.2⟩)
    (Cert.AdamwWOutRefIdeal.Value.run m ρ)

/-- Both programs end with the gradient, the change of the weight and the two moments. -/
theorem value : Cert.algebraic_AdamwWOutIdeal_AdamwWOutRefIdeal := by
  intro m ρ m' ρ' _ hagree
  refine ⟨fun c => tab (φ := .f32) (in1 m c), fun c => tab (φ := .f32) fun i j => change (in0 m c i j) (in1 m c i j) (in2 m c i j) (in3 m c i j),
    fun c => tab (φ := .f32) fun i j => first (in1 m c i j) (in2 m c i j), fun c => tab (φ := .f32) fun i j => second (in1 m c i j) (in3 m c i j),
    (θ_run Cert.AdamwWOutIdeal.defs _ _).mono (fun r h c => ?_) (Cert.AdamwWOutIdeal.Value.run_blocks m ρ), ?_⟩
  · obtain ⟨h0, h1, h2, h3, hargs⟩ := h c
    obtain ⟨e0, e1, e2, e3⟩ := arrays m c
    exact ⟨h0.trans e0, h1.trans e1, h2.trans e2, h3.trans e3, hargs⟩
  · refine (θ_run Cert.AdamwWOutRefIdeal.defs _ _).mono (fun r h c => ?_) (Cert.AdamwWOutRefIdeal.Value.run m' ρ')
    obtain ⟨h0, h1, h2, h3, hargs⟩ := h c
    obtain ⟨g0, g1, g2, g3⟩ := hagree c
    rw [g1] at h0
    rw [g0, g1, g2, g3] at h1
    rw [g1, g2] at h2
    rw [g1, g3] at h3
    exact ⟨h0.trans (arg_eq _), h1.trans ((Cert.AdamwWOutRefIdeal.Read.val_main_v27_eq _ _ _ _).trans (ref_change _ _ _ _)),
      h2.trans ((Cert.AdamwWOutRefIdeal.Read.val_main_v8_eq _ _).trans (ref_first _ _)),
      h3.trans ((Cert.AdamwWOutRefIdeal.Read.val_main_v14_eq _ _).trans (ref_second _ _)), hargs⟩

end Cert.AdamwWOutClaim

end
-- ==== Proof.AdamwWInArrays.lean ====
/-
  The arrays that the AdamW update of one device's part of the input projection leaves, on all extended reals. All of them are transposed.
-/
module

public import proofs.«01_k».proof.Proof.AdamwArrays
public import proofs.«01_k».proof.Proof.Gen.AdamwWInIdeal.Value
public import proofs.«01_k».proof.Proof.Gen.AdamwWInRefIdeal.Read

@[expose] public section

set_option maxRecDepth 16384

noncomputable section

namespace Cert.AdamwWInIdeal.Arrays

open Cert.Rope Cert.Reals Idealize.ShloMosaic Idealize.SL.Sem Cert.AdamwWInIdeal Cert.AdamwWInIdeal.Gen Cert.AdamwWInIdeal.Value
open Cert.InProjIdeal.Rows (ld_tab)
open Cert.AdamwIdeal.Arrays (first second change)
open Idealize.ShloMosaic.Pipeline Idealize.ShloMosaic.TcCoe

/-- A table of the whole part, which is one block. -/
local notation "Block" => Fin 448 → Fin 1024 → EReal

/-! ## What the body leaves -/

theorem whole (a : Block) : View.ld (Val := Elt Ideal) (e' := .f32) (tab (φ := .f32) a) r0_0 = tab (φ := .f32) a :=
  (ld_tab a 0 0 _).trans (tab_congr fun i j => by rw [part_zero, part_zero])

/-- The four blocks that the body leaves. -/
theorem body (w g m v : Block) :
    out0_4 (F := Ideal) (tab (φ := .f32) w) (tab (φ := .f32) g) (tab (φ := .f32) m) (tab (φ := .f32) v) = tab (φ := .f32) g
    ∧ out0_5 (F := Ideal) (tab (φ := .f32) w) (tab (φ := .f32) g) (tab (φ := .f32) m) (tab (φ := .f32) v)
      = tab (φ := .f32) (fun i j => change (w i j) (g i j) (m i j) (v i j))
    ∧ out0_6 (F := Ideal) (tab (φ := .f32) w) (tab (φ := .f32) g) (tab (φ := .f32) m) (tab (φ := .f32) v)
      = tab (φ := .f32) (fun i j => first (g i j) (m i j))
    ∧ out0_7 (F := Ideal) (tab (φ := .f32) w) (tab (φ := .f32) g) (tab (φ := .f32) m) (tab (φ := .f32) v)
      = tab (φ := .f32) (fun i j => second (g i j) (v i j)) := by
  unfold out0_4 out0_5 out0_6 out0_7 k0_pay3 k0_pay1 k0_pay2; dsimp only
  rw [whole, whole, whole, whole]
  simp only [shapeCast_self]
  exact ⟨canon2 _ _ _, canon2 _ _ _, canon2 _ _ _, canon2 _ _ _⟩

/-! ## The arrays -/

variable (mem : (ℓ : Loc nD τ sig) → Buf (Elt Ideal) ℓ) (c : Dev nD) (t : Fin cfg0.N)

/-- An argument as the table of its transpose. -/
def arg (a : FVec Ideal ⟨3, ![1, 1024, 448]⟩ .f32) (i : Fin 448) (j : Fin 1024) : EReal :=
  Cert.AdamwWInRefIdeal.Read.val_main_v2 (F := Ideal) a (ix2 j i)

/-- The gradient, which comes transposed. -/
def gradient (g : FVec Ideal ⟨2, ![448, 1024]⟩ .f32) (i : Fin 448) (j : Fin 1024) : EReal := g (ix2 i j)

theorem arg_eq (a : FVec Ideal ⟨3, ![1, 1024, 448]⟩ .f32) :
    transpose S448x1024 [1, 0] (shapeCast S1024x448 a shapeCasts_S1x1024x448_S1024x448) transposes_S1024x448_S448x1024_1_0
      = tab (φ := .f32) (arg a) := by
  funext i
  obtain ⟨p, q, rfl⟩ : ∃ p q, i = ix2 p q := ⟨_, _, eq_ix2 i⟩
  exact transpose_apply [1, 0] _ transposes_S1024x448_S448x1024_1_0 (ix2 p q) (ix2 q p) fun b => by fin_cases b <;> rfl

theorem gradient_eq (g : FVec Ideal ⟨2, ![448, 1024]⟩ .f32) : g = tab (φ := .f32) (gradient g) :=
  funext fun i => congrArg g (eq_ix2 i)

/-- The weight. -/
abbrev in0 : Block := arg (mem ((c : Thread nD τ).loc main_arg0))
/-- The gradient. -/
abbrev in1 : Block := gradient (mem ((c : Thread nD τ).loc main_arg1))
/-- The first moment. -/
abbrev in2 : Block := arg (mem ((c : Thread nD τ).loc main_arg2))
/-- The second moment. -/
abbrev in3 : Block := arg (mem ((c : Thread nD τ).loc main_arg3))

/-- Every window's one block lies at the origin. -/
theorem origin : (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![0, 0] ∧ (cfg0.win 7).index t = ![0, 0] := by revert t; decide +kernel

/-- The four arguments' blocks are the arguments. -/
theorem inputs : iblk mem c 0 t = tab (φ := .f32) (in0 mem c) ∧ iblk mem c 1 t = tab (φ := .f32) (in1 mem c)
    ∧ iblk mem c 2 t = tab (φ := .f32) (in2 mem c) ∧ iblk mem c 3 t = tab (φ := .f32) (in3 mem c) := by
  obtain ⟨e0, e1, e2, e3, -⟩ := origin t
  refine ⟨?_, ?_, ?_, ?_⟩
  · unfold iblk; entry_read
    refine (congrArg (View.read _ _) (arg_eq _)).trans ?_
    refine funext fun y => congrArg₂ (in0 mem c) (Fin.ext ?_) (Fin.ext ?_) <;> blk_simp [e0]
  · unfold iblk; entry_read
    refine (congrArg (View.read _ _) (gradient_eq _)).trans ?_
    refine funext fun y => congrArg₂ (in1 mem c) (Fin.ext ?_) (Fin.ext ?_) <;> blk_simp [e1]
  · unfold iblk; entry_read
    refine (congrArg (View.read _ _) (arg_eq _)).trans ?_
    refine funext fun y => congrArg₂ (in2 mem c) (Fin.ext ?_) (Fin.ext ?_) <;> blk_simp [e2]
  · unfold iblk; entry_read
    refine (congrArg (View.read _ _) (arg_eq _)).trans ?_
    refine funext fun y => congrArg₂ (in3 mem c) (Fin.ext ?_) (Fin.ext ?_) <;> blk_simp [e3]

/-- The four arrays that the call leaves. -/
theorem arrays : (dats mem 0 c).arrAt 4 cfg0.N = tab (φ := .f32) (in1 mem c)
    ∧ (dats mem 0 c).arrAt 5 cfg0.N = tab (φ := .f32) (fun i j => change (in0 mem c i j) (in1 mem c i j) (in2 mem c i j) (in3 mem c i j))
    ∧ (dats mem 0 c).arrAt 6 cfg0.N = tab (φ := .f32) (fun i j => first (in1 mem c i j) (in2 mem c i j))
    ∧ (dats mem 0 c).arrAt 7 cfg0.N = tab (φ := .f32) (fun i j => second (in1 mem c i j) (in3 mem c i j)) := by
  refine ⟨?_, ?_, ?_, ?_⟩
  · refine (dats mem 0 c).arrAt_eq_of_cover 4 _ (fun t hf => ?_) ((by decide +kernel : (cfg0.win 4).Covers).cover _ (Memref.isWhole_whole _))
    obtain ⟨h0, h1, h2, h3⟩ := inputs mem c t
    obtain ⟨-, -, -, -, e4, e5, e6, e7⟩ := origin t
    rw [flushed4, h0, h1, h2, h3, (body _ _ _ _).1]
    refine funext fun y => congrArg₂ (in1 mem c) (Fin.ext ?_) (Fin.ext ?_) <;> blk_simp [e4]
  · refine (dats mem 0 c).arrAt_eq_of_cover 5 _ (fun t hf => ?_) ((by decide +kernel : (cfg0.win 5).Covers).cover _ (Memref.isWhole_whole _))
    obtain ⟨h0, h1, h2, h3⟩ := inputs mem c t
    obtain ⟨-, -, -, -, e4, e5, e6, e7⟩ := origin t
    rw [flushed5, h0, h1, h2, h3, (body _ _ _ _).2.1]
    refine funext fun y => congrArg₂ (fun i j => change (in0 mem c i j) (in1 mem c i j) (in2 mem c i j) (in3 mem c i j)) (Fin.ext ?_) (Fin.ext ?_) <;> blk_simp [e5]
  · refine (dats mem 0 c).arrAt_eq_of_cover 6 _ (fun t hf => ?_) ((by decide +kernel : (cfg0.win 6).Covers).cover _ (Memref.isWhole_whole _))
    obtain ⟨h0, h1, h2, h3⟩ := inputs mem c t
    obtain ⟨-, -, -, -, e4, e5, e6, e7⟩ := origin t
    rw [flushed6, h0, h1, h2, h3, (body _ _ _ _).2.2.1]
    refine funext fun y => congrArg₂ (fun i j => first (in1 mem c i j) (in2 mem c i j)) (Fin.ext ?_) (Fin.ext ?_) <;> blk_simp [e6]
  · refine (dats mem 0 c).arrAt_eq_of_cover 7 _ (fun t hf => ?_) ((by decide +kernel : (cfg0.win 7).Covers).cover _ (Memref.isWhole_whole _))
    obtain ⟨h0, h1, h2, h3⟩ := inputs mem c t
    obtain ⟨-, -, -, -, e4, e5, e6, e7⟩ := origin t
    rw [flushed7, h0, h1, h2, h3, (body _ _ _ _).2.2.2]
    refine funext fun y => congrArg₂ (fun i j => second (in1 mem c i j) (in3 mem c i j)) (Fin.ext ?_) (Fin.ext ?_) <;> blk_simp [e7]

/-! ## The same arrays of the mathematics -/

open Cert.AdamwWInRefIdeal.Read in
theorem ref_g (g : FVec Ideal ⟨2, ![448, 1024]⟩ .f32) (p : Fin 448) (q : Fin 1024) :
    val_main_v3 (F := Ideal) g (ix2 q p) = gradient g p q := by
  rw [val_main_v3_apply, val_main_v1_apply, val_main_v0_apply]
  refine congrArg g (funext fun b => Fin.ext ?_)
  have hp := p.isLt; have hq := q.isLt
  fin_cases b
  · show (q.val * 448 + p.val) % 448 = p.val; omega
  · show (q.val * 448 + p.val) / 448 % 1024 = q.val; omega

open Cert.AdamwWInRefIdeal.Read in
theorem first_at (g : FVec Ideal ⟨2, ![448, 1024]⟩ .f32) (m : FVec Ideal ⟨3, ![1, 1024, 448]⟩ .f32) (p : Fin 448) (q : Fin 1024) :
    val_main_v10 (F := Ideal) g m (ix2 q p) = first (gradient g p q) (arg m p q) := by
  rw [val_main_v10_apply, val_main_v7_apply, val_main_v9_apply, val_main_v6_apply, val_main_v8_apply, ref_g]
  rfl

open Cert.AdamwWInRefIdeal.Read in
theorem second_at (g : FVec Ideal ⟨2, ![448, 1024]⟩ .f32) (v : FVec Ideal ⟨3, ![1, 1024, 448]⟩ .f32) (p : Fin 448) (q : Fin 1024) :
    val_main_v16 (F := Ideal) g v (ix2 q p) = second (gradient g p q) (arg v p q) := by
  rw [val_main_v16_apply, val_main_v12_apply, val_main_v15_apply, val_main_v11_apply, val_main_v14_apply, val_main_v13_apply, ref_g]
  rfl

open Cert.AdamwWInRefIdeal.Read in
theorem change_at (w : FVec Ideal ⟨3, ![1, 1024, 448]⟩ .f32) (g : FVec Ideal ⟨2, ![448, 1024]⟩ .f32)
    (m v : FVec Ideal ⟨3, ![1, 1024, 448]⟩ .f32) (p : Fin 448) (q : Fin 1024) :
    val_main_v29 (F := Ideal) w g m v (ix2 q p) = change (arg w p q) (gradient g p q) (arg m p q) (arg v p q) := by
  rw [val_main_v29_apply, val_main_v28_apply, val_main_v27_apply, val_main_v24_apply, val_main_v26_apply, val_main_v25_apply,
    val_main_v18_apply, val_main_v23_apply, val_main_v22_apply, val_main_v21_apply, val_main_v20_apply, val_main_v19_apply,
    val_main_v17_apply, first_at, second_at]
  rfl

open Cert.AdamwWInRefIdeal.Read in
/-- The four arrays of the mathematics, transposed as the call keeps them. -/
theorem ref_arrays (w : FVec Ideal ⟨3, ![1, 1024, 448]⟩ .f32) (g : FVec Ideal ⟨2, ![448, 1024]⟩ .f32)
    (m v : FVec Ideal ⟨3, ![1, 1024, 448]⟩ .f32) :
    val_main_v30 (F := Ideal) g = tab (φ := .f32) (gradient g)
    ∧ val_main_v31 (F := Ideal) w g m v = tab (φ := .f32) (fun i j => change (arg w i j) (gradient g i j) (arg m i j) (arg v i j))
    ∧ val_main_v32 (F := Ideal) g m = tab (φ := .f32) (fun i j => first (gradient g i j) (arg m i j))
    ∧ val_main_v33 (F := Ideal) g v = tab (φ := .f32) (fun i j => second (gradient g i j) (arg v i j)) := by
  refine ⟨?_, ?_, ?_, ?_⟩ <;> funext i <;> obtain ⟨p, q, rfl⟩ : ∃ p q, i = ix2 p q := ⟨_, _, eq_ix2 i⟩
  · rw [val_main_v30_apply, show idx_main_v30 (ix2 p q) = ix2 q p from eq_ix2 _, ref_g]
    rfl
  · rw [val_main_v31_apply, show idx_main_v31 (ix2 p q) = ix2 q p from eq_ix2 _, change_at]
    rfl
  · rw [val_main_v32_apply, show idx_main_v32 (ix2 p q) = ix2 q p from eq_ix2 _, first_at]
    rfl
  · rw [val_main_v33_apply, show idx_main_v33 (ix2 p q) = ix2 q p from eq_ix2 _, second_at]
    rfl

end Cert.AdamwWInIdeal.Arrays

end
-- ==== Proof.AdamwWInClaim.lean ====
/-
  The claims of the optimiser's step on the input projection: both programs end with the same gradient, change and moments, all transposed.
-/
module

public import proofs.«01_k».proof.Defs
public import proofs.«01_k».proof.Proof.Gen.AdamwWIn.Frame
public import proofs.«01_k».proof.Proof.Gen.AdamwWInRefIdeal.Run
public import proofs.«01_k».proof.Proof.AdamwWInArrays

@[expose] public section

noncomputable section

namespace Cert.AdamwWInClaim

open Cert.Rope Cert.AdamwWInIdeal.Arrays Idealize.ShloMosaic Idealize.SL.Sem
open Cert.AdamwIdeal.Arrays (first second change)

theorem frame_kernel : Cert.quiescent_AdamwWIn := fun m ρ _ => Cert.AdamwWIn.Gen.frame m ρ
theorem frame_ideal : Cert.quiescent_AdamwWInIdeal := fun m ρ _ => Cert.AdamwWInIdeal.Gen.frame m ρ
theorem frame_ref : Cert.quiescent_AdamwWInRefIdeal := fun m ρ _ =>
  (θ_run Cert.AdamwWInRefIdeal.defs _ _).mono (fun r h => ⟨fun c => (h c).2.2.2.2, sem_eq_zero_of_no_sems (by decide) r.2⟩)
    (Cert.AdamwWInRefIdeal.Value.run m ρ)

/-- Both programs end with the gradient, the change of the weight and the two moments. -/
theorem value : Cert.algebraic_AdamwWInIdeal_AdamwWInRefIdeal := by
  intro m ρ m' ρ' _ hagree
  refine ⟨fun c => tab (φ := .f32) (in1 m c), fun c => tab (φ := .f32) fun i j => change (in0 m c i j) (in1 m c i j) (in2 m c i j) (in3 m c i j),
    fun c => tab (φ := .f32) fun i j => first (in1 m c i j) (in2 m c i j), fun c => tab (φ := .f32) fun i j => second (in1 m c i j) (in3 m c i j),
    (θ_run Cert.AdamwWInIdeal.defs _ _).mono (fun r h c => ?_) (Cert.AdamwWInIdeal.Value.run_blocks m ρ), ?_⟩
  · obtain ⟨h0, h1, h2, h3, hargs⟩ := h c
    obtain ⟨e0, e1, e2, e3⟩ := arrays m c
    exact ⟨h0.trans e0, h1.trans e1, h2.trans e2, h3.trans e3, hargs⟩
  · refine (θ_run Cert.AdamwWInRefIdeal.defs _ _).mono (fun r h c => ?_) (Cert.AdamwWInRefIdeal.Value.run m' ρ')
    obtain ⟨h0, h1, h2, h3, hargs⟩ := h c
    obtain ⟨g0, g1, g2, g3⟩ := hagree c
    rw [g1] at h0
    rw [g0, g1, g2, g3] at h1
    rw [g1, g2] at h2
    rw [g1, g3] at h3
    obtain ⟨e0, e1, e2, e3⟩ := ref_arrays (m (c.tc.loc Cert.AdamwWInIdeal.main_arg0)) (m (c.tc.loc Cert.AdamwWInIdeal.main_arg1))
      (m (c.tc.loc Cert.AdamwWInIdeal.main_arg2)) (m (c.tc.loc Cert.AdamwWInIdeal.main_arg3))
    exact ⟨(h0.trans (Cert.AdamwWInRefIdeal.Read.val_main_v30_eq _)).trans e0,
      (h1.trans (Cert.AdamwWInRefIdeal.Read.val_main_v31_eq _ _ _ _)).trans e1,
      (h2.trans (Cert.AdamwWInRefIdeal.Read.val_main_v32_eq _ _)).trans e2,
      (h3.trans (Cert.AdamwWInRefIdeal.Read.val_main_v33_eq _ _)).trans e3, hargs⟩

end Cert.AdamwWInClaim

end
-- ==== Proof.lean ====
/-
  The claims of the statement.
-/
module

public import proofs.«01_k».proof.Defs
public import proofs.«01_k».proof.Proof.FfnClaim
public import proofs.«01_k».proof.Proof.FfnBwdClaim
public import proofs.«01_k».proof.Proof.MixerBwdClaim
public import proofs.«01_k».proof.Proof.InProjClaim
public import proofs.«01_k».proof.Proof.MixerFwdClaim
public import proofs.«01_k».proof.Proof.GradWOutClaim
public import proofs.«01_k».proof.Proof.GradXClaim
public import proofs.«01_k».proof.Proof.AdamwClaim
public import proofs.«01_k».proof.Proof.AdamwWOutClaim
public import proofs.«01_k».proof.Proof.AdamwWInClaim

@[expose] public section

noncomputable section

namespace Cert.Proof

open Idealize.ShloMosaic Idealize.SL.Sem

theorem claim : Cert.Claim :=
  ⟨Cert.FfnFwd.Gen.facts, Cert.FfnFwdIdeal.Gen.facts, Cert.FfnFwdRefIdeal.Gen.facts, Cert.FfnBwd.Gen.facts,
    Cert.FfnBwdIdeal.Gen.facts, Cert.FfnBwdRefIdeal.Gen.facts,
    Cert.MixerBwd.Gen.facts, Cert.MixerBwdIdeal.Gen.facts, Cert.MixerBwdRefIdeal.Gen.facts,
    Cert.InProj.Gen.facts, Cert.InProjIdeal.Gen.facts, Cert.InProjRefIdeal.Gen.facts,
    Cert.MixerFwd.Gen.facts, Cert.MixerFwdIdeal.Gen.facts, Cert.MixerFwdRefIdeal.Gen.facts,
    Cert.GradWOut.Gen.facts, Cert.GradWOutIdeal.Gen.facts, Cert.GradWOutRefIdeal.Gen.facts,
    Cert.GradX.Gen.facts, Cert.GradXIdeal.Gen.facts, Cert.GradXRefIdeal.Gen.facts,
    Cert.Adamw.Gen.facts, Cert.AdamwIdeal.Gen.facts, Cert.AdamwRefIdeal.Gen.facts,
    Cert.AdamwWOut.Gen.facts, Cert.AdamwWOutIdeal.Gen.facts, Cert.AdamwWOutRefIdeal.Gen.facts,
    Cert.AdamwWIn.Gen.facts, Cert.AdamwWInIdeal.Gen.facts, Cert.AdamwWInRefIdeal.Gen.facts,
    Cert.Ffn.facts, Cert.FfnBwdClaim.facts,
    Cert.MixerBwdClaim.facts,
    Cert.Ffn.frame_kernel, Cert.Ffn.frame_ideal, Cert.Ffn.frame_ideal_pre, Cert.Ffn.frame_ref, Cert.Ffn.frame_ref_pre,
    Cert.FfnBwdClaim.frame_kernel, Cert.FfnBwdClaim.frame_ideal, Cert.FfnBwdClaim.frame_ideal_pre,
    Cert.FfnBwdClaim.frame_ref, Cert.FfnBwdClaim.frame_ref_pre,
    Cert.MixerBwdClaim.frame_kernel, Cert.MixerBwdClaim.frame_ideal, Cert.MixerBwdClaim.frame_ideal_pre,
    Cert.MixerBwdClaim.frame_ref, Cert.MixerBwdClaim.frame_ref_pre,
    Cert.InProjClaim.frame_kernel, Cert.InProjClaim.frame_ideal, Cert.InProjClaim.frame_ref,
    Cert.MixerFwdClaim.frame_kernel, Cert.MixerFwdClaim.frame_ideal, Cert.MixerFwdClaim.frame_ref,
    Cert.GradWOutClaim.frame_kernel, Cert.GradWOutClaim.frame_ideal, Cert.GradWOutClaim.frame_ref,
    Cert.GradXClaim.frame_kernel, Cert.GradXClaim.frame_ideal, Cert.GradXClaim.frame_ref,
    Cert.AdamwClaim.frame_kernel, Cert.AdamwClaim.frame_ideal, Cert.AdamwClaim.frame_ref,
    Cert.AdamwWOutClaim.frame_kernel, Cert.AdamwWOutClaim.frame_ideal, Cert.AdamwWOutClaim.frame_ref,
    Cert.AdamwWInClaim.frame_kernel, Cert.AdamwWInClaim.frame_ideal, Cert.AdamwWInClaim.frame_ref,
    trivial, Cert.Ffn.value, trivial, Cert.FfnBwdClaim.value, trivial, Cert.MixerBwdClaim.value, trivial, Cert.InProjClaim.value,
    trivial, trivial, Cert.GradWOutClaim.value, trivial, Cert.GradXClaim.value, trivial, Cert.AdamwClaim.value,
    trivial, Cert.AdamwWOutClaim.value, trivial, Cert.AdamwWInClaim.value⟩

end Cert.Proof

end
